-- ==== Defs.lean ====
def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).1 = (fun _ => 1#1)
    ∧ (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))).2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_finite [hPre_attn_finite : Cert.Pre_attn_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))).1 = (fun _ => 1#1)
    ∧ (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))).2 = (fun _ => 1#1)

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUpA (m : (ℓ : Loc Cert.DwUpA.nD Cert.DwUpA.τ Cert.DwUpA.sig) → Buf (Elt Bits) ℓ) : Prop :=
  True

def Pre_DwUpAIdeal (m : (ℓ : Loc Cert.DwUpAIdeal.nD Cert.DwUpAIdeal.τ Cert.DwUpAIdeal.sig) → Buf (Elt Ideal) ℓ) : Prop :=
  True

def Pre_DwUpARefIdeal (m : (ℓ : Loc Cert.DwUpARefIdeal.nD Cert.DwUpARefIdeal.τ Cert.DwUpARefIdeal.sig) → Buf (Elt Ideal) ℓ) : Prop :=
  True

def Pre_DwUpB (m : (ℓ : Loc Cert.DwUpB.nD Cert.DwUpB.τ Cert.DwUpB.sig) → Buf (Elt Bits) ℓ) : Prop :=
  True

def Pre_DwUpBIdeal (m : (ℓ : Loc Cert.DwUpBIdeal.nD Cert.DwUpBIdeal.τ Cert.DwUpBIdeal.sig) → Buf (Elt Ideal) ℓ) : Prop :=
  True

def Pre_DwUpBRefIdeal (m : (ℓ : Loc Cert.DwUpBRefIdeal.nD Cert.DwUpBRefIdeal.τ Cert.DwUpBRefIdeal.sig) → Buf (Elt Ideal) ℓ) : Prop :=
  True

def Pre_DwProjA (m : (ℓ : Loc Cert.DwProjA.nD Cert.DwProjA.τ Cert.DwProjA.sig) → Buf (Elt Bits) ℓ) : Prop :=
  True

def Pre_DwProjAIdeal (m : (ℓ : Loc Cert.DwProjAIdeal.nD Cert.DwProjAIdeal.τ Cert.DwProjAIdeal.sig) → Buf (Elt Ideal) ℓ) : Prop :=
  True

def Pre_DwProjARefIdeal (m : (ℓ : Loc Cert.DwProjARefIdeal.nD Cert.DwProjARefIdeal.τ Cert.DwProjARefIdeal.sig) → Buf (Elt Ideal) ℓ) : Prop :=
  True

def Pre_DwProjB (m : (ℓ : Loc Cert.DwProjB.nD Cert.DwProjB.τ Cert.DwProjB.sig) → Buf (Elt Bits) ℓ) : Prop :=
  True

def Pre_DwProjBIdeal (m : (ℓ : Loc Cert.DwProjBIdeal.nD Cert.DwProjBIdeal.τ Cert.DwProjBIdeal.sig) → Buf (Elt Ideal) ℓ) : Prop :=
  True

def Pre_DwProjBRefIdeal (m : (ℓ : Loc Cert.DwProjBRefIdeal.nD Cert.DwProjBRefIdeal.τ Cert.DwProjBRefIdeal.sig) → Buf (Elt Ideal) ℓ) : Prop :=
  True

def Pre_DwKv (m : (ℓ : Loc Cert.DwKv.nD Cert.DwKv.τ Cert.DwKv.sig) → Buf (Elt Bits) ℓ) : Prop :=
  True

def Pre_DwKvIdeal (m : (ℓ : Loc Cert.DwKvIdeal.nD Cert.DwKvIdeal.τ Cert.DwKvIdeal.sig) → Buf (Elt Ideal) ℓ) : Prop :=
  True

def Pre_DwKvRefIdeal (m : (ℓ : Loc Cert.DwKvRefIdeal.nD Cert.DwKvRefIdeal.τ Cert.DwKvRefIdeal.sig) → Buf (Elt Ideal) ℓ) : Prop :=
  True

def Pre_NormTwoBwd (m : (ℓ : Loc Cert.NormTwoBwd.nD Cert.NormTwoBwd.τ Cert.NormTwoBwd.sig) → Buf (Elt Bits) ℓ) : Prop :=
  True

def Pre_NormTwoBwdIdeal (m : (ℓ : Loc Cert.NormTwoBwdIdeal.nD Cert.NormTwoBwdIdeal.τ Cert.NormTwoBwdIdeal.sig) → Buf (Elt Ideal) ℓ) : Prop :=
  True

def Pre_NormTwoBwdRefIdeal (m : (ℓ : Loc Cert.NormTwoBwdRefIdeal.nD Cert.NormTwoBwdRefIdeal.τ Cert.NormTwoBwdRefIdeal.sig) → Buf (Elt Ideal) ℓ) : Prop :=
  True

def Pre_NormOneBwd (m : (ℓ : Loc Cert.NormOneBwd.nD Cert.NormOneBwd.τ Cert.NormOneBwd.sig) → Buf (Elt Bits) ℓ) : Prop :=
  True

def Pre_NormOneBwdIdeal (m : (ℓ : Loc Cert.NormOneBwdIdeal.nD Cert.NormOneBwdIdeal.τ Cert.NormOneBwdIdeal.sig) → Buf (Elt Ideal) ℓ) : Prop :=
  True

def Pre_NormOneBwdRefIdeal (m : (ℓ : Loc Cert.NormOneBwdRefIdeal.nD Cert.NormOneBwdRefIdeal.τ Cert.NormOneBwdRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_UpdIn (m : (ℓ : Loc Cert.UpdIn.nD Cert.UpdIn.τ Cert.UpdIn.sig) → Buf (Elt Bits) ℓ) : Prop :=
  True

def Pre_UpdInIdeal (m : (ℓ : Loc Cert.UpdInIdeal.nD Cert.UpdInIdeal.τ Cert.UpdInIdeal.sig) → Buf (Elt Ideal) ℓ) : Prop :=
  True

def Pre_UpdInRefIdeal (m : (ℓ : Loc Cert.UpdInRefIdeal.nD Cert.UpdInRefIdeal.τ Cert.UpdInRefIdeal.sig) → Buf (Elt Ideal) ℓ) : Prop :=
  True

def Pre_UpdKv (m : (ℓ : Loc Cert.UpdKv.nD Cert.UpdKv.τ Cert.UpdKv.sig) → Buf (Elt Bits) ℓ) : Prop :=
  True

def Pre_UpdKvIdeal (m : (ℓ : Loc Cert.UpdKvIdeal.nD Cert.UpdKvIdeal.τ Cert.UpdKvIdeal.sig) → Buf (Elt Ideal) ℓ) : Prop :=
  True

def Pre_UpdKvRefIdeal (m : (ℓ : Loc Cert.UpdKvRefIdeal.nD Cert.UpdKvRefIdeal.τ Cert.UpdKvRefIdeal.sig) → Buf (Elt Ideal) ℓ) : Prop :=
  True

def Pre_UpdBranch (m : (ℓ : Loc Cert.UpdBranch.nD Cert.UpdBranch.τ Cert.UpdBranch.sig) → Buf (Elt Bits) ℓ) : Prop :=
  True

def Pre_UpdBranchIdeal (m : (ℓ : Loc Cert.UpdBranchIdeal.nD Cert.UpdBranchIdeal.τ Cert.UpdBranchIdeal.sig) → Buf (Elt Ideal) ℓ) : Prop :=
  True

def Pre_UpdBranchRefIdeal (m : (ℓ : Loc Cert.UpdBranchRefIdeal.nD Cert.UpdBranchRefIdeal.τ Cert.UpdBranchRefIdeal.sig) → Buf (Elt Ideal) ℓ) : Prop :=
  True

def Pre_UpdOut (m : (ℓ : Loc Cert.UpdOut.nD Cert.UpdOut.τ Cert.UpdOut.sig) → Buf (Elt Bits) ℓ) : Prop :=
  True

def Pre_UpdOutIdeal (m : (ℓ : Loc Cert.UpdOutIdeal.nD Cert.UpdOutIdeal.τ Cert.UpdOutIdeal.sig) → Buf (Elt Ideal) ℓ) : Prop :=
  True

def Pre_UpdOutRefIdeal (m : (ℓ : Loc Cert.UpdOutRefIdeal.nD Cert.UpdOutRefIdeal.τ Cert.UpdOutRefIdeal.sig) → Buf (Elt Ideal) ℓ) : Prop :=
  True

def Pre_UpdUp (m : (ℓ : Loc Cert.UpdUp.nD Cert.UpdUp.τ Cert.UpdUp.sig) → Buf (Elt Bits) ℓ) : Prop :=
  True

def Pre_UpdUpIdeal (m : (ℓ : Loc Cert.UpdUpIdeal.nD Cert.UpdUpIdeal.τ Cert.UpdUpIdeal.sig) → Buf (Elt Ideal) ℓ) : Prop :=
  True

def Pre_UpdUpRefIdeal (m : (ℓ : Loc Cert.UpdUpRefIdeal.nD Cert.UpdUpRefIdeal.τ Cert.UpdUpRefIdeal.sig) → Buf (Elt Ideal) ℓ) : Prop :=
  True

def Pre_UpdConv (m : (ℓ : Loc Cert.UpdConv.nD Cert.UpdConv.τ Cert.UpdConv.sig) → Buf (Elt Bits) ℓ) : Prop :=
  True

def Pre_UpdConvIdeal (m : (ℓ : Loc Cert.UpdConvIdeal.nD Cert.UpdConvIdeal.τ Cert.UpdConvIdeal.sig) → Buf (Elt Ideal) ℓ) : Prop :=
  True

def Pre_UpdConvRefIdeal (m : (ℓ : Loc Cert.UpdConvRefIdeal.nD Cert.UpdConvRefIdeal.τ Cert.UpdConvRefIdeal.sig) → Buf (Elt Ideal) ℓ) : Prop :=
  True

def Pre_UpdDown (m : (ℓ : Loc Cert.UpdDown.nD Cert.UpdDown.τ Cert.UpdDown.sig) → Buf (Elt Bits) ℓ) : Prop :=
  True

def Pre_UpdDownIdeal (m : (ℓ : Loc Cert.UpdDownIdeal.nD Cert.UpdDownIdeal.τ Cert.UpdDownIdeal.sig) → Buf (Elt Ideal) ℓ) : Prop :=
  True

def Pre_UpdDownRefIdeal (m : (ℓ : Loc Cert.UpdDownRefIdeal.nD Cert.UpdDownRefIdeal.τ Cert.UpdDownRefIdeal.sig) → Buf (Elt Ideal) ℓ) : Prop :=
  True

def Pre_FinalLoss (m : (ℓ : Loc Cert.FinalLoss.nD Cert.FinalLoss.τ Cert.FinalLoss.sig) → Buf (Elt Bits) ℓ) : Prop :=
  True

def Pre_FinalLossIdeal (m : (ℓ : Loc Cert.FinalLossIdeal.nD Cert.FinalLossIdeal.τ Cert.FinalLossIdeal.sig) → Buf (Elt Ideal) ℓ) : Prop :=
  True

def Pre_FinalLossRefIdeal (m : (ℓ : Loc Cert.FinalLossRefIdeal.nD Cert.FinalLossRefIdeal.τ Cert.FinalLossRefIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_conv_finite [hPre_conv_finite : Cert.Pre_conv_finite.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))).1 = (fun _ => 1#1)
    ∧ (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))).2.1 = (fun _ => 1#1)
    ∧ (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))).2.2 = (fun _ => 1#1)

def Pre_ConvBwdRefIdeal (m : (ℓ : Loc Cert.ConvBwdRefIdeal.nD Cert.ConvBwdRefIdeal.τ Cert.ConvBwdRefIdeal.sig) → Buf (Elt Ideal) ℓ) : Prop :=
  True

def Pre_ConvBwdRefIdeal_conv_finite [hPre_conv_finite : Cert.Pre_conv_finite.Facts] (m : (ℓ : Loc Cert.ConvBwdRefIdeal.nD Cert.ConvBwdRefIdeal.τ Cert.ConvBwdRefIdeal.sig) → Buf (Elt Ideal) ℓ) : Prop :=
  ∀ c : Dev Cert.ConvBwdRefIdeal.nD,
    (Cert.Pre_conv_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3)) (m ((c.tc : Thread Cert.ConvBwdRefIdeal.nD Cert.ConvBwdRefIdeal.τ).loc Cert.ConvBwdRefIdeal.main_arg4)) (m ((c.tc : Thread Cert.ConvBwdRefIdeal.nD Cert.ConvBwdRefIdeal.τ).loc Cert.ConvBwdRefIdeal.main_arg5))).1 = (fun _ => 1#1)
    ∧ (Cert.Pre_conv_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3)) (m ((c.tc : Thread Cert.ConvBwdRefIdeal.nD Cert.ConvBwdRefIdeal.τ).loc Cert.ConvBwdRefIdeal.main_arg4)) (m ((c.tc : Thread Cert.ConvBwdRefIdeal.nD Cert.ConvBwdRefIdeal.τ).loc Cert.ConvBwdRefIdeal.main_arg5))).2.1 = (fun _ => 1#1)
    ∧ (Cert.Pre_conv_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3)) (m ((c.tc : Thread Cert.ConvBwdRefIdeal.nD Cert.ConvBwdRefIdeal.τ).loc Cert.ConvBwdRefIdeal.main_arg4)) (m ((c.tc : Thread Cert.ConvBwdRefIdeal.nD Cert.ConvBwdRefIdeal.τ).loc Cert.ConvBwdRefIdeal.main_arg5))).2.2 = (fun _ => 1#1)

def Pre_MemNorm (m : (ℓ : Loc Cert.MemNorm.nD Cert.MemNorm.τ Cert.MemNorm.sig) → Buf (Elt Bits) ℓ) : Prop :=
  True

def Pre_MemNormIdeal (m : (ℓ : Loc Cert.MemNormIdeal.nD Cert.MemNormIdeal.τ Cert.MemNormIdeal.sig) → Buf (Elt Ideal) ℓ) : Prop :=
  True

def Pre_MemNormRefIdeal (m : (ℓ : Loc Cert.MemNormRefIdeal.nD Cert.MemNormRefIdeal.τ Cert.MemNormRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MemKvBwd (m : (ℓ : Loc Cert.MemKvBwd.nD Cert.MemKvBwd.τ Cert.MemKvBwd.sig) → Buf (Elt Bits) ℓ) : Prop :=
  True

def Pre_MemKvBwdIdeal (m : (ℓ : Loc Cert.MemKvBwdIdeal.nD Cert.MemKvBwdIdeal.τ Cert.MemKvBwdIdeal.sig) → Buf (Elt Ideal) ℓ) : Prop :=
  True

def Pre_MemKvBwdRefIdeal (m : (ℓ : Loc Cert.MemKvBwdRefIdeal.nD Cert.MemKvBwdRefIdeal.τ Cert.MemKvBwdRefIdeal.sig) → Buf (Elt Ideal) ℓ) : Prop :=
  True

def Pre_MemNormBwd (m : (ℓ : Loc Cert.MemNormBwd.nD Cert.MemNormBwd.τ Cert.MemNormBwd.sig) → Buf (Elt Bits) ℓ) : Prop :=
  True

def Pre_MemNormBwdIdeal (m : (ℓ : Loc Cert.MemNormBwdIdeal.nD Cert.MemNormBwdIdeal.τ Cert.MemNormBwdIdeal.sig) → Buf (Elt Ideal) ℓ) : Prop :=
  True

def Pre_MemNormBwdRefIdeal (m : (ℓ : Loc Cert.MemNormBwdRefIdeal.nD Cert.MemNormBwdRefIdeal.τ Cert.MemNormBwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_GmlpFwd (m : (ℓ : Loc Cert.GmlpFwd.nD Cert.GmlpFwd.τ Cert.GmlpFwd.sig) → Buf (Elt Bits) ℓ) : Prop :=
  True

def Pre_GmlpFwdIdeal (m : (ℓ : Loc Cert.GmlpFwdIdeal.nD Cert.GmlpFwdIdeal.τ Cert.GmlpFwdIdeal.sig) → Buf (Elt Ideal) ℓ) : Prop :=
  True

def Pre_GmlpFwdRefIdeal (m : (ℓ : Loc Cert.GmlpFwdRefIdeal.nD Cert.GmlpFwdRefIdeal.τ Cert.GmlpFwdRefIdeal.sig) → Buf (Elt Ideal) ℓ) : Prop :=
  True

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_AttnBwdRefIdeal_pre_attn_finite [hAttnBwdRefIdeal : Cert.AttnBwdRefIdeal.Facts] [hPre_attn_finite : Cert.Pre_attn_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DwUpA [hDwUpA : Cert.DwUpA.Facts] : Prop :=
  ∀ (m : (ℓ : Loc Cert.DwUpA.nD Cert.DwUpA.τ Cert.DwUpA.sig) → Buf (Elt Bits) ℓ) (g : Dev Cert.DwUpA.nD → PrngReg), Pre_DwUpA m →
    θ_run (Cert.DwUpA.defs (F := Bits)) (onTc (τ := Cert.DwUpA.τ) (Cert.DwUpA.main (F := Bits))) ⟨m, fun _ => 0, g⟩ (fun r => (∀ c : Dev Cert.DwUpA.nD,
      r.2.mem ((c.tc : Thread Cert.DwUpA.nD Cert.DwUpA.τ).loc Cert.DwUpA.main_arg0) = m ((c.tc : Thread Cert.DwUpA.nD Cert.DwUpA.τ).loc Cert.DwUpA.main_arg0)
      ∧ r.2.mem ((c.tc : Thread Cert.DwUpA.nD Cert.DwUpA.τ).loc Cert.DwUpA.main_arg1) = m ((c.tc : Thread Cert.DwUpA.nD Cert.DwUpA.τ).loc Cert.DwUpA.main_arg1)
      ∧ r.2.mem ((c.tc : Thread Cert.DwUpA.nD Cert.DwUpA.τ).loc Cert.DwUpA.main_arg2) = m ((c.tc : Thread Cert.DwUpA.nD Cert.DwUpA.τ).loc Cert.DwUpA.main_arg2))
      ∧ r.2.sem = fun _ => 0)

def quiescent_DwUpAIdeal [hDwUpAIdeal : Cert.DwUpAIdeal.Facts] : Prop :=
  ∀ (m : (ℓ : Loc Cert.DwUpAIdeal.nD Cert.DwUpAIdeal.τ Cert.DwUpAIdeal.sig) → Buf (Elt Ideal) ℓ) (g : Dev Cert.DwUpAIdeal.nD → PrngReg), Pre_DwUpAIdeal m →
    θ_run (Cert.DwUpAIdeal.defs (F := Ideal)) (onTc (τ := Cert.DwUpAIdeal.τ) (Cert.DwUpAIdeal.main (F := Ideal))) ⟨m, fun _ => 0, g⟩ (fun r => (∀ c : Dev Cert.DwUpAIdeal.nD,
      r.2.mem ((c.tc : Thread Cert.DwUpAIdeal.nD Cert.DwUpAIdeal.τ).loc Cert.DwUpAIdeal.main_arg0) = m ((c.tc : Thread Cert.DwUpAIdeal.nD Cert.DwUpAIdeal.τ).loc Cert.DwUpAIdeal.main_arg0)
      ∧ r.2.mem ((c.tc : Thread Cert.DwUpAIdeal.nD Cert.DwUpAIdeal.τ).loc Cert.DwUpAIdeal.main_arg1) = m ((c.tc : Thread Cert.DwUpAIdeal.nD Cert.DwUpAIdeal.τ).loc Cert.DwUpAIdeal.main_arg1)
      ∧ r.2.mem ((c.tc : Thread Cert.DwUpAIdeal.nD Cert.DwUpAIdeal.τ).loc Cert.DwUpAIdeal.main_arg2) = m ((c.tc : Thread Cert.DwUpAIdeal.nD Cert.DwUpAIdeal.τ).loc Cert.DwUpAIdeal.main_arg2))
      ∧ r.2.sem = fun _ => 0)

def quiescent_DwUpARefIdeal [hDwUpARefIdeal : Cert.DwUpARefIdeal.Facts] : Prop :=
  ∀ (m : (ℓ : Loc Cert.DwUpARefIdeal.nD Cert.DwUpARefIdeal.τ Cert.DwUpARefIdeal.sig) → Buf (Elt Ideal) ℓ) (g : Dev Cert.DwUpARefIdeal.nD → PrngReg), Pre_DwUpARefIdeal m →
    θ_run (Cert.DwUpARefIdeal.defs (F := Ideal)) (onTc (τ := Cert.DwUpARefIdeal.τ) (Cert.DwUpARefIdeal.main (F := Ideal))) ⟨m, fun _ => 0, g⟩ (fun r => (∀ c : Dev Cert.DwUpARefIdeal.nD,
      r.2.mem ((c.tc : Thread Cert.DwUpARefIdeal.nD Cert.DwUpARefIdeal.τ).loc Cert.DwUpARefIdeal.main_arg0) = m ((c.tc : Thread Cert.DwUpARefIdeal.nD Cert.DwUpARefIdeal.τ).loc Cert.DwUpARefIdeal.main_arg0)
      ∧ r.2.mem ((c.tc : Thread Cert.DwUpARefIdeal.nD Cert.DwUpARefIdeal.τ).loc Cert.DwUpARefIdeal.main_arg1) = m ((c.tc : Thread Cert.DwUpARefIdeal.nD Cert.DwUpARefIdeal.τ).loc Cert.DwUpARefIdeal.main_arg1)
      ∧ r.2.mem ((c.tc : Thread Cert.DwUpARefIdeal.nD Cert.DwUpARefIdeal.τ).loc Cert.DwUpARefIdeal.main_arg2) = m ((c.tc : Thread Cert.DwUpARefIdeal.nD Cert.DwUpARefIdeal.τ).loc Cert.DwUpARefIdeal.main_arg2))
      ∧ r.2.sem = fun _ => 0)

def quiescent_DwUpB [hDwUpB : Cert.DwUpB.Facts] : Prop :=
  ∀ (m : (ℓ : Loc Cert.DwUpB.nD Cert.DwUpB.τ Cert.DwUpB.sig) → Buf (Elt Bits) ℓ) (g : Dev Cert.DwUpB.nD → PrngReg), Pre_DwUpB m →
    θ_run (Cert.DwUpB.defs (F := Bits)) (onTc (τ := Cert.DwUpB.τ) (Cert.DwUpB.main (F := Bits))) ⟨m, fun _ => 0, g⟩ (fun r => (∀ c : Dev Cert.DwUpB.nD,
      r.2.mem ((c.tc : Thread Cert.DwUpB.nD Cert.DwUpB.τ).loc Cert.DwUpB.main_arg0) = m ((c.tc : Thread Cert.DwUpB.nD Cert.DwUpB.τ).loc Cert.DwUpB.main_arg0)
      ∧ r.2.mem ((c.tc : Thread Cert.DwUpB.nD Cert.DwUpB.τ).loc Cert.DwUpB.main_arg1) = m ((c.tc : Thread Cert.DwUpB.nD Cert.DwUpB.τ).loc Cert.DwUpB.main_arg1)
      ∧ r.2.mem ((c.tc : Thread Cert.DwUpB.nD Cert.DwUpB.τ).loc Cert.DwUpB.main_arg2) = m ((c.tc : Thread Cert.DwUpB.nD Cert.DwUpB.τ).loc Cert.DwUpB.main_arg2))
      ∧ r.2.sem = fun _ => 0)

def quiescent_DwUpBIdeal [hDwUpBIdeal : Cert.DwUpBIdeal.Facts] : Prop :=
  ∀ (m : (ℓ : Loc Cert.DwUpBIdeal.nD Cert.DwUpBIdeal.τ Cert.DwUpBIdeal.sig) → Buf (Elt Ideal) ℓ) (g : Dev Cert.DwUpBIdeal.nD → PrngReg), Pre_DwUpBIdeal m →
    θ_run (Cert.DwUpBIdeal.defs (F := Ideal)) (onTc (τ := Cert.DwUpBIdeal.τ) (Cert.DwUpBIdeal.main (F := Ideal))) ⟨m, fun _ => 0, g⟩ (fun r => (∀ c : Dev Cert.DwUpBIdeal.nD,
      r.2.mem ((c.tc : Thread Cert.DwUpBIdeal.nD Cert.DwUpBIdeal.τ).loc Cert.DwUpBIdeal.main_arg0) = m ((c.tc : Thread Cert.DwUpBIdeal.nD Cert.DwUpBIdeal.τ).loc Cert.DwUpBIdeal.main_arg0)
      ∧ r.2.mem ((c.tc : Thread Cert.DwUpBIdeal.nD Cert.DwUpBIdeal.τ).loc Cert.DwUpBIdeal.main_arg1) = m ((c.tc : Thread Cert.DwUpBIdeal.nD Cert.DwUpBIdeal.τ).loc Cert.DwUpBIdeal.main_arg1)
      ∧ r.2.mem ((c.tc : Thread Cert.DwUpBIdeal.nD Cert.DwUpBIdeal.τ).loc Cert.DwUpBIdeal.main_arg2) = m ((c.tc : Thread Cert.DwUpBIdeal.nD Cert.DwUpBIdeal.τ).loc Cert.DwUpBIdeal.main_arg2))
      ∧ r.2.sem = fun _ => 0)

def quiescent_DwUpBRefIdeal [hDwUpBRefIdeal : Cert.DwUpBRefIdeal.Facts] : Prop :=
  ∀ (m : (ℓ : Loc Cert.DwUpBRefIdeal.nD Cert.DwUpBRefIdeal.τ Cert.DwUpBRefIdeal.sig) → Buf (Elt Ideal) ℓ) (g : Dev Cert.DwUpBRefIdeal.nD → PrngReg), Pre_DwUpBRefIdeal m →
    θ_run (Cert.DwUpBRefIdeal.defs (F := Ideal)) (onTc (τ := Cert.DwUpBRefIdeal.τ) (Cert.DwUpBRefIdeal.main (F := Ideal))) ⟨m, fun _ => 0, g⟩ (fun r => (∀ c : Dev Cert.DwUpBRefIdeal.nD,
      r.2.mem ((c.tc : Thread Cert.DwUpBRefIdeal.nD Cert.DwUpBRefIdeal.τ).loc Cert.DwUpBRefIdeal.main_arg0) = m ((c.tc : Thread Cert.DwUpBRefIdeal.nD Cert.DwUpBRefIdeal.τ).loc Cert.DwUpBRefIdeal.main_arg0)
      ∧ r.2.mem ((c.tc : Thread Cert.DwUpBRefIdeal.nD Cert.DwUpBRefIdeal.τ).loc Cert.DwUpBRefIdeal.main_arg1) = m ((c.tc : Thread Cert.DwUpBRefIdeal.nD Cert.DwUpBRefIdeal.τ).loc Cert.DwUpBRefIdeal.main_arg1)
      ∧ r.2.mem ((c.tc : Thread Cert.DwUpBRefIdeal.nD Cert.DwUpBRefIdeal.τ).loc Cert.DwUpBRefIdeal.main_arg2) = m ((c.tc : Thread Cert.DwUpBRefIdeal.nD Cert.DwUpBRefIdeal.τ).loc Cert.DwUpBRefIdeal.main_arg2))
      ∧ r.2.sem = fun _ => 0)

def quiescent_DwProjA [hDwProjA : Cert.DwProjA.Facts] : Prop :=
  ∀ (m : (ℓ : Loc Cert.DwProjA.nD Cert.DwProjA.τ Cert.DwProjA.sig) → Buf (Elt Bits) ℓ) (g : Dev Cert.DwProjA.nD → PrngReg), Pre_DwProjA m →
    θ_run (Cert.DwProjA.defs (F := Bits)) (onTc (τ := Cert.DwProjA.τ) (Cert.DwProjA.main (F := Bits))) ⟨m, fun _ => 0, g⟩ (fun r => (∀ c : Dev Cert.DwProjA.nD,
      r.2.mem ((c.tc : Thread Cert.DwProjA.nD Cert.DwProjA.τ).loc Cert.DwProjA.main_arg0) = m ((c.tc : Thread Cert.DwProjA.nD Cert.DwProjA.τ).loc Cert.DwProjA.main_arg0)
      ∧ r.2.mem ((c.tc : Thread Cert.DwProjA.nD Cert.DwProjA.τ).loc Cert.DwProjA.main_arg1) = m ((c.tc : Thread Cert.DwProjA.nD Cert.DwProjA.τ).loc Cert.DwProjA.main_arg1))
      ∧ r.2.sem = fun _ => 0)

def quiescent_DwProjAIdeal [hDwProjAIdeal : Cert.DwProjAIdeal.Facts] : Prop :=
  ∀ (m : (ℓ : Loc Cert.DwProjAIdeal.nD Cert.DwProjAIdeal.τ Cert.DwProjAIdeal.sig) → Buf (Elt Ideal) ℓ) (g : Dev Cert.DwProjAIdeal.nD → PrngReg), Pre_DwProjAIdeal m →
    θ_run (Cert.DwProjAIdeal.defs (F := Ideal)) (onTc (τ := Cert.DwProjAIdeal.τ) (Cert.DwProjAIdeal.main (F := Ideal))) ⟨m, fun _ => 0, g⟩ (fun r => (∀ c : Dev Cert.DwProjAIdeal.nD,
      r.2.mem ((c.tc : Thread Cert.DwProjAIdeal.nD Cert.DwProjAIdeal.τ).loc Cert.DwProjAIdeal.main_arg0) = m ((c.tc : Thread Cert.DwProjAIdeal.nD Cert.DwProjAIdeal.τ).loc Cert.DwProjAIdeal.main_arg0)
      ∧ r.2.mem ((c.tc : Thread Cert.DwProjAIdeal.nD Cert.DwProjAIdeal.τ).loc Cert.DwProjAIdeal.main_arg1) = m ((c.tc : Thread Cert.DwProjAIdeal.nD Cert.DwProjAIdeal.τ).loc Cert.DwProjAIdeal.main_arg1))
      ∧ r.2.sem = fun _ => 0)

def quiescent_DwProjARefIdeal [hDwProjARefIdeal : Cert.DwProjARefIdeal.Facts] : Prop :=
  ∀ (m : (ℓ : Loc Cert.DwProjARefIdeal.nD Cert.DwProjARefIdeal.τ Cert.DwProjARefIdeal.sig) → Buf (Elt Ideal) ℓ) (g : Dev Cert.DwProjARefIdeal.nD → PrngReg), Pre_DwProjARefIdeal m →
    θ_run (Cert.DwProjARefIdeal.defs (F := Ideal)) (onTc (τ := Cert.DwProjARefIdeal.τ) (Cert.DwProjARefIdeal.main (F := Ideal))) ⟨m, fun _ => 0, g⟩ (fun r => (∀ c : Dev Cert.DwProjARefIdeal.nD,
      r.2.mem ((c.tc : Thread Cert.DwProjARefIdeal.nD Cert.DwProjARefIdeal.τ).loc Cert.DwProjARefIdeal.main_arg0) = m ((c.tc : Thread Cert.DwProjARefIdeal.nD Cert.DwProjARefIdeal.τ).loc Cert.DwProjARefIdeal.main_arg0)
      ∧ r.2.mem ((c.tc : Thread Cert.DwProjARefIdeal.nD Cert.DwProjARefIdeal.τ).loc Cert.DwProjARefIdeal.main_arg1) = m ((c.tc : Thread Cert.DwProjARefIdeal.nD Cert.DwProjARefIdeal.τ).loc Cert.DwProjARefIdeal.main_arg1))
      ∧ r.2.sem = fun _ => 0)

def quiescent_DwProjB [hDwProjB : Cert.DwProjB.Facts] : Prop :=
  ∀ (m : (ℓ : Loc Cert.DwProjB.nD Cert.DwProjB.τ Cert.DwProjB.sig) → Buf (Elt Bits) ℓ) (g : Dev Cert.DwProjB.nD → PrngReg), Pre_DwProjB m →
    θ_run (Cert.DwProjB.defs (F := Bits)) (onTc (τ := Cert.DwProjB.τ) (Cert.DwProjB.main (F := Bits))) ⟨m, fun _ => 0, g⟩ (fun r => (∀ c : Dev Cert.DwProjB.nD,
      r.2.mem ((c.tc : Thread Cert.DwProjB.nD Cert.DwProjB.τ).loc Cert.DwProjB.main_arg0) = m ((c.tc : Thread Cert.DwProjB.nD Cert.DwProjB.τ).loc Cert.DwProjB.main_arg0)
      ∧ r.2.mem ((c.tc : Thread Cert.DwProjB.nD Cert.DwProjB.τ).loc Cert.DwProjB.main_arg1) = m ((c.tc : Thread Cert.DwProjB.nD Cert.DwProjB.τ).loc Cert.DwProjB.main_arg1))
      ∧ r.2.sem = fun _ => 0)

def quiescent_DwProjBIdeal [hDwProjBIdeal : Cert.DwProjBIdeal.Facts] : Prop :=
  ∀ (m : (ℓ : Loc Cert.DwProjBIdeal.nD Cert.DwProjBIdeal.τ Cert.DwProjBIdeal.sig) → Buf (Elt Ideal) ℓ) (g : Dev Cert.DwProjBIdeal.nD → PrngReg), Pre_DwProjBIdeal m →
    θ_run (Cert.DwProjBIdeal.defs (F := Ideal)) (onTc (τ := Cert.DwProjBIdeal.τ) (Cert.DwProjBIdeal.main (F := Ideal))) ⟨m, fun _ => 0, g⟩ (fun r => (∀ c : Dev Cert.DwProjBIdeal.nD,
      r.2.mem ((c.tc : Thread Cert.DwProjBIdeal.nD Cert.DwProjBIdeal.τ).loc Cert.DwProjBIdeal.main_arg0) = m ((c.tc : Thread Cert.DwProjBIdeal.nD Cert.DwProjBIdeal.τ).loc Cert.DwProjBIdeal.main_arg0)
      ∧ r.2.mem ((c.tc : Thread Cert.DwProjBIdeal.nD Cert.DwProjBIdeal.τ).loc Cert.DwProjBIdeal.main_arg1) = m ((c.tc : Thread Cert.DwProjBIdeal.nD Cert.DwProjBIdeal.τ).loc Cert.DwProjBIdeal.main_arg1))
      ∧ r.2.sem = fun _ => 0)

def quiescent_DwProjBRefIdeal [hDwProjBRefIdeal : Cert.DwProjBRefIdeal.Facts] : Prop :=
  ∀ (m : (ℓ : Loc Cert.DwProjBRefIdeal.nD Cert.DwProjBRefIdeal.τ Cert.DwProjBRefIdeal.sig) → Buf (Elt Ideal) ℓ) (g : Dev Cert.DwProjBRefIdeal.nD → PrngReg), Pre_DwProjBRefIdeal m →
    θ_run (Cert.DwProjBRefIdeal.defs (F := Ideal)) (onTc (τ := Cert.DwProjBRefIdeal.τ) (Cert.DwProjBRefIdeal.main (F := Ideal))) ⟨m, fun _ => 0, g⟩ (fun r => (∀ c : Dev Cert.DwProjBRefIdeal.nD,
      r.2.mem ((c.tc : Thread Cert.DwProjBRefIdeal.nD Cert.DwProjBRefIdeal.τ).loc Cert.DwProjBRefIdeal.main_arg0) = m ((c.tc : Thread Cert.DwProjBRefIdeal.nD Cert.DwProjBRefIdeal.τ).loc Cert.DwProjBRefIdeal.main_arg0)
      ∧ r.2.mem ((c.tc : Thread Cert.DwProjBRefIdeal.nD Cert.DwProjBRefIdeal.τ).loc Cert.DwProjBRefIdeal.main_arg1) = m ((c.tc : Thread Cert.DwProjBRefIdeal.nD Cert.DwProjBRefIdeal.τ).loc Cert.DwProjBRefIdeal.main_arg1))
      ∧ r.2.sem = fun _ => 0)

def quiescent_DwKv [hDwKv : Cert.DwKv.Facts] : Prop :=
  ∀ (m : (ℓ : Loc Cert.DwKv.nD Cert.DwKv.τ Cert.DwKv.sig) → Buf (Elt Bits) ℓ) (g : Dev Cert.DwKv.nD → PrngReg), Pre_DwKv m →
    θ_run (Cert.DwKv.defs (F := Bits)) (onTc (τ := Cert.DwKv.τ) (Cert.DwKv.main (F := Bits))) ⟨m, fun _ => 0, g⟩ (fun r => (∀ c : Dev Cert.DwKv.nD,
      r.2.mem ((c.tc : Thread Cert.DwKv.nD Cert.DwKv.τ).loc Cert.DwKv.main_arg0) = m ((c.tc : Thread Cert.DwKv.nD Cert.DwKv.τ).loc Cert.DwKv.main_arg0)
      ∧ r.2.mem ((c.tc : Thread Cert.DwKv.nD Cert.DwKv.τ).loc Cert.DwKv.main_arg1) = m ((c.tc : Thread Cert.DwKv.nD Cert.DwKv.τ).loc Cert.DwKv.main_arg1))
      ∧ r.2.sem = fun _ => 0)

def quiescent_DwKvIdeal [hDwKvIdeal : Cert.DwKvIdeal.Facts] : Prop :=
  ∀ (m : (ℓ : Loc Cert.DwKvIdeal.nD Cert.DwKvIdeal.τ Cert.DwKvIdeal.sig) → Buf (Elt Ideal) ℓ) (g : Dev Cert.DwKvIdeal.nD → PrngReg), Pre_DwKvIdeal m →
    θ_run (Cert.DwKvIdeal.defs (F := Ideal)) (onTc (τ := Cert.DwKvIdeal.τ) (Cert.DwKvIdeal.main (F := Ideal))) ⟨m, fun _ => 0, g⟩ (fun r => (∀ c : Dev Cert.DwKvIdeal.nD,
      r.2.mem ((c.tc : Thread Cert.DwKvIdeal.nD Cert.DwKvIdeal.τ).loc Cert.DwKvIdeal.main_arg0) = m ((c.tc : Thread Cert.DwKvIdeal.nD Cert.DwKvIdeal.τ).loc Cert.DwKvIdeal.main_arg0)
      ∧ r.2.mem ((c.tc : Thread Cert.DwKvIdeal.nD Cert.DwKvIdeal.τ).loc Cert.DwKvIdeal.main_arg1) = m ((c.tc : Thread Cert.DwKvIdeal.nD Cert.DwKvIdeal.τ).loc Cert.DwKvIdeal.main_arg1))
      ∧ r.2.sem = fun _ => 0)

def quiescent_DwKvRefIdeal [hDwKvRefIdeal : Cert.DwKvRefIdeal.Facts] : Prop :=
  ∀ (m : (ℓ : Loc Cert.DwKvRefIdeal.nD Cert.DwKvRefIdeal.τ Cert.DwKvRefIdeal.sig) → Buf (Elt Ideal) ℓ) (g : Dev Cert.DwKvRefIdeal.nD → PrngReg), Pre_DwKvRefIdeal m →
    θ_run (Cert.DwKvRefIdeal.defs (F := Ideal)) (onTc (τ := Cert.DwKvRefIdeal.τ) (Cert.DwKvRefIdeal.main (F := Ideal))) ⟨m, fun _ => 0, g⟩ (fun r => (∀ c : Dev Cert.DwKvRefIdeal.nD,
      r.2.mem ((c.tc : Thread Cert.DwKvRefIdeal.nD Cert.DwKvRefIdeal.τ).loc Cert.DwKvRefIdeal.main_arg0) = m ((c.tc : Thread Cert.DwKvRefIdeal.nD Cert.DwKvRefIdeal.τ).loc Cert.DwKvRefIdeal.main_arg0)
      ∧ r.2.mem ((c.tc : Thread Cert.DwKvRefIdeal.nD Cert.DwKvRefIdeal.τ).loc Cert.DwKvRefIdeal.main_arg1) = m ((c.tc : Thread Cert.DwKvRefIdeal.nD Cert.DwKvRefIdeal.τ).loc Cert.DwKvRefIdeal.main_arg1))
      ∧ r.2.sem = fun _ => 0)

def quiescent_NormTwoBwd [hNormTwoBwd : Cert.NormTwoBwd.Facts] : Prop :=
  ∀ (m : (ℓ : Loc Cert.NormTwoBwd.nD Cert.NormTwoBwd.τ Cert.NormTwoBwd.sig) → Buf (Elt Bits) ℓ) (g : Dev Cert.NormTwoBwd.nD → PrngReg), Pre_NormTwoBwd m →
    θ_run (Cert.NormTwoBwd.defs (F := Bits)) (onTc (τ := Cert.NormTwoBwd.τ) (Cert.NormTwoBwd.main (F := Bits))) ⟨m, fun _ => 0, g⟩ (fun r => (∀ c : Dev Cert.NormTwoBwd.nD,
      r.2.mem ((c.tc : Thread Cert.NormTwoBwd.nD Cert.NormTwoBwd.τ).loc Cert.NormTwoBwd.main_arg0) = m ((c.tc : Thread Cert.NormTwoBwd.nD Cert.NormTwoBwd.τ).loc Cert.NormTwoBwd.main_arg0)
      ∧ r.2.mem ((c.tc : Thread Cert.NormTwoBwd.nD Cert.NormTwoBwd.τ).loc Cert.NormTwoBwd.main_arg1) = m ((c.tc : Thread Cert.NormTwoBwd.nD Cert.NormTwoBwd.τ).loc Cert.NormTwoBwd.main_arg1)
      ∧ r.2.mem ((c.tc : Thread Cert.NormTwoBwd.nD Cert.NormTwoBwd.τ).loc Cert.NormTwoBwd.main_arg2) = m ((c.tc : Thread Cert.NormTwoBwd.nD Cert.NormTwoBwd.τ).loc Cert.NormTwoBwd.main_arg2)
      ∧ r.2.mem ((c.tc : Thread Cert.NormTwoBwd.nD Cert.NormTwoBwd.τ).loc Cert.NormTwoBwd.main_arg3) = m ((c.tc : Thread Cert.NormTwoBwd.nD Cert.NormTwoBwd.τ).loc Cert.NormTwoBwd.main_arg3)
      ∧ r.2.mem ((c.tc : Thread Cert.NormTwoBwd.nD Cert.NormTwoBwd.τ).loc Cert.NormTwoBwd.main_arg4) = m ((c.tc : Thread Cert.NormTwoBwd.nD Cert.NormTwoBwd.τ).loc Cert.NormTwoBwd.main_arg4)
      ∧ r.2.mem ((c.tc : Thread Cert.NormTwoBwd.nD Cert.NormTwoBwd.τ).loc Cert.NormTwoBwd.main_arg5) = m ((c.tc : Thread Cert.NormTwoBwd.nD Cert.NormTwoBwd.τ).loc Cert.NormTwoBwd.main_arg5))
      ∧ r.2.sem = fun _ => 0)

def quiescent_NormTwoBwdIdeal [hNormTwoBwdIdeal : Cert.NormTwoBwdIdeal.Facts] : Prop :=
  ∀ (m : (ℓ : Loc Cert.NormTwoBwdIdeal.nD Cert.NormTwoBwdIdeal.τ Cert.NormTwoBwdIdeal.sig) → Buf (Elt Ideal) ℓ) (g : Dev Cert.NormTwoBwdIdeal.nD → PrngReg), Pre_NormTwoBwdIdeal m →
    θ_run (Cert.NormTwoBwdIdeal.defs (F := Ideal)) (onTc (τ := Cert.NormTwoBwdIdeal.τ) (Cert.NormTwoBwdIdeal.main (F := Ideal))) ⟨m, fun _ => 0, g⟩ (fun r => (∀ c : Dev Cert.NormTwoBwdIdeal.nD,
      r.2.mem ((c.tc : Thread Cert.NormTwoBwdIdeal.nD Cert.NormTwoBwdIdeal.τ).loc Cert.NormTwoBwdIdeal.main_arg0) = m ((c.tc : Thread Cert.NormTwoBwdIdeal.nD Cert.NormTwoBwdIdeal.τ).loc Cert.NormTwoBwdIdeal.main_arg0)
      ∧ r.2.mem ((c.tc : Thread Cert.NormTwoBwdIdeal.nD Cert.NormTwoBwdIdeal.τ).loc Cert.NormTwoBwdIdeal.main_arg1) = m ((c.tc : Thread Cert.NormTwoBwdIdeal.nD Cert.NormTwoBwdIdeal.τ).loc Cert.NormTwoBwdIdeal.main_arg1)
      ∧ r.2.mem ((c.tc : Thread Cert.NormTwoBwdIdeal.nD Cert.NormTwoBwdIdeal.τ).loc Cert.NormTwoBwdIdeal.main_arg2) = m ((c.tc : Thread Cert.NormTwoBwdIdeal.nD Cert.NormTwoBwdIdeal.τ).loc Cert.NormTwoBwdIdeal.main_arg2)
      ∧ r.2.mem ((c.tc : Thread Cert.NormTwoBwdIdeal.nD Cert.NormTwoBwdIdeal.τ).loc Cert.NormTwoBwdIdeal.main_arg3) = m ((c.tc : Thread Cert.NormTwoBwdIdeal.nD Cert.NormTwoBwdIdeal.τ).loc Cert.NormTwoBwdIdeal.main_arg3)
      ∧ r.2.mem ((c.tc : Thread Cert.NormTwoBwdIdeal.nD Cert.NormTwoBwdIdeal.τ).loc Cert.NormTwoBwdIdeal.main_arg4) = m ((c.tc : Thread Cert.NormTwoBwdIdeal.nD Cert.NormTwoBwdIdeal.τ).loc Cert.NormTwoBwdIdeal.main_arg4)
      ∧ r.2.mem ((c.tc : Thread Cert.NormTwoBwdIdeal.nD Cert.NormTwoBwdIdeal.τ).loc Cert.NormTwoBwdIdeal.main_arg5) = m ((c.tc : Thread Cert.NormTwoBwdIdeal.nD Cert.NormTwoBwdIdeal.τ).loc Cert.NormTwoBwdIdeal.main_arg5))
      ∧ r.2.sem = fun _ => 0)

def quiescent_NormTwoBwdRefIdeal [hNormTwoBwdRefIdeal : Cert.NormTwoBwdRefIdeal.Facts] : Prop :=
  ∀ (m : (ℓ : Loc Cert.NormTwoBwdRefIdeal.nD Cert.NormTwoBwdRefIdeal.τ Cert.NormTwoBwdRefIdeal.sig) → Buf (Elt Ideal) ℓ) (g : Dev Cert.NormTwoBwdRefIdeal.nD → PrngReg), Pre_NormTwoBwdRefIdeal m →
    θ_run (Cert.NormTwoBwdRefIdeal.defs (F := Ideal)) (onTc (τ := Cert.NormTwoBwdRefIdeal.τ) (Cert.NormTwoBwdRefIdeal.main (F := Ideal))) ⟨m, fun _ => 0, g⟩ (fun r => (∀ c : Dev Cert.NormTwoBwdRefIdeal.nD,
      r.2.mem ((c.tc : Thread Cert.NormTwoBwdRefIdeal.nD Cert.NormTwoBwdRefIdeal.τ).loc Cert.NormTwoBwdRefIdeal.main_arg0) = m ((c.tc : Thread Cert.NormTwoBwdRefIdeal.nD Cert.NormTwoBwdRefIdeal.τ).loc Cert.NormTwoBwdRefIdeal.main_arg0)
      ∧ r.2.mem ((c.tc : Thread Cert.NormTwoBwdRefIdeal.nD Cert.NormTwoBwdRefIdeal.τ).loc Cert.NormTwoBwdRefIdeal.main_arg1) = m ((c.tc : Thread Cert.NormTwoBwdRefIdeal.nD Cert.NormTwoBwdRefIdeal.τ).loc Cert.NormTwoBwdRefIdeal.main_arg1)
      ∧ r.2.mem ((c.tc : Thread Cert.NormTwoBwdRefIdeal.nD Cert.NormTwoBwdRefIdeal.τ).loc Cert.NormTwoBwdRefIdeal.main_arg2) = m ((c.tc : Thread Cert.NormTwoBwdRefIdeal.nD Cert.NormTwoBwdRefIdeal.τ).loc Cert.NormTwoBwdRefIdeal.main_arg2)
      ∧ r.2.mem ((c.tc : Thread Cert.NormTwoBwdRefIdeal.nD Cert.NormTwoBwdRefIdeal.τ).loc Cert.NormTwoBwdRefIdeal.main_arg3) = m ((c.tc : Thread Cert.NormTwoBwdRefIdeal.nD Cert.NormTwoBwdRefIdeal.τ).loc Cert.NormTwoBwdRefIdeal.main_arg3)
      ∧ r.2.mem ((c.tc : Thread Cert.NormTwoBwdRefIdeal.nD Cert.NormTwoBwdRefIdeal.τ).loc Cert.NormTwoBwdRefIdeal.main_arg4) = m ((c.tc : Thread Cert.NormTwoBwdRefIdeal.nD Cert.NormTwoBwdRefIdeal.τ).loc Cert.NormTwoBwdRefIdeal.main_arg4)
      ∧ r.2.mem ((c.tc : Thread Cert.NormTwoBwdRefIdeal.nD Cert.NormTwoBwdRefIdeal.τ).loc Cert.NormTwoBwdRefIdeal.main_arg5) = m ((c.tc : Thread Cert.NormTwoBwdRefIdeal.nD Cert.NormTwoBwdRefIdeal.τ).loc Cert.NormTwoBwdRefIdeal.main_arg5))
      ∧ r.2.sem = fun _ => 0)

def quiescent_NormOneBwd [hNormOneBwd : Cert.NormOneBwd.Facts] : Prop :=
  ∀ (m : (ℓ : Loc Cert.NormOneBwd.nD Cert.NormOneBwd.τ Cert.NormOneBwd.sig) → Buf (Elt Bits) ℓ) (g : Dev Cert.NormOneBwd.nD → PrngReg), Pre_NormOneBwd m →
    θ_run (Cert.NormOneBwd.defs (F := Bits)) (onTc (τ := Cert.NormOneBwd.τ) (Cert.NormOneBwd.main (F := Bits))) ⟨m, fun _ => 0, g⟩ (fun r => (∀ c : Dev Cert.NormOneBwd.nD,
      r.2.mem ((c.tc : Thread Cert.NormOneBwd.nD Cert.NormOneBwd.τ).loc Cert.NormOneBwd.main_arg0) = m ((c.tc : Thread Cert.NormOneBwd.nD Cert.NormOneBwd.τ).loc Cert.NormOneBwd.main_arg0)
      ∧ r.2.mem ((c.tc : Thread Cert.NormOneBwd.nD Cert.NormOneBwd.τ).loc Cert.NormOneBwd.main_arg1) = m ((c.tc : Thread Cert.NormOneBwd.nD Cert.NormOneBwd.τ).loc Cert.NormOneBwd.main_arg1)
      ∧ r.2.mem ((c.tc : Thread Cert.NormOneBwd.nD Cert.NormOneBwd.τ).loc Cert.NormOneBwd.main_arg2) = m ((c.tc : Thread Cert.NormOneBwd.nD Cert.NormOneBwd.τ).loc Cert.NormOneBwd.main_arg2)
      ∧ r.2.mem ((c.tc : Thread Cert.NormOneBwd.nD Cert.NormOneBwd.τ).loc Cert.NormOneBwd.main_arg3) = m ((c.tc : Thread Cert.NormOneBwd.nD Cert.NormOneBwd.τ).loc Cert.NormOneBwd.main_arg3)
      ∧ r.2.mem ((c.tc : Thread Cert.NormOneBwd.nD Cert.NormOneBwd.τ).loc Cert.NormOneBwd.main_arg4) = m ((c.tc : Thread Cert.NormOneBwd.nD Cert.NormOneBwd.τ).loc Cert.NormOneBwd.main_arg4))
      ∧ r.2.sem = fun _ => 0)

def quiescent_NormOneBwdIdeal [hNormOneBwdIdeal : Cert.NormOneBwdIdeal.Facts] : Prop :=
  ∀ (m : (ℓ : Loc Cert.NormOneBwdIdeal.nD Cert.NormOneBwdIdeal.τ Cert.NormOneBwdIdeal.sig) → Buf (Elt Ideal) ℓ) (g : Dev Cert.NormOneBwdIdeal.nD → PrngReg), Pre_NormOneBwdIdeal m →
    θ_run (Cert.NormOneBwdIdeal.defs (F := Ideal)) (onTc (τ := Cert.NormOneBwdIdeal.τ) (Cert.NormOneBwdIdeal.main (F := Ideal))) ⟨m, fun _ => 0, g⟩ (fun r => (∀ c : Dev Cert.NormOneBwdIdeal.nD,
      r.2.mem ((c.tc : Thread Cert.NormOneBwdIdeal.nD Cert.NormOneBwdIdeal.τ).loc Cert.NormOneBwdIdeal.main_arg0) = m ((c.tc : Thread Cert.NormOneBwdIdeal.nD Cert.NormOneBwdIdeal.τ).loc Cert.NormOneBwdIdeal.main_arg0)
      ∧ r.2.mem ((c.tc : Thread Cert.NormOneBwdIdeal.nD Cert.NormOneBwdIdeal.τ).loc Cert.NormOneBwdIdeal.main_arg1) = m ((c.tc : Thread Cert.NormOneBwdIdeal.nD Cert.NormOneBwdIdeal.τ).loc Cert.NormOneBwdIdeal.main_arg1)
      ∧ r.2.mem ((c.tc : Thread Cert.NormOneBwdIdeal.nD Cert.NormOneBwdIdeal.τ).loc Cert.NormOneBwdIdeal.main_arg2) = m ((c.tc : Thread Cert.NormOneBwdIdeal.nD Cert.NormOneBwdIdeal.τ).loc Cert.NormOneBwdIdeal.main_arg2)
      ∧ r.2.mem ((c.tc : Thread Cert.NormOneBwdIdeal.nD Cert.NormOneBwdIdeal.τ).loc Cert.NormOneBwdIdeal.main_arg3) = m ((c.tc : Thread Cert.NormOneBwdIdeal.nD Cert.NormOneBwdIdeal.τ).loc Cert.NormOneBwdIdeal.main_arg3)
      ∧ r.2.mem ((c.tc : Thread Cert.NormOneBwdIdeal.nD Cert.NormOneBwdIdeal.τ).loc Cert.NormOneBwdIdeal.main_arg4) = m ((c.tc : Thread Cert.NormOneBwdIdeal.nD Cert.NormOneBwdIdeal.τ).loc Cert.NormOneBwdIdeal.main_arg4))
      ∧ r.2.sem = fun _ => 0)

def quiescent_NormOneBwdRefIdeal [hNormOneBwdRefIdeal : Cert.NormOneBwdRefIdeal.Facts] : Prop :=
  ∀ (m : (ℓ : Loc Cert.NormOneBwdRefIdeal.nD Cert.NormOneBwdRefIdeal.τ Cert.NormOneBwdRefIdeal.sig) → Buf (Elt Ideal) ℓ) (g : Dev Cert.NormOneBwdRefIdeal.nD → PrngReg), Pre_NormOneBwdRefIdeal m →
    θ_run (Cert.NormOneBwdRefIdeal.defs (F := Ideal)) (onTc (τ := Cert.NormOneBwdRefIdeal.τ) (Cert.NormOneBwdRefIdeal.main (F := Ideal))) ⟨m, fun _ => 0, g⟩ (fun r => (∀ c : Dev Cert.NormOneBwdRefIdeal.nD,
      r.2.mem ((c.tc : Thread Cert.NormOneBwdRefIdeal.nD Cert.NormOneBwdRefIdeal.τ).loc Cert.NormOneBwdRefIdeal.main_arg0) = m ((c.tc : Thread Cert.NormOneBwdRefIdeal.nD Cert.NormOneBwdRefIdeal.τ).loc Cert.NormOneBwdRefIdeal.main_arg0)
      ∧ r.2.mem ((c.tc : Thread Cert.NormOneBwdRefIdeal.nD Cert.NormOneBwdRefIdeal.τ).loc Cert.NormOneBwdRefIdeal.main_arg1) = m ((c.tc : Thread Cert.NormOneBwdRefIdeal.nD Cert.NormOneBwdRefIdeal.τ).loc Cert.NormOneBwdRefIdeal.main_arg1)
      ∧ r.2.mem ((c.tc : Thread Cert.NormOneBwdRefIdeal.nD Cert.NormOneBwdRefIdeal.τ).loc Cert.NormOneBwdRefIdeal.main_arg2) = m ((c.tc : Thread Cert.NormOneBwdRefIdeal.nD Cert.NormOneBwdRefIdeal.τ).loc Cert.NormOneBwdRefIdeal.main_arg2)
      ∧ r.2.mem ((c.tc : Thread Cert.NormOneBwdRefIdeal.nD Cert.NormOneBwdRefIdeal.τ).loc Cert.NormOneBwdRefIdeal.main_arg3) = m ((c.tc : Thread Cert.NormOneBwdRefIdeal.nD Cert.NormOneBwdRefIdeal.τ).loc Cert.NormOneBwdRefIdeal.main_arg3)
      ∧ r.2.mem ((c.tc : Thread Cert.NormOneBwdRefIdeal.nD Cert.NormOneBwdRefIdeal.τ).loc Cert.NormOneBwdRefIdeal.main_arg4) = m ((c.tc : Thread Cert.NormOneBwdRefIdeal.nD Cert.NormOneBwdRefIdeal.τ).loc Cert.NormOneBwdRefIdeal.main_arg4))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6)
      ∧ r.2.mem ((c.tc : Thread Cert.MergeBwd.nD Cert.MergeBwd.τ).loc Cert.MergeBwd.main_arg7) = m ((c.tc : Thread Cert.MergeBwd.nD Cert.MergeBwd.τ).loc Cert.MergeBwd.main_arg7)
      ∧ r.2.mem ((c.tc : Thread Cert.MergeBwd.nD Cert.MergeBwd.τ).loc Cert.MergeBwd.main_arg8) = m ((c.tc : Thread Cert.MergeBwd.nD Cert.MergeBwd.τ).loc Cert.MergeBwd.main_arg8))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
      ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7)
      ∧ r.2.mem ((c.tc : Thread Cert.MergeBwdIdeal.nD Cert.MergeBwdIdeal.τ).loc Cert.MergeBwdIdeal.main_arg8) = m ((c.tc : Thread Cert.MergeBwdIdeal.nD Cert.MergeBwdIdeal.τ).loc Cert.MergeBwdIdeal.main_arg8))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6)
      ∧ r.2.mem ((c.tc : Thread Cert.MergeBwdRefIdeal.nD Cert.MergeBwdRefIdeal.τ).loc Cert.MergeBwdRefIdeal.main_arg7) = m ((c.tc : Thread Cert.MergeBwdRefIdeal.nD Cert.MergeBwdRefIdeal.τ).loc Cert.MergeBwdRefIdeal.main_arg7)
      ∧ r.2.mem ((c.tc : Thread Cert.MergeBwdRefIdeal.nD Cert.MergeBwdRefIdeal.τ).loc Cert.MergeBwdRefIdeal.main_arg8) = m ((c.tc : Thread Cert.MergeBwdRefIdeal.nD Cert.MergeBwdRefIdeal.τ).loc Cert.MergeBwdRefIdeal.main_arg8))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1)
      ∧ r.2.mem ((c.tc : Thread Cert.UpFwd.nD Cert.UpFwd.τ).loc Cert.UpFwd.main_arg2) = m ((c.tc : Thread Cert.UpFwd.nD Cert.UpFwd.τ).loc Cert.UpFwd.main_arg2)
      ∧ r.2.mem ((c.tc : Thread Cert.UpFwd.nD Cert.UpFwd.τ).loc Cert.UpFwd.main_arg3) = m ((c.tc : Thread Cert.UpFwd.nD Cert.UpFwd.τ).loc Cert.UpFwd.main_arg3))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
      ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2)
      ∧ r.2.mem ((c.tc : Thread Cert.UpFwdIdeal.nD Cert.UpFwdIdeal.τ).loc Cert.UpFwdIdeal.main_arg3) = m ((c.tc : Thread Cert.UpFwdIdeal.nD Cert.UpFwdIdeal.τ).loc Cert.UpFwdIdeal.main_arg3))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1)
      ∧ r.2.mem ((c.tc : Thread Cert.UpFwdRefIdeal.nD Cert.UpFwdRefIdeal.τ).loc Cert.UpFwdRefIdeal.main_arg2) = m ((c.tc : Thread Cert.UpFwdRefIdeal.nD Cert.UpFwdRefIdeal.τ).loc Cert.UpFwdRefIdeal.main_arg2)
      ∧ r.2.mem ((c.tc : Thread Cert.UpFwdRefIdeal.nD Cert.UpFwdRefIdeal.τ).loc Cert.UpFwdRefIdeal.main_arg3) = m ((c.tc : Thread Cert.UpFwdRefIdeal.nD Cert.UpFwdRefIdeal.τ).loc Cert.UpFwdRefIdeal.main_arg3))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6)
      ∧ r.2.mem ((c.tc : Thread Cert.MergeFwd.nD Cert.MergeFwd.τ).loc Cert.MergeFwd.main_arg7) = m ((c.tc : Thread Cert.MergeFwd.nD Cert.MergeFwd.τ).loc Cert.MergeFwd.main_arg7)
      ∧ r.2.mem ((c.tc : Thread Cert.MergeFwd.nD Cert.MergeFwd.τ).loc Cert.MergeFwd.main_arg8) = m ((c.tc : Thread Cert.MergeFwd.nD Cert.MergeFwd.τ).loc Cert.MergeFwd.main_arg8)
      ∧ r.2.mem ((c.tc : Thread Cert.MergeFwd.nD Cert.MergeFwd.τ).loc Cert.MergeFwd.main_arg9) = m ((c.tc : Thread Cert.MergeFwd.nD Cert.MergeFwd.τ).loc Cert.MergeFwd.main_arg9))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
      ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
      ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8)
      ∧ r.2.mem ((c.tc : Thread Cert.MergeFwdIdeal.nD Cert.MergeFwdIdeal.τ).loc Cert.MergeFwdIdeal.main_arg9) = m ((c.tc : Thread Cert.MergeFwdIdeal.nD Cert.MergeFwdIdeal.τ).loc Cert.MergeFwdIdeal.main_arg9))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6)
      ∧ r.2.mem ((c.tc : Thread Cert.MergeFwdRefIdeal.nD Cert.MergeFwdRefIdeal.τ).loc Cert.MergeFwdRefIdeal.main_arg7) = m ((c.tc : Thread Cert.MergeFwdRefIdeal.nD Cert.MergeFwdRefIdeal.τ).loc Cert.MergeFwdRefIdeal.main_arg7)
      ∧ r.2.mem ((c.tc : Thread Cert.MergeFwdRefIdeal.nD Cert.MergeFwdRefIdeal.τ).loc Cert.MergeFwdRefIdeal.main_arg8) = m ((c.tc : Thread Cert.MergeFwdRefIdeal.nD Cert.MergeFwdRefIdeal.τ).loc Cert.MergeFwdRefIdeal.main_arg8)
      ∧ r.2.mem ((c.tc : Thread Cert.MergeFwdRefIdeal.nD Cert.MergeFwdRefIdeal.τ).loc Cert.MergeFwdRefIdeal.main_arg9) = m ((c.tc : Thread Cert.MergeFwdRefIdeal.nD Cert.MergeFwdRefIdeal.τ).loc Cert.MergeFwdRefIdeal.main_arg9))
      ∧ r.2.sem = fun _ => 0)

def quiescent_UpdIn [hUpdIn : Cert.UpdIn.Facts] : Prop :=
  ∀ (m : (ℓ : Loc Cert.UpdIn.nD Cert.UpdIn.τ Cert.UpdIn.sig) → Buf (Elt Bits) ℓ) (g : Dev Cert.UpdIn.nD → PrngReg), Pre_UpdIn m →
    θ_run (Cert.UpdIn.defs (F := Bits)) (onTc (τ := Cert.UpdIn.τ) (Cert.UpdIn.main (F := Bits))) ⟨m, fun _ => 0, g⟩ (fun r => (∀ c : Dev Cert.UpdIn.nD,
      r.2.mem ((c.tc : Thread Cert.UpdIn.nD Cert.UpdIn.τ).loc Cert.UpdIn.main_arg0) = m ((c.tc : Thread Cert.UpdIn.nD Cert.UpdIn.τ).loc Cert.UpdIn.main_arg0)
      ∧ r.2.mem ((c.tc : Thread Cert.UpdIn.nD Cert.UpdIn.τ).loc Cert.UpdIn.main_arg1) = m ((c.tc : Thread Cert.UpdIn.nD Cert.UpdIn.τ).loc Cert.UpdIn.main_arg1)
      ∧ r.2.mem ((c.tc : Thread Cert.UpdIn.nD Cert.UpdIn.τ).loc Cert.UpdIn.main_arg2) = m ((c.tc : Thread Cert.UpdIn.nD Cert.UpdIn.τ).loc Cert.UpdIn.main_arg2)
      ∧ r.2.mem ((c.tc : Thread Cert.UpdIn.nD Cert.UpdIn.τ).loc Cert.UpdIn.main_arg3) = m ((c.tc : Thread Cert.UpdIn.nD Cert.UpdIn.τ).loc Cert.UpdIn.main_arg3)
      ∧ r.2.mem ((c.tc : Thread Cert.UpdIn.nD Cert.UpdIn.τ).loc Cert.UpdIn.main_arg4) = m ((c.tc : Thread Cert.UpdIn.nD Cert.UpdIn.τ).loc Cert.UpdIn.main_arg4))
      ∧ r.2.sem = fun _ => 0)

def quiescent_UpdInIdeal [hUpdInIdeal : Cert.UpdInIdeal.Facts] : Prop :=
  ∀ (m : (ℓ : Loc Cert.UpdInIdeal.nD Cert.UpdInIdeal.τ Cert.UpdInIdeal.sig) → Buf (Elt Ideal) ℓ) (g : Dev Cert.UpdInIdeal.nD → PrngReg), Pre_UpdInIdeal m →
    θ_run (Cert.UpdInIdeal.defs (F := Ideal)) (onTc (τ := Cert.UpdInIdeal.τ) (Cert.UpdInIdeal.main (F := Ideal))) ⟨m, fun _ => 0, g⟩ (fun r => (∀ c : Dev Cert.UpdInIdeal.nD,
      r.2.mem ((c.tc : Thread Cert.UpdInIdeal.nD Cert.UpdInIdeal.τ).loc Cert.UpdInIdeal.main_arg0) = m ((c.tc : Thread Cert.UpdInIdeal.nD Cert.UpdInIdeal.τ).loc Cert.UpdInIdeal.main_arg0)
      ∧ r.2.mem ((c.tc : Thread Cert.UpdInIdeal.nD Cert.UpdInIdeal.τ).loc Cert.UpdInIdeal.main_arg1) = m ((c.tc : Thread Cert.UpdInIdeal.nD Cert.UpdInIdeal.τ).loc Cert.UpdInIdeal.main_arg1)
      ∧ r.2.mem ((c.tc : Thread Cert.UpdInIdeal.nD Cert.UpdInIdeal.τ).loc Cert.UpdInIdeal.main_arg2) = m ((c.tc : Thread Cert.UpdInIdeal.nD Cert.UpdInIdeal.τ).loc Cert.UpdInIdeal.main_arg2)
      ∧ r.2.mem ((c.tc : Thread Cert.UpdInIdeal.nD Cert.UpdInIdeal.τ).loc Cert.UpdInIdeal.main_arg3) = m ((c.tc : Thread Cert.UpdInIdeal.nD Cert.UpdInIdeal.τ).loc Cert.UpdInIdeal.main_arg3)
      ∧ r.2.mem ((c.tc : Thread Cert.UpdInIdeal.nD Cert.UpdInIdeal.τ).loc Cert.UpdInIdeal.main_arg4) = m ((c.tc : Thread Cert.UpdInIdeal.nD Cert.UpdInIdeal.τ).loc Cert.UpdInIdeal.main_arg4))
      ∧ r.2.sem = fun _ => 0)

def quiescent_UpdInRefIdeal [hUpdInRefIdeal : Cert.UpdInRefIdeal.Facts] : Prop :=
  ∀ (m : (ℓ : Loc Cert.UpdInRefIdeal.nD Cert.UpdInRefIdeal.τ Cert.UpdInRefIdeal.sig) → Buf (Elt Ideal) ℓ) (g : Dev Cert.UpdInRefIdeal.nD → PrngReg), Pre_UpdInRefIdeal m →
    θ_run (Cert.UpdInRefIdeal.defs (F := Ideal)) (onTc (τ := Cert.UpdInRefIdeal.τ) (Cert.UpdInRefIdeal.main (F := Ideal))) ⟨m, fun _ => 0, g⟩ (fun r => (∀ c : Dev Cert.UpdInRefIdeal.nD,
      r.2.mem ((c.tc : Thread Cert.UpdInRefIdeal.nD Cert.UpdInRefIdeal.τ).loc Cert.UpdInRefIdeal.main_arg0) = m ((c.tc : Thread Cert.UpdInRefIdeal.nD Cert.UpdInRefIdeal.τ).loc Cert.UpdInRefIdeal.main_arg0)
      ∧ r.2.mem ((c.tc : Thread Cert.UpdInRefIdeal.nD Cert.UpdInRefIdeal.τ).loc Cert.UpdInRefIdeal.main_arg1) = m ((c.tc : Thread Cert.UpdInRefIdeal.nD Cert.UpdInRefIdeal.τ).loc Cert.UpdInRefIdeal.main_arg1)
      ∧ r.2.mem ((c.tc : Thread Cert.UpdInRefIdeal.nD Cert.UpdInRefIdeal.τ).loc Cert.UpdInRefIdeal.main_arg2) = m ((c.tc : Thread Cert.UpdInRefIdeal.nD Cert.UpdInRefIdeal.τ).loc Cert.UpdInRefIdeal.main_arg2)
      ∧ r.2.mem ((c.tc : Thread Cert.UpdInRefIdeal.nD Cert.UpdInRefIdeal.τ).loc Cert.UpdInRefIdeal.main_arg3) = m ((c.tc : Thread Cert.UpdInRefIdeal.nD Cert.UpdInRefIdeal.τ).loc Cert.UpdInRefIdeal.main_arg3)
      ∧ r.2.mem ((c.tc : Thread Cert.UpdInRefIdeal.nD Cert.UpdInRefIdeal.τ).loc Cert.UpdInRefIdeal.main_arg4) = m ((c.tc : Thread Cert.UpdInRefIdeal.nD Cert.UpdInRefIdeal.τ).loc Cert.UpdInRefIdeal.main_arg4))
      ∧ r.2.sem = fun _ => 0)

def quiescent_UpdKv [hUpdKv : Cert.UpdKv.Facts] : Prop :=
  ∀ (m : (ℓ : Loc Cert.UpdKv.nD Cert.UpdKv.τ Cert.UpdKv.sig) → Buf (Elt Bits) ℓ) (g : Dev Cert.UpdKv.nD → PrngReg), Pre_UpdKv m →
    θ_run (Cert.UpdKv.defs (F := Bits)) (onTc (τ := Cert.UpdKv.τ) (Cert.UpdKv.main (F := Bits))) ⟨m, fun _ => 0, g⟩ (fun r => (∀ c : Dev Cert.UpdKv.nD,
      r.2.mem ((c.tc : Thread Cert.UpdKv.nD Cert.UpdKv.τ).loc Cert.UpdKv.main_arg0) = m ((c.tc : Thread Cert.UpdKv.nD Cert.UpdKv.τ).loc Cert.UpdKv.main_arg0)
      ∧ r.2.mem ((c.tc : Thread Cert.UpdKv.nD Cert.UpdKv.τ).loc Cert.UpdKv.main_arg1) = m ((c.tc : Thread Cert.UpdKv.nD Cert.UpdKv.τ).loc Cert.UpdKv.main_arg1)
      ∧ r.2.mem ((c.tc : Thread Cert.UpdKv.nD Cert.UpdKv.τ).loc Cert.UpdKv.main_arg2) = m ((c.tc : Thread Cert.UpdKv.nD Cert.UpdKv.τ).loc Cert.UpdKv.main_arg2)
      ∧ r.2.mem ((c.tc : Thread Cert.UpdKv.nD Cert.UpdKv.τ).loc Cert.UpdKv.main_arg3) = m ((c.tc : Thread Cert.UpdKv.nD Cert.UpdKv.τ).loc Cert.UpdKv.main_arg3))
      ∧ r.2.sem = fun _ => 0)

def quiescent_UpdKvIdeal [hUpdKvIdeal : Cert.UpdKvIdeal.Facts] : Prop :=
  ∀ (m : (ℓ : Loc Cert.UpdKvIdeal.nD Cert.UpdKvIdeal.τ Cert.UpdKvIdeal.sig) → Buf (Elt Ideal) ℓ) (g : Dev Cert.UpdKvIdeal.nD → PrngReg), Pre_UpdKvIdeal m →
    θ_run (Cert.UpdKvIdeal.defs (F := Ideal)) (onTc (τ := Cert.UpdKvIdeal.τ) (Cert.UpdKvIdeal.main (F := Ideal))) ⟨m, fun _ => 0, g⟩ (fun r => (∀ c : Dev Cert.UpdKvIdeal.nD,
      r.2.mem ((c.tc : Thread Cert.UpdKvIdeal.nD Cert.UpdKvIdeal.τ).loc Cert.UpdKvIdeal.main_arg0) = m ((c.tc : Thread Cert.UpdKvIdeal.nD Cert.UpdKvIdeal.τ).loc Cert.UpdKvIdeal.main_arg0)
      ∧ r.2.mem ((c.tc : Thread Cert.UpdKvIdeal.nD Cert.UpdKvIdeal.τ).loc Cert.UpdKvIdeal.main_arg1) = m ((c.tc : Thread Cert.UpdKvIdeal.nD Cert.UpdKvIdeal.τ).loc Cert.UpdKvIdeal.main_arg1)
      ∧ r.2.mem ((c.tc : Thread Cert.UpdKvIdeal.nD Cert.UpdKvIdeal.τ).loc Cert.UpdKvIdeal.main_arg2) = m ((c.tc : Thread Cert.UpdKvIdeal.nD Cert.UpdKvIdeal.τ).loc Cert.UpdKvIdeal.main_arg2)
      ∧ r.2.mem ((c.tc : Thread Cert.UpdKvIdeal.nD Cert.UpdKvIdeal.τ).loc Cert.UpdKvIdeal.main_arg3) = m ((c.tc : Thread Cert.UpdKvIdeal.nD Cert.UpdKvIdeal.τ).loc Cert.UpdKvIdeal.main_arg3))
      ∧ r.2.sem = fun _ => 0)

def quiescent_UpdKvRefIdeal [hUpdKvRefIdeal : Cert.UpdKvRefIdeal.Facts] : Prop :=
  ∀ (m : (ℓ : Loc Cert.UpdKvRefIdeal.nD Cert.UpdKvRefIdeal.τ Cert.UpdKvRefIdeal.sig) → Buf (Elt Ideal) ℓ) (g : Dev Cert.UpdKvRefIdeal.nD → PrngReg), Pre_UpdKvRefIdeal m →
    θ_run (Cert.UpdKvRefIdeal.defs (F := Ideal)) (onTc (τ := Cert.UpdKvRefIdeal.τ) (Cert.UpdKvRefIdeal.main (F := Ideal))) ⟨m, fun _ => 0, g⟩ (fun r => (∀ c : Dev Cert.UpdKvRefIdeal.nD,
      r.2.mem ((c.tc : Thread Cert.UpdKvRefIdeal.nD Cert.UpdKvRefIdeal.τ).loc Cert.UpdKvRefIdeal.main_arg0) = m ((c.tc : Thread Cert.UpdKvRefIdeal.nD Cert.UpdKvRefIdeal.τ).loc Cert.UpdKvRefIdeal.main_arg0)
      ∧ r.2.mem ((c.tc : Thread Cert.UpdKvRefIdeal.nD Cert.UpdKvRefIdeal.τ).loc Cert.UpdKvRefIdeal.main_arg1) = m ((c.tc : Thread Cert.UpdKvRefIdeal.nD Cert.UpdKvRefIdeal.τ).loc Cert.UpdKvRefIdeal.main_arg1)
      ∧ r.2.mem ((c.tc : Thread Cert.UpdKvRefIdeal.nD Cert.UpdKvRefIdeal.τ).loc Cert.UpdKvRefIdeal.main_arg2) = m ((c.tc : Thread Cert.UpdKvRefIdeal.nD Cert.UpdKvRefIdeal.τ).loc Cert.UpdKvRefIdeal.main_arg2)
      ∧ r.2.mem ((c.tc : Thread Cert.UpdKvRefIdeal.nD Cert.UpdKvRefIdeal.τ).loc Cert.UpdKvRefIdeal.main_arg3) = m ((c.tc : Thread Cert.UpdKvRefIdeal.nD Cert.UpdKvRefIdeal.τ).loc Cert.UpdKvRefIdeal.main_arg3))
      ∧ r.2.sem = fun _ => 0)

def quiescent_UpdBranch [hUpdBranch : Cert.UpdBranch.Facts] : Prop :=
  ∀ (m : (ℓ : Loc Cert.UpdBranch.nD Cert.UpdBranch.τ Cert.UpdBranch.sig) → Buf (Elt Bits) ℓ) (g : Dev Cert.UpdBranch.nD → PrngReg), Pre_UpdBranch m →
    θ_run (Cert.UpdBranch.defs (F := Bits)) (onTc (τ := Cert.UpdBranch.τ) (Cert.UpdBranch.main (F := Bits))) ⟨m, fun _ => 0, g⟩ (fun r => (∀ c : Dev Cert.UpdBranch.nD,
      r.2.mem ((c.tc : Thread Cert.UpdBranch.nD Cert.UpdBranch.τ).loc Cert.UpdBranch.main_arg0) = m ((c.tc : Thread Cert.UpdBranch.nD Cert.UpdBranch.τ).loc Cert.UpdBranch.main_arg0)
      ∧ r.2.mem ((c.tc : Thread Cert.UpdBranch.nD Cert.UpdBranch.τ).loc Cert.UpdBranch.main_arg1) = m ((c.tc : Thread Cert.UpdBranch.nD Cert.UpdBranch.τ).loc Cert.UpdBranch.main_arg1)
      ∧ r.2.mem ((c.tc : Thread Cert.UpdBranch.nD Cert.UpdBranch.τ).loc Cert.UpdBranch.main_arg2) = m ((c.tc : Thread Cert.UpdBranch.nD Cert.UpdBranch.τ).loc Cert.UpdBranch.main_arg2)
      ∧ r.2.mem ((c.tc : Thread Cert.UpdBranch.nD Cert.UpdBranch.τ).loc Cert.UpdBranch.main_arg3) = m ((c.tc : Thread Cert.UpdBranch.nD Cert.UpdBranch.τ).loc Cert.UpdBranch.main_arg3))
      ∧ r.2.sem = fun _ => 0)

def quiescent_UpdBranchIdeal [hUpdBranchIdeal : Cert.UpdBranchIdeal.Facts] : Prop :=
  ∀ (m : (ℓ : Loc Cert.UpdBranchIdeal.nD Cert.UpdBranchIdeal.τ Cert.UpdBranchIdeal.sig) → Buf (Elt Ideal) ℓ) (g : Dev Cert.UpdBranchIdeal.nD → PrngReg), Pre_UpdBranchIdeal m →
    θ_run (Cert.UpdBranchIdeal.defs (F := Ideal)) (onTc (τ := Cert.UpdBranchIdeal.τ) (Cert.UpdBranchIdeal.main (F := Ideal))) ⟨m, fun _ => 0, g⟩ (fun r => (∀ c : Dev Cert.UpdBranchIdeal.nD,
      r.2.mem ((c.tc : Thread Cert.UpdBranchIdeal.nD Cert.UpdBranchIdeal.τ).loc Cert.UpdBranchIdeal.main_arg0) = m ((c.tc : Thread Cert.UpdBranchIdeal.nD Cert.UpdBranchIdeal.τ).loc Cert.UpdBranchIdeal.main_arg0)
      ∧ r.2.mem ((c.tc : Thread Cert.UpdBranchIdeal.nD Cert.UpdBranchIdeal.τ).loc Cert.UpdBranchIdeal.main_arg1) = m ((c.tc : Thread Cert.UpdBranchIdeal.nD Cert.UpdBranchIdeal.τ).loc Cert.UpdBranchIdeal.main_arg1)
      ∧ r.2.mem ((c.tc : Thread Cert.UpdBranchIdeal.nD Cert.UpdBranchIdeal.τ).loc Cert.UpdBranchIdeal.main_arg2) = m ((c.tc : Thread Cert.UpdBranchIdeal.nD Cert.UpdBranchIdeal.τ).loc Cert.UpdBranchIdeal.main_arg2)
      ∧ r.2.mem ((c.tc : Thread Cert.UpdBranchIdeal.nD Cert.UpdBranchIdeal.τ).loc Cert.UpdBranchIdeal.main_arg3) = m ((c.tc : Thread Cert.UpdBranchIdeal.nD Cert.UpdBranchIdeal.τ).loc Cert.UpdBranchIdeal.main_arg3))
      ∧ r.2.sem = fun _ => 0)

def quiescent_UpdBranchRefIdeal [hUpdBranchRefIdeal : Cert.UpdBranchRefIdeal.Facts] : Prop :=
  ∀ (m : (ℓ : Loc Cert.UpdBranchRefIdeal.nD Cert.UpdBranchRefIdeal.τ Cert.UpdBranchRefIdeal.sig) → Buf (Elt Ideal) ℓ) (g : Dev Cert.UpdBranchRefIdeal.nD → PrngReg), Pre_UpdBranchRefIdeal m →
    θ_run (Cert.UpdBranchRefIdeal.defs (F := Ideal)) (onTc (τ := Cert.UpdBranchRefIdeal.τ) (Cert.UpdBranchRefIdeal.main (F := Ideal))) ⟨m, fun _ => 0, g⟩ (fun r => (∀ c : Dev Cert.UpdBranchRefIdeal.nD,
      r.2.mem ((c.tc : Thread Cert.UpdBranchRefIdeal.nD Cert.UpdBranchRefIdeal.τ).loc Cert.UpdBranchRefIdeal.main_arg0) = m ((c.tc : Thread Cert.UpdBranchRefIdeal.nD Cert.UpdBranchRefIdeal.τ).loc Cert.UpdBranchRefIdeal.main_arg0)
      ∧ r.2.mem ((c.tc : Thread Cert.UpdBranchRefIdeal.nD Cert.UpdBranchRefIdeal.τ).loc Cert.UpdBranchRefIdeal.main_arg1) = m ((c.tc : Thread Cert.UpdBranchRefIdeal.nD Cert.UpdBranchRefIdeal.τ).loc Cert.UpdBranchRefIdeal.main_arg1)
      ∧ r.2.mem ((c.tc : Thread Cert.UpdBranchRefIdeal.nD Cert.UpdBranchRefIdeal.τ).loc Cert.UpdBranchRefIdeal.main_arg2) = m ((c.tc : Thread Cert.UpdBranchRefIdeal.nD Cert.UpdBranchRefIdeal.τ).loc Cert.UpdBranchRefIdeal.main_arg2)
      ∧ r.2.mem ((c.tc : Thread Cert.UpdBranchRefIdeal.nD Cert.UpdBranchRefIdeal.τ).loc Cert.UpdBranchRefIdeal.main_arg3) = m ((c.tc : Thread Cert.UpdBranchRefIdeal.nD Cert.UpdBranchRefIdeal.τ).loc Cert.UpdBranchRefIdeal.main_arg3))
      ∧ r.2.sem = fun _ => 0)

def quiescent_UpdOut [hUpdOut : Cert.UpdOut.Facts] : Prop :=
  ∀ (m : (ℓ : Loc Cert.UpdOut.nD Cert.UpdOut.τ Cert.UpdOut.sig) → Buf (Elt Bits) ℓ) (g : Dev Cert.UpdOut.nD → PrngReg), Pre_UpdOut m →
    θ_run (Cert.UpdOut.defs (F := Bits)) (onTc (τ := Cert.UpdOut.τ) (Cert.UpdOut.main (F := Bits))) ⟨m, fun _ => 0, g⟩ (fun r => (∀ c : Dev Cert.UpdOut.nD,
      r.2.mem ((c.tc : Thread Cert.UpdOut.nD Cert.UpdOut.τ).loc Cert.UpdOut.main_arg0) = m ((c.tc : Thread Cert.UpdOut.nD Cert.UpdOut.τ).loc Cert.UpdOut.main_arg0)
      ∧ r.2.mem ((c.tc : Thread Cert.UpdOut.nD Cert.UpdOut.τ).loc Cert.UpdOut.main_arg1) = m ((c.tc : Thread Cert.UpdOut.nD Cert.UpdOut.τ).loc Cert.UpdOut.main_arg1)
      ∧ r.2.mem ((c.tc : Thread Cert.UpdOut.nD Cert.UpdOut.τ).loc Cert.UpdOut.main_arg2) = m ((c.tc : Thread Cert.UpdOut.nD Cert.UpdOut.τ).loc Cert.UpdOut.main_arg2)
      ∧ r.2.mem ((c.tc : Thread Cert.UpdOut.nD Cert.UpdOut.τ).loc Cert.UpdOut.main_arg3) = m ((c.tc : Thread Cert.UpdOut.nD Cert.UpdOut.τ).loc Cert.UpdOut.main_arg3))
      ∧ r.2.sem = fun _ => 0)

def quiescent_UpdOutIdeal [hUpdOutIdeal : Cert.UpdOutIdeal.Facts] : Prop :=
  ∀ (m : (ℓ : Loc Cert.UpdOutIdeal.nD Cert.UpdOutIdeal.τ Cert.UpdOutIdeal.sig) → Buf (Elt Ideal) ℓ) (g : Dev Cert.UpdOutIdeal.nD → PrngReg), Pre_UpdOutIdeal m →
    θ_run (Cert.UpdOutIdeal.defs (F := Ideal)) (onTc (τ := Cert.UpdOutIdeal.τ) (Cert.UpdOutIdeal.main (F := Ideal))) ⟨m, fun _ => 0, g⟩ (fun r => (∀ c : Dev Cert.UpdOutIdeal.nD,
      r.2.mem ((c.tc : Thread Cert.UpdOutIdeal.nD Cert.UpdOutIdeal.τ).loc Cert.UpdOutIdeal.main_arg0) = m ((c.tc : Thread Cert.UpdOutIdeal.nD Cert.UpdOutIdeal.τ).loc Cert.UpdOutIdeal.main_arg0)
      ∧ r.2.mem ((c.tc : Thread Cert.UpdOutIdeal.nD Cert.UpdOutIdeal.τ).loc Cert.UpdOutIdeal.main_arg1) = m ((c.tc : Thread Cert.UpdOutIdeal.nD Cert.UpdOutIdeal.τ).loc Cert.UpdOutIdeal.main_arg1)
      ∧ r.2.mem ((c.tc : Thread Cert.UpdOutIdeal.nD Cert.UpdOutIdeal.τ).loc Cert.UpdOutIdeal.main_arg2) = m ((c.tc : Thread Cert.UpdOutIdeal.nD Cert.UpdOutIdeal.τ).loc Cert.UpdOutIdeal.main_arg2)
      ∧ r.2.mem ((c.tc : Thread Cert.UpdOutIdeal.nD Cert.UpdOutIdeal.τ).loc Cert.UpdOutIdeal.main_arg3) = m ((c.tc : Thread Cert.UpdOutIdeal.nD Cert.UpdOutIdeal.τ).loc Cert.UpdOutIdeal.main_arg3))
      ∧ r.2.sem = fun _ => 0)

def quiescent_UpdOutRefIdeal [hUpdOutRefIdeal : Cert.UpdOutRefIdeal.Facts] : Prop :=
  ∀ (m : (ℓ : Loc Cert.UpdOutRefIdeal.nD Cert.UpdOutRefIdeal.τ Cert.UpdOutRefIdeal.sig) → Buf (Elt Ideal) ℓ) (g : Dev Cert.UpdOutRefIdeal.nD → PrngReg), Pre_UpdOutRefIdeal m →
    θ_run (Cert.UpdOutRefIdeal.defs (F := Ideal)) (onTc (τ := Cert.UpdOutRefIdeal.τ) (Cert.UpdOutRefIdeal.main (F := Ideal))) ⟨m, fun _ => 0, g⟩ (fun r => (∀ c : Dev Cert.UpdOutRefIdeal.nD,
      r.2.mem ((c.tc : Thread Cert.UpdOutRefIdeal.nD Cert.UpdOutRefIdeal.τ).loc Cert.UpdOutRefIdeal.main_arg0) = m ((c.tc : Thread Cert.UpdOutRefIdeal.nD Cert.UpdOutRefIdeal.τ).loc Cert.UpdOutRefIdeal.main_arg0)
      ∧ r.2.mem ((c.tc : Thread Cert.UpdOutRefIdeal.nD Cert.UpdOutRefIdeal.τ).loc Cert.UpdOutRefIdeal.main_arg1) = m ((c.tc : Thread Cert.UpdOutRefIdeal.nD Cert.UpdOutRefIdeal.τ).loc Cert.UpdOutRefIdeal.main_arg1)
      ∧ r.2.mem ((c.tc : Thread Cert.UpdOutRefIdeal.nD Cert.UpdOutRefIdeal.τ).loc Cert.UpdOutRefIdeal.main_arg2) = m ((c.tc : Thread Cert.UpdOutRefIdeal.nD Cert.UpdOutRefIdeal.τ).loc Cert.UpdOutRefIdeal.main_arg2)
      ∧ r.2.mem ((c.tc : Thread Cert.UpdOutRefIdeal.nD Cert.UpdOutRefIdeal.τ).loc Cert.UpdOutRefIdeal.main_arg3) = m ((c.tc : Thread Cert.UpdOutRefIdeal.nD Cert.UpdOutRefIdeal.τ).loc Cert.UpdOutRefIdeal.main_arg3))
      ∧ r.2.sem = fun _ => 0)

def quiescent_UpdUp [hUpdUp : Cert.UpdUp.Facts] : Prop :=
  ∀ (m : (ℓ : Loc Cert.UpdUp.nD Cert.UpdUp.τ Cert.UpdUp.sig) → Buf (Elt Bits) ℓ) (g : Dev Cert.UpdUp.nD → PrngReg), Pre_UpdUp m →
    θ_run (Cert.UpdUp.defs (F := Bits)) (onTc (τ := Cert.UpdUp.τ) (Cert.UpdUp.main (F := Bits))) ⟨m, fun _ => 0, g⟩ (fun r => (∀ c : Dev Cert.UpdUp.nD,
      r.2.mem ((c.tc : Thread Cert.UpdUp.nD Cert.UpdUp.τ).loc Cert.UpdUp.main_arg0) = m ((c.tc : Thread Cert.UpdUp.nD Cert.UpdUp.τ).loc Cert.UpdUp.main_arg0)
      ∧ r.2.mem ((c.tc : Thread Cert.UpdUp.nD Cert.UpdUp.τ).loc Cert.UpdUp.main_arg1) = m ((c.tc : Thread Cert.UpdUp.nD Cert.UpdUp.τ).loc Cert.UpdUp.main_arg1)
      ∧ r.2.mem ((c.tc : Thread Cert.UpdUp.nD Cert.UpdUp.τ).loc Cert.UpdUp.main_arg2) = m ((c.tc : Thread Cert.UpdUp.nD Cert.UpdUp.τ).loc Cert.UpdUp.main_arg2)
      ∧ r.2.mem ((c.tc : Thread Cert.UpdUp.nD Cert.UpdUp.τ).loc Cert.UpdUp.main_arg3) = m ((c.tc : Thread Cert.UpdUp.nD Cert.UpdUp.τ).loc Cert.UpdUp.main_arg3))
      ∧ r.2.sem = fun _ => 0)

def quiescent_UpdUpIdeal [hUpdUpIdeal : Cert.UpdUpIdeal.Facts] : Prop :=
  ∀ (m : (ℓ : Loc Cert.UpdUpIdeal.nD Cert.UpdUpIdeal.τ Cert.UpdUpIdeal.sig) → Buf (Elt Ideal) ℓ) (g : Dev Cert.UpdUpIdeal.nD → PrngReg), Pre_UpdUpIdeal m →
    θ_run (Cert.UpdUpIdeal.defs (F := Ideal)) (onTc (τ := Cert.UpdUpIdeal.τ) (Cert.UpdUpIdeal.main (F := Ideal))) ⟨m, fun _ => 0, g⟩ (fun r => (∀ c : Dev Cert.UpdUpIdeal.nD,
      r.2.mem ((c.tc : Thread Cert.UpdUpIdeal.nD Cert.UpdUpIdeal.τ).loc Cert.UpdUpIdeal.main_arg0) = m ((c.tc : Thread Cert.UpdUpIdeal.nD Cert.UpdUpIdeal.τ).loc Cert.UpdUpIdeal.main_arg0)
      ∧ r.2.mem ((c.tc : Thread Cert.UpdUpIdeal.nD Cert.UpdUpIdeal.τ).loc Cert.UpdUpIdeal.main_arg1) = m ((c.tc : Thread Cert.UpdUpIdeal.nD Cert.UpdUpIdeal.τ).loc Cert.UpdUpIdeal.main_arg1)
      ∧ r.2.mem ((c.tc : Thread Cert.UpdUpIdeal.nD Cert.UpdUpIdeal.τ).loc Cert.UpdUpIdeal.main_arg2) = m ((c.tc : Thread Cert.UpdUpIdeal.nD Cert.UpdUpIdeal.τ).loc Cert.UpdUpIdeal.main_arg2)
      ∧ r.2.mem ((c.tc : Thread Cert.UpdUpIdeal.nD Cert.UpdUpIdeal.τ).loc Cert.UpdUpIdeal.main_arg3) = m ((c.tc : Thread Cert.UpdUpIdeal.nD Cert.UpdUpIdeal.τ).loc Cert.UpdUpIdeal.main_arg3))
      ∧ r.2.sem = fun _ => 0)

def quiescent_UpdUpRefIdeal [hUpdUpRefIdeal : Cert.UpdUpRefIdeal.Facts] : Prop :=
  ∀ (m : (ℓ : Loc Cert.UpdUpRefIdeal.nD Cert.UpdUpRefIdeal.τ Cert.UpdUpRefIdeal.sig) → Buf (Elt Ideal) ℓ) (g : Dev Cert.UpdUpRefIdeal.nD → PrngReg), Pre_UpdUpRefIdeal m →
    θ_run (Cert.UpdUpRefIdeal.defs (F := Ideal)) (onTc (τ := Cert.UpdUpRefIdeal.τ) (Cert.UpdUpRefIdeal.main (F := Ideal))) ⟨m, fun _ => 0, g⟩ (fun r => (∀ c : Dev Cert.UpdUpRefIdeal.nD,
      r.2.mem ((c.tc : Thread Cert.UpdUpRefIdeal.nD Cert.UpdUpRefIdeal.τ).loc Cert.UpdUpRefIdeal.main_arg0) = m ((c.tc : Thread Cert.UpdUpRefIdeal.nD Cert.UpdUpRefIdeal.τ).loc Cert.UpdUpRefIdeal.main_arg0)
      ∧ r.2.mem ((c.tc : Thread Cert.UpdUpRefIdeal.nD Cert.UpdUpRefIdeal.τ).loc Cert.UpdUpRefIdeal.main_arg1) = m ((c.tc : Thread Cert.UpdUpRefIdeal.nD Cert.UpdUpRefIdeal.τ).loc Cert.UpdUpRefIdeal.main_arg1)
      ∧ r.2.mem ((c.tc : Thread Cert.UpdUpRefIdeal.nD Cert.UpdUpRefIdeal.τ).loc Cert.UpdUpRefIdeal.main_arg2) = m ((c.tc : Thread Cert.UpdUpRefIdeal.nD Cert.UpdUpRefIdeal.τ).loc Cert.UpdUpRefIdeal.main_arg2)
      ∧ r.2.mem ((c.tc : Thread Cert.UpdUpRefIdeal.nD Cert.UpdUpRefIdeal.τ).loc Cert.UpdUpRefIdeal.main_arg3) = m ((c.tc : Thread Cert.UpdUpRefIdeal.nD Cert.UpdUpRefIdeal.τ).loc Cert.UpdUpRefIdeal.main_arg3))
      ∧ r.2.sem = fun _ => 0)

def quiescent_UpdConv [hUpdConv : Cert.UpdConv.Facts] : Prop :=
  ∀ (m : (ℓ : Loc Cert.UpdConv.nD Cert.UpdConv.τ Cert.UpdConv.sig) → Buf (Elt Bits) ℓ) (g : Dev Cert.UpdConv.nD → PrngReg), Pre_UpdConv m →
    θ_run (Cert.UpdConv.defs (F := Bits)) (onTc (τ := Cert.UpdConv.τ) (Cert.UpdConv.main (F := Bits))) ⟨m, fun _ => 0, g⟩ (fun r => (∀ c : Dev Cert.UpdConv.nD,
      r.2.mem ((c.tc : Thread Cert.UpdConv.nD Cert.UpdConv.τ).loc Cert.UpdConv.main_arg0) = m ((c.tc : Thread Cert.UpdConv.nD Cert.UpdConv.τ).loc Cert.UpdConv.main_arg0)
      ∧ r.2.mem ((c.tc : Thread Cert.UpdConv.nD Cert.UpdConv.τ).loc Cert.UpdConv.main_arg1) = m ((c.tc : Thread Cert.UpdConv.nD Cert.UpdConv.τ).loc Cert.UpdConv.main_arg1)
      ∧ r.2.mem ((c.tc : Thread Cert.UpdConv.nD Cert.UpdConv.τ).loc Cert.UpdConv.main_arg2) = m ((c.tc : Thread Cert.UpdConv.nD Cert.UpdConv.τ).loc Cert.UpdConv.main_arg2)
      ∧ r.2.mem ((c.tc : Thread Cert.UpdConv.nD Cert.UpdConv.τ).loc Cert.UpdConv.main_arg3) = m ((c.tc : Thread Cert.UpdConv.nD Cert.UpdConv.τ).loc Cert.UpdConv.main_arg3))
      ∧ r.2.sem = fun _ => 0)

def quiescent_UpdConvIdeal [hUpdConvIdeal : Cert.UpdConvIdeal.Facts] : Prop :=
  ∀ (m : (ℓ : Loc Cert.UpdConvIdeal.nD Cert.UpdConvIdeal.τ Cert.UpdConvIdeal.sig) → Buf (Elt Ideal) ℓ) (g : Dev Cert.UpdConvIdeal.nD → PrngReg), Pre_UpdConvIdeal m →
    θ_run (Cert.UpdConvIdeal.defs (F := Ideal)) (onTc (τ := Cert.UpdConvIdeal.τ) (Cert.UpdConvIdeal.main (F := Ideal))) ⟨m, fun _ => 0, g⟩ (fun r => (∀ c : Dev Cert.UpdConvIdeal.nD,
      r.2.mem ((c.tc : Thread Cert.UpdConvIdeal.nD Cert.UpdConvIdeal.τ).loc Cert.UpdConvIdeal.main_arg0) = m ((c.tc : Thread Cert.UpdConvIdeal.nD Cert.UpdConvIdeal.τ).loc Cert.UpdConvIdeal.main_arg0)
      ∧ r.2.mem ((c.tc : Thread Cert.UpdConvIdeal.nD Cert.UpdConvIdeal.τ).loc Cert.UpdConvIdeal.main_arg1) = m ((c.tc : Thread Cert.UpdConvIdeal.nD Cert.UpdConvIdeal.τ).loc Cert.UpdConvIdeal.main_arg1)
      ∧ r.2.mem ((c.tc : Thread Cert.UpdConvIdeal.nD Cert.UpdConvIdeal.τ).loc Cert.UpdConvIdeal.main_arg2) = m ((c.tc : Thread Cert.UpdConvIdeal.nD Cert.UpdConvIdeal.τ).loc Cert.UpdConvIdeal.main_arg2)
      ∧ r.2.mem ((c.tc : Thread Cert.UpdConvIdeal.nD Cert.UpdConvIdeal.τ).loc Cert.UpdConvIdeal.main_arg3) = m ((c.tc : Thread Cert.UpdConvIdeal.nD Cert.UpdConvIdeal.τ).loc Cert.UpdConvIdeal.main_arg3))
      ∧ r.2.sem = fun _ => 0)

def quiescent_UpdConvRefIdeal [hUpdConvRefIdeal : Cert.UpdConvRefIdeal.Facts] : Prop :=
  ∀ (m : (ℓ : Loc Cert.UpdConvRefIdeal.nD Cert.UpdConvRefIdeal.τ Cert.UpdConvRefIdeal.sig) → Buf (Elt Ideal) ℓ) (g : Dev Cert.UpdConvRefIdeal.nD → PrngReg), Pre_UpdConvRefIdeal m →
    θ_run (Cert.UpdConvRefIdeal.defs (F := Ideal)) (onTc (τ := Cert.UpdConvRefIdeal.τ) (Cert.UpdConvRefIdeal.main (F := Ideal))) ⟨m, fun _ => 0, g⟩ (fun r => (∀ c : Dev Cert.UpdConvRefIdeal.nD,
      r.2.mem ((c.tc : Thread Cert.UpdConvRefIdeal.nD Cert.UpdConvRefIdeal.τ).loc Cert.UpdConvRefIdeal.main_arg0) = m ((c.tc : Thread Cert.UpdConvRefIdeal.nD Cert.UpdConvRefIdeal.τ).loc Cert.UpdConvRefIdeal.main_arg0)
      ∧ r.2.mem ((c.tc : Thread Cert.UpdConvRefIdeal.nD Cert.UpdConvRefIdeal.τ).loc Cert.UpdConvRefIdeal.main_arg1) = m ((c.tc : Thread Cert.UpdConvRefIdeal.nD Cert.UpdConvRefIdeal.τ).loc Cert.UpdConvRefIdeal.main_arg1)
      ∧ r.2.mem ((c.tc : Thread Cert.UpdConvRefIdeal.nD Cert.UpdConvRefIdeal.τ).loc Cert.UpdConvRefIdeal.main_arg2) = m ((c.tc : Thread Cert.UpdConvRefIdeal.nD Cert.UpdConvRefIdeal.τ).loc Cert.UpdConvRefIdeal.main_arg2)
      ∧ r.2.mem ((c.tc : Thread Cert.UpdConvRefIdeal.nD Cert.UpdConvRefIdeal.τ).loc Cert.UpdConvRefIdeal.main_arg3) = m ((c.tc : Thread Cert.UpdConvRefIdeal.nD Cert.UpdConvRefIdeal.τ).loc Cert.UpdConvRefIdeal.main_arg3))
      ∧ r.2.sem = fun _ => 0)

def quiescent_UpdDown [hUpdDown : Cert.UpdDown.Facts] : Prop :=
  ∀ (m : (ℓ : Loc Cert.UpdDown.nD Cert.UpdDown.τ Cert.UpdDown.sig) → Buf (Elt Bits) ℓ) (g : Dev Cert.UpdDown.nD → PrngReg), Pre_UpdDown m →
    θ_run (Cert.UpdDown.defs (F := Bits)) (onTc (τ := Cert.UpdDown.τ) (Cert.UpdDown.main (F := Bits))) ⟨m, fun _ => 0, g⟩ (fun r => (∀ c : Dev Cert.UpdDown.nD,
      r.2.mem ((c.tc : Thread Cert.UpdDown.nD Cert.UpdDown.τ).loc Cert.UpdDown.main_arg0) = m ((c.tc : Thread Cert.UpdDown.nD Cert.UpdDown.τ).loc Cert.UpdDown.main_arg0)
      ∧ r.2.mem ((c.tc : Thread Cert.UpdDown.nD Cert.UpdDown.τ).loc Cert.UpdDown.main_arg1) = m ((c.tc : Thread Cert.UpdDown.nD Cert.UpdDown.τ).loc Cert.UpdDown.main_arg1)
      ∧ r.2.mem ((c.tc : Thread Cert.UpdDown.nD Cert.UpdDown.τ).loc Cert.UpdDown.main_arg2) = m ((c.tc : Thread Cert.UpdDown.nD Cert.UpdDown.τ).loc Cert.UpdDown.main_arg2)
      ∧ r.2.mem ((c.tc : Thread Cert.UpdDown.nD Cert.UpdDown.τ).loc Cert.UpdDown.main_arg3) = m ((c.tc : Thread Cert.UpdDown.nD Cert.UpdDown.τ).loc Cert.UpdDown.main_arg3))
      ∧ r.2.sem = fun _ => 0)

def quiescent_UpdDownIdeal [hUpdDownIdeal : Cert.UpdDownIdeal.Facts] : Prop :=
  ∀ (m : (ℓ : Loc Cert.UpdDownIdeal.nD Cert.UpdDownIdeal.τ Cert.UpdDownIdeal.sig) → Buf (Elt Ideal) ℓ) (g : Dev Cert.UpdDownIdeal.nD → PrngReg), Pre_UpdDownIdeal m →
    θ_run (Cert.UpdDownIdeal.defs (F := Ideal)) (onTc (τ := Cert.UpdDownIdeal.τ) (Cert.UpdDownIdeal.main (F := Ideal))) ⟨m, fun _ => 0, g⟩ (fun r => (∀ c : Dev Cert.UpdDownIdeal.nD,
      r.2.mem ((c.tc : Thread Cert.UpdDownIdeal.nD Cert.UpdDownIdeal.τ).loc Cert.UpdDownIdeal.main_arg0) = m ((c.tc : Thread Cert.UpdDownIdeal.nD Cert.UpdDownIdeal.τ).loc Cert.UpdDownIdeal.main_arg0)
      ∧ r.2.mem ((c.tc : Thread Cert.UpdDownIdeal.nD Cert.UpdDownIdeal.τ).loc Cert.UpdDownIdeal.main_arg1) = m ((c.tc : Thread Cert.UpdDownIdeal.nD Cert.UpdDownIdeal.τ).loc Cert.UpdDownIdeal.main_arg1)
      ∧ r.2.mem ((c.tc : Thread Cert.UpdDownIdeal.nD Cert.UpdDownIdeal.τ).loc Cert.UpdDownIdeal.main_arg2) = m ((c.tc : Thread Cert.UpdDownIdeal.nD Cert.UpdDownIdeal.τ).loc Cert.UpdDownIdeal.main_arg2)
      ∧ r.2.mem ((c.tc : Thread Cert.UpdDownIdeal.nD Cert.UpdDownIdeal.τ).loc Cert.UpdDownIdeal.main_arg3) = m ((c.tc : Thread Cert.UpdDownIdeal.nD Cert.UpdDownIdeal.τ).loc Cert.UpdDownIdeal.main_arg3))
      ∧ r.2.sem = fun _ => 0)

def quiescent_UpdDownRefIdeal [hUpdDownRefIdeal : Cert.UpdDownRefIdeal.Facts] : Prop :=
  ∀ (m : (ℓ : Loc Cert.UpdDownRefIdeal.nD Cert.UpdDownRefIdeal.τ Cert.UpdDownRefIdeal.sig) → Buf (Elt Ideal) ℓ) (g : Dev Cert.UpdDownRefIdeal.nD → PrngReg), Pre_UpdDownRefIdeal m →
    θ_run (Cert.UpdDownRefIdeal.defs (F := Ideal)) (onTc (τ := Cert.UpdDownRefIdeal.τ) (Cert.UpdDownRefIdeal.main (F := Ideal))) ⟨m, fun _ => 0, g⟩ (fun r => (∀ c : Dev Cert.UpdDownRefIdeal.nD,
      r.2.mem ((c.tc : Thread Cert.UpdDownRefIdeal.nD Cert.UpdDownRefIdeal.τ).loc Cert.UpdDownRefIdeal.main_arg0) = m ((c.tc : Thread Cert.UpdDownRefIdeal.nD Cert.UpdDownRefIdeal.τ).loc Cert.UpdDownRefIdeal.main_arg0)
      ∧ r.2.mem ((c.tc : Thread Cert.UpdDownRefIdeal.nD Cert.UpdDownRefIdeal.τ).loc Cert.UpdDownRefIdeal.main_arg1) = m ((c.tc : Thread Cert.UpdDownRefIdeal.nD Cert.UpdDownRefIdeal.τ).loc Cert.UpdDownRefIdeal.main_arg1)
      ∧ r.2.mem ((c.tc : Thread Cert.UpdDownRefIdeal.nD Cert.UpdDownRefIdeal.τ).loc Cert.UpdDownRefIdeal.main_arg2) = m ((c.tc : Thread Cert.UpdDownRefIdeal.nD Cert.UpdDownRefIdeal.τ).loc Cert.UpdDownRefIdeal.main_arg2)
      ∧ r.2.mem ((c.tc : Thread Cert.UpdDownRefIdeal.nD Cert.UpdDownRefIdeal.τ).loc Cert.UpdDownRefIdeal.main_arg3) = m ((c.tc : Thread Cert.UpdDownRefIdeal.nD Cert.UpdDownRefIdeal.τ).loc Cert.UpdDownRefIdeal.main_arg3))
      ∧ r.2.sem = fun _ => 0)

def quiescent_FinalLoss [hFinalLoss : Cert.FinalLoss.Facts] : Prop :=
  ∀ (m : (ℓ : Loc Cert.FinalLoss.nD Cert.FinalLoss.τ Cert.FinalLoss.sig) → Buf (Elt Bits) ℓ) (g : Dev Cert.FinalLoss.nD → PrngReg), Pre_FinalLoss m →
    θ_run (Cert.FinalLoss.defs (F := Bits)) (onTc (τ := Cert.FinalLoss.τ) (Cert.FinalLoss.main (F := Bits))) ⟨m, fun _ => 0, g⟩ (fun r => (∀ c : Dev Cert.FinalLoss.nD,
      r.2.mem ((c.tc : Thread Cert.FinalLoss.nD Cert.FinalLoss.τ).loc Cert.FinalLoss.main_arg0) = m ((c.tc : Thread Cert.FinalLoss.nD Cert.FinalLoss.τ).loc Cert.FinalLoss.main_arg0)
      ∧ r.2.mem ((c.tc : Thread Cert.FinalLoss.nD Cert.FinalLoss.τ).loc Cert.FinalLoss.main_arg1) = m ((c.tc : Thread Cert.FinalLoss.nD Cert.FinalLoss.τ).loc Cert.FinalLoss.main_arg1)
      ∧ r.2.mem ((c.tc : Thread Cert.FinalLoss.nD Cert.FinalLoss.τ).loc Cert.FinalLoss.main_arg2) = m ((c.tc : Thread Cert.FinalLoss.nD Cert.FinalLoss.τ).loc Cert.FinalLoss.main_arg2)
      ∧ r.2.mem ((c.tc : Thread Cert.FinalLoss.nD Cert.FinalLoss.τ).loc Cert.FinalLoss.main_arg3) = m ((c.tc : Thread Cert.FinalLoss.nD Cert.FinalLoss.τ).loc Cert.FinalLoss.main_arg3)
      ∧ r.2.mem ((c.tc : Thread Cert.FinalLoss.nD Cert.FinalLoss.τ).loc Cert.FinalLoss.main_arg4) = m ((c.tc : Thread Cert.FinalLoss.nD Cert.FinalLoss.τ).loc Cert.FinalLoss.main_arg4))
      ∧ r.2.sem = fun _ => 0)

def quiescent_FinalLossIdeal [hFinalLossIdeal : Cert.FinalLossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2)
      ∧ r.2.mem ((c.tc : Thread Cert.FinalLossIdeal.nD Cert.FinalLossIdeal.τ).loc Cert.FinalLossIdeal.main_arg3) = m ((c.tc : Thread Cert.FinalLossIdeal.nD Cert.FinalLossIdeal.τ).loc Cert.FinalLossIdeal.main_arg3)
      ∧ r.2.mem ((c.tc : Thread Cert.FinalLossIdeal.nD Cert.FinalLossIdeal.τ).loc Cert.FinalLossIdeal.main_arg4) = m ((c.tc : Thread Cert.FinalLossIdeal.nD Cert.FinalLossIdeal.τ).loc Cert.FinalLossIdeal.main_arg4))
      ∧ r.2.sem = fun _ => 0)

def quiescent_FinalLossRefIdeal [hFinalLossRefIdeal : Cert.FinalLossRefIdeal.Facts] : Prop :=
  ∀ (m : (ℓ : Loc Cert.FinalLossRefIdeal.nD Cert.FinalLossRefIdeal.τ Cert.FinalLossRefIdeal.sig) → Buf (Elt Ideal) ℓ) (g : Dev Cert.FinalLossRefIdeal.nD → PrngReg), Pre_FinalLossRefIdeal m →
    θ_run (Cert.FinalLossRefIdeal.defs (F := Ideal)) (onTc (τ := Cert.FinalLossRefIdeal.τ) (Cert.FinalLossRefIdeal.main (F := Ideal))) ⟨m, fun _ => 0, g⟩ (fun r => (∀ c : Dev Cert.FinalLossRefIdeal.nD,
      r.2.mem ((c.tc : Thread Cert.FinalLossRefIdeal.nD Cert.FinalLossRefIdeal.τ).loc Cert.FinalLossRefIdeal.main_arg0) = m ((c.tc : Thread Cert.FinalLossRefIdeal.nD Cert.FinalLossRefIdeal.τ).loc Cert.FinalLossRefIdeal.main_arg0)
      ∧ r.2.mem ((c.tc : Thread Cert.FinalLossRefIdeal.nD Cert.FinalLossRefIdeal.τ).loc Cert.FinalLossRefIdeal.main_arg1) = m ((c.tc : Thread Cert.FinalLossRefIdeal.nD Cert.FinalLossRefIdeal.τ).loc Cert.FinalLossRefIdeal.main_arg1)
      ∧ r.2.mem ((c.tc : Thread Cert.FinalLossRefIdeal.nD Cert.FinalLossRefIdeal.τ).loc Cert.FinalLossRefIdeal.main_arg2) = m ((c.tc : Thread Cert.FinalLossRefIdeal.nD Cert.FinalLossRefIdeal.τ).loc Cert.FinalLossRefIdeal.main_arg2)
      ∧ r.2.mem ((c.tc : Thread Cert.FinalLossRefIdeal.nD Cert.FinalLossRefIdeal.τ).loc Cert.FinalLossRefIdeal.main_arg3) = m ((c.tc : Thread Cert.FinalLossRefIdeal.nD Cert.FinalLossRefIdeal.τ).loc Cert.FinalLossRefIdeal.main_arg3)
      ∧ r.2.mem ((c.tc : Thread Cert.FinalLossRefIdeal.nD Cert.FinalLossRefIdeal.τ).loc Cert.FinalLossRefIdeal.main_arg4) = m ((c.tc : Thread Cert.FinalLossRefIdeal.nD Cert.FinalLossRefIdeal.τ).loc Cert.FinalLossRefIdeal.main_arg4))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4)
      ∧ r.2.mem ((c.tc : Thread Cert.ConvBwd.nD Cert.ConvBwd.τ).loc Cert.ConvBwd.main_arg5) = m ((c.tc : Thread Cert.ConvBwd.nD Cert.ConvBwd.τ).loc Cert.ConvBwd.main_arg5))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ r.2.sem = fun _ => 0)

def quiescent_ConvBwdIdeal_pre_conv_finite [hConvBwdIdeal : Cert.ConvBwdIdeal.Facts] [hPre_conv_finite : Cert.Pre_conv_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_conv_finite m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3)
      ∧ r.2.mem ((c.tc : Thread Cert.ConvBwdRefIdeal.nD Cert.ConvBwdRefIdeal.τ).loc Cert.ConvBwdRefIdeal.main_arg4) = m ((c.tc : Thread Cert.ConvBwdRefIdeal.nD Cert.ConvBwdRefIdeal.τ).loc Cert.ConvBwdRefIdeal.main_arg4)
      ∧ r.2.mem ((c.tc : Thread Cert.ConvBwdRefIdeal.nD Cert.ConvBwdRefIdeal.τ).loc Cert.ConvBwdRefIdeal.main_arg5) = m ((c.tc : Thread Cert.ConvBwdRefIdeal.nD Cert.ConvBwdRefIdeal.τ).loc Cert.ConvBwdRefIdeal.main_arg5))
      ∧ r.2.sem = fun _ => 0)

def quiescent_ConvBwdRefIdeal_pre_conv_finite [hConvBwdRefIdeal : Cert.ConvBwdRefIdeal.Facts] [hPre_conv_finite : Cert.Pre_conv_finite.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal_conv_finite m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3)
      ∧ r.2.mem ((c.tc : Thread Cert.ConvBwdRefIdeal.nD Cert.ConvBwdRefIdeal.τ).loc Cert.ConvBwdRefIdeal.main_arg4) = m ((c.tc : Thread Cert.ConvBwdRefIdeal.nD Cert.ConvBwdRefIdeal.τ).loc Cert.ConvBwdRefIdeal.main_arg4)
      ∧ r.2.mem ((c.tc : Thread Cert.ConvBwdRefIdeal.nD Cert.ConvBwdRefIdeal.τ).loc Cert.ConvBwdRefIdeal.main_arg5) = m ((c.tc : Thread Cert.ConvBwdRefIdeal.nD Cert.ConvBwdRefIdeal.τ).loc Cert.ConvBwdRefIdeal.main_arg5))
      ∧ r.2.sem = fun _ => 0)

def quiescent_MemNorm [hMemNorm : Cert.MemNorm.Facts] : Prop :=
  ∀ (m : (ℓ : Loc Cert.MemNorm.nD Cert.MemNorm.τ Cert.MemNorm.sig) → Buf (Elt Bits) ℓ) (g : Dev Cert.MemNorm.nD → PrngReg), Pre_MemNorm m →
    θ_run (Cert.MemNorm.defs (F := Bits)) (onTc (τ := Cert.MemNorm.τ) (Cert.MemNorm.main (F := Bits))) ⟨m, fun _ => 0, g⟩ (fun r => (∀ c : Dev Cert.MemNorm.nD,
      r.2.mem ((c.tc : Thread Cert.MemNorm.nD Cert.MemNorm.τ).loc Cert.MemNorm.main_arg0) = m ((c.tc : Thread Cert.MemNorm.nD Cert.MemNorm.τ).loc Cert.MemNorm.main_arg0)
      ∧ r.2.mem ((c.tc : Thread Cert.MemNorm.nD Cert.MemNorm.τ).loc Cert.MemNorm.main_arg1) = m ((c.tc : Thread Cert.MemNorm.nD Cert.MemNorm.τ).loc Cert.MemNorm.main_arg1))
      ∧ r.2.sem = fun _ => 0)

def quiescent_MemNormIdeal [hMemNormIdeal : Cert.MemNormIdeal.Facts] : Prop :=
  ∀ (m : (ℓ : Loc Cert.MemNormIdeal.nD Cert.MemNormIdeal.τ Cert.MemNormIdeal.sig) → Buf (Elt Ideal) ℓ) (g : Dev Cert.MemNormIdeal.nD → PrngReg), Pre_MemNormIdeal m →
    θ_run (Cert.MemNormIdeal.defs (F := Ideal)) (onTc (τ := Cert.MemNormIdeal.τ) (Cert.MemNormIdeal.main (F := Ideal))) ⟨m, fun _ => 0, g⟩ (fun r => (∀ c : Dev Cert.MemNormIdeal.nD,
      r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
      ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ r.2.sem = fun _ => 0)

def quiescent_MemNormRefIdeal [hMemNormRefIdeal : Cert.MemNormRefIdeal.Facts] : Prop :=
  ∀ (m : (ℓ : Loc Cert.MemNormRefIdeal.nD Cert.MemNormRefIdeal.τ Cert.MemNormRefIdeal.sig) → Buf (Elt Ideal) ℓ) (g : Dev Cert.MemNormRefIdeal.nD → PrngReg), Pre_MemNormRefIdeal m →
    θ_run (Cert.MemNormRefIdeal.defs (F := Ideal)) (onTc (τ := Cert.MemNormRefIdeal.τ) (Cert.MemNormRefIdeal.main (F := Ideal))) ⟨m, fun _ => 0, g⟩ (fun r => (∀ c : Dev Cert.MemNormRefIdeal.nD,
      r.2.mem ((c.tc : Thread Cert.MemNormRefIdeal.nD Cert.MemNormRefIdeal.τ).loc Cert.MemNormRefIdeal.main_arg0) = m ((c.tc : Thread Cert.MemNormRefIdeal.nD Cert.MemNormRefIdeal.τ).loc Cert.MemNormRefIdeal.main_arg0)
      ∧ r.2.mem ((c.tc : Thread Cert.MemNormRefIdeal.nD Cert.MemNormRefIdeal.τ).loc Cert.MemNormRefIdeal.main_arg1) = m ((c.tc : Thread Cert.MemNormRefIdeal.nD Cert.MemNormRefIdeal.τ).loc Cert.MemNormRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_MemKvBwd [hMemKvBwd : Cert.MemKvBwd.Facts] : Prop :=
  ∀ (m : (ℓ : Loc Cert.MemKvBwd.nD Cert.MemKvBwd.τ Cert.MemKvBwd.sig) → Buf (Elt Bits) ℓ) (g : Dev Cert.MemKvBwd.nD → PrngReg), Pre_MemKvBwd m →
    θ_run (Cert.MemKvBwd.defs (F := Bits)) (onTc (τ := Cert.MemKvBwd.τ) (Cert.MemKvBwd.main (F := Bits))) ⟨m, fun _ => 0, g⟩ (fun r => (∀ c : Dev Cert.MemKvBwd.nD,
      r.2.mem ((c.tc : Thread Cert.MemKvBwd.nD Cert.MemKvBwd.τ).loc Cert.MemKvBwd.main_arg0) = m ((c.tc : Thread Cert.MemKvBwd.nD Cert.MemKvBwd.τ).loc Cert.MemKvBwd.main_arg0)
      ∧ r.2.mem ((c.tc : Thread Cert.MemKvBwd.nD Cert.MemKvBwd.τ).loc Cert.MemKvBwd.main_arg1) = m ((c.tc : Thread Cert.MemKvBwd.nD Cert.MemKvBwd.τ).loc Cert.MemKvBwd.main_arg1))
      ∧ r.2.sem = fun _ => 0)

def quiescent_MemKvBwdIdeal [hMemKvBwdIdeal : Cert.MemKvBwdIdeal.Facts] : Prop :=
  ∀ (m : (ℓ : Loc Cert.MemKvBwdIdeal.nD Cert.MemKvBwdIdeal.τ Cert.MemKvBwdIdeal.sig) → Buf (Elt Ideal) ℓ) (g : Dev Cert.MemKvBwdIdeal.nD → PrngReg), Pre_MemKvBwdIdeal m →
    θ_run (Cert.MemKvBwdIdeal.defs (F := Ideal)) (onTc (τ := Cert.MemKvBwdIdeal.τ) (Cert.MemKvBwdIdeal.main (F := Ideal))) ⟨m, fun _ => 0, g⟩ (fun r => (∀ c : Dev Cert.MemKvBwdIdeal.nD,
      r.2.mem ((c.tc : Thread Cert.MemKvBwdIdeal.nD Cert.MemKvBwdIdeal.τ).loc Cert.MemKvBwdIdeal.main_arg0) = m ((c.tc : Thread Cert.MemKvBwdIdeal.nD Cert.MemKvBwdIdeal.τ).loc Cert.MemKvBwdIdeal.main_arg0)
      ∧ r.2.mem ((c.tc : Thread Cert.MemKvBwdIdeal.nD Cert.MemKvBwdIdeal.τ).loc Cert.MemKvBwdIdeal.main_arg1) = m ((c.tc : Thread Cert.MemKvBwdIdeal.nD Cert.MemKvBwdIdeal.τ).loc Cert.MemKvBwdIdeal.main_arg1))
      ∧ r.2.sem = fun _ => 0)

def quiescent_MemKvBwdRefIdeal [hMemKvBwdRefIdeal : Cert.MemKvBwdRefIdeal.Facts] : Prop :=
  ∀ (m : (ℓ : Loc Cert.MemKvBwdRefIdeal.nD Cert.MemKvBwdRefIdeal.τ Cert.MemKvBwdRefIdeal.sig) → Buf (Elt Ideal) ℓ) (g : Dev Cert.MemKvBwdRefIdeal.nD → PrngReg), Pre_MemKvBwdRefIdeal m →
    θ_run (Cert.MemKvBwdRefIdeal.defs (F := Ideal)) (onTc (τ := Cert.MemKvBwdRefIdeal.τ) (Cert.MemKvBwdRefIdeal.main (F := Ideal))) ⟨m, fun _ => 0, g⟩ (fun r => (∀ c : Dev Cert.MemKvBwdRefIdeal.nD,
      r.2.mem ((c.tc : Thread Cert.MemKvBwdRefIdeal.nD Cert.MemKvBwdRefIdeal.τ).loc Cert.MemKvBwdRefIdeal.main_arg0) = m ((c.tc : Thread Cert.MemKvBwdRefIdeal.nD Cert.MemKvBwdRefIdeal.τ).loc Cert.MemKvBwdRefIdeal.main_arg0)
      ∧ r.2.mem ((c.tc : Thread Cert.MemKvBwdRefIdeal.nD Cert.MemKvBwdRefIdeal.τ).loc Cert.MemKvBwdRefIdeal.main_arg1) = m ((c.tc : Thread Cert.MemKvBwdRefIdeal.nD Cert.MemKvBwdRefIdeal.τ).loc Cert.MemKvBwdRefIdeal.main_arg1))
      ∧ r.2.sem = fun _ => 0)

def quiescent_MemNormBwd [hMemNormBwd : Cert.MemNormBwd.Facts] : Prop :=
  ∀ (m : (ℓ : Loc Cert.MemNormBwd.nD Cert.MemNormBwd.τ Cert.MemNormBwd.sig) → Buf (Elt Bits) ℓ) (g : Dev Cert.MemNormBwd.nD → PrngReg), Pre_MemNormBwd m →
    θ_run (Cert.MemNormBwd.defs (F := Bits)) (onTc (τ := Cert.MemNormBwd.τ) (Cert.MemNormBwd.main (F := Bits))) ⟨m, fun _ => 0, g⟩ (fun r => (∀ c : Dev Cert.MemNormBwd.nD,
      r.2.mem ((c.tc : Thread Cert.MemNormBwd.nD Cert.MemNormBwd.τ).loc Cert.MemNormBwd.main_arg0) = m ((c.tc : Thread Cert.MemNormBwd.nD Cert.MemNormBwd.τ).loc Cert.MemNormBwd.main_arg0)
      ∧ r.2.mem ((c.tc : Thread Cert.MemNormBwd.nD Cert.MemNormBwd.τ).loc Cert.MemNormBwd.main_arg1) = m ((c.tc : Thread Cert.MemNormBwd.nD Cert.MemNormBwd.τ).loc Cert.MemNormBwd.main_arg1)
      ∧ r.2.mem ((c.tc : Thread Cert.MemNormBwd.nD Cert.MemNormBwd.τ).loc Cert.MemNormBwd.main_arg2) = m ((c.tc : Thread Cert.MemNormBwd.nD Cert.MemNormBwd.τ).loc Cert.MemNormBwd.main_arg2))
      ∧ r.2.sem = fun _ => 0)

def quiescent_MemNormBwdIdeal [hMemNormBwdIdeal : Cert.MemNormBwdIdeal.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg), Pre_MemNormBwdIdeal m →
    θ_run (Cert.MemNormBwdIdeal.defs (F := Ideal)) (onTc (τ := Cert.MemNormBwdIdeal.τ) (Cert.MemNormBwdIdeal.main (F := Ideal))) ⟨m, fun _ => 0, g⟩ (fun r => (∀ c : Dev Cert.MemNormBwdIdeal.nD,
      r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
      ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
      ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2))
      ∧ r.2.sem = fun _ => 0)

def quiescent_MemNormBwdRefIdeal [hMemNormBwdRefIdeal : Cert.MemNormBwdRefIdeal.Facts] : Prop :=
  ∀ (m : (ℓ : Loc Cert.MemNormBwdRefIdeal.nD Cert.MemNormBwdRefIdeal.τ Cert.MemNormBwdRefIdeal.sig) → Buf (Elt Ideal) ℓ) (g : Dev Cert.MemNormBwdRefIdeal.nD → PrngReg), Pre_MemNormBwdRefIdeal m →
    θ_run (Cert.MemNormBwdRefIdeal.defs (F := Ideal)) (onTc (τ := Cert.MemNormBwdRefIdeal.τ) (Cert.MemNormBwdRefIdeal.main (F := Ideal))) ⟨m, fun _ => 0, g⟩ (fun r => (∀ c : Dev Cert.MemNormBwdRefIdeal.nD,
      r.2.mem ((c.tc : Thread Cert.MemNormBwdRefIdeal.nD Cert.MemNormBwdRefIdeal.τ).loc Cert.MemNormBwdRefIdeal.main_arg0) = m ((c.tc : Thread Cert.MemNormBwdRefIdeal.nD Cert.MemNormBwdRefIdeal.τ).loc Cert.MemNormBwdRefIdeal.main_arg0)
      ∧ r.2.mem ((c.tc : Thread Cert.MemNormBwdRefIdeal.nD Cert.MemNormBwdRefIdeal.τ).loc Cert.MemNormBwdRefIdeal.main_arg1) = m ((c.tc : Thread Cert.MemNormBwdRefIdeal.nD Cert.MemNormBwdRefIdeal.τ).loc Cert.MemNormBwdRefIdeal.main_arg1)
      ∧ r.2.mem ((c.tc : Thread Cert.MemNormBwdRefIdeal.nD Cert.MemNormBwdRefIdeal.τ).loc Cert.MemNormBwdRefIdeal.main_arg2) = m ((c.tc : Thread Cert.MemNormBwdRefIdeal.nD Cert.MemNormBwdRefIdeal.τ).loc Cert.MemNormBwdRefIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_GmlpFwd [hGmlpFwd : Cert.GmlpFwd.Facts] : Prop :=
  ∀ (m : (ℓ : Loc Cert.GmlpFwd.nD Cert.GmlpFwd.τ Cert.GmlpFwd.sig) → Buf (Elt Bits) ℓ) (g : Dev Cert.GmlpFwd.nD → PrngReg), Pre_GmlpFwd m →
    θ_run (Cert.GmlpFwd.defs (F := Bits)) (onTc (τ := Cert.GmlpFwd.τ) (Cert.GmlpFwd.main (F := Bits))) ⟨m, fun _ => 0, g⟩ (fun r => (∀ c : Dev Cert.GmlpFwd.nD,
      r.2.mem ((c.tc : Thread Cert.GmlpFwd.nD Cert.GmlpFwd.τ).loc Cert.GmlpFwd.main_arg0) = m ((c.tc : Thread Cert.GmlpFwd.nD Cert.GmlpFwd.τ).loc Cert.GmlpFwd.main_arg0)
      ∧ r.2.mem ((c.tc : Thread Cert.GmlpFwd.nD Cert.GmlpFwd.τ).loc Cert.GmlpFwd.main_arg1) = m ((c.tc : Thread Cert.GmlpFwd.nD Cert.GmlpFwd.τ).loc Cert.GmlpFwd.main_arg1)
      ∧ r.2.mem ((c.tc : Thread Cert.GmlpFwd.nD Cert.GmlpFwd.τ).loc Cert.GmlpFwd.main_arg2) = m ((c.tc : Thread Cert.GmlpFwd.nD Cert.GmlpFwd.τ).loc Cert.GmlpFwd.main_arg2)
      ∧ r.2.mem ((c.tc : Thread Cert.GmlpFwd.nD Cert.GmlpFwd.τ).loc Cert.GmlpFwd.main_arg3) = m ((c.tc : Thread Cert.GmlpFwd.nD Cert.GmlpFwd.τ).loc Cert.GmlpFwd.main_arg3)
      ∧ r.2.mem ((c.tc : Thread Cert.GmlpFwd.nD Cert.GmlpFwd.τ).loc Cert.GmlpFwd.main_arg4) = m ((c.tc : Thread Cert.GmlpFwd.nD Cert.GmlpFwd.τ).loc Cert.GmlpFwd.main_arg4))
      ∧ r.2.sem = fun _ => 0)

def quiescent_GmlpFwdIdeal [hGmlpFwdIdeal : Cert.GmlpFwdIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
      ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ r.2.sem = fun _ => 0)

def quiescent_GmlpFwdRefIdeal [hGmlpFwdRefIdeal : Cert.GmlpFwdRefIdeal.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3)
      ∧ r.2.mem ((c.tc : Thread Cert.GmlpFwdRefIdeal.nD Cert.GmlpFwdRefIdeal.τ).loc Cert.GmlpFwdRefIdeal.main_arg4) = m ((c.tc : Thread Cert.GmlpFwdRefIdeal.nD Cert.GmlpFwdRefIdeal.τ).loc Cert.GmlpFwdRefIdeal.main_arg4))
      ∧ r.2.sem = fun _ => 0)

def preserves_AttnBwd_AttnBwdIdeal : Prop :=
  True

def algebraic_AttnBwdIdeal_AttnBwdRefIdeal_pre_attn_finite [hAttnBwdIdeal : Cert.AttnBwdIdeal.Facts] [hAttnBwdRefIdeal : Cert.AttnBwdRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)) →
    ∃ (v0 : (c : Dev Cert.AttnBwdIdeal.nD) → Buf (Elt Ideal) ((c.tc : Thread Cert.AttnBwdIdeal.nD Cert.AttnBwdIdeal.τ).loc Cert.AttnBwdIdeal.main_v0_0)) (v1 : (c : Dev Cert.AttnBwdIdeal.nD) → Buf (Elt Ideal) ((c.tc : Thread Cert.AttnBwdIdeal.nD Cert.AttnBwdIdeal.τ).loc Cert.AttnBwdIdeal.main_v0_1)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v0_0) = v0 c
          ∧ r.2.mem ((c.tc : Thread Cert.AttnBwdIdeal.nD Cert.AttnBwdIdeal.τ).loc Cert.AttnBwdIdeal.main_v0_1) = v1 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v70) = v0 c
          ∧ r.2.mem ((c.tc : Thread Cert.AttnBwdRefIdeal.nD Cert.AttnBwdRefIdeal.τ).loc Cert.AttnBwdRefIdeal.main_v69) = v1 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v6) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DwUpA_DwUpAIdeal : Prop :=
  True

def algebraic_DwUpAIdeal_DwUpARefIdeal [hDwUpAIdeal : Cert.DwUpAIdeal.Facts] [hDwUpARefIdeal : Cert.DwUpARefIdeal.Facts] : Prop :=
  ∀ (m : (ℓ : Loc Cert.DwUpAIdeal.nD Cert.DwUpAIdeal.τ Cert.DwUpAIdeal.sig) → Buf (Elt Ideal) ℓ) (g : Dev Cert.DwUpAIdeal.nD → PrngReg)
    (m' : (ℓ : Loc Cert.DwUpARefIdeal.nD Cert.DwUpARefIdeal.τ Cert.DwUpARefIdeal.sig) → Buf (Elt Ideal) ℓ) (g' : Dev Cert.DwUpARefIdeal.nD → PrngReg), Pre_DwUpAIdeal m →
    (∀ c : Dev Cert.DwUpAIdeal.nD,
      m' ((c.tc : Thread Cert.DwUpARefIdeal.nD Cert.DwUpARefIdeal.τ).loc Cert.DwUpARefIdeal.main_arg0) = m ((c.tc : Thread Cert.DwUpAIdeal.nD Cert.DwUpAIdeal.τ).loc Cert.DwUpAIdeal.main_arg0)
      ∧ m' ((c.tc : Thread Cert.DwUpARefIdeal.nD Cert.DwUpARefIdeal.τ).loc Cert.DwUpARefIdeal.main_arg1) = m ((c.tc : Thread Cert.DwUpAIdeal.nD Cert.DwUpAIdeal.τ).loc Cert.DwUpAIdeal.main_arg1)
      ∧ m' ((c.tc : Thread Cert.DwUpARefIdeal.nD Cert.DwUpARefIdeal.τ).loc Cert.DwUpARefIdeal.main_arg2) = m ((c.tc : Thread Cert.DwUpAIdeal.nD Cert.DwUpAIdeal.τ).loc Cert.DwUpAIdeal.main_arg2)) →
    ∃ (v0 : (c : Dev Cert.DwUpAIdeal.nD) → Buf (Elt Ideal) ((c.tc : Thread Cert.DwUpAIdeal.nD Cert.DwUpAIdeal.τ).loc Cert.DwUpAIdeal.main_v0)),
      θ_run (Cert.DwUpAIdeal.defs (F := Ideal)) (onTc (τ := Cert.DwUpAIdeal.τ) (Cert.DwUpAIdeal.main (F := Ideal))) ⟨m, fun _ => 0, g⟩ (fun r => ∀ c : Dev Cert.DwUpAIdeal.nD,
          r.2.mem ((c.tc : Thread Cert.DwUpAIdeal.nD Cert.DwUpAIdeal.τ).loc Cert.DwUpAIdeal.main_v0) = v0 c
          ∧ r.2.mem ((c.tc : Thread Cert.DwUpAIdeal.nD Cert.DwUpAIdeal.τ).loc Cert.DwUpAIdeal.main_arg0) = m ((c.tc : Thread Cert.DwUpAIdeal.nD Cert.DwUpAIdeal.τ).loc Cert.DwUpAIdeal.main_arg0)
          ∧ r.2.mem ((c.tc : Thread Cert.DwUpAIdeal.nD Cert.DwUpAIdeal.τ).loc Cert.DwUpAIdeal.main_arg1) = m ((c.tc : Thread Cert.DwUpAIdeal.nD Cert.DwUpAIdeal.τ).loc Cert.DwUpAIdeal.main_arg1)
          ∧ r.2.mem ((c.tc : Thread Cert.DwUpAIdeal.nD Cert.DwUpAIdeal.τ).loc Cert.DwUpAIdeal.main_arg2) = m ((c.tc : Thread Cert.DwUpAIdeal.nD Cert.DwUpAIdeal.τ).loc Cert.DwUpAIdeal.main_arg2))
      ∧ θ_run (Cert.DwUpARefIdeal.defs (F := Ideal)) (onTc (τ := Cert.DwUpARefIdeal.τ) (Cert.DwUpARefIdeal.main (F := Ideal))) ⟨m', fun _ => 0, g'⟩ (fun r => ∀ c : Dev Cert.DwUpARefIdeal.nD,
          r.2.mem ((c.tc : Thread Cert.DwUpARefIdeal.nD Cert.DwUpARefIdeal.τ).loc Cert.DwUpARefIdeal.main_v9) = v0 c
          ∧ r.2.mem ((c.tc : Thread Cert.DwUpARefIdeal.nD Cert.DwUpARefIdeal.τ).loc Cert.DwUpARefIdeal.main_arg0) = m' ((c.tc : Thread Cert.DwUpARefIdeal.nD Cert.DwUpARefIdeal.τ).loc Cert.DwUpARefIdeal.main_arg0)
          ∧ r.2.mem ((c.tc : Thread Cert.DwUpARefIdeal.nD Cert.DwUpARefIdeal.τ).loc Cert.DwUpARefIdeal.main_arg1) = m' ((c.tc : Thread Cert.DwUpARefIdeal.nD Cert.DwUpARefIdeal.τ).loc Cert.DwUpARefIdeal.main_arg1)
          ∧ r.2.mem ((c.tc : Thread Cert.DwUpARefIdeal.nD Cert.DwUpARefIdeal.τ).loc Cert.DwUpARefIdeal.main_arg2) = m' ((c.tc : Thread Cert.DwUpARefIdeal.nD Cert.DwUpARefIdeal.τ).loc Cert.DwUpARefIdeal.main_arg2))

def preserves_DwUpB_DwUpBIdeal : Prop :=
  True

def algebraic_DwUpBIdeal_DwUpBRefIdeal [hDwUpBIdeal : Cert.DwUpBIdeal.Facts] [hDwUpBRefIdeal : Cert.DwUpBRefIdeal.Facts] : Prop :=
  ∀ (m : (ℓ : Loc Cert.DwUpBIdeal.nD Cert.DwUpBIdeal.τ Cert.DwUpBIdeal.sig) → Buf (Elt Ideal) ℓ) (g : Dev Cert.DwUpBIdeal.nD → PrngReg)
    (m' : (ℓ : Loc Cert.DwUpBRefIdeal.nD Cert.DwUpBRefIdeal.τ Cert.DwUpBRefIdeal.sig) → Buf (Elt Ideal) ℓ) (g' : Dev Cert.DwUpBRefIdeal.nD → PrngReg), Pre_DwUpBIdeal m →
    (∀ c : Dev Cert.DwUpBIdeal.nD,
      m' ((c.tc : Thread Cert.DwUpBRefIdeal.nD Cert.DwUpBRefIdeal.τ).loc Cert.DwUpBRefIdeal.main_arg0) = m ((c.tc : Thread Cert.DwUpBIdeal.nD Cert.DwUpBIdeal.τ).loc Cert.DwUpBIdeal.main_arg0)
      ∧ m' ((c.tc : Thread Cert.DwUpBRefIdeal.nD Cert.DwUpBRefIdeal.τ).loc Cert.DwUpBRefIdeal.main_arg1) = m ((c.tc : Thread Cert.DwUpBIdeal.nD Cert.DwUpBIdeal.τ).loc Cert.DwUpBIdeal.main_arg1)
      ∧ m' ((c.tc : Thread Cert.DwUpBRefIdeal.nD Cert.DwUpBRefIdeal.τ).loc Cert.DwUpBRefIdeal.main_arg2) = m ((c.tc : Thread Cert.DwUpBIdeal.nD Cert.DwUpBIdeal.τ).loc Cert.DwUpBIdeal.main_arg2)) →
    ∃ (v0 : (c : Dev Cert.DwUpBIdeal.nD) → Buf (Elt Ideal) ((c.tc : Thread Cert.DwUpBIdeal.nD Cert.DwUpBIdeal.τ).loc Cert.DwUpBIdeal.main_v0)),
      θ_run (Cert.DwUpBIdeal.defs (F := Ideal)) (onTc (τ := Cert.DwUpBIdeal.τ) (Cert.DwUpBIdeal.main (F := Ideal))) ⟨m, fun _ => 0, g⟩ (fun r => ∀ c : Dev Cert.DwUpBIdeal.nD,
          r.2.mem ((c.tc : Thread Cert.DwUpBIdeal.nD Cert.DwUpBIdeal.τ).loc Cert.DwUpBIdeal.main_v0) = v0 c
          ∧ r.2.mem ((c.tc : Thread Cert.DwUpBIdeal.nD Cert.DwUpBIdeal.τ).loc Cert.DwUpBIdeal.main_arg0) = m ((c.tc : Thread Cert.DwUpBIdeal.nD Cert.DwUpBIdeal.τ).loc Cert.DwUpBIdeal.main_arg0)
          ∧ r.2.mem ((c.tc : Thread Cert.DwUpBIdeal.nD Cert.DwUpBIdeal.τ).loc Cert.DwUpBIdeal.main_arg1) = m ((c.tc : Thread Cert.DwUpBIdeal.nD Cert.DwUpBIdeal.τ).loc Cert.DwUpBIdeal.main_arg1)
          ∧ r.2.mem ((c.tc : Thread Cert.DwUpBIdeal.nD Cert.DwUpBIdeal.τ).loc Cert.DwUpBIdeal.main_arg2) = m ((c.tc : Thread Cert.DwUpBIdeal.nD Cert.DwUpBIdeal.τ).loc Cert.DwUpBIdeal.main_arg2))
      ∧ θ_run (Cert.DwUpBRefIdeal.defs (F := Ideal)) (onTc (τ := Cert.DwUpBRefIdeal.τ) (Cert.DwUpBRefIdeal.main (F := Ideal))) ⟨m', fun _ => 0, g'⟩ (fun r => ∀ c : Dev Cert.DwUpBRefIdeal.nD,
          r.2.mem ((c.tc : Thread Cert.DwUpBRefIdeal.nD Cert.DwUpBRefIdeal.τ).loc Cert.DwUpBRefIdeal.main_v9) = v0 c
          ∧ r.2.mem ((c.tc : Thread Cert.DwUpBRefIdeal.nD Cert.DwUpBRefIdeal.τ).loc Cert.DwUpBRefIdeal.main_arg0) = m' ((c.tc : Thread Cert.DwUpBRefIdeal.nD Cert.DwUpBRefIdeal.τ).loc Cert.DwUpBRefIdeal.main_arg0)
          ∧ r.2.mem ((c.tc : Thread Cert.DwUpBRefIdeal.nD Cert.DwUpBRefIdeal.τ).loc Cert.DwUpBRefIdeal.main_arg1) = m' ((c.tc : Thread Cert.DwUpBRefIdeal.nD Cert.DwUpBRefIdeal.τ).loc Cert.DwUpBRefIdeal.main_arg1)
          ∧ r.2.mem ((c.tc : Thread Cert.DwUpBRefIdeal.nD Cert.DwUpBRefIdeal.τ).loc Cert.DwUpBRefIdeal.main_arg2) = m' ((c.tc : Thread Cert.DwUpBRefIdeal.nD Cert.DwUpBRefIdeal.τ).loc Cert.DwUpBRefIdeal.main_arg2))

def preserves_DwProjA_DwProjAIdeal : Prop :=
  True

def algebraic_DwProjAIdeal_DwProjARefIdeal [hDwProjAIdeal : Cert.DwProjAIdeal.Facts] [hDwProjARefIdeal : Cert.DwProjARefIdeal.Facts] : Prop :=
  ∀ (m : (ℓ : Loc Cert.DwProjAIdeal.nD Cert.DwProjAIdeal.τ Cert.DwProjAIdeal.sig) → Buf (Elt Ideal) ℓ) (g : Dev Cert.DwProjAIdeal.nD → PrngReg)
    (m' : (ℓ : Loc Cert.DwProjARefIdeal.nD Cert.DwProjARefIdeal.τ Cert.DwProjARefIdeal.sig) → Buf (Elt Ideal) ℓ) (g' : Dev Cert.DwProjARefIdeal.nD → PrngReg), Pre_DwProjAIdeal m →
    (∀ c : Dev Cert.DwProjAIdeal.nD,
      m' ((c.tc : Thread Cert.DwProjARefIdeal.nD Cert.DwProjARefIdeal.τ).loc Cert.DwProjARefIdeal.main_arg0) = m ((c.tc : Thread Cert.DwProjAIdeal.nD Cert.DwProjAIdeal.τ).loc Cert.DwProjAIdeal.main_arg0)
      ∧ m' ((c.tc : Thread Cert.DwProjARefIdeal.nD Cert.DwProjARefIdeal.τ).loc Cert.DwProjARefIdeal.main_arg1) = m ((c.tc : Thread Cert.DwProjAIdeal.nD Cert.DwProjAIdeal.τ).loc Cert.DwProjAIdeal.main_arg1)) →
    ∃ (v0 : (c : Dev Cert.DwProjAIdeal.nD) → Buf (Elt Ideal) ((c.tc : Thread Cert.DwProjAIdeal.nD Cert.DwProjAIdeal.τ).loc Cert.DwProjAIdeal.main_v0)),
      θ_run (Cert.DwProjAIdeal.defs (F := Ideal)) (onTc (τ := Cert.DwProjAIdeal.τ) (Cert.DwProjAIdeal.main (F := Ideal))) ⟨m, fun _ => 0, g⟩ (fun r => ∀ c : Dev Cert.DwProjAIdeal.nD,
          r.2.mem ((c.tc : Thread Cert.DwProjAIdeal.nD Cert.DwProjAIdeal.τ).loc Cert.DwProjAIdeal.main_v0) = v0 c
          ∧ r.2.mem ((c.tc : Thread Cert.DwProjAIdeal.nD Cert.DwProjAIdeal.τ).loc Cert.DwProjAIdeal.main_arg0) = m ((c.tc : Thread Cert.DwProjAIdeal.nD Cert.DwProjAIdeal.τ).loc Cert.DwProjAIdeal.main_arg0)
          ∧ r.2.mem ((c.tc : Thread Cert.DwProjAIdeal.nD Cert.DwProjAIdeal.τ).loc Cert.DwProjAIdeal.main_arg1) = m ((c.tc : Thread Cert.DwProjAIdeal.nD Cert.DwProjAIdeal.τ).loc Cert.DwProjAIdeal.main_arg1))
      ∧ θ_run (Cert.DwProjARefIdeal.defs (F := Ideal)) (onTc (τ := Cert.DwProjARefIdeal.τ) (Cert.DwProjARefIdeal.main (F := Ideal))) ⟨m', fun _ => 0, g'⟩ (fun r => ∀ c : Dev Cert.DwProjARefIdeal.nD,
          r.2.mem ((c.tc : Thread Cert.DwProjARefIdeal.nD Cert.DwProjARefIdeal.τ).loc Cert.DwProjARefIdeal.main_v8) = v0 c
          ∧ r.2.mem ((c.tc : Thread Cert.DwProjARefIdeal.nD Cert.DwProjARefIdeal.τ).loc Cert.DwProjARefIdeal.main_arg0) = m' ((c.tc : Thread Cert.DwProjARefIdeal.nD Cert.DwProjARefIdeal.τ).loc Cert.DwProjARefIdeal.main_arg0)
          ∧ r.2.mem ((c.tc : Thread Cert.DwProjARefIdeal.nD Cert.DwProjARefIdeal.τ).loc Cert.DwProjARefIdeal.main_arg1) = m' ((c.tc : Thread Cert.DwProjARefIdeal.nD Cert.DwProjARefIdeal.τ).loc Cert.DwProjARefIdeal.main_arg1))

def preserves_DwProjB_DwProjBIdeal : Prop :=
  True

def algebraic_DwProjBIdeal_DwProjBRefIdeal [hDwProjBIdeal : Cert.DwProjBIdeal.Facts] [hDwProjBRefIdeal : Cert.DwProjBRefIdeal.Facts] : Prop :=
  ∀ (m : (ℓ : Loc Cert.DwProjBIdeal.nD Cert.DwProjBIdeal.τ Cert.DwProjBIdeal.sig) → Buf (Elt Ideal) ℓ) (g : Dev Cert.DwProjBIdeal.nD → PrngReg)
    (m' : (ℓ : Loc Cert.DwProjBRefIdeal.nD Cert.DwProjBRefIdeal.τ Cert.DwProjBRefIdeal.sig) → Buf (Elt Ideal) ℓ) (g' : Dev Cert.DwProjBRefIdeal.nD → PrngReg), Pre_DwProjBIdeal m →
    (∀ c : Dev Cert.DwProjBIdeal.nD,
      m' ((c.tc : Thread Cert.DwProjBRefIdeal.nD Cert.DwProjBRefIdeal.τ).loc Cert.DwProjBRefIdeal.main_arg0) = m ((c.tc : Thread Cert.DwProjBIdeal.nD Cert.DwProjBIdeal.τ).loc Cert.DwProjBIdeal.main_arg0)
      ∧ m' ((c.tc : Thread Cert.DwProjBRefIdeal.nD Cert.DwProjBRefIdeal.τ).loc Cert.DwProjBRefIdeal.main_arg1) = m ((c.tc : Thread Cert.DwProjBIdeal.nD Cert.DwProjBIdeal.τ).loc Cert.DwProjBIdeal.main_arg1)) →
    ∃ (v0 : (c : Dev Cert.DwProjBIdeal.nD) → Buf (Elt Ideal) ((c.tc : Thread Cert.DwProjBIdeal.nD Cert.DwProjBIdeal.τ).loc Cert.DwProjBIdeal.main_v0)),
      θ_run (Cert.DwProjBIdeal.defs (F := Ideal)) (onTc (τ := Cert.DwProjBIdeal.τ) (Cert.DwProjBIdeal.main (F := Ideal))) ⟨m, fun _ => 0, g⟩ (fun r => ∀ c : Dev Cert.DwProjBIdeal.nD,
          r.2.mem ((c.tc : Thread Cert.DwProjBIdeal.nD Cert.DwProjBIdeal.τ).loc Cert.DwProjBIdeal.main_v0) = v0 c
          ∧ r.2.mem ((c.tc : Thread Cert.DwProjBIdeal.nD Cert.DwProjBIdeal.τ).loc Cert.DwProjBIdeal.main_arg0) = m ((c.tc : Thread Cert.DwProjBIdeal.nD Cert.DwProjBIdeal.τ).loc Cert.DwProjBIdeal.main_arg0)
          ∧ r.2.mem ((c.tc : Thread Cert.DwProjBIdeal.nD Cert.DwProjBIdeal.τ).loc Cert.DwProjBIdeal.main_arg1) = m ((c.tc : Thread Cert.DwProjBIdeal.nD Cert.DwProjBIdeal.τ).loc Cert.DwProjBIdeal.main_arg1))
      ∧ θ_run (Cert.DwProjBRefIdeal.defs (F := Ideal)) (onTc (τ := Cert.DwProjBRefIdeal.τ) (Cert.DwProjBRefIdeal.main (F := Ideal))) ⟨m', fun _ => 0, g'⟩ (fun r => ∀ c : Dev Cert.DwProjBRefIdeal.nD,
          r.2.mem ((c.tc : Thread Cert.DwProjBRefIdeal.nD Cert.DwProjBRefIdeal.τ).loc Cert.DwProjBRefIdeal.main_v8) = v0 c
          ∧ r.2.mem ((c.tc : Thread Cert.DwProjBRefIdeal.nD Cert.DwProjBRefIdeal.τ).loc Cert.DwProjBRefIdeal.main_arg0) = m' ((c.tc : Thread Cert.DwProjBRefIdeal.nD Cert.DwProjBRefIdeal.τ).loc Cert.DwProjBRefIdeal.main_arg0)
          ∧ r.2.mem ((c.tc : Thread Cert.DwProjBRefIdeal.nD Cert.DwProjBRefIdeal.τ).loc Cert.DwProjBRefIdeal.main_arg1) = m' ((c.tc : Thread Cert.DwProjBRefIdeal.nD Cert.DwProjBRefIdeal.τ).loc Cert.DwProjBRefIdeal.main_arg1))

def preserves_DwKv_DwKvIdeal : Prop :=
  True

def algebraic_DwKvIdeal_DwKvRefIdeal [hDwKvIdeal : Cert.DwKvIdeal.Facts] [hDwKvRefIdeal : Cert.DwKvRefIdeal.Facts] : Prop :=
  ∀ (m : (ℓ : Loc Cert.DwKvIdeal.nD Cert.DwKvIdeal.τ Cert.DwKvIdeal.sig) → Buf (Elt Ideal) ℓ) (g : Dev Cert.DwKvIdeal.nD → PrngReg)
    (m' : (ℓ : Loc Cert.DwKvRefIdeal.nD Cert.DwKvRefIdeal.τ Cert.DwKvRefIdeal.sig) → Buf (Elt Ideal) ℓ) (g' : Dev Cert.DwKvRefIdeal.nD → PrngReg), Pre_DwKvIdeal m →
    (∀ c : Dev Cert.DwKvIdeal.nD,
      m' ((c.tc : Thread Cert.DwKvRefIdeal.nD Cert.DwKvRefIdeal.τ).loc Cert.DwKvRefIdeal.main_arg0) = m ((c.tc : Thread Cert.DwKvIdeal.nD Cert.DwKvIdeal.τ).loc Cert.DwKvIdeal.main_arg0)
      ∧ m' ((c.tc : Thread Cert.DwKvRefIdeal.nD Cert.DwKvRefIdeal.τ).loc Cert.DwKvRefIdeal.main_arg1) = m ((c.tc : Thread Cert.DwKvIdeal.nD Cert.DwKvIdeal.τ).loc Cert.DwKvIdeal.main_arg1)) →
    ∃ (v0 : (c : Dev Cert.DwKvIdeal.nD) → Buf (Elt Ideal) ((c.tc : Thread Cert.DwKvIdeal.nD Cert.DwKvIdeal.τ).loc Cert.DwKvIdeal.main_v0)),
      θ_run (Cert.DwKvIdeal.defs (F := Ideal)) (onTc (τ := Cert.DwKvIdeal.τ) (Cert.DwKvIdeal.main (F := Ideal))) ⟨m, fun _ => 0, g⟩ (fun r => ∀ c : Dev Cert.DwKvIdeal.nD,
          r.2.mem ((c.tc : Thread Cert.DwKvIdeal.nD Cert.DwKvIdeal.τ).loc Cert.DwKvIdeal.main_v0) = v0 c
          ∧ r.2.mem ((c.tc : Thread Cert.DwKvIdeal.nD Cert.DwKvIdeal.τ).loc Cert.DwKvIdeal.main_arg0) = m ((c.tc : Thread Cert.DwKvIdeal.nD Cert.DwKvIdeal.τ).loc Cert.DwKvIdeal.main_arg0)
          ∧ r.2.mem ((c.tc : Thread Cert.DwKvIdeal.nD Cert.DwKvIdeal.τ).loc Cert.DwKvIdeal.main_arg1) = m ((c.tc : Thread Cert.DwKvIdeal.nD Cert.DwKvIdeal.τ).loc Cert.DwKvIdeal.main_arg1))
      ∧ θ_run (Cert.DwKvRefIdeal.defs (F := Ideal)) (onTc (τ := Cert.DwKvRefIdeal.τ) (Cert.DwKvRefIdeal.main (F := Ideal))) ⟨m', fun _ => 0, g'⟩ (fun r => ∀ c : Dev Cert.DwKvRefIdeal.nD,
          r.2.mem ((c.tc : Thread Cert.DwKvRefIdeal.nD Cert.DwKvRefIdeal.τ).loc Cert.DwKvRefIdeal.main_v5) = v0 c
          ∧ r.2.mem ((c.tc : Thread Cert.DwKvRefIdeal.nD Cert.DwKvRefIdeal.τ).loc Cert.DwKvRefIdeal.main_arg0) = m' ((c.tc : Thread Cert.DwKvRefIdeal.nD Cert.DwKvRefIdeal.τ).loc Cert.DwKvRefIdeal.main_arg0)
          ∧ r.2.mem ((c.tc : Thread Cert.DwKvRefIdeal.nD Cert.DwKvRefIdeal.τ).loc Cert.DwKvRefIdeal.main_arg1) = m' ((c.tc : Thread Cert.DwKvRefIdeal.nD Cert.DwKvRefIdeal.τ).loc Cert.DwKvRefIdeal.main_arg1))

def preserves_NormTwoBwd_NormTwoBwdIdeal : Prop :=
  True

def algebraic_NormTwoBwdIdeal_NormTwoBwdRefIdeal [hNormTwoBwdIdeal : Cert.NormTwoBwdIdeal.Facts] [hNormTwoBwdRefIdeal : Cert.NormTwoBwdRefIdeal.Facts] : Prop :=
  ∀ (m : (ℓ : Loc Cert.NormTwoBwdIdeal.nD Cert.NormTwoBwdIdeal.τ Cert.NormTwoBwdIdeal.sig) → Buf (Elt Ideal) ℓ) (g : Dev Cert.NormTwoBwdIdeal.nD → PrngReg)
    (m' : (ℓ : Loc Cert.NormTwoBwdRefIdeal.nD Cert.NormTwoBwdRefIdeal.τ Cert.NormTwoBwdRefIdeal.sig) → Buf (Elt Ideal) ℓ) (g' : Dev Cert.NormTwoBwdRefIdeal.nD → PrngReg), Pre_NormTwoBwdIdeal m →
    (∀ c : Dev Cert.NormTwoBwdIdeal.nD,
      m' ((c.tc : Thread Cert.NormTwoBwdRefIdeal.nD Cert.NormTwoBwdRefIdeal.τ).loc Cert.NormTwoBwdRefIdeal.main_arg0) = m ((c.tc : Thread Cert.NormTwoBwdIdeal.nD Cert.NormTwoBwdIdeal.τ).loc Cert.NormTwoBwdIdeal.main_arg0)
      ∧ m' ((c.tc : Thread Cert.NormTwoBwdRefIdeal.nD Cert.NormTwoBwdRefIdeal.τ).loc Cert.NormTwoBwdRefIdeal.main_arg1) = m ((c.tc : Thread Cert.NormTwoBwdIdeal.nD Cert.NormTwoBwdIdeal.τ).loc Cert.NormTwoBwdIdeal.main_arg1)
      ∧ m' ((c.tc : Thread Cert.NormTwoBwdRefIdeal.nD Cert.NormTwoBwdRefIdeal.τ).loc Cert.NormTwoBwdRefIdeal.main_arg2) = m ((c.tc : Thread Cert.NormTwoBwdIdeal.nD Cert.NormTwoBwdIdeal.τ).loc Cert.NormTwoBwdIdeal.main_arg2)
      ∧ m' ((c.tc : Thread Cert.NormTwoBwdRefIdeal.nD Cert.NormTwoBwdRefIdeal.τ).loc Cert.NormTwoBwdRefIdeal.main_arg3) = m ((c.tc : Thread Cert.NormTwoBwdIdeal.nD Cert.NormTwoBwdIdeal.τ).loc Cert.NormTwoBwdIdeal.main_arg3)
      ∧ m' ((c.tc : Thread Cert.NormTwoBwdRefIdeal.nD Cert.NormTwoBwdRefIdeal.τ).loc Cert.NormTwoBwdRefIdeal.main_arg4) = m ((c.tc : Thread Cert.NormTwoBwdIdeal.nD Cert.NormTwoBwdIdeal.τ).loc Cert.NormTwoBwdIdeal.main_arg4)
      ∧ m' ((c.tc : Thread Cert.NormTwoBwdRefIdeal.nD Cert.NormTwoBwdRefIdeal.τ).loc Cert.NormTwoBwdRefIdeal.main_arg5) = m ((c.tc : Thread Cert.NormTwoBwdIdeal.nD Cert.NormTwoBwdIdeal.τ).loc Cert.NormTwoBwdIdeal.main_arg5)) →
    ∃ (v0 : (c : Dev Cert.NormTwoBwdIdeal.nD) → Buf (Elt Ideal) ((c.tc : Thread Cert.NormTwoBwdIdeal.nD Cert.NormTwoBwdIdeal.τ).loc Cert.NormTwoBwdIdeal.main_v0_0)) (v1 : (c : Dev Cert.NormTwoBwdIdeal.nD) → Buf (Elt Ideal) ((c.tc : Thread Cert.NormTwoBwdIdeal.nD Cert.NormTwoBwdIdeal.τ).loc Cert.NormTwoBwdIdeal.main_v0_1)),
      θ_run (Cert.NormTwoBwdIdeal.defs (F := Ideal)) (onTc (τ := Cert.NormTwoBwdIdeal.τ) (Cert.NormTwoBwdIdeal.main (F := Ideal))) ⟨m, fun _ => 0, g⟩ (fun r => ∀ c : Dev Cert.NormTwoBwdIdeal.nD,
          r.2.mem ((c.tc : Thread Cert.NormTwoBwdIdeal.nD Cert.NormTwoBwdIdeal.τ).loc Cert.NormTwoBwdIdeal.main_v0_0) = v0 c
          ∧ r.2.mem ((c.tc : Thread Cert.NormTwoBwdIdeal.nD Cert.NormTwoBwdIdeal.τ).loc Cert.NormTwoBwdIdeal.main_v0_1) = v1 c
          ∧ r.2.mem ((c.tc : Thread Cert.NormTwoBwdIdeal.nD Cert.NormTwoBwdIdeal.τ).loc Cert.NormTwoBwdIdeal.main_arg0) = m ((c.tc : Thread Cert.NormTwoBwdIdeal.nD Cert.NormTwoBwdIdeal.τ).loc Cert.NormTwoBwdIdeal.main_arg0)
          ∧ r.2.mem ((c.tc : Thread Cert.NormTwoBwdIdeal.nD Cert.NormTwoBwdIdeal.τ).loc Cert.NormTwoBwdIdeal.main_arg1) = m ((c.tc : Thread Cert.NormTwoBwdIdeal.nD Cert.NormTwoBwdIdeal.τ).loc Cert.NormTwoBwdIdeal.main_arg1)
          ∧ r.2.mem ((c.tc : Thread Cert.NormTwoBwdIdeal.nD Cert.NormTwoBwdIdeal.τ).loc Cert.NormTwoBwdIdeal.main_arg2) = m ((c.tc : Thread Cert.NormTwoBwdIdeal.nD Cert.NormTwoBwdIdeal.τ).loc Cert.NormTwoBwdIdeal.main_arg2)
          ∧ r.2.mem ((c.tc : Thread Cert.NormTwoBwdIdeal.nD Cert.NormTwoBwdIdeal.τ).loc Cert.NormTwoBwdIdeal.main_arg3) = m ((c.tc : Thread Cert.NormTwoBwdIdeal.nD Cert.NormTwoBwdIdeal.τ).loc Cert.NormTwoBwdIdeal.main_arg3)
          ∧ r.2.mem ((c.tc : Thread Cert.NormTwoBwdIdeal.nD Cert.NormTwoBwdIdeal.τ).loc Cert.NormTwoBwdIdeal.main_arg4) = m ((c.tc : Thread Cert.NormTwoBwdIdeal.nD Cert.NormTwoBwdIdeal.τ).loc Cert.NormTwoBwdIdeal.main_arg4)
          ∧ r.2.mem ((c.tc : Thread Cert.NormTwoBwdIdeal.nD Cert.NormTwoBwdIdeal.τ).loc Cert.NormTwoBwdIdeal.main_arg5) = m ((c.tc : Thread Cert.NormTwoBwdIdeal.nD Cert.NormTwoBwdIdeal.τ).loc Cert.NormTwoBwdIdeal.main_arg5))
      ∧ θ_run (Cert.NormTwoBwdRefIdeal.defs (F := Ideal)) (onTc (τ := Cert.NormTwoBwdRefIdeal.τ) (Cert.NormTwoBwdRefIdeal.main (F := Ideal))) ⟨m', fun _ => 0, g'⟩ (fun r => ∀ c : Dev Cert.NormTwoBwdRefIdeal.nD,
          r.2.mem ((c.tc : Thread Cert.NormTwoBwdRefIdeal.nD Cert.NormTwoBwdRefIdeal.τ).loc Cert.NormTwoBwdRefIdeal.main_v43) = v0 c
          ∧ r.2.mem ((c.tc : Thread Cert.NormTwoBwdRefIdeal.nD Cert.NormTwoBwdRefIdeal.τ).loc Cert.NormTwoBwdRefIdeal.main_v26) = v1 c
          ∧ r.2.mem ((c.tc : Thread Cert.NormTwoBwdRefIdeal.nD Cert.NormTwoBwdRefIdeal.τ).loc Cert.NormTwoBwdRefIdeal.main_arg0) = m' ((c.tc : Thread Cert.NormTwoBwdRefIdeal.nD Cert.NormTwoBwdRefIdeal.τ).loc Cert.NormTwoBwdRefIdeal.main_arg0)
          ∧ r.2.mem ((c.tc : Thread Cert.NormTwoBwdRefIdeal.nD Cert.NormTwoBwdRefIdeal.τ).loc Cert.NormTwoBwdRefIdeal.main_arg1) = m' ((c.tc : Thread Cert.NormTwoBwdRefIdeal.nD Cert.NormTwoBwdRefIdeal.τ).loc Cert.NormTwoBwdRefIdeal.main_arg1)
          ∧ r.2.mem ((c.tc : Thread Cert.NormTwoBwdRefIdeal.nD Cert.NormTwoBwdRefIdeal.τ).loc Cert.NormTwoBwdRefIdeal.main_arg2) = m' ((c.tc : Thread Cert.NormTwoBwdRefIdeal.nD Cert.NormTwoBwdRefIdeal.τ).loc Cert.NormTwoBwdRefIdeal.main_arg2)
          ∧ r.2.mem ((c.tc : Thread Cert.NormTwoBwdRefIdeal.nD Cert.NormTwoBwdRefIdeal.τ).loc Cert.NormTwoBwdRefIdeal.main_arg3) = m' ((c.tc : Thread Cert.NormTwoBwdRefIdeal.nD Cert.NormTwoBwdRefIdeal.τ).loc Cert.NormTwoBwdRefIdeal.main_arg3)
          ∧ r.2.mem ((c.tc : Thread Cert.NormTwoBwdRefIdeal.nD Cert.NormTwoBwdRefIdeal.τ).loc Cert.NormTwoBwdRefIdeal.main_arg4) = m' ((c.tc : Thread Cert.NormTwoBwdRefIdeal.nD Cert.NormTwoBwdRefIdeal.τ).loc Cert.NormTwoBwdRefIdeal.main_arg4)
          ∧ r.2.mem ((c.tc : Thread Cert.NormTwoBwdRefIdeal.nD Cert.NormTwoBwdRefIdeal.τ).loc Cert.NormTwoBwdRefIdeal.main_arg5) = m' ((c.tc : Thread Cert.NormTwoBwdRefIdeal.nD Cert.NormTwoBwdRefIdeal.τ).loc Cert.NormTwoBwdRefIdeal.main_arg5))

def preserves_NormOneBwd_NormOneBwdIdeal : Prop :=
  True

def algebraic_NormOneBwdIdeal_NormOneBwdRefIdeal [hNormOneBwdIdeal : Cert.NormOneBwdIdeal.Facts] [hNormOneBwdRefIdeal : Cert.NormOneBwdRefIdeal.Facts] : Prop :=
  ∀ (m : (ℓ : Loc Cert.NormOneBwdIdeal.nD Cert.NormOneBwdIdeal.τ Cert.NormOneBwdIdeal.sig) → Buf (Elt Ideal) ℓ) (g : Dev Cert.NormOneBwdIdeal.nD → PrngReg)
    (m' : (ℓ : Loc Cert.NormOneBwdRefIdeal.nD Cert.NormOneBwdRefIdeal.τ Cert.NormOneBwdRefIdeal.sig) → Buf (Elt Ideal) ℓ) (g' : Dev Cert.NormOneBwdRefIdeal.nD → PrngReg), Pre_NormOneBwdIdeal m →
    (∀ c : Dev Cert.NormOneBwdIdeal.nD,
      m' ((c.tc : Thread Cert.NormOneBwdRefIdeal.nD Cert.NormOneBwdRefIdeal.τ).loc Cert.NormOneBwdRefIdeal.main_arg0) = m ((c.tc : Thread Cert.NormOneBwdIdeal.nD Cert.NormOneBwdIdeal.τ).loc Cert.NormOneBwdIdeal.main_arg0)
      ∧ m' ((c.tc : Thread Cert.NormOneBwdRefIdeal.nD Cert.NormOneBwdRefIdeal.τ).loc Cert.NormOneBwdRefIdeal.main_arg1) = m ((c.tc : Thread Cert.NormOneBwdIdeal.nD Cert.NormOneBwdIdeal.τ).loc Cert.NormOneBwdIdeal.main_arg1)
      ∧ m' ((c.tc : Thread Cert.NormOneBwdRefIdeal.nD Cert.NormOneBwdRefIdeal.τ).loc Cert.NormOneBwdRefIdeal.main_arg2) = m ((c.tc : Thread Cert.NormOneBwdIdeal.nD Cert.NormOneBwdIdeal.τ).loc Cert.NormOneBwdIdeal.main_arg2)
      ∧ m' ((c.tc : Thread Cert.NormOneBwdRefIdeal.nD Cert.NormOneBwdRefIdeal.τ).loc Cert.NormOneBwdRefIdeal.main_arg3) = m ((c.tc : Thread Cert.NormOneBwdIdeal.nD Cert.NormOneBwdIdeal.τ).loc Cert.NormOneBwdIdeal.main_arg3)
      ∧ m' ((c.tc : Thread Cert.NormOneBwdRefIdeal.nD Cert.NormOneBwdRefIdeal.τ).loc Cert.NormOneBwdRefIdeal.main_arg4) = m ((c.tc : Thread Cert.NormOneBwdIdeal.nD Cert.NormOneBwdIdeal.τ).loc Cert.NormOneBwdIdeal.main_arg4)) →
    ∃ (v0 : (c : Dev Cert.NormOneBwdIdeal.nD) → Buf (Elt Ideal) ((c.tc : Thread Cert.NormOneBwdIdeal.nD Cert.NormOneBwdIdeal.τ).loc Cert.NormOneBwdIdeal.main_v0_0)) (v1 : (c : Dev Cert.NormOneBwdIdeal.nD) → Buf (Elt Ideal) ((c.tc : Thread Cert.NormOneBwdIdeal.nD Cert.NormOneBwdIdeal.τ).loc Cert.NormOneBwdIdeal.main_v0_1)),
      θ_run (Cert.NormOneBwdIdeal.defs (F := Ideal)) (onTc (τ := Cert.NormOneBwdIdeal.τ) (Cert.NormOneBwdIdeal.main (F := Ideal))) ⟨m, fun _ => 0, g⟩ (fun r => ∀ c : Dev Cert.NormOneBwdIdeal.nD,
          r.2.mem ((c.tc : Thread Cert.NormOneBwdIdeal.nD Cert.NormOneBwdIdeal.τ).loc Cert.NormOneBwdIdeal.main_v0_0) = v0 c
          ∧ r.2.mem ((c.tc : Thread Cert.NormOneBwdIdeal.nD Cert.NormOneBwdIdeal.τ).loc Cert.NormOneBwdIdeal.main_v0_1) = v1 c
          ∧ r.2.mem ((c.tc : Thread Cert.NormOneBwdIdeal.nD Cert.NormOneBwdIdeal.τ).loc Cert.NormOneBwdIdeal.main_arg0) = m ((c.tc : Thread Cert.NormOneBwdIdeal.nD Cert.NormOneBwdIdeal.τ).loc Cert.NormOneBwdIdeal.main_arg0)
          ∧ r.2.mem ((c.tc : Thread Cert.NormOneBwdIdeal.nD Cert.NormOneBwdIdeal.τ).loc Cert.NormOneBwdIdeal.main_arg1) = m ((c.tc : Thread Cert.NormOneBwdIdeal.nD Cert.NormOneBwdIdeal.τ).loc Cert.NormOneBwdIdeal.main_arg1)
          ∧ r.2.mem ((c.tc : Thread Cert.NormOneBwdIdeal.nD Cert.NormOneBwdIdeal.τ).loc Cert.NormOneBwdIdeal.main_arg2) = m ((c.tc : Thread Cert.NormOneBwdIdeal.nD Cert.NormOneBwdIdeal.τ).loc Cert.NormOneBwdIdeal.main_arg2)
          ∧ r.2.mem ((c.tc : Thread Cert.NormOneBwdIdeal.nD Cert.NormOneBwdIdeal.τ).loc Cert.NormOneBwdIdeal.main_arg3) = m ((c.tc : Thread Cert.NormOneBwdIdeal.nD Cert.NormOneBwdIdeal.τ).loc Cert.NormOneBwdIdeal.main_arg3)
          ∧ r.2.mem ((c.tc : Thread Cert.NormOneBwdIdeal.nD Cert.NormOneBwdIdeal.τ).loc Cert.NormOneBwdIdeal.main_arg4) = m ((c.tc : Thread Cert.NormOneBwdIdeal.nD Cert.NormOneBwdIdeal.τ).loc Cert.NormOneBwdIdeal.main_arg4))
      ∧ θ_run (Cert.NormOneBwdRefIdeal.defs (F := Ideal)) (onTc (τ := Cert.NormOneBwdRefIdeal.τ) (Cert.NormOneBwdRefIdeal.main (F := Ideal))) ⟨m', fun _ => 0, g'⟩ (fun r => ∀ c : Dev Cert.NormOneBwdRefIdeal.nD,
          r.2.mem ((c.tc : Thread Cert.NormOneBwdRefIdeal.nD Cert.NormOneBwdRefIdeal.τ).loc Cert.NormOneBwdRefIdeal.main_v39) = v0 c
          ∧ r.2.mem ((c.tc : Thread Cert.NormOneBwdRefIdeal.nD Cert.NormOneBwdRefIdeal.τ).loc Cert.NormOneBwdRefIdeal.main_v22) = v1 c
          ∧ r.2.mem ((c.tc : Thread Cert.NormOneBwdRefIdeal.nD Cert.NormOneBwdRefIdeal.τ).loc Cert.NormOneBwdRefIdeal.main_arg0) = m' ((c.tc : Thread Cert.NormOneBwdRefIdeal.nD Cert.NormOneBwdRefIdeal.τ).loc Cert.NormOneBwdRefIdeal.main_arg0)
          ∧ r.2.mem ((c.tc : Thread Cert.NormOneBwdRefIdeal.nD Cert.NormOneBwdRefIdeal.τ).loc Cert.NormOneBwdRefIdeal.main_arg1) = m' ((c.tc : Thread Cert.NormOneBwdRefIdeal.nD Cert.NormOneBwdRefIdeal.τ).loc Cert.NormOneBwdRefIdeal.main_arg1)
          ∧ r.2.mem ((c.tc : Thread Cert.NormOneBwdRefIdeal.nD Cert.NormOneBwdRefIdeal.τ).loc Cert.NormOneBwdRefIdeal.main_arg2) = m' ((c.tc : Thread Cert.NormOneBwdRefIdeal.nD Cert.NormOneBwdRefIdeal.τ).loc Cert.NormOneBwdRefIdeal.main_arg2)
          ∧ r.2.mem ((c.tc : Thread Cert.NormOneBwdRefIdeal.nD Cert.NormOneBwdRefIdeal.τ).loc Cert.NormOneBwdRefIdeal.main_arg3) = m' ((c.tc : Thread Cert.NormOneBwdRefIdeal.nD Cert.NormOneBwdRefIdeal.τ).loc Cert.NormOneBwdRefIdeal.main_arg3)
          ∧ r.2.mem ((c.tc : Thread Cert.NormOneBwdRefIdeal.nD Cert.NormOneBwdRefIdeal.τ).loc Cert.NormOneBwdRefIdeal.main_arg4) = m' ((c.tc : Thread Cert.NormOneBwdRefIdeal.nD Cert.NormOneBwdRefIdeal.τ).loc Cert.NormOneBwdRefIdeal.main_arg4))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)
      ∧ m' ((c.tc : Thread Cert.MergeBwdRefIdeal.nD Cert.MergeBwdRefIdeal.τ).loc Cert.MergeBwdRefIdeal.main_arg6) = m ((c.tc : Thread Cert.MergeBwdIdeal.nD Cert.MergeBwdIdeal.τ).loc Cert.MergeBwdIdeal.main_arg6)
      ∧ m' ((c.tc : Thread Cert.MergeBwdRefIdeal.nD Cert.MergeBwdRefIdeal.τ).loc Cert.MergeBwdRefIdeal.main_arg7) = m ((c.tc : Thread Cert.MergeBwdIdeal.nD Cert.MergeBwdIdeal.τ).loc Cert.MergeBwdIdeal.main_arg7)
      ∧ m' ((c.tc : Thread Cert.MergeBwdRefIdeal.nD Cert.MergeBwdRefIdeal.τ).loc Cert.MergeBwdRefIdeal.main_arg8) = m ((c.tc : Thread Cert.MergeBwdIdeal.nD Cert.MergeBwdIdeal.τ).loc Cert.MergeBwdIdeal.main_arg8)) →
    ∃ (v0 : (c : Dev Cert.MergeBwdIdeal.nD) → Buf (Elt Ideal) ((c.tc : Thread Cert.MergeBwdIdeal.nD Cert.MergeBwdIdeal.τ).loc Cert.MergeBwdIdeal.main_v26_0)) (v1 : (c : Dev Cert.MergeBwdIdeal.nD) → Buf (Elt Ideal) ((c.tc : Thread Cert.MergeBwdIdeal.nD Cert.MergeBwdIdeal.τ).loc Cert.MergeBwdIdeal.main_v26_1)) (v2 : (c : Dev Cert.MergeBwdIdeal.nD) → Buf (Elt Ideal) ((c.tc : Thread Cert.MergeBwdIdeal.nD Cert.MergeBwdIdeal.τ).loc Cert.MergeBwdIdeal.main_v26_2)) (v3 : (c : Dev Cert.MergeBwdIdeal.nD) → Buf (Elt Ideal) ((c.tc : Thread Cert.MergeBwdIdeal.nD Cert.MergeBwdIdeal.τ).loc Cert.MergeBwdIdeal.main_v26_3)) (v4 : (c : Dev Cert.MergeBwdIdeal.nD) → Buf (Elt Ideal) ((c.tc : Thread Cert.MergeBwdIdeal.nD Cert.MergeBwdIdeal.τ).loc Cert.MergeBwdIdeal.main_v26_4)) (v5 : (c : Dev Cert.MergeBwdIdeal.nD) → Buf (Elt Ideal) ((c.tc : Thread Cert.MergeBwdIdeal.nD Cert.MergeBwdIdeal.τ).loc Cert.MergeBwdIdeal.main_v26_5)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v26_0) = v0 c
          ∧ r.2.mem ((c.tc : Thread Cert.MergeBwdIdeal.nD Cert.MergeBwdIdeal.τ).loc Cert.MergeBwdIdeal.main_v26_1) = v1 c
          ∧ r.2.mem ((c.tc : Thread Cert.MergeBwdIdeal.nD Cert.MergeBwdIdeal.τ).loc Cert.MergeBwdIdeal.main_v26_2) = v2 c
          ∧ r.2.mem ((c.tc : Thread Cert.MergeBwdIdeal.nD Cert.MergeBwdIdeal.τ).loc Cert.MergeBwdIdeal.main_v26_3) = v3 c
          ∧ r.2.mem ((c.tc : Thread Cert.MergeBwdIdeal.nD Cert.MergeBwdIdeal.τ).loc Cert.MergeBwdIdeal.main_v26_4) = v4 c
          ∧ r.2.mem ((c.tc : Thread Cert.MergeBwdIdeal.nD Cert.MergeBwdIdeal.τ).loc Cert.MergeBwdIdeal.main_v26_5) = v5 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
          ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7)
          ∧ r.2.mem ((c.tc : Thread Cert.MergeBwdIdeal.nD Cert.MergeBwdIdeal.τ).loc Cert.MergeBwdIdeal.main_arg8) = m ((c.tc : Thread Cert.MergeBwdIdeal.nD Cert.MergeBwdIdeal.τ).loc Cert.MergeBwdIdeal.main_arg8))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v46) = v0 c
          ∧ r.2.mem ((c.tc : Thread Cert.MergeBwdRefIdeal.nD Cert.MergeBwdRefIdeal.τ).loc Cert.MergeBwdRefIdeal.main_v49) = v1 c
          ∧ r.2.mem ((c.tc : Thread Cert.MergeBwdRefIdeal.nD Cert.MergeBwdRefIdeal.τ).loc Cert.MergeBwdRefIdeal.main_v52) = v2 c
          ∧ r.2.mem ((c.tc : Thread Cert.MergeBwdRefIdeal.nD Cert.MergeBwdRefIdeal.τ).loc Cert.MergeBwdRefIdeal.main_v55) = v3 c
          ∧ r.2.mem ((c.tc : Thread Cert.MergeBwdRefIdeal.nD Cert.MergeBwdRefIdeal.τ).loc Cert.MergeBwdRefIdeal.main_v42) = v4 c
          ∧ r.2.mem ((c.tc : Thread Cert.MergeBwdRefIdeal.nD Cert.MergeBwdRefIdeal.τ).loc Cert.MergeBwdRefIdeal.main_v33) = v5 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5)
          ∧ r.2.mem ((c.tc : Thread Cert.MergeBwdRefIdeal.nD Cert.MergeBwdRefIdeal.τ).loc Cert.MergeBwdRefIdeal.main_arg6) = m' ((c.tc : Thread Cert.MergeBwdRefIdeal.nD Cert.MergeBwdRefIdeal.τ).loc Cert.MergeBwdRefIdeal.main_arg6)
          ∧ r.2.mem ((c.tc : Thread Cert.MergeBwdRefIdeal.nD Cert.MergeBwdRefIdeal.τ).loc Cert.MergeBwdRefIdeal.main_arg7) = m' ((c.tc : Thread Cert.MergeBwdRefIdeal.nD Cert.MergeBwdRefIdeal.τ).loc Cert.MergeBwdRefIdeal.main_arg7)
          ∧ r.2.mem ((c.tc : Thread Cert.MergeBwdRefIdeal.nD Cert.MergeBwdRefIdeal.τ).loc Cert.MergeBwdRefIdeal.main_arg8) = m' ((c.tc : Thread Cert.MergeBwdRefIdeal.nD Cert.MergeBwdRefIdeal.τ).loc Cert.MergeBwdRefIdeal.main_arg8))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)
      ∧ m' ((c.tc : Thread Cert.UpFwdRefIdeal.nD Cert.UpFwdRefIdeal.τ).loc Cert.UpFwdRefIdeal.main_arg2) = m ((c.tc : Thread Cert.UpFwdIdeal.nD Cert.UpFwdIdeal.τ).loc Cert.UpFwdIdeal.main_arg2)
      ∧ m' ((c.tc : Thread Cert.UpFwdRefIdeal.nD Cert.UpFwdRefIdeal.τ).loc Cert.UpFwdRefIdeal.main_arg3) = m ((c.tc : Thread Cert.UpFwdIdeal.nD Cert.UpFwdIdeal.τ).loc Cert.UpFwdIdeal.main_arg3)) →
    ∃ (v0 : (c : Dev Cert.UpFwdIdeal.nD) → Buf (Elt Ideal) ((c.tc : Thread Cert.UpFwdIdeal.nD Cert.UpFwdIdeal.τ).loc Cert.UpFwdIdeal.main_v0_0)) (v1 : (c : Dev Cert.UpFwdIdeal.nD) → Buf (Elt Ideal) ((c.tc : Thread Cert.UpFwdIdeal.nD Cert.UpFwdIdeal.τ).loc Cert.UpFwdIdeal.main_v0_1)) (v2 : (c : Dev Cert.UpFwdIdeal.nD) → Buf (Elt Ideal) ((c.tc : Thread Cert.UpFwdIdeal.nD Cert.UpFwdIdeal.τ).loc Cert.UpFwdIdeal.main_v0_2)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0_0) = v0 c
          ∧ r.2.mem ((c.tc : Thread Cert.UpFwdIdeal.nD Cert.UpFwdIdeal.τ).loc Cert.UpFwdIdeal.main_v0_1) = v1 c
          ∧ r.2.mem ((c.tc : Thread Cert.UpFwdIdeal.nD Cert.UpFwdIdeal.τ).loc Cert.UpFwdIdeal.main_v0_2) = v2 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
          ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2)
          ∧ r.2.mem ((c.tc : Thread Cert.UpFwdIdeal.nD Cert.UpFwdIdeal.τ).loc Cert.UpFwdIdeal.main_arg3) = m ((c.tc : Thread Cert.UpFwdIdeal.nD Cert.UpFwdIdeal.τ).loc Cert.UpFwdIdeal.main_arg3))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v30) = v0 c
          ∧ r.2.mem ((c.tc : Thread Cert.UpFwdRefIdeal.nD Cert.UpFwdRefIdeal.τ).loc Cert.UpFwdRefIdeal.main_v31) = v1 c
          ∧ r.2.mem ((c.tc : Thread Cert.UpFwdRefIdeal.nD Cert.UpFwdRefIdeal.τ).loc Cert.UpFwdRefIdeal.main_v34) = v2 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1)
          ∧ r.2.mem ((c.tc : Thread Cert.UpFwdRefIdeal.nD Cert.UpFwdRefIdeal.τ).loc Cert.UpFwdRefIdeal.main_arg2) = m' ((c.tc : Thread Cert.UpFwdRefIdeal.nD Cert.UpFwdRefIdeal.τ).loc Cert.UpFwdRefIdeal.main_arg2)
          ∧ r.2.mem ((c.tc : Thread Cert.UpFwdRefIdeal.nD Cert.UpFwdRefIdeal.τ).loc Cert.UpFwdRefIdeal.main_arg3) = m' ((c.tc : Thread Cert.UpFwdRefIdeal.nD Cert.UpFwdRefIdeal.τ).loc Cert.UpFwdRefIdeal.main_arg3))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)
      ∧ m' ((c.tc : Thread Cert.MergeFwdRefIdeal.nD Cert.MergeFwdRefIdeal.τ).loc Cert.MergeFwdRefIdeal.main_arg7) = m ((c.tc : Thread Cert.MergeFwdIdeal.nD Cert.MergeFwdIdeal.τ).loc Cert.MergeFwdIdeal.main_arg7)
      ∧ m' ((c.tc : Thread Cert.MergeFwdRefIdeal.nD Cert.MergeFwdRefIdeal.τ).loc Cert.MergeFwdRefIdeal.main_arg8) = m ((c.tc : Thread Cert.MergeFwdIdeal.nD Cert.MergeFwdIdeal.τ).loc Cert.MergeFwdIdeal.main_arg8)
      ∧ m' ((c.tc : Thread Cert.MergeFwdRefIdeal.nD Cert.MergeFwdRefIdeal.τ).loc Cert.MergeFwdRefIdeal.main_arg9) = m ((c.tc : Thread Cert.MergeFwdIdeal.nD Cert.MergeFwdIdeal.τ).loc Cert.MergeFwdIdeal.main_arg9)) →
    ∃ (v0 : (c : Dev Cert.MergeFwdIdeal.nD) → Buf (Elt Ideal) ((c.tc : Thread Cert.MergeFwdIdeal.nD Cert.MergeFwdIdeal.τ).loc Cert.MergeFwdIdeal.main_v0_0)) (v1 : (c : Dev Cert.MergeFwdIdeal.nD) → Buf (Elt Ideal) ((c.tc : Thread Cert.MergeFwdIdeal.nD Cert.MergeFwdIdeal.τ).loc Cert.MergeFwdIdeal.main_v0_1)) (v2 : (c : Dev Cert.MergeFwdIdeal.nD) → Buf (Elt Ideal) ((c.tc : Thread Cert.MergeFwdIdeal.nD Cert.MergeFwdIdeal.τ).loc Cert.MergeFwdIdeal.main_v0_2)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0_0) = v0 c
          ∧ r.2.mem ((c.tc : Thread Cert.MergeFwdIdeal.nD Cert.MergeFwdIdeal.τ).loc Cert.MergeFwdIdeal.main_v0_1) = v1 c
          ∧ r.2.mem ((c.tc : Thread Cert.MergeFwdIdeal.nD Cert.MergeFwdIdeal.τ).loc Cert.MergeFwdIdeal.main_v0_2) = v2 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
          ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
          ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8)
          ∧ r.2.mem ((c.tc : Thread Cert.MergeFwdIdeal.nD Cert.MergeFwdIdeal.τ).loc Cert.MergeFwdIdeal.main_arg9) = m ((c.tc : Thread Cert.MergeFwdIdeal.nD Cert.MergeFwdIdeal.τ).loc Cert.MergeFwdIdeal.main_arg9))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v42) = v0 c
          ∧ r.2.mem ((c.tc : Thread Cert.MergeFwdRefIdeal.nD Cert.MergeFwdRefIdeal.τ).loc Cert.MergeFwdRefIdeal.main_v29) = v1 c
          ∧ r.2.mem ((c.tc : Thread Cert.MergeFwdRefIdeal.nD Cert.MergeFwdRefIdeal.τ).loc Cert.MergeFwdRefIdeal.main_v43) = v2 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6)
          ∧ r.2.mem ((c.tc : Thread Cert.MergeFwdRefIdeal.nD Cert.MergeFwdRefIdeal.τ).loc Cert.MergeFwdRefIdeal.main_arg7) = m' ((c.tc : Thread Cert.MergeFwdRefIdeal.nD Cert.MergeFwdRefIdeal.τ).loc Cert.MergeFwdRefIdeal.main_arg7)
          ∧ r.2.mem ((c.tc : Thread Cert.MergeFwdRefIdeal.nD Cert.MergeFwdRefIdeal.τ).loc Cert.MergeFwdRefIdeal.main_arg8) = m' ((c.tc : Thread Cert.MergeFwdRefIdeal.nD Cert.MergeFwdRefIdeal.τ).loc Cert.MergeFwdRefIdeal.main_arg8)
          ∧ r.2.mem ((c.tc : Thread Cert.MergeFwdRefIdeal.nD Cert.MergeFwdRefIdeal.τ).loc Cert.MergeFwdRefIdeal.main_arg9) = m' ((c.tc : Thread Cert.MergeFwdRefIdeal.nD Cert.MergeFwdRefIdeal.τ).loc Cert.MergeFwdRefIdeal.main_arg9))

def preserves_UpdIn_UpdInIdeal : Prop :=
  True

def algebraic_UpdInIdeal_UpdInRefIdeal [hUpdInIdeal : Cert.UpdInIdeal.Facts] [hUpdInRefIdeal : Cert.UpdInRefIdeal.Facts] : Prop :=
  ∀ (m : (ℓ : Loc Cert.UpdInIdeal.nD Cert.UpdInIdeal.τ Cert.UpdInIdeal.sig) → Buf (Elt Ideal) ℓ) (g : Dev Cert.UpdInIdeal.nD → PrngReg)
    (m' : (ℓ : Loc Cert.UpdInRefIdeal.nD Cert.UpdInRefIdeal.τ Cert.UpdInRefIdeal.sig) → Buf (Elt Ideal) ℓ) (g' : Dev Cert.UpdInRefIdeal.nD → PrngReg), Pre_UpdInIdeal m →
    (∀ c : Dev Cert.UpdInIdeal.nD,
      m' ((c.tc : Thread Cert.UpdInRefIdeal.nD Cert.UpdInRefIdeal.τ).loc Cert.UpdInRefIdeal.main_arg0) = m ((c.tc : Thread Cert.UpdInIdeal.nD Cert.UpdInIdeal.τ).loc Cert.UpdInIdeal.main_arg0)
      ∧ m' ((c.tc : Thread Cert.UpdInRefIdeal.nD Cert.UpdInRefIdeal.τ).loc Cert.UpdInRefIdeal.main_arg1) = m ((c.tc : Thread Cert.UpdInIdeal.nD Cert.UpdInIdeal.τ).loc Cert.UpdInIdeal.main_arg1)
      ∧ m' ((c.tc : Thread Cert.UpdInRefIdeal.nD Cert.UpdInRefIdeal.τ).loc Cert.UpdInRefIdeal.main_arg2) = m ((c.tc : Thread Cert.UpdInIdeal.nD Cert.UpdInIdeal.τ).loc Cert.UpdInIdeal.main_arg2)
      ∧ m' ((c.tc : Thread Cert.UpdInRefIdeal.nD Cert.UpdInRefIdeal.τ).loc Cert.UpdInRefIdeal.main_arg3) = m ((c.tc : Thread Cert.UpdInIdeal.nD Cert.UpdInIdeal.τ).loc Cert.UpdInIdeal.main_arg3)
      ∧ m' ((c.tc : Thread Cert.UpdInRefIdeal.nD Cert.UpdInRefIdeal.τ).loc Cert.UpdInRefIdeal.main_arg4) = m ((c.tc : Thread Cert.UpdInIdeal.nD Cert.UpdInIdeal.τ).loc Cert.UpdInIdeal.main_arg4)) →
    ∃ (v0 : (c : Dev Cert.UpdInIdeal.nD) → Buf (Elt Ideal) ((c.tc : Thread Cert.UpdInIdeal.nD Cert.UpdInIdeal.τ).loc Cert.UpdInIdeal.main_v0_0)) (v1 : (c : Dev Cert.UpdInIdeal.nD) → Buf (Elt Ideal) ((c.tc : Thread Cert.UpdInIdeal.nD Cert.UpdInIdeal.τ).loc Cert.UpdInIdeal.main_v0_1)) (v2 : (c : Dev Cert.UpdInIdeal.nD) → Buf (Elt Ideal) ((c.tc : Thread Cert.UpdInIdeal.nD Cert.UpdInIdeal.τ).loc Cert.UpdInIdeal.main_v0_2)) (v3 : (c : Dev Cert.UpdInIdeal.nD) → Buf (Elt Ideal) ((c.tc : Thread Cert.UpdInIdeal.nD Cert.UpdInIdeal.τ).loc Cert.UpdInIdeal.main_v0_3)),
      θ_run (Cert.UpdInIdeal.defs (F := Ideal)) (onTc (τ := Cert.UpdInIdeal.τ) (Cert.UpdInIdeal.main (F := Ideal))) ⟨m, fun _ => 0, g⟩ (fun r => ∀ c : Dev Cert.UpdInIdeal.nD,
          r.2.mem ((c.tc : Thread Cert.UpdInIdeal.nD Cert.UpdInIdeal.τ).loc Cert.UpdInIdeal.main_v0_0) = v0 c
          ∧ r.2.mem ((c.tc : Thread Cert.UpdInIdeal.nD Cert.UpdInIdeal.τ).loc Cert.UpdInIdeal.main_v0_1) = v1 c
          ∧ r.2.mem ((c.tc : Thread Cert.UpdInIdeal.nD Cert.UpdInIdeal.τ).loc Cert.UpdInIdeal.main_v0_2) = v2 c
          ∧ r.2.mem ((c.tc : Thread Cert.UpdInIdeal.nD Cert.UpdInIdeal.τ).loc Cert.UpdInIdeal.main_v0_3) = v3 c
          ∧ r.2.mem ((c.tc : Thread Cert.UpdInIdeal.nD Cert.UpdInIdeal.τ).loc Cert.UpdInIdeal.main_arg0) = m ((c.tc : Thread Cert.UpdInIdeal.nD Cert.UpdInIdeal.τ).loc Cert.UpdInIdeal.main_arg0)
          ∧ r.2.mem ((c.tc : Thread Cert.UpdInIdeal.nD Cert.UpdInIdeal.τ).loc Cert.UpdInIdeal.main_arg1) = m ((c.tc : Thread Cert.UpdInIdeal.nD Cert.UpdInIdeal.τ).loc Cert.UpdInIdeal.main_arg1)
          ∧ r.2.mem ((c.tc : Thread Cert.UpdInIdeal.nD Cert.UpdInIdeal.τ).loc Cert.UpdInIdeal.main_arg2) = m ((c.tc : Thread Cert.UpdInIdeal.nD Cert.UpdInIdeal.τ).loc Cert.UpdInIdeal.main_arg2)
          ∧ r.2.mem ((c.tc : Thread Cert.UpdInIdeal.nD Cert.UpdInIdeal.τ).loc Cert.UpdInIdeal.main_arg3) = m ((c.tc : Thread Cert.UpdInIdeal.nD Cert.UpdInIdeal.τ).loc Cert.UpdInIdeal.main_arg3)
          ∧ r.2.mem ((c.tc : Thread Cert.UpdInIdeal.nD Cert.UpdInIdeal.τ).loc Cert.UpdInIdeal.main_arg4) = m ((c.tc : Thread Cert.UpdInIdeal.nD Cert.UpdInIdeal.τ).loc Cert.UpdInIdeal.main_arg4))
      ∧ θ_run (Cert.UpdInRefIdeal.defs (F := Ideal)) (onTc (τ := Cert.UpdInRefIdeal.τ) (Cert.UpdInRefIdeal.main (F := Ideal))) ⟨m', fun _ => 0, g'⟩ (fun r => ∀ c : Dev Cert.UpdInRefIdeal.nD,
          r.2.mem ((c.tc : Thread Cert.UpdInRefIdeal.nD Cert.UpdInRefIdeal.τ).loc Cert.UpdInRefIdeal.main_v2) = v0 c
          ∧ r.2.mem ((c.tc : Thread Cert.UpdInRefIdeal.nD Cert.UpdInRefIdeal.τ).loc Cert.UpdInRefIdeal.main_v26) = v1 c
          ∧ r.2.mem ((c.tc : Thread Cert.UpdInRefIdeal.nD Cert.UpdInRefIdeal.τ).loc Cert.UpdInRefIdeal.main_v7) = v2 c
          ∧ r.2.mem ((c.tc : Thread Cert.UpdInRefIdeal.nD Cert.UpdInRefIdeal.τ).loc Cert.UpdInRefIdeal.main_v13) = v3 c
          ∧ r.2.mem ((c.tc : Thread Cert.UpdInRefIdeal.nD Cert.UpdInRefIdeal.τ).loc Cert.UpdInRefIdeal.main_arg0) = m' ((c.tc : Thread Cert.UpdInRefIdeal.nD Cert.UpdInRefIdeal.τ).loc Cert.UpdInRefIdeal.main_arg0)
          ∧ r.2.mem ((c.tc : Thread Cert.UpdInRefIdeal.nD Cert.UpdInRefIdeal.τ).loc Cert.UpdInRefIdeal.main_arg1) = m' ((c.tc : Thread Cert.UpdInRefIdeal.nD Cert.UpdInRefIdeal.τ).loc Cert.UpdInRefIdeal.main_arg1)
          ∧ r.2.mem ((c.tc : Thread Cert.UpdInRefIdeal.nD Cert.UpdInRefIdeal.τ).loc Cert.UpdInRefIdeal.main_arg2) = m' ((c.tc : Thread Cert.UpdInRefIdeal.nD Cert.UpdInRefIdeal.τ).loc Cert.UpdInRefIdeal.main_arg2)
          ∧ r.2.mem ((c.tc : Thread Cert.UpdInRefIdeal.nD Cert.UpdInRefIdeal.τ).loc Cert.UpdInRefIdeal.main_arg3) = m' ((c.tc : Thread Cert.UpdInRefIdeal.nD Cert.UpdInRefIdeal.τ).loc Cert.UpdInRefIdeal.main_arg3)
          ∧ r.2.mem ((c.tc : Thread Cert.UpdInRefIdeal.nD Cert.UpdInRefIdeal.τ).loc Cert.UpdInRefIdeal.main_arg4) = m' ((c.tc : Thread Cert.UpdInRefIdeal.nD Cert.UpdInRefIdeal.τ).loc Cert.UpdInRefIdeal.main_arg4))

def preserves_UpdKv_UpdKvIdeal : Prop :=
  True

def algebraic_UpdKvIdeal_UpdKvRefIdeal [hUpdKvIdeal : Cert.UpdKvIdeal.Facts] [hUpdKvRefIdeal : Cert.UpdKvRefIdeal.Facts] : Prop :=
  ∀ (m : (ℓ : Loc Cert.UpdKvIdeal.nD Cert.UpdKvIdeal.τ Cert.UpdKvIdeal.sig) → Buf (Elt Ideal) ℓ) (g : Dev Cert.UpdKvIdeal.nD → PrngReg)
    (m' : (ℓ : Loc Cert.UpdKvRefIdeal.nD Cert.UpdKvRefIdeal.τ Cert.UpdKvRefIdeal.sig) → Buf (Elt Ideal) ℓ) (g' : Dev Cert.UpdKvRefIdeal.nD → PrngReg), Pre_UpdKvIdeal m →
    (∀ c : Dev Cert.UpdKvIdeal.nD,
      m' ((c.tc : Thread Cert.UpdKvRefIdeal.nD Cert.UpdKvRefIdeal.τ).loc Cert.UpdKvRefIdeal.main_arg0) = m ((c.tc : Thread Cert.UpdKvIdeal.nD Cert.UpdKvIdeal.τ).loc Cert.UpdKvIdeal.main_arg0)
      ∧ m' ((c.tc : Thread Cert.UpdKvRefIdeal.nD Cert.UpdKvRefIdeal.τ).loc Cert.UpdKvRefIdeal.main_arg1) = m ((c.tc : Thread Cert.UpdKvIdeal.nD Cert.UpdKvIdeal.τ).loc Cert.UpdKvIdeal.main_arg1)
      ∧ m' ((c.tc : Thread Cert.UpdKvRefIdeal.nD Cert.UpdKvRefIdeal.τ).loc Cert.UpdKvRefIdeal.main_arg2) = m ((c.tc : Thread Cert.UpdKvIdeal.nD Cert.UpdKvIdeal.τ).loc Cert.UpdKvIdeal.main_arg2)
      ∧ m' ((c.tc : Thread Cert.UpdKvRefIdeal.nD Cert.UpdKvRefIdeal.τ).loc Cert.UpdKvRefIdeal.main_arg3) = m ((c.tc : Thread Cert.UpdKvIdeal.nD Cert.UpdKvIdeal.τ).loc Cert.UpdKvIdeal.main_arg3)) →
    ∃ (v0 : (c : Dev Cert.UpdKvIdeal.nD) → Buf (Elt Ideal) ((c.tc : Thread Cert.UpdKvIdeal.nD Cert.UpdKvIdeal.τ).loc Cert.UpdKvIdeal.main_v0_0)) (v1 : (c : Dev Cert.UpdKvIdeal.nD) → Buf (Elt Ideal) ((c.tc : Thread Cert.UpdKvIdeal.nD Cert.UpdKvIdeal.τ).loc Cert.UpdKvIdeal.main_v0_1)) (v2 : (c : Dev Cert.UpdKvIdeal.nD) → Buf (Elt Ideal) ((c.tc : Thread Cert.UpdKvIdeal.nD Cert.UpdKvIdeal.τ).loc Cert.UpdKvIdeal.main_v0_2)) (v3 : (c : Dev Cert.UpdKvIdeal.nD) → Buf (Elt Ideal) ((c.tc : Thread Cert.UpdKvIdeal.nD Cert.UpdKvIdeal.τ).loc Cert.UpdKvIdeal.main_v0_3)),
      θ_run (Cert.UpdKvIdeal.defs (F := Ideal)) (onTc (τ := Cert.UpdKvIdeal.τ) (Cert.UpdKvIdeal.main (F := Ideal))) ⟨m, fun _ => 0, g⟩ (fun r => ∀ c : Dev Cert.UpdKvIdeal.nD,
          r.2.mem ((c.tc : Thread Cert.UpdKvIdeal.nD Cert.UpdKvIdeal.τ).loc Cert.UpdKvIdeal.main_v0_0) = v0 c
          ∧ r.2.mem ((c.tc : Thread Cert.UpdKvIdeal.nD Cert.UpdKvIdeal.τ).loc Cert.UpdKvIdeal.main_v0_1) = v1 c
          ∧ r.2.mem ((c.tc : Thread Cert.UpdKvIdeal.nD Cert.UpdKvIdeal.τ).loc Cert.UpdKvIdeal.main_v0_2) = v2 c
          ∧ r.2.mem ((c.tc : Thread Cert.UpdKvIdeal.nD Cert.UpdKvIdeal.τ).loc Cert.UpdKvIdeal.main_v0_3) = v3 c
          ∧ r.2.mem ((c.tc : Thread Cert.UpdKvIdeal.nD Cert.UpdKvIdeal.τ).loc Cert.UpdKvIdeal.main_arg0) = m ((c.tc : Thread Cert.UpdKvIdeal.nD Cert.UpdKvIdeal.τ).loc Cert.UpdKvIdeal.main_arg0)
          ∧ r.2.mem ((c.tc : Thread Cert.UpdKvIdeal.nD Cert.UpdKvIdeal.τ).loc Cert.UpdKvIdeal.main_arg1) = m ((c.tc : Thread Cert.UpdKvIdeal.nD Cert.UpdKvIdeal.τ).loc Cert.UpdKvIdeal.main_arg1)
          ∧ r.2.mem ((c.tc : Thread Cert.UpdKvIdeal.nD Cert.UpdKvIdeal.τ).loc Cert.UpdKvIdeal.main_arg2) = m ((c.tc : Thread Cert.UpdKvIdeal.nD Cert.UpdKvIdeal.τ).loc Cert.UpdKvIdeal.main_arg2)
          ∧ r.2.mem ((c.tc : Thread Cert.UpdKvIdeal.nD Cert.UpdKvIdeal.τ).loc Cert.UpdKvIdeal.main_arg3) = m ((c.tc : Thread Cert.UpdKvIdeal.nD Cert.UpdKvIdeal.τ).loc Cert.UpdKvIdeal.main_arg3))
      ∧ θ_run (Cert.UpdKvRefIdeal.defs (F := Ideal)) (onTc (τ := Cert.UpdKvRefIdeal.τ) (Cert.UpdKvRefIdeal.main (F := Ideal))) ⟨m', fun _ => 0, g'⟩ (fun r => ∀ c : Dev Cert.UpdKvRefIdeal.nD,
          r.2.mem ((c.tc : Thread Cert.UpdKvRefIdeal.nD Cert.UpdKvRefIdeal.τ).loc Cert.UpdKvRefIdeal.main_v1) = v0 c
          ∧ r.2.mem ((c.tc : Thread Cert.UpdKvRefIdeal.nD Cert.UpdKvRefIdeal.τ).loc Cert.UpdKvRefIdeal.main_v25) = v1 c
          ∧ r.2.mem ((c.tc : Thread Cert.UpdKvRefIdeal.nD Cert.UpdKvRefIdeal.τ).loc Cert.UpdKvRefIdeal.main_v6) = v2 c
          ∧ r.2.mem ((c.tc : Thread Cert.UpdKvRefIdeal.nD Cert.UpdKvRefIdeal.τ).loc Cert.UpdKvRefIdeal.main_v12) = v3 c
          ∧ r.2.mem ((c.tc : Thread Cert.UpdKvRefIdeal.nD Cert.UpdKvRefIdeal.τ).loc Cert.UpdKvRefIdeal.main_arg0) = m' ((c.tc : Thread Cert.UpdKvRefIdeal.nD Cert.UpdKvRefIdeal.τ).loc Cert.UpdKvRefIdeal.main_arg0)
          ∧ r.2.mem ((c.tc : Thread Cert.UpdKvRefIdeal.nD Cert.UpdKvRefIdeal.τ).loc Cert.UpdKvRefIdeal.main_arg1) = m' ((c.tc : Thread Cert.UpdKvRefIdeal.nD Cert.UpdKvRefIdeal.τ).loc Cert.UpdKvRefIdeal.main_arg1)
          ∧ r.2.mem ((c.tc : Thread Cert.UpdKvRefIdeal.nD Cert.UpdKvRefIdeal.τ).loc Cert.UpdKvRefIdeal.main_arg2) = m' ((c.tc : Thread Cert.UpdKvRefIdeal.nD Cert.UpdKvRefIdeal.τ).loc Cert.UpdKvRefIdeal.main_arg2)
          ∧ r.2.mem ((c.tc : Thread Cert.UpdKvRefIdeal.nD Cert.UpdKvRefIdeal.τ).loc Cert.UpdKvRefIdeal.main_arg3) = m' ((c.tc : Thread Cert.UpdKvRefIdeal.nD Cert.UpdKvRefIdeal.τ).loc Cert.UpdKvRefIdeal.main_arg3))

def preserves_UpdBranch_UpdBranchIdeal : Prop :=
  True

def algebraic_UpdBranchIdeal_UpdBranchRefIdeal [hUpdBranchIdeal : Cert.UpdBranchIdeal.Facts] [hUpdBranchRefIdeal : Cert.UpdBranchRefIdeal.Facts] : Prop :=
  ∀ (m : (ℓ : Loc Cert.UpdBranchIdeal.nD Cert.UpdBranchIdeal.τ Cert.UpdBranchIdeal.sig) → Buf (Elt Ideal) ℓ) (g : Dev Cert.UpdBranchIdeal.nD → PrngReg)
    (m' : (ℓ : Loc Cert.UpdBranchRefIdeal.nD Cert.UpdBranchRefIdeal.τ Cert.UpdBranchRefIdeal.sig) → Buf (Elt Ideal) ℓ) (g' : Dev Cert.UpdBranchRefIdeal.nD → PrngReg), Pre_UpdBranchIdeal m →
    (∀ c : Dev Cert.UpdBranchIdeal.nD,
      m' ((c.tc : Thread Cert.UpdBranchRefIdeal.nD Cert.UpdBranchRefIdeal.τ).loc Cert.UpdBranchRefIdeal.main_arg0) = m ((c.tc : Thread Cert.UpdBranchIdeal.nD Cert.UpdBranchIdeal.τ).loc Cert.UpdBranchIdeal.main_arg0)
      ∧ m' ((c.tc : Thread Cert.UpdBranchRefIdeal.nD Cert.UpdBranchRefIdeal.τ).loc Cert.UpdBranchRefIdeal.main_arg1) = m ((c.tc : Thread Cert.UpdBranchIdeal.nD Cert.UpdBranchIdeal.τ).loc Cert.UpdBranchIdeal.main_arg1)
      ∧ m' ((c.tc : Thread Cert.UpdBranchRefIdeal.nD Cert.UpdBranchRefIdeal.τ).loc Cert.UpdBranchRefIdeal.main_arg2) = m ((c.tc : Thread Cert.UpdBranchIdeal.nD Cert.UpdBranchIdeal.τ).loc Cert.UpdBranchIdeal.main_arg2)
      ∧ m' ((c.tc : Thread Cert.UpdBranchRefIdeal.nD Cert.UpdBranchRefIdeal.τ).loc Cert.UpdBranchRefIdeal.main_arg3) = m ((c.tc : Thread Cert.UpdBranchIdeal.nD Cert.UpdBranchIdeal.τ).loc Cert.UpdBranchIdeal.main_arg3)) →
    ∃ (v0 : (c : Dev Cert.UpdBranchIdeal.nD) → Buf (Elt Ideal) ((c.tc : Thread Cert.UpdBranchIdeal.nD Cert.UpdBranchIdeal.τ).loc Cert.UpdBranchIdeal.main_v0_0)) (v1 : (c : Dev Cert.UpdBranchIdeal.nD) → Buf (Elt Ideal) ((c.tc : Thread Cert.UpdBranchIdeal.nD Cert.UpdBranchIdeal.τ).loc Cert.UpdBranchIdeal.main_v0_1)) (v2 : (c : Dev Cert.UpdBranchIdeal.nD) → Buf (Elt Ideal) ((c.tc : Thread Cert.UpdBranchIdeal.nD Cert.UpdBranchIdeal.τ).loc Cert.UpdBranchIdeal.main_v0_2)) (v3 : (c : Dev Cert.UpdBranchIdeal.nD) → Buf (Elt Ideal) ((c.tc : Thread Cert.UpdBranchIdeal.nD Cert.UpdBranchIdeal.τ).loc Cert.UpdBranchIdeal.main_v0_3)),
      θ_run (Cert.UpdBranchIdeal.defs (F := Ideal)) (onTc (τ := Cert.UpdBranchIdeal.τ) (Cert.UpdBranchIdeal.main (F := Ideal))) ⟨m, fun _ => 0, g⟩ (fun r => ∀ c : Dev Cert.UpdBranchIdeal.nD,
          r.2.mem ((c.tc : Thread Cert.UpdBranchIdeal.nD Cert.UpdBranchIdeal.τ).loc Cert.UpdBranchIdeal.main_v0_0) = v0 c
          ∧ r.2.mem ((c.tc : Thread Cert.UpdBranchIdeal.nD Cert.UpdBranchIdeal.τ).loc Cert.UpdBranchIdeal.main_v0_1) = v1 c
          ∧ r.2.mem ((c.tc : Thread Cert.UpdBranchIdeal.nD Cert.UpdBranchIdeal.τ).loc Cert.UpdBranchIdeal.main_v0_2) = v2 c
          ∧ r.2.mem ((c.tc : Thread Cert.UpdBranchIdeal.nD Cert.UpdBranchIdeal.τ).loc Cert.UpdBranchIdeal.main_v0_3) = v3 c
          ∧ r.2.mem ((c.tc : Thread Cert.UpdBranchIdeal.nD Cert.UpdBranchIdeal.τ).loc Cert.UpdBranchIdeal.main_arg0) = m ((c.tc : Thread Cert.UpdBranchIdeal.nD Cert.UpdBranchIdeal.τ).loc Cert.UpdBranchIdeal.main_arg0)
          ∧ r.2.mem ((c.tc : Thread Cert.UpdBranchIdeal.nD Cert.UpdBranchIdeal.τ).loc Cert.UpdBranchIdeal.main_arg1) = m ((c.tc : Thread Cert.UpdBranchIdeal.nD Cert.UpdBranchIdeal.τ).loc Cert.UpdBranchIdeal.main_arg1)
          ∧ r.2.mem ((c.tc : Thread Cert.UpdBranchIdeal.nD Cert.UpdBranchIdeal.τ).loc Cert.UpdBranchIdeal.main_arg2) = m ((c.tc : Thread Cert.UpdBranchIdeal.nD Cert.UpdBranchIdeal.τ).loc Cert.UpdBranchIdeal.main_arg2)
          ∧ r.2.mem ((c.tc : Thread Cert.UpdBranchIdeal.nD Cert.UpdBranchIdeal.τ).loc Cert.UpdBranchIdeal.main_arg3) = m ((c.tc : Thread Cert.UpdBranchIdeal.nD Cert.UpdBranchIdeal.τ).loc Cert.UpdBranchIdeal.main_arg3))
      ∧ θ_run (Cert.UpdBranchRefIdeal.defs (F := Ideal)) (onTc (τ := Cert.UpdBranchRefIdeal.τ) (Cert.UpdBranchRefIdeal.main (F := Ideal))) ⟨m', fun _ => 0, g'⟩ (fun r => ∀ c : Dev Cert.UpdBranchRefIdeal.nD,
          r.2.mem ((c.tc : Thread Cert.UpdBranchRefIdeal.nD Cert.UpdBranchRefIdeal.τ).loc Cert.UpdBranchRefIdeal.main_v1) = v0 c
          ∧ r.2.mem ((c.tc : Thread Cert.UpdBranchRefIdeal.nD Cert.UpdBranchRefIdeal.τ).loc Cert.UpdBranchRefIdeal.main_v25) = v1 c
          ∧ r.2.mem ((c.tc : Thread Cert.UpdBranchRefIdeal.nD Cert.UpdBranchRefIdeal.τ).loc Cert.UpdBranchRefIdeal.main_v6) = v2 c
          ∧ r.2.mem ((c.tc : Thread Cert.UpdBranchRefIdeal.nD Cert.UpdBranchRefIdeal.τ).loc Cert.UpdBranchRefIdeal.main_v12) = v3 c
          ∧ r.2.mem ((c.tc : Thread Cert.UpdBranchRefIdeal.nD Cert.UpdBranchRefIdeal.τ).loc Cert.UpdBranchRefIdeal.main_arg0) = m' ((c.tc : Thread Cert.UpdBranchRefIdeal.nD Cert.UpdBranchRefIdeal.τ).loc Cert.UpdBranchRefIdeal.main_arg0)
          ∧ r.2.mem ((c.tc : Thread Cert.UpdBranchRefIdeal.nD Cert.UpdBranchRefIdeal.τ).loc Cert.UpdBranchRefIdeal.main_arg1) = m' ((c.tc : Thread Cert.UpdBranchRefIdeal.nD Cert.UpdBranchRefIdeal.τ).loc Cert.UpdBranchRefIdeal.main_arg1)
          ∧ r.2.mem ((c.tc : Thread Cert.UpdBranchRefIdeal.nD Cert.UpdBranchRefIdeal.τ).loc Cert.UpdBranchRefIdeal.main_arg2) = m' ((c.tc : Thread Cert.UpdBranchRefIdeal.nD Cert.UpdBranchRefIdeal.τ).loc Cert.UpdBranchRefIdeal.main_arg2)
          ∧ r.2.mem ((c.tc : Thread Cert.UpdBranchRefIdeal.nD Cert.UpdBranchRefIdeal.τ).loc Cert.UpdBranchRefIdeal.main_arg3) = m' ((c.tc : Thread Cert.UpdBranchRefIdeal.nD Cert.UpdBranchRefIdeal.τ).loc Cert.UpdBranchRefIdeal.main_arg3))

def preserves_UpdOut_UpdOutIdeal : Prop :=
  True

def algebraic_UpdOutIdeal_UpdOutRefIdeal [hUpdOutIdeal : Cert.UpdOutIdeal.Facts] [hUpdOutRefIdeal : Cert.UpdOutRefIdeal.Facts] : Prop :=
  ∀ (m : (ℓ : Loc Cert.UpdOutIdeal.nD Cert.UpdOutIdeal.τ Cert.UpdOutIdeal.sig) → Buf (Elt Ideal) ℓ) (g : Dev Cert.UpdOutIdeal.nD → PrngReg)
    (m' : (ℓ : Loc Cert.UpdOutRefIdeal.nD Cert.UpdOutRefIdeal.τ Cert.UpdOutRefIdeal.sig) → Buf (Elt Ideal) ℓ) (g' : Dev Cert.UpdOutRefIdeal.nD → PrngReg), Pre_UpdOutIdeal m →
    (∀ c : Dev Cert.UpdOutIdeal.nD,
      m' ((c.tc : Thread Cert.UpdOutRefIdeal.nD Cert.UpdOutRefIdeal.τ).loc Cert.UpdOutRefIdeal.main_arg0) = m ((c.tc : Thread Cert.UpdOutIdeal.nD Cert.UpdOutIdeal.τ).loc Cert.UpdOutIdeal.main_arg0)
      ∧ m' ((c.tc : Thread Cert.UpdOutRefIdeal.nD Cert.UpdOutRefIdeal.τ).loc Cert.UpdOutRefIdeal.main_arg1) = m ((c.tc : Thread Cert.UpdOutIdeal.nD Cert.UpdOutIdeal.τ).loc Cert.UpdOutIdeal.main_arg1)
      ∧ m' ((c.tc : Thread Cert.UpdOutRefIdeal.nD Cert.UpdOutRefIdeal.τ).loc Cert.UpdOutRefIdeal.main_arg2) = m ((c.tc : Thread Cert.UpdOutIdeal.nD Cert.UpdOutIdeal.τ).loc Cert.UpdOutIdeal.main_arg2)
      ∧ m' ((c.tc : Thread Cert.UpdOutRefIdeal.nD Cert.UpdOutRefIdeal.τ).loc Cert.UpdOutRefIdeal.main_arg3) = m ((c.tc : Thread Cert.UpdOutIdeal.nD Cert.UpdOutIdeal.τ).loc Cert.UpdOutIdeal.main_arg3)) →
    ∃ (v0 : (c : Dev Cert.UpdOutIdeal.nD) → Buf (Elt Ideal) ((c.tc : Thread Cert.UpdOutIdeal.nD Cert.UpdOutIdeal.τ).loc Cert.UpdOutIdeal.main_v0_0)) (v1 : (c : Dev Cert.UpdOutIdeal.nD) → Buf (Elt Ideal) ((c.tc : Thread Cert.UpdOutIdeal.nD Cert.UpdOutIdeal.τ).loc Cert.UpdOutIdeal.main_v0_1)) (v2 : (c : Dev Cert.UpdOutIdeal.nD) → Buf (Elt Ideal) ((c.tc : Thread Cert.UpdOutIdeal.nD Cert.UpdOutIdeal.τ).loc Cert.UpdOutIdeal.main_v0_2)) (v3 : (c : Dev Cert.UpdOutIdeal.nD) → Buf (Elt Ideal) ((c.tc : Thread Cert.UpdOutIdeal.nD Cert.UpdOutIdeal.τ).loc Cert.UpdOutIdeal.main_v0_3)),
      θ_run (Cert.UpdOutIdeal.defs (F := Ideal)) (onTc (τ := Cert.UpdOutIdeal.τ) (Cert.UpdOutIdeal.main (F := Ideal))) ⟨m, fun _ => 0, g⟩ (fun r => ∀ c : Dev Cert.UpdOutIdeal.nD,
          r.2.mem ((c.tc : Thread Cert.UpdOutIdeal.nD Cert.UpdOutIdeal.τ).loc Cert.UpdOutIdeal.main_v0_0) = v0 c
          ∧ r.2.mem ((c.tc : Thread Cert.UpdOutIdeal.nD Cert.UpdOutIdeal.τ).loc Cert.UpdOutIdeal.main_v0_1) = v1 c
          ∧ r.2.mem ((c.tc : Thread Cert.UpdOutIdeal.nD Cert.UpdOutIdeal.τ).loc Cert.UpdOutIdeal.main_v0_2) = v2 c
          ∧ r.2.mem ((c.tc : Thread Cert.UpdOutIdeal.nD Cert.UpdOutIdeal.τ).loc Cert.UpdOutIdeal.main_v0_3) = v3 c
          ∧ r.2.mem ((c.tc : Thread Cert.UpdOutIdeal.nD Cert.UpdOutIdeal.τ).loc Cert.UpdOutIdeal.main_arg0) = m ((c.tc : Thread Cert.UpdOutIdeal.nD Cert.UpdOutIdeal.τ).loc Cert.UpdOutIdeal.main_arg0)
          ∧ r.2.mem ((c.tc : Thread Cert.UpdOutIdeal.nD Cert.UpdOutIdeal.τ).loc Cert.UpdOutIdeal.main_arg1) = m ((c.tc : Thread Cert.UpdOutIdeal.nD Cert.UpdOutIdeal.τ).loc Cert.UpdOutIdeal.main_arg1)
          ∧ r.2.mem ((c.tc : Thread Cert.UpdOutIdeal.nD Cert.UpdOutIdeal.τ).loc Cert.UpdOutIdeal.main_arg2) = m ((c.tc : Thread Cert.UpdOutIdeal.nD Cert.UpdOutIdeal.τ).loc Cert.UpdOutIdeal.main_arg2)
          ∧ r.2.mem ((c.tc : Thread Cert.UpdOutIdeal.nD Cert.UpdOutIdeal.τ).loc Cert.UpdOutIdeal.main_arg3) = m ((c.tc : Thread Cert.UpdOutIdeal.nD Cert.UpdOutIdeal.τ).loc Cert.UpdOutIdeal.main_arg3))
      ∧ θ_run (Cert.UpdOutRefIdeal.defs (F := Ideal)) (onTc (τ := Cert.UpdOutRefIdeal.τ) (Cert.UpdOutRefIdeal.main (F := Ideal))) ⟨m', fun _ => 0, g'⟩ (fun r => ∀ c : Dev Cert.UpdOutRefIdeal.nD,
          r.2.mem ((c.tc : Thread Cert.UpdOutRefIdeal.nD Cert.UpdOutRefIdeal.τ).loc Cert.UpdOutRefIdeal.main_v1) = v0 c
          ∧ r.2.mem ((c.tc : Thread Cert.UpdOutRefIdeal.nD Cert.UpdOutRefIdeal.τ).loc Cert.UpdOutRefIdeal.main_v25) = v1 c
          ∧ r.2.mem ((c.tc : Thread Cert.UpdOutRefIdeal.nD Cert.UpdOutRefIdeal.τ).loc Cert.UpdOutRefIdeal.main_v6) = v2 c
          ∧ r.2.mem ((c.tc : Thread Cert.UpdOutRefIdeal.nD Cert.UpdOutRefIdeal.τ).loc Cert.UpdOutRefIdeal.main_v12) = v3 c
          ∧ r.2.mem ((c.tc : Thread Cert.UpdOutRefIdeal.nD Cert.UpdOutRefIdeal.τ).loc Cert.UpdOutRefIdeal.main_arg0) = m' ((c.tc : Thread Cert.UpdOutRefIdeal.nD Cert.UpdOutRefIdeal.τ).loc Cert.UpdOutRefIdeal.main_arg0)
          ∧ r.2.mem ((c.tc : Thread Cert.UpdOutRefIdeal.nD Cert.UpdOutRefIdeal.τ).loc Cert.UpdOutRefIdeal.main_arg1) = m' ((c.tc : Thread Cert.UpdOutRefIdeal.nD Cert.UpdOutRefIdeal.τ).loc Cert.UpdOutRefIdeal.main_arg1)
          ∧ r.2.mem ((c.tc : Thread Cert.UpdOutRefIdeal.nD Cert.UpdOutRefIdeal.τ).loc Cert.UpdOutRefIdeal.main_arg2) = m' ((c.tc : Thread Cert.UpdOutRefIdeal.nD Cert.UpdOutRefIdeal.τ).loc Cert.UpdOutRefIdeal.main_arg2)
          ∧ r.2.mem ((c.tc : Thread Cert.UpdOutRefIdeal.nD Cert.UpdOutRefIdeal.τ).loc Cert.UpdOutRefIdeal.main_arg3) = m' ((c.tc : Thread Cert.UpdOutRefIdeal.nD Cert.UpdOutRefIdeal.τ).loc Cert.UpdOutRefIdeal.main_arg3))

def preserves_UpdUp_UpdUpIdeal : Prop :=
  True

def algebraic_UpdUpIdeal_UpdUpRefIdeal [hUpdUpIdeal : Cert.UpdUpIdeal.Facts] [hUpdUpRefIdeal : Cert.UpdUpRefIdeal.Facts] : Prop :=
  ∀ (m : (ℓ : Loc Cert.UpdUpIdeal.nD Cert.UpdUpIdeal.τ Cert.UpdUpIdeal.sig) → Buf (Elt Ideal) ℓ) (g : Dev Cert.UpdUpIdeal.nD → PrngReg)
    (m' : (ℓ : Loc Cert.UpdUpRefIdeal.nD Cert.UpdUpRefIdeal.τ Cert.UpdUpRefIdeal.sig) → Buf (Elt Ideal) ℓ) (g' : Dev Cert.UpdUpRefIdeal.nD → PrngReg), Pre_UpdUpIdeal m →
    (∀ c : Dev Cert.UpdUpIdeal.nD,
      m' ((c.tc : Thread Cert.UpdUpRefIdeal.nD Cert.UpdUpRefIdeal.τ).loc Cert.UpdUpRefIdeal.main_arg0) = m ((c.tc : Thread Cert.UpdUpIdeal.nD Cert.UpdUpIdeal.τ).loc Cert.UpdUpIdeal.main_arg0)
      ∧ m' ((c.tc : Thread Cert.UpdUpRefIdeal.nD Cert.UpdUpRefIdeal.τ).loc Cert.UpdUpRefIdeal.main_arg1) = m ((c.tc : Thread Cert.UpdUpIdeal.nD Cert.UpdUpIdeal.τ).loc Cert.UpdUpIdeal.main_arg1)
      ∧ m' ((c.tc : Thread Cert.UpdUpRefIdeal.nD Cert.UpdUpRefIdeal.τ).loc Cert.UpdUpRefIdeal.main_arg2) = m ((c.tc : Thread Cert.UpdUpIdeal.nD Cert.UpdUpIdeal.τ).loc Cert.UpdUpIdeal.main_arg2)
      ∧ m' ((c.tc : Thread Cert.UpdUpRefIdeal.nD Cert.UpdUpRefIdeal.τ).loc Cert.UpdUpRefIdeal.main_arg3) = m ((c.tc : Thread Cert.UpdUpIdeal.nD Cert.UpdUpIdeal.τ).loc Cert.UpdUpIdeal.main_arg3)) →
    ∃ (v0 : (c : Dev Cert.UpdUpIdeal.nD) → Buf (Elt Ideal) ((c.tc : Thread Cert.UpdUpIdeal.nD Cert.UpdUpIdeal.τ).loc Cert.UpdUpIdeal.main_v0_0)) (v1 : (c : Dev Cert.UpdUpIdeal.nD) → Buf (Elt Ideal) ((c.tc : Thread Cert.UpdUpIdeal.nD Cert.UpdUpIdeal.τ).loc Cert.UpdUpIdeal.main_v0_1)) (v2 : (c : Dev Cert.UpdUpIdeal.nD) → Buf (Elt Ideal) ((c.tc : Thread Cert.UpdUpIdeal.nD Cert.UpdUpIdeal.τ).loc Cert.UpdUpIdeal.main_v0_2)) (v3 : (c : Dev Cert.UpdUpIdeal.nD) → Buf (Elt Ideal) ((c.tc : Thread Cert.UpdUpIdeal.nD Cert.UpdUpIdeal.τ).loc Cert.UpdUpIdeal.main_v0_3)),
      θ_run (Cert.UpdUpIdeal.defs (F := Ideal)) (onTc (τ := Cert.UpdUpIdeal.τ) (Cert.UpdUpIdeal.main (F := Ideal))) ⟨m, fun _ => 0, g⟩ (fun r => ∀ c : Dev Cert.UpdUpIdeal.nD,
          r.2.mem ((c.tc : Thread Cert.UpdUpIdeal.nD Cert.UpdUpIdeal.τ).loc Cert.UpdUpIdeal.main_v0_0) = v0 c
          ∧ r.2.mem ((c.tc : Thread Cert.UpdUpIdeal.nD Cert.UpdUpIdeal.τ).loc Cert.UpdUpIdeal.main_v0_1) = v1 c
          ∧ r.2.mem ((c.tc : Thread Cert.UpdUpIdeal.nD Cert.UpdUpIdeal.τ).loc Cert.UpdUpIdeal.main_v0_2) = v2 c
          ∧ r.2.mem ((c.tc : Thread Cert.UpdUpIdeal.nD Cert.UpdUpIdeal.τ).loc Cert.UpdUpIdeal.main_v0_3) = v3 c
          ∧ r.2.mem ((c.tc : Thread Cert.UpdUpIdeal.nD Cert.UpdUpIdeal.τ).loc Cert.UpdUpIdeal.main_arg0) = m ((c.tc : Thread Cert.UpdUpIdeal.nD Cert.UpdUpIdeal.τ).loc Cert.UpdUpIdeal.main_arg0)
          ∧ r.2.mem ((c.tc : Thread Cert.UpdUpIdeal.nD Cert.UpdUpIdeal.τ).loc Cert.UpdUpIdeal.main_arg1) = m ((c.tc : Thread Cert.UpdUpIdeal.nD Cert.UpdUpIdeal.τ).loc Cert.UpdUpIdeal.main_arg1)
          ∧ r.2.mem ((c.tc : Thread Cert.UpdUpIdeal.nD Cert.UpdUpIdeal.τ).loc Cert.UpdUpIdeal.main_arg2) = m ((c.tc : Thread Cert.UpdUpIdeal.nD Cert.UpdUpIdeal.τ).loc Cert.UpdUpIdeal.main_arg2)
          ∧ r.2.mem ((c.tc : Thread Cert.UpdUpIdeal.nD Cert.UpdUpIdeal.τ).loc Cert.UpdUpIdeal.main_arg3) = m ((c.tc : Thread Cert.UpdUpIdeal.nD Cert.UpdUpIdeal.τ).loc Cert.UpdUpIdeal.main_arg3))
      ∧ θ_run (Cert.UpdUpRefIdeal.defs (F := Ideal)) (onTc (τ := Cert.UpdUpRefIdeal.τ) (Cert.UpdUpRefIdeal.main (F := Ideal))) ⟨m', fun _ => 0, g'⟩ (fun r => ∀ c : Dev Cert.UpdUpRefIdeal.nD,
          r.2.mem ((c.tc : Thread Cert.UpdUpRefIdeal.nD Cert.UpdUpRefIdeal.τ).loc Cert.UpdUpRefIdeal.main_v1) = v0 c
          ∧ r.2.mem ((c.tc : Thread Cert.UpdUpRefIdeal.nD Cert.UpdUpRefIdeal.τ).loc Cert.UpdUpRefIdeal.main_v25) = v1 c
          ∧ r.2.mem ((c.tc : Thread Cert.UpdUpRefIdeal.nD Cert.UpdUpRefIdeal.τ).loc Cert.UpdUpRefIdeal.main_v6) = v2 c
          ∧ r.2.mem ((c.tc : Thread Cert.UpdUpRefIdeal.nD Cert.UpdUpRefIdeal.τ).loc Cert.UpdUpRefIdeal.main_v12) = v3 c
          ∧ r.2.mem ((c.tc : Thread Cert.UpdUpRefIdeal.nD Cert.UpdUpRefIdeal.τ).loc Cert.UpdUpRefIdeal.main_arg0) = m' ((c.tc : Thread Cert.UpdUpRefIdeal.nD Cert.UpdUpRefIdeal.τ).loc Cert.UpdUpRefIdeal.main_arg0)
          ∧ r.2.mem ((c.tc : Thread Cert.UpdUpRefIdeal.nD Cert.UpdUpRefIdeal.τ).loc Cert.UpdUpRefIdeal.main_arg1) = m' ((c.tc : Thread Cert.UpdUpRefIdeal.nD Cert.UpdUpRefIdeal.τ).loc Cert.UpdUpRefIdeal.main_arg1)
          ∧ r.2.mem ((c.tc : Thread Cert.UpdUpRefIdeal.nD Cert.UpdUpRefIdeal.τ).loc Cert.UpdUpRefIdeal.main_arg2) = m' ((c.tc : Thread Cert.UpdUpRefIdeal.nD Cert.UpdUpRefIdeal.τ).loc Cert.UpdUpRefIdeal.main_arg2)
          ∧ r.2.mem ((c.tc : Thread Cert.UpdUpRefIdeal.nD Cert.UpdUpRefIdeal.τ).loc Cert.UpdUpRefIdeal.main_arg3) = m' ((c.tc : Thread Cert.UpdUpRefIdeal.nD Cert.UpdUpRefIdeal.τ).loc Cert.UpdUpRefIdeal.main_arg3))

def preserves_UpdConv_UpdConvIdeal : Prop :=
  True

def algebraic_UpdConvIdeal_UpdConvRefIdeal [hUpdConvIdeal : Cert.UpdConvIdeal.Facts] [hUpdConvRefIdeal : Cert.UpdConvRefIdeal.Facts] : Prop :=
  ∀ (m : (ℓ : Loc Cert.UpdConvIdeal.nD Cert.UpdConvIdeal.τ Cert.UpdConvIdeal.sig) → Buf (Elt Ideal) ℓ) (g : Dev Cert.UpdConvIdeal.nD → PrngReg)
    (m' : (ℓ : Loc Cert.UpdConvRefIdeal.nD Cert.UpdConvRefIdeal.τ Cert.UpdConvRefIdeal.sig) → Buf (Elt Ideal) ℓ) (g' : Dev Cert.UpdConvRefIdeal.nD → PrngReg), Pre_UpdConvIdeal m →
    (∀ c : Dev Cert.UpdConvIdeal.nD,
      m' ((c.tc : Thread Cert.UpdConvRefIdeal.nD Cert.UpdConvRefIdeal.τ).loc Cert.UpdConvRefIdeal.main_arg0) = m ((c.tc : Thread Cert.UpdConvIdeal.nD Cert.UpdConvIdeal.τ).loc Cert.UpdConvIdeal.main_arg0)
      ∧ m' ((c.tc : Thread Cert.UpdConvRefIdeal.nD Cert.UpdConvRefIdeal.τ).loc Cert.UpdConvRefIdeal.main_arg1) = m ((c.tc : Thread Cert.UpdConvIdeal.nD Cert.UpdConvIdeal.τ).loc Cert.UpdConvIdeal.main_arg1)
      ∧ m' ((c.tc : Thread Cert.UpdConvRefIdeal.nD Cert.UpdConvRefIdeal.τ).loc Cert.UpdConvRefIdeal.main_arg2) = m ((c.tc : Thread Cert.UpdConvIdeal.nD Cert.UpdConvIdeal.τ).loc Cert.UpdConvIdeal.main_arg2)
      ∧ m' ((c.tc : Thread Cert.UpdConvRefIdeal.nD Cert.UpdConvRefIdeal.τ).loc Cert.UpdConvRefIdeal.main_arg3) = m ((c.tc : Thread Cert.UpdConvIdeal.nD Cert.UpdConvIdeal.τ).loc Cert.UpdConvIdeal.main_arg3)) →
    ∃ (v0 : (c : Dev Cert.UpdConvIdeal.nD) → Buf (Elt Ideal) ((c.tc : Thread Cert.UpdConvIdeal.nD Cert.UpdConvIdeal.τ).loc Cert.UpdConvIdeal.main_v0_0)) (v1 : (c : Dev Cert.UpdConvIdeal.nD) → Buf (Elt Ideal) ((c.tc : Thread Cert.UpdConvIdeal.nD Cert.UpdConvIdeal.τ).loc Cert.UpdConvIdeal.main_v0_1)) (v2 : (c : Dev Cert.UpdConvIdeal.nD) → Buf (Elt Ideal) ((c.tc : Thread Cert.UpdConvIdeal.nD Cert.UpdConvIdeal.τ).loc Cert.UpdConvIdeal.main_v0_2)) (v3 : (c : Dev Cert.UpdConvIdeal.nD) → Buf (Elt Ideal) ((c.tc : Thread Cert.UpdConvIdeal.nD Cert.UpdConvIdeal.τ).loc Cert.UpdConvIdeal.main_v0_3)),
      θ_run (Cert.UpdConvIdeal.defs (F := Ideal)) (onTc (τ := Cert.UpdConvIdeal.τ) (Cert.UpdConvIdeal.main (F := Ideal))) ⟨m, fun _ => 0, g⟩ (fun r => ∀ c : Dev Cert.UpdConvIdeal.nD,
          r.2.mem ((c.tc : Thread Cert.UpdConvIdeal.nD Cert.UpdConvIdeal.τ).loc Cert.UpdConvIdeal.main_v0_0) = v0 c
          ∧ r.2.mem ((c.tc : Thread Cert.UpdConvIdeal.nD Cert.UpdConvIdeal.τ).loc Cert.UpdConvIdeal.main_v0_1) = v1 c
          ∧ r.2.mem ((c.tc : Thread Cert.UpdConvIdeal.nD Cert.UpdConvIdeal.τ).loc Cert.UpdConvIdeal.main_v0_2) = v2 c
          ∧ r.2.mem ((c.tc : Thread Cert.UpdConvIdeal.nD Cert.UpdConvIdeal.τ).loc Cert.UpdConvIdeal.main_v0_3) = v3 c
          ∧ r.2.mem ((c.tc : Thread Cert.UpdConvIdeal.nD Cert.UpdConvIdeal.τ).loc Cert.UpdConvIdeal.main_arg0) = m ((c.tc : Thread Cert.UpdConvIdeal.nD Cert.UpdConvIdeal.τ).loc Cert.UpdConvIdeal.main_arg0)
          ∧ r.2.mem ((c.tc : Thread Cert.UpdConvIdeal.nD Cert.UpdConvIdeal.τ).loc Cert.UpdConvIdeal.main_arg1) = m ((c.tc : Thread Cert.UpdConvIdeal.nD Cert.UpdConvIdeal.τ).loc Cert.UpdConvIdeal.main_arg1)
          ∧ r.2.mem ((c.tc : Thread Cert.UpdConvIdeal.nD Cert.UpdConvIdeal.τ).loc Cert.UpdConvIdeal.main_arg2) = m ((c.tc : Thread Cert.UpdConvIdeal.nD Cert.UpdConvIdeal.τ).loc Cert.UpdConvIdeal.main_arg2)
          ∧ r.2.mem ((c.tc : Thread Cert.UpdConvIdeal.nD Cert.UpdConvIdeal.τ).loc Cert.UpdConvIdeal.main_arg3) = m ((c.tc : Thread Cert.UpdConvIdeal.nD Cert.UpdConvIdeal.τ).loc Cert.UpdConvIdeal.main_arg3))
      ∧ θ_run (Cert.UpdConvRefIdeal.defs (F := Ideal)) (onTc (τ := Cert.UpdConvRefIdeal.τ) (Cert.UpdConvRefIdeal.main (F := Ideal))) ⟨m', fun _ => 0, g'⟩ (fun r => ∀ c : Dev Cert.UpdConvRefIdeal.nD,
          r.2.mem ((c.tc : Thread Cert.UpdConvRefIdeal.nD Cert.UpdConvRefIdeal.τ).loc Cert.UpdConvRefIdeal.main_v0) = v0 c
          ∧ r.2.mem ((c.tc : Thread Cert.UpdConvRefIdeal.nD Cert.UpdConvRefIdeal.τ).loc Cert.UpdConvRefIdeal.main_v24) = v1 c
          ∧ r.2.mem ((c.tc : Thread Cert.UpdConvRefIdeal.nD Cert.UpdConvRefIdeal.τ).loc Cert.UpdConvRefIdeal.main_v5) = v2 c
          ∧ r.2.mem ((c.tc : Thread Cert.UpdConvRefIdeal.nD Cert.UpdConvRefIdeal.τ).loc Cert.UpdConvRefIdeal.main_v11) = v3 c
          ∧ r.2.mem ((c.tc : Thread Cert.UpdConvRefIdeal.nD Cert.UpdConvRefIdeal.τ).loc Cert.UpdConvRefIdeal.main_arg0) = m' ((c.tc : Thread Cert.UpdConvRefIdeal.nD Cert.UpdConvRefIdeal.τ).loc Cert.UpdConvRefIdeal.main_arg0)
          ∧ r.2.mem ((c.tc : Thread Cert.UpdConvRefIdeal.nD Cert.UpdConvRefIdeal.τ).loc Cert.UpdConvRefIdeal.main_arg1) = m' ((c.tc : Thread Cert.UpdConvRefIdeal.nD Cert.UpdConvRefIdeal.τ).loc Cert.UpdConvRefIdeal.main_arg1)
          ∧ r.2.mem ((c.tc : Thread Cert.UpdConvRefIdeal.nD Cert.UpdConvRefIdeal.τ).loc Cert.UpdConvRefIdeal.main_arg2) = m' ((c.tc : Thread Cert.UpdConvRefIdeal.nD Cert.UpdConvRefIdeal.τ).loc Cert.UpdConvRefIdeal.main_arg2)
          ∧ r.2.mem ((c.tc : Thread Cert.UpdConvRefIdeal.nD Cert.UpdConvRefIdeal.τ).loc Cert.UpdConvRefIdeal.main_arg3) = m' ((c.tc : Thread Cert.UpdConvRefIdeal.nD Cert.UpdConvRefIdeal.τ).loc Cert.UpdConvRefIdeal.main_arg3))

def preserves_UpdDown_UpdDownIdeal : Prop :=
  True

def algebraic_UpdDownIdeal_UpdDownRefIdeal [hUpdDownIdeal : Cert.UpdDownIdeal.Facts] [hUpdDownRefIdeal : Cert.UpdDownRefIdeal.Facts] : Prop :=
  ∀ (m : (ℓ : Loc Cert.UpdDownIdeal.nD Cert.UpdDownIdeal.τ Cert.UpdDownIdeal.sig) → Buf (Elt Ideal) ℓ) (g : Dev Cert.UpdDownIdeal.nD → PrngReg)
    (m' : (ℓ : Loc Cert.UpdDownRefIdeal.nD Cert.UpdDownRefIdeal.τ Cert.UpdDownRefIdeal.sig) → Buf (Elt Ideal) ℓ) (g' : Dev Cert.UpdDownRefIdeal.nD → PrngReg), Pre_UpdDownIdeal m →
    (∀ c : Dev Cert.UpdDownIdeal.nD,
      m' ((c.tc : Thread Cert.UpdDownRefIdeal.nD Cert.UpdDownRefIdeal.τ).loc Cert.UpdDownRefIdeal.main_arg0) = m ((c.tc : Thread Cert.UpdDownIdeal.nD Cert.UpdDownIdeal.τ).loc Cert.UpdDownIdeal.main_arg0)
      ∧ m' ((c.tc : Thread Cert.UpdDownRefIdeal.nD Cert.UpdDownRefIdeal.τ).loc Cert.UpdDownRefIdeal.main_arg1) = m ((c.tc : Thread Cert.UpdDownIdeal.nD Cert.UpdDownIdeal.τ).loc Cert.UpdDownIdeal.main_arg1)
      ∧ m' ((c.tc : Thread Cert.UpdDownRefIdeal.nD Cert.UpdDownRefIdeal.τ).loc Cert.UpdDownRefIdeal.main_arg2) = m ((c.tc : Thread Cert.UpdDownIdeal.nD Cert.UpdDownIdeal.τ).loc Cert.UpdDownIdeal.main_arg2)
      ∧ m' ((c.tc : Thread Cert.UpdDownRefIdeal.nD Cert.UpdDownRefIdeal.τ).loc Cert.UpdDownRefIdeal.main_arg3) = m ((c.tc : Thread Cert.UpdDownIdeal.nD Cert.UpdDownIdeal.τ).loc Cert.UpdDownIdeal.main_arg3)) →
    ∃ (v0 : (c : Dev Cert.UpdDownIdeal.nD) → Buf (Elt Ideal) ((c.tc : Thread Cert.UpdDownIdeal.nD Cert.UpdDownIdeal.τ).loc Cert.UpdDownIdeal.main_v0_0)) (v1 : (c : Dev Cert.UpdDownIdeal.nD) → Buf (Elt Ideal) ((c.tc : Thread Cert.UpdDownIdeal.nD Cert.UpdDownIdeal.τ).loc Cert.UpdDownIdeal.main_v0_1)) (v2 : (c : Dev Cert.UpdDownIdeal.nD) → Buf (Elt Ideal) ((c.tc : Thread Cert.UpdDownIdeal.nD Cert.UpdDownIdeal.τ).loc Cert.UpdDownIdeal.main_v0_2)) (v3 : (c : Dev Cert.UpdDownIdeal.nD) → Buf (Elt Ideal) ((c.tc : Thread Cert.UpdDownIdeal.nD Cert.UpdDownIdeal.τ).loc Cert.UpdDownIdeal.main_v0_3)),
      θ_run (Cert.UpdDownIdeal.defs (F := Ideal)) (onTc (τ := Cert.UpdDownIdeal.τ) (Cert.UpdDownIdeal.main (F := Ideal))) ⟨m, fun _ => 0, g⟩ (fun r => ∀ c : Dev Cert.UpdDownIdeal.nD,
          r.2.mem ((c.tc : Thread Cert.UpdDownIdeal.nD Cert.UpdDownIdeal.τ).loc Cert.UpdDownIdeal.main_v0_0) = v0 c
          ∧ r.2.mem ((c.tc : Thread Cert.UpdDownIdeal.nD Cert.UpdDownIdeal.τ).loc Cert.UpdDownIdeal.main_v0_1) = v1 c
          ∧ r.2.mem ((c.tc : Thread Cert.UpdDownIdeal.nD Cert.UpdDownIdeal.τ).loc Cert.UpdDownIdeal.main_v0_2) = v2 c
          ∧ r.2.mem ((c.tc : Thread Cert.UpdDownIdeal.nD Cert.UpdDownIdeal.τ).loc Cert.UpdDownIdeal.main_v0_3) = v3 c
          ∧ r.2.mem ((c.tc : Thread Cert.UpdDownIdeal.nD Cert.UpdDownIdeal.τ).loc Cert.UpdDownIdeal.main_arg0) = m ((c.tc : Thread Cert.UpdDownIdeal.nD Cert.UpdDownIdeal.τ).loc Cert.UpdDownIdeal.main_arg0)
          ∧ r.2.mem ((c.tc : Thread Cert.UpdDownIdeal.nD Cert.UpdDownIdeal.τ).loc Cert.UpdDownIdeal.main_arg1) = m ((c.tc : Thread Cert.UpdDownIdeal.nD Cert.UpdDownIdeal.τ).loc Cert.UpdDownIdeal.main_arg1)
          ∧ r.2.mem ((c.tc : Thread Cert.UpdDownIdeal.nD Cert.UpdDownIdeal.τ).loc Cert.UpdDownIdeal.main_arg2) = m ((c.tc : Thread Cert.UpdDownIdeal.nD Cert.UpdDownIdeal.τ).loc Cert.UpdDownIdeal.main_arg2)
          ∧ r.2.mem ((c.tc : Thread Cert.UpdDownIdeal.nD Cert.UpdDownIdeal.τ).loc Cert.UpdDownIdeal.main_arg3) = m ((c.tc : Thread Cert.UpdDownIdeal.nD Cert.UpdDownIdeal.τ).loc Cert.UpdDownIdeal.main_arg3))
      ∧ θ_run (Cert.UpdDownRefIdeal.defs (F := Ideal)) (onTc (τ := Cert.UpdDownRefIdeal.τ) (Cert.UpdDownRefIdeal.main (F := Ideal))) ⟨m', fun _ => 0, g'⟩ (fun r => ∀ c : Dev Cert.UpdDownRefIdeal.nD,
          r.2.mem ((c.tc : Thread Cert.UpdDownRefIdeal.nD Cert.UpdDownRefIdeal.τ).loc Cert.UpdDownRefIdeal.main_v1) = v0 c
          ∧ r.2.mem ((c.tc : Thread Cert.UpdDownRefIdeal.nD Cert.UpdDownRefIdeal.τ).loc Cert.UpdDownRefIdeal.main_v25) = v1 c
          ∧ r.2.mem ((c.tc : Thread Cert.UpdDownRefIdeal.nD Cert.UpdDownRefIdeal.τ).loc Cert.UpdDownRefIdeal.main_v6) = v2 c
          ∧ r.2.mem ((c.tc : Thread Cert.UpdDownRefIdeal.nD Cert.UpdDownRefIdeal.τ).loc Cert.UpdDownRefIdeal.main_v12) = v3 c
          ∧ r.2.mem ((c.tc : Thread Cert.UpdDownRefIdeal.nD Cert.UpdDownRefIdeal.τ).loc Cert.UpdDownRefIdeal.main_arg0) = m' ((c.tc : Thread Cert.UpdDownRefIdeal.nD Cert.UpdDownRefIdeal.τ).loc Cert.UpdDownRefIdeal.main_arg0)
          ∧ r.2.mem ((c.tc : Thread Cert.UpdDownRefIdeal.nD Cert.UpdDownRefIdeal.τ).loc Cert.UpdDownRefIdeal.main_arg1) = m' ((c.tc : Thread Cert.UpdDownRefIdeal.nD Cert.UpdDownRefIdeal.τ).loc Cert.UpdDownRefIdeal.main_arg1)
          ∧ r.2.mem ((c.tc : Thread Cert.UpdDownRefIdeal.nD Cert.UpdDownRefIdeal.τ).loc Cert.UpdDownRefIdeal.main_arg2) = m' ((c.tc : Thread Cert.UpdDownRefIdeal.nD Cert.UpdDownRefIdeal.τ).loc Cert.UpdDownRefIdeal.main_arg2)
          ∧ r.2.mem ((c.tc : Thread Cert.UpdDownRefIdeal.nD Cert.UpdDownRefIdeal.τ).loc Cert.UpdDownRefIdeal.main_arg3) = m' ((c.tc : Thread Cert.UpdDownRefIdeal.nD Cert.UpdDownRefIdeal.τ).loc Cert.UpdDownRefIdeal.main_arg3))

def preserves_FinalLoss_FinalLossIdeal : Prop :=
  True

def algebraic_FinalLossIdeal_FinalLossRefIdeal [hFinalLossIdeal : Cert.FinalLossIdeal.Facts] [hFinalLossRefIdeal : Cert.FinalLossRefIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg)
    (m' : (ℓ : Loc Cert.FinalLossRefIdeal.nD Cert.FinalLossRefIdeal.τ Cert.FinalLossRefIdeal.sig) → Buf (Elt Ideal) ℓ) (g' : Dev Cert.FinalLossRefIdeal.nD → PrngReg), Pre_FinalLossIdeal m →
    (∀ c : Dev Cert.FinalLossIdeal.nD,
      m' ((c.tc : Thread Cert.FinalLossRefIdeal.nD Cert.FinalLossRefIdeal.τ).loc Cert.FinalLossRefIdeal.main_arg0) = m ((c.tc : Thread Cert.FinalLossIdeal.nD Cert.FinalLossIdeal.τ).loc Cert.FinalLossIdeal.main_arg0)
      ∧ m' ((c.tc : Thread Cert.FinalLossRefIdeal.nD Cert.FinalLossRefIdeal.τ).loc Cert.FinalLossRefIdeal.main_arg1) = m ((c.tc : Thread Cert.FinalLossIdeal.nD Cert.FinalLossIdeal.τ).loc Cert.FinalLossIdeal.main_arg1)
      ∧ m' ((c.tc : Thread Cert.FinalLossRefIdeal.nD Cert.FinalLossRefIdeal.τ).loc Cert.FinalLossRefIdeal.main_arg2) = m ((c.tc : Thread Cert.FinalLossIdeal.nD Cert.FinalLossIdeal.τ).loc Cert.FinalLossIdeal.main_arg2)
      ∧ m' ((c.tc : Thread Cert.FinalLossRefIdeal.nD Cert.FinalLossRefIdeal.τ).loc Cert.FinalLossRefIdeal.main_arg3) = m ((c.tc : Thread Cert.FinalLossIdeal.nD Cert.FinalLossIdeal.τ).loc Cert.FinalLossIdeal.main_arg3)
      ∧ m' ((c.tc : Thread Cert.FinalLossRefIdeal.nD Cert.FinalLossRefIdeal.τ).loc Cert.FinalLossRefIdeal.main_arg4) = m ((c.tc : Thread Cert.FinalLossIdeal.nD Cert.FinalLossIdeal.τ).loc Cert.FinalLossIdeal.main_arg4)) →
    ∃ (v0 : (c : Dev Cert.FinalLossIdeal.nD) → Buf (Elt Ideal) ((c.tc : Thread Cert.FinalLossIdeal.nD Cert.FinalLossIdeal.τ).loc Cert.FinalLossIdeal.main_v0_0)) (v1 : (c : Dev Cert.FinalLossIdeal.nD) → Buf (Elt Ideal) ((c.tc : Thread Cert.FinalLossIdeal.nD Cert.FinalLossIdeal.τ).loc Cert.FinalLossIdeal.main_v0_1)) (v2 : (c : Dev Cert.FinalLossIdeal.nD) → Buf (Elt Ideal) ((c.tc : Thread Cert.FinalLossIdeal.nD Cert.FinalLossIdeal.τ).loc Cert.FinalLossIdeal.main_v0_2)) (v3 : (c : Dev Cert.FinalLossIdeal.nD) → Buf (Elt Ideal) ((c.tc : Thread Cert.FinalLossIdeal.nD Cert.FinalLossIdeal.τ).loc Cert.FinalLossIdeal.main_v0_3)),
      θ_run (Cert.FinalLossIdeal.defs (F := Ideal)) (onTc (τ := Cert.FinalLossIdeal.τ) (Cert.FinalLossIdeal.main (F := Ideal))) ⟨m, fun _ => 0, g⟩ (fun r => ∀ c : Dev Cert.FinalLossIdeal.nD,
          r.2.mem ((c.tc : Thread Cert.FinalLossIdeal.nD Cert.FinalLossIdeal.τ).loc Cert.FinalLossIdeal.main_v0_0) = v0 c
          ∧ r.2.mem ((c.tc : Thread Cert.FinalLossIdeal.nD Cert.FinalLossIdeal.τ).loc Cert.FinalLossIdeal.main_v0_1) = v1 c
          ∧ r.2.mem ((c.tc : Thread Cert.FinalLossIdeal.nD Cert.FinalLossIdeal.τ).loc Cert.FinalLossIdeal.main_v0_2) = v2 c
          ∧ r.2.mem ((c.tc : Thread Cert.FinalLossIdeal.nD Cert.FinalLossIdeal.τ).loc Cert.FinalLossIdeal.main_v0_3) = v3 c
          ∧ r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
          ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
          ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2)
          ∧ r.2.mem ((c.tc : Thread Cert.FinalLossIdeal.nD Cert.FinalLossIdeal.τ).loc Cert.FinalLossIdeal.main_arg3) = m ((c.tc : Thread Cert.FinalLossIdeal.nD Cert.FinalLossIdeal.τ).loc Cert.FinalLossIdeal.main_arg3)
          ∧ r.2.mem ((c.tc : Thread Cert.FinalLossIdeal.nD Cert.FinalLossIdeal.τ).loc Cert.FinalLossIdeal.main_arg4) = m ((c.tc : Thread Cert.FinalLossIdeal.nD Cert.FinalLossIdeal.τ).loc Cert.FinalLossIdeal.main_arg4))
      ∧ θ_run (Cert.FinalLossRefIdeal.defs (F := Ideal)) (onTc (τ := Cert.FinalLossRefIdeal.τ) (Cert.FinalLossRefIdeal.main (F := Ideal))) ⟨m', fun _ => 0, g'⟩ (fun r => ∀ c : Dev Cert.FinalLossRefIdeal.nD,
          r.2.mem ((c.tc : Thread Cert.FinalLossRefIdeal.nD Cert.FinalLossRefIdeal.τ).loc Cert.FinalLossRefIdeal.main_v53) = v0 c
          ∧ r.2.mem ((c.tc : Thread Cert.FinalLossRefIdeal.nD Cert.FinalLossRefIdeal.τ).loc Cert.FinalLossRefIdeal.main_v52) = v1 c
          ∧ r.2.mem ((c.tc : Thread Cert.FinalLossRefIdeal.nD Cert.FinalLossRefIdeal.τ).loc Cert.FinalLossRefIdeal.main_v54) = v2 c
          ∧ r.2.mem ((c.tc : Thread Cert.FinalLossRefIdeal.nD Cert.FinalLossRefIdeal.τ).loc Cert.FinalLossRefIdeal.main_v36) = v3 c
          ∧ r.2.mem ((c.tc : Thread Cert.FinalLossRefIdeal.nD Cert.FinalLossRefIdeal.τ).loc Cert.FinalLossRefIdeal.main_arg0) = m' ((c.tc : Thread Cert.FinalLossRefIdeal.nD Cert.FinalLossRefIdeal.τ).loc Cert.FinalLossRefIdeal.main_arg0)
          ∧ r.2.mem ((c.tc : Thread Cert.FinalLossRefIdeal.nD Cert.FinalLossRefIdeal.τ).loc Cert.FinalLossRefIdeal.main_arg1) = m' ((c.tc : Thread Cert.FinalLossRefIdeal.nD Cert.FinalLossRefIdeal.τ).loc Cert.FinalLossRefIdeal.main_arg1)
          ∧ r.2.mem ((c.tc : Thread Cert.FinalLossRefIdeal.nD Cert.FinalLossRefIdeal.τ).loc Cert.FinalLossRefIdeal.main_arg2) = m' ((c.tc : Thread Cert.FinalLossRefIdeal.nD Cert.FinalLossRefIdeal.τ).loc Cert.FinalLossRefIdeal.main_arg2)
          ∧ r.2.mem ((c.tc : Thread Cert.FinalLossRefIdeal.nD Cert.FinalLossRefIdeal.τ).loc Cert.FinalLossRefIdeal.main_arg3) = m' ((c.tc : Thread Cert.FinalLossRefIdeal.nD Cert.FinalLossRefIdeal.τ).loc Cert.FinalLossRefIdeal.main_arg3)
          ∧ r.2.mem ((c.tc : Thread Cert.FinalLossRefIdeal.nD Cert.FinalLossRefIdeal.τ).loc Cert.FinalLossRefIdeal.main_arg4) = m' ((c.tc : Thread Cert.FinalLossRefIdeal.nD Cert.FinalLossRefIdeal.τ).loc Cert.FinalLossRefIdeal.main_arg4))

def preserves_ConvBwd_ConvBwdIdeal : Prop :=
  True

def algebraic_ConvBwdIdeal_ConvBwdRefIdeal_pre_conv_finite [hConvBwdIdeal : Cert.ConvBwdIdeal.Facts] [hConvBwdRefIdeal : Cert.ConvBwdRefIdeal.Facts] [hPre_conv_finite : Cert.Pre_conv_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal_conv_finite m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)
      ∧ m' ((c.tc : Thread Cert.ConvBwdRefIdeal.nD Cert.ConvBwdRefIdeal.τ).loc Cert.ConvBwdRefIdeal.main_arg4) = m ((c.tc : Thread Cert.ConvBwdIdeal.nD Cert.ConvBwdIdeal.τ).loc Cert.ConvBwdIdeal.main_arg4)
      ∧ m' ((c.tc : Thread Cert.ConvBwdRefIdeal.nD Cert.ConvBwdRefIdeal.τ).loc Cert.ConvBwdRefIdeal.main_arg5) = m ((c.tc : Thread Cert.ConvBwdIdeal.nD Cert.ConvBwdIdeal.τ).loc Cert.ConvBwdIdeal.main_arg5)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)) (v2 : (c : Dev Cert.ConvBwdIdeal.nD) → Buf (Elt Ideal) ((c.tc : Thread Cert.ConvBwdIdeal.nD Cert.ConvBwdIdeal.τ).loc Cert.ConvBwdIdeal.main_v0_2)) (v3 : (c : Dev Cert.ConvBwdIdeal.nD) → Buf (Elt Ideal) ((c.tc : Thread Cert.ConvBwdIdeal.nD Cert.ConvBwdIdeal.τ).loc Cert.ConvBwdIdeal.main_v0_3)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_v0_2) = v2 c
          ∧ r.2.mem ((c.tc : Thread Cert.ConvBwdIdeal.nD Cert.ConvBwdIdeal.τ).loc Cert.ConvBwdIdeal.main_v0_3) = v3 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
          ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
          ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v61) = v0 c
          ∧ r.2.mem ((c.tc : Thread Cert.ConvBwdRefIdeal.nD Cert.ConvBwdRefIdeal.τ).loc Cert.ConvBwdRefIdeal.main_v62) = v1 c
          ∧ r.2.mem ((c.tc : Thread Cert.ConvBwdRefIdeal.nD Cert.ConvBwdRefIdeal.τ).loc Cert.ConvBwdRefIdeal.main_v58) = v2 c
          ∧ r.2.mem ((c.tc : Thread Cert.ConvBwdRefIdeal.nD Cert.ConvBwdRefIdeal.τ).loc Cert.ConvBwdRefIdeal.main_v49) = v3 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3)
          ∧ r.2.mem ((c.tc : Thread Cert.ConvBwdRefIdeal.nD Cert.ConvBwdRefIdeal.τ).loc Cert.ConvBwdRefIdeal.main_arg4) = m' ((c.tc : Thread Cert.ConvBwdRefIdeal.nD Cert.ConvBwdRefIdeal.τ).loc Cert.ConvBwdRefIdeal.main_arg4)
          ∧ r.2.mem ((c.tc : Thread Cert.ConvBwdRefIdeal.nD Cert.ConvBwdRefIdeal.τ).loc Cert.ConvBwdRefIdeal.main_arg5) = m' ((c.tc : Thread Cert.ConvBwdRefIdeal.nD Cert.ConvBwdRefIdeal.τ).loc Cert.ConvBwdRefIdeal.main_arg5))

def preserves_MemNorm_MemNormIdeal : Prop :=
  True

def algebraic_MemNormIdeal_MemNormRefIdeal [hMemNormIdeal : Cert.MemNormIdeal.Facts] [hMemNormRefIdeal : Cert.MemNormRefIdeal.Facts] : Prop :=
  ∀ (m : (ℓ : Loc Cert.MemNormIdeal.nD Cert.MemNormIdeal.τ Cert.MemNormIdeal.sig) → Buf (Elt Ideal) ℓ) (g : Dev Cert.MemNormIdeal.nD → PrngReg)
    (m' : (ℓ : Loc Cert.MemNormRefIdeal.nD Cert.MemNormRefIdeal.τ Cert.MemNormRefIdeal.sig) → Buf (Elt Ideal) ℓ) (g' : Dev Cert.MemNormRefIdeal.nD → PrngReg), Pre_MemNormIdeal m →
    (∀ c : Dev Cert.MemNormIdeal.nD,
      m' ((c.tc : Thread Cert.MemNormRefIdeal.nD Cert.MemNormRefIdeal.τ).loc Cert.MemNormRefIdeal.main_arg0) = m ((c.tc : Thread Cert.MemNormIdeal.nD Cert.MemNormIdeal.τ).loc Cert.MemNormIdeal.main_arg0)
      ∧ m' ((c.tc : Thread Cert.MemNormRefIdeal.nD Cert.MemNormRefIdeal.τ).loc Cert.MemNormRefIdeal.main_arg1) = m ((c.tc : Thread Cert.MemNormIdeal.nD Cert.MemNormIdeal.τ).loc Cert.MemNormIdeal.main_arg1)) →
    ∃ (v0 : (c : Dev Cert.MemNormIdeal.nD) → Buf (Elt Ideal) ((c.tc : Thread Cert.MemNormIdeal.nD Cert.MemNormIdeal.τ).loc Cert.MemNormIdeal.main_v0)),
      θ_run (Cert.MemNormIdeal.defs (F := Ideal)) (onTc (τ := Cert.MemNormIdeal.τ) (Cert.MemNormIdeal.main (F := Ideal))) ⟨m, fun _ => 0, g⟩ (fun r => ∀ c : Dev Cert.MemNormIdeal.nD,
          r.2.mem ((c.tc : Thread Cert.MemNormIdeal.nD Cert.MemNormIdeal.τ).loc Cert.MemNormIdeal.main_v0) = v0 c
          ∧ r.2.mem ((c.tc : Thread Cert.MemNormIdeal.nD Cert.MemNormIdeal.τ).loc Cert.MemNormIdeal.main_arg0) = m ((c.tc : Thread Cert.MemNormIdeal.nD Cert.MemNormIdeal.τ).loc Cert.MemNormIdeal.main_arg0)
          ∧ r.2.mem ((c.tc : Thread Cert.MemNormIdeal.nD Cert.MemNormIdeal.τ).loc Cert.MemNormIdeal.main_arg1) = m ((c.tc : Thread Cert.MemNormIdeal.nD Cert.MemNormIdeal.τ).loc Cert.MemNormIdeal.main_arg1))
      ∧ θ_run (Cert.MemNormRefIdeal.defs (F := Ideal)) (onTc (τ := Cert.MemNormRefIdeal.τ) (Cert.MemNormRefIdeal.main (F := Ideal))) ⟨m', fun _ => 0, g'⟩ (fun r => ∀ c : Dev Cert.MemNormRefIdeal.nD,
          r.2.mem ((c.tc : Thread Cert.MemNormRefIdeal.nD Cert.MemNormRefIdeal.τ).loc Cert.MemNormRefIdeal.main_v12) = v0 c
          ∧ r.2.mem ((c.tc : Thread Cert.MemNormRefIdeal.nD Cert.MemNormRefIdeal.τ).loc Cert.MemNormRefIdeal.main_arg0) = m' ((c.tc : Thread Cert.MemNormRefIdeal.nD Cert.MemNormRefIdeal.τ).loc Cert.MemNormRefIdeal.main_arg0)
          ∧ r.2.mem ((c.tc : Thread Cert.MemNormRefIdeal.nD Cert.MemNormRefIdeal.τ).loc Cert.MemNormRefIdeal.main_arg1) = m' ((c.tc : Thread Cert.MemNormRefIdeal.nD Cert.MemNormRefIdeal.τ).loc Cert.MemNormRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v2) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_MemKvBwd_MemKvBwdIdeal : Prop :=
  True

def algebraic_MemKvBwdIdeal_MemKvBwdRefIdeal [hMemKvBwdIdeal : Cert.MemKvBwdIdeal.Facts] [hMemKvBwdRefIdeal : Cert.MemKvBwdRefIdeal.Facts] : Prop :=
  ∀ (m : (ℓ : Loc Cert.MemKvBwdIdeal.nD Cert.MemKvBwdIdeal.τ Cert.MemKvBwdIdeal.sig) → Buf (Elt Ideal) ℓ) (g : Dev Cert.MemKvBwdIdeal.nD → PrngReg)
    (m' : (ℓ : Loc Cert.MemKvBwdRefIdeal.nD Cert.MemKvBwdRefIdeal.τ Cert.MemKvBwdRefIdeal.sig) → Buf (Elt Ideal) ℓ) (g' : Dev Cert.MemKvBwdRefIdeal.nD → PrngReg), Pre_MemKvBwdIdeal m →
    (∀ c : Dev Cert.MemKvBwdIdeal.nD,
      m' ((c.tc : Thread Cert.MemKvBwdRefIdeal.nD Cert.MemKvBwdRefIdeal.τ).loc Cert.MemKvBwdRefIdeal.main_arg0) = m ((c.tc : Thread Cert.MemKvBwdIdeal.nD Cert.MemKvBwdIdeal.τ).loc Cert.MemKvBwdIdeal.main_arg0)
      ∧ m' ((c.tc : Thread Cert.MemKvBwdRefIdeal.nD Cert.MemKvBwdRefIdeal.τ).loc Cert.MemKvBwdRefIdeal.main_arg1) = m ((c.tc : Thread Cert.MemKvBwdIdeal.nD Cert.MemKvBwdIdeal.τ).loc Cert.MemKvBwdIdeal.main_arg1)) →
    ∃ (v0 : (c : Dev Cert.MemKvBwdIdeal.nD) → Buf (Elt Ideal) ((c.tc : Thread Cert.MemKvBwdIdeal.nD Cert.MemKvBwdIdeal.τ).loc Cert.MemKvBwdIdeal.main_v0)),
      θ_run (Cert.MemKvBwdIdeal.defs (F := Ideal)) (onTc (τ := Cert.MemKvBwdIdeal.τ) (Cert.MemKvBwdIdeal.main (F := Ideal))) ⟨m, fun _ => 0, g⟩ (fun r => ∀ c : Dev Cert.MemKvBwdIdeal.nD,
          r.2.mem ((c.tc : Thread Cert.MemKvBwdIdeal.nD Cert.MemKvBwdIdeal.τ).loc Cert.MemKvBwdIdeal.main_v0) = v0 c
          ∧ r.2.mem ((c.tc : Thread Cert.MemKvBwdIdeal.nD Cert.MemKvBwdIdeal.τ).loc Cert.MemKvBwdIdeal.main_arg0) = m ((c.tc : Thread Cert.MemKvBwdIdeal.nD Cert.MemKvBwdIdeal.τ).loc Cert.MemKvBwdIdeal.main_arg0)
          ∧ r.2.mem ((c.tc : Thread Cert.MemKvBwdIdeal.nD Cert.MemKvBwdIdeal.τ).loc Cert.MemKvBwdIdeal.main_arg1) = m ((c.tc : Thread Cert.MemKvBwdIdeal.nD Cert.MemKvBwdIdeal.τ).loc Cert.MemKvBwdIdeal.main_arg1))
      ∧ θ_run (Cert.MemKvBwdRefIdeal.defs (F := Ideal)) (onTc (τ := Cert.MemKvBwdRefIdeal.τ) (Cert.MemKvBwdRefIdeal.main (F := Ideal))) ⟨m', fun _ => 0, g'⟩ (fun r => ∀ c : Dev Cert.MemKvBwdRefIdeal.nD,
          r.2.mem ((c.tc : Thread Cert.MemKvBwdRefIdeal.nD Cert.MemKvBwdRefIdeal.τ).loc Cert.MemKvBwdRefIdeal.main_v3) = v0 c
          ∧ r.2.mem ((c.tc : Thread Cert.MemKvBwdRefIdeal.nD Cert.MemKvBwdRefIdeal.τ).loc Cert.MemKvBwdRefIdeal.main_arg0) = m' ((c.tc : Thread Cert.MemKvBwdRefIdeal.nD Cert.MemKvBwdRefIdeal.τ).loc Cert.MemKvBwdRefIdeal.main_arg0)
          ∧ r.2.mem ((c.tc : Thread Cert.MemKvBwdRefIdeal.nD Cert.MemKvBwdRefIdeal.τ).loc Cert.MemKvBwdRefIdeal.main_arg1) = m' ((c.tc : Thread Cert.MemKvBwdRefIdeal.nD Cert.MemKvBwdRefIdeal.τ).loc Cert.MemKvBwdRefIdeal.main_arg1))

def preserves_MemNormBwd_MemNormBwdIdeal : Prop :=
  True

def algebraic_MemNormBwdIdeal_MemNormBwdRefIdeal [hMemNormBwdIdeal : Cert.MemNormBwdIdeal.Facts] [hMemNormBwdRefIdeal : Cert.MemNormBwdRefIdeal.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg)
    (m' : (ℓ : Loc Cert.MemNormBwdRefIdeal.nD Cert.MemNormBwdRefIdeal.τ Cert.MemNormBwdRefIdeal.sig) → Buf (Elt Ideal) ℓ) (g' : Dev Cert.MemNormBwdRefIdeal.nD → PrngReg), Pre_MemNormBwdIdeal m →
    (∀ c : Dev Cert.MemNormBwdIdeal.nD,
      m' ((c.tc : Thread Cert.MemNormBwdRefIdeal.nD Cert.MemNormBwdRefIdeal.τ).loc Cert.MemNormBwdRefIdeal.main_arg0) = m ((c.tc : Thread Cert.MemNormBwdIdeal.nD Cert.MemNormBwdIdeal.τ).loc Cert.MemNormBwdIdeal.main_arg0)
      ∧ m' ((c.tc : Thread Cert.MemNormBwdRefIdeal.nD Cert.MemNormBwdRefIdeal.τ).loc Cert.MemNormBwdRefIdeal.main_arg1) = m ((c.tc : Thread Cert.MemNormBwdIdeal.nD Cert.MemNormBwdIdeal.τ).loc Cert.MemNormBwdIdeal.main_arg1)
      ∧ m' ((c.tc : Thread Cert.MemNormBwdRefIdeal.nD Cert.MemNormBwdRefIdeal.τ).loc Cert.MemNormBwdRefIdeal.main_arg2) = m ((c.tc : Thread Cert.MemNormBwdIdeal.nD Cert.MemNormBwdIdeal.τ).loc Cert.MemNormBwdIdeal.main_arg2)) →
    ∃ (v0 : (c : Dev Cert.MemNormBwdIdeal.nD) → Buf (Elt Ideal) ((c.tc : Thread Cert.MemNormBwdIdeal.nD Cert.MemNormBwdIdeal.τ).loc Cert.MemNormBwdIdeal.main_v0_0)) (v1 : (c : Dev Cert.MemNormBwdIdeal.nD) → Buf (Elt Ideal) ((c.tc : Thread Cert.MemNormBwdIdeal.nD Cert.MemNormBwdIdeal.τ).loc Cert.MemNormBwdIdeal.main_v0_1)),
      θ_run (Cert.MemNormBwdIdeal.defs (F := Ideal)) (onTc (τ := Cert.MemNormBwdIdeal.τ) (Cert.MemNormBwdIdeal.main (F := Ideal))) ⟨m, fun _ => 0, g⟩ (fun r => ∀ c : Dev Cert.MemNormBwdIdeal.nD,
          r.2.mem ((c.tc : Thread Cert.MemNormBwdIdeal.nD Cert.MemNormBwdIdeal.τ).loc Cert.MemNormBwdIdeal.main_v0_0) = v0 c
          ∧ r.2.mem ((c.tc : Thread Cert.MemNormBwdIdeal.nD Cert.MemNormBwdIdeal.τ).loc Cert.MemNormBwdIdeal.main_v0_1) = v1 c
          ∧ r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
          ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
          ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2))
      ∧ θ_run (Cert.MemNormBwdRefIdeal.defs (F := Ideal)) (onTc (τ := Cert.MemNormBwdRefIdeal.τ) (Cert.MemNormBwdRefIdeal.main (F := Ideal))) ⟨m', fun _ => 0, g'⟩ (fun r => ∀ c : Dev Cert.MemNormBwdRefIdeal.nD,
          r.2.mem ((c.tc : Thread Cert.MemNormBwdRefIdeal.nD Cert.MemNormBwdRefIdeal.τ).loc Cert.MemNormBwdRefIdeal.main_v33) = v0 c
          ∧ r.2.mem ((c.tc : Thread Cert.MemNormBwdRefIdeal.nD Cert.MemNormBwdRefIdeal.τ).loc Cert.MemNormBwdRefIdeal.main_v17) = v1 c
          ∧ r.2.mem ((c.tc : Thread Cert.MemNormBwdRefIdeal.nD Cert.MemNormBwdRefIdeal.τ).loc Cert.MemNormBwdRefIdeal.main_arg0) = m' ((c.tc : Thread Cert.MemNormBwdRefIdeal.nD Cert.MemNormBwdRefIdeal.τ).loc Cert.MemNormBwdRefIdeal.main_arg0)
          ∧ r.2.mem ((c.tc : Thread Cert.MemNormBwdRefIdeal.nD Cert.MemNormBwdRefIdeal.τ).loc Cert.MemNormBwdRefIdeal.main_arg1) = m' ((c.tc : Thread Cert.MemNormBwdRefIdeal.nD Cert.MemNormBwdRefIdeal.τ).loc Cert.MemNormBwdRefIdeal.main_arg1)
          ∧ r.2.mem ((c.tc : Thread Cert.MemNormBwdRefIdeal.nD Cert.MemNormBwdRefIdeal.τ).loc Cert.MemNormBwdRefIdeal.main_arg2) = m' ((c.tc : Thread Cert.MemNormBwdRefIdeal.nD Cert.MemNormBwdRefIdeal.τ).loc Cert.MemNormBwdRefIdeal.main_arg2))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v25) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_GmlpFwd_GmlpFwdIdeal : Prop :=
  True

def algebraic_GmlpFwdIdeal_GmlpFwdRefIdeal [hGmlpFwdIdeal : Cert.GmlpFwdIdeal.Facts] [hGmlpFwdRefIdeal : Cert.GmlpFwdRefIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg)
    (m' : (ℓ : Loc Cert.GmlpFwdRefIdeal.nD Cert.GmlpFwdRefIdeal.τ Cert.GmlpFwdRefIdeal.sig) → Buf (Elt Ideal) ℓ) (g' : Dev Cert.GmlpFwdRefIdeal.nD → PrngReg), Pre_GmlpFwdIdeal m →
    (∀ c : Dev Cert.GmlpFwdIdeal.nD,
      m' ((c.tc : Thread Cert.GmlpFwdRefIdeal.nD Cert.GmlpFwdRefIdeal.τ).loc Cert.GmlpFwdRefIdeal.main_arg0) = m ((c.tc : Thread Cert.GmlpFwdIdeal.nD Cert.GmlpFwdIdeal.τ).loc Cert.GmlpFwdIdeal.main_arg0)
      ∧ m' ((c.tc : Thread Cert.GmlpFwdRefIdeal.nD Cert.GmlpFwdRefIdeal.τ).loc Cert.GmlpFwdRefIdeal.main_arg1) = m ((c.tc : Thread Cert.GmlpFwdIdeal.nD Cert.GmlpFwdIdeal.τ).loc Cert.GmlpFwdIdeal.main_arg1)
      ∧ m' ((c.tc : Thread Cert.GmlpFwdRefIdeal.nD Cert.GmlpFwdRefIdeal.τ).loc Cert.GmlpFwdRefIdeal.main_arg2) = m ((c.tc : Thread Cert.GmlpFwdIdeal.nD Cert.GmlpFwdIdeal.τ).loc Cert.GmlpFwdIdeal.main_arg2)
      ∧ m' ((c.tc : Thread Cert.GmlpFwdRefIdeal.nD Cert.GmlpFwdRefIdeal.τ).loc Cert.GmlpFwdRefIdeal.main_arg3) = m ((c.tc : Thread Cert.GmlpFwdIdeal.nD Cert.GmlpFwdIdeal.τ).loc Cert.GmlpFwdIdeal.main_arg3)
      ∧ m' ((c.tc : Thread Cert.GmlpFwdRefIdeal.nD Cert.GmlpFwdRefIdeal.τ).loc Cert.GmlpFwdRefIdeal.main_arg4) = m ((c.tc : Thread Cert.GmlpFwdIdeal.nD Cert.GmlpFwdIdeal.τ).loc Cert.GmlpFwdIdeal.main_arg4)) →
    ∃ (v0 : (c : Dev Cert.GmlpFwdIdeal.nD) → Buf (Elt Ideal) ((c.tc : Thread Cert.GmlpFwdIdeal.nD Cert.GmlpFwdIdeal.τ).loc Cert.GmlpFwdIdeal.main_v0)),
      θ_run (Cert.GmlpFwdIdeal.defs (F := Ideal)) (onTc (τ := Cert.GmlpFwdIdeal.τ) (Cert.GmlpFwdIdeal.main (F := Ideal))) ⟨m, fun _ => 0, g⟩ (fun r => ∀ c : Dev Cert.GmlpFwdIdeal.nD,
          r.2.mem ((c.tc : Thread Cert.GmlpFwdIdeal.nD Cert.GmlpFwdIdeal.τ).loc Cert.GmlpFwdIdeal.main_v0) = v0 c
          ∧ r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
          ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
          ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
          ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
          ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ θ_run (Cert.GmlpFwdRefIdeal.defs (F := Ideal)) (onTc (τ := Cert.GmlpFwdRefIdeal.τ) (Cert.GmlpFwdRefIdeal.main (F := Ideal))) ⟨m', fun _ => 0, g'⟩ (fun r => ∀ c : Dev Cert.GmlpFwdRefIdeal.nD,
          r.2.mem ((c.tc : Thread Cert.GmlpFwdRefIdeal.nD Cert.GmlpFwdRefIdeal.τ).loc Cert.GmlpFwdRefIdeal.main_v71) = v0 c
          ∧ r.2.mem ((c.tc : Thread Cert.GmlpFwdRefIdeal.nD Cert.GmlpFwdRefIdeal.τ).loc Cert.GmlpFwdRefIdeal.main_arg0) = m' ((c.tc : Thread Cert.GmlpFwdRefIdeal.nD Cert.GmlpFwdRefIdeal.τ).loc Cert.GmlpFwdRefIdeal.main_arg0)
          ∧ r.2.mem ((c.tc : Thread Cert.GmlpFwdRefIdeal.nD Cert.GmlpFwdRefIdeal.τ).loc Cert.GmlpFwdRefIdeal.main_arg1) = m' ((c.tc : Thread Cert.GmlpFwdRefIdeal.nD Cert.GmlpFwdRefIdeal.τ).loc Cert.GmlpFwdRefIdeal.main_arg1)
          ∧ r.2.mem ((c.tc : Thread Cert.GmlpFwdRefIdeal.nD Cert.GmlpFwdRefIdeal.τ).loc Cert.GmlpFwdRefIdeal.main_arg2) = m' ((c.tc : Thread Cert.GmlpFwdRefIdeal.nD Cert.GmlpFwdRefIdeal.τ).loc Cert.GmlpFwdRefIdeal.main_arg2)
          ∧ r.2.mem ((c.tc : Thread Cert.GmlpFwdRefIdeal.nD Cert.GmlpFwdRefIdeal.τ).loc Cert.GmlpFwdRefIdeal.main_arg3) = m' ((c.tc : Thread Cert.GmlpFwdRefIdeal.nD Cert.GmlpFwdRefIdeal.τ).loc Cert.GmlpFwdRefIdeal.main_arg3)
          ∧ r.2.mem ((c.tc : Thread Cert.GmlpFwdRefIdeal.nD Cert.GmlpFwdRefIdeal.τ).loc Cert.GmlpFwdRefIdeal.main_arg4) = m' ((c.tc : Thread Cert.GmlpFwdRefIdeal.nD Cert.GmlpFwdRefIdeal.τ).loc Cert.GmlpFwdRefIdeal.main_arg4))

def Claim : Prop :=
  ∃ (hAttnBwd : Cert.AttnBwd.Facts) (hAttnBwdIdeal : Cert.AttnBwdIdeal.Facts) (hAttnBwdRefIdeal : Cert.AttnBwdRefIdeal.Facts) (hDwDown : Cert.DwDown.Facts) (hDwDownIdeal : Cert.DwDownIdeal.Facts) (hDwDownRefIdeal : Cert.DwDownRefIdeal.Facts) (hDwUpA : Cert.DwUpA.Facts) (hDwUpAIdeal : Cert.DwUpAIdeal.Facts) (hDwUpARefIdeal : Cert.DwUpARefIdeal.Facts) (hDwUpB : Cert.DwUpB.Facts) (hDwUpBIdeal : Cert.DwUpBIdeal.Facts) (hDwUpBRefIdeal : Cert.DwUpBRefIdeal.Facts) (hDwProjA : Cert.DwProjA.Facts) (hDwProjAIdeal : Cert.DwProjAIdeal.Facts) (hDwProjARefIdeal : Cert.DwProjARefIdeal.Facts) (hDwProjB : Cert.DwProjB.Facts) (hDwProjBIdeal : Cert.DwProjBIdeal.Facts) (hDwProjBRefIdeal : Cert.DwProjBRefIdeal.Facts) (hDwKv : Cert.DwKv.Facts) (hDwKvIdeal : Cert.DwKvIdeal.Facts) (hDwKvRefIdeal : Cert.DwKvRefIdeal.Facts) (hNormTwoBwd : Cert.NormTwoBwd.Facts) (hNormTwoBwdIdeal : Cert.NormTwoBwdIdeal.Facts) (hNormTwoBwdRefIdeal : Cert.NormTwoBwdRefIdeal.Facts) (hNormOneBwd : Cert.NormOneBwd.Facts) (hNormOneBwdIdeal : Cert.NormOneBwdIdeal.Facts) (hNormOneBwdRefIdeal : Cert.NormOneBwdRefIdeal.Facts) (hMergeBwd : Cert.MergeBwd.Facts) (hMergeBwdIdeal : Cert.MergeBwdIdeal.Facts) (hMergeBwdRefIdeal : Cert.MergeBwdRefIdeal.Facts) (hUpFwd : Cert.UpFwd.Facts) (hUpFwdIdeal : Cert.UpFwdIdeal.Facts) (hUpFwdRefIdeal : Cert.UpFwdRefIdeal.Facts) (hMergeFwd : Cert.MergeFwd.Facts) (hMergeFwdIdeal : Cert.MergeFwdIdeal.Facts) (hMergeFwdRefIdeal : Cert.MergeFwdRefIdeal.Facts) (hUpdIn : Cert.UpdIn.Facts) (hUpdInIdeal : Cert.UpdInIdeal.Facts) (hUpdInRefIdeal : Cert.UpdInRefIdeal.Facts) (hUpdKv : Cert.UpdKv.Facts) (hUpdKvIdeal : Cert.UpdKvIdeal.Facts) (hUpdKvRefIdeal : Cert.UpdKvRefIdeal.Facts) (hUpdBranch : Cert.UpdBranch.Facts) (hUpdBranchIdeal : Cert.UpdBranchIdeal.Facts) (hUpdBranchRefIdeal : Cert.UpdBranchRefIdeal.Facts) (hUpdOut : Cert.UpdOut.Facts) (hUpdOutIdeal : Cert.UpdOutIdeal.Facts) (hUpdOutRefIdeal : Cert.UpdOutRefIdeal.Facts) (hUpdUp : Cert.UpdUp.Facts) (hUpdUpIdeal : Cert.UpdUpIdeal.Facts) (hUpdUpRefIdeal : Cert.UpdUpRefIdeal.Facts) (hUpdConv : Cert.UpdConv.Facts) (hUpdConvIdeal : Cert.UpdConvIdeal.Facts) (hUpdConvRefIdeal : Cert.UpdConvRefIdeal.Facts) (hUpdDown : Cert.UpdDown.Facts) (hUpdDownIdeal : Cert.UpdDownIdeal.Facts) (hUpdDownRefIdeal : Cert.UpdDownRefIdeal.Facts) (hFinalLoss : Cert.FinalLoss.Facts) (hFinalLossIdeal : Cert.FinalLossIdeal.Facts) (hFinalLossRefIdeal : Cert.FinalLossRefIdeal.Facts) (hConvBwd : Cert.ConvBwd.Facts) (hConvBwdIdeal : Cert.ConvBwdIdeal.Facts) (hConvBwdRefIdeal : Cert.ConvBwdRefIdeal.Facts) (hMemNorm : Cert.MemNorm.Facts) (hMemNormIdeal : Cert.MemNormIdeal.Facts) (hMemNormRefIdeal : Cert.MemNormRefIdeal.Facts) (hMemKv : Cert.MemKv.Facts) (hMemKvIdeal : Cert.MemKvIdeal.Facts) (hMemKvRefIdeal : Cert.MemKvRefIdeal.Facts) (hMemKvBwd : Cert.MemKvBwd.Facts) (hMemKvBwdIdeal : Cert.MemKvBwdIdeal.Facts) (hMemKvBwdRefIdeal : Cert.MemKvBwdRefIdeal.Facts) (hMemNormBwd : Cert.MemNormBwd.Facts) (hMemNormBwdIdeal : Cert.MemNormBwdIdeal.Facts) (hMemNormBwdRefIdeal : Cert.MemNormBwdRefIdeal.Facts) (hAttnFwd : Cert.AttnFwd.Facts) (hAttnFwdIdeal : Cert.AttnFwdIdeal.Facts) (hAttnFwdRefIdeal : Cert.AttnFwdRefIdeal.Facts) (hGmlpFwd : Cert.GmlpFwd.Facts) (hGmlpFwdIdeal : Cert.GmlpFwdIdeal.Facts) (hGmlpFwdRefIdeal : Cert.GmlpFwdRefIdeal.Facts) (hPre_attn_finite : Cert.Pre_attn_finite.Facts) (hPre_conv_finite : Cert.Pre_conv_finite.Facts),
    quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnBwdRefIdeal (hAttnBwdRefIdeal := hAttnBwdRefIdeal)
    ∧ quiescent_AttnBwdRefIdeal_pre_attn_finite (hAttnBwdRefIdeal := hAttnBwdRefIdeal) (hPre_attn_finite := hPre_attn_finite)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwUpA (hDwUpA := hDwUpA)
    ∧ quiescent_DwUpAIdeal (hDwUpAIdeal := hDwUpAIdeal)
    ∧ quiescent_DwUpARefIdeal (hDwUpARefIdeal := hDwUpARefIdeal)
    ∧ quiescent_DwUpB (hDwUpB := hDwUpB)
    ∧ quiescent_DwUpBIdeal (hDwUpBIdeal := hDwUpBIdeal)
    ∧ quiescent_DwUpBRefIdeal (hDwUpBRefIdeal := hDwUpBRefIdeal)
    ∧ quiescent_DwProjA (hDwProjA := hDwProjA)
    ∧ quiescent_DwProjAIdeal (hDwProjAIdeal := hDwProjAIdeal)
    ∧ quiescent_DwProjARefIdeal (hDwProjARefIdeal := hDwProjARefIdeal)
    ∧ quiescent_DwProjB (hDwProjB := hDwProjB)
    ∧ quiescent_DwProjBIdeal (hDwProjBIdeal := hDwProjBIdeal)
    ∧ quiescent_DwProjBRefIdeal (hDwProjBRefIdeal := hDwProjBRefIdeal)
    ∧ quiescent_DwKv (hDwKv := hDwKv)
    ∧ quiescent_DwKvIdeal (hDwKvIdeal := hDwKvIdeal)
    ∧ quiescent_DwKvRefIdeal (hDwKvRefIdeal := hDwKvRefIdeal)
    ∧ quiescent_NormTwoBwd (hNormTwoBwd := hNormTwoBwd)
    ∧ quiescent_NormTwoBwdIdeal (hNormTwoBwdIdeal := hNormTwoBwdIdeal)
    ∧ quiescent_NormTwoBwdRefIdeal (hNormTwoBwdRefIdeal := hNormTwoBwdRefIdeal)
    ∧ quiescent_NormOneBwd (hNormOneBwd := hNormOneBwd)
    ∧ quiescent_NormOneBwdIdeal (hNormOneBwdIdeal := hNormOneBwdIdeal)
    ∧ quiescent_NormOneBwdRefIdeal (hNormOneBwdRefIdeal := hNormOneBwdRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_UpdIn (hUpdIn := hUpdIn)
    ∧ quiescent_UpdInIdeal (hUpdInIdeal := hUpdInIdeal)
    ∧ quiescent_UpdInRefIdeal (hUpdInRefIdeal := hUpdInRefIdeal)
    ∧ quiescent_UpdKv (hUpdKv := hUpdKv)
    ∧ quiescent_UpdKvIdeal (hUpdKvIdeal := hUpdKvIdeal)
    ∧ quiescent_UpdKvRefIdeal (hUpdKvRefIdeal := hUpdKvRefIdeal)
    ∧ quiescent_UpdBranch (hUpdBranch := hUpdBranch)
    ∧ quiescent_UpdBranchIdeal (hUpdBranchIdeal := hUpdBranchIdeal)
    ∧ quiescent_UpdBranchRefIdeal (hUpdBranchRefIdeal := hUpdBranchRefIdeal)
    ∧ quiescent_UpdOut (hUpdOut := hUpdOut)
    ∧ quiescent_UpdOutIdeal (hUpdOutIdeal := hUpdOutIdeal)
    ∧ quiescent_UpdOutRefIdeal (hUpdOutRefIdeal := hUpdOutRefIdeal)
    ∧ quiescent_UpdUp (hUpdUp := hUpdUp)
    ∧ quiescent_UpdUpIdeal (hUpdUpIdeal := hUpdUpIdeal)
    ∧ quiescent_UpdUpRefIdeal (hUpdUpRefIdeal := hUpdUpRefIdeal)
    ∧ quiescent_UpdConv (hUpdConv := hUpdConv)
    ∧ quiescent_UpdConvIdeal (hUpdConvIdeal := hUpdConvIdeal)
    ∧ quiescent_UpdConvRefIdeal (hUpdConvRefIdeal := hUpdConvRefIdeal)
    ∧ quiescent_UpdDown (hUpdDown := hUpdDown)
    ∧ quiescent_UpdDownIdeal (hUpdDownIdeal := hUpdDownIdeal)
    ∧ quiescent_UpdDownRefIdeal (hUpdDownRefIdeal := hUpdDownRefIdeal)
    ∧ quiescent_FinalLoss (hFinalLoss := hFinalLoss)
    ∧ quiescent_FinalLossIdeal (hFinalLossIdeal := hFinalLossIdeal)
    ∧ quiescent_FinalLossRefIdeal (hFinalLossRefIdeal := hFinalLossRefIdeal)
    ∧ quiescent_ConvBwd (hConvBwd := hConvBwd)
    ∧ quiescent_ConvBwdIdeal (hConvBwdIdeal := hConvBwdIdeal)
    ∧ quiescent_ConvBwdIdeal_pre_conv_finite (hConvBwdIdeal := hConvBwdIdeal) (hPre_conv_finite := hPre_conv_finite)
    ∧ quiescent_ConvBwdRefIdeal (hConvBwdRefIdeal := hConvBwdRefIdeal)
    ∧ quiescent_ConvBwdRefIdeal_pre_conv_finite (hConvBwdRefIdeal := hConvBwdRefIdeal) (hPre_conv_finite := hPre_conv_finite)
    ∧ quiescent_MemNorm (hMemNorm := hMemNorm)
    ∧ quiescent_MemNormIdeal (hMemNormIdeal := hMemNormIdeal)
    ∧ quiescent_MemNormRefIdeal (hMemNormRefIdeal := hMemNormRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MemKvBwd (hMemKvBwd := hMemKvBwd)
    ∧ quiescent_MemKvBwdIdeal (hMemKvBwdIdeal := hMemKvBwdIdeal)
    ∧ quiescent_MemKvBwdRefIdeal (hMemKvBwdRefIdeal := hMemKvBwdRefIdeal)
    ∧ quiescent_MemNormBwd (hMemNormBwd := hMemNormBwd)
    ∧ quiescent_MemNormBwdIdeal (hMemNormBwdIdeal := hMemNormBwdIdeal)
    ∧ quiescent_MemNormBwdRefIdeal (hMemNormBwdRefIdeal := hMemNormBwdRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_GmlpFwd (hGmlpFwd := hGmlpFwd)
    ∧ quiescent_GmlpFwdIdeal (hGmlpFwdIdeal := hGmlpFwdIdeal)
    ∧ quiescent_GmlpFwdRefIdeal (hGmlpFwdRefIdeal := hGmlpFwdRefIdeal)
    ∧ preserves_AttnBwd_AttnBwdIdeal
    ∧ algebraic_AttnBwdIdeal_AttnBwdRefIdeal_pre_attn_finite (hAttnBwdIdeal := hAttnBwdIdeal) (hAttnBwdRefIdeal := hAttnBwdRefIdeal) (hPre_attn_finite := hPre_attn_finite)
    ∧ preserves_DwDown_DwDownIdeal
    ∧ algebraic_DwDownIdeal_DwDownRefIdeal (hDwDownIdeal := hDwDownIdeal) (hDwDownRefIdeal := hDwDownRefIdeal)
    ∧ preserves_DwUpA_DwUpAIdeal
    ∧ algebraic_DwUpAIdeal_DwUpARefIdeal (hDwUpAIdeal := hDwUpAIdeal) (hDwUpARefIdeal := hDwUpARefIdeal)
    ∧ preserves_DwUpB_DwUpBIdeal
    ∧ algebraic_DwUpBIdeal_DwUpBRefIdeal (hDwUpBIdeal := hDwUpBIdeal) (hDwUpBRefIdeal := hDwUpBRefIdeal)
    ∧ preserves_DwProjA_DwProjAIdeal
    ∧ algebraic_DwProjAIdeal_DwProjARefIdeal (hDwProjAIdeal := hDwProjAIdeal) (hDwProjARefIdeal := hDwProjARefIdeal)
    ∧ preserves_DwProjB_DwProjBIdeal
    ∧ algebraic_DwProjBIdeal_DwProjBRefIdeal (hDwProjBIdeal := hDwProjBIdeal) (hDwProjBRefIdeal := hDwProjBRefIdeal)
    ∧ preserves_DwKv_DwKvIdeal
    ∧ algebraic_DwKvIdeal_DwKvRefIdeal (hDwKvIdeal := hDwKvIdeal) (hDwKvRefIdeal := hDwKvRefIdeal)
    ∧ preserves_NormTwoBwd_NormTwoBwdIdeal
    ∧ algebraic_NormTwoBwdIdeal_NormTwoBwdRefIdeal (hNormTwoBwdIdeal := hNormTwoBwdIdeal) (hNormTwoBwdRefIdeal := hNormTwoBwdRefIdeal)
    ∧ preserves_NormOneBwd_NormOneBwdIdeal
    ∧ algebraic_NormOneBwdIdeal_NormOneBwdRefIdeal (hNormOneBwdIdeal := hNormOneBwdIdeal) (hNormOneBwdRefIdeal := hNormOneBwdRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_UpFwd_UpFwdIdeal
    ∧ algebraic_UpFwdIdeal_UpFwdRefIdeal (hUpFwdIdeal := hUpFwdIdeal) (hUpFwdRefIdeal := hUpFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_UpdIn_UpdInIdeal
    ∧ algebraic_UpdInIdeal_UpdInRefIdeal (hUpdInIdeal := hUpdInIdeal) (hUpdInRefIdeal := hUpdInRefIdeal)
    ∧ preserves_UpdKv_UpdKvIdeal
    ∧ algebraic_UpdKvIdeal_UpdKvRefIdeal (hUpdKvIdeal := hUpdKvIdeal) (hUpdKvRefIdeal := hUpdKvRefIdeal)
    ∧ preserves_UpdBranch_UpdBranchIdeal
    ∧ algebraic_UpdBranchIdeal_UpdBranchRefIdeal (hUpdBranchIdeal := hUpdBranchIdeal) (hUpdBranchRefIdeal := hUpdBranchRefIdeal)
    ∧ preserves_UpdOut_UpdOutIdeal
    ∧ algebraic_UpdOutIdeal_UpdOutRefIdeal (hUpdOutIdeal := hUpdOutIdeal) (hUpdOutRefIdeal := hUpdOutRefIdeal)
    ∧ preserves_UpdUp_UpdUpIdeal
    ∧ algebraic_UpdUpIdeal_UpdUpRefIdeal (hUpdUpIdeal := hUpdUpIdeal) (hUpdUpRefIdeal := hUpdUpRefIdeal)
    ∧ preserves_UpdConv_UpdConvIdeal
    ∧ algebraic_UpdConvIdeal_UpdConvRefIdeal (hUpdConvIdeal := hUpdConvIdeal) (hUpdConvRefIdeal := hUpdConvRefIdeal)
    ∧ preserves_UpdDown_UpdDownIdeal
    ∧ algebraic_UpdDownIdeal_UpdDownRefIdeal (hUpdDownIdeal := hUpdDownIdeal) (hUpdDownRefIdeal := hUpdDownRefIdeal)
    ∧ preserves_FinalLoss_FinalLossIdeal
    ∧ algebraic_FinalLossIdeal_FinalLossRefIdeal (hFinalLossIdeal := hFinalLossIdeal) (hFinalLossRefIdeal := hFinalLossRefIdeal)
    ∧ preserves_ConvBwd_ConvBwdIdeal
    ∧ algebraic_ConvBwdIdeal_ConvBwdRefIdeal_pre_conv_finite (hConvBwdIdeal := hConvBwdIdeal) (hConvBwdRefIdeal := hConvBwdRefIdeal) (hPre_conv_finite := hPre_conv_finite)
    ∧ preserves_MemNorm_MemNormIdeal
    ∧ algebraic_MemNormIdeal_MemNormRefIdeal (hMemNormIdeal := hMemNormIdeal) (hMemNormRefIdeal := hMemNormRefIdeal)
    ∧ preserves_MemKv_MemKvIdeal
    ∧ algebraic_MemKvIdeal_MemKvRefIdeal (hMemKvIdeal := hMemKvIdeal) (hMemKvRefIdeal := hMemKvRefIdeal)
    ∧ preserves_MemKvBwd_MemKvBwdIdeal
    ∧ algebraic_MemKvBwdIdeal_MemKvBwdRefIdeal (hMemKvBwdIdeal := hMemKvBwdIdeal) (hMemKvBwdRefIdeal := hMemKvBwdRefIdeal)
    ∧ preserves_MemNormBwd_MemNormBwdIdeal
    ∧ algebraic_MemNormBwdIdeal_MemNormBwdRefIdeal (hMemNormBwdIdeal := hMemNormBwdIdeal) (hMemNormBwdRefIdeal := hMemNormBwdRefIdeal)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_GmlpFwd_GmlpFwdIdeal
    ∧ algebraic_GmlpFwdIdeal_GmlpFwdRefIdeal (hGmlpFwdIdeal := hGmlpFwdIdeal) (hGmlpFwdRefIdeal := hGmlpFwdRefIdeal)
-- ==== Pre_attn_finite.lean ====
abbrev S4096x6656 : Shape := ⟨2, ![4096, 6656]⟩
abbrev S2x256x1024 : Shape := ⟨3, ![2, 256, 1024]⟩
abbrev S4096x512 : Shape := ⟨2, ![4096, 512]⟩
abbrev S_ : Shape := ⟨0, ![]⟩
abbrev S2x256x512 : Shape := ⟨3, ![2, 256, 512]⟩

class Facts : Prop where
  slices_S4096x6656_S4096x512_0_3072 : S4096x6656.Slices ![0, 3072] S4096x512
  bcast_S_S4096x512 : S_.BroadcastsInDim S4096x512 (![] : Fin 0 → Fin S4096x512.rank)
  slices_S2x256x1024_S2x256x512_0_0_0 : S2x256x1024.Slices ![0, 0, 0] S2x256x512
  bcast_S_S2x256x512 : S_.BroadcastsInDim S2x256x512 (![] : Fin 0 → Fin S2x256x512.rank)

variable [Facts]

def fn {F : FTy → Type} [FloatOps F] (main_arg0 : FVec F S4096x6656 .bf16) (main_arg1 : FVec F S2x256x1024 .f32) (main_arg2 : FVec F S4096x512 .bf16) : IVec S4096x512 1 × IVec S2x256x512 1 :=
  let main_v0 : FVec F S4096x512 .bf16 := (extractStridedSlice S4096x512 ![0, 3072] · slices_S4096x6656_S4096x512_0_3072) main_arg0
  let main_v1 : FVec F S4096x512 .bf16 := Host.absf main_v0
  let main_cst : FVec F S_ .bf16 := constant S_ .bf16 0x7F80#16
  let main_v2 : FVec F S4096x512 .bf16 := broadcastInDim S4096x512 ![] bcast_S_S4096x512 main_cst
  let main_v3 : IVec S4096x512 1 := cmpf .olt main_v1 main_v2
  let main_v4 : FVec F S2x256x512 .f32 := (extractStridedSlice S2x256x512 ![0, 0, 0] · slices_S2x256x1024_S2x256x512_0_0_0) main_arg1
  let main_v5 : FVec F S2x256x512 .f32 := Host.absf main_v4
  let main_cst_0 : FVec F S_ .f32 := constant S_ .f32 0x7F800000#32
  let main_v6 : FVec F S2x256x512 .f32 := broadcastInDim S2x256x512 ![] bcast_S_S2x256x512 main_cst_0
  let main_v7 : IVec S2x256x512 1 := cmpf .olt main_v5 main_v6
  (main_v3, main_v7)
-- ==== Pre_conv_finite.lean ====
abbrev S2x2048x1024 : Shape := ⟨3, ![2, 2048, 1024]⟩
abbrev S2816x1024 : Shape := ⟨2, ![2816, 1024]⟩
abbrev S2x2048x2816 : Shape := ⟨3, ![2, 2048, 2816]⟩
abbrev S3x2816 : Shape := ⟨2, ![3, 2816]⟩
abbrev S1x2816 : Shape := ⟨2, ![1, 2816]⟩
abbrev S_ : Shape := ⟨0, ![]⟩

class Facts : Prop where
  bcast_S_S2x2048x1024 : S_.BroadcastsInDim S2x2048x1024 (![] : Fin 0 → Fin S2x2048x1024.rank)
  bcast_S_S2816x1024 : S_.BroadcastsInDim S2816x1024 (![] : Fin 0 → Fin S2816x1024.rank)
  bcast_S_S2x2048x2816 : S_.BroadcastsInDim S2x2048x2816 (![] : Fin 0 → Fin S2x2048x2816.rank)

variable [Facts]

def fn {F : FTy → Type} [FloatOps F] (main_arg0 : FVec F S2x2048x1024 .bf16) (main_arg1 : FVec F S2816x1024 .bf16) (main_arg2 : FVec F S2x2048x2816 .bf16) (main_arg3 : FVec F S2x2048x2816 .bf16) (main_arg4 : FVec F S3x2816 .f32) (main_arg5 : FVec F S1x2816 .f32) : IVec S2x2048x1024 1 × IVec S2816x1024 1 × IVec S2x2048x2816 1 :=
  let main_v0 : FVec F S2x2048x1024 .bf16 := Host.absf main_arg0
  let main_cst : FVec F S_ .bf16 := constant S_ .bf16 0x7F80#16
  let main_v1 : FVec F S2x2048x1024 .bf16 := broadcastInDim S2x2048x1024 ![] bcast_S_S2x2048x1024 main_cst
  let main_v2 : IVec S2x2048x1024 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S2x2048x2816 .bf16 := Host.absf main_arg3
  let main_cst_1 : FVec F S_ .bf16 := constant S_ .bf16 0x7F80#16
  let main_v7 : FVec F S2x2048x2816 .bf16 := broadcastInDim S2x2048x2816 ![] bcast_S_S2x2048x2816 main_cst_1
  let main_v8 : IVec S2x2048x2816 1 := cmpf .olt main_v6 main_v7
  (main_v2, main_v5, main_v8)
-- ==== AttnBwd.lean ====
abbrev S4096x6656 : Shape := ⟨2, ![4096, 6656]⟩
abbrev S2x256x1024 : Shape := ⟨3, ![2, 256, 1024]⟩
abbrev S4096x512 : Shape := ⟨2, ![4096, 512]⟩
abbrev S512x512 : Shape := ⟨2, ![512, 512]⟩
abbrev S1x256x1024 : Shape := ⟨3, ![1, 256, 1024]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S4096x6656, .bf16⟩
  | .hbm, ⟨1, _⟩ => ⟨S2x256x1024, .f32⟩
  | .hbm, ⟨2, _⟩ => ⟨S4096x512, .bf16⟩
  | .hbm, ⟨3, _⟩ => ⟨S4096x512, .bf16⟩
  | .hbm, ⟨4, _⟩ => ⟨S2x256x1024, .f32⟩
  | .local _ .vmem, ⟨0, _⟩ => ⟨S512x512, .bf16⟩
  | .local _ .vmem, ⟨1, _⟩ => ⟨S512x512, .bf16⟩
  | .local _ .vmem, ⟨2, _⟩ => ⟨S1x256x1024, .f32⟩
  | .local _ .vmem, ⟨3, _⟩ => ⟨S1x256x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x256x1024, .f32⟩
  | .local _ .vmem, ⟨9, _⟩ => ⟨S1x256x1024, .f32⟩
  | _, _ => ⟨S4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c6_i32 : BitVec 32 := 6#32
  let c0_i32 : BitVec 32 := 0#32
  ![v1.toNat, c6_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== AttnBwdRefIdeal.lean ====
abbrev S4096x6656 : Shape := ⟨2, ![4096, 6656]⟩
abbrev S2x256x1024 : Shape := ⟨3, ![2, 256, 1024]⟩
abbrev S4096x512 : Shape := ⟨2, ![4096, 512]⟩
abbrev S2x256x512 : Shape := ⟨3, ![2, 256, 512]⟩
abbrev S2x2048x4x128 : Shape := ⟨4, ![2, 2048, 4, 128]⟩
abbrev S2x256x4x128 : Shape := ⟨4, ![2, 256, 4, 128]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x2048x512 : Shape := ⟨3, ![2, 2048, 512]⟩
abbrev S2x4x128x256 : Shape := ⟨4, ![2, 4, 128, 256]⟩
abbrev S2x4x256x128 : Shape := ⟨4, ![2, 4, 256, 128]⟩
abbrev S2x4x2048x128 : Shape := ⟨4, ![2, 4, 2048, 128]⟩

abbrev nBuf : Space → Nat
  | .hbm => 88
  | .vmem => 0
  | .smem => 0
  | _ => 0

abbrev bufTy : (tb : Table) → Fin (tcTables nBuf tb) → BufTy
  | .hbm, ⟨0, _⟩ => ⟨S4096x6656, .bf16⟩
  | .hbm, ⟨1, _⟩ => ⟨S2x256x1024, .f32⟩
  | .hbm, ⟨2, _⟩ => ⟨S4096x512, .bf16⟩
  | .hbm, ⟨3, _⟩ => ⟨S4096x512, .bf16⟩
  | .hbm, ⟨4, _⟩ => ⟨S4096x512, .f32⟩
  | .hbm, ⟨5, _⟩ => ⟨S2x256x512, .f32⟩
  | .hbm, ⟨6, _⟩ => ⟨S2x256x512, .f32⟩
  | .hbm, ⟨7, _⟩ => ⟨S2x2048x4x128, .f32⟩
  | .hbm, ⟨8, _⟩ => ⟨S2x256x4x128, .f32⟩
  | .hbm, ⟨9, _⟩ => ⟨S2x256x4x128, .f32⟩
  | .hbm, ⟨10, _⟩ => ⟨S2x4x2048x256, .f32⟩
  | .hbm, ⟨11, _⟩ => ⟨S_, .f32⟩
  | .hbm, ⟨12, _⟩ => ⟨S2x4x2048x256, .f32⟩
  | .hbm, ⟨13, _⟩ => ⟨S2x4x2048x256, .f32⟩
  | .hbm, ⟨14, _⟩ => ⟨S_, .f32⟩
  | .hbm, ⟨15, _⟩ => ⟨S2x4x2048, .f32⟩
  | .hbm, ⟨16, _⟩ => ⟨S2x4x2048x1, .f32⟩
  | .hbm, ⟨17, _⟩ => ⟨S2x4x2048x256, .f32⟩
  | .hbm, ⟨18, _⟩ => ⟨S2x4x2048x256, .i1⟩
  | .hbm, ⟨19, _⟩ => ⟨S2x4x2048x256, .f32⟩
  | .hbm, ⟨20, _⟩ => ⟨S_, .f32⟩
  | .hbm, ⟨21, _⟩ => ⟨S2x4x2048, .f32⟩
  | .hbm, ⟨22, _⟩ => ⟨S_, .f32⟩
  | .hbm, ⟨23, _⟩ => ⟨S2x4x2048, .f32⟩
  | .hbm, ⟨24, _⟩ => ⟨S2x4x2048, .f32⟩
  | .hbm, ⟨25, _⟩ => ⟨S_, .f32⟩
  | .hbm, ⟨26, _⟩ => ⟨S2x4x2048, .f32⟩
  | .hbm, ⟨27, _⟩ => ⟨S2x4x2048, .i1⟩
  | .hbm, ⟨28, _⟩ => ⟨S_, .f32⟩
  | .hbm, ⟨29, _⟩ => ⟨S2x4x2048, .f32⟩
  | .hbm, ⟨30, _⟩ => ⟨S2x4x2048, .i1⟩
  | .hbm, ⟨31, _⟩ => ⟨S_, .f32⟩
  | .hbm, ⟨32, _⟩ => ⟨S2x4x2048, .f32⟩
  | .hbm, ⟨33, _⟩ => ⟨S_, .f32⟩
  | .hbm, ⟨34, _⟩ => ⟨S2x4x2048, .f32⟩
  | .hbm, ⟨35, _⟩ => ⟨S_, .f32⟩
  | .hbm, ⟨36, _⟩ => ⟨S2x4x2048, .f32⟩
  | .hbm, ⟨37, _⟩ => ⟨S2x4x2048, .f32⟩
  | .hbm, ⟨38, _⟩ => ⟨S2x4x2048, .f32⟩
  | .hbm, ⟨39, _⟩ => ⟨S2x4x2048x1, .f32⟩
  | .hbm, ⟨40, _⟩ => ⟨S2x4x2048x256, .f32⟩
  | .hbm, ⟨41, _⟩ => ⟨S2x4x2048x256, .f32⟩
  | .hbm, ⟨42, _⟩ => ⟨S2x4x2048x256, .f32⟩
  | .hbm, ⟨43, _⟩ => ⟨S_, .f32⟩
  | .hbm, ⟨44, _⟩ => ⟨S2x4x2048, .f32⟩
  | .hbm, ⟨45, _⟩ => ⟨S2x4x2048x1, .f32⟩
  | .hbm, ⟨46, _⟩ => ⟨S2x4x2048x256, .f32⟩
  | .hbm, ⟨47, _⟩ => ⟨S2x4x2048x256, .f32⟩
  | .hbm, ⟨48, _⟩ => ⟨S2x4x2048x1, .f32⟩
  | .hbm, ⟨49, _⟩ => ⟨S_, .f32⟩
  | .hbm, ⟨50, _⟩ => ⟨S2x4x2048x1, .f32⟩
  | .hbm, ⟨51, _⟩ => ⟨S2x4x2048x1, .f32⟩
  | .hbm, ⟨52, _⟩ => ⟨S2x4x128x2048, .f32⟩
  | .hbm, ⟨53, _⟩ => ⟨S2x2048x4x128, .f32⟩
  | .hbm, ⟨54, _⟩ => ⟨S2x2048x512, .f32⟩
  | .hbm, ⟨55, _⟩ => ⟨S4096x512, .f32⟩
  | .hbm, ⟨56, _⟩ => ⟨S2x2048x512, .f32⟩
  | .hbm, ⟨57, _⟩ => ⟨S2x2048x4x128, .f32⟩
  | .hbm, ⟨58, _⟩ => ⟨S2x4x128x2048, .f32⟩
  | .hbm, ⟨59, _⟩ => ⟨S2x4x2048x256, .f32⟩
  | .hbm, ⟨60, _⟩ => ⟨S2x4x128x256, .f32⟩
  | .hbm, ⟨61, _⟩ => ⟨S2x256x4x128, .f32⟩
  | .hbm, ⟨62, _⟩ => ⟨S2x4x2048x256, .f32⟩
  | .hbm, ⟨63, _⟩ => ⟨S2x4x2048x256, .f32⟩
  | .hbm, ⟨64, _⟩ => ⟨S2x4x2048x256, .f32⟩
  | .hbm, ⟨65, _⟩ => ⟨S_, .f32⟩
  | .hbm, ⟨66, _⟩ => ⟨S2x4x2048, .f32⟩
  | .hbm, ⟨67, _⟩ => ⟨S2x4x2048x1, .f32⟩
  | .hbm, ⟨68, _⟩ => ⟨S2x4x2048x1, .f32⟩
  | .hbm, ⟨69, _⟩ => ⟨S2x4x2048x256, .f32⟩
  | .hbm, ⟨70, _⟩ => ⟨S2x4x2048x256, .f32⟩
  | .hbm, ⟨71, _⟩ => ⟨S_, .f32⟩
  | .hbm, ⟨72, _⟩ => ⟨S2x4x2048, .f32⟩
  | .hbm, ⟨73, _⟩ => ⟨S2x4x2048x256, .f32⟩
  | .hbm, ⟨74, _⟩ => ⟨S2x4x2048x256, .f32⟩
  | .hbm, ⟨75, _⟩ => ⟨S2x4x2048x256, .f32⟩
  | .hbm, ⟨76, _⟩ => ⟨S_, .f32⟩
  | .hbm, ⟨77, _⟩ => ⟨S2x4x2048x256, .f32⟩
  | .hbm, ⟨78, _⟩ => ⟨S2x4x2048x256, .f32⟩
  | .hbm, ⟨79, _⟩ => ⟨S2x4x256x128, .f32⟩
  | .hbm, ⟨80, _⟩ => ⟨S2x256x4x128, .f32⟩
  | .hbm, ⟨81, _⟩ => ⟨S2x4x2048x128, .f32⟩
  | .hbm, ⟨82, _⟩ => ⟨S2x2048x4x128, .f32⟩
  | .hbm, ⟨83, _⟩ => ⟨S2x256x512, .f32⟩
  | .hbm, ⟨84, _⟩ => ⟨S2x256x512, .f32⟩
  | .hbm, ⟨85, _⟩ => ⟨S4096x512, .f32⟩
  | .hbm, ⟨86, _⟩ => ⟨S2x256x1024, .f32⟩
  | .hbm, ⟨87, _⟩ => ⟨S4096x512, .bf16⟩
  | _, _ => ⟨S4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== DwDown.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwUpA.lean ====
abbrev S4096x2816 : Shape := ⟨2, ![4096, 2816]⟩
abbrev S4096x1024 : Shape := ⟨2, ![4096, 1024]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .bf16⟩
  | .hbm, ⟨3, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpARefIdeal.lean ====
abbrev S4096x2816 : Shape := ⟨2, ![4096, 2816]⟩
abbrev S4096x1024 : Shape := ⟨2, ![4096, 1024]⟩
abbrev S5632x1024 : Shape := ⟨2, ![5632, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .bf16⟩
  | .hbm, ⟨3, _⟩ => ⟨S4096x1024, .f32⟩
  | .hbm, ⟨4, _⟩ => ⟨S4096x2816, .f32⟩
  | .hbm, ⟨5, _⟩ => ⟨S_, .f32⟩
  | .hbm, ⟨6, _⟩ => ⟨S1024x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S1024x2816, .bf16⟩
  | .hbm, ⟨11, _⟩ => ⟨S2816x1024, .bf16⟩
  | .hbm, ⟨12, _⟩ => ⟨S2816x1024, .bf16⟩
  | .hbm, ⟨13, _⟩ => ⟨S5632x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== DwUpB.lean ====
abbrev S4096x2816 : Shape := ⟨2, ![4096, 2816]⟩
abbrev S4096x1024 : Shape := ⟨2, ![4096, 1024]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .bf16⟩
  | .hbm, ⟨3, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpBRefIdeal.lean ====
abbrev S4096x2816 : Shape := ⟨2, ![4096, 2816]⟩
abbrev S4096x1024 : Shape := ⟨2, ![4096, 1024]⟩
abbrev S5632x1024 : Shape := ⟨2, ![5632, 1024]⟩
abbrev S2816x1024 : Shape := ⟨2, ![2816, 1024]⟩
abbrev S_ : Shape := ⟨0, ![]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S5632x1024, .bf16⟩
  | .hbm, ⟨3, _⟩ => ⟨S2816x1024, .bf16⟩
  | .hbm, ⟨4, _⟩ => ⟨S4096x1024, .f32⟩
  | .hbm, ⟨5, _⟩ => ⟨S4096x2816, .f32⟩
  | .hbm, ⟨6, _⟩ => ⟨S_, .f32⟩
  | .hbm, ⟨7, _⟩ => ⟨S1024x2816, .f32⟩
  | .hbm, ⟨8, _⟩ => ⟨S4096x2816, .f32⟩
  | .hbm, ⟨9, _⟩ => ⟨S2816x1024, .f32⟩
  | .hbm, ⟨10, _⟩ => ⟨S1024x2816, .f32⟩
  | .hbm, ⟨11, _⟩ => ⟨S1024x2816, .bf16⟩
  | .hbm, ⟨12, _⟩ => ⟨S2816x1024, .bf16⟩
  | .hbm, ⟨13, _⟩ => ⟨S5632x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== DwProjA.lean ====
abbrev S4096x6656 : Shape := ⟨2, ![4096, 6656]⟩
abbrev S4096x1024 : Shape := ⟨2, ![4096, 1024]⟩
abbrev S6656x512 : Shape := ⟨2, ![6656, 512]⟩
abbrev S4096x512 : Shape := ⟨2, ![4096, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x6656, .bf16⟩
  | .hbm, ⟨1, _⟩ => ⟨S4096x1024, .bf16⟩
  | .hbm, ⟨2, _⟩ => ⟨S6656x512, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S512x512, .bf16⟩
  | .local _ .vmem, ⟨4, _⟩ => ⟨S512x512, .bf16⟩
  | _, _ => ⟨S4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwProjARefIdeal.lean ====
abbrev S4096x6656 : Shape := ⟨2, ![4096, 6656]⟩
abbrev S4096x1024 : Shape := ⟨2, ![4096, 1024]⟩
abbrev S4096x512 : Shape := ⟨2, ![4096, 512]⟩
abbrev S_ : Shape := ⟨0, ![]⟩
abbrev S512x6656 : Shape := ⟨2, ![512, 6656]⟩
abbrev S6656x512 : Shape := ⟨2, ![6656, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x6656, .bf16⟩
  | .hbm, ⟨1, _⟩ => ⟨S4096x1024, .bf16⟩
  | .hbm, ⟨2, _⟩ => ⟨S4096x512, .bf16⟩
  | .hbm, ⟨3, _⟩ => ⟨S4096x512, .f32⟩
  | .hbm, ⟨4, _⟩ => ⟨S4096x6656, .f32⟩
  | .hbm, ⟨5, _⟩ => ⟨S_, .f32⟩
  | .hbm, ⟨6, _⟩ => ⟨S512x6656, .f32⟩
  | .hbm, ⟨7, _⟩ => ⟨S4096x6656, .f32⟩
  | .hbm, ⟨8, _⟩ => ⟨S6656x512, .f32⟩
  | .hbm, ⟨9, _⟩ => ⟨S512x6656, .f32⟩
  | .hbm, ⟨10, _⟩ => ⟨S512x6656, .bf16⟩
  | .hbm, ⟨11, _⟩ => ⟨S6656x512, .bf16⟩
  | _, _ => ⟨S4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwProjB.lean ====
abbrev S4096x6656 : Shape := ⟨2, ![4096, 6656]⟩
abbrev S4096x1024 : Shape := ⟨2, ![4096, 1024]⟩
abbrev S6656x512 : Shape := ⟨2, ![6656, 512]⟩
abbrev S4096x512 : Shape := ⟨2, ![4096, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x6656, .bf16⟩
  | .hbm, ⟨1, _⟩ => ⟨S4096x1024, .bf16⟩
  | .hbm, ⟨2, _⟩ => ⟨S6656x512, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S512x512, .bf16⟩
  | .local _ .vmem, ⟨4, _⟩ => ⟨S512x512, .bf16⟩
  | _, _ => ⟨S4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![13, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwProjBRefIdeal.lean ====
abbrev S4096x6656 : Shape := ⟨2, ![4096, 6656]⟩
abbrev S4096x1024 : Shape := ⟨2, ![4096, 1024]⟩
abbrev S4096x512 : Shape := ⟨2, ![4096, 512]⟩
abbrev S_ : Shape := ⟨0, ![]⟩
abbrev S512x6656 : Shape := ⟨2, ![512, 6656]⟩
abbrev S6656x512 : Shape := ⟨2, ![6656, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x6656, .bf16⟩
  | .hbm, ⟨1, _⟩ => ⟨S4096x1024, .bf16⟩
  | .hbm, ⟨2, _⟩ => ⟨S4096x512, .bf16⟩
  | .hbm, ⟨3, _⟩ => ⟨S4096x512, .f32⟩
  | .hbm, ⟨4, _⟩ => ⟨S4096x6656, .f32⟩
  | .hbm, ⟨5, _⟩ => ⟨S_, .f32⟩
  | .hbm, ⟨6, _⟩ => ⟨S512x6656, .f32⟩
  | .hbm, ⟨7, _⟩ => ⟨S4096x6656, .f32⟩
  | .hbm, ⟨8, _⟩ => ⟨S6656x512, .f32⟩
  | .hbm, ⟨9, _⟩ => ⟨S512x6656, .f32⟩
  | .hbm, ⟨10, _⟩ => ⟨S512x6656, .bf16⟩
  | .hbm, ⟨11, _⟩ => ⟨S6656x512, .bf16⟩
  | _, _ => ⟨S4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DwKv.lean ====
abbrev S512x1024 : Shape := ⟨2, ![512, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S512x1024, .f32⟩
  | .hbm, ⟨2, _⟩ => ⟨S1024x1024, .bf16⟩
  | .local _ .vmem, ⟨0, _⟩ => ⟨S512x1024, .bf16⟩
  | .local _ .vmem, ⟨1, _⟩ => ⟨S512x1024, .f32⟩
  | .local _ .vmem, ⟨2, _⟩ => ⟨S1024x1024, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwKvRefIdeal.lean ====
abbrev S512x1024 : Shape := ⟨2, ![512, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x1024, .f32⟩
  | .hbm, ⟨2, _⟩ => ⟨S512x1024, .f32⟩
  | .hbm, ⟨3, _⟩ => ⟨S_, .f32⟩
  | .hbm, ⟨4, _⟩ => ⟨S1024x1024, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== NormTwoBwd.lean ====
abbrev S4096x2816 : Shape := ⟨2, ![4096, 2816]⟩
abbrev S5632x1024 : Shape := ⟨2, ![5632, 1024]⟩
abbrev S4096x1024 : Shape := ⟨2, ![4096, 1024]⟩
abbrev S1x1024 : Shape := ⟨2, ![1, 1024]⟩
abbrev S512x2816 : Shape := ⟨2, ![512, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S5632x1024, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormTwoBwdRefIdeal.lean ====
abbrev S4096x2816 : Shape := ⟨2, ![4096, 2816]⟩
abbrev S5632x1024 : Shape := ⟨2, ![5632, 1024]⟩
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S5632x1024, .bf16⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S5632x1024, .f32⟩
  | .hbm, ⟨7, _⟩ => ⟨S1024x5632, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x5632, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x5632, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== NormOneBwd.lean ====
abbrev S4096x6656 : Shape := ⟨2, ![4096, 6656]⟩
abbrev S6656x1024 : Shape := ⟨2, ![6656, 1024]⟩
abbrev S4096x1024 : Shape := ⟨2, ![4096, 1024]⟩
abbrev S1x1024 : Shape := ⟨2, ![1, 1024]⟩
abbrev S512x6656 : Shape := ⟨2, ![512, 6656]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x6656, .bf16⟩
  | .hbm, ⟨1, _⟩ => ⟨S6656x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x6656, .bf16⟩
  | .local _ .vmem, ⟨1, _⟩ => ⟨S512x6656, .bf16⟩
  | .local _ .vmem, ⟨2, _⟩ => ⟨S6656x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6656 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6656x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormOneBwdRefIdeal.lean ====
abbrev S4096x6656 : Shape := ⟨2, ![4096, 6656]⟩
abbrev S6656x1024 : Shape := ⟨2, ![6656, 1024]⟩
abbrev S4096x1024 : Shape := ⟨2, ![4096, 1024]⟩
abbrev S1x1024 : Shape := ⟨2, ![1, 1024]⟩
abbrev S1024x6656 : Shape := ⟨2, ![1024, 6656]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x6656, .bf16⟩
  | .hbm, ⟨1, _⟩ => ⟨S6656x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S6656x1024, .f32⟩
  | .hbm, ⟨6, _⟩ => ⟨S1024x6656, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x6656, .f32⟩
  | .hbm, ⟨27, _⟩ => ⟨S4096x6656, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== MergeBwd.lean ====
abbrev S4096x512 : Shape := ⟨2, ![4096, 512]⟩
abbrev S512x1024 : Shape := ⟨2, ![512, 1024]⟩
abbrev S4096x6656 : Shape := ⟨2, ![4096, 6656]⟩
abbrev S4096x1024 : Shape := ⟨2, ![4096, 1024]⟩
abbrev S1024x1024 : Shape := ⟨2, ![1024, 1024]⟩
abbrev S1x4096x512 : Shape := ⟨3, ![1, 4096, 512]⟩
abbrev S3x4096x512 : Shape := ⟨3, ![3, 4096, 512]⟩
abbrev S1x512x1024 : Shape := ⟨3, ![1, 512, 1024]⟩
abbrev S3x512x1024 : Shape := ⟨3, ![3, 512, 1024]⟩
abbrev S4096x3072 : Shape := ⟨2, ![4096, 3072]⟩
abbrev S3x4096x1024 : Shape := ⟨3, ![3, 4096, 1024]⟩
abbrev S4096x3x1024 : Shape := ⟨3, ![4096, 3, 1024]⟩
abbrev S_ : Shape := ⟨0, ![]⟩
abbrev S256x512 : Shape := ⟨2, ![256, 512]⟩
abbrev S256x1024 : Shape := ⟨2, ![256, 1024]⟩
abbrev S3x256x1024 : Shape := ⟨3, ![3, 256, 1024]⟩
abbrev S1x256x1024 : Shape := ⟨3, ![1, 256, 1024]⟩

abbrev nBuf : Space → Nat
  | .hbm => 43
  | .vmem => 36
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S512x1024, .bf16⟩
  | .hbm, ⟨4, _⟩ => ⟨S512x1024, .bf16⟩
  | .hbm, ⟨5, _⟩ => ⟨S512x1024, .bf16⟩
  | .hbm, ⟨6, _⟩ => ⟨S4096x6656, .bf16⟩
  | .hbm, ⟨7, _⟩ => ⟨S4096x1024, .f32⟩
  | .hbm, ⟨8, _⟩ => ⟨S1024x1024, .bf16⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S1x4096x512, .f32⟩
  | .hbm, ⟨13, _⟩ => ⟨S1x4096x512, .f32⟩
  | .hbm, ⟨14, _⟩ => ⟨S1x4096x512, .f32⟩
  | .hbm, ⟨15, _⟩ => ⟨S3x4096x512, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S1x512x1024, .f32⟩
  | .hbm, ⟨20, _⟩ => ⟨S1x512x1024, .f32⟩
  | .hbm, ⟨21, _⟩ => ⟨S1x512x1024, .f32⟩
  | .hbm, ⟨22, _⟩ => ⟨S3x512x1024, .f32⟩
  | .hbm, ⟨23, _⟩ => ⟨S4096x3072, .bf16⟩
  | .hbm, ⟨24, _⟩ => ⟨S4096x3072, .f32⟩
  | .hbm, ⟨25, _⟩ => ⟨S3x4096x1024, .f32⟩
  | .hbm, ⟨26, _⟩ => ⟨S4096x3x1024, .f32⟩
  | .hbm, ⟨27, _⟩ => ⟨S4096x3x1024, .f32⟩
  | .hbm, ⟨28, _⟩ => ⟨S4096x3x1024, .f32⟩
  | .hbm, ⟨29, _⟩ => ⟨S_, .f32⟩
  | .hbm, ⟨30, _⟩ => ⟨S4096x3x1024, .f32⟩
  | .hbm, ⟨31, _⟩ => ⟨S4096x3x1024, .f32⟩
  | .hbm, ⟨32, _⟩ => ⟨S_, .f32⟩
  | .hbm, ⟨33, _⟩ => ⟨S4096x3x1024, .f32⟩
  | .hbm, ⟨34, _⟩ => ⟨S4096x3x1024, .f32⟩
  | .hbm, ⟨35, _⟩ => ⟨S4096x1024, .f32⟩
  | .hbm, ⟨36, _⟩ => ⟨S4096x1024, .bf16⟩
  | .hbm, ⟨37, _⟩ => ⟨S3x4096x1024, .bf16⟩
  | .hbm, ⟨38, _⟩ => ⟨S4096x512, .bf16⟩
  | .hbm, ⟨39, _⟩ => ⟨S4096x512, .bf16⟩
  | .hbm, ⟨40, _⟩ => ⟨S4096x512, .bf16⟩
  | .hbm, ⟨41, _⟩ => ⟨S3x512x1024, .f32⟩
  | .hbm, ⟨42, _⟩ => ⟨S1024x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .f32⟩
  | .local _ .vmem, ⟨24, _⟩ => ⟨S256x1024, .f32⟩
  | .local _ .vmem, ⟨25, _⟩ => ⟨S1024x1024, .bf16⟩
  | .local _ .vmem, ⟨26, _⟩ => ⟨S3x256x1024, .bf16⟩
  | .local _ .vmem, ⟨27, _⟩ => ⟨S3x256x1024, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S3x512x1024, .f32⟩
  | .local _ .vmem, ⟨35, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26_0 : Ref sig .tc := ⟨.hbm, 37, rfl⟩
abbrev main_v26_1 : Ref sig .tc := ⟨.hbm, 38, rfl⟩
abbrev main_v26_2 : Ref sig .tc := ⟨.hbm, 39, rfl⟩
abbrev main_v26_3 : Ref sig .tc := ⟨.hbm, 40, rfl⟩
abbrev main_v26_4 : Ref sig .tc := ⟨.hbm, 41, rfl⟩
abbrev main_v26_5 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg20_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem20_0 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_8 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_9 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_10 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_11 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S3x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S3x512x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== MergeBwdRefIdeal.lean ====
abbrev S4096x512 : Shape := ⟨2, ![4096, 512]⟩
abbrev S512x1024 : Shape := ⟨2, ![512, 1024]⟩
abbrev S4096x6656 : Shape := ⟨2, ![4096, 6656]⟩
abbrev S4096x1024 : Shape := ⟨2, ![4096, 1024]⟩
abbrev S1024x1024 : Shape := ⟨2, ![1024, 1024]⟩
abbrev S1x4096x512 : Shape := ⟨3, ![1, 4096, 512]⟩
abbrev S3x4096x512 : Shape := ⟨3, ![3, 4096, 512]⟩
abbrev S1x512x1024 : Shape := ⟨3, ![1, 512, 1024]⟩
abbrev S3x512x1024 : Shape := ⟨3, ![3, 512, 1024]⟩
abbrev S4096x3072 : Shape := ⟨2, ![4096, 3072]⟩
abbrev S3x4096x1024 : Shape := ⟨3, ![3, 4096, 1024]⟩
abbrev S4096x3x1024 : Shape := ⟨3, ![4096, 3, 1024]⟩
abbrev S_ : Shape := ⟨0, ![]⟩
abbrev S3x1024x512 : Shape := ⟨3, ![3, 1024, 512]⟩

abbrev nBuf : Space → Nat
  | .hbm => 69
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S512x1024, .bf16⟩
  | .hbm, ⟨4, _⟩ => ⟨S512x1024, .bf16⟩
  | .hbm, ⟨5, _⟩ => ⟨S512x1024, .bf16⟩
  | .hbm, ⟨6, _⟩ => ⟨S4096x6656, .bf16⟩
  | .hbm, ⟨7, _⟩ => ⟨S4096x1024, .f32⟩
  | .hbm, ⟨8, _⟩ => ⟨S1024x1024, .bf16⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S1x4096x512, .f32⟩
  | .hbm, ⟨13, _⟩ => ⟨S1x4096x512, .f32⟩
  | .hbm, ⟨14, _⟩ => ⟨S1x4096x512, .f32⟩
  | .hbm, ⟨15, _⟩ => ⟨S3x4096x512, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S1x512x1024, .f32⟩
  | .hbm, ⟨20, _⟩ => ⟨S1x512x1024, .f32⟩
  | .hbm, ⟨21, _⟩ => ⟨S1x512x1024, .f32⟩
  | .hbm, ⟨22, _⟩ => ⟨S3x512x1024, .f32⟩
  | .hbm, ⟨23, _⟩ => ⟨S4096x3072, .bf16⟩
  | .hbm, ⟨24, _⟩ => ⟨S4096x3072, .f32⟩
  | .hbm, ⟨25, _⟩ => ⟨S1024x1024, .f32⟩
  | .hbm, ⟨26, _⟩ => ⟨S3x4096x1024, .f32⟩
  | .hbm, ⟨27, _⟩ => ⟨S4096x3x1024, .f32⟩
  | .hbm, ⟨28, _⟩ => ⟨S4096x3x1024, .f32⟩
  | .hbm, ⟨29, _⟩ => ⟨S4096x3x1024, .f32⟩
  | .hbm, ⟨30, _⟩ => ⟨S_, .f32⟩
  | .hbm, ⟨31, _⟩ => ⟨S4096x3x1024, .f32⟩
  | .hbm, ⟨32, _⟩ => ⟨S4096x3x1024, .f32⟩
  | .hbm, ⟨33, _⟩ => ⟨S_, .f32⟩
  | .hbm, ⟨34, _⟩ => ⟨S4096x3x1024, .f32⟩
  | .hbm, ⟨35, _⟩ => ⟨S4096x3x1024, .f32⟩
  | .hbm, ⟨36, _⟩ => ⟨S_, .f32⟩
  | .hbm, ⟨37, _⟩ => ⟨S4096x3x1024, .f32⟩
  | .hbm, ⟨38, _⟩ => ⟨S4096x3x1024, .f32⟩
  | .hbm, ⟨39, _⟩ => ⟨S4096x3x1024, .f32⟩
  | .hbm, ⟨40, _⟩ => ⟨S4096x3x1024, .f32⟩
  | .hbm, ⟨41, _⟩ => ⟨S4096x3x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S1024x1024, .f32⟩
  | .hbm, ⟨46, _⟩ => ⟨S1024x1024, .f32⟩
  | .hbm, ⟨47, _⟩ => ⟨S4096x1024, .f32⟩
  | .hbm, ⟨48, _⟩ => ⟨S4096x3x1024, .f32⟩
  | .hbm, ⟨49, _⟩ => ⟨S4096x3x1024, .f32⟩
  | .hbm, ⟨50, _⟩ => ⟨S4096x3x1024, .f32⟩
  | .hbm, ⟨51, _⟩ => ⟨S3x4096x1024, .f32⟩
  | .hbm, ⟨52, _⟩ => ⟨S4096x3x1024, .f32⟩
  | .hbm, ⟨53, _⟩ => ⟨S4096x3072, .f32⟩
  | .hbm, ⟨54, _⟩ => ⟨S3x1024x512, .f32⟩
  | .hbm, ⟨55, _⟩ => ⟨S3x512x1024, .f32⟩
  | .hbm, ⟨56, _⟩ => ⟨S3x4096x512, .f32⟩
  | .hbm, ⟨57, _⟩ => ⟨S4096x3x1024, .f32⟩
  | .hbm, ⟨58, _⟩ => ⟨S3x4096x1024, .f32⟩
  | .hbm, ⟨59, _⟩ => ⟨S3x4096x1024, .bf16⟩
  | .hbm, ⟨60, _⟩ => ⟨S1x4096x512, .f32⟩
  | .hbm, ⟨61, _⟩ => ⟨S4096x512, .f32⟩
  | .hbm, ⟨62, _⟩ => ⟨S4096x512, .bf16⟩
  | .hbm, ⟨63, _⟩ => ⟨S1x4096x512, .f32⟩
  | .hbm, ⟨64, _⟩ => ⟨S4096x512, .f32⟩
  | .hbm, ⟨65, _⟩ => ⟨S4096x512, .bf16⟩
  | .hbm, ⟨66, _⟩ => ⟨S1x4096x512, .f32⟩
  | .hbm, ⟨67, _⟩ => ⟨S4096x512, .f32⟩
  | .hbm, ⟨68, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_cst_0 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩

abbrev nD : Nat := 1
abbrev τ : Topo := Topo.v7x

variable {F : FTy → Type} [FloatOps F]
-- ==== UpFwd.lean ====
abbrev S2x2048x1024 : Shape := ⟨3, ![2, 2048, 1024]⟩
abbrev S5632x1024 : Shape := ⟨2, ![5632, 1024]⟩
abbrev S3x2816 : Shape := ⟨2, ![3, 2816]⟩
abbrev S1x2816 : Shape := ⟨2, ![1, 2816]⟩
abbrev S2x2048x2816 : Shape := ⟨3, ![2, 2048, 2816]⟩
abbrev S1x2048x1024 : Shape := ⟨3, ![1, 2048, 1024]⟩
abbrev S256x1024 : Shape := ⟨2, ![256, 1024]⟩
abbrev S3x256 : Shape := ⟨2, ![3, 256]⟩
abbrev S1x256 : Shape := ⟨2, ![1, 256]⟩
abbrev S1x2048x256 : Shape := ⟨3, ![1, 2048, 256]⟩
abbrev S1x512x1024 : Shape := ⟨3, ![1, 512, 1024]⟩
abbrev S512x1024 : Shape := ⟨2, ![512, 1024]⟩
abbrev S512x256 : Shape := ⟨2, ![512, 256]⟩
abbrev S8x256 : Shape := ⟨2, ![8, 256]⟩
abbrev S504x256 : Shape := ⟨2, ![504, 256]⟩
abbrev S1x512x256 : Shape := ⟨3, ![1, 512, 256]⟩
abbrev S1x528x1024 : Shape := ⟨3, ![1, 528, 1024]⟩
abbrev S528x1024 : Shape := ⟨2, ![528, 1024]⟩
abbrev S528x256 : Shape := ⟨2, ![528, 256]⟩
abbrev S520x256 : Shape := ⟨2, ![520, 256]⟩

abbrev nBuf : Space → Nat
  | .hbm => 7
  | .vmem => 16
  | .smem => 0
  | _ => 0

abbrev bufTy : (tb : Table) → Fin (tcTables nBuf tb) → BufTy
  | .hbm, ⟨0, _⟩ => ⟨S2x2048x1024, .bf16⟩
  | .hbm, ⟨1, _⟩ => ⟨S5632x1024, .bf16⟩
  | .hbm, ⟨2, _⟩ => ⟨S3x2816, .f32⟩
  | .hbm, ⟨3, _⟩ => ⟨S1x2816, .f32⟩
  | .hbm, ⟨4, _⟩ => ⟨S2x2048x2816, .bf16⟩
  | .hbm, ⟨5, _⟩ => ⟨S2x2048x2816, .bf16⟩
  | .hbm, ⟨6, _⟩ => ⟨S2x2048x2816, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x2048x256, .bf16⟩
  | .local _ .vmem, ⟨11, _⟩ => ⟨S1x2048x256, .bf16⟩
  | .local _ .vmem, ⟨12, _⟩ => ⟨S1x2048x256, .bf16⟩
  | .local _ .vmem, ⟨13, _⟩ => ⟨S1x2048x256, .bf16⟩
  | .local _ .vmem, ⟨14, _⟩ => ⟨S1x2048x256, .bf16⟩
  | .local _ .vmem, ⟨15, _⟩ => ⟨S1x2048x256, .bf16⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpFwdRefIdeal.lean ====
abbrev S2x2048x1024 : Shape := ⟨3, ![2, 2048, 1024]⟩
abbrev S5632x1024 : Shape := ⟨2, ![5632, 1024]⟩
abbrev S3x2816 : Shape := ⟨2, ![3, 2816]⟩
abbrev S1x2816 : Shape := ⟨2, ![1, 2816]⟩
abbrev S1024x5632 : Shape := ⟨2, ![1024, 5632]⟩
abbrev S2x2048x5632 : Shape := ⟨3, ![2, 2048, 5632]⟩
abbrev S2x2048x2816 : Shape := ⟨3, ![2, 2048, 2816]⟩
abbrev S_ : Shape := ⟨0, ![]⟩
abbrev S2x2050x2816 : Shape := ⟨3, ![2, 2050, 2816]⟩
abbrev S2816 : Shape := ⟨1, ![2816]⟩
abbrev S1x1x2816 : Shape := ⟨3, ![1, 1, 2816]⟩

abbrev nBuf : Space → Nat
  | .hbm => 49
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S5632x1024, .bf16⟩
  | .hbm, ⟨2, _⟩ => ⟨S3x2816, .f32⟩
  | .hbm, ⟨3, _⟩ => ⟨S1x2816, .f32⟩
  | .hbm, ⟨4, _⟩ => ⟨S2x2048x1024, .f32⟩
  | .hbm, ⟨5, _⟩ => ⟨S5632x1024, .f32⟩
  | .hbm, ⟨6, _⟩ => ⟨S1024x5632, .f32⟩
  | .hbm, ⟨7, _⟩ => ⟨S2x2048x5632, .f32⟩
  | .hbm, ⟨8, _⟩ => ⟨S2x2048x2816, .f32⟩
  | .hbm, ⟨9, _⟩ => ⟨S2x2048x2816, .f32⟩
  | .hbm, ⟨10, _⟩ => ⟨S_, .i32⟩
  | .hbm, ⟨11, _⟩ => ⟨S_, .f32⟩
  | .hbm, ⟨12, _⟩ => ⟨S2x2050x2816, .f32⟩
  | .hbm, ⟨13, _⟩ => ⟨S1x2816, .f32⟩
  | .hbm, ⟨14, _⟩ => ⟨S2816, .f32⟩
  | .hbm, ⟨15, _⟩ => ⟨S2x2048x2816, .f32⟩
  | .hbm, ⟨16, _⟩ => ⟨S1x1x2816, .f32⟩
  | .hbm, ⟨17, _⟩ => ⟨S2x2048x2816, .f32⟩
  | .hbm, ⟨18, _⟩ => ⟨S2x2048x2816, .f32⟩
  | .hbm, ⟨19, _⟩ => ⟨S1x1x2816, .f32⟩
  | .hbm, ⟨20, _⟩ => ⟨S2x2048x2816, .f32⟩
  | .hbm, ⟨21, _⟩ => ⟨S2x2048x2816, .f32⟩
  | .hbm, ⟨22, _⟩ => ⟨S1x2816, .f32⟩
  | .hbm, ⟨23, _⟩ => ⟨S2816, .f32⟩
  | .hbm, ⟨24, _⟩ => ⟨S2x2048x2816, .f32⟩
  | .hbm, ⟨25, _⟩ => ⟨S1x1x2816, .f32⟩
  | .hbm, ⟨26, _⟩ => ⟨S2x2048x2816, .f32⟩
  | .hbm, ⟨27, _⟩ => ⟨S2x2048x2816, .f32⟩
  | .hbm, ⟨28, _⟩ => ⟨S2x2048x2816, .f32⟩
  | .hbm, ⟨29, _⟩ => ⟨S1x2816, .f32⟩
  | .hbm, ⟨30, _⟩ => ⟨S2816, .f32⟩
  | .hbm, ⟨31, _⟩ => ⟨S2x2048x2816, .f32⟩
  | .hbm, ⟨32, _⟩ => ⟨S1x1x2816, .f32⟩
  | .hbm, ⟨33, _⟩ => ⟨S2x2048x2816, .f32⟩
  | .hbm, ⟨34, _⟩ => ⟨S2x2048x2816, .f32⟩
  | .hbm, ⟨35, _⟩ => ⟨S2x2048x2816, .f32⟩
  | .hbm, ⟨36, _⟩ => ⟨S2x2048x2816, .bf16⟩
  | .hbm, ⟨37, _⟩ => ⟨S2x2048x2816, .bf16⟩
  | .hbm, ⟨38, _⟩ => ⟨S2x2048x2816, .f32⟩
  | .hbm, ⟨39, _⟩ => ⟨S2x2048x2816, .f32⟩
  | .hbm, ⟨40, _⟩ => ⟨S_, .f32⟩
  | .hbm, ⟨41, _⟩ => ⟨S2x2048x2816, .f32⟩
  | .hbm, ⟨42, _⟩ => ⟨S2x2048x2816, .f32⟩
  | .hbm, ⟨43, _⟩ => ⟨S_, .f32⟩
  | .hbm, ⟨44, _⟩ => ⟨S2x2048x2816, .f32⟩
  | .hbm, ⟨45, _⟩ => ⟨S2x2048x2816, .f32⟩
  | .hbm, ⟨46, _⟩ => ⟨S2x2048x2816, .f32⟩
  | .hbm, ⟨47, _⟩ => ⟨S2x2048x2816, .f32⟩
  | .hbm, ⟨48, _⟩ => ⟨S2x2048x2816, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== MergeFwd.lean ====
abbrev S4096x512 : Shape := ⟨2, ![4096, 512]⟩
abbrev S512x1024 : Shape := ⟨2, ![512, 1024]⟩
abbrev S4096x6656 : Shape := ⟨2, ![4096, 6656]⟩
abbrev S1024x1024 : Shape := ⟨2, ![1024, 1024]⟩
abbrev S4096x1024 : Shape := ⟨2, ![4096, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 31
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S512x1024, .bf16⟩
  | .hbm, ⟨4, _⟩ => ⟨S512x1024, .bf16⟩
  | .hbm, ⟨5, _⟩ => ⟨S512x1024, .bf16⟩
  | .hbm, ⟨6, _⟩ => ⟨S4096x6656, .bf16⟩
  | .hbm, ⟨7, _⟩ => ⟨S1024x1024, .bf16⟩
  | .hbm, ⟨8, _⟩ => ⟨S4096x1024, .f32⟩
  | .hbm, ⟨9, _⟩ => ⟨S1x1024, .f32⟩
  | .hbm, ⟨10, _⟩ => ⟨S4096x1024, .bf16⟩
  | .hbm, ⟨11, _⟩ => ⟨S4096x1024, .f32⟩
  | .hbm, ⟨12, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S1024x1024, .bf16⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S512x1024, .bf16⟩
  | .local _ .vmem, ⟨26, _⟩ => ⟨S512x1024, .bf16⟩
  | .local _ .vmem, ⟨27, _⟩ => ⟨S512x1024, .f32⟩
  | .local _ .vmem, ⟨28, _⟩ => ⟨S512x1024, .f32⟩
  | .local _ .vmem, ⟨29, _⟩ => ⟨S512x1024, .bf16⟩
  | .local _ .vmem, ⟨30, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_7 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_8 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_9 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_10 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_11 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MergeFwdRefIdeal.lean ====
abbrev S4096x512 : Shape := ⟨2, ![4096, 512]⟩
abbrev S512x1024 : Shape := ⟨2, ![512, 1024]⟩
abbrev S4096x6656 : Shape := ⟨2, ![4096, 6656]⟩
abbrev S1024x1024 : Shape := ⟨2, ![1024, 1024]⟩
abbrev S4096x1024 : Shape := ⟨2, ![4096, 1024]⟩
abbrev S1x1024 : Shape := ⟨2, ![1, 1024]⟩
abbrev S1x4096x512 : Shape := ⟨3, ![1, 4096, 512]⟩
abbrev S3x4096x512 : Shape := ⟨3, ![3, 4096, 512]⟩
abbrev S1x512x1024 : Shape := ⟨3, ![1, 512, 1024]⟩
abbrev S3x512x1024 : Shape := ⟨3, ![3, 512, 1024]⟩
abbrev S3x4096x1024 : Shape := ⟨3, ![3, 4096, 1024]⟩
abbrev S4096x3072 : Shape := ⟨2, ![4096, 3072]⟩
abbrev S4096x3x1024 : Shape := ⟨3, ![4096, 3, 1024]⟩
abbrev S_ : Shape := ⟨0, ![]⟩
abbrev S4096 : Shape := ⟨1, ![4096]⟩
abbrev S4096x1 : Shape := ⟨2, ![4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S512x1024, .bf16⟩
  | .hbm, ⟨4, _⟩ => ⟨S512x1024, .bf16⟩
  | .hbm, ⟨5, _⟩ => ⟨S512x1024, .bf16⟩
  | .hbm, ⟨6, _⟩ => ⟨S4096x6656, .bf16⟩
  | .hbm, ⟨7, _⟩ => ⟨S1024x1024, .bf16⟩
  | .hbm, ⟨8, _⟩ => ⟨S4096x1024, .f32⟩
  | .hbm, ⟨9, _⟩ => ⟨S1x1024, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S1x4096x512, .f32⟩
  | .hbm, ⟨14, _⟩ => ⟨S1x4096x512, .f32⟩
  | .hbm, ⟨15, _⟩ => ⟨S1x4096x512, .f32⟩
  | .hbm, ⟨16, _⟩ => ⟨S3x4096x512, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S1x512x1024, .f32⟩
  | .hbm, ⟨21, _⟩ => ⟨S1x512x1024, .f32⟩
  | .hbm, ⟨22, _⟩ => ⟨S1x512x1024, .f32⟩
  | .hbm, ⟨23, _⟩ => ⟨S3x512x1024, .f32⟩
  | .hbm, ⟨24, _⟩ => ⟨S3x4096x1024, .f32⟩
  | .hbm, ⟨25, _⟩ => ⟨S4096x3072, .bf16⟩
  | .hbm, ⟨26, _⟩ => ⟨S4096x3072, .f32⟩
  | .hbm, ⟨27, _⟩ => ⟨S4096x3x1024, .f32⟩
  | .hbm, ⟨28, _⟩ => ⟨S4096x3x1024, .f32⟩
  | .hbm, ⟨29, _⟩ => ⟨S4096x3x1024, .f32⟩
  | .hbm, ⟨30, _⟩ => ⟨S_, .f32⟩
  | .hbm, ⟨31, _⟩ => ⟨S4096x3x1024, .f32⟩
  | .hbm, ⟨32, _⟩ => ⟨S4096x3x1024, .f32⟩
  | .hbm, ⟨33, _⟩ => ⟨S_, .f32⟩
  | .hbm, ⟨34, _⟩ => ⟨S4096x3x1024, .f32⟩
  | .hbm, ⟨35, _⟩ => ⟨S4096x3x1024, .f32⟩
  | .hbm, ⟨36, _⟩ => ⟨S4096x3x1024, .f32⟩
  | .hbm, ⟨37, _⟩ => ⟨S4096x3x1024, .f32⟩
  | .hbm, ⟨38, _⟩ => ⟨S_, .f32⟩
  | .hbm, ⟨39, _⟩ => ⟨S4096x1024, .f32⟩
  | .hbm, ⟨40, _⟩ => ⟨S1024x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | .hbm, ⟨59, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== UpdIn.lean ====
abbrev S8x832x512 : Shape := ⟨3, ![8, 832, 512]⟩
abbrev S832x1024 : Shape := ⟨2, ![832, 1024]⟩
abbrev S8x208x512 : Shape := ⟨3, ![8, 208, 512]⟩
abbrev S208x1024 : Shape := ⟨2, ![208, 1024]⟩
abbrev S1x208x512 : Shape := ⟨3, ![1, 208, 512]⟩
abbrev S208x512 : Shape := ⟨2, ![208, 512]⟩

abbrev nBuf : Space → Nat
  | .hbm => 9
  | .vmem => 18
  | .smem => 0
  | _ => 0

abbrev bufTy : (tb : Table) → Fin (tcTables nBuf tb) → BufTy
  | .hbm, ⟨0, _⟩ => ⟨S8x832x512, .bf16⟩
  | .hbm, ⟨1, _⟩ => ⟨S8x832x512, .bf16⟩
  | .hbm, ⟨2, _⟩ => ⟨S832x1024, .f32⟩
  | .hbm, ⟨3, _⟩ => ⟨S832x1024, .f32⟩
  | .hbm, ⟨4, _⟩ => ⟨S832x1024, .f32⟩
  | .hbm, ⟨5, _⟩ => ⟨S832x1024, .f32⟩
  | .hbm, ⟨6, _⟩ => ⟨S832x1024, .f32⟩
  | .hbm, ⟨7, _⟩ => ⟨S832x1024, .f32⟩
  | .hbm, ⟨8, _⟩ => ⟨S832x1024, .f32⟩
  | .local _ .vmem, ⟨0, _⟩ => ⟨S8x208x512, .bf16⟩
  | .local _ .vmem, ⟨1, _⟩ => ⟨S8x208x512, .bf16⟩
  | .local _ .vmem, ⟨2, _⟩ => ⟨S8x208x512, .bf16⟩
  | .local _ .vmem, ⟨3, _⟩ => ⟨S8x208x512, .bf16⟩
  | .local _ .vmem, ⟨4, _⟩ => ⟨S208x1024, .f32⟩
  | .local _ .vmem, ⟨5, _⟩ => ⟨S208x1024, .f32⟩
  | .local _ .vmem, ⟨6, _⟩ => ⟨S208x1024, .f32⟩
  | .local _ .vmem, ⟨7, _⟩ => ⟨S208x1024, .f32⟩
  | .local _ .vmem, ⟨8, _⟩ => ⟨S208x1024, .f32⟩
  | .local _ .vmem, ⟨9, _⟩ => ⟨S208x1024, .f32⟩
  | .local _ .vmem, ⟨10, _⟩ => ⟨S208x1024, .f32⟩
  | .local _ .vmem, ⟨11, _⟩ => ⟨S208x1024, .f32⟩
  | .local _ .vmem, ⟨12, _⟩ => ⟨S208x1024, .f32⟩
  | .local _ .vmem, ⟨13, _⟩ => ⟨S208x1024, .f32⟩
  | .local _ .vmem, ⟨14, _⟩ => ⟨S208x1024, .f32⟩
  | .local _ .vmem, ⟨15, _⟩ => ⟨S208x1024, .f32⟩
  | .local _ .vmem, ⟨16, _⟩ => ⟨S208x1024, .f32⟩
  | .local _ .vmem, ⟨17, _⟩ => ⟨S208x1024, .f32⟩
  | _, _ => ⟨S8x832x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x208x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x208x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S208x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S208x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S208x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S208x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S208x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S208x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S208x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpdInRefIdeal.lean ====
abbrev S8x832x512 : Shape := ⟨3, ![8, 832, 512]⟩
abbrev S832x1024 : Shape := ⟨2, ![832, 1024]⟩
abbrev S8x832x1024 : Shape := ⟨3, ![8, 832, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x832x512, .bf16⟩
  | .hbm, ⟨1, _⟩ => ⟨S8x832x512, .bf16⟩
  | .hbm, ⟨2, _⟩ => ⟨S832x1024, .f32⟩
  | .hbm, ⟨3, _⟩ => ⟨S832x1024, .f32⟩
  | .hbm, ⟨4, _⟩ => ⟨S832x1024, .f32⟩
  | .hbm, ⟨5, _⟩ => ⟨S8x832x1024, .bf16⟩
  | .hbm, ⟨6, _⟩ => ⟨S8x832x1024, .f32⟩
  | .hbm, ⟨7, _⟩ => ⟨S_, .f32⟩
  | .hbm, ⟨8, _⟩ => ⟨S832x1024, .f32⟩
  | .hbm, ⟨9, _⟩ => ⟨S_, .f32⟩
  | .hbm, ⟨10, _⟩ => ⟨S832x1024, .f32⟩
  | .hbm, ⟨11, _⟩ => ⟨S832x1024, .f32⟩
  | .hbm, ⟨12, _⟩ => ⟨S_, .f32⟩
  | .hbm, ⟨13, _⟩ => ⟨S832x1024, .f32⟩
  | .hbm, ⟨14, _⟩ => ⟨S832x1024, .f32⟩
  | .hbm, ⟨15, _⟩ => ⟨S832x1024, .f32⟩
  | .hbm, ⟨16, _⟩ => ⟨S_, .f32⟩
  | .hbm, ⟨17, _⟩ => ⟨S832x1024, .f32⟩
  | .hbm, ⟨18, _⟩ => ⟨S832x1024, .f32⟩
  | .hbm, ⟨19, _⟩ => ⟨S832x1024, .f32⟩
  | .hbm, ⟨20, _⟩ => ⟨S_, .f32⟩
  | .hbm, ⟨21, _⟩ => ⟨S832x1024, .f32⟩
  | .hbm, ⟨22, _⟩ => ⟨S832x1024, .f32⟩
  | .hbm, ⟨23, _⟩ => ⟨S832x1024, .f32⟩
  | .hbm, ⟨24, _⟩ => ⟨S_, .f32⟩
  | .hbm, ⟨25, _⟩ => ⟨S832x1024, .f32⟩
  | .hbm, ⟨26, _⟩ => ⟨S832x1024, .f32⟩
  | .hbm, ⟨27, _⟩ => ⟨S_, .f32⟩
  | .hbm, ⟨28, _⟩ => ⟨S832x1024, .f32⟩
  | .hbm, ⟨29, _⟩ => ⟨S832x1024, .f32⟩
  | .hbm, ⟨30, _⟩ => ⟨S832x1024, .f32⟩
  | .hbm, ⟨31, _⟩ => ⟨S_, .f32⟩
  | .hbm, ⟨32, _⟩ => ⟨S832x1024, .f32⟩
  | .hbm, ⟨33, _⟩ => ⟨S832x1024, .f32⟩
  | .hbm, ⟨34, _⟩ => ⟨S832x1024, .f32⟩
  | .hbm, ⟨35, _⟩ => ⟨S_, .f32⟩
  | .hbm, ⟨36, _⟩ => ⟨S832x1024, .f32⟩
  | .hbm, ⟨37, _⟩ => ⟨S832x1024, .f32⟩
  | .hbm, ⟨38, _⟩ => ⟨S832x1024, .f32⟩
  | .hbm, ⟨39, _⟩ => ⟨S_, .f32⟩
  | .hbm, ⟨40, _⟩ => ⟨S832x1024, .f32⟩
  | .hbm, ⟨41, _⟩ => ⟨S832x1024, .f32⟩
  | _, _ => ⟨S8x832x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== UpdKv.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdKvIdeal.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdKvRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdBranch.lean ====
abbrev S8x1536x128 : Shape := ⟨3, ![8, 1536, 128]⟩
abbrev S1536x128 : Shape := ⟨2, ![1536, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x1536x128, .bf16⟩
  | .hbm, ⟨1, _⟩ => ⟨S1536x128, .f32⟩
  | .hbm, ⟨2, _⟩ => ⟨S1536x128, .f32⟩
  | .hbm, ⟨3, _⟩ => ⟨S1536x128, .f32⟩
  | .hbm, ⟨4, _⟩ => ⟨S1536x128, .f32⟩
  | .hbm, ⟨5, _⟩ => ⟨S1536x128, .f32⟩
  | .hbm, ⟨6, _⟩ => ⟨S1536x128, .f32⟩
  | .hbm, ⟨7, _⟩ => ⟨S1536x128, .f32⟩
  | .local _ .vmem, ⟨0, _⟩ => ⟨S8x256x128, .bf16⟩
  | .local _ .vmem, ⟨1, _⟩ => ⟨S8x256x128, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S8x1536x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdBranchIdeal.lean ====
abbrev S8x1536x128 : Shape := ⟨3, ![8, 1536, 128]⟩
abbrev S1536x128 : Shape := ⟨2, ![1536, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x1536x128, .bf16⟩
  | .hbm, ⟨1, _⟩ => ⟨S1536x128, .f32⟩
  | .hbm, ⟨2, _⟩ => ⟨S1536x128, .f32⟩
  | .hbm, ⟨3, _⟩ => ⟨S1536x128, .f32⟩
  | .hbm, ⟨4, _⟩ => ⟨S1536x128, .f32⟩
  | .hbm, ⟨5, _⟩ => ⟨S1536x128, .f32⟩
  | .hbm, ⟨6, _⟩ => ⟨S1536x128, .f32⟩
  | .hbm, ⟨7, _⟩ => ⟨S1536x128, .f32⟩
  | .local _ .vmem, ⟨0, _⟩ => ⟨S8x256x128, .bf16⟩
  | .local _ .vmem, ⟨1, _⟩ => ⟨S8x256x128, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S8x1536x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdBranchRefIdeal.lean ====
abbrev S8x1536x128 : Shape := ⟨3, ![8, 1536, 128]⟩
abbrev S1536x128 : Shape := ⟨2, ![1536, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1536x128, .bf16⟩
  | .hbm, ⟨1, _⟩ => ⟨S1536x128, .f32⟩
  | .hbm, ⟨2, _⟩ => ⟨S1536x128, .f32⟩
  | .hbm, ⟨3, _⟩ => ⟨S1536x128, .f32⟩
  | .hbm, ⟨4, _⟩ => ⟨S8x1536x128, .f32⟩
  | .hbm, ⟨5, _⟩ => ⟨S_, .f32⟩
  | .hbm, ⟨6, _⟩ => ⟨S1536x128, .f32⟩
  | .hbm, ⟨7, _⟩ => ⟨S_, .f32⟩
  | .hbm, ⟨8, _⟩ => ⟨S1536x128, .f32⟩
  | .hbm, ⟨9, _⟩ => ⟨S1536x128, .f32⟩
  | .hbm, ⟨10, _⟩ => ⟨S_, .f32⟩
  | .hbm, ⟨11, _⟩ => ⟨S1536x128, .f32⟩
  | .hbm, ⟨12, _⟩ => ⟨S1536x128, .f32⟩
  | .hbm, ⟨13, _⟩ => ⟨S1536x128, .f32⟩
  | .hbm, ⟨14, _⟩ => ⟨S_, .f32⟩
  | .hbm, ⟨15, _⟩ => ⟨S1536x128, .f32⟩
  | .hbm, ⟨16, _⟩ => ⟨S1536x128, .f32⟩
  | .hbm, ⟨17, _⟩ => ⟨S1536x128, .f32⟩
  | .hbm, ⟨18, _⟩ => ⟨S_, .f32⟩
  | .hbm, ⟨19, _⟩ => ⟨S1536x128, .f32⟩
  | .hbm, ⟨20, _⟩ => ⟨S1536x128, .f32⟩
  | .hbm, ⟨21, _⟩ => ⟨S1536x128, .f32⟩
  | .hbm, ⟨22, _⟩ => ⟨S_, .f32⟩
  | .hbm, ⟨23, _⟩ => ⟨S1536x128, .f32⟩
  | .hbm, ⟨24, _⟩ => ⟨S1536x128, .f32⟩
  | .hbm, ⟨25, _⟩ => ⟨S_, .f32⟩
  | .hbm, ⟨26, _⟩ => ⟨S1536x128, .f32⟩
  | .hbm, ⟨27, _⟩ => ⟨S1536x128, .f32⟩
  | .hbm, ⟨28, _⟩ => ⟨S1536x128, .f32⟩
  | .hbm, ⟨29, _⟩ => ⟨S_, .f32⟩
  | .hbm, ⟨30, _⟩ => ⟨S1536x128, .f32⟩
  | .hbm, ⟨31, _⟩ => ⟨S1536x128, .f32⟩
  | .hbm, ⟨32, _⟩ => ⟨S1536x128, .f32⟩
  | .hbm, ⟨33, _⟩ => ⟨S_, .f32⟩
  | .hbm, ⟨34, _⟩ => ⟨S1536x128, .f32⟩
  | .hbm, ⟨35, _⟩ => ⟨S1536x128, .f32⟩
  | .hbm, ⟨36, _⟩ => ⟨S1536x128, .f32⟩
  | .hbm, ⟨37, _⟩ => ⟨S_, .f32⟩
  | .hbm, ⟨38, _⟩ => ⟨S1536x128, .f32⟩
  | .hbm, ⟨39, _⟩ => ⟨S1536x128, .f32⟩
  | _, _ => ⟨S8x1536x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdOutIdeal.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdOutRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdUp.lean ====
abbrev S8x704x1024 : Shape := ⟨3, ![8, 704, 1024]⟩
abbrev S704x1024 : Shape := ⟨2, ![704, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdUpIdeal.lean ====
abbrev S8x704x1024 : Shape := ⟨3, ![8, 704, 1024]⟩
abbrev S704x1024 : Shape := ⟨2, ![704, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdUpRefIdeal.lean ====
abbrev S8x704x1024 : Shape := ⟨3, ![8, 704, 1024]⟩
abbrev S704x1024 : Shape := ⟨2, ![704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S_, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S_, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S_, .f32⟩
  | .hbm, ⟨26, _⟩ => ⟨S704x1024, .f32⟩
  | .hbm, ⟨27, _⟩ => ⟨S704x1024, .f32⟩
  | .hbm, ⟨28, _⟩ => ⟨S704x1024, .f32⟩
  | .hbm, ⟨29, _⟩ => ⟨S_, .f32⟩
  | .hbm, ⟨30, _⟩ => ⟨S704x1024, .f32⟩
  | .hbm, ⟨31, _⟩ => ⟨S704x1024, .f32⟩
  | .hbm, ⟨32, _⟩ => ⟨S704x1024, .f32⟩
  | .hbm, ⟨33, _⟩ => ⟨S_, .f32⟩
  | .hbm, ⟨34, _⟩ => ⟨S704x1024, .f32⟩
  | .hbm, ⟨35, _⟩ => ⟨S704x1024, .f32⟩
  | .hbm, ⟨36, _⟩ => ⟨S704x1024, .f32⟩
  | .hbm, ⟨37, _⟩ => ⟨S_, .f32⟩
  | .hbm, ⟨38, _⟩ => ⟨S704x1024, .f32⟩
  | .hbm, ⟨39, _⟩ => ⟨S704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== UpdConv.lean ====
abbrev S8x3x352 : Shape := ⟨3, ![8, 3, 352]⟩
abbrev S3x352 : Shape := ⟨2, ![3, 352]⟩
abbrev S1x3x352 : Shape := ⟨3, ![1, 3, 352]⟩

abbrev nBuf : Space → Nat
  | .hbm => 8
  | .vmem => 8
  | .smem => 0
  | _ => 0

abbrev bufTy : (tb : Table) → Fin (tcTables nBuf tb) → BufTy
  | .hbm, ⟨0, _⟩ => ⟨S8x3x352, .f32⟩
  | .hbm, ⟨1, _⟩ => ⟨S3x352, .f32⟩
  | .hbm, ⟨2, _⟩ => ⟨S3x352, .f32⟩
  | .hbm, ⟨3, _⟩ => ⟨S3x352, .f32⟩
  | .hbm, ⟨4, _⟩ => ⟨S3x352, .f32⟩
  | .hbm, ⟨5, _⟩ => ⟨S3x352, .f32⟩
  | .hbm, ⟨6, _⟩ => ⟨S3x352, .f32⟩
  | .hbm, ⟨7, _⟩ => ⟨S3x352, .f32⟩
  | .local _ .vmem, ⟨0, _⟩ => ⟨S8x3x352, .f32⟩
  | .local _ .vmem, ⟨1, _⟩ => ⟨S3x352, .f32⟩
  | .local _ .vmem, ⟨2, _⟩ => ⟨S3x352, .f32⟩
  | .local _ .vmem, ⟨3, _⟩ => ⟨S3x352, .f32⟩
  | .local _ .vmem, ⟨4, _⟩ => ⟨S3x352, .f32⟩
  | .local _ .vmem, ⟨5, _⟩ => ⟨S3x352, .f32⟩
  | .local _ .vmem, ⟨6, _⟩ => ⟨S3x352, .f32⟩
  | .local _ .vmem, ⟨7, _⟩ => ⟨S3x352, .f32⟩
  | _, _ => ⟨S8x3x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x352 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x352 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x352 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x352 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x352 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x352 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdConvIdeal.lean ====
abbrev S8x3x352 : Shape := ⟨3, ![8, 3, 352]⟩
abbrev S3x352 : Shape := ⟨2, ![3, 352]⟩
abbrev S1x3x352 : Shape := ⟨3, ![1, 3, 352]⟩

abbrev nBuf : Space → Nat
  | .hbm => 8
  | .vmem => 8
  | .smem => 0
  | _ => 0

abbrev bufTy : (tb : Table) → Fin (tcTables nBuf tb) → BufTy
  | .hbm, ⟨0, _⟩ => ⟨S8x3x352, .f32⟩
  | .hbm, ⟨1, _⟩ => ⟨S3x352, .f32⟩
  | .hbm, ⟨2, _⟩ => ⟨S3x352, .f32⟩
  | .hbm, ⟨3, _⟩ => ⟨S3x352, .f32⟩
  | .hbm, ⟨4, _⟩ => ⟨S3x352, .f32⟩
  | .hbm, ⟨5, _⟩ => ⟨S3x352, .f32⟩
  | .hbm, ⟨6, _⟩ => ⟨S3x352, .f32⟩
  | .hbm, ⟨7, _⟩ => ⟨S3x352, .f32⟩
  | .local _ .vmem, ⟨0, _⟩ => ⟨S8x3x352, .f32⟩
  | .local _ .vmem, ⟨1, _⟩ => ⟨S3x352, .f32⟩
  | .local _ .vmem, ⟨2, _⟩ => ⟨S3x352, .f32⟩
  | .local _ .vmem, ⟨3, _⟩ => ⟨S3x352, .f32⟩
  | .local _ .vmem, ⟨4, _⟩ => ⟨S3x352, .f32⟩
  | .local _ .vmem, ⟨5, _⟩ => ⟨S3x352, .f32⟩
  | .local _ .vmem, ⟨6, _⟩ => ⟨S3x352, .f32⟩
  | .local _ .vmem, ⟨7, _⟩ => ⟨S3x352, .f32⟩
  | _, _ => ⟨S8x3x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x3x352 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x352 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x352 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x352 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x352 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x352 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x352 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdConvRefIdeal.lean ====
abbrev S8x3x352 : Shape := ⟨3, ![8, 3, 352]⟩
abbrev S3x352 : Shape := ⟨2, ![3, 352]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x3x352, .f32⟩
  | .hbm, ⟨1, _⟩ => ⟨S3x352, .f32⟩
  | .hbm, ⟨2, _⟩ => ⟨S3x352, .f32⟩
  | .hbm, ⟨3, _⟩ => ⟨S3x352, .f32⟩
  | .hbm, ⟨4, _⟩ => ⟨S_, .f32⟩
  | .hbm, ⟨5, _⟩ => ⟨S3x352, .f32⟩
  | .hbm, ⟨6, _⟩ => ⟨S_, .f32⟩
  | .hbm, ⟨7, _⟩ => ⟨S3x352, .f32⟩
  | .hbm, ⟨8, _⟩ => ⟨S3x352, .f32⟩
  | .hbm, ⟨9, _⟩ => ⟨S_, .f32⟩
  | .hbm, ⟨10, _⟩ => ⟨S3x352, .f32⟩
  | .hbm, ⟨11, _⟩ => ⟨S3x352, .f32⟩
  | .hbm, ⟨12, _⟩ => ⟨S3x352, .f32⟩
  | .hbm, ⟨13, _⟩ => ⟨S_, .f32⟩
  | .hbm, ⟨14, _⟩ => ⟨S3x352, .f32⟩
  | .hbm, ⟨15, _⟩ => ⟨S3x352, .f32⟩
  | .hbm, ⟨16, _⟩ => ⟨S3x352, .f32⟩
  | .hbm, ⟨17, _⟩ => ⟨S_, .f32⟩
  | .hbm, ⟨18, _⟩ => ⟨S3x352, .f32⟩
  | .hbm, ⟨19, _⟩ => ⟨S3x352, .f32⟩
  | .hbm, ⟨20, _⟩ => ⟨S3x352, .f32⟩
  | .hbm, ⟨21, _⟩ => ⟨S_, .f32⟩
  | .hbm, ⟨22, _⟩ => ⟨S3x352, .f32⟩
  | .hbm, ⟨23, _⟩ => ⟨S3x352, .f32⟩
  | .hbm, ⟨24, _⟩ => ⟨S_, .f32⟩
  | .hbm, ⟨25, _⟩ => ⟨S3x352, .f32⟩
  | .hbm, ⟨26, _⟩ => ⟨S3x352, .f32⟩
  | .hbm, ⟨27, _⟩ => ⟨S3x352, .f32⟩
  | .hbm, ⟨28, _⟩ => ⟨S_, .f32⟩
  | .hbm, ⟨29, _⟩ => ⟨S3x352, .f32⟩
  | .hbm, ⟨30, _⟩ => ⟨S3x352, .f32⟩
  | .hbm, ⟨31, _⟩ => ⟨S3x352, .f32⟩
  | .hbm, ⟨32, _⟩ => ⟨S_, .f32⟩
  | .hbm, ⟨33, _⟩ => ⟨S3x352, .f32⟩
  | .hbm, ⟨34, _⟩ => ⟨S3x352, .f32⟩
  | .hbm, ⟨35, _⟩ => ⟨S3x352, .f32⟩
  | .hbm, ⟨36, _⟩ => ⟨S_, .f32⟩
  | .hbm, ⟨37, _⟩ => ⟨S3x352, .f32⟩
  | .hbm, ⟨38, _⟩ => ⟨S3x352, .f32⟩
  | _, _ => ⟨S8x3x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== UpdDown.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpdDownRefIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== FinalLoss.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 9
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x128, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FinalLossRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S1x128, .f32⟩
  | .hbm, ⟨75, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== ConvBwd.lean ====
abbrev S2x2048x1024 : Shape := ⟨3, ![2, 2048, 1024]⟩
abbrev S2816x1024 : Shape := ⟨2, ![2816, 1024]⟩
abbrev S2x2048x2816 : Shape := ⟨3, ![2, 2048, 2816]⟩
abbrev S3x2816 : Shape := ⟨2, ![3, 2816]⟩
abbrev S1x2816 : Shape := ⟨2, ![1, 2816]⟩
abbrev S2x3x2816 : Shape := ⟨3, ![2, 3, 2816]⟩
abbrev S2x1x2816 : Shape := ⟨3, ![2, 1, 2816]⟩
abbrev S1x2048x1024 : Shape := ⟨3, ![1, 2048, 1024]⟩
abbrev S256x1024 : Shape := ⟨2, ![256, 1024]⟩
abbrev S1x2048x256 : Shape := ⟨3, ![1, 2048, 256]⟩
abbrev S3x256 : Shape := ⟨2, ![3, 256]⟩
abbrev S1x256 : Shape := ⟨2, ![1, 256]⟩
abbrev S1x3x256 : Shape := ⟨3, ![1, 3, 256]⟩
abbrev S1x1x256 : Shape := ⟨3, ![1, 1, 256]⟩
abbrev S2048x1024 : Shape := ⟨2, ![2048, 1024]⟩
abbrev S2048x256 : Shape := ⟨2, ![2048, 256]⟩
abbrev S8x256 : Shape := ⟨2, ![8, 256]⟩
abbrev S2040x256 : Shape := ⟨2, ![2040, 256]⟩
abbrev S256 : Shape := ⟨1, ![256]⟩

abbrev nBuf : Space → Nat
  | .hbm => 10
  | .vmem => 20
  | .smem => 0
  | _ => 0

abbrev bufTy : (tb : Table) → Fin (tcTables nBuf tb) → BufTy
  | .hbm, ⟨0, _⟩ => ⟨S2x2048x1024, .bf16⟩
  | .hbm, ⟨1, _⟩ => ⟨S2816x1024, .bf16⟩
  | .hbm, ⟨2, _⟩ => ⟨S2x2048x2816, .bf16⟩
  | .hbm, ⟨3, _⟩ => ⟨S2x2048x2816, .bf16⟩
  | .hbm, ⟨4, _⟩ => ⟨S3x2816, .f32⟩
  | .hbm, ⟨5, _⟩ => ⟨S1x2816, .f32⟩
  | .hbm, ⟨6, _⟩ => ⟨S2x2048x2816, .bf16⟩
  | .hbm, ⟨7, _⟩ => ⟨S2x2048x2816, .bf16⟩
  | .hbm, ⟨8, _⟩ => ⟨S2x3x2816, .f32⟩
  | .hbm, ⟨9, _⟩ => ⟨S2x1x2816, .f32⟩
  | .local _ .vmem, ⟨0, _⟩ => ⟨S1x2048x1024, .bf16⟩
  | .local _ .vmem, ⟨1, _⟩ => ⟨S1x2048x1024, .bf16⟩
  | .local _ .vmem, ⟨2, _⟩ => ⟨S256x1024, .bf16⟩
  | .local _ .vmem, ⟨3, _⟩ => ⟨S256x1024, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x2048x256, .bf16⟩
  | .local _ .vmem, ⟨13, _⟩ => ⟨S1x2048x256, .bf16⟩
  | .local _ .vmem, ⟨14, _⟩ => ⟨S1x2048x256, .bf16⟩
  | .local _ .vmem, ⟨15, _⟩ => ⟨S1x2048x256, .bf16⟩
  | .local _ .vmem, ⟨16, _⟩ => ⟨S1x3x256, .f32⟩
  | .local _ .vmem, ⟨17, _⟩ => ⟨S1x3x256, .f32⟩
  | .local _ .vmem, ⟨18, _⟩ => ⟨S1x1x256, .f32⟩
  | .local _ .vmem, ⟨19, _⟩ => ⟨S1x1x256, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ConvBwdRefIdeal.lean ====
abbrev S2x2048x1024 : Shape := ⟨3, ![2, 2048, 1024]⟩
abbrev S2816x1024 : Shape := ⟨2, ![2816, 1024]⟩
abbrev S2x2048x2816 : Shape := ⟨3, ![2, 2048, 2816]⟩
abbrev S3x2816 : Shape := ⟨2, ![3, 2816]⟩
abbrev S1x2816 : Shape := ⟨2, ![1, 2816]⟩
abbrev S2x3x2816 : Shape := ⟨3, ![2, 3, 2816]⟩
abbrev S2x1x2816 : Shape := ⟨3, ![2, 1, 2816]⟩
abbrev S_ : Shape := ⟨0, ![]⟩
abbrev S2x2x2816 : Shape := ⟨3, ![2, 2, 2816]⟩
abbrev S2x2050x2816 : Shape := ⟨3, ![2, 2050, 2816]⟩
abbrev S2x2816 : Shape := ⟨2, ![2, 2816]⟩

abbrev nBuf : Space → Nat
  | .hbm => 96
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S2816x1024, .bf16⟩
  | .hbm, ⟨2, _⟩ => ⟨S2x2048x2816, .bf16⟩
  | .hbm, ⟨3, _⟩ => ⟨S2x2048x2816, .bf16⟩
  | .hbm, ⟨4, _⟩ => ⟨S3x2816, .f32⟩
  | .hbm, ⟨5, _⟩ => ⟨S1x2816, .f32⟩
  | .hbm, ⟨6, _⟩ => ⟨S2x2048x2816, .f32⟩
  | .hbm, ⟨7, _⟩ => ⟨S2x2048x2816, .f32⟩
  | .hbm, ⟨8, _⟩ => ⟨S2x3x2816, .f32⟩
  | .hbm, ⟨9, _⟩ => ⟨S2x1x2816, .f32⟩
  | .hbm, ⟨10, _⟩ => ⟨S2816x1024, .f32⟩
  | .hbm, ⟨11, _⟩ => ⟨S_, .f32⟩
  | .hbm, ⟨12, _⟩ => ⟨S2x2x2816, .f32⟩
  | .hbm, ⟨13, _⟩ => ⟨S2x2050x2816, .f32⟩
  | .hbm, ⟨14, _⟩ => ⟨S_, .f32⟩
  | .hbm, ⟨15, _⟩ => ⟨S2x2x2816, .f32⟩
  | .hbm, ⟨16, _⟩ => ⟨S2x1x2816, .f32⟩
  | .hbm, ⟨17, _⟩ => ⟨S2x2048x2816, .f32⟩
  | .hbm, ⟨18, _⟩ => ⟨S2x2048x2816, .f32⟩
  | .hbm, ⟨19, _⟩ => ⟨S2x2048x2816, .f32⟩
  | .hbm, ⟨20, _⟩ => ⟨S2x2048x2816, .f32⟩
  | .hbm, ⟨21, _⟩ => ⟨S2x2048x2816, .f32⟩
  | .hbm, ⟨22, _⟩ => ⟨S2x1x2816, .f32⟩
  | .hbm, ⟨23, _⟩ => ⟨S2x2048x2816, .f32⟩
  | .hbm, ⟨24, _⟩ => ⟨S2x2048x2816, .f32⟩
  | .hbm, ⟨25, _⟩ => ⟨S2x2048x2816, .f32⟩
  | .hbm, ⟨26, _⟩ => ⟨S2x2048x2816, .f32⟩
  | .hbm, ⟨27, _⟩ => ⟨S2x1x2816, .f32⟩
  | .hbm, ⟨28, _⟩ => ⟨S2x2048x2816, .f32⟩
  | .hbm, ⟨29, _⟩ => ⟨S2x2048x2816, .f32⟩
  | .hbm, ⟨30, _⟩ => ⟨S2x2048x2816, .f32⟩
  | .hbm, ⟨31, _⟩ => ⟨S2x2048x2816, .f32⟩
  | .hbm, ⟨32, _⟩ => ⟨S2x2048x2816, .f32⟩
  | .hbm, ⟨33, _⟩ => ⟨S2x2048x2816, .f32⟩
  | .hbm, ⟨34, _⟩ => ⟨S_, .f32⟩
  | .hbm, ⟨35, _⟩ => ⟨S2x2048x2816, .f32⟩
  | .hbm, ⟨36, _⟩ => ⟨S2x2048x2816, .f32⟩
  | .hbm, ⟨37, _⟩ => ⟨S_, .f32⟩
  | .hbm, ⟨38, _⟩ => ⟨S2x2048x2816, .f32⟩
  | .hbm, ⟨39, _⟩ => ⟨S2x2048x2816, .f32⟩
  | .hbm, ⟨40, _⟩ => ⟨S_, .f32⟩
  | .hbm, ⟨41, _⟩ => ⟨S2x2048x2816, .f32⟩
  | .hbm, ⟨42, _⟩ => ⟨S2x2048x2816, .f32⟩
  | .hbm, ⟨43, _⟩ => ⟨S2x2048x2816, .f32⟩
  | .hbm, ⟨44, _⟩ => ⟨S2x2048x2816, .f32⟩
  | .hbm, ⟨45, _⟩ => ⟨S2x2048x2816, .f32⟩
  | .hbm, ⟨46, _⟩ => ⟨S2x2048x1024, .f32⟩
  | .hbm, ⟨47, _⟩ => ⟨S2x2048x1024, .f32⟩
  | .hbm, ⟨48, _⟩ => ⟨S2x2048x2816, .f32⟩
  | .hbm, ⟨49, _⟩ => ⟨S2x2048x2816, .f32⟩
  | .hbm, ⟨50, _⟩ => ⟨S2x2048x2816, .f32⟩
  | .hbm, ⟨51, _⟩ => ⟨S2x2048x2816, .f32⟩
  | .hbm, ⟨52, _⟩ => ⟨S2x2048x2816, .f32⟩
  | .hbm, ⟨53, _⟩ => ⟨S2x2048x2816, .f32⟩
  | .hbm, ⟨54, _⟩ => ⟨S2x2048x2816, .f32⟩
  | .hbm, ⟨55, _⟩ => ⟨S2x2048x2816, .f32⟩
  | .hbm, ⟨56, _⟩ => ⟨S2x2048x2816, .f32⟩
  | .hbm, ⟨57, _⟩ => ⟨S2x2048x2816, .f32⟩
  | .hbm, ⟨58, _⟩ => ⟨S_, .f32⟩
  | .hbm, ⟨59, _⟩ => ⟨S2x2816, .f32⟩
  | .hbm, ⟨60, _⟩ => ⟨S2x1x2816, .f32⟩
  | .hbm, ⟨61, _⟩ => ⟨S_, .f32⟩
  | .hbm, ⟨62, _⟩ => ⟨S2x2050x2816, .f32⟩
  | .hbm, ⟨63, _⟩ => ⟨S_, .f32⟩
  | .hbm, ⟨64, _⟩ => ⟨S2x3x2816, .f32⟩
  | .hbm, ⟨65, _⟩ => ⟨S2x2048x2816, .f32⟩
  | .hbm, ⟨66, _⟩ => ⟨S2x2048x2816, .f32⟩
  | .hbm, ⟨67, _⟩ => ⟨S2x2048x2816, .f32⟩
  | .hbm, ⟨68, _⟩ => ⟨S_, .f32⟩
  | .hbm, ⟨69, _⟩ => ⟨S2x2816, .f32⟩
  | .hbm, ⟨70, _⟩ => ⟨S2x1x2816, .f32⟩
  | .hbm, ⟨71, _⟩ => ⟨S_, .f32⟩
  | .hbm, ⟨72, _⟩ => ⟨S2x2050x2816, .f32⟩
  | .hbm, ⟨73, _⟩ => ⟨S2x2050x2816, .f32⟩
  | .hbm, ⟨74, _⟩ => ⟨S_, .f32⟩
  | .hbm, ⟨75, _⟩ => ⟨S2x3x2816, .f32⟩
  | .hbm, ⟨76, _⟩ => ⟨S2x3x2816, .f32⟩
  | .hbm, ⟨77, _⟩ => ⟨S_, .f32⟩
  | .hbm, ⟨78, _⟩ => ⟨S2x2816, .f32⟩
  | .hbm, ⟨79, _⟩ => ⟨S2x1x2816, .f32⟩
  | .hbm, ⟨80, _⟩ => ⟨S2x2048x2816, .f32⟩
  | .hbm, ⟨81, _⟩ => ⟨S2x2048x2816, .f32⟩
  | .hbm, ⟨82, _⟩ => ⟨S2x2048x2816, .f32⟩
  | .hbm, ⟨83, _⟩ => ⟨S_, .f32⟩
  | .hbm, ⟨84, _⟩ => ⟨S2x2816, .f32⟩
  | .hbm, ⟨85, _⟩ => ⟨S2x1x2816, .f32⟩
  | .hbm, ⟨86, _⟩ => ⟨S_, .f32⟩
  | .hbm, ⟨87, _⟩ => ⟨S2x2050x2816, .f32⟩
  | .hbm, ⟨88, _⟩ => ⟨S2x2050x2816, .f32⟩
  | .hbm, ⟨89, _⟩ => ⟨S_, .f32⟩
  | .hbm, ⟨90, _⟩ => ⟨S2x3x2816, .f32⟩
  | .hbm, ⟨91, _⟩ => ⟨S2x3x2816, .f32⟩
  | .hbm, ⟨92, _⟩ => ⟨S2x2x2816, .f32⟩
  | .hbm, ⟨93, _⟩ => ⟨S2x2048x2816, .f32⟩
  | .hbm, ⟨94, _⟩ => ⟨S2x2048x2816, .bf16⟩
  | .hbm, ⟨95, _⟩ => ⟨S2x2048x2816, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v24_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v24_1 : Ref sig .tc := ⟨.hbm, 43, rfl⟩
abbrev main_v24_0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_1 : Ref sig .tc := ⟨.hbm, 58, rfl⟩
abbrev main_v35 : Ref sig .tc := ⟨.hbm, 59, rfl⟩
abbrev main_v36 : Ref sig .tc := ⟨.hbm, 60, rfl⟩
abbrev main_cst_2 : Ref sig .tc := ⟨.hbm, 61, rfl⟩
abbrev main_v37 : Ref sig .tc := ⟨.hbm, 62, rfl⟩
abbrev main_cst_3 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_4 : Ref sig .tc := ⟨.hbm, 68, rfl⟩
abbrev main_v42 : Ref sig .tc := ⟨.hbm, 69, rfl⟩
abbrev main_v43 : Ref sig .tc := ⟨.hbm, 70, rfl⟩
abbrev main_cst_5 : Ref sig .tc := ⟨.hbm, 71, rfl⟩
abbrev main_v44 : Ref sig .tc := ⟨.hbm, 72, rfl⟩
abbrev main_v45 : Ref sig .tc := ⟨.hbm, 73, rfl⟩
abbrev main_cst_6 : Ref sig .tc := ⟨.hbm, 74, rfl⟩
abbrev main_v46 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_cst_10 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩

abbrev nD : Nat := 1
abbrev τ : Topo := Topo.v7x

variable {F : FTy → Type} [FloatOps F]
-- ==== MemNorm.lean ====
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .bf16⟩
  | .local _ .vmem, ⟨0, _⟩ => ⟨S512x1024, .f32⟩
  | .local _ .vmem, ⟨1, _⟩ => ⟨S1x1024, .f32⟩
  | .local _ .vmem, ⟨2, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemNormRefIdeal.lean ====
abbrev S512x1024 : Shape := ⟨2, ![512, 1024]⟩
abbrev S1x1024 : Shape := ⟨2, ![1, 1024]⟩
abbrev S_ : Shape := ⟨0, ![]⟩
abbrev S512 : Shape := ⟨1, ![512]⟩
abbrev S512x1 : Shape := ⟨2, ![512, 1]⟩

abbrev nBuf : Space → Nat
  | .hbm => 18
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MemKv.lean ====
abbrev S512x1024 : Shape := ⟨2, ![512, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S1024x1024, .bf16⟩
  | .hbm, ⟨2, _⟩ => ⟨S512x1024, .f32⟩
  | .local _ .vmem, ⟨0, _⟩ => ⟨S512x1024, .bf16⟩
  | .local _ .vmem, ⟨1, _⟩ => ⟨S1024x1024, .bf16⟩
  | .local _ .vmem, ⟨2, _⟩ => ⟨S512x1024, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvRefIdeal.lean ====
abbrev S512x1024 : Shape := ⟨2, ![512, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x1024, .bf16⟩
  | .hbm, ⟨2, _⟩ => ⟨S512x1024, .f32⟩
  | .hbm, ⟨3, _⟩ => ⟨S1024x1024, .f32⟩
  | .hbm, ⟨4, _⟩ => ⟨S512x1024, .f32⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MemKvBwd.lean ====
abbrev S512x1024 : Shape := ⟨2, ![512, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S1024x1024, .bf16⟩
  | .hbm, ⟨2, _⟩ => ⟨S512x1024, .f32⟩
  | .local _ .vmem, ⟨0, _⟩ => ⟨S512x1024, .f32⟩
  | .local _ .vmem, ⟨1, _⟩ => ⟨S1024x1024, .bf16⟩
  | .local _ .vmem, ⟨2, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvBwdRefIdeal.lean ====
abbrev S512x1024 : Shape := ⟨2, ![512, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x1024, .bf16⟩
  | .hbm, ⟨2, _⟩ => ⟨S_, .f32⟩
  | .hbm, ⟨3, _⟩ => ⟨S512x1024, .f32⟩
  | .hbm, ⟨4, _⟩ => ⟨S1024x1024, .f32⟩
  | .hbm, ⟨5, _⟩ => ⟨S512x1024, .f32⟩
  | .hbm, ⟨6, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MemNormBwd.lean ====
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩

abbrev nBuf : Space → Nat
  | .hbm => 5
  | .vmem => 5
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .f32⟩
  | .hbm, ⟨3, _⟩ => ⟨S512x1024, .f32⟩
  | .hbm, ⟨4, _⟩ => ⟨S1x1024, .f32⟩
  | .local _ .vmem, ⟨0, _⟩ => ⟨S512x1024, .f32⟩
  | .local _ .vmem, ⟨1, _⟩ => ⟨S1x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MemNormBwdRefIdeal.lean ====
abbrev S512x1024 : Shape := ⟨2, ![512, 1024]⟩
abbrev S1x1024 : Shape := ⟨2, ![1, 1024]⟩
abbrev S_ : Shape := ⟨0, ![]⟩
abbrev S512 : Shape := ⟨1, ![512]⟩
abbrev S512x1 : Shape := ⟨2, ![512, 1]⟩
abbrev S1024 : Shape := ⟨1, ![1024]⟩

abbrev nBuf : Space → Nat
  | .hbm => 45
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x1024, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512, .f32⟩
  | .hbm, ⟨31, _⟩ => ⟨S512x1, .f32⟩
  | .hbm, ⟨32, _⟩ => ⟨S512x1024, .f32⟩
  | .hbm, ⟨33, _⟩ => ⟨S512x1024, .f32⟩
  | .hbm, ⟨34, _⟩ => ⟨S512x1, .f32⟩
  | .hbm, ⟨35, _⟩ => ⟨S_, .f32⟩
  | .hbm, ⟨36, _⟩ => ⟨S512x1, .f32⟩
  | .hbm, ⟨37, _⟩ => ⟨S512x1, .f32⟩
  | .hbm, ⟨38, _⟩ => ⟨S_, .f32⟩
  | .hbm, ⟨39, _⟩ => ⟨S512, .f32⟩
  | .hbm, ⟨40, _⟩ => ⟨S512x1024, .f32⟩
  | .hbm, ⟨41, _⟩ => ⟨S512x1024, .f32⟩
  | .hbm, ⟨42, _⟩ => ⟨S512x1024, .f32⟩
  | .hbm, ⟨43, _⟩ => ⟨S512x1024, .f32⟩
  | .hbm, ⟨44, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== AttnFwd.lean ====
abbrev S4096x6656 : Shape := ⟨2, ![4096, 6656]⟩
abbrev S2x256x1024 : Shape := ⟨3, ![2, 256, 1024]⟩
abbrev S4096x512 : Shape := ⟨2, ![4096, 512]⟩
abbrev S512x512 : Shape := ⟨2, ![512, 512]⟩
abbrev S1x256x1024 : Shape := ⟨3, ![1, 256, 1024]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x6656, .bf16⟩
  | .hbm, ⟨1, _⟩ => ⟨S2x256x1024, .f32⟩
  | .hbm, ⟨2, _⟩ => ⟨S4096x512, .bf16⟩
  | .local _ .vmem, ⟨0, _⟩ => ⟨S512x512, .bf16⟩
  | .local _ .vmem, ⟨1, _⟩ => ⟨S512x512, .bf16⟩
  | .local _ .vmem, ⟨2, _⟩ => ⟨S1x256x1024, .f32⟩
  | .local _ .vmem, ⟨3, _⟩ => ⟨S1x256x1024, .f32⟩
  | .local _ .vmem, ⟨4, _⟩ => ⟨S512x512, .bf16⟩
  | .local _ .vmem, ⟨5, _⟩ => ⟨S512x512, .bf16⟩
  | _, _ => ⟨S4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c6_i32 : BitVec 32 := 6#32
  let c0_i32 : BitVec 32 := 0#32
  ![v1.toNat, c6_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttnFwdRefIdeal.lean ====
abbrev S4096x6656 : Shape := ⟨2, ![4096, 6656]⟩
abbrev S2x256x1024 : Shape := ⟨3, ![2, 256, 1024]⟩
abbrev S4096x512 : Shape := ⟨2, ![4096, 512]⟩
abbrev S2x2048x4x128 : Shape := ⟨4, ![2, 2048, 4, 128]⟩
abbrev S2x256x512 : Shape := ⟨3, ![2, 256, 512]⟩
abbrev S2x256x4x128 : Shape := ⟨4, ![2, 256, 4, 128]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x2048x512 : Shape := ⟨3, ![2, 2048, 512]⟩

abbrev nBuf : Space → Nat
  | .hbm => 32
  | .vmem => 0
  | .smem => 0
  | _ => 0

abbrev bufTy : (tb : Table) → Fin (tcTables nBuf tb) → BufTy
  | .hbm, ⟨0, _⟩ => ⟨S4096x6656, .bf16⟩
  | .hbm, ⟨1, _⟩ => ⟨S2x256x1024, .f32⟩
  | .hbm, ⟨2, _⟩ => ⟨S4096x512, .bf16⟩
  | .hbm, ⟨3, _⟩ => ⟨S4096x512, .f32⟩
  | .hbm, ⟨4, _⟩ => ⟨S2x2048x4x128, .f32⟩
  | .hbm, ⟨5, _⟩ => ⟨S2x256x512, .f32⟩
  | .hbm, ⟨6, _⟩ => ⟨S2x256x512, .f32⟩
  | .hbm, ⟨7, _⟩ => ⟨S2x256x4x128, .f32⟩
  | .hbm, ⟨8, _⟩ => ⟨S2x256x4x128, .f32⟩
  | .hbm, ⟨9, _⟩ => ⟨S2x4x2048x256, .f32⟩
  | .hbm, ⟨10, _⟩ => ⟨S_, .f32⟩
  | .hbm, ⟨11, _⟩ => ⟨S2x4x2048x256, .f32⟩
  | .hbm, ⟨12, _⟩ => ⟨S2x4x2048x256, .f32⟩
  | .hbm, ⟨13, _⟩ => ⟨S_, .f32⟩
  | .hbm, ⟨14, _⟩ => ⟨S2x4x2048, .f32⟩
  | .hbm, ⟨15, _⟩ => ⟨S_, .f32⟩
  | .hbm, ⟨16, _⟩ => ⟨S2x4x2048, .f32⟩
  | .hbm, ⟨17, _⟩ => ⟨S2x4x2048, .f32⟩
  | .hbm, ⟨18, _⟩ => ⟨S2x4x2048x1, .f32⟩
  | .hbm, ⟨19, _⟩ => ⟨S2x4x2048x256, .f32⟩
  | .hbm, ⟨20, _⟩ => ⟨S2x4x2048x256, .f32⟩
  | .hbm, ⟨21, _⟩ => ⟨S2x4x2048x256, .f32⟩
  | .hbm, ⟨22, _⟩ => ⟨S_, .f32⟩
  | .hbm, ⟨23, _⟩ => ⟨S2x4x2048, .f32⟩
  | .hbm, ⟨24, _⟩ => ⟨S2x4x2048x1, .f32⟩
  | .hbm, ⟨25, _⟩ => ⟨S2x4x2048x256, .f32⟩
  | .hbm, ⟨26, _⟩ => ⟨S2x4x2048x256, .f32⟩
  | .hbm, ⟨27, _⟩ => ⟨S2x4x128x2048, .f32⟩
  | .hbm, ⟨28, _⟩ => ⟨S2x2048x4x128, .f32⟩
  | .hbm, ⟨29, _⟩ => ⟨S2x2048x512, .f32⟩
  | .hbm, ⟨30, _⟩ => ⟨S2x2048x512, .bf16⟩
  | .hbm, ⟨31, _⟩ => ⟨S4096x512, .bf16⟩
  | _, _ => ⟨S4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== GmlpFwd.lean ====
abbrev S4096x6656 : Shape := ⟨2, ![4096, 6656]⟩
abbrev S1x512 : Shape := ⟨2, ![1, 512]⟩
abbrev S4x128x128 : Shape := ⟨3, ![4, 128, 128]⟩
abbrev S128x128 : Shape := ⟨2, ![128, 128]⟩
abbrev S4096x512 : Shape := ⟨2, ![4096, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1x128x128 : Shape := ⟨3, ![1, 128, 128]⟩
abbrev S128x1 : Shape := ⟨2, ![128, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x6656, .bf16⟩
  | .hbm, ⟨1, _⟩ => ⟨S1x512, .f32⟩
  | .hbm, ⟨2, _⟩ => ⟨S1x512, .f32⟩
  | .hbm, ⟨3, _⟩ => ⟨S4x128x128, .f32⟩
  | .hbm, ⟨4, _⟩ => ⟨S128x128, .f32⟩
  | .hbm, ⟨5, _⟩ => ⟨S4096x512, .bf16⟩
  | .local _ .vmem, ⟨0, _⟩ => ⟨S512x1024, .bf16⟩
  | .local _ .vmem, ⟨1, _⟩ => ⟨S512x1024, .bf16⟩
  | .local _ .vmem, ⟨2, _⟩ => ⟨S1x512, .f32⟩
  | .local _ .vmem, ⟨3, _⟩ => ⟨S1x512, .f32⟩
  | .local _ .vmem, ⟨4, _⟩ => ⟨S4x128x128, .f32⟩
  | .local _ .vmem, ⟨5, _⟩ => ⟨S128x128, .f32⟩
  | .local _ .vmem, ⟨6, _⟩ => ⟨S512x512, .bf16⟩
  | .local _ .vmem, ⟨7, _⟩ => ⟨S512x512, .bf16⟩
  | _, _ => ⟨S4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GmlpFwdRefIdeal.lean ====
abbrev S4096x6656 : Shape := ⟨2, ![4096, 6656]⟩
abbrev S1x512 : Shape := ⟨2, ![1, 512]⟩
abbrev S4x128x128 : Shape := ⟨3, ![4, 128, 128]⟩
abbrev S128x128 : Shape := ⟨2, ![128, 128]⟩
abbrev S4096x1024 : Shape := ⟨2, ![4096, 1024]⟩
abbrev S2x2048x1024 : Shape := ⟨3, ![2, 2048, 1024]⟩
abbrev S2x2048x512 : Shape := ⟨3, ![2, 2048, 512]⟩
abbrev S_ : Shape := ⟨0, ![]⟩
abbrev S128x4 : Shape := ⟨2, ![128, 4]⟩
abbrev S4x128 : Shape := ⟨2, ![4, 128]⟩
abbrev S2x2048 : Shape := ⟨2, ![2, 2048]⟩
abbrev S2x2048x1 : Shape := ⟨3, ![2, 2048, 1]⟩
abbrev S1x1x512 : Shape := ⟨3, ![1, 1, 512]⟩
abbrev S2x16x128x4x128 : Shape := ⟨5, ![2, 16, 128, 4, 128]⟩
abbrev S1x128x128 : Shape := ⟨3, ![1, 128, 128]⟩
abbrev S4x2x16x128x128 : Shape := ⟨5, ![4, 2, 16, 128, 128]⟩
abbrev S1x1x128x4x1 : Shape := ⟨5, ![1, 1, 128, 4, 1]⟩
abbrev S4096x512 : Shape := ⟨2, ![4096, 512]⟩

abbrev nBuf : Space → Nat
  | .hbm => 103
  | .vmem => 0
  | .smem => 0
  | _ => 0

abbrev bufTy : (tb : Table) → Fin (tcTables nBuf tb) → BufTy
  | .hbm, ⟨0, _⟩ => ⟨S4096x6656, .bf16⟩
  | .hbm, ⟨1, _⟩ => ⟨S1x512, .f32⟩
  | .hbm, ⟨2, _⟩ => ⟨S1x512, .f32⟩
  | .hbm, ⟨3, _⟩ => ⟨S4x128x128, .f32⟩
  | .hbm, ⟨4, _⟩ => ⟨S128x128, .f32⟩
  | .hbm, ⟨5, _⟩ => ⟨S4096x1024, .bf16⟩
  | .hbm, ⟨6, _⟩ => ⟨S4096x1024, .f32⟩
  | .hbm, ⟨7, _⟩ => ⟨S2x2048x1024, .f32⟩
  | .hbm, ⟨8, _⟩ => ⟨S2x2048x512, .f32⟩
  | .hbm, ⟨9, _⟩ => ⟨S2x2048x512, .f32⟩
  | .hbm, ⟨10, _⟩ => ⟨S2x2048x512, .f32⟩
  | .hbm, ⟨11, _⟩ => ⟨S2x2048x512, .f32⟩
  | .hbm, ⟨12, _⟩ => ⟨S_, .f32⟩
  | .hbm, ⟨13, _⟩ => ⟨S2x2048x512, .f32⟩
  | .hbm, ⟨14, _⟩ => ⟨S2x2048x512, .f32⟩
  | .hbm, ⟨15, _⟩ => ⟨S2x2048x512, .f32⟩
  | .hbm, ⟨16, _⟩ => ⟨S_, .f32⟩
  | .hbm, ⟨17, _⟩ => ⟨S2x2048x512, .f32⟩
  | .hbm, ⟨18, _⟩ => ⟨S2x2048x512, .f32⟩
  | .hbm, ⟨19, _⟩ => ⟨S2x2048x512, .f32⟩
  | .hbm, ⟨20, _⟩ => ⟨S_, .f32⟩
  | .hbm, ⟨21, _⟩ => ⟨S2x2048x512, .f32⟩
  | .hbm, ⟨22, _⟩ => ⟨S2x2048x512, .f32⟩
  | .hbm, ⟨23, _⟩ => ⟨S_, .f32⟩
  | .hbm, ⟨24, _⟩ => ⟨S2x2048x512, .f32⟩
  | .hbm, ⟨25, _⟩ => ⟨S2x2048x512, .f32⟩
  | .hbm, ⟨26, _⟩ => ⟨S2x2048x512, .f32⟩
  | .hbm, ⟨27, _⟩ => ⟨S2x2048x512, .f32⟩
  | .hbm, ⟨28, _⟩ => ⟨S2x2048x512, .f32⟩
  | .hbm, ⟨29, _⟩ => ⟨S_, .f32⟩
  | .hbm, ⟨30, _⟩ => ⟨S2x2048x512, .f32⟩
  | .hbm, ⟨31, _⟩ => ⟨S2x2048x512, .f32⟩
  | .hbm, ⟨32, _⟩ => ⟨S2x2048x512, .f32⟩
  | .hbm, ⟨33, _⟩ => ⟨S_, .f32⟩
  | .hbm, ⟨34, _⟩ => ⟨S2x2048x512, .f32⟩
  | .hbm, ⟨35, _⟩ => ⟨S2x2048x512, .f32⟩
  | .hbm, ⟨36, _⟩ => ⟨S2x2048x512, .f32⟩
  | .hbm, ⟨37, _⟩ => ⟨S_, .f32⟩
  | .hbm, ⟨38, _⟩ => ⟨S2x2048x512, .f32⟩
  | .hbm, ⟨39, _⟩ => ⟨S2x2048x512, .f32⟩
  | .hbm, ⟨40, _⟩ => ⟨S_, .f32⟩
  | .hbm, ⟨41, _⟩ => ⟨S2x2048x512, .f32⟩
  | .hbm, ⟨42, _⟩ => ⟨S2x2048x512, .f32⟩
  | .hbm, ⟨43, _⟩ => ⟨S2x2048x512, .f32⟩
  | .hbm, ⟨44, _⟩ => ⟨S128x4, .f32⟩
  | .hbm, ⟨45, _⟩ => ⟨S4x128, .f32⟩
  | .hbm, ⟨46, _⟩ => ⟨S_, .f32⟩
  | .hbm, ⟨47, _⟩ => ⟨S2x2048, .f32⟩
  | .hbm, ⟨48, _⟩ => ⟨S2x2048x1, .f32⟩
  | .hbm, ⟨49, _⟩ => ⟨S_, .f32⟩
  | .hbm, ⟨50, _⟩ => ⟨S2x2048x1, .f32⟩
  | .hbm, ⟨51, _⟩ => ⟨S2x2048x1, .f32⟩
  | .hbm, ⟨52, _⟩ => ⟨S2x2048x512, .f32⟩
  | .hbm, ⟨53, _⟩ => ⟨S2x2048x512, .f32⟩
  | .hbm, ⟨54, _⟩ => ⟨S2x2048x512, .f32⟩
  | .hbm, ⟨55, _⟩ => ⟨S_, .f32⟩
  | .hbm, ⟨56, _⟩ => ⟨S2x2048, .f32⟩
  | .hbm, ⟨57, _⟩ => ⟨S2x2048x1, .f32⟩
  | .hbm, ⟨58, _⟩ => ⟨S_, .f32⟩
  | .hbm, ⟨59, _⟩ => ⟨S2x2048x1, .f32⟩
  | .hbm, ⟨60, _⟩ => ⟨S2x2048x1, .f32⟩
  | .hbm, ⟨61, _⟩ => ⟨S2x2048x512, .f32⟩
  | .hbm, ⟨62, _⟩ => ⟨S2x2048x512, .f32⟩
  | .hbm, ⟨63, _⟩ => ⟨S_, .f32⟩
  | .hbm, ⟨64, _⟩ => ⟨S2x2048x1, .f32⟩
  | .hbm, ⟨65, _⟩ => ⟨S2x2048x1, .f32⟩
  | .hbm, ⟨66, _⟩ => ⟨S2x2048x1, .f32⟩
  | .hbm, ⟨67, _⟩ => ⟨S2x2048x512, .f32⟩
  | .hbm, ⟨68, _⟩ => ⟨S2x2048x512, .f32⟩
  | .hbm, ⟨69, _⟩ => ⟨S1x1x512, .f32⟩
  | .hbm, ⟨70, _⟩ => ⟨S2x2048x512, .f32⟩
  | .hbm, ⟨71, _⟩ => ⟨S2x2048x512, .f32⟩
  | .hbm, ⟨72, _⟩ => ⟨S1x1x512, .f32⟩
  | .hbm, ⟨73, _⟩ => ⟨S2x2048x512, .f32⟩
  | .hbm, ⟨74, _⟩ => ⟨S2x2048x512, .f32⟩
  | .hbm, ⟨75, _⟩ => ⟨S2x16x128x4x128, .f32⟩
  | .hbm, ⟨76, _⟩ => ⟨S_, .i1⟩
  | .hbm, ⟨77, _⟩ => ⟨S128x128, .i1⟩
  | .hbm, ⟨78, _⟩ => ⟨S128x128, .i32⟩
  | .hbm, ⟨79, _⟩ => ⟨S_, .i32⟩
  | .hbm, ⟨80, _⟩ => ⟨S128x128, .i32⟩
  | .hbm, ⟨81, _⟩ => ⟨S128x128, .i32⟩
  | .hbm, ⟨82, _⟩ => ⟨S128x128, .i32⟩
  | .hbm, ⟨83, _⟩ => ⟨S128x128, .i1⟩
  | .hbm, ⟨84, _⟩ => ⟨S_, .i1⟩
  | .hbm, ⟨85, _⟩ => ⟨S128x128, .i1⟩
  | .hbm, ⟨86, _⟩ => ⟨S128x128, .i1⟩
  | .hbm, ⟨87, _⟩ => ⟨S1x128x128, .i1⟩
  | .hbm, ⟨88, _⟩ => ⟨S_, .i32⟩
  | .hbm, ⟨89, _⟩ => ⟨S_, .f32⟩
  | .hbm, ⟨90, _⟩ => ⟨S4x128x128, .i1⟩
  | .hbm, ⟨91, _⟩ => ⟨S4x128x128, .f32⟩
  | .hbm, ⟨92, _⟩ => ⟨S4x128x128, .f32⟩
  | .hbm, ⟨93, _⟩ => ⟨S4x2x16x128x128, .f32⟩
  | .hbm, ⟨94, _⟩ => ⟨S2x16x128x4x128, .f32⟩
  | .hbm, ⟨95, _⟩ => ⟨S128x4, .f32⟩
  | .hbm, ⟨96, _⟩ => ⟨S1x1x128x4x1, .f32⟩
  | .hbm, ⟨97, _⟩ => ⟨S2x16x128x4x128, .f32⟩
  | .hbm, ⟨98, _⟩ => ⟨S2x16x128x4x128, .f32⟩
  | .hbm, ⟨99, _⟩ => ⟨S2x2048x512, .f32⟩
  | .hbm, ⟨100, _⟩ => ⟨S2x2048x512, .f32⟩
  | .hbm, ⟨101, _⟩ => ⟨S2x2048x512, .bf16⟩
  | .hbm, ⟨102, _⟩ => ⟨S4096x512, .bf16⟩
  | _, _ => ⟨S4096x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c : Ref sig .tc := ⟨.hbm, 76, rfl⟩
abbrev main_v58 : Ref sig .tc := ⟨.hbm, 77, rfl⟩
abbrev main_call0_v0 : Ref sig .tc := ⟨.hbm, 78, rfl⟩
abbrev main_call0_c : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_c_0 : Ref sig .tc := ⟨.hbm, 84, rfl⟩
abbrev main_call0_v5 : Ref sig .tc := ⟨.hbm, 85, rfl⟩
abbrev main_v59 : Ref sig .tc := ⟨.hbm, 86, rfl⟩
abbrev main_v60 : Ref sig .tc := ⟨.hbm, 87, rfl⟩
abbrev main_c_12 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩

abbrev nD : Nat := 1
abbrev τ : Topo := Topo.v7x

variable {F : FTy → Type} [FloatOps F]
-- ==== Proof.AttnMath.lean ====
/- The scalar side of the attention gradient, over the extended reals: one row of scores, of
   weights and of cotangents, and the identity between the softmax gradient that a kernel writes
   (weight times cotangent less the weighted mean) and the one that differentiation of
   exponential, row sum and quotient writes. -/
module

public import Idealize.ShloMosaic.Lib.Pointwise

@[expose] public section

noncomputable section

open Idealize.ShloMosaic

namespace Cert.Attn

/-- The scale 1/√128, as both programs spell it. -/
abbrev scale : EReal := Ideal.ofBits .f32 0x3DB504F3#32

/-- The seed of a maximum over a row. -/
abbrev negInf : EReal := Ideal.ofBits .f32 0xFF800000#32

/-- One row of scaled scores. -/
def sc (q : Fin 128 → EReal) (k : Fin 256 → Fin 128 → EReal) (j : Fin 256) : EReal := (∑ d : Fin 128, q d * k j d) * scale

/-- One row of shifted exponentials. -/
def ex (s : Fin 256 → EReal) (j : Fin 256) : EReal :=
  Ideal.exp (s j - (Finset.univ : Finset (Fin 256)).fold max negInf s)

/-- One row of attention weights. -/
def pr (s : Fin 256 → EReal) (j : Fin 256) : EReal := Ideal.div (ex s j) (∑ l, ex s l)

/-- The cotangent of one row of weights. -/
def gr (c : Fin 128 → EReal) (v : Fin 256 → Fin 128 → EReal) (j : Fin 256) : EReal := ∑ d : Fin 128, c d * v j d

/-- The cotangent of one row of unscaled scores. -/
def dsr (s g : Fin 256 → EReal) (j : Fin 256) : EReal := pr s j * (g j - ∑ l, g l * pr s l) * scale

theorem negInf_eq : negInf = ⊥ := by simp [negInf, Ideal.ofBits, Ideal.ieee]

theorem scale_real : ∃ r : ℝ, scale = (r : EReal) := by
  simp only [scale, Ideal.ofBits, Ideal.ieee]
  rw [if_neg (by decide), if_neg (by decide)]
  exact ⟨_, rfl⟩

/-- The coercion of a finite sum of reals. -/
theorem coe_sum {n : ℕ} (r : Fin n → ℝ) : ((∑ i, r i : ℝ) : EReal) = ∑ i, (r i : EReal) :=
  map_sum (⟨⟨Real.toEReal, rfl⟩, EReal.coe_add⟩ : ℝ →+ EReal) r Finset.univ

/-- A finite sum of reals is a real. -/
theorem sum_real {n : ℕ} (f : Fin n → EReal) (h : ∀ i, ∃ r : ℝ, f i = r) : ∃ r : ℝ, ∑ i, f i = (r : EReal) := by
  choose r hr using h
  refine ⟨∑ i, r i, ?_⟩
  rw [coe_sum]
  exact Finset.sum_congr rfl fun i _ => hr i

theorem sc_real (q : Fin 128 → EReal) (k : Fin 256 → Fin 128 → EReal) (hq : ∀ d, ∃ r : ℝ, q d = r)
    (hk : ∀ j d, ∃ r : ℝ, k j d = r) (j : Fin 256) : ∃ r : ℝ, sc q k j = (r : EReal) := by
  obtain ⟨a, ha⟩ := sum_real (fun d => q d * k j d) fun d => by
    obtain ⟨x, hx⟩ := hq d; obtain ⟨y, hy⟩ := hk j d
    exact ⟨x * y, by rw [hx, hy, EReal.coe_mul]⟩
  obtain ⟨c, hc⟩ := scale_real
  exact ⟨a * c, by unfold sc; rw [ha, hc, EReal.coe_mul]⟩

/-- The greatest of a row of reals is a real. -/
theorem max_real (s : Fin 256 → EReal) (h : ∀ j, ∃ r : ℝ, s j = r) :
    ∃ r : ℝ, (Finset.univ : Finset (Fin 256)).fold max negInf s = (r : EReal) := by
  have e : (Finset.univ : Finset (Fin 256)).fold max negInf s = Finset.univ.sup s := by
    rw [negInf_eq]; rfl
  obtain ⟨i, -, hi⟩ := Finset.exists_mem_eq_sup (Finset.univ : Finset (Fin 256)) ⟨0, Finset.mem_univ _⟩ s
  obtain ⟨r, hr⟩ := h i
  exact ⟨r, by rw [e, hi, hr]⟩

theorem ex_real (s : Fin 256 → EReal) (h : ∀ j, ∃ r : ℝ, s j = r) (j : Fin 256) : ∃ r : ℝ, 0 < r ∧ ex s j = (r : EReal) := by
  obtain ⟨a, ha⟩ := h j; obtain ⟨b, hb⟩ := max_real s h
  exact ⟨Real.exp (a - b), Real.exp_pos _, by unfold ex; rw [ha, hb, ← EReal.coe_sub, Ideal.exp_coe]⟩

/-- A real factor that is not negative passes into a sum. -/
theorem sum_mul_real {n : ℕ} (f : Fin n → EReal) (a : ℝ) (ha : 0 ≤ a) : (∑ i, f i) * (a : EReal) = ∑ i, f i * (a : EReal) := by
  induction n with
  | zero => simp
  | succ n ih =>
    rw [Fin.sum_univ_succ, Fin.sum_univ_succ, EReal.right_distrib_of_nonneg_of_ne_top (EReal.coe_nonneg.2 ha) (EReal.coe_ne_top a), ih]

/-- The seed taken once more changes no maximum. -/
theorem max_seed (s : Fin 256 → EReal) : max negInf ((Finset.univ : Finset (Fin 256)).fold max negInf s)
    = (Finset.univ : Finset (Fin 256)).fold max negInf s := by
  rw [negInf_eq]; exact max_eq_right bot_le

/-- The two softmax gradients are one, on a row of finite scores. -/
theorem dsr_eq (s g : Fin 256 → EReal) (h : ∀ j, ∃ r : ℝ, s j = r) (j : Fin 256) :
    (Ideal.div (g j) (∑ l, ex s l) + ∑ _x : Fin 1, -∑ l, g l * Ideal.div 1 ((∑ l, ex s l) * ∑ l, ex s l) * ex s l) * ex s j * scale
      = dsr s g j := by
  choose E hE0 hE using ex_real s h
  have hL : (∑ l, ex s l) = ((∑ l, E l : ℝ) : EReal) := by
    rw [coe_sum]; exact Finset.sum_congr rfl fun l _ => hE l
  have hpos : 0 < ∑ l, E l := Finset.sum_pos (fun l _ => hE0 l) ⟨0, Finset.mem_univ _⟩
  have ha : 0 ≤ 1 / ∑ l, E l := (one_div_pos.2 hpos).le
  unfold dsr pr
  rw [hL]
  generalize hT : ∑ l, E l = L at *
  have hne : L ≠ 0 := ne_of_gt hpos
  rw [← EReal.coe_mul]
  simp only [Ideal.div_coe hne, Ideal.div_coe (mul_ne_zero hne hne), hE, one_mul, Fin.sum_univ_one]
  have e : ∑ l, g l * ((1 / (L * L) : ℝ) : EReal) * (E l : EReal) = (∑ l, g l * ((E l : EReal) * ((1 / L : ℝ) : EReal))) * ((1 / L : ℝ) : EReal) := by
    rw [sum_mul_real _ _ ha]
    refine Finset.sum_congr rfl fun l _ => ?_
    have : (1 / (L * L) : ℝ) = 1 / L * (1 / L) := by rw [one_div_mul_one_div]
    rw [this, EReal.coe_mul]
    ac_rfl
  rw [e]
  generalize (∑ l, g l * ((E l : EReal) * ((1 / L : ℝ) : EReal))) = T
  congr 1
  rw [EReal.right_distrib_of_nonneg_of_ne_top (EReal.coe_nonneg.2 (hE0 j).le) (EReal.coe_ne_top _), ← EReal.coe_mul, sub_eq_add_neg,
    EReal.left_distrib_of_nonneg_of_ne_top (EReal.coe_nonneg.2 (mul_nonneg (hE0 j).le ha)) (EReal.coe_ne_top _), EReal.coe_mul,
    EReal.neg_mul, mul_neg]
  congr 1
  · ac_rfl
  · congr 1; ac_rfl

end Cert.Attn
end
-- ==== Proof.AttnRef.lean ====
/- The attention gradient of the reference, read at an index: every stage of the host program is
   stated once over its arguments and read off as sums over `Fin`. -/
module

public import proofs.«01_k».proof.Proof.Gen.AttnBwdRefIdeal
public import proofs.«01_k».proof.Proof.AttnMath
public import Idealize.ShloMosaic.Lib.StableHlo.Run

@[expose] public section

set_option maxRecDepth 16384

noncomputable section

open Idealize.ShloMosaic Idealize.ShloMosaic.TcCoe Idealize.SL.Sem

namespace Cert.AttnBwdRefIdeal

open Cert.AttnBwdRefIdeal.Gen Cert.Attn

section
variable (X0 : FVec Ideal S4096x6656 .bf16) (X1 : FVec Ideal S2x256x1024 .f32) (X2 : FVec Ideal S4096x512 .bf16)

/-- Queries by head. -/
def rq : FVec Ideal S2x2048x4x128 .f32 :=
  shapeCast _ (extf .f32 (extractStridedSlice S4096x512 ![0, 3072] X0 slices_S4096x6656_S4096x512_0_3072) bitsLt_bf16_f32) shapeCasts_S4096x512_S2x2048x4x128
/-- Keys by head. -/
def rk : FVec Ideal S2x256x4x128 .f32 :=
  shapeCast _ (extractStridedSlice S2x256x512 ![0, 0, 0] X1 slices_S2x256x1024_S2x256x512_0_0_0) shapeCasts_S2x256x512_S2x256x4x128
/-- Values by head. -/
def rv : FVec Ideal S2x256x4x128 .f32 :=
  shapeCast _ (extractStridedSlice S2x256x512 ![0, 0, 512] X1 slices_S2x256x1024_S2x256x512_0_0_512) shapeCasts_S2x256x512_S2x256x4x128
/-- The cotangent by head. -/
def rc : FVec Ideal S2x4x128x2048 .f32 :=
  transpose S2x4x128x2048 [0, 2, 3, 1] (shapeCast S2x2048x4x128 (shapeCast S2x2048x512 (extf .f32 X2 bitsLt_bf16_f32) shapeCasts_S4096x512_S2x2048x512) shapeCasts_S2x2048x512_S2x2048x4x128) transposes_S2x2048x4x128_S2x4x128x2048_0_2_3_1
/-- Scaled scores. -/
def rs (q : FVec Ideal S2x2048x4x128 .f32) (k : FVec Ideal S2x256x4x128 .f32) : FVec Ideal S2x4x2048x256 .f32 :=
  mulf (Host.dotGeneral dot_S2x2048x4x128_S2x256x4x128_S2x4x2048x256_3_3_1_1_02_02 none q k)
    (broadcastInDim S2x4x2048x256 ![] bcast_S_S2x4x2048x256 (constant S_ .f32 0x3DB504F3#32))
/-- The greatest score of each row. -/
def rm (s : FVec Ideal S2x4x2048x256 .f32) : FVec Ideal S2x4x2048 .f32 :=
  Host.reduce FloatOps.maximumf s (constant S_ .f32 0xFF800000#32) reducesTo_S2x4x2048x256_S2x4x2048_d3 h_S_
/-- Shifted exponentials, at a given lower bound of the shift. -/
def rez (z : FVec Ideal S_ .f32) (s : FVec Ideal S2x4x2048x256 .f32) : FVec Ideal S2x4x2048x256 .f32 :=
  Host.exp (subf s (broadcastInDim S2x4x2048x256 ![0, 1, 2, 3] bcast_S2x4x2048x1_S2x4x2048x256_0_1_2_3 (broadcastInDim S2x4x2048x1 ![0, 1, 2] bcast_S2x4x2048_S2x4x2048x1_0_1_2
    (maximumf (broadcastInDim S2x4x2048 ![] bcast_S_S2x4x2048 z) (rm s)))))
/-- Shifted exponentials. -/
def re (s : FVec Ideal S2x4x2048x256 .f32) : FVec Ideal S2x4x2048x256 .f32 := rez (constant S_ .f32 0xFF800000#32) s
/-- Their row sums. -/
def rl (e : FVec Ideal S2x4x2048x256 .f32) : FVec Ideal S2x4x2048x1 .f32 :=
  broadcastInDim S2x4x2048x1 ![0, 1, 2] bcast_S2x4x2048_S2x4x2048x1_0_1_2 (Host.reduceAdd e (constant S_ .f32 0x00000000#32) reducesTo_S2x4x2048x256_S2x4x2048_d3 h_S_)
/-- Weights. -/
def rp (e : FVec Ideal S2x4x2048x256 .f32) : FVec Ideal S2x4x2048x256 .f32 :=
  Host.divf e (broadcastInDim S2x4x2048x256 ![0, 1, 2, 3] bcast_S2x4x2048x1_S2x4x2048x256_0_1_2_3 (rl e))
/-- The cotangent of the weights. -/
def rg (c : FVec Ideal S2x4x128x2048 .f32) (v : FVec Ideal S2x256x4x128 .f32) : FVec Ideal S2x4x2048x256 .f32 :=
  Host.dotGeneral dot_S2x4x128x2048_S2x256x4x128_S2x4x2048x256_2_3_3_1_01_02 none c v
/-- The cotangent of the unscaled scores. -/
def rds (e g : FVec Ideal S2x4x2048x256 .f32) : FVec Ideal S2x4x2048x256 .f32 :=
  mulf (mulf (addf (Host.divf g (broadcastInDim S2x4x2048x256 ![0, 1, 2, 3] bcast_S2x4x2048x1_S2x4x2048x256_0_1_2_3 (rl e)))
    (broadcastInDim S2x4x2048x256 ![0, 1, 2] bcast_S2x4x2048_S2x4x2048x256_0_1_2
      (Host.reduceAdd (Host.negf (shapeCast S2x4x2048x1 (Host.reduceAdd (mulf (mulf g (broadcastInDim S2x4x2048x256 ![0, 1, 2, 3] bcast_S2x4x2048x1_S2x4x2048x256_0_1_2_3
          (Host.divf (broadcastInDim S2x4x2048x1 ![] bcast_S_S2x4x2048x1 (constant S_ .f32 0x3F800000#32)) (mulf (rl e) (rl e))))) e)
        (constant S_ .f32 0x00000000#32) reducesTo_S2x4x2048x256_S2x4x2048_d3 h_S_) shapeCasts_S2x4x2048_S2x4x2048x1))
       (constant S_ .f32 0x00000000#32) reducesTo_S2x4x2048x1_S2x4x2048_d3 h_S_))) e)
    (broadcastInDim S2x4x2048x256 ![] bcast_S_S2x4x2048x256 (constant S_ .f32 0x3DB504F3#32))
/-- The cotangent of the scores, of the arguments. -/
def rD : FVec Ideal S2x4x2048x256 .f32 := rds (re (rs (rq X0) (rk X1))) (rg (rc X2) (rv X1))
/-- The first result: the queries' gradient. -/
def REFq : FVec Ideal S4096x512 .bf16 :=
  truncf .bf16 (shapeCast S4096x512 (transpose S2x2048x4x128 [0, 2, 1, 3] (Host.dotGeneral dot_S2x4x2048x256_S2x256x4x128_S2x4x2048x128_3_1_2_3_01_02 none (rD X0 X1 X2) (rk X1)) transposes_S2x4x2048x128_S2x2048x4x128_0_2_1_3) shapeCasts_S2x2048x4x128_S4096x512) bitsLt_bf16_f32
/-- The second result: the gradient of keys and values. -/
def REFkv : FVec Ideal S2x256x1024 .f32 :=
  concatenate S2x256x1024 2 [⟨S2x256x512, shapeCast S2x256x512 (transpose S2x256x4x128 [0, 2, 1, 3] (Host.dotGeneral dot_S2x4x2048x256_S2x2048x4x128_S2x4x256x128_2_1_3_3_01_02 none (rD X0 X1 X2) (rq X0)) transposes_S2x4x256x128_S2x256x4x128_0_2_1_3) shapeCasts_S2x256x4x128_S2x256x512⟩,
    ⟨S2x256x512, shapeCast S2x256x512 (transpose S2x256x4x128 [0, 3, 1, 2] (Host.dotGeneral dot_S2x4x128x2048_S2x4x2048x256_S2x4x128x256_3_2_2_3_01_01 none (rc X2) (rp (re (rs (rq X0) (rk X1))))) transposes_S2x4x128x256_S2x256x4x128_0_3_1_2) shapeCasts_S2x256x4x128_S2x256x512⟩] concatenates_S2x256x512_S2x256x512_S2x256x1024_d2

/-- One query row. -/
def qf (b : Fin 2) (s : Fin 2048) (h : Fin 4) (d : Fin 128) : EReal := X0 (ix2 ⟨b * 2048 + s, by omega⟩ ⟨3072 + (h * 128 + d), by omega⟩)
/-- One head's keys. -/
def kf (b : Fin 2) (h : Fin 4) (j : Fin 256) (d : Fin 128) : EReal := X1 (ix3 b j ⟨h * 128 + d, by omega⟩)
/-- One head's values. -/
def vf (b : Fin 2) (h : Fin 4) (j : Fin 256) (d : Fin 128) : EReal := X1 (ix3 b j ⟨512 + (h * 128 + d), by omega⟩)
/-- One row of the cotangent. -/
def cf (b : Fin 2) (s : Fin 2048) (h : Fin 4) (d : Fin 128) : EReal := X2 (ix2 ⟨b * 2048 + s, by omega⟩ ⟨h * 128 + d, by omega⟩)

theorem rs_at (b : Fin 2) (h : Fin 4) (s : Fin 2048) (j : Fin 256) :
    rs (rq X0) (rk X1) (ix4 b h s j) = sc (qf X0 b s h) (kf X1 b h) j := by
  pointwise [rs, rq, rk, sc, qf, kf]

theorem rg_at (b : Fin 2) (h : Fin 4) (s : Fin 2048) (j : Fin 256) :
    rg (rc X2) (rv X1) (ix4 b h s j) = gr (cf X2 b s h) (vf X1 b h) j := by
  pointwise [rg, rc, rv, gr, cf, vf]

theorem rm_at (S : FVec Ideal S2x4x2048x256 .f32) (b : Fin 2) (h : Fin 4) (s : Fin 2048) :
    rm S (ix3 b h s) = (Finset.univ : Finset (Fin 256)).fold max negInf fun l => S (ix4 b h s l) := by
  pointwise [rm]

theorem rez_at (z : FVec Ideal S_ .f32) (S : FVec Ideal S2x4x2048x256 .f32) (b : Fin 2) (h : Fin 4) (s : Fin 2048) (j : Fin 256) :
    rez z S (ix4 b h s j) = Ideal.exp (S (ix4 b h s j) - max (z ix0) (rm S (ix3 b h s))) := by
  pointwise [rez]

theorem re_at (b : Fin 2) (h : Fin 4) (s : Fin 2048) (j : Fin 256) :
    re (rs (rq X0) (rk X1)) (ix4 b h s j) = ex (sc (qf X0 b s h) (kf X1 b h)) j := by
  have hs : (fun l => rs (rq X0) (rk X1) (ix4 b h s l)) = sc (qf X0 b s h) (kf X1 b h) := funext fun l => rs_at X0 X1 b h s l
  have hz : constant (F := Ideal) S_ .f32 0xFF800000#32 ix0 = negInf := rfl
  rw [re, rez_at, rm_at, hs, hz, max_seed, rs_at, ex]

theorem rp_at (b : Fin 2) (h : Fin 4) (s : Fin 2048) (j : Fin 256) :
    rp (re (rs (rq X0) (rk X1))) (ix4 b h s j) = pr (sc (qf X0 b s h) (kf X1 b h)) j := by
  pointwise [rp, rl]
  simp only [re_at]
  rfl

/-- Differentiation's softmax gradient, at an index. -/
theorem rds_at (E G : FVec Ideal S2x4x2048x256 .f32) (b : Fin 2) (h : Fin 4) (s : Fin 2048) (j : Fin 256) :
    rds E G (ix4 b h s j) = (Ideal.div (G (ix4 b h s j)) (∑ l, E (ix4 b h s l))
      + ∑ _x : Fin 1, -∑ l, G (ix4 b h s l) * Ideal.div 1 ((∑ l, E (ix4 b h s l)) * ∑ l, E (ix4 b h s l)) * E (ix4 b h s l)) * E (ix4 b h s j) * scale := by
  pointwise [rds, rl]

/-- The queries and the keys are finite. -/
def Fin01 : Prop := (∀ b s h d, ∃ r : ℝ, qf X0 b s h d = r) ∧ ∀ b h j d, ∃ r : ℝ, kf X1 b h j d = r

theorem rD_at (hf : Fin01 X0 X1) (b : Fin 2) (h : Fin 4) (s : Fin 2048) (j : Fin 256) :
    rD X0 X1 X2 (ix4 b h s j) = dsr (sc (qf X0 b s h) (kf X1 b h)) (gr (cf X2 b s h) (vf X1 b h)) j := by
  unfold rD
  rw [rds_at]
  simp only [re_at, rg_at]
  exact dsr_eq _ _ (sc_real _ _ (hf.1 b s h) (hf.2 b h)) j

/-- The queries' gradient, at an index. -/
theorem REFq_at (hf : Fin01 X0 X1) (b : Fin 2) (s : Fin 2048) (h : Fin 4) (d : Fin 128) :
    REFq X0 X1 X2 (ix2 ⟨b * 2048 + s, by omega⟩ ⟨h * 128 + d, by omega⟩)
      = ∑ j, dsr (sc (qf X0 b s h) (kf X1 b h)) (gr (cf X2 b s h) (vf X1 b h)) j * kf X1 b h j d := by
  have e : REFq X0 X1 X2 (ix2 ⟨b * 2048 + s, by omega⟩ ⟨h * 128 + d, by omega⟩) = ∑ j, rD X0 X1 X2 (ix4 b h s j) * kf X1 b h j d := by
    pointwise [REFq, rk, kf]
  rw [e]; exact Finset.sum_congr rfl fun j _ => by rw [rD_at X0 X1 X2 hf]

/-- The keys' gradient, at an index. -/
theorem REFk_at (hf : Fin01 X0 X1) (b : Fin 2) (j : Fin 256) (h : Fin 4) (d : Fin 128) :
    REFkv X0 X1 X2 (ix3 b j ⟨h * 128 + d, by omega⟩)
      = ∑ s, dsr (sc (qf X0 b s h) (kf X1 b h)) (gr (cf X2 b s h) (vf X1 b h)) j * qf X0 b s h d := by
  have e : REFkv X0 X1 X2 (ix3 b j ⟨h * 128 + d, by omega⟩) = ∑ s, rD X0 X1 X2 (ix4 b h s j) * qf X0 b s h d := by
    have hy : h * 128 + (d : ℕ) < 512 := by omega
    pointwise [REFkv, rq, qf]
    exact dif_pos hy
  rw [e]; exact Finset.sum_congr rfl fun s _ => by rw [rD_at X0 X1 X2 hf]

/-- The values' gradient, at an index. -/
theorem REFv_at (b : Fin 2) (j : Fin 256) (h : Fin 4) (d : Fin 128) :
    REFkv X0 X1 X2 (ix3 b j ⟨512 + (h * 128 + d), by omega⟩)
      = ∑ s, pr (sc (qf X0 b s h) (kf X1 b h)) j * cf X2 b s h d := by
  have e : REFkv X0 X1 X2 (ix3 b j ⟨512 + (h * 128 + d), by omega⟩) = ∑ s, cf X2 b s h d * rp (re (rs (rq X0) (rk X1))) (ix4 b h s j) := by
    pointwise [REFkv, rc, cf]
  rw [e]; exact Finset.sum_congr rfl fun s _ => by rw [rp_at, mul_comm]
end
end Cert.AttnBwdRefIdeal
end
-- ==== Proof.AttnPay.lean ====
/- What the attention gradient's kernel computes for one head of one block of query rows, read at
   an index. -/
module

public import proofs.«01_k».proof.Proof.Gen.AttnBwdIdeal.Skeleton
public import proofs.«01_k».proof.Proof.AttnRef
public import Idealize.ShloMosaic.Lib.Pipeline.ValueKit

@[expose] public section

set_option maxRecDepth 16384

noncomputable section

open Idealize.ShloMosaic Idealize.ShloMosaic.TcCoe Idealize.SL.Sem

namespace Cert.AttnBwdIdeal

open Cert.AttnBwdIdeal.Gen Cert.Attn

section
variable (q c : FVec Ideal S512x128 .bf16) (k v : FVec Ideal S1x256x128 .f32) (a : FVec Ideal S1x256x128 .f32)

/-- One row of a block of queries. -/
def row (q : FVec Ideal S512x128 .bf16) (r : Fin 512) (d : Fin 128) : EReal := q (ix2 r d)
/-- A block of keys. -/
def mat (k : FVec Ideal S1x256x128 .f32) (j : Fin 256) (d : Fin 128) : EReal := k (ix3 0 j d)

theorem prob_at (r : Fin 512) (j : Fin 256) : k0_pay3 (F := Ideal) q k (ix2 r j) = pr (sc (row q r) (mat k)) j := by
  pointwise [k0_pay3, k0_pay2]
  rfl

theorem cot_at (r : Fin 512) (j : Fin 256) : k0_pay5 (F := Ideal) v c (ix2 r j) = gr (row c r) (mat v) j := by
  pointwise [k0_pay5]
  rfl

theorem ds_at (p g : FVec Ideal S512x256 .f32) (r : Fin 512) (j : Fin 256) :
    k0_pay6 (F := Ideal) p g (ix2 r j) = p (ix2 r j) * (g (ix2 r j) - ∑ l, g (ix2 r l) * p (ix2 r l)) * scale := by
  pointwise [k0_pay6]

/-- One head's cotangent of the scores. -/
def hds : FVec Ideal S512x256 .f32 := k0_pay6 (F := Ideal) (k0_pay3 q k) (k0_pay5 v c)

theorem hds_at (r : Fin 512) (j : Fin 256) : hds q c k v (ix2 r j) = dsr (sc (row q r) (mat k)) (gr (row c r) (mat v)) j := by
  rw [hds, ds_at]
  simp only [prob_at, cot_at]
  rfl

/-- One head's gradient of the queries. -/
def hdq : FVec Ideal S512x128 .bf16 := k0_pay7 (F := Ideal) (k0_pay2 k) (k0_pay3 q k) (k0_pay5 v c)
/-- One head's gradient of the keys, added to what is there. -/
def hdk : FVec Ideal S1x256x128 .f32 := k0_pay8 (F := Ideal) q (k0_pay3 q k) (k0_pay5 v c) a
/-- One head's gradient of the values, added to what is there. -/
def hdv : FVec Ideal S1x256x128 .f32 := k0_pay4 (F := Ideal) q k c a

theorem hdq_at (r : Fin 512) (d : Fin 128) : hdq q c k v (ix2 r d)
    = ∑ j, dsr (sc (row q r) (mat k)) (gr (row c r) (mat v)) j * mat k j d := by
  have e : hdq q c k v (ix2 r d) = ∑ j, hds q c k v (ix2 r j) * mat k j d := by
    pointwise [hdq, hds, k0_pay7, k0_pay2, mat]
  rw [e]; exact Finset.sum_congr rfl fun j _ => by rw [hds_at]

theorem hdk_at (j : Fin 256) (d : Fin 128) : hdk q c k v a (ix3 0 j d)
    = a (ix3 0 j d) + ∑ r, dsr (sc (row q r) (mat k)) (gr (row c r) (mat v)) j * row q r d := by
  have e : hdk q c k v a (ix3 0 j d) = a (ix3 0 j d) + ∑ r, hds q c k v (ix2 r j) * row q r d := by
    pointwise [hdk, hds, k0_pay8, row]
  rw [e]; exact congrArg _ (Finset.sum_congr rfl fun r _ => by rw [hds_at])

theorem hdv_at (j : Fin 256) (d : Fin 128) : hdv q c k a (ix3 0 j d)
    = a (ix3 0 j d) + ∑ r, pr (sc (row q r) (mat k)) j * row c r d := by
  have e : hdv q c k a (ix3 0 j d) = a (ix3 0 j d) + ∑ r, k0_pay3 (F := Ideal) q k (ix2 r j) * row c r d := by
    pointwise [hdv, k0_pay4, row]
  rw [e]; exact congrArg _ (Finset.sum_congr rfl fun r _ => by rw [prob_at])

end

/- The four heads' texts are one text. -/
section
variable (q c : Vec Ideal S512x128 .bf16) (k v a : Vec Ideal S1x256x128 .f32)
theorem dq0 : k0_pay7 (F := Ideal) (k0_pay2 k) (k0_pay3 q k) (k0_pay5 v c) = hdq q c k v := rfl
theorem dq1 : k0_pay16 (F := Ideal) (k0_pay9 k) (k0_pay10 v) c (k0_pay11 q k) (k0_pay12 q k) = hdq q c k v := rfl
theorem dq2 : k0_pay24 (F := Ideal) (k0_pay19 k) (k0_pay20 q k) (k0_pay22 q k v c) = hdq q c k v := rfl
theorem dq3 : k0_pay33 (F := Ideal) (k0_pay26 k) (k0_pay27 v) c (k0_pay28 q k) (k0_pay29 q k) = hdq q c k v := rfl
theorem dk0 : k0_pay8 (F := Ideal) q (k0_pay3 q k) (k0_pay5 v c) a = hdk q c k v a := rfl
theorem dk1 : k0_pay18 (F := Ideal) (k0_pay17 q (k0_pay10 v) c (k0_pay11 q k) (k0_pay12 q k) a) = hdk q c k v a := rfl
theorem dk2 : k0_pay25 (F := Ideal) q (k0_pay20 q k) (k0_pay22 q k v c) a = hdk q c k v a := rfl
theorem dk3 : k0_pay34 (F := Ideal) q (k0_pay27 v) c (k0_pay28 q k) (k0_pay29 q k) a = hdk q c k v a := rfl
theorem dv0 : k0_pay4 (F := Ideal) q k c a = hdv q c k a := rfl
theorem dv1 : k0_pay14 (F := Ideal) c (k0_pay11 q k) (k0_pay12 q k) a = hdv q c k a := rfl
theorem dv2 : k0_pay21 (F := Ideal) q k c a = hdv q c k a := rfl
theorem dv3 : k0_pay31 (F := Ideal) c (k0_pay28 q k) (k0_pay29 q k) a = hdv q c k a := rfl
end

/- One head of one block, against the whole arrays. -/
section
open Cert.AttnBwdRefIdeal (REFq REFkv qf kf vf cf Fin01 REFq_at REFk_at REFv_at)

variable (X0 : FVec Ideal S4096x6656 .bf16) (X1 : FVec Ideal S2x256x1024 .f32) (X2 : FVec Ideal S4096x512 .bf16)

/-- What one block of 512 query rows adds to the gradient of keys and values. -/
def part (b : Fin 2) (k : Fin 4) (j : Fin 256) (e : Fin 1024) : EReal :=
  if (e : ℕ) < 512 then
    ∑ r : Fin 512, dsr (sc (qf X0 b ⟨k * 512 + r, by omega⟩ ⟨e / 128 % 4, by omega⟩) (kf X1 b ⟨e / 128 % 4, by omega⟩))
      (gr (cf X2 b ⟨k * 512 + r, by omega⟩ ⟨e / 128 % 4, by omega⟩) (vf X1 b ⟨e / 128 % 4, by omega⟩)) j * qf X0 b ⟨k * 512 + r, by omega⟩ ⟨e / 128 % 4, by omega⟩ ⟨e % 128, by omega⟩
  else
    ∑ r : Fin 512, pr (sc (qf X0 b ⟨k * 512 + r, by omega⟩ ⟨e / 128 % 4, by omega⟩) (kf X1 b ⟨e / 128 % 4, by omega⟩)) j
      * cf X2 b ⟨k * 512 + r, by omega⟩ ⟨e / 128 % 4, by omega⟩ ⟨e % 128, by omega⟩

/-- The blocks' contributions add up to the reference's gradient of keys and values. -/
theorem part_sum (hf : Fin01 X0 X1) (b : Fin 2) (j : Fin 256) (e : Fin 1024) :
    ∑ k, part X0 X1 X2 b k j e = REFkv X0 X1 X2 (ix3 b j e) := by
  have he := e.isLt
  by_cases h : (e : ℕ) < 512
  · have e1 : e = ⟨((⟨e / 128 % 4, by omega⟩ : Fin 4) : ℕ) * 128 + ((⟨e % 128, by omega⟩ : Fin 128) : ℕ), by dsimp only; omega⟩ :=
      Fin.ext (by dsimp only; omega)
    have e2 := REFk_at X0 X1 X2 hf b j ⟨e / 128 % 4, by omega⟩ ⟨e % 128, by omega⟩
    rw [← e1] at e2
    rw [e2]
    simp only [part, if_pos h]
    exact Fin.sum_mul_add_congr fun k r hl => rfl
  · have e1 : e = ⟨512 + (((⟨e / 128 % 4, by omega⟩ : Fin 4) : ℕ) * 128 + ((⟨e % 128, by omega⟩ : Fin 128) : ℕ)), by dsimp only; omega⟩ :=
      Fin.ext (by dsimp only; omega)
    have e2 := REFv_at X0 X1 X2 b j ⟨e / 128 % 4, by omega⟩ ⟨e % 128, by omega⟩
    rw [← e1] at e2
    rw [e2]
    simp only [part, if_neg h]
    exact Fin.sum_mul_add_congr fun k r hl => rfl

variable (q c : FVec Ideal S512x128 .bf16) (k v a : FVec Ideal S1x256x128 .f32)

/-- One head's rows of the queries' gradient. -/
theorem core_q (hf : Fin01 X0 X1) (x : S512x128.Idx) (r : Fin 512) (d : Fin 128) (i : S4096x512.Idx) (b : Fin 2) (s : Fin 2048) (h : Fin 4)
    (x0 : (x 0 : ℕ) = r) (x1 : (x 1 : ℕ) = d) (i0 : (i 0 : ℕ) = b * 2048 + s) (i1 : (i 1 : ℕ) = h * 128 + d)
    (eq : ∀ d, q (ix2 r d) = qf X0 b s h d) (ec : ∀ d, c (ix2 r d) = cf X2 b s h d)
    (ek : ∀ j d, k (ix3 0 j d) = kf X1 b h j d) (ev : ∀ j d, v (ix3 0 j d) = vf X1 b h j d) :
    hdq q c k v x = REFq X0 X1 X2 i := by
  obtain rfl : x = ix2 r d := by funext a; fin_cases a <;> exact Fin.ext (by assumption)
  have hi : i = ix2 ⟨b * 2048 + s, by omega⟩ ⟨h * 128 + d, by omega⟩ := by funext a; fin_cases a <;> exact Fin.ext (by assumption)
  rw [hi, REFq_at X0 X1 X2 hf b s h d, hdq_at,
    show row q r = qf X0 b s h from funext eq, show row c r = cf X2 b s h from funext ec,
    show mat k = kf X1 b h from funext fun j => funext (ek j), show mat v = vf X1 b h from funext fun j => funext (ev j)]

/-- One head's block of the keys' gradient. -/
theorem core_k (x : S1x256x128.Idx) (z : EReal) (b : Fin 2) (t : Fin 4) (j : Fin 256) (e : Fin 1024) (he : (e : ℕ) < 512)
    (x1 : (x 1 : ℕ) = j) (x2 : (x 2 : ℕ) = e % 128) (ea : a x = z)
    (eq : ∀ r d, q (ix2 r d) = qf X0 b ⟨t * 512 + r, by omega⟩ ⟨e / 128 % 4, by omega⟩ d)
    (ec : ∀ r d, c (ix2 r d) = cf X2 b ⟨t * 512 + r, by omega⟩ ⟨e / 128 % 4, by omega⟩ d)
    (ek : ∀ j d, k (ix3 0 j d) = kf X1 b ⟨e / 128 % 4, by omega⟩ j d) (ev : ∀ j d, v (ix3 0 j d) = vf X1 b ⟨e / 128 % 4, by omega⟩ j d) :
    hdk q c k v a x = z + part X0 X1 X2 b t j e := by
  have x0 : (x 0 : ℕ) = 0 := Nat.lt_one_iff.1 (x 0).isLt
  have hx : x = ix3 0 j (⟨e % 128, by omega⟩ : Fin 128) := by funext a; fin_cases a <;> exact Fin.ext (by assumption)
  subst ea
  rw [hx, hdk_at, part, if_pos he,
    show mat k = kf X1 b _ from funext fun j => funext (ek j), show mat v = vf X1 b _ from funext fun j => funext (ev j)]
  refine congrArg _ (Finset.sum_congr rfl fun r _ => ?_)
  rw [show row q r = qf X0 b _ _ from funext (eq r), show row c r = cf X2 b _ _ from funext (ec r)]

/-- One head's block of the values' gradient. -/
theorem core_v (x : S1x256x128.Idx) (z : EReal) (b : Fin 2) (t : Fin 4) (j : Fin 256) (e : Fin 1024) (he : ¬(e : ℕ) < 512)
    (x1 : (x 1 : ℕ) = j) (x2 : (x 2 : ℕ) = e % 128) (ea : a x = z)
    (eq : ∀ r d, q (ix2 r d) = qf X0 b ⟨t * 512 + r, by omega⟩ ⟨e / 128 % 4, by omega⟩ d)
    (ec : ∀ r d, c (ix2 r d) = cf X2 b ⟨t * 512 + r, by omega⟩ ⟨e / 128 % 4, by omega⟩ d)
    (ek : ∀ j d, k (ix3 0 j d) = kf X1 b ⟨e / 128 % 4, by omega⟩ j d) :
    hdv q c k a x = z + part X0 X1 X2 b t j e := by
  have x0 : (x 0 : ℕ) = 0 := Nat.lt_one_iff.1 (x 0).isLt
  have hx : x = ix3 0 j (⟨e % 128, by omega⟩ : Fin 128) := by funext a; fin_cases a <;> exact Fin.ext (by assumption)
  subst ea
  rw [hx, hdv_at, part, if_neg he, show mat k = kf X1 b _ from funext fun j => funext (ek j)]
  refine congrArg _ (Finset.sum_congr rfl fun r _ => ?_)
  rw [show row q r = qf X0 b _ _ from funext (eq r), show row c r = cf X2 b _ _ from funext (ec r)]
end

end Cert.AttnBwdIdeal
end
-- ==== Proof.AttnValQ.lean ====
module

public import proofs.«01_k».proof.Proof.Gen.AttnBwdIdeal.Frame
public import proofs.«01_k».proof.Proof.AttnRef
public import proofs.«01_k».proof.Proof.AttnPay
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnBwdIdeal

open Cert.AttnBwdIdeal.Gen Cert.Attn

variable (m : (ℓ : Loc nD τ sig) → Buf (Elt Ideal) ℓ)

theorem idx : ∀ t : Fin cfg0.N, win0_0.index t = ![(t.val / 4) * 4 + (t.val % 4), 6]
    ∧ win0_1.index t = ![t.val / 4, 0, 0]
    ∧ win0_2.index t = ![(t.val / 4) * 4 + (t.val % 4), 0]
    ∧ win0_3.index t = ![(t.val / 4) * 4 + (t.val % 4), 0]
    ∧ win0_4.index t = ![t.val / 4, 0, 0] :=
  (by decide +kernel : ∀ t : Fin grid0.N, _)

open Cert.AttnBwdRefIdeal (REFq REFkv qf kf vf cf Fin01)

attribute [local irreducible] hdq hdk hdv

set_option maxHeartbeats 1600000 in
/-- One point's rows of the queries' gradient. -/
theorem point_3 (c : Dev nD) (hf : Fin01 (V m c main_arg0) (V m c main_arg1)) (t : Fin cfg0.N) (y) :
    (outsAt0 m c t.val t.isLt).1 y
      = REFq (V m c main_arg0) (V m c main_arg1) (V m c main_arg2) (((cfg0.win 3).blk t).view.emb y) := by
  have ht : t.val < 8 := lt_of_lt_of_eq t.isLt N_0
  by_cases hk : t.val % 4 = 0
  case' pos => rw [outsAt0_A m c t hk]
  case' neg => rw [outsAt0_B m c t hk]
  all_goals
    frame_out
    simp only [dq0, dq1, dq2, dq3]
    canon_tiles x h
    all_goals
      refine core_q _ _ _ _ _ _ _ hf x ⟨y 0, by omega⟩ ⟨(y 1 : ℕ) % 128, by omega⟩ _ ⟨t.val / 4, by omega⟩ ⟨t.val % 4 * 512 + y 0, by omega⟩
        ⟨(y 1 : ℕ) / 128, by omega⟩ ?_ ?_ ?_ ?_ ?_ ?_ ?_ ?_
      · dsimp only; omega
      · dsimp only; omega
      · blk_simp [idx t]; dsimp only; omega
      · blk_simp [idx t]; dsimp only; omega
      · intro d; blk_point [iblk, V, idx t, qf]
      · intro d; blk_point [iblk, V, idx t, cf]
      · intro j d; blk_point [iblk, V, idx t, kf]
      · intro j d; blk_point [iblk, V, idx t, vf]

/-- The first output array is the reference's gradient of the queries. -/
theorem final_3 (c : Dev nD) (hf : Fin01 (V m c main_arg0) (V m c main_arg1)) :
    (dats m 0 c).arrAt 3 (cfgs 0).N = REFq (V m c main_arg0) (V m c main_arg1) (V m c main_arg2) := by
  refine (dats m 0 c).arrAt_eq_of_covers 3 _ (by decide +kernel) fun t hf y => ?_
  blk_simp
  show (dats m 0 c).after 3 t y = _
  rw [after0_3]
  exact point_3 m c ‹_› t y

end Cert.AttnBwdIdeal
end
-- ==== Proof.AttnValKv.lean ====
module

public import proofs.«01_k».proof.Proof.Gen.AttnBwdIdeal.Frame
public import proofs.«01_k».proof.Proof.AttnRef
public import proofs.«01_k».proof.Proof.AttnValQ
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnBwdIdeal

open Cert.AttnBwdIdeal.Gen Cert.Attn

variable (m : (ℓ : Loc nD τ sig) → Buf (Elt Ideal) ℓ)

/-- Stores that cover an index leave there what they leave over any earlier stores. -/
theorem canon_append_cover {Val : EltTy → Type} [∀ e, Nonempty (Val e)] {S : Shape} {e : EltTy} (L' : List (View.Piece Val S e)) :
    ∀ (L : List (View.Piece Val S e)) (y : S.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_cover L' L y ?_
      obtain ⟨q, hq, hyq⟩ := hy
      rcases List.mem_cons.mp hq with rfl | hq'
      · exact absurd hyq hm
      · exact ⟨q, hq', hyq⟩

open Cert.AttnBwdRefIdeal (REFq REFkv qf kf vf cf Fin01)

attribute [local irreducible] hdq hdk hdv
/-- What the point adds to the gradient of keys and values. -/
abbrev add (c : Dev nD) (t : Fin cfg0.N) (y : S1x256x1024.Idx) : EReal :=
  part (V m c main_arg0) (V m c main_arg1) (V m c main_arg2) ⟨t.val / 4, by
    have ht : t.val < 8 := lt_of_lt_of_eq t.isLt N_0
    omega⟩ ⟨t.val % 4, by omega⟩ (y 1) (y 2)

set_option maxHeartbeats 1600000 in
/-- A run's first point leaves its own part. -/
theorem point_4_A (c : Dev nD) (t : Fin cfg0.N) (hk : t.val % 4 = 0) (y) : (outsAt0 m c t.val t.isLt).2 y = 0 + add m c t y := by
  have ht : t.val < 8 := lt_of_lt_of_eq t.isLt N_0
  rw [outsAt0_A m c t hk]
  frame_open
  simp (disch := decide) only [↓View.readCov_skip, ↓View.readCov_fill]
  frame_out
  simp only [dk0, dk1, dk2, dk3, dv0, dv1, dv2, dv3]
  refine (canon_append_cover [_] [_, _, _, _, _, _, _, _] y ?_).trans ?_
  · exact View.cover_of_tiled_head _ _ _ (by rfl) y
  canon_tiles x h
  all_goals first
    | refine core_k _ _ _ _ _ _ _ _ x _ _ _ _ _ ?_ ?_ ?_ ?_ ?_ ?_ ?_ ?_
      · omega
      · omega
      · omega
      · pointwise [k0_pay1]
      · intro r d; blk_point [iblk, V, idx t, qf]
      · intro r d; blk_point [iblk, V, idx t, cf]
      · intro j d; blk_point [iblk, V, idx t, kf]
      · intro j d; blk_point [iblk, V, idx t, vf]
    | refine core_v _ _ _ _ _ _ _ x _ _ _ _ _ ?_ ?_ ?_ ?_ ?_ ?_ ?_
      · omega
      · omega
      · omega
      · pointwise [k0_pay1]
      · intro r d; blk_point [iblk, V, idx t, qf]
      · intro r d; blk_point [iblk, V, idx t, cf]
      · intro j d; blk_point [iblk, V, idx t, kf]

set_option maxHeartbeats 1600000 in
/-- A later point adds its own part. -/
theorem point_4_B (c : Dev nD) (t : Fin cfg0.N) (hk : ¬t.val % 4 = 0) (y) : (outsAt0 m c t.val t.isLt).2 y
    = (outsAt0 m c (t.val - 1) (Nat.lt_of_le_of_lt (Nat.sub_le _ _) t.isLt)).2 y + add m c t y := by
  have ht : t.val < 8 := lt_of_lt_of_eq t.isLt N_0
  rw [outsAt0_B m c t hk]
  frame_out
  generalize (outsAt0 m c (t.val - 1) _).2 = A
  simp only [dk0, dk1, dk2, dk3, dv0, dv1, dv2, dv3]
  canon_tiles x h
  all_goals first
    | refine core_k _ _ _ _ _ _ _ _ x _ _ _ _ _ ?_ ?_ ?_ ?_ ?_ ?_ ?_ ?_
      · omega
      · omega
      · omega
      · refine View.ld_unit_apply_of _ _ _ _ _ _ fun a => ?_
        fin_cases a
        exacts [h0.trans (Nat.zero_add _).symm, h1.trans (Nat.zero_add _).symm, by first | exact h2 | exact h2.trans (Nat.zero_add _).symm]
      · intro r d; blk_point [iblk, V, idx t, qf]
      · intro r d; blk_point [iblk, V, idx t, cf]
      · intro j d; blk_point [iblk, V, idx t, kf]
      · intro j d; blk_point [iblk, V, idx t, vf]
    | refine core_v _ _ _ _ _ _ _ x _ _ _ _ _ ?_ ?_ ?_ ?_ ?_ ?_ ?_
      · omega
      · omega
      · omega
      · refine View.ld_unit_apply_of _ _ _ _ _ _ fun a => ?_
        fin_cases a
        exacts [h0.trans (Nat.zero_add _).symm, h1.trans (Nat.zero_add _).symm, by first | exact h2 | exact h2.trans (Nat.zero_add _).symm]
      · intro r d; blk_point [iblk, V, idx t, qf]
      · intro r d; blk_point [iblk, V, idx t, cf]
      · intro j d; blk_point [iblk, V, idx t, kf]

/-- The second output array is the reference's gradient of keys and values. -/
theorem final_4 (c : Dev nD) (hf : Fin01 (V m c main_arg0) (V m c main_arg1)) :
    (dats m 0 c).arrAt 4 (cfgs 0).N = REFkv (V m c main_arg0) (V m c main_arg1) (V m c main_arg2) := by
  refine (dats m 0 c).arrAt_eq_of_covers 4 _ (by decide +kernel) fun t ht y => ?_
  blk_simp
  rw [after0_4, Pipeline.eq_sum_fin_of_reset_step_apply_of_flush (fun n h => (outsAt0 m c n h).2) 4 (fun _ => 0) (add m c)
    (fun t h j => point_4_A m c t h j) (fun t h j => point_4_B m c t h j) t ((flush0_4 t).mp ht) _, zero_add]
  have ht' : t.val < 8 := lt_of_lt_of_eq t.isLt N_0
  have e : (win0_4.blk t).view.emb y = ix3 (⟨t.val / 4, by omega⟩ : Fin 2) (y 1 : Fin 256) (y 2 : Fin 1024) := by
    have y0 : (y 0 : ℕ) = 0 := Nat.lt_one_iff.1 (y 0).isLt
    funext a; fin_cases a <;> refine Fin.ext ?_ <;> blk_simp [idx t] <;> first | rfl | omega
  rw [e]
  refine Eq.trans ?_ (part_sum _ _ _ hf ⟨t.val / 4, by omega⟩ (y 1) (y 2))
  refine Fin.sum_fin_congr fun s => ?_
  have a0 : (⟨(4 * (t.val / 4) + s.val) / 4, by omega⟩ : Fin 2) = ⟨t.val / 4, by omega⟩ := Fin.ext (by dsimp only; omega)
  have a1 : (⟨(4 * (t.val / 4) + s.val) % 4, by omega⟩ : Fin 4) = s := Fin.ext (by dsimp only; omega)
  unfold add
  rw [a0, a1]

end Cert.AttnBwdIdeal
end
-- ==== Proof.Attn.lean ====
/- The claims about the attention gradient: what the precondition gives, and the two programs' results equal. -/
module

public import proofs.«01_k».proof.Defs
public import proofs.«01_k».proof.Proof.Gen.AttnBwdIdeal.Value
public import proofs.«01_k».proof.Proof.Gen.AttnBwdRefIdeal.Run
public import proofs.«01_k».proof.Proof.AttnValKv
public import proofs.«01_k».proof.Proof.Gen.Pre_attn_finite
public import Idealize.ShloMosaic.Adequacy

@[expose] public section

noncomputable section

namespace Cert.Proof

open Idealize.ShloMosaic Idealize.SL.Sem Cert.AttnBwd

/-- A value whose magnitude compares below infinity is finite. -/
theorem real_of_lt {z : EReal} (h : max z (-z) < ⊤) : ∃ r : ℝ, z = r := by
  induction z with
  | bot => simp at h
  | top => simp at h
  | coe r => exact ⟨r, rfl⟩

theorem inf16 : Ideal.ofBits .bf16 0x7F80#16 = ⊤ := by simp [Ideal.ofBits, Ideal.ieee]
theorem inf32 : Ideal.ofBits .f32 0x7F800000#32 = ⊤ := by simp [Ideal.ofBits, Ideal.ieee]

/-- What the precondition says of one element. -/
theorem real_of_bit {z w : EReal} (hw : w = ⊤) (e : BitVec.ofBool (decide (max z (-z) < w)) = 1#1) : ∃ r : ℝ, z = r := by
  subst hw
  refine real_of_lt ?_
  by_contra hn
  rw [decide_eq_false hn] at e
  exact absurd e (by decide)

theorem fin01 (m) (c : Dev Cert.AttnBwdIdeal.nD) (h : Pre_AttnBwdIdeal_attn_finite (hPre_attn_finite := Cert.Pre_attn_finite.Gen.facts) m) :
    Cert.AttnBwdRefIdeal.Fin01 (Cert.AttnBwdIdeal.Gen.V m c Cert.AttnBwdIdeal.main_arg0) (Cert.AttnBwdIdeal.Gen.V m c Cert.AttnBwdIdeal.main_arg1) := by
  refine ⟨fun b s h' d => ?_, fun b h' j d => ?_⟩
  · have e := congrFun (h c).1 (ix2 ⟨b * 2048 + s, by omega⟩ ⟨h' * 128 + d, by omega⟩)
    unfold Cert.Pre_attn_finite.fn at e
    pointwise at e
    exact real_of_bit inf16 e
  · have e := congrFun (h c).2 (ix3 b j ⟨h' * 128 + d, by omega⟩)
    unfold Cert.Pre_attn_finite.fn at e
    pointwise at e
    exact real_of_bit inf32 e

theorem value_attn : algebraic_AttnBwdIdeal_AttnBwdRefIdeal_pre_attn_finite (hPre_attn_finite := Cert.Pre_attn_finite.Gen.facts) := by
  intro m g m' g' hpre hagree
  refine ⟨_, _, (θ_run _ _ _).mono (fun r h c => h c) (Cert.AttnBwdIdeal.Value.run_blocks m g),
    (θ_run _ _ _).mono (fun r h c => ?_) (Cert.AttnBwdRefIdeal.Value.run m' g')⟩
  obtain ⟨e0, e1, e2⟩ := hagree c
  have hf := fin01 m c hpre
  refine ⟨(h c).1.trans (Eq.trans ?_ (Cert.AttnBwdIdeal.final_3 m c hf).symm), (h c).2.1.trans (Eq.trans ?_ (Cert.AttnBwdIdeal.final_4 m c hf).symm), (h c).2.2⟩
  · have hq : Cert.AttnBwdRefIdeal.Value.res_main_v70 m' c = Cert.AttnBwdRefIdeal.REFq (m' ((c.tc : Thread _ _).loc Cert.AttnBwdRefIdeal.main_arg0)) (m' ((c.tc : Thread _ _).loc Cert.AttnBwdRefIdeal.main_arg1)) (m' ((c.tc : Thread _ _).loc Cert.AttnBwdRefIdeal.main_arg2)) := rfl
    rw [hq, e0, e1, e2]
  · have hq : Cert.AttnBwdRefIdeal.Value.res_main_v69 m' c = Cert.AttnBwdRefIdeal.REFkv (m' ((c.tc : Thread _ _).loc Cert.AttnBwdRefIdeal.main_arg0)) (m' ((c.tc : Thread _ _).loc Cert.AttnBwdRefIdeal.main_arg1)) (m' ((c.tc : Thread _ _).loc Cert.AttnBwdRefIdeal.main_arg2)) := rfl
    rw [hq, e0, e1, e2]

/-- The reference of the attention gradient runs and leaves its arguments and counters. -/
theorem frame_attn_ref : quiescent_AttnBwdRefIdeal := fun m g _ =>
  (θ_run _ _ _).mono (fun r h => ⟨fun c => (h c).2.2, sem_eq_zero_of_no_sems (by decide) r.2⟩) (Cert.AttnBwdRefIdeal.Value.run m g)

end Cert.Proof

end
-- ==== Proof.DwDown.lean ====
/- The down projection's weight gradient: each output tile sums four blocks of rows, and the sum over
   the blocks is the reference's contraction over all rows. -/
module

public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DwDownRefIdeal
open Cert.DwDownRefIdeal.Gen

/-- The reference's result, of its two arguments. -/
def REF (X0 : FVec Ideal S4096x2816 .bf16) (X1 : FVec Ideal S4096x1024 .bf16) : FVec Ideal S2816x1024 .bf16 :=
  truncf .bf16 (transpose S2816x1024 [1, 0] (Host.dotGeneral dot_S4096x1024_S4096x2816_S1024x2816_0_0_1_1_n_n none (extf .f32 X1 bitsLt_bf16_f32) (extf .f32 X0 bitsLt_bf16_f32)) transposes_S1024x2816_S2816x1024_1_0) bitsLt_bf16_f32

theorem REF_at (X0 X1) (y : S2816x1024.Idx) : REF X0 X1 y = ∑ l : Fin 4096, X0 (ix2 l (y 0)) * X1 (ix2 l (y 1)) := by
  have e : REF X0 X1 y = ∑ l : Fin 4096, X1 (ix2 l (y 1)) * X0 (ix2 l (y 0)) := by pointwise [REF]
  rw [e]
  exact Fin.sum_fin_congr fun l => mul_comm _ _

end Cert.DwDownRefIdeal

namespace Cert.DwDownIdeal
open Cert.DwDownIdeal.Gen
open Cert.DwDownRefIdeal (REF REF_at)

variable (m : (ℓ : Loc nD τ sig) → Buf (Elt Ideal) ℓ)

theorem idx : ∀ t : Fin cfg0.N, win0_0.index t = ![t.val % 4, t.val / 4]
    ∧ win0_1.index t = ![t.val % 4, 0] ∧ win0_2.index t = ![t.val / 4, 0] :=
  (by decide +kernel : ∀ t : Fin grid0.N, _)

/-- What a point adds: its block of rows contracted. -/
abbrev add (c : Dev nD) (t : Fin cfg0.N) (y : S1408x1024.Idx) : EReal :=
  ∑ k : Fin 1024, (show FVec Ideal S1024x1408 .bf16 from iblk m c 0 t) (ix2 k (y 0)) * (show FVec Ideal S1024x1024 .bf16 from iblk m c 1 t) (ix2 k (y 1))

/-- The running sum: the scratch until a run's last point, which writes the output. -/
def acc (c : Dev nD) (n : ℕ) (h : n < cfg0.N) (y : S1408x1024.Idx) : EReal :=
  if n % 4 = 3 then (outsAt0 m c n h).1 y else (outsAt0 m c n h).2 y

theorem hp2 (a b) (y) : k0_pay2 (F := Ideal) a b y = 0 + ∑ k : Fin 1024, a (ix2 k (y 0)) * b (ix2 k (y 1)) := by
  rw [zero_add]; pointwise [k0_pay2, k0_pay1]
theorem hp3 (a b v) (y) : k0_pay3 (F := Ideal) a b v y = v y + ∑ k : Fin 1024, a (ix2 k (y 0)) * b (ix2 k (y 1)) := by
  pointwise [k0_pay3, k0_pay1]
theorem hp4 (a b v) (y) : k0_pay4 (F := Ideal) a b v y = v y + ∑ k : Fin 1024, a (ix2 k (y 0)) * b (ix2 k (y 1)) := by
  pointwise [k0_pay4, k0_pay1]

/-- A run's first point starts the sum. -/
theorem acc_first (c : Dev nD) (t : Fin cfg0.N) (hk : t.val % 4 = 0) (y) : acc m c t.val t.isLt y = 0 + add m c t y := by
  unfold acc
  rw [if_neg (by omega), outsAt0_A m c t hk (by omega) (by omega)]
  frame_out
  rw [hp2]

/-- A later point adds to it. -/
theorem acc_next (c : Dev nD) (t : Fin cfg0.N) (hk : ¬t.val % 4 = 0) (y) : acc m c t.val t.isLt y
    = acc m c (t.val - 1) (Nat.lt_of_le_of_lt (Nat.sub_le _ _) t.isLt) y + add m c t y := by
  unfold acc
  rw [if_neg (by omega : ¬(t.val - 1) % 4 = 3)]
  by_cases h3 : t.val % 4 = 3
  · rw [if_pos h3, outsAt0_C m c t hk (by omega) h3]
    frame_out
    generalize (outsAt0 m c (t.val - 1) _).2 = A
    rw [hp4, read_unread_whole]
  · rw [if_neg h3, outsAt0_B m c t hk (by omega) h3]
    frame_out
    generalize (outsAt0 m c (t.val - 1) _).2 = A
    rw [hp3, read_unread_whole]

/-- The output array is the reference's. -/
theorem final (c : Dev nD) : (dats m 0 c).arrAt 2 (cfgs 0).N = REF (V m c main_arg0) (V m c main_arg1) := by
  refine (dats m 0 c).arrAt_eq_of_covers 2 _ (by decide +kernel) fun t ht y => ?_
  blk_simp
  have h3 : t.val % 4 = 3 := (flush0_2 t).mp ht
  have e : (outsAt0 m c t.val t.isLt).1 y = acc m c t.val t.isLt y := by unfold acc; rw [if_pos h3]
  rw [after0_2, e, Pipeline.eq_sum_fin_of_reset_step_apply_of_flush (acc m c) 4 (fun _ => 0) (add m c)
    (fun t h j => acc_first m c t h j) (fun t h j => acc_next m c t h j) t h3 _, zero_add, REF_at]
  refine Fin.sum_mul_add_congr fun s k hl => ?_
  blk_point [iblk, V, idx t, idx ⟨_, Pipeline.run_point_lt_of_flush t h3 s⟩]

end Cert.DwDownIdeal

end
-- ==== Proof.DwUpA.lean ====
/- The up projection's weight gradient, first half: it is written into the first half of the rows of a
   buffer whose other rows stay as given. -/
module

public import proofs.«01_k».proof.Proof.Gen.DwUpAIdeal.Frame
public import proofs.«01_k».proof.Proof.Gen.DwUpAIdeal.Value
public import proofs.«01_k».proof.Proof.Gen.DwUpARefIdeal
public import proofs.«01_k».proof.Proof.Gen.DwUpARefIdeal.Run
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DwUpARefIdeal
open Cert.DwUpARefIdeal.Gen

/-- The reference's result, of its three arguments. -/
def REF (X0 : FVec Ideal S4096x2816 .bf16) (X1 : FVec Ideal S4096x1024 .bf16) (X2 : FVec Ideal S5632x1024 .bf16) : FVec Ideal S5632x1024 .bf16 :=
  concatenate S5632x1024 0 [⟨S2816x1024, (transpose S2816x1024 [1, 0] (truncf .bf16 (transpose S1024x2816 [1, 0] (Host.dotGeneral dot_S4096x2816_S4096x1024_S2816x1024_0_0_1_1_n_n none (extf .f32 X0 bitsLt_bf16_f32) (extf .f32 X1 bitsLt_bf16_f32)) transposes_S2816x1024_S1024x2816_1_0) bitsLt_bf16_f32) transposes_S1024x2816_S2816x1024_1_0)⟩, ⟨S2816x1024, (extractStridedSlice S2816x1024 ![2816, 0] X2 slices_S5632x1024_S2816x1024_2816_0)⟩] concatenates_S2816x1024_S2816x1024_S5632x1024_d0

theorem REF_new (X0 X1 X2) (y : S5632x1024.Idx) (i : Fin 2816) (j : Fin 1024) (h0 : (y 0 : ℕ) = i) (h1 : (y 1 : ℕ) = j) :
    REF X0 X1 X2 y = ∑ l : Fin 4096, X0 (ix2 l i) * X1 (ix2 l j) := by
  have e : y = ix2 (⟨i, by omega⟩ : Fin 5632) j := by
    funext a; fin_cases a <;> refine Fin.ext ?_
    exacts [h0, h1]
  rw [e]
  pointwise [REF]

theorem REF_old (X0 X1 X2) (y : S5632x1024.Idx) (i : Fin 2816) (h0 : (y 0 : ℕ) = 2816 + i) : REF X0 X1 X2 y = X2 y := by
  have e : y = ix2 (⟨2816 + i, by omega⟩ : Fin 5632) (y 1 : Fin 1024) := by
    funext a; fin_cases a <;> refine Fin.ext ?_
    exacts [h0, rfl]
  rw [e]
  pointwise [REF]

end Cert.DwUpARefIdeal

namespace Cert.DwUpAIdeal
open Cert.DwUpAIdeal.Gen
open Cert.DwUpARefIdeal (REF REF_new REF_old)

variable (m : (ℓ : Loc nD τ sig) → Buf (Elt Ideal) ℓ)

theorem idx : ∀ t : Fin cfg0.N, win0_0.index t = ![t.val % 4, t.val / 4]
    ∧ win0_1.index t = ![t.val % 4, 0] ∧ win0_2.index t = ![t.val / 4, 0] :=
  (by decide +kernel : ∀ t : Fin grid0.N, _)

/-- What a point adds: its block of rows contracted. -/
abbrev add (c : Dev nD) (t : Fin cfg0.N) (y : S1408x1024.Idx) : EReal :=
  ∑ k : Fin 1024, (show FVec Ideal S1024x1408 .bf16 from iblk m c 0 t) (ix2 k (y 0)) * (show FVec Ideal S1024x1024 .bf16 from iblk m c 1 t) (ix2 k (y 1))

/-- The running sum: the scratch until a run's last point, which writes the output. -/
def acc (c : Dev nD) (n : ℕ) (h : n < cfg0.N) (y : S1408x1024.Idx) : EReal :=
  if n % 4 = 3 then (outsAt0 m c n h).1 y else (outsAt0 m c n h).2 y

theorem hp2 (a b) (y) : k0_pay2 (F := Ideal) a b y = 0 + ∑ k : Fin 1024, a (ix2 k (y 0)) * b (ix2 k (y 1)) := by
  rw [zero_add]; pointwise [k0_pay2, k0_pay1]
theorem hp3 (a b v) (y) : k0_pay3 (F := Ideal) a b v y = v y + ∑ k : Fin 1024, a (ix2 k (y 0)) * b (ix2 k (y 1)) := by
  pointwise [k0_pay3, k0_pay1]
theorem hp4 (a b v) (y) : k0_pay4 (F := Ideal) a b v y = v y + ∑ k : Fin 1024, a (ix2 k (y 0)) * b (ix2 k (y 1)) := by
  pointwise [k0_pay4, k0_pay1]

/-- A run's first point starts the sum. -/
theorem acc_first (c : Dev nD) (t : Fin cfg0.N) (hk : t.val % 4 = 0) (y) : acc m c t.val t.isLt y = 0 + add m c t y := by
  unfold acc
  rw [if_neg (by omega), outsAt0_A m c t hk (by omega) (by omega)]
  frame_out
  rw [hp2]

/-- A later point adds to it. -/
theorem acc_next (c : Dev nD) (t : Fin cfg0.N) (hk : ¬t.val % 4 = 0) (y) : acc m c t.val t.isLt y
    = acc m c (t.val - 1) (Nat.lt_of_le_of_lt (Nat.sub_le _ _) t.isLt) y + add m c t y := by
  unfold acc
  rw [if_neg (by omega : ¬(t.val - 1) % 4 = 3)]
  by_cases h3 : t.val % 4 = 3
  · rw [if_pos h3, outsAt0_C m c t hk (by omega) h3]
    frame_out
    generalize (outsAt0 m c (t.val - 1) _).2 = A
    rw [hp4, read_unread_whole]
  · rw [if_neg h3, outsAt0_B m c t hk (by omega) h3]
    frame_out
    generalize (outsAt0 m c (t.val - 1) _).2 = A
    rw [hp3, read_unread_whole]

/-- A result row that is not written is the given one. -/
theorem V_out (c : Dev nD) : V m c main_v0 = V m c main_arg2 := by
  unfold V; after_results; try rfl

/-- The output array is the reference's. -/
theorem final (c : Dev nD) : (dats m 0 c).arrAt 2 (cfgs 0).N = REF (V m c main_arg0) (V m c main_arg1) (V m c main_arg2) := by
  have e : (dats m 0 c).arrAt 2 (cfgs 0).N = fun i => if (i 0 : ℕ) < 2816 then REF (V m c main_arg0) (V m c main_arg1) (V m c main_arg2) i else V m c main_v0 i := by
    refine (dats m 0 c).arrAt_eq_of_coversWhere 2 _ (fun β => β 0 < 2) (by decide +kernel) (fun t ht y => ?_)
      (fun j => by blk_simp [Pipeline.Window.cell_apply]; omega)
    blk_simp
    have h3 : t.val % 4 = 3 := (flush0_2 t).mp ht
    have hn : t.val < 8 := lt_of_lt_of_eq t.isLt N_0
    have e : (outsAt0 m c t.val t.isLt).1 y = acc m c t.val t.isLt y := by unfold acc; rw [if_pos h3]
    have y0 : (y 0 : ℕ) < 1408 := (y 0).isLt
    rw [after0_2, e, Pipeline.eq_sum_fin_of_reset_step_apply_of_flush (acc m c) 4 (fun _ => 0) (add m c)
      (fun t h j => acc_first m c t h j) (fun t h j => acc_next m c t h j) t h3 _, zero_add]
    refine Eq.trans ?_ (REF_new _ _ _ _ (⟨t.val / 4 * 1408 + (y 0 : ℕ), by omega⟩ : Fin 2816) (y 1 : Fin 1024) (by blk_simp [idx t]) (by blk_simp [idx t])).symm
    refine Fin.sum_mul_add_congr fun s k hl => ?_
    blk_point [iblk, V, idx t, idx ⟨_, Pipeline.run_point_lt_of_flush t h3 s⟩]
  rw [e]
  funext i
  split_ifs with h
  · rfl
  · have h0 : (i 0 : ℕ) < 5632 := (i 0).isLt
    exact (congrFun (V_out m c) i).trans (REF_old _ _ _ i (⟨(i 0 : ℕ) - 2816, by omega⟩ : Fin 2816) (by dsimp only; omega)).symm

end Cert.DwUpAIdeal

end
-- ==== Proof.DwUpB.lean ====
/- The up projection's weight gradient, second half: it is written into the second half of the rows of a
   buffer whose other rows stay as given. -/
module

public import proofs.«01_k».proof.Proof.Gen.DwUpBIdeal.Frame
public import proofs.«01_k».proof.Proof.Gen.DwUpBIdeal.Value
public import proofs.«01_k».proof.Proof.Gen.DwUpBRefIdeal
public import proofs.«01_k».proof.Proof.Gen.DwUpBRefIdeal.Run
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DwUpBRefIdeal
open Cert.DwUpBRefIdeal.Gen

/-- The reference's result, of its three arguments. -/
def REF (X0 : FVec Ideal S4096x2816 .bf16) (X1 : FVec Ideal S4096x1024 .bf16) (X2 : FVec Ideal S5632x1024 .bf16) : FVec Ideal S5632x1024 .bf16 :=
  concatenate S5632x1024 0 [⟨S2816x1024, (extractStridedSlice S2816x1024 ![0, 0] X2 slices_S5632x1024_S2816x1024_0_0)⟩, ⟨S2816x1024, (transpose S2816x1024 [1, 0] (truncf .bf16 (transpose S1024x2816 [1, 0] (Host.dotGeneral dot_S4096x2816_S4096x1024_S2816x1024_0_0_1_1_n_n none (extf .f32 X0 bitsLt_bf16_f32) (extf .f32 X1 bitsLt_bf16_f32)) transposes_S2816x1024_S1024x2816_1_0) bitsLt_bf16_f32) transposes_S1024x2816_S2816x1024_1_0)⟩] concatenates_S2816x1024_S2816x1024_S5632x1024_d0

theorem REF_new (X0 X1 X2) (y : S5632x1024.Idx) (i : Fin 2816) (j : Fin 1024) (h0 : (y 0 : ℕ) = 2816 + i) (h1 : (y 1 : ℕ) = j) :
    REF X0 X1 X2 y = ∑ l : Fin 4096, X0 (ix2 l i) * X1 (ix2 l j) := by
  have e : y = ix2 (⟨2816 + i, by omega⟩ : Fin 5632) j := by
    funext a; fin_cases a <;> refine Fin.ext ?_
    exacts [h0, h1]
  rw [e]
  pointwise [REF]

theorem REF_old (X0 X1 X2) (y : S5632x1024.Idx) (i : Fin 2816) (h0 : (y 0 : ℕ) = i) : REF X0 X1 X2 y = X2 y := by
  have e : y = ix2 (⟨i, by omega⟩ : Fin 5632) (y 1 : Fin 1024) := by
    funext a; fin_cases a <;> refine Fin.ext ?_
    exacts [h0, rfl]
  rw [e]
  pointwise [REF]

end Cert.DwUpBRefIdeal

namespace Cert.DwUpBIdeal
open Cert.DwUpBIdeal.Gen
open Cert.DwUpBRefIdeal (REF REF_new REF_old)

variable (m : (ℓ : Loc nD τ sig) → Buf (Elt Ideal) ℓ)

theorem idx : ∀ t : Fin cfg0.N, win0_0.index t = ![t.val % 4, t.val / 4]
    ∧ win0_1.index t = ![t.val % 4, 0] ∧ win0_2.index t = ![t.val / 4 + 2, 0] :=
  (by decide +kernel : ∀ t : Fin grid0.N, _)

/-- What a point adds: its block of rows contracted. -/
abbrev add (c : Dev nD) (t : Fin cfg0.N) (y : S1408x1024.Idx) : EReal :=
  ∑ k : Fin 1024, (show FVec Ideal S1024x1408 .bf16 from iblk m c 0 t) (ix2 k (y 0)) * (show FVec Ideal S1024x1024 .bf16 from iblk m c 1 t) (ix2 k (y 1))

/-- The running sum: the scratch until a run's last point, which writes the output. -/
def acc (c : Dev nD) (n : ℕ) (h : n < cfg0.N) (y : S1408x1024.Idx) : EReal :=
  if n % 4 = 3 then (outsAt0 m c n h).1 y else (outsAt0 m c n h).2 y

theorem hp2 (a b) (y) : k0_pay2 (F := Ideal) a b y = 0 + ∑ k : Fin 1024, a (ix2 k (y 0)) * b (ix2 k (y 1)) := by
  rw [zero_add]; pointwise [k0_pay2, k0_pay1]
theorem hp3 (a b v) (y) : k0_pay3 (F := Ideal) a b v y = v y + ∑ k : Fin 1024, a (ix2 k (y 0)) * b (ix2 k (y 1)) := by
  pointwise [k0_pay3, k0_pay1]
theorem hp4 (a b v) (y) : k0_pay4 (F := Ideal) a b v y = v y + ∑ k : Fin 1024, a (ix2 k (y 0)) * b (ix2 k (y 1)) := by
  pointwise [k0_pay4, k0_pay1]

/-- A run's first point starts the sum. -/
theorem acc_first (c : Dev nD) (t : Fin cfg0.N) (hk : t.val % 4 = 0) (y) : acc m c t.val t.isLt y = 0 + add m c t y := by
  unfold acc
  rw [if_neg (by omega), outsAt0_A m c t hk (by omega) (by omega)]
  frame_out
  rw [hp2]

/-- A later point adds to it. -/
theorem acc_next (c : Dev nD) (t : Fin cfg0.N) (hk : ¬t.val % 4 = 0) (y) : acc m c t.val t.isLt y
    = acc m c (t.val - 1) (Nat.lt_of_le_of_lt (Nat.sub_le _ _) t.isLt) y + add m c t y := by
  unfold acc
  rw [if_neg (by omega : ¬(t.val - 1) % 4 = 3)]
  by_cases h3 : t.val % 4 = 3
  · rw [if_pos h3, outsAt0_C m c t hk (by omega) h3]
    frame_out
    generalize (outsAt0 m c (t.val - 1) _).2 = A
    rw [hp4, read_unread_whole]
  · rw [if_neg h3, outsAt0_B m c t hk (by omega) h3]
    frame_out
    generalize (outsAt0 m c (t.val - 1) _).2 = A
    rw [hp3, read_unread_whole]

/-- A result row that is not written is the given one. -/
theorem V_out (c : Dev nD) : V m c main_v0 = V m c main_arg2 := by
  unfold V; after_results; try rfl

/-- The output array is the reference's. -/
theorem final (c : Dev nD) : (dats m 0 c).arrAt 2 (cfgs 0).N = REF (V m c main_arg0) (V m c main_arg1) (V m c main_arg2) := by
  have e : (dats m 0 c).arrAt 2 (cfgs 0).N = fun i => if 2816 ≤ (i 0 : ℕ) then REF (V m c main_arg0) (V m c main_arg1) (V m c main_arg2) i else V m c main_v0 i := by
    refine (dats m 0 c).arrAt_eq_of_coversWhere 2 _ (fun β => 2 ≤ β 0) (by decide +kernel) (fun t ht y => ?_)
      (fun j => by blk_simp [Pipeline.Window.cell_apply]; omega)
    blk_simp
    have h3 : t.val % 4 = 3 := (flush0_2 t).mp ht
    have hn : t.val < 8 := lt_of_lt_of_eq t.isLt N_0
    have e : (outsAt0 m c t.val t.isLt).1 y = acc m c t.val t.isLt y := by unfold acc; rw [if_pos h3]
    have y0 : (y 0 : ℕ) < 1408 := (y 0).isLt
    rw [after0_2, e, Pipeline.eq_sum_fin_of_reset_step_apply_of_flush (acc m c) 4 (fun _ => 0) (add m c)
      (fun t h j => acc_first m c t h j) (fun t h j => acc_next m c t h j) t h3 _, zero_add]
    refine Eq.trans ?_ (REF_new _ _ _ _ (⟨t.val / 4 * 1408 + (y 0 : ℕ), by omega⟩ : Fin 2816) (y 1 : Fin 1024) (by
      blk_simp [idx t]
      show _ = 2816 + (t.val / 4 * 1408 + (y 0 : ℕ))
      omega) (by blk_simp [idx t])).symm
    refine Fin.sum_mul_add_congr fun s k hl => ?_
    blk_point [iblk, V, idx t, idx ⟨_, Pipeline.run_point_lt_of_flush t h3 s⟩]
  rw [e]
  funext i
  split_ifs with h
  · rfl
  · have h0 : (i 0 : ℕ) < 5632 := (i 0).isLt
    exact (congrFun (V_out m c) i).trans (REF_old _ _ _ i (⟨(i 0 : ℕ), by omega⟩ : Fin 2816) rfl).symm

end Cert.DwUpBIdeal

end
-- ==== Proof.DwProjA.lean ====
/- The input projection's weight gradient, first half of its columns: each tile contracts all rows at once. -/
module

public import proofs.«01_k».proof.Proof.Gen.DwProjAIdeal.Frame
public import proofs.«01_k».proof.Proof.Gen.DwProjAIdeal.Value
public import proofs.«01_k».proof.Proof.Gen.DwProjARefIdeal
public import proofs.«01_k».proof.Proof.Gen.DwProjARefIdeal.Run
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DwProjARefIdeal
open Cert.DwProjARefIdeal.Gen

/-- The reference's result, of its two arguments. -/
def REF (X0 : FVec Ideal S4096x6656 .bf16) (X1 : FVec Ideal S4096x1024 .bf16) : FVec Ideal S6656x512 .bf16 :=
  transpose S6656x512 [1, 0] (truncf .bf16 (transpose S512x6656 [1, 0] (Host.dotGeneral dot_S4096x6656_S4096x512_S6656x512_0_0_1_1_n_n none (extf .f32 X0 bitsLt_bf16_f32) (extf .f32 (extractStridedSlice S4096x512 ![0, 0] X1 slices_S4096x1024_S4096x512_0_0) bitsLt_bf16_f32)) transposes_S6656x512_S512x6656_1_0) bitsLt_bf16_f32) transposes_S512x6656_S6656x512_1_0

theorem REF_at (X0 X1) (y : S6656x512.Idx) : REF X0 X1 y
    = ∑ l : Fin 4096, X0 (ix2 l (y 0)) * X1 (ix2 l (⟨0 + (y 1 : ℕ), by have : (y 1 : ℕ) < 512 := (y 1).isLt; omega⟩ : Fin 1024)) := by
  pointwise [REF]

end Cert.DwProjARefIdeal

namespace Cert.DwProjAIdeal
open Cert.DwProjAIdeal.Gen
open Cert.DwProjARefIdeal (REF REF_at)

variable (m : (ℓ : Loc nD τ sig) → Buf (Elt Ideal) ℓ)

theorem idx : ∀ t : Fin cfg0.N, win0_0.index t = ![0, t.val]
    ∧ win0_1.index t = ![0, 0] ∧ win0_2.index t = ![t.val, 0] :=
  (by decide +kernel : ∀ t : Fin grid0.N, _)

theorem hp1 (a b) (y) : k0_pay1 (F := Ideal) a b y = ∑ k : Fin 4096, a (ix2 k (y 0)) * b (ix2 k (y 1)) := by
  pointwise [k0_pay1]

/-- The output array is the reference's. -/
theorem final (c : Dev nD) : (dats m 0 c).arrAt 2 (cfgs 0).N = REF (V m c main_arg0) (V m c main_arg1) := by
  refine (dats m 0 c).arrAt_eq_of_covers 2 _ (by decide +kernel) fun t ht y => ?_
  blk_simp
  have hn : t.val < 13 := lt_of_lt_of_eq t.isLt N_0
  have y0 : (y 0 : ℕ) < 512 := (y 0).isLt
  rw [after0_2, REF_at]
  frame_out
  rw [hp1]
  refine Fin.sum_fin_congr fun l => ?_
  blk_point [iblk, V, idx t]

end Cert.DwProjAIdeal
end
-- ==== Proof.DwProjB.lean ====
/- The input projection's weight gradient, second half of its columns: each tile contracts all rows at once. -/
module

public import proofs.«01_k».proof.Proof.Gen.DwProjBIdeal.Frame
public import proofs.«01_k».proof.Proof.Gen.DwProjBIdeal.Value
public import proofs.«01_k».proof.Proof.Gen.DwProjBRefIdeal
public import proofs.«01_k».proof.Proof.Gen.DwProjBRefIdeal.Run
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DwProjBRefIdeal
open Cert.DwProjBRefIdeal.Gen

/-- The reference's result, of its two arguments. -/
def REF (X0 : FVec Ideal S4096x6656 .bf16) (X1 : FVec Ideal S4096x1024 .bf16) : FVec Ideal S6656x512 .bf16 :=
  transpose S6656x512 [1, 0] (truncf .bf16 (transpose S512x6656 [1, 0] (Host.dotGeneral dot_S4096x6656_S4096x512_S6656x512_0_0_1_1_n_n none (extf .f32 X0 bitsLt_bf16_f32) (extf .f32 (extractStridedSlice S4096x512 ![0, 512] X1 slices_S4096x1024_S4096x512_0_512) bitsLt_bf16_f32)) transposes_S6656x512_S512x6656_1_0) bitsLt_bf16_f32) transposes_S512x6656_S6656x512_1_0

theorem REF_at (X0 X1) (y : S6656x512.Idx) : REF X0 X1 y
    = ∑ l : Fin 4096, X0 (ix2 l (y 0)) * X1 (ix2 l (⟨512 + (y 1 : ℕ), by have : (y 1 : ℕ) < 512 := (y 1).isLt; omega⟩ : Fin 1024)) := by
  pointwise [REF]

end Cert.DwProjBRefIdeal

namespace Cert.DwProjBIdeal
open Cert.DwProjBIdeal.Gen
open Cert.DwProjBRefIdeal (REF REF_at)

variable (m : (ℓ : Loc nD τ sig) → Buf (Elt Ideal) ℓ)

theorem idx : ∀ t : Fin cfg0.N, win0_0.index t = ![0, t.val]
    ∧ win0_1.index t = ![0, 1] ∧ win0_2.index t = ![t.val, 0] :=
  (by decide +kernel : ∀ t : Fin grid0.N, _)

theorem hp1 (a b) (y) : k0_pay1 (F := Ideal) a b y = ∑ k : Fin 4096, a (ix2 k (y 0)) * b (ix2 k (y 1)) := by
  pointwise [k0_pay1]

/-- The output array is the reference's. -/
theorem final (c : Dev nD) : (dats m 0 c).arrAt 2 (cfgs 0).N = REF (V m c main_arg0) (V m c main_arg1) := by
  refine (dats m 0 c).arrAt_eq_of_covers 2 _ (by decide +kernel) fun t ht y => ?_
  blk_simp
  have hn : t.val < 13 := lt_of_lt_of_eq t.isLt N_0
  have y0 : (y 0 : ℕ) < 512 := (y 0).isLt
  rw [after0_2, REF_at]
  frame_out
  rw [hp1]
  refine Fin.sum_fin_congr fun l => ?_
  blk_point [iblk, V, idx t]

end Cert.DwProjBIdeal
end
-- ==== Proof.DwKv.lean ====
/- The weight gradient of keys and values: one product over all rows. -/
module

public import proofs.«01_k».proof.Proof.Gen.DwKvIdeal.Frame
public import proofs.«01_k».proof.Proof.Gen.DwKvIdeal.Value
public import proofs.«01_k».proof.Proof.Gen.DwKvRefIdeal
public import proofs.«01_k».proof.Proof.Gen.DwKvRefIdeal.Run
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DwKvRefIdeal
open Cert.DwKvRefIdeal.Gen

/-- The reference's result, of its two arguments. -/
def REF (X0 : FVec Ideal S512x1024 .bf16) (X1 : FVec Ideal S512x1024 .f32) : FVec Ideal S1024x1024 .bf16 :=
  truncf .bf16 (transpose S1024x1024 [1, 0] (Host.dotGeneral dot_S512x1024_S512x1024_S1024x1024_0_0_1_1_n_n none X1 (extf .f32 X0 bitsLt_bf16_f32)) transposes_S1024x1024_S1024x1024_1_0) bitsLt_bf16_f32

theorem REF_at (X0 X1) (y : S1024x1024.Idx) : REF X0 X1 y = ∑ l : Fin 512, X0 (ix2 l (y 0)) * X1 (ix2 l (y 1)) := by
  have e : REF X0 X1 y = ∑ l : Fin 512, X1 (ix2 l (y 1)) * X0 (ix2 l (y 0)) := by pointwise [REF]
  rw [e]
  exact Fin.sum_fin_congr fun l => mul_comm _ _

end Cert.DwKvRefIdeal

namespace Cert.DwKvIdeal
open Cert.DwKvIdeal.Gen
open Cert.DwKvRefIdeal (REF REF_at)

variable (m : (ℓ : Loc nD τ sig) → Buf (Elt Ideal) ℓ)

theorem idx : ∀ t : Fin cfg0.N, win0_0.index t = ![0, 0]
    ∧ win0_1.index t = ![0, 0] ∧ win0_2.index t = ![0, 0] :=
  (by decide +kernel : ∀ t : Fin grid0.N, _)

theorem hp1 (a b) (y) : k0_pay1 (F := Ideal) a b y = ∑ k : Fin 512, a (ix2 k (y 0)) * b (ix2 k (y 1)) := by
  pointwise [k0_pay1]

/-- The output array is the reference's. -/
theorem final (c : Dev nD) : (dats m 0 c).arrAt 2 (cfgs 0).N = REF (V m c main_arg0) (V m c main_arg1) := by
  refine (dats m 0 c).arrAt_eq_of_covers 2 _ (by decide +kernel) fun t ht y => ?_
  blk_simp
  rw [after0_2, REF_at]
  frame_out
  rw [hp1]
  refine Fin.sum_fin_congr fun l => ?_
  blk_point [iblk, V, idx t]

end Cert.DwKvIdeal
end
-- ==== Proof.Dw.lean ====
/- The weight gradients: each kernel's result is its reference's. -/
module

public import proofs.«01_k».proof.Defs
public import proofs.«01_k».proof.Proof.DwDown
public import proofs.«01_k».proof.Proof.DwUpA
public import proofs.«01_k».proof.Proof.DwUpB
public import proofs.«01_k».proof.Proof.DwProjA
public import proofs.«01_k».proof.Proof.DwProjB
public import proofs.«01_k».proof.Proof.DwKv
public import proofs.«01_k».proof.Proof.Gen.DwDownIdeal.Value
public import proofs.«01_k».proof.Proof.Gen.DwDownRefIdeal.Run
public import proofs.«01_k».proof.Proof.Gen.DwUpAIdeal.Value
public import proofs.«01_k».proof.Proof.Gen.DwUpARefIdeal.Run
public import proofs.«01_k».proof.Proof.Gen.DwUpBIdeal.Value
public import proofs.«01_k».proof.Proof.Gen.DwUpBRefIdeal.Run
public import proofs.«01_k».proof.Proof.Gen.DwProjAIdeal.Value
public import proofs.«01_k».proof.Proof.Gen.DwProjARefIdeal.Run
public import proofs.«01_k».proof.Proof.Gen.DwProjBIdeal.Value
public import proofs.«01_k».proof.Proof.Gen.DwProjBRefIdeal.Run
public import proofs.«01_k».proof.Proof.Gen.DwKvIdeal.Value
public import proofs.«01_k».proof.Proof.Gen.DwKvRefIdeal.Run
public import Idealize.ShloMosaic.Lib.Claim

@[expose] public section

noncomputable section

namespace Cert.Proof

open Idealize.ShloMosaic Idealize.SL.Sem

theorem value_DwDown : algebraic_DwDownIdeal_DwDownRefIdeal := by
  intro m g m' g' _ hagree
  refine ⟨_, (θ_run _ _ _).mono (fun r h c => h c) (Cert.DwDownIdeal.Value.run_blocks m g),
    (θ_run _ _ _).mono (fun r h c => ?_) (Cert.DwDownRefIdeal.Value.run m' g')⟩
  obtain ⟨e0, e1⟩ := hagree c
  refine ⟨(h c).1.trans (Eq.trans ?_ (Cert.DwDownIdeal.final m c).symm), (h c).2⟩
  · show Cert.DwDownRefIdeal.REF (m' ((c.tc : Thread _ _).loc Cert.DwDownRefIdeal.main_arg0)) (m' ((c.tc : Thread _ _).loc Cert.DwDownRefIdeal.main_arg1)) = _
    rw [e0, e1] <;> rfl

theorem frame_DwDown : quiescent_DwDownRefIdeal := fun m g _ =>
  (θ_run _ _ _).mono (fun r h => ⟨fun c => (h c).2, sem_eq_zero_of_no_sems (by decide) r.2⟩) (Cert.DwDownRefIdeal.Value.run m g)

theorem value_DwUpA : algebraic_DwUpAIdeal_DwUpARefIdeal := by
  intro m g m' g' _ hagree
  refine ⟨_, (θ_run _ _ _).mono (fun r h c => h c) (Cert.DwUpAIdeal.Value.run_blocks m g),
    (θ_run _ _ _).mono (fun r h c => ?_) (Cert.DwUpARefIdeal.Value.run m' g')⟩
  obtain ⟨e0, e1, e2⟩ := hagree c
  refine ⟨(h c).1.trans (Eq.trans ?_ (Cert.DwUpAIdeal.final m c).symm), (h c).2⟩
  · show Cert.DwUpARefIdeal.REF (m' ((c.tc : Thread _ _).loc Cert.DwUpARefIdeal.main_arg0)) (m' ((c.tc : Thread _ _).loc Cert.DwUpARefIdeal.main_arg1)) (m' ((c.tc : Thread _ _).loc Cert.DwUpARefIdeal.main_arg2)) = _
    rw [e0, e1, e2] <;> rfl

theorem frame_DwUpA : quiescent_DwUpARefIdeal := fun m g _ =>
  (θ_run _ _ _).mono (fun r h => ⟨fun c => (h c).2, sem_eq_zero_of_no_sems (by decide) r.2⟩) (Cert.DwUpARefIdeal.Value.run m g)

theorem value_DwUpB : algebraic_DwUpBIdeal_DwUpBRefIdeal := by
  intro m g m' g' _ hagree
  refine ⟨_, (θ_run _ _ _).mono (fun r h c => h c) (Cert.DwUpBIdeal.Value.run_blocks m g),
    (θ_run _ _ _).mono (fun r h c => ?_) (Cert.DwUpBRefIdeal.Value.run m' g')⟩
  obtain ⟨e0, e1, e2⟩ := hagree c
  refine ⟨(h c).1.trans (Eq.trans ?_ (Cert.DwUpBIdeal.final m c).symm), (h c).2⟩
  · show Cert.DwUpBRefIdeal.REF (m' ((c.tc : Thread _ _).loc Cert.DwUpBRefIdeal.main_arg0)) (m' ((c.tc : Thread _ _).loc Cert.DwUpBRefIdeal.main_arg1)) (m' ((c.tc : Thread _ _).loc Cert.DwUpBRefIdeal.main_arg2)) = _
    rw [e0, e1, e2] <;> rfl

theorem frame_DwUpB : quiescent_DwUpBRefIdeal := fun m g _ =>
  (θ_run _ _ _).mono (fun r h => ⟨fun c => (h c).2, sem_eq_zero_of_no_sems (by decide) r.2⟩) (Cert.DwUpBRefIdeal.Value.run m g)

theorem value_DwProjA : algebraic_DwProjAIdeal_DwProjARefIdeal := by
  intro m g m' g' _ hagree
  refine ⟨_, (θ_run _ _ _).mono (fun r h c => h c) (Cert.DwProjAIdeal.Value.run_blocks m g),
    (θ_run _ _ _).mono (fun r h c => ?_) (Cert.DwProjARefIdeal.Value.run m' g')⟩
  obtain ⟨e0, e1⟩ := hagree c
  refine ⟨(h c).1.trans (Eq.trans ?_ (Cert.DwProjAIdeal.final m c).symm), (h c).2⟩
  · show Cert.DwProjARefIdeal.REF (m' ((c.tc : Thread _ _).loc Cert.DwProjARefIdeal.main_arg0)) (m' ((c.tc : Thread _ _).loc Cert.DwProjARefIdeal.main_arg1)) = _
    rw [e0, e1] <;> rfl

theorem frame_DwProjA : quiescent_DwProjARefIdeal := fun m g _ =>
  (θ_run _ _ _).mono (fun r h => ⟨fun c => (h c).2, sem_eq_zero_of_no_sems (by decide) r.2⟩) (Cert.DwProjARefIdeal.Value.run m g)

theorem value_DwProjB : algebraic_DwProjBIdeal_DwProjBRefIdeal := by
  intro m g m' g' _ hagree
  refine ⟨_, (θ_run _ _ _).mono (fun r h c => h c) (Cert.DwProjBIdeal.Value.run_blocks m g),
    (θ_run _ _ _).mono (fun r h c => ?_) (Cert.DwProjBRefIdeal.Value.run m' g')⟩
  obtain ⟨e0, e1⟩ := hagree c
  refine ⟨(h c).1.trans (Eq.trans ?_ (Cert.DwProjBIdeal.final m c).symm), (h c).2⟩
  · show Cert.DwProjBRefIdeal.REF (m' ((c.tc : Thread _ _).loc Cert.DwProjBRefIdeal.main_arg0)) (m' ((c.tc : Thread _ _).loc Cert.DwProjBRefIdeal.main_arg1)) = _
    rw [e0, e1] <;> rfl

theorem frame_DwProjB : quiescent_DwProjBRefIdeal := fun m g _ =>
  (θ_run _ _ _).mono (fun r h => ⟨fun c => (h c).2, sem_eq_zero_of_no_sems (by decide) r.2⟩) (Cert.DwProjBRefIdeal.Value.run m g)

theorem value_DwKv : algebraic_DwKvIdeal_DwKvRefIdeal := by
  intro m g m' g' _ hagree
  refine ⟨_, (θ_run _ _ _).mono (fun r h c => h c) (Cert.DwKvIdeal.Value.run_blocks m g),
    (θ_run _ _ _).mono (fun r h c => ?_) (Cert.DwKvRefIdeal.Value.run m' g')⟩
  obtain ⟨e0, e1⟩ := hagree c
  refine ⟨(h c).1.trans (Eq.trans ?_ (Cert.DwKvIdeal.final m c).symm), (h c).2⟩
  · show Cert.DwKvRefIdeal.REF (m' ((c.tc : Thread _ _).loc Cert.DwKvRefIdeal.main_arg0)) (m' ((c.tc : Thread _ _).loc Cert.DwKvRefIdeal.main_arg1)) = _
    rw [e0, e1] <;> rfl

theorem frame_DwKv : quiescent_DwKvRefIdeal := fun m g _ =>
  (θ_run _ _ _).mono (fun r h => ⟨fun c => (h c).2, sem_eq_zero_of_no_sems (by decide) r.2⟩) (Cert.DwKvRefIdeal.Value.run m g)

end Cert.Proof

end
-- ==== Proof.RmsMath.lean ====
/- The gradient of a row scaled by the inverse root of its mean square: the kernel's closed form and
   the form that differentiates each step are one function, for every row of extended reals. -/
module

public import Idealize.ShloMosaic.PureOps.Ideal
public import Idealize.ShloMosaic.Lib.Pointwise

@[expose] public section

noncomputable section

open Idealize.ShloMosaic

namespace Cert.Rms

/-- The row length, the offset and the factor -1/2, as both programs spell them. -/
abbrev kN : EReal := Ideal.ofBits .f32 0x44800000#32
abbrev kE : EReal := Ideal.ofBits .f32 0x358637BD#32
abbrev kH : EReal := Ideal.ofBits .f32 0xBF000000#32

theorem kN_eq : kN = ((1024 : ℝ) : EReal) := by
  simp only [kN, Ideal.ofBits, Ideal.ieee]
  rw [if_neg (by decide), if_neg (by decide)]
  refine congrArg _ ?_
  simp; norm_num
theorem kH_eq : kH = ((-(1 / 2) : ℝ) : EReal) := by
  simp only [kH, Ideal.ofBits, Ideal.ieee]
  rw [if_neg (by decide), if_neg (by decide)]
  refine congrArg _ ?_
  simp; norm_num
theorem kE_pos : ∃ e : ℝ, 0 < e ∧ kE = (e : EReal) := by
  simp only [kE, Ideal.ofBits, Ideal.ieee]
  rw [if_neg (by decide), if_neg (by decide)]
  refine ⟨_, ?_, rfl⟩
  simp

variable {n : ℕ}

/-- The mean square with its offset. -/
def ms (x : Fin n → EReal) : EReal := Ideal.div (∑ l, x l * x l) kN + kE
/-- Its inverse root. -/
def rs (x : Fin n → EReal) : EReal := Ideal.rsqrt (ms x)
/-- The kernel's gradient: `w` is the cotangent times the gain, `r` the residual's cotangent. -/
def kdx (x w : Fin n → EReal) (r : EReal) (j : Fin n) : EReal :=
  rs x * (w j - x j * rs x * Ideal.div (∑ l, w l * (x l * rs x)) kN) + r
/-- The cotangent of the mean square's half. -/
def ru (x w : Fin n → EReal) : EReal := ∑ _i : Fin 1, Ideal.div ((∑ l, x l * w l) * (kH * Ideal.div (rs x) (ms x))) kN
/-- The reference's gradient. -/
def rdx (x w : Fin n → EReal) (r : EReal) (j : Fin n) : EReal := r + w j * rs x + x j * ru x w + ru x w * x j

theorem mul_self_nonneg (z : EReal) : 0 ≤ z * z := by
  induction z with
  | bot => simp
  | top => simp
  | coe r => rw [← EReal.coe_mul]; exact EReal.coe_nonneg.2 (_root_.mul_self_nonneg r)

/-- A real factor that is not negative passes into a sum. -/
theorem mul_sum_real (f : Fin n → EReal) (a : ℝ) (ha : 0 ≤ a) : (∑ i, f i * (a : EReal)) = (∑ i, f i) * (a : EReal) := by
  induction n with
  | zero => simp
  | succ n ih =>
    rw [Fin.sum_univ_succ, Fin.sum_univ_succ, EReal.right_distrib_of_nonneg_of_ne_top (EReal.coe_nonneg.2 ha) (EReal.coe_ne_top a), ih]

/-- A factor times twice a real that is not negative. -/
theorem mul_dbl (z : EReal) (b : ℝ) (hb : 0 ≤ b) : z * ((b : EReal) + (b : EReal)) = z * (b : EReal) + z * (b : EReal) :=
  EReal.left_distrib_of_nonneg (EReal.coe_nonneg.2 hb) (EReal.coe_nonneg.2 hb)

/-- The mean square is a positive real or infinite. -/
theorem ms_cases (x : Fin n → EReal) : ms x = ⊤ ∨ ∃ M : ℝ, 0 < M ∧ ms x = (M : EReal) := by
  obtain ⟨e, he, hE⟩ := kE_pos
  have hs : 0 ≤ ∑ l, x l * x l := Finset.sum_nonneg fun l _ => mul_self_nonneg _
  unfold ms
  rw [kN_eq, hE, Ideal.div_coe (by norm_num)]
  generalize (∑ l, x l * x l) = S at hs
  induction S with
  | bot => simp at hs
  | top => left; rw [EReal.top_mul_coe_of_pos (by norm_num)]; rfl
  | coe s =>
    right
    have hs' : 0 ≤ s := EReal.coe_nonneg.1 hs
    exact ⟨s * (1 / 1024) + e, by positivity, by rw [EReal.coe_add, EReal.coe_mul]⟩

theorem core (x w : Fin n → EReal) (r : EReal) (j : Fin n) : kdx x w r j = rdx x w r j := by
  rcases ms_cases x with h | ⟨M, hM, h⟩
  · have h0 : rs x = 0 := by unfold rs; rw [h]; rfl
    have hu : ru x w = 0 := by
      unfold ru
      rw [h0, h, kN_eq, Ideal.div_coe (by norm_num)]
      simp [Ideal.div]
    unfold kdx rdx
    rw [h0, hu]; simp
  · have hq : Real.sqrt M ≠ 0 := (Real.sqrt_pos.2 hM).ne'
    have hp : 0 < Real.sqrt M := Real.sqrt_pos.2 hM
    have hrs : rs x = (((Real.sqrt M)⁻¹ : ℝ) : EReal) := by
      unfold rs; rw [h, Ideal.rsqrt_coe, if_neg (not_lt.2 hM.le), if_neg hM.ne']
    have hMs : Real.sqrt M * Real.sqrt M = M := Real.mul_self_sqrt hM.le
    generalize hc : (Real.sqrt M)⁻¹ = c at hrs
    have hc0 : 0 ≤ c := by rw [← hc]; positivity
    have hM1 : 1 / M = c * c := by rw [← hc, ← mul_inv, hMs, one_div]
    have hT : (∑ l, w l * (x l * (c : EReal))) = (∑ l, x l * w l) * (c : EReal) := by
      rw [← mul_sum_real _ c hc0]
      exact Finset.sum_congr rfl fun l _ => by rw [← mul_assoc, mul_comm (w l)]
    have hu : ru x w = (∑ l, x l * w l) * ((-(c * c * c / 2048) : ℝ) : EReal) := by
      unfold ru
      rw [Fin.sum_univ_one, hrs, h, kN_eq, kH_eq, Ideal.div_coe hM.ne', Ideal.div_coe (by norm_num), hM1, mul_assoc,
        ← EReal.coe_mul, ← EReal.coe_mul, ← EReal.coe_mul]
      congr 2
      ring
    unfold kdx rdx
    rw [hrs, hu, hT, kN_eq, Ideal.div_coe (by norm_num)]
    generalize (∑ l, x l * w l) = T
    have hb : 0 ≤ c * c * c / 2048 := by positivity
    have e1 : (c : EReal) * (w j - x j * (c : EReal) * (T * (c : EReal) * ((1 / 1024 : ℝ) : EReal)))
        = w j * (c : EReal) + -(x j * T * ((c * c * c / 2048 + c * c * c / 2048 : ℝ) : EReal)) := by
      rw [sub_eq_add_neg, EReal.left_distrib_of_nonneg_of_ne_top (EReal.coe_nonneg.2 hc0) (EReal.coe_ne_top c), mul_comm (c : EReal) (w j),
        mul_neg]
      congr 2
      have : (c * c * c / 2048 + c * c * c / 2048 : ℝ) = c * c * c * (1 / 1024) := by ring
      rw [this]
      simp only [EReal.coe_mul]
      ac_rfl
    have e2 : ∀ z : EReal, -(z + z) = -z + -z := by
      intro z
      induction z with
      | bot => rfl
      | top => rfl
      | coe q => norm_cast; ring
    have e3 : x j * (T * ((-(c * c * c / 2048) : ℝ) : EReal)) = -(x j * T * ((c * c * c / 2048 : ℝ) : EReal)) := by
      rw [EReal.coe_neg, mul_neg, mul_neg, ← mul_assoc (x j)]
    rw [e1, mul_comm (T * _) (x j), e3, EReal.coe_add,
      mul_dbl _ _ hb, e2]
    ac_rfl

end Cert.Rms

end
-- ==== Proof.NormTwo.lean ====
/- The gradient of the rows before the up projection: through the product, the scaling and the root mean square. -/
module

public import proofs.«01_k».proof.Proof.Gen.NormTwoBwdIdeal.Frame
public import proofs.«01_k».proof.Proof.Gen.NormTwoBwdIdeal.Value
public import proofs.«01_k».proof.Proof.Gen.NormTwoBwdRefIdeal
public import proofs.«01_k».proof.Proof.Gen.NormTwoBwdRefIdeal.Run
public import proofs.«01_k».proof.Proof.RmsMath
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Rms (kN kE kH kdx rdx ru rs ms)

namespace Cert.NormTwoBwdRefIdeal
open Cert.NormTwoBwdRefIdeal.Gen

variable (X0 X1 : FVec Ideal S4096x2816 .bf16) (X2 : FVec Ideal S5632x1024 .bf16) (X3 : FVec Ideal S4096x1024 .f32)
  (X4 : FVec Ideal S1x1024 .f32) (X5 : FVec Ideal S4096x1024 .f32)

/-- The cotangent of the scaled rows. -/
def DH : FVec Ideal S4096x1024 .f32 :=
  Host.dotGeneral dot_S4096x5632_S1024x5632_S4096x1024_1_1_0_0_n_n none (concatenate S4096x5632 1 [⟨S4096x2816, (extf .f32 X0 bitsLt_bf16_f32)⟩, ⟨S4096x2816, (extf .f32 X1 bitsLt_bf16_f32)⟩] concatenates_S4096x2816_S4096x2816_S4096x5632_d1) (transpose S1024x5632 [1, 0] (extf .f32 X2 bitsLt_bf16_f32) transposes_S5632x1024_S1024x5632_1_0)
/-- The rows' mean squares. -/
def MS : FVec Ideal S4096x1 .f32 :=
  addf (Host.divf (broadcastInDim S4096x1 ![0] bcast_S4096_S4096x1_0 (Host.reduceAdd (mulf X3 X3) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
/-- The cotangent times the gain. -/
def DW : FVec Ideal S4096x1024 .f32 := mulf (DH X0 X1 X2) (broadcastInDim S4096x1024 ![0, 1] bcast_S1x1024_S4096x1024_0_1 X4)
/-- The cotangent of half the mean square. -/
def DU : FVec Ideal S4096x1024 .f32 :=
  broadcastInDim S4096x1024 ![0] bcast_S4096_S4096x1024_0 (Host.reduceAdd (Host.divf (mulf (shapeCast _ (Host.reduceAdd (mulf X3 (DW X0 X1 X2 X4)) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (MS X3)) (MS X3)))) (broadcastInDim S4096x1 ![] bcast_S_S4096x1 (constant S_ .f32 0x44800000#32))) (constant S_ .f32 0x00000000#32) reducesTo_S4096x1_S4096_d1 h_S_)
/-- The rows' gradient. -/
def REF_dx : FVec Ideal S4096x1024 .f32 :=
  addf (addf (addf X5 (mulf (DW X0 X1 X2 X4) (broadcastInDim S4096x1024 ![0, 1] bcast_S4096x1_S4096x1024_0_1 (Host.rsqrt (MS X3))))) (mulf X3 (DU X0 X1 X2 X3 X4))) (mulf (DU X0 X1 X2 X3 X4) X3)
/-- The gain's gradient. -/
def REF_dg (X0 X1 : FVec Ideal S4096x2816 .bf16) (X2 : FVec Ideal S5632x1024 .bf16) (X3 : FVec Ideal S4096x1024 .f32)
    (X4 : FVec Ideal S1x1024 .f32) (X5 : FVec Ideal S4096x1024 .f32) : FVec Ideal S1x1024 .f32 :=
  shapeCast _ (Host.reduceAdd (mulf (mulf X3 (broadcastInDim S4096x1024 ![0, 1] bcast_S4096x1_S4096x1024_0_1 (Host.rsqrt (MS X3)))) (DH X0 X1 X2)) (constant S_ .f32 0x00000000#32) reducesTo_S4096x1024_S1024_d0 h_S_) shapeCasts_S1024_S1x1024

theorem DH_at (i : Fin 4096) (j : Fin 1024) : DH X0 X1 X2 (ix2 i j) = (∑ k : Fin 2816, X0 (ix2 i k) * X2 (ix2 (⟨k, by omega⟩ : Fin 5632) j))
    + ∑ k : Fin 2816, X1 (ix2 i k) * X2 (ix2 (⟨2816 + k, by omega⟩ : Fin 5632) j) := by
  pointwise [DH]
theorem MS_at (i : Fin 4096) : MS X3 (ix2 i (0 : Fin 1)) = ms fun l => X3 (ix2 i l) := by
  pointwise [MS, ms]
theorem DW_at (i : Fin 4096) (j : Fin 1024) : DW X0 X1 X2 X4 (ix2 i j) = DH X0 X1 X2 (ix2 i j) * X4 (ix2 (0 : Fin 1) j) := by
  pointwise [DW]
theorem DU_at (i : Fin 4096) (j : Fin 1024) : DU X0 X1 X2 X3 X4 (ix2 i j) = ru (fun l => X3 (ix2 i l)) fun l => DW X0 X1 X2 X4 (ix2 i l) := by
  have e : DU X0 X1 X2 X3 X4 (ix2 i j) = ∑ k : Fin 1, Ideal.div ((∑ l : Fin 1024, X3 (ix2 i l) * DW X0 X1 X2 X4 (ix2 i l)) * (kH * Ideal.div (Ideal.rsqrt (MS X3 (ix2 i k))) (MS X3 (ix2 i k)))) kN := by
    pointwise [DU]
  rw [e, Fin.sum_univ_one, MS_at, ru, Fin.sum_univ_one]
  rfl
theorem REF_dx_at (y : S4096x1024.Idx) (i : Fin 4096) (j : Fin 1024) (h0 : (y 0 : ℕ) = i) (h1 : (y 1 : ℕ) = j) :
    REF_dx X0 X1 X2 X3 X4 X5 y = rdx (fun l => X3 (ix2 i l)) (fun l => DH X0 X1 X2 (ix2 i l) * X4 (ix2 (0 : Fin 1) l)) (X5 (ix2 i j)) j := by
  have e : y = ix2 i j := by
    funext a; fin_cases a <;> refine Fin.ext ?_
    exacts [h0, h1]
  rw [e]
  have e2 : REF_dx X0 X1 X2 X3 X4 X5 (ix2 i j) = X5 (ix2 i j) + DW X0 X1 X2 X4 (ix2 i j) * Ideal.rsqrt (MS X3 (ix2 i (0 : Fin 1))) + X3 (ix2 i j) * DU X0 X1 X2 X3 X4 (ix2 i j) + DU X0 X1 X2 X3 X4 (ix2 i j) * X3 (ix2 i j) := by
    pointwise [REF_dx]
  rw [e2, DU_at, MS_at]
  simp only [DW_at]
  rfl
theorem REF_dg_at (y : S1x1024.Idx) (j : Fin 1024) (h1 : (y 1 : ℕ) = j) :
    REF_dg X0 X1 X2 X3 X4 X5 y = ∑ i : Fin 4096, X3 (ix2 i j) * rs (fun l => X3 (ix2 i l)) * DH X0 X1 X2 (ix2 i j) := by
  have e : y = ix2 (0 : Fin 1) j := by
    funext a; fin_cases a <;> refine Fin.ext ?_
    exacts [Nat.lt_one_iff.1 (y 0).isLt, h1]
  rw [e]
  have e2 : REF_dg X0 X1 X2 X3 X4 X5 (ix2 (0 : Fin 1) j) = ∑ i : Fin 4096, X3 (ix2 i j) * Ideal.rsqrt (MS X3 (ix2 i (0 : Fin 1))) * DH X0 X1 X2 (ix2 i j) := by
    pointwise [REF_dg]
  rw [e2]
  simp only [MS_at]
  rfl

end Cert.NormTwoBwdRefIdeal

namespace Cert.NormTwoBwdIdeal
open Cert.NormTwoBwdIdeal.Gen
open Cert.NormTwoBwdRefIdeal (REF_dx REF_dg REF_dx_at REF_dg_at DH DH_at)

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![1, 0]
    ∧ win0_4.index t = ![t.val, 0] ∧ win0_5.index t = ![0, 0] ∧ win0_6.index t = ![t.val, 0] ∧ win0_7.index t = ![t.val, 0] ∧ win0_8.index t = ![0, 0] :=
  (by decide +kernel : ∀ t : Fin grid0.N, _)

variable (v0 : FVec Ideal S512x2816 .bf16) (v1 : FVec Ideal S2816x1024 .bf16) (v3 : FVec Ideal S512x2816 .bf16) (v4 : FVec Ideal S2816x1024 .bf16)
  (v7 : FVec Ideal S512x1024 .f32) (v18 : FVec Ideal S1x1024 .f32) (v31 : FVec Ideal S512x1024 .f32)

theorem hp3 (i : Fin 512) (j : Fin 1024) : k0_pay3 (F := Ideal) v0 v1 v3 v4 (ix2 i j) = (∑ k : Fin 2816, v0 (ix2 i k) * v1 (ix2 k j)) + ∑ k : Fin 2816, v3 (ix2 i k) * v4 (ix2 k j) := by
  pointwise [k0_pay3]
theorem hp4 (i : Fin 512) : k0_pay4 (F := Ideal) v7 (ix2 i (0 : Fin 1)) = rs fun l => v7 (ix2 i l) := by
  pointwise [k0_pay4, rs, ms]
theorem hp5 (i : Fin 512) (j : Fin 1024) : k0_pay5 (F := Ideal) v7 (ix2 i j) = v7 (ix2 i j) * rs fun l => v7 (ix2 i l) := by
  have e : k0_pay5 (F := Ideal) v7 (ix2 i j) = v7 (ix2 i j) * k0_pay4 (F := Ideal) v7 (ix2 i (0 : Fin 1)) := by pointwise [k0_pay5]
  rw [e, hp4]
theorem hp6 (i : Fin 512) (j : Fin 1024) : k0_pay6 (F := Ideal) v0 v1 v3 v4 v7 v18 v31 (ix2 i j)
    = kdx (fun l => v7 (ix2 i l)) (fun l => k0_pay3 (F := Ideal) v0 v1 v3 v4 (ix2 i l) * v18 (ix2 (0 : Fin 1) l)) (v31 (ix2 i j)) j := by
  have e : k0_pay6 (F := Ideal) v0 v1 v3 v4 v7 v18 v31 (ix2 i j) = k0_pay4 (F := Ideal) v7 (ix2 i (0 : Fin 1)) * (k0_pay3 (F := Ideal) v0 v1 v3 v4 (ix2 i j) * v18 (ix2 (0 : Fin 1) j)
      - k0_pay5 (F := Ideal) v7 (ix2 i j) * Ideal.div (∑ l : Fin 1024, k0_pay3 (F := Ideal) v0 v1 v3 v4 (ix2 i l) * v18 (ix2 (0 : Fin 1) l) * k0_pay5 (F := Ideal) v7 (ix2 i l)) kN) + v31 (ix2 i j) := by
    pointwise [k0_pay6]
  rw [e]
  simp only [hp4, hp5]
  rfl
theorem hp1 (y) : k0_pay1 (F := Ideal) y = 0 := by pointwise [k0_pay1]
theorem hp2 (a b : FVec Ideal S512x1024 .f32) (v) (y : S1x1024.Idx) : k0_pay2 (F := Ideal) a b v y = v y + ∑ i : Fin 512, a (ix2 i (y 1)) * b (ix2 i (y 1)) := by
  pointwise [k0_pay2]

/-- The block of rows' cotangent. -/
abbrev dh (c : Dev nD) (t : Fin cfg0.N) : FVec Ideal S512x1024 .f32 :=
  k0_pay3 (F := Ideal) (show FVec Ideal S512x2816 .bf16 from iblk m c 0 t) (show FVec Ideal S2816x1024 .bf16 from iblk m c 1 t) (show FVec Ideal S512x2816 .bf16 from iblk m c 2 t) (show FVec Ideal S2816x1024 .bf16 from iblk m c 3 t)

theorem row_lt {t i : ℕ} (ht : t < 8) (hi : i < 512) : t * 512 + i < 4096 := by omega

theorem dh_at (c : Dev nD) (t : Fin cfg0.N) (ht : t.val < 8) (i : Fin 512) (j : Fin 1024) :
    dh m c t (ix2 i j) = DH (V m c main_arg0) (V m c main_arg1) (V m c main_arg2) (ix2 (⟨t.val * 512 + i.val, row_lt ht i.isLt⟩ : Fin 4096) j) := by
  unfold dh
  rw [hp3, DH_at]
  refine congrArg₂ (· + ·) ?_ ?_ <;> refine Fin.sum_fin_congr fun k => ?_ <;> blk_point [iblk, V, idx t]
theorem x_at (c : Dev nD) (t : Fin cfg0.N) (ht : t.val < 8) (i : Fin 512) (j : Fin 1024) :
    (show FVec Ideal S512x1024 .f32 from iblk m c 4 t) (ix2 i j) = V m c main_arg3 (ix2 (⟨t.val * 512 + i.val, row_lt ht i.isLt⟩ : Fin 4096) j) := by
  blk_point [iblk, V, idx t]
theorem g_at (c : Dev nD) (t : Fin cfg0.N) (j : Fin 1024) : (show FVec Ideal S1x1024 .f32 from iblk m c 5 t) (ix2 (0 : Fin 1) j) = V m c main_arg4 (ix2 (0 : Fin 1) j) := by
  blk_point [iblk, V, idx t]
theorem r_at (c : Dev nD) (t : Fin cfg0.N) (ht : t.val < 8) (i : Fin 512) (j : Fin 1024) :
    (show FVec Ideal S512x1024 .f32 from iblk m c 6 t) (ix2 i j) = V m c main_arg5 (ix2 (⟨t.val * 512 + i.val, row_lt ht i.isLt⟩ : Fin 4096) j) := by
  blk_point [iblk, V, idx t]

/-- What a point stores into the rows' gradient. -/
theorem out7 (c : Dev nD) (t : Fin cfg0.N) : (outsAt0 m c t.val t.isLt).1 = k0_pay6 (F := Ideal) (iblk m c 0 t) (iblk m c 1 t) (iblk m c 2 t) (iblk m c 3 t) (iblk m c 4 t) (iblk m c 5 t) (iblk m c 6 t) := by
  funext y
  by_cases h : t.val % 8 = 0
  · rw [outsAt0_A m c t h]; frame_out
  · rw [outsAt0_B m c t h]; frame_out

/-- The rows' gradient is the reference's. -/
theorem final_7 (c : Dev nD) : (dats m 0 c).arrAt 7 (cfgs 0).N
    = REF_dx (V m c main_arg0) (V m c main_arg1) (V m c main_arg2) (V m c main_arg3) (V m c main_arg4) (V m c main_arg5) := by
  refine (dats m 0 c).arrAt_eq_of_covers 7 _ (by decide +kernel) fun t ht y => ?_
  blk_simp
  have hn : t.val < 8 := lt_of_lt_of_eq t.isLt N_0
  rw [after0_7, out7]
  obtain ⟨i, j, rfl⟩ : ∃ (i : Fin 512) (j : Fin 1024), y = ix2 i j := ⟨y 0, y 1, by funext a; fin_cases a <;> rfl⟩
  refine Eq.trans ?_ (REF_dx_at _ _ _ _ _ _ _ (⟨t.val * 512 + i.val, row_lt hn i.isLt⟩ : Fin 4096) j (by blk_simp [idx t]) (by blk_simp [idx t])).symm
  rw [hp6, ← Cert.Rms.core]
  have e1 := fun l => x_at m c t hn i l
  have e2 := fun l => dh_at m c t hn i l
  have e3 := g_at m c t
  have e4 := r_at m c t hn i j
  dsimp only at e1 e2 e3 e4
  simp only [e1, e2, e3, e4]

/-- What a point adds to the gain's gradient. -/
abbrev add (c : Dev nD) (t : Fin cfg0.N) (y : S1x1024.Idx) : EReal :=
  ∑ i : Fin 512, dh m c t (ix2 i (y 1)) * k0_pay5 (F := Ideal) (show FVec Ideal S512x1024 .f32 from iblk m c 4 t) (ix2 i (y 1))

theorem add_term (c : Dev nD) (u : Fin cfg0.N) (s : Fin 8) (k : Fin 512) (j : Fin 1024) (hl : s.val * 512 + k.val < 4096) (hs : u.val = s.val) :
    dh m c u (ix2 k j) * k0_pay5 (F := Ideal) (show FVec Ideal S512x1024 .f32 from iblk m c 4 u) (ix2 k j)
      = (show FVec Ideal S4096x1024 .f32 from V m c main_arg3) (ix2 (⟨s.val * 512 + k.val, hl⟩ : Fin 4096) j) * rs (fun l => (show FVec Ideal S4096x1024 .f32 from V m c main_arg3) (ix2 (⟨s.val * 512 + k.val, hl⟩ : Fin 4096) l))
        * DH (V m c main_arg0) (V m c main_arg1) (V m c main_arg2) (ix2 (⟨s.val * 512 + k.val, hl⟩ : Fin 4096) j) := by
  have hu : u.val < 8 := lt_of_lt_of_eq u.isLt N_0
  have e0 : (⟨s.val * 512 + k.val, hl⟩ : Fin 4096) = ⟨u.val * 512 + k.val, row_lt hu k.isLt⟩ := Fin.ext (by dsimp only; omega)
  have e1 := fun l => x_at m c u hu k l
  dsimp only at e1
  rw [dh_at m c u hu, mul_comm, e0]
  refine congrArg₂ (· * ·) ((hp5 _ k j).trans ?_) rfl
  simp only [e1]

/-- The first point starts the sum. -/
theorem acc_first (c : Dev nD) (t : Fin cfg0.N) (h : t.val % 8 = 0) (y) : (outsAt0 m c t.val t.isLt).2 y = 0 + add m c t y := by
  rw [outsAt0_A m c t h]
  frame_open
  simp (disch := decide) only [↓View.readCov_skip, ↓View.readCov_fill]
  frame_out
  rw [hp2, hp1]

/-- A later point adds to it. -/
theorem acc_next (c : Dev nD) (t : Fin cfg0.N) (h : ¬t.val % 8 = 0) (y) : (outsAt0 m c t.val t.isLt).2 y
    = (outsAt0 m c (t.val - 1) (Nat.lt_of_le_of_lt (Nat.sub_le _ _) t.isLt)).2 y + add m c t y := by
  rw [outsAt0_B m c t h]
  frame_out
  generalize (outsAt0 m c (t.val - 1) _).2 = A
  rw [hp2]

/-- The gain's gradient is the reference's. -/
theorem final_8 (c : Dev nD) : (dats m 0 c).arrAt 8 (cfgs 0).N
    = REF_dg (V m c main_arg0) (V m c main_arg1) (V m c main_arg2) (V m c main_arg3) (V m c main_arg4) (V m c main_arg5) := by
  refine (dats m 0 c).arrAt_eq_of_covers 8 _ (by decide +kernel) fun t ht y => ?_
  blk_simp
  have h7 : t.val % 8 = 7 := (flush0_8 t).mp ht
  have hn : t.val < 8 := lt_of_lt_of_eq t.isLt N_0
  rw [after0_8, Pipeline.eq_sum_fin_of_reset_step_apply_of_flush (fun n h y => (outsAt0 m c n h).2 y) 8 (fun _ => 0) (add m c)
      (fun t h j => acc_first m c t h j) (fun t h j => acc_next m c t h j) t h7 _, zero_add]
  refine Eq.trans ?_ (REF_dg_at _ _ _ _ _ _ _ (y 1 : Fin 1024) (by blk_simp [idx t])).symm
  refine Fin.sum_mul_add_congr fun s k hl => ?_
  have hs : (⟨_, Pipeline.run_point_lt_of_flush t h7 s⟩ : Fin cfg0.N).val = s.val := by dsimp only; omega
  generalize (⟨_, Pipeline.run_point_lt_of_flush t h7 s⟩ : Fin cfg0.N) = u at hs
  exact add_term m c u s k (y 1) hl hs

end Cert.NormTwoBwdIdeal
end
-- ==== Proof.NormOne.lean ====
/- The gradient of the rows before the input projection: through the product, the scaling and the root mean square. -/
module

public import proofs.«01_k».proof.Proof.Gen.NormOneBwdIdeal.Frame
public import proofs.«01_k».proof.Proof.Gen.NormOneBwdIdeal.Value
public import proofs.«01_k».proof.Proof.Gen.NormOneBwdRefIdeal
public import proofs.«01_k».proof.Proof.Gen.NormOneBwdRefIdeal.Run
public import proofs.«01_k».proof.Proof.RmsMath
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Rms (kN kE kH kdx rdx ru rs ms)

namespace Cert.NormOneBwdRefIdeal
open Cert.NormOneBwdRefIdeal.Gen

variable (X0 : FVec Ideal S4096x6656 .bf16) (X1 : FVec Ideal S6656x1024 .bf16) (X2 : FVec Ideal S4096x1024 .f32)
  (X3 : FVec Ideal S1x1024 .f32) (X4 : FVec Ideal S4096x1024 .f32)

/-- The cotangent of the scaled rows. -/
def DH : FVec Ideal S4096x1024 .f32 :=
  Host.dotGeneral dot_S4096x6656_S1024x6656_S4096x1024_1_1_0_0_n_n none (extf .f32 X0 bitsLt_bf16_f32) (transpose S1024x6656 [1, 0] (extf .f32 X1 bitsLt_bf16_f32) transposes_S6656x1024_S1024x6656_1_0)
/-- The rows' mean squares. -/
def MS : FVec Ideal S4096x1 .f32 :=
  addf (Host.divf (broadcastInDim S4096x1 ![0] bcast_S4096_S4096x1_0 (Host.reduceAdd (mulf X2 X2) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
/-- The cotangent times the gain. -/
def DW : FVec Ideal S4096x1024 .f32 := mulf (DH X0 X1) (broadcastInDim S4096x1024 ![0, 1] bcast_S1x1024_S4096x1024_0_1 X3)
/-- The cotangent of half the mean square. -/
def DU : FVec Ideal S4096x1024 .f32 :=
  broadcastInDim S4096x1024 ![0] bcast_S4096_S4096x1024_0 (Host.reduceAdd (Host.divf (mulf (shapeCast _ (Host.reduceAdd (mulf X2 (DW X0 X1 X3)) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (MS X2)) (MS X2)))) (broadcastInDim S4096x1 ![] bcast_S_S4096x1 (constant S_ .f32 0x44800000#32))) (constant S_ .f32 0x00000000#32) reducesTo_S4096x1_S4096_d1 h_S_)
/-- The rows' gradient. -/
def REF_dx : FVec Ideal S4096x1024 .f32 :=
  addf (addf (addf X4 (mulf (DW X0 X1 X3) (broadcastInDim S4096x1024 ![0, 1] bcast_S4096x1_S4096x1024_0_1 (Host.rsqrt (MS X2))))) (mulf X2 (DU X0 X1 X2 X3))) (mulf (DU X0 X1 X2 X3) X2)
/-- The gain's gradient. -/
def REF_dg (X0 : FVec Ideal S4096x6656 .bf16) (X1 : FVec Ideal S6656x1024 .bf16) (X2 : FVec Ideal S4096x1024 .f32)
    (X3 : FVec Ideal S1x1024 .f32) (X4 : FVec Ideal S4096x1024 .f32) : FVec Ideal S1x1024 .f32 :=
  shapeCast _ (Host.reduceAdd (mulf (mulf X2 (broadcastInDim S4096x1024 ![0, 1] bcast_S4096x1_S4096x1024_0_1 (Host.rsqrt (MS X2)))) (DH X0 X1)) (constant S_ .f32 0x00000000#32) reducesTo_S4096x1024_S1024_d0 h_S_) shapeCasts_S1024_S1x1024

theorem DH_at (i : Fin 4096) (j : Fin 1024) : DH X0 X1 (ix2 i j) = ∑ k : Fin 6656, X0 (ix2 i k) * X1 (ix2 k j) := by
  pointwise [DH]
theorem MS_at (i : Fin 4096) : MS X2 (ix2 i (0 : Fin 1)) = ms fun l => X2 (ix2 i l) := by
  pointwise [MS, ms]
theorem DW_at (i : Fin 4096) (j : Fin 1024) : DW X0 X1 X3 (ix2 i j) = DH X0 X1 (ix2 i j) * X3 (ix2 (0 : Fin 1) j) := by
  pointwise [DW]
theorem DU_at (i : Fin 4096) (j : Fin 1024) : DU X0 X1 X2 X3 (ix2 i j) = ru (fun l => X2 (ix2 i l)) fun l => DW X0 X1 X3 (ix2 i l) := by
  have e : DU X0 X1 X2 X3 (ix2 i j) = ∑ k : Fin 1, Ideal.div ((∑ l : Fin 1024, X2 (ix2 i l) * DW X0 X1 X3 (ix2 i l)) * (kH * Ideal.div (Ideal.rsqrt (MS X2 (ix2 i k))) (MS X2 (ix2 i k)))) kN := by
    pointwise [DU]
  rw [e, Fin.sum_univ_one, MS_at, ru, Fin.sum_univ_one]
  rfl
theorem REF_dx_at (y : S4096x1024.Idx) (i : Fin 4096) (j : Fin 1024) (h0 : (y 0 : ℕ) = i) (h1 : (y 1 : ℕ) = j) :
    REF_dx X0 X1 X2 X3 X4 y = rdx (fun l => X2 (ix2 i l)) (fun l => DH X0 X1 (ix2 i l) * X3 (ix2 (0 : Fin 1) l)) (X4 (ix2 i j)) j := by
  have e : y = ix2 i j := by
    funext a; fin_cases a <;> refine Fin.ext ?_
    exacts [h0, h1]
  rw [e]
  have e2 : REF_dx X0 X1 X2 X3 X4 (ix2 i j) = X4 (ix2 i j) + DW X0 X1 X3 (ix2 i j) * Ideal.rsqrt (MS X2 (ix2 i (0 : Fin 1))) + X2 (ix2 i j) * DU X0 X1 X2 X3 (ix2 i j) + DU X0 X1 X2 X3 (ix2 i j) * X2 (ix2 i j) := by
    pointwise [REF_dx]
  rw [e2, DU_at, MS_at]
  simp only [DW_at]
  rfl
theorem REF_dg_at (y : S1x1024.Idx) (j : Fin 1024) (h1 : (y 1 : ℕ) = j) :
    REF_dg X0 X1 X2 X3 X4 y = ∑ i : Fin 4096, X2 (ix2 i j) * rs (fun l => X2 (ix2 i l)) * DH X0 X1 (ix2 i j) := by
  have e : y = ix2 (0 : Fin 1) j := by
    funext a; fin_cases a <;> refine Fin.ext ?_
    exacts [Nat.lt_one_iff.1 (y 0).isLt, h1]
  rw [e]
  have e2 : REF_dg X0 X1 X2 X3 X4 (ix2 (0 : Fin 1) j) = ∑ i : Fin 4096, X2 (ix2 i j) * Ideal.rsqrt (MS X2 (ix2 i (0 : Fin 1))) * DH X0 X1 (ix2 i j) := by
    pointwise [REF_dg]
  rw [e2]
  simp only [MS_at]
  rfl

end Cert.NormOneBwdRefIdeal

namespace Cert.NormOneBwdIdeal
open Cert.NormOneBwdIdeal.Gen
open Cert.NormOneBwdRefIdeal (REF_dx REF_dg REF_dx_at REF_dg_at DH DH_at)

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

variable (v0 : FVec Ideal S512x6656 .bf16) (v1 : FVec Ideal S6656x1024 .bf16)
  (v7 : FVec Ideal S512x1024 .f32) (v18 : FVec Ideal S1x1024 .f32) (v31 : FVec Ideal S512x1024 .f32)

theorem hp3 (i : Fin 512) (j : Fin 1024) : k0_pay2 (F := Ideal) v0 v1 (ix2 i j) = ∑ k : Fin 6656, v0 (ix2 i k) * v1 (ix2 k j) := by
  pointwise [k0_pay2]
theorem hp4 (i : Fin 512) : k0_pay3 (F := Ideal) v7 (ix2 i (0 : Fin 1)) = rs fun l => v7 (ix2 i l) := by
  pointwise [k0_pay3, rs, ms]
theorem hp5 (i : Fin 512) (j : Fin 1024) : k0_pay4 (F := Ideal) v7 (ix2 i j) = v7 (ix2 i j) * rs fun l => v7 (ix2 i l) := by
  have e : k0_pay4 (F := Ideal) v7 (ix2 i j) = v7 (ix2 i j) * k0_pay3 (F := Ideal) v7 (ix2 i (0 : Fin 1)) := by pointwise [k0_pay4]
  rw [e, hp4]
theorem hp6 (i : Fin 512) (j : Fin 1024) : k0_pay5 (F := Ideal) v0 v1 v7 v18 v31 (ix2 i j)
    = kdx (fun l => v7 (ix2 i l)) (fun l => k0_pay2 (F := Ideal) v0 v1 (ix2 i l) * v18 (ix2 (0 : Fin 1) l)) (v31 (ix2 i j)) j := by
  have e : k0_pay5 (F := Ideal) v0 v1 v7 v18 v31 (ix2 i j) = k0_pay3 (F := Ideal) v7 (ix2 i (0 : Fin 1)) * (k0_pay2 (F := Ideal) v0 v1 (ix2 i j) * v18 (ix2 (0 : Fin 1) j)
      - k0_pay4 (F := Ideal) v7 (ix2 i j) * Ideal.div (∑ l : Fin 1024, k0_pay2 (F := Ideal) v0 v1 (ix2 i l) * v18 (ix2 (0 : Fin 1) l) * k0_pay4 (F := Ideal) v7 (ix2 i l)) kN) + v31 (ix2 i j) := by
    pointwise [k0_pay5]
  rw [e]
  simp only [hp4, hp5]
  rfl
theorem hp1 (y) : k0_pay6 (F := Ideal) y = 0 := by pointwise [k0_pay6]
theorem hp2 (a b : FVec Ideal S512x1024 .f32) (v : FVec Ideal S1x1024 .f32) (y : S1x1024.Idx) : k0_pay1 (F := Ideal) a b v y = v y + ∑ i : Fin 512, a (ix2 i (y 1)) * b (ix2 i (y 1)) := by
  pointwise [k0_pay1]

theorem hp7 (v : FVec Ideal S1x1024 .f32) : k0_pay7 (F := Ideal) v = v := by funext y; pointwise [k0_pay7]

/-- The block of rows' cotangent. -/
abbrev dh (c : Dev nD) (t : Fin cfg0.N) : FVec Ideal S512x1024 .f32 :=
  k0_pay2 (F := Ideal) (show FVec Ideal S512x6656 .bf16 from iblk m c 0 t) (show FVec Ideal S6656x1024 .bf16 from iblk m c 1 t)

theorem row_lt {t i : ℕ} (ht : t < 8) (hi : i < 512) : t * 512 + i < 4096 := by omega

theorem dh_at (c : Dev nD) (t : Fin cfg0.N) (ht : t.val < 8) (i : Fin 512) (j : Fin 1024) :
    dh m c t (ix2 i j) = DH (V m c main_arg0) (V m c main_arg1) (ix2 (⟨t.val * 512 + i.val, row_lt ht i.isLt⟩ : Fin 4096) j) := by
  unfold dh
  rw [hp3, DH_at]
  refine Fin.sum_fin_congr fun k => ?_
  blk_point [iblk, V, idx t]
theorem x_at (c : Dev nD) (t : Fin cfg0.N) (ht : t.val < 8) (i : Fin 512) (j : Fin 1024) :
    (show FVec Ideal S512x1024 .f32 from iblk m c 2 t) (ix2 i j) = V m c main_arg2 (ix2 (⟨t.val * 512 + i.val, row_lt ht i.isLt⟩ : Fin 4096) j) := by
  blk_point [iblk, V, idx t]
theorem g_at (c : Dev nD) (t : Fin cfg0.N) (j : Fin 1024) : (show FVec Ideal S1x1024 .f32 from iblk m c 3 t) (ix2 (0 : Fin 1) j) = V m c main_arg3 (ix2 (0 : Fin 1) j) := by
  blk_point [iblk, V, idx t]
theorem r_at (c : Dev nD) (t : Fin cfg0.N) (ht : t.val < 8) (i : Fin 512) (j : Fin 1024) :
    (show FVec Ideal S512x1024 .f32 from iblk m c 4 t) (ix2 i j) = V m c main_arg4 (ix2 (⟨t.val * 512 + i.val, row_lt ht i.isLt⟩ : Fin 4096) j) := by
  blk_point [iblk, V, idx t]

/-- What a point stores into the rows' gradient. -/
theorem out5 (c : Dev nD) (t : Fin cfg0.N) : (outsAt0 m c t.val t.isLt).1 = k0_pay5 (F := Ideal) (iblk m c 0 t) (iblk m c 1 t) (iblk m c 2 t) (iblk m c 3 t) (iblk m c 4 t) := by
  funext y
  by_cases h : t.val % 8 = 0
  · rw [outsAt0_A m c t h]; frame_out
  · rw [outsAt0_B m c t h]; frame_out

/-- The rows' gradient is the reference's. -/
theorem final_5 (c : Dev nD) : (dats m 0 c).arrAt 5 (cfgs 0).N
    = REF_dx (V m c main_arg0) (V m c main_arg1) (V m c main_arg2) (V m c main_arg3) (V m c main_arg4) := by
  refine (dats m 0 c).arrAt_eq_of_covers 5 _ (by decide +kernel) fun t ht y => ?_
  blk_simp
  have hn : t.val < 8 := lt_of_lt_of_eq t.isLt N_0
  rw [after0_5, out5]
  obtain ⟨i, j, rfl⟩ : ∃ (i : Fin 512) (j : Fin 1024), y = ix2 i j := ⟨y 0, y 1, by funext a; fin_cases a <;> rfl⟩
  refine Eq.trans ?_ (REF_dx_at _ _ _ _ _ _ (⟨t.val * 512 + i.val, row_lt hn i.isLt⟩ : Fin 4096) j (by blk_simp [idx t]) (by blk_simp [idx t])).symm
  rw [hp6, ← Cert.Rms.core]
  have e1 := fun l => x_at m c t hn i l
  have e2 := fun l => dh_at m c t hn i l
  have e3 := g_at m c t
  have e4 := r_at m c t hn i j
  dsimp only at e1 e2 e3 e4
  simp only [e1, e2, e3, e4]

/-- What a point adds to the gain's gradient. -/
abbrev add (c : Dev nD) (t : Fin cfg0.N) (y : S1x1024.Idx) : EReal :=
  ∑ i : Fin 512, dh m c t (ix2 i (y 1)) * k0_pay4 (F := Ideal) (show FVec Ideal S512x1024 .f32 from iblk m c 2 t) (ix2 i (y 1))

theorem add_term (c : Dev nD) (u : Fin cfg0.N) (s : Fin 8) (k : Fin 512) (j : Fin 1024) (hl : s.val * 512 + k.val < 4096) (hs : u.val = s.val) :
    dh m c u (ix2 k j) * k0_pay4 (F := Ideal) (show FVec Ideal S512x1024 .f32 from iblk m c 2 u) (ix2 k j)
      = (show FVec Ideal S4096x1024 .f32 from V m c main_arg2) (ix2 (⟨s.val * 512 + k.val, hl⟩ : Fin 4096) j) * rs (fun l => (show FVec Ideal S4096x1024 .f32 from V m c main_arg2) (ix2 (⟨s.val * 512 + k.val, hl⟩ : Fin 4096) l))
        * DH (V m c main_arg0) (V m c main_arg1) (ix2 (⟨s.val * 512 + k.val, hl⟩ : Fin 4096) j) := by
  have hu : u.val < 8 := lt_of_lt_of_eq u.isLt N_0
  have e0 : (⟨s.val * 512 + k.val, hl⟩ : Fin 4096) = ⟨u.val * 512 + k.val, row_lt hu k.isLt⟩ := Fin.ext (by dsimp only; omega)
  have e1 := fun l => x_at m c u hu k l
  dsimp only at e1
  rw [dh_at m c u hu, mul_comm, e0]
  refine congrArg₂ (· * ·) ((hp5 _ k j).trans ?_) rfl
  simp only [e1]

/-- The first point starts the sum. -/
theorem acc_first (c : Dev nD) (t : Fin cfg0.N) (h : t.val % 8 = 0) (y) : (outsAt0 m c t.val t.isLt).2 y = 0 + add m c t y := by
  rw [outsAt0_A m c t h]
  frame_open
  simp (disch := decide) only [↓View.readCov_skip, ↓View.readCov_fill]
  frame_out
  rw [hp2, hp7, hp1]

/-- A later point adds to it. -/
theorem acc_next (c : Dev nD) (t : Fin cfg0.N) (h : ¬t.val % 8 = 0) (y) : (outsAt0 m c t.val t.isLt).2 y
    = (outsAt0 m c (t.val - 1) (Nat.lt_of_le_of_lt (Nat.sub_le _ _) t.isLt)).2 y + add m c t y := by
  rw [outsAt0_B m c t h]
  frame_out
  generalize (outsAt0 m c (t.val - 1) _).2 = A
  rw [hp2, hp7]

/-- The gain's gradient is the reference's. -/
theorem final_6 (c : Dev nD) : (dats m 0 c).arrAt 6 (cfgs 0).N
    = REF_dg (V m c main_arg0) (V m c main_arg1) (V m c main_arg2) (V m c main_arg3) (V m c main_arg4) := by
  refine (dats m 0 c).arrAt_eq_of_covers 6 _ (by decide +kernel) fun t ht y => ?_
  blk_simp
  have h7 : t.val % 8 = 7 := (flush0_6 t).mp ht
  have hn : t.val < 8 := lt_of_lt_of_eq t.isLt N_0
  rw [after0_6, Pipeline.eq_sum_fin_of_reset_step_apply_of_flush (fun n h y => (outsAt0 m c n h).2 y) 8 (fun _ => 0) (add m c)
      (fun t h j => acc_first m c t h j) (fun t h j => acc_next m c t h j) t h7 _, zero_add]
  refine Eq.trans ?_ (REF_dg_at _ _ _ _ _ _ (y 1 : Fin 1024) (by blk_simp [idx t])).symm
  refine Fin.sum_mul_add_congr fun s k hl => ?_
  have hs : (⟨_, Pipeline.run_point_lt_of_flush t h7 s⟩ : Fin cfg0.N).val = s.val := by dsimp only; omega
  generalize (⟨_, Pipeline.run_point_lt_of_flush t h7 s⟩ : Fin cfg0.N) = u at hs
  exact add_term m c u s k (y 1) hl hs

end Cert.NormOneBwdIdeal
end
-- ==== Proof.Rms.lean ====
/- The gradients through the two root-mean-square scalings: each kernel's results are its reference's. -/
module

public import proofs.«01_k».proof.Defs
public import proofs.«01_k».proof.Proof.NormTwo
public import proofs.«01_k».proof.Proof.NormOne
public import proofs.«01_k».proof.Proof.Gen.NormTwoBwdIdeal.Value
public import proofs.«01_k».proof.Proof.Gen.NormTwoBwdRefIdeal.Run
public import proofs.«01_k».proof.Proof.Gen.NormOneBwdIdeal.Value
public import proofs.«01_k».proof.Proof.Gen.NormOneBwdRefIdeal.Run
public import Idealize.ShloMosaic.Lib.Claim

@[expose] public section

noncomputable section

namespace Cert.Proof

open Idealize.ShloMosaic Idealize.SL.Sem

theorem value_NormTwoBwd : algebraic_NormTwoBwdIdeal_NormTwoBwdRefIdeal := by
  intro m g m' g' _ hagree
  refine ⟨_, _, (θ_run _ _ _).mono (fun r h c => h c) (Cert.NormTwoBwdIdeal.Value.run_blocks m g),
    (θ_run _ _ _).mono (fun r h c => ?_) (Cert.NormTwoBwdRefIdeal.Value.run m' g')⟩
  obtain ⟨e0, e1, e2, e3, e4, e5⟩ := hagree c
  refine ⟨(h c).1.trans (Eq.trans ?_ (Cert.NormTwoBwdIdeal.final_7 m c).symm), (h c).2.1.trans (Eq.trans ?_ (Cert.NormTwoBwdIdeal.final_8 m c).symm), (h c).2.2⟩
  · have hq : Cert.NormTwoBwdRefIdeal.Value.res_main_v43 m' c = Cert.NormTwoBwdRefIdeal.REF_dx (m' ((c.tc : Thread _ _).loc Cert.NormTwoBwdRefIdeal.main_arg0)) (m' ((c.tc : Thread _ _).loc Cert.NormTwoBwdRefIdeal.main_arg1)) (m' ((c.tc : Thread _ _).loc Cert.NormTwoBwdRefIdeal.main_arg2)) (m' ((c.tc : Thread _ _).loc Cert.NormTwoBwdRefIdeal.main_arg3)) (m' ((c.tc : Thread _ _).loc Cert.NormTwoBwdRefIdeal.main_arg4)) (m' ((c.tc : Thread _ _).loc Cert.NormTwoBwdRefIdeal.main_arg5)) := rfl
    rw [hq, e0, e1, e2, e3, e4, e5]
  · show Cert.NormTwoBwdRefIdeal.REF_dg (m' ((c.tc : Thread _ _).loc Cert.NormTwoBwdRefIdeal.main_arg0)) (m' ((c.tc : Thread _ _).loc Cert.NormTwoBwdRefIdeal.main_arg1)) (m' ((c.tc : Thread _ _).loc Cert.NormTwoBwdRefIdeal.main_arg2)) (m' ((c.tc : Thread _ _).loc Cert.NormTwoBwdRefIdeal.main_arg3)) (m' ((c.tc : Thread _ _).loc Cert.NormTwoBwdRefIdeal.main_arg4)) (m' ((c.tc : Thread _ _).loc Cert.NormTwoBwdRefIdeal.main_arg5)) = _
    rw [e0, e1, e2, e3, e4, e5] <;> rfl

theorem frame_NormTwoBwd : quiescent_NormTwoBwdRefIdeal := fun m g _ =>
  (θ_run _ _ _).mono (fun r h => ⟨fun c => (h c).2.2, sem_eq_zero_of_no_sems (by decide) r.2⟩) (Cert.NormTwoBwdRefIdeal.Value.run m g)

theorem value_NormOneBwd : algebraic_NormOneBwdIdeal_NormOneBwdRefIdeal := by
  intro m g m' g' _ hagree
  refine ⟨_, _, (θ_run _ _ _).mono (fun r h c => h c) (Cert.NormOneBwdIdeal.Value.run_blocks m g),
    (θ_run _ _ _).mono (fun r h c => ?_) (Cert.NormOneBwdRefIdeal.Value.run m' g')⟩
  obtain ⟨e0, e1, e2, e3, e4⟩ := hagree c
  refine ⟨(h c).1.trans (Eq.trans ?_ (Cert.NormOneBwdIdeal.final_5 m c).symm), (h c).2.1.trans (Eq.trans ?_ (Cert.NormOneBwdIdeal.final_6 m c).symm), (h c).2.2⟩
  · have hq : Cert.NormOneBwdRefIdeal.Value.res_main_v39 m' c = Cert.NormOneBwdRefIdeal.REF_dx (m' ((c.tc : Thread _ _).loc Cert.NormOneBwdRefIdeal.main_arg0)) (m' ((c.tc : Thread _ _).loc Cert.NormOneBwdRefIdeal.main_arg1)) (m' ((c.tc : Thread _ _).loc Cert.NormOneBwdRefIdeal.main_arg2)) (m' ((c.tc : Thread _ _).loc Cert.NormOneBwdRefIdeal.main_arg3)) (m' ((c.tc : Thread _ _).loc Cert.NormOneBwdRefIdeal.main_arg4)) := rfl
    rw [hq, e0, e1, e2, e3, e4]
  · show Cert.NormOneBwdRefIdeal.REF_dg (m' ((c.tc : Thread _ _).loc Cert.NormOneBwdRefIdeal.main_arg0)) (m' ((c.tc : Thread _ _).loc Cert.NormOneBwdRefIdeal.main_arg1)) (m' ((c.tc : Thread _ _).loc Cert.NormOneBwdRefIdeal.main_arg2)) (m' ((c.tc : Thread _ _).loc Cert.NormOneBwdRefIdeal.main_arg3)) (m' ((c.tc : Thread _ _).loc Cert.NormOneBwdRefIdeal.main_arg4)) = _
    rw [e0, e1, e2, e3, e4] <;> rfl

theorem frame_NormOneBwd : quiescent_NormOneBwdRefIdeal := fun m g _ =>
  (θ_run _ _ _).mono (fun r h => ⟨fun c => (h c).2.2, sem_eq_zero_of_no_sems (by decide) r.2⟩) (Cert.NormOneBwdRefIdeal.Value.run m g)

end Cert.Proof

end
-- ==== Proof.MergeRef.lean ====
/- The reference's derivatives of the merge, element by element: three gated projections summed and projected. -/
module

public import proofs.«01_k».proof.Proof.Gen.MergeBwdRefIdeal
public import proofs.«01_k».proof.Proof.Gen.MergeBwdRefIdeal.Run
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.MergeBwdRefIdeal
open Cert.MergeBwdRefIdeal.Gen

theorem one_eq : Ideal.ofBits .f32 0x3F800000#32 = (1 : EReal) := by
  simp only [Ideal.ofBits, Ideal.ieee]; rw [if_neg (by decide), if_neg (by decide)]
  rw [← EReal.coe_one]; refine congrArg _ ?_; simp; norm_num

/-- The three branches, stacked. -/
def BR (X0 : FVec Ideal S4096x512 .bf16) (X1 : FVec Ideal S4096x512 .bf16) (X2 : FVec Ideal S4096x512 .bf16) : FVec Ideal S3x4096x512 .f32 :=
  concatenate S3x4096x512 0 [⟨S1x4096x512, ((broadcastInDim S1x4096x512 ![1, 2] bcast_S4096x512_S1x4096x512_1_2 (extf .f32 X0 bitsLt_bf16_f32)))⟩, ⟨S1x4096x512, ((broadcastInDim S1x4096x512 ![1, 2] bcast_S4096x512_S1x4096x512_1_2 (extf .f32 X1 bitsLt_bf16_f32)))⟩, ⟨S1x4096x512, ((broadcastInDim S1x4096x512 ![1, 2] bcast_S4096x512_S1x4096x512_1_2 (extf .f32 X2 bitsLt_bf16_f32)))⟩] concatenates_S1x4096x512_S1x4096x512_S1x4096x512_S3x4096x512_d0

/-- Their three projections, stacked. -/
def WB (X3 : FVec Ideal S512x1024 .bf16) (X4 : FVec Ideal S512x1024 .bf16) (X5 : FVec Ideal S512x1024 .bf16) : FVec Ideal S3x512x1024 .f32 :=
  concatenate S3x512x1024 0 [⟨S1x512x1024, ((broadcastInDim S1x512x1024 ![1, 2] bcast_S512x1024_S1x512x1024_1_2 (extf .f32 X3 bitsLt_bf16_f32)))⟩, ⟨S1x512x1024, ((broadcastInDim S1x512x1024 ![1, 2] bcast_S512x1024_S1x512x1024_1_2 (extf .f32 X4 bitsLt_bf16_f32)))⟩, ⟨S1x512x1024, ((broadcastInDim S1x512x1024 ![1, 2] bcast_S512x1024_S1x512x1024_1_2 (extf .f32 X5 bitsLt_bf16_f32)))⟩] concatenates_S1x512x1024_S1x512x1024_S1x512x1024_S3x512x1024_d0

/-- The branches projected. -/
def UP (X0 : FVec Ideal S4096x512 .bf16) (X1 : FVec Ideal S4096x512 .bf16) (X2 : FVec Ideal S4096x512 .bf16) (X3 : FVec Ideal S512x1024 .bf16) (X4 : FVec Ideal S512x1024 .bf16) (X5 : FVec Ideal S512x1024 .bf16) : FVec Ideal S3x4096x1024 .f32 :=
  Host.dotGeneral dot_S3x4096x512_S3x512x1024_S3x4096x1024_2_1_1_2_0_0 none (BR X0 X1 X2) (WB X3 X4 X5)

/-- The three gates. -/
def GT (X6 : FVec Ideal S4096x6656 .bf16) : FVec Ideal S4096x3x1024 .f32 :=
  Host.divf (broadcastInDim S4096x3x1024 ![] bcast_S_S4096x3x1024 (constant S_ .f32 0x3F800000#32)) (addf (broadcastInDim S4096x3x1024 ![] bcast_S_S4096x3x1024 (constant S_ .f32 0x3F800000#32)) (Host.exp (Host.negf (shapeCast _ (extf .f32 (extractStridedSlice S4096x3072 ![0, 3584] X6 slices_S4096x6656_S4096x3072_0_3584) bitsLt_bf16_f32) shapeCasts_S4096x3072_S4096x3x1024))))

/-- The merged sum's derivative. -/
def DM (X7 : FVec Ideal S4096x1024 .f32) (X8 : FVec Ideal S1024x1024 .bf16) : FVec Ideal S4096x1024 .f32 :=
  Host.dotGeneral dot_S4096x1024_S1024x1024_S4096x1024_1_1_0_0_n_n none X7 (extf .f32 X8 bitsLt_bf16_f32)

/-- The projected branches' derivatives. -/
def DU (X6 : FVec Ideal S4096x6656 .bf16) (X7 : FVec Ideal S4096x1024 .f32) (X8 : FVec Ideal S1024x1024 .bf16) : FVec Ideal S3x4096x1024 .f32 :=
  transpose S3x4096x1024 [1, 0, 2] (mulf (GT X6) (broadcastInDim S4096x3x1024 ![0, 2] bcast_S4096x1024_S4096x3x1024_0_2 (DM X7 X8))) transposes_S4096x3x1024_S3x4096x1024_1_0_2

/-- The merged sum. -/
def MG (X0 : FVec Ideal S4096x512 .bf16) (X1 : FVec Ideal S4096x512 .bf16) (X2 : FVec Ideal S4096x512 .bf16) (X3 : FVec Ideal S512x1024 .bf16) (X4 : FVec Ideal S512x1024 .bf16) (X5 : FVec Ideal S512x1024 .bf16) (X6 : FVec Ideal S4096x6656 .bf16) : FVec Ideal S4096x1024 .f32 :=
  Host.reduceAdd (mulf (GT X6) (transpose S4096x3x1024 [1, 0, 2] (UP X0 X1 X2 X3 X4 X5) transposes_S3x4096x1024_S4096x3x1024_1_0_2)) (constant S_ .f32 0x00000000#32) reducesTo_S4096x3x1024_S4096x1024_d1 h_S_

/-- The gate logits' derivatives. -/
def REFl (X0 : FVec Ideal S4096x512 .bf16) (X1 : FVec Ideal S4096x512 .bf16) (X2 : FVec Ideal S4096x512 .bf16) (X3 : FVec Ideal S512x1024 .bf16) (X4 : FVec Ideal S512x1024 .bf16) (X5 : FVec Ideal S512x1024 .bf16) (X6 : FVec Ideal S4096x6656 .bf16) (X7 : FVec Ideal S4096x1024 .f32) (X8 : FVec Ideal S1024x1024 .bf16) : FVec Ideal S3x4096x1024 .bf16 :=
  truncf .bf16 (transpose S3x4096x1024 [1, 0, 2] (shapeCast _ (shapeCast _ (mulf (mulf (broadcastInDim S4096x3x1024 ![0, 2] bcast_S4096x1024_S4096x3x1024_0_2 (DM X7 X8)) (transpose S4096x3x1024 [1, 0, 2] (UP X0 X1 X2 X3 X4 X5) transposes_S3x4096x1024_S4096x3x1024_1_0_2)) (mulf (GT X6) (subf (broadcastInDim S4096x3x1024 ![] bcast_S_S4096x3x1024 (constant S_ .f32 0x3F800000#32)) (GT X6)))) shapeCasts_S4096x3x1024_S4096x3072) shapeCasts_S4096x3072_S4096x3x1024) transposes_S4096x3x1024_S3x4096x1024_1_0_2) bitsLt_bf16_f32

/-- The branches' derivatives, stacked. -/
def DB (X3 : FVec Ideal S512x1024 .bf16) (X4 : FVec Ideal S512x1024 .bf16) (X5 : FVec Ideal S512x1024 .bf16) (X6 : FVec Ideal S4096x6656 .bf16) (X7 : FVec Ideal S4096x1024 .f32) (X8 : FVec Ideal S1024x1024 .bf16) : FVec Ideal S3x4096x512 .f32 :=
  Host.dotGeneral dot_S3x4096x1024_S3x512x1024_S3x4096x512_2_2_1_1_0_0 none (DU X6 X7 X8) (WB X3 X4 X5)

/-- Branch 0's derivative. -/
def REFd0 (X3 : FVec Ideal S512x1024 .bf16) (X4 : FVec Ideal S512x1024 .bf16) (X5 : FVec Ideal S512x1024 .bf16) (X6 : FVec Ideal S4096x6656 .bf16) (X7 : FVec Ideal S4096x1024 .f32) (X8 : FVec Ideal S1024x1024 .bf16) : FVec Ideal S4096x512 .bf16 :=
  truncf .bf16 (shapeCast _ (extractStridedSlice S1x4096x512 ![0, 0, 0] (DB X3 X4 X5 X6 X7 X8) slices_S3x4096x512_S1x4096x512_0_0_0) shapeCasts_S1x4096x512_S4096x512) bitsLt_bf16_f32

/-- Branch 1's derivative. -/
def REFd1 (X3 : FVec Ideal S512x1024 .bf16) (X4 : FVec Ideal S512x1024 .bf16) (X5 : FVec Ideal S512x1024 .bf16) (X6 : FVec Ideal S4096x6656 .bf16) (X7 : FVec Ideal S4096x1024 .f32) (X8 : FVec Ideal S1024x1024 .bf16) : FVec Ideal S4096x512 .bf16 :=
  truncf .bf16 (shapeCast _ (extractStridedSlice S1x4096x512 ![1, 0, 0] (DB X3 X4 X5 X6 X7 X8) slices_S3x4096x512_S1x4096x512_1_0_0) shapeCasts_S1x4096x512_S4096x512) bitsLt_bf16_f32

/-- Branch 2's derivative. -/
def REFd2 (X3 : FVec Ideal S512x1024 .bf16) (X4 : FVec Ideal S512x1024 .bf16) (X5 : FVec Ideal S512x1024 .bf16) (X6 : FVec Ideal S4096x6656 .bf16) (X7 : FVec Ideal S4096x1024 .f32) (X8 : FVec Ideal S1024x1024 .bf16) : FVec Ideal S4096x512 .bf16 :=
  truncf .bf16 (shapeCast _ (extractStridedSlice S1x4096x512 ![2, 0, 0] (DB X3 X4 X5 X6 X7 X8) slices_S3x4096x512_S1x4096x512_2_0_0) shapeCasts_S1x4096x512_S4096x512) bitsLt_bf16_f32

/-- The three projections' derivatives. -/
def REFw (X0 : FVec Ideal S4096x512 .bf16) (X1 : FVec Ideal S4096x512 .bf16) (X2 : FVec Ideal S4096x512 .bf16) (X6 : FVec Ideal S4096x6656 .bf16) (X7 : FVec Ideal S4096x1024 .f32) (X8 : FVec Ideal S1024x1024 .bf16) : FVec Ideal S3x512x1024 .f32 :=
  transpose S3x512x1024 [0, 2, 1] (Host.dotGeneral dot_S3x4096x1024_S3x4096x512_S3x1024x512_1_1_2_2_0_0 none (DU X6 X7 X8) (BR X0 X1 X2)) transposes_S3x1024x512_S3x512x1024_0_2_1

/-- The output projection's derivative. -/
def REFo (X0 : FVec Ideal S4096x512 .bf16) (X1 : FVec Ideal S4096x512 .bf16) (X2 : FVec Ideal S4096x512 .bf16) (X3 : FVec Ideal S512x1024 .bf16) (X4 : FVec Ideal S512x1024 .bf16) (X5 : FVec Ideal S512x1024 .bf16) (X6 : FVec Ideal S4096x6656 .bf16) (X7 : FVec Ideal S4096x1024 .f32) : FVec Ideal S1024x1024 .f32 :=
  transpose S1024x1024 [1, 0] (Host.dotGeneral dot_S4096x1024_S4096x1024_S1024x1024_0_0_1_1_n_n none X7 (MG X0 X1 X2 X3 X4 X5 X6)) transposes_S1024x1024_S1024x1024_1_0

/-! ## Elements -/

theorem BR_0 (X0 X1 X2) (i : Fin 4096) (c : Fin 512) : BR X0 X1 X2 (ix3 (⟨0, by omega⟩ : Fin 3) i c) = X0 (ix2 i c) := by pointwise [BR]
theorem WB_0 (X3 X4 X5) (i : Fin 512) (c : Fin 1024) : WB X3 X4 X5 (ix3 (⟨0, by omega⟩ : Fin 3) i c) = X3 (ix2 i c) := by pointwise [WB]

theorem BR_1 (X0 X1 X2) (i : Fin 4096) (c : Fin 512) : BR X0 X1 X2 (ix3 (⟨1, by omega⟩ : Fin 3) i c) = X1 (ix2 i c) := by pointwise [BR]
theorem WB_1 (X3 X4 X5) (i : Fin 512) (c : Fin 1024) : WB X3 X4 X5 (ix3 (⟨1, by omega⟩ : Fin 3) i c) = X4 (ix2 i c) := by pointwise [WB]

theorem BR_2 (X0 X1 X2) (i : Fin 4096) (c : Fin 512) : BR X0 X1 X2 (ix3 (⟨2, by omega⟩ : Fin 3) i c) = X2 (ix2 i c) := by pointwise [BR]
theorem WB_2 (X3 X4 X5) (i : Fin 512) (c : Fin 1024) : WB X3 X4 X5 (ix3 (⟨2, by omega⟩ : Fin 3) i c) = X5 (ix2 i c) := by pointwise [WB]

theorem UP_at (X0 X1 X2 X3 X4 X5) (n : Fin 3) (i : Fin 4096) (j : Fin 1024) : UP X0 X1 X2 X3 X4 X5 (ix3 n i j)
    = ∑ c : Fin 512, BR X0 X1 X2 (ix3 n i c) * WB X3 X4 X5 (ix3 n c j) := by pointwise [UP]
theorem GT_at (X6) (i : Fin 4096) (n : Fin 3) (j : Fin 1024) : GT X6 (ix3 i n j)
    = Ideal.logistic (X6 (ix2 i (⟨3584 + (n.val * 1024 + j.val), by omega⟩ : Fin 6656))) := by
  rw [Ideal.logistic, ← one_eq]
  pointwise [GT]
theorem DM_at (X7 X8) (i : Fin 4096) (j : Fin 1024) : DM X7 X8 (ix2 i j) = ∑ l : Fin 1024, X7 (ix2 i l) * X8 (ix2 j l) := by pointwise [DM]
theorem DU_at (X6 X7 X8) (n : Fin 3) (i : Fin 4096) (j : Fin 1024) : DU X6 X7 X8 (ix3 n i j) = GT X6 (ix3 i n j) * DM X7 X8 (ix2 i j) := by
  pointwise [DU]
theorem REFl_at (X0 X1 X2 X3 X4 X5 X6 X7 X8) (n : Fin 3) (i : Fin 4096) (j : Fin 1024) : REFl X0 X1 X2 X3 X4 X5 X6 X7 X8 (ix3 n i j)
    = DM X7 X8 (ix2 i j) * UP X0 X1 X2 X3 X4 X5 (ix3 n i j) * (GT X6 (ix3 i n j) * (1 - GT X6 (ix3 i n j))) := by
  rw [← one_eq]
  pointwise [REFl]
theorem DB_at (X3 X4 X5 X6 X7 X8) (n : Fin 3) (i : Fin 4096) (k : Fin 512) : DB X3 X4 X5 X6 X7 X8 (ix3 n i k)
    = ∑ j : Fin 1024, DU X6 X7 X8 (ix3 n i j) * WB X3 X4 X5 (ix3 n k j) := by pointwise [DB]
theorem REFw_at (X0 X1 X2 X6 X7 X8) (n : Fin 3) (k : Fin 512) (j : Fin 1024) : REFw X0 X1 X2 X6 X7 X8 (ix3 n k j)
    = ∑ i : Fin 4096, DU X6 X7 X8 (ix3 n i j) * BR X0 X1 X2 (ix3 n i k) := by pointwise [REFw]
theorem MG_at (X0 X1 X2 X3 X4 X5 X6) (i : Fin 4096) (k : Fin 1024) : MG X0 X1 X2 X3 X4 X5 X6 (ix2 i k)
    = ∑ n : Fin 3, GT X6 (ix3 i n k) * UP X0 X1 X2 X3 X4 X5 (ix3 n i k) := by pointwise [MG]
theorem REFo_at (X0 X1 X2 X3 X4 X5 X6 X7) (k : Fin 1024) (j : Fin 1024) : REFo X0 X1 X2 X3 X4 X5 X6 X7 (ix2 k j)
    = ∑ i : Fin 4096, X7 (ix2 i j) * MG X0 X1 X2 X3 X4 X5 X6 (ix2 i k) := by pointwise [REFo]

theorem REFd0_at (X3 X4 X5 X6 X7 X8) (i : Fin 4096) (k : Fin 512) : REFd0 X3 X4 X5 X6 X7 X8 (ix2 i k)
    = DB X3 X4 X5 X6 X7 X8 (ix3 (⟨0, by omega⟩ : Fin 3) i k) := by pointwise [REFd0]

theorem REFd1_at (X3 X4 X5 X6 X7 X8) (i : Fin 4096) (k : Fin 512) : REFd1 X3 X4 X5 X6 X7 X8 (ix2 i k)
    = DB X3 X4 X5 X6 X7 X8 (ix3 (⟨1, by omega⟩ : Fin 3) i k) := by pointwise [REFd1]

theorem REFd2_at (X3 X4 X5 X6 X7 X8) (i : Fin 4096) (k : Fin 512) : REFd2 X3 X4 X5 X6 X7 X8 (ix2 i k)
    = DB X3 X4 X5 X6 X7 X8 (ix3 (⟨2, by omega⟩ : Fin 3) i k) := by pointwise [REFd2]

end Cert.MergeBwdRefIdeal

end
-- ==== Proof.MergeVal.lean ====
/- The merge's backward kernel: each result is the reference's. -/
module

public import proofs.«01_k».proof.Proof.Gen.MergeBwdIdeal.Frame
public import proofs.«01_k».proof.Proof.MergeRef
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MergeBwdIdeal
open Cert.MergeBwdIdeal.Gen
open Cert.MergeBwdRefIdeal (BR WB UP GT DM DU MG DB REFl REFd0 REFd1 REFd2 REFw REFo one_eq)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_6.index t = ![t.val, 7] ∧ win0_7.index t = ![t.val, 8] ∧ win0_8.index t = ![t.val, 9]
    ∧ win0_9.index t = ![t.val, 10] ∧ win0_10.index t = ![t.val, 11] ∧ win0_11.index t = ![t.val, 12]
    ∧ win0_12.index t = ![t.val, 0] ∧ win0_13.index t = ![t.val, 0] ∧ win0_14.index t = ![0, 0]
    ∧ win0_15.index t = ![0, t.val, 0] ∧ win0_16.index t = ![t.val, 0] ∧ win0_17.index t = ![t.val, 0] ∧ win0_18.index t = ![t.val, 0]
    ∧ win0_19.index t = ![0, 0, 0] ∧ win0_20.index t = ![0, 0] :=
  (by decide +kernel : ∀ t : Fin grid0.N, _)

theorem lt16 (t : Fin cfg0.N) : t.val < 16 := lt_of_lt_of_eq t.isLt N_0

/-- Row `i` of point `t`'s block, in the whole array. -/
abbrev row (t : Fin cfg0.N) (i : Fin 256) : Fin 4096 := ⟨256 * t.val + i.val, by have := lt16 t; omega⟩

/-! ## The body's values, element by element -/

theorem dm_at (a b) (i : Fin 256) (j : Fin 1024) : k0_pay6 (F := Ideal) a b (ix2 i j) = ∑ l : Fin 1024, a (ix2 i l) * b (ix2 j l) := by
  pointwise [k0_pay6, k0_pay4]

theorem sg7 (a b) (f : Fin 1024 → EReal) (i : Fin 256) (ha : ∀ k : Fin 512, a (ix2 i k) = f ⟨k.val, by omega⟩)
    (hb : ∀ k : Fin 512, b (ix2 i k) = f ⟨512 + k.val, by omega⟩) (j : Fin 1024) : k0_pay7 (F := Ideal) a b (ix2 i j) = Ideal.logistic (f j) := by
  by_cases h : j.val < 512
  · obtain ⟨k, e⟩ : ∃ k : Fin 512, j = ⟨k.val, by omega⟩ := ⟨⟨j.val, h⟩, rfl⟩
    rw [e, ← ha]
    pointwise [k0_pay7]
  · obtain ⟨k, e⟩ : ∃ k : Fin 512, j = ⟨512 + k.val, by omega⟩ := ⟨⟨j.val - 512, by omega⟩, Fin.ext (by dsimp only; omega)⟩
    rw [e, ← hb]
    pointwise [k0_pay7]

theorem sg13 (a b) (f : Fin 1024 → EReal) (i : Fin 256) (ha : ∀ k : Fin 512, a (ix2 i k) = f ⟨k.val, by omega⟩)
    (hb : ∀ k : Fin 512, b (ix2 i k) = f ⟨512 + k.val, by omega⟩) (j : Fin 1024) : k0_pay13 (F := Ideal) a b (ix2 i j) = Ideal.logistic (f j) := by
  by_cases h : j.val < 512
  · obtain ⟨k, e⟩ : ∃ k : Fin 512, j = ⟨k.val, by omega⟩ := ⟨⟨j.val, h⟩, rfl⟩
    rw [e, ← ha]
    pointwise [k0_pay13]
  · obtain ⟨k, e⟩ : ∃ k : Fin 512, j = ⟨512 + k.val, by omega⟩ := ⟨⟨j.val - 512, by omega⟩, Fin.ext (by dsimp only; omega)⟩
    rw [e, ← hb]
    pointwise [k0_pay13]

theorem sg18 (a b) (f : Fin 1024 → EReal) (i : Fin 256) (ha : ∀ k : Fin 512, a (ix2 i k) = f ⟨k.val, by omega⟩)
    (hb : ∀ k : Fin 512, b (ix2 i k) = f ⟨512 + k.val, by omega⟩) (j : Fin 1024) : k0_pay18 (F := Ideal) a b (ix2 i j) = Ideal.logistic (f j) := by
  by_cases h : j.val < 512
  · obtain ⟨k, e⟩ : ∃ k : Fin 512, j = ⟨k.val, by omega⟩ := ⟨⟨j.val, h⟩, rfl⟩
    rw [e, ← ha]
    pointwise [k0_pay18]
  · obtain ⟨k, e⟩ : ∃ k : Fin 512, j = ⟨512 + k.val, by omega⟩ := ⟨⟨j.val - 512, by omega⟩, Fin.ext (by dsimp only; omega)⟩
    rw [e, ← hb]
    pointwise [k0_pay18]

theorem dl0 (x p a b s s') (z : Fin 1) (i : Fin 256) (j : Fin 1024) : k0_pay9 (F := Ideal) (k0_pay8 x p a b s s') (ix3 z i j)
    = k0_pay6 x p (ix2 i j) * (∑ k : Fin 512, a (ix2 i k) * b (ix2 k j)) * k0_pay7 s s' (ix2 i j) * (1 - k0_pay7 s s' (ix2 i j)) := by
  rw [← one_eq]; pointwise [k0_pay9, k0_pay8]
theorem dl1 (d a b s s') (z : Fin 1) (i : Fin 256) (j : Fin 1024) : k0_pay14 (F := Ideal) d a b s s' (ix3 z i j)
    = d (ix2 i j) * (∑ k : Fin 512, a (ix2 i k) * b (ix2 k j)) * k0_pay13 s s' (ix2 i j) * (1 - k0_pay13 s s' (ix2 i j)) := by
  rw [← one_eq]; pointwise [k0_pay14]
theorem dl2 (d a b s s') (z : Fin 1) (i : Fin 256) (j : Fin 1024) : k0_pay19 (F := Ideal) d a b s s' (ix3 z i j)
    = d (ix2 i j) * (∑ k : Fin 512, a (ix2 i k) * b (ix2 k j)) * k0_pay18 s s' (ix2 i j) * (1 - k0_pay18 s s' (ix2 i j)) := by
  rw [← one_eq]; pointwise [k0_pay19]

theorem du0 (d g) (i : Fin 256) (j : Fin 1024) : k0_pay10 (F := Ideal) d g (ix2 i j) = d (ix2 i j) * g (ix2 i j) := by pointwise [k0_pay10]
theorem du1 (d s s') (i : Fin 256) (j : Fin 1024) : k0_pay15 (F := Ideal) d s s' (ix2 i j) = d (ix2 i j) * k0_pay13 s s' (ix2 i j) := by pointwise [k0_pay15]
theorem du2 (d s s') (i : Fin 256) (j : Fin 1024) : k0_pay20 (F := Ideal) d s s' (ix2 i j) = d (ix2 i j) * k0_pay18 s s' (ix2 i j) := by pointwise [k0_pay20]

theorem db0 (d w g) (i : Fin 256) (k : Fin 512) : k0_pay11 (F := Ideal) d w g (ix2 i k) = ∑ j : Fin 1024, k0_pay10 d g (ix2 i j) * w (ix2 k j) := by
  pointwise [k0_pay11]
theorem db1 (w u) (i : Fin 256) (k : Fin 512) : k0_pay16 (F := Ideal) w u (constant S256x512 .f32 0x00000000#32) (ix2 i k) = ∑ j : Fin 1024, u (ix2 i j) * w (ix2 k j) := by
  pointwise [k0_pay16]
theorem db2 (d w s s') (i : Fin 256) (k : Fin 512) : k0_pay21 (F := Ideal) d w s s' (ix2 i k) = ∑ j : Fin 1024, k0_pay20 d s s' (ix2 i j) * w (ix2 k j) := by
  pointwise [k0_pay21]

theorem dw0 (d a g v) (z : Fin 1) (k : Fin 512) (j : Fin 1024) : k0_pay12 (F := Ideal) d a g v (ix3 z k j)
    = v (ix3 z k j) + ∑ i : Fin 256, a (ix2 i k) * k0_pay10 d g (ix2 i j) := by
  obtain rfl : z = 0 := Subsingleton.elim _ _
  pointwise [k0_pay12]
theorem dw1 (a u v) (z : Fin 1) (k : Fin 512) (j : Fin 1024) : k0_pay17 (F := Ideal) a u v (ix3 z k j)
    = v (ix3 z k j) + ∑ i : Fin 256, a (ix2 i k) * u (ix2 i j) := by
  obtain rfl : z = 0 := Subsingleton.elim _ _
  pointwise [k0_pay17]
theorem dw2 (a u v) (z : Fin 1) (k : Fin 512) (j : Fin 1024) : k0_pay1 (F := Ideal) a u v (ix3 z k j)
    = v (ix3 z k j) + ∑ i : Fin 256, a (ix2 i k) * u (ix2 i j) := by
  obtain rfl : z = 0 := Subsingleton.elim _ _
  pointwise [k0_pay1]
theorem dwo (x v g) (k j : Fin 1024) : k0_pay5 (F := Ideal) x v g (ix2 k j) = v (ix2 k j) + ∑ i : Fin 256, g (ix2 i k) * x (ix2 i j) := by
  pointwise [k0_pay5, k0_pay4]

/-! ## The blocks -/

/-- The derivative of the merged sum, on a point's rows. -/
theorem DMb (c : Dev nD) (t : Fin cfg0.N) (i : Fin 256) (j : Fin 1024) : k0_pay6 (F := Ideal) (iblk m c 13 t) (iblk m c 14 t) (ix2 i j)
    = DM (V m c main_arg7) (V m c main_arg8) (ix2 (row t i) j) := by
  rw [Cert.MergeBwdRefIdeal.DM_at, dm_at]
  refine Finset.sum_congr rfl fun l _ => ?_
  blk_point [iblk, V, idx t]

/-- Gate 0, on a point's rows. -/
theorem GT0 (c : Dev nD) (t : Fin cfg0.N) (i : Fin 256) (j : Fin 1024) : k0_pay7 (F := Ideal) (iblk m c 6 t) (iblk m c 7 t) (ix2 i j)
    = GT (V m c main_arg6) (ix3 (row t i) (⟨0, by omega⟩ : Fin 3) j) := by
  rw [Cert.MergeBwdRefIdeal.GT_at, sg7 _ _ (fun j => (show FVec Ideal S4096x6656 .bf16 from V m c main_arg6) (ix2 (row t i) (⟨3584 + (0 * 1024 + j.val), by omega⟩ : Fin 6656))) i
    (fun k => by blk_point [iblk, V, idx t]) (fun k => by blk_point [iblk, V, idx t]) j]

/-- Branch 0 projected, on a point's rows. -/
theorem UP0 (c : Dev nD) (t : Fin cfg0.N) (i : Fin 256) (j : Fin 1024) :
    ∑ k : Fin 512, (show FVec Ideal S256x512 .bf16 from iblk m c 0 t) (ix2 i k) * (show FVec Ideal S512x1024 .bf16 from iblk m c 3 t) (ix2 k j)
    = UP (V m c main_arg0) (V m c main_arg1) (V m c main_arg2) (V m c main_arg3) (V m c main_arg4) (V m c main_arg5) (ix3 (⟨0, by omega⟩ : Fin 3) (row t i) j) := by
  rw [Cert.MergeBwdRefIdeal.UP_at]
  refine Finset.sum_congr rfl fun k _ => ?_
  rw [Cert.MergeBwdRefIdeal.BR_0, Cert.MergeBwdRefIdeal.WB_0]
  blk_point [iblk, V, idx t]

/-- Gate 1, on a point's rows. -/
theorem GT1 (c : Dev nD) (t : Fin cfg0.N) (i : Fin 256) (j : Fin 1024) : k0_pay13 (F := Ideal) (iblk m c 8 t) (iblk m c 9 t) (ix2 i j)
    = GT (V m c main_arg6) (ix3 (row t i) (⟨1, by omega⟩ : Fin 3) j) := by
  rw [Cert.MergeBwdRefIdeal.GT_at, sg13 _ _ (fun j => (show FVec Ideal S4096x6656 .bf16 from V m c main_arg6) (ix2 (row t i) (⟨3584 + (1 * 1024 + j.val), by omega⟩ : Fin 6656))) i
    (fun k => by blk_point [iblk, V, idx t]) (fun k => by blk_point [iblk, V, idx t]) j]

/-- Branch 1 projected, on a point's rows. -/
theorem UP1 (c : Dev nD) (t : Fin cfg0.N) (i : Fin 256) (j : Fin 1024) :
    ∑ k : Fin 512, (show FVec Ideal S256x512 .bf16 from iblk m c 1 t) (ix2 i k) * (show FVec Ideal S512x1024 .bf16 from iblk m c 4 t) (ix2 k j)
    = UP (V m c main_arg0) (V m c main_arg1) (V m c main_arg2) (V m c main_arg3) (V m c main_arg4) (V m c main_arg5) (ix3 (⟨1, by omega⟩ : Fin 3) (row t i) j) := by
  rw [Cert.MergeBwdRefIdeal.UP_at]
  refine Finset.sum_congr rfl fun k _ => ?_
  rw [Cert.MergeBwdRefIdeal.BR_1, Cert.MergeBwdRefIdeal.WB_1]
  blk_point [iblk, V, idx t]

/-- Gate 2, on a point's rows. -/
theorem GT2 (c : Dev nD) (t : Fin cfg0.N) (i : Fin 256) (j : Fin 1024) : k0_pay18 (F := Ideal) (iblk m c 10 t) (iblk m c 11 t) (ix2 i j)
    = GT (V m c main_arg6) (ix3 (row t i) (⟨2, by omega⟩ : Fin 3) j) := by
  rw [Cert.MergeBwdRefIdeal.GT_at, sg18 _ _ (fun j => (show FVec Ideal S4096x6656 .bf16 from V m c main_arg6) (ix2 (row t i) (⟨3584 + (2 * 1024 + j.val), by omega⟩ : Fin 6656))) i
    (fun k => by blk_point [iblk, V, idx t]) (fun k => by blk_point [iblk, V, idx t]) j]

/-- Branch 2 projected, on a point's rows. -/
theorem UP2 (c : Dev nD) (t : Fin cfg0.N) (i : Fin 256) (j : Fin 1024) :
    ∑ k : Fin 512, (show FVec Ideal S256x512 .bf16 from iblk m c 2 t) (ix2 i k) * (show FVec Ideal S512x1024 .bf16 from iblk m c 5 t) (ix2 k j)
    = UP (V m c main_arg0) (V m c main_arg1) (V m c main_arg2) (V m c main_arg3) (V m c main_arg4) (V m c main_arg5) (ix3 (⟨2, by omega⟩ : Fin 3) (row t i) j) := by
  rw [Cert.MergeBwdRefIdeal.UP_at]
  refine Finset.sum_congr rfl fun k _ => ?_
  rw [Cert.MergeBwdRefIdeal.BR_2, Cert.MergeBwdRefIdeal.WB_2]
  blk_point [iblk, V, idx t]

/-- The merged sum the host hands over. -/
theorem V_mg (c : Dev nD) (i : Fin 4096) (k : Fin 1024) : (show FVec Ideal S4096x1024 .bf16 from V m c main_v25) (ix2 i k)
    = MG (V m c main_arg0) (V m c main_arg1) (V m c main_arg2) (V m c main_arg3) (V m c main_arg4) (V m c main_arg5) (V m c main_arg6) (ix2 i k) := by
  rw [Cert.MergeBwdRefIdeal.MG_at]
  have e : V m c main_v25 = truncf .bf16 (Host.dotGeneral dot_S4096x3x1024_S3x4096x1024_S4096x1024_1_0_n_n_02_12 none (GT (V m c main_arg6)) (UP (V m c main_arg0) (V m c main_arg1) (V m c main_arg2) (V m c main_arg3) (V m c main_arg4) (V m c main_arg5))) bitsLt_bf16_f32 := by
    unfold V GT UP BR WB; after_results; try rfl
  rw [e]
  generalize GT _ = g
  generalize UP _ _ _ _ _ _ = u
  pointwise []

theorem MGb (c : Dev nD) (t : Fin cfg0.N) (i : Fin 256) (k : Fin 1024) : (show FVec Ideal S256x1024 .bf16 from iblk m c 12 t) (ix2 i k)
    = MG (V m c main_arg0) (V m c main_arg1) (V m c main_arg2) (V m c main_arg3) (V m c main_arg4) (V m c main_arg5) (V m c main_arg6) (ix2 (row t i) k) := by
  rw [← V_mg]
  blk_point [iblk, idx t]

end Cert.MergeBwdIdeal

end
-- ==== Proof.MergeOut.lean ====
/- The merge's backward kernel: the arrays it leaves are the reference's. -/
module

public import proofs.«01_k».proof.Proof.Gen.MergeBwdIdeal.Frame
public import proofs.«01_k».proof.Proof.MergeVal
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MergeBwdIdeal
open Cert.MergeBwdIdeal.Gen
open Cert.MergeBwdRefIdeal (BR WB UP GT DM DU MG DB REFl REFd0 REFd1 REFd2 REFw REFo one_eq)

variable (m : (ℓ : Loc nD τ sig) → Buf (Elt Ideal) ℓ)

/-- Stores that cover an index leave there what they leave over any earlier stores. -/
theorem canon_append_cover {Val : EltTy → Type} [∀ e, Nonempty (Val e)] {S : Shape} {e : EltTy} (L' : List (View.Piece Val S e)) :
    ∀ (L : List (View.Piece Val S e)) (y : S.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_cover L' L y ?_
      obtain ⟨q, hq, hyq⟩ := hy
      rcases List.mem_cons.mp hq with rfl | hq'
      · exact absurd hyq hm
      · exact ⟨q, hq', hyq⟩

theorem L0 (c : Dev nD) (t : Fin cfg0.N) (z : Fin 1) (i : Fin 256) (j : Fin 1024) :
    k0_pay9 (F := Ideal) (k0_pay8 (iblk m c 13 t) (iblk m c 14 t) (iblk m c 0 t) (iblk m c 3 t) (iblk m c 6 t) (iblk m c 7 t)) (ix3 z i j)
      = REFl (V m c main_arg0) (V m c main_arg1) (V m c main_arg2) (V m c main_arg3) (V m c main_arg4) (V m c main_arg5) (V m c main_arg6) (V m c main_arg7) (V m c main_arg8) (ix3 (⟨0, by omega⟩ : Fin 3) (row t i) j) := by
  rw [dl0, DMb, GT0, Cert.MergeBwdRefIdeal.REFl_at, mul_assoc]
  exact congrArg (fun u => _ * u * _) (UP0 m c t i j)

theorem D0 (c : Dev nD) (t : Fin cfg0.N) (i : Fin 256) (k : Fin 512) :
    k0_pay11 (F := Ideal) (k0_pay6 (iblk m c 13 t) (iblk m c 14 t)) (iblk m c 3 t) (k0_pay7 (iblk m c 6 t) (iblk m c 7 t)) (ix2 i k)
      = REFd0 (V m c main_arg3) (V m c main_arg4) (V m c main_arg5) (V m c main_arg6) (V m c main_arg7) (V m c main_arg8) (ix2 (row t i) k) := by
  rw [db0, Cert.MergeBwdRefIdeal.REFd0_at, Cert.MergeBwdRefIdeal.DB_at]
  refine Finset.sum_congr rfl fun j _ => ?_
  rw [du0, DMb, GT0, Cert.MergeBwdRefIdeal.DU_at, Cert.MergeBwdRefIdeal.WB_0]
  refine congrArg₂ _ (mul_comm _ _) ?_
  blk_point [iblk, V, idx t]

theorem W0 (c : Dev nD) (t : Fin cfg0.N) (v : FVec Ideal S1x512x1024 .f32) (z : Fin 1) (k : Fin 512) (j : Fin 1024) :
    k0_pay12 (F := Ideal) (k0_pay6 (iblk m c 13 t) (iblk m c 14 t)) (iblk m c 0 t) (k0_pay7 (iblk m c 6 t) (iblk m c 7 t)) v (ix3 z k j)
      = v (ix3 z k j) + ∑ i : Fin 256, DU (V m c main_arg6) (V m c main_arg7) (V m c main_arg8) (ix3 (⟨0, by omega⟩ : Fin 3) (row t i) j) * BR (V m c main_arg0) (V m c main_arg1) (V m c main_arg2) (ix3 (⟨0, by omega⟩ : Fin 3) (row t i) k) := by
  rw [dw0]
  refine congrArg _ (Finset.sum_congr rfl fun i _ => ?_)
  rw [du0, DMb, GT0, Cert.MergeBwdRefIdeal.DU_at, Cert.MergeBwdRefIdeal.BR_0, mul_comm, mul_comm (DM _ _ _)]
  refine congrArg _ ?_
  blk_point [iblk, V, idx t]

theorem L1 (c : Dev nD) (t : Fin cfg0.N) (z : Fin 1) (i : Fin 256) (j : Fin 1024) :
    k0_pay14 (F := Ideal) (k0_pay6 (iblk m c 13 t) (iblk m c 14 t)) (iblk m c 1 t) (iblk m c 4 t) (iblk m c 8 t) (iblk m c 9 t) (ix3 z i j)
      = REFl (V m c main_arg0) (V m c main_arg1) (V m c main_arg2) (V m c main_arg3) (V m c main_arg4) (V m c main_arg5) (V m c main_arg6) (V m c main_arg7) (V m c main_arg8) (ix3 (⟨1, by omega⟩ : Fin 3) (row t i) j) := by
  rw [dl1, DMb, GT1, Cert.MergeBwdRefIdeal.REFl_at, mul_assoc]
  exact congrArg (fun u => _ * u * _) (UP1 m c t i j)

theorem D1 (c : Dev nD) (t : Fin cfg0.N) (i : Fin 256) (k : Fin 512) :
    k0_pay16 (F := Ideal) (iblk m c 4 t) (k0_pay15 (k0_pay6 (iblk m c 13 t) (iblk m c 14 t)) (iblk m c 8 t) (iblk m c 9 t)) (constant S256x512 .f32 0x00000000#32) (ix2 i k)
      = REFd1 (V m c main_arg3) (V m c main_arg4) (V m c main_arg5) (V m c main_arg6) (V m c main_arg7) (V m c main_arg8) (ix2 (row t i) k) := by
  rw [db1, Cert.MergeBwdRefIdeal.REFd1_at, Cert.MergeBwdRefIdeal.DB_at]
  refine Finset.sum_congr rfl fun j _ => ?_
  rw [du1, DMb, GT1, Cert.MergeBwdRefIdeal.DU_at, Cert.MergeBwdRefIdeal.WB_1]
  refine congrArg₂ _ (mul_comm _ _) ?_
  blk_point [iblk, V, idx t]

theorem W1 (c : Dev nD) (t : Fin cfg0.N) (v : FVec Ideal S1x512x1024 .f32) (z : Fin 1) (k : Fin 512) (j : Fin 1024) :
    k0_pay17 (F := Ideal) (iblk m c 1 t) (k0_pay15 (k0_pay6 (iblk m c 13 t) (iblk m c 14 t)) (iblk m c 8 t) (iblk m c 9 t)) v (ix3 z k j)
      = v (ix3 z k j) + ∑ i : Fin 256, DU (V m c main_arg6) (V m c main_arg7) (V m c main_arg8) (ix3 (⟨1, by omega⟩ : Fin 3) (row t i) j) * BR (V m c main_arg0) (V m c main_arg1) (V m c main_arg2) (ix3 (⟨1, by omega⟩ : Fin 3) (row t i) k) := by
  rw [dw1]
  refine congrArg _ (Finset.sum_congr rfl fun i _ => ?_)
  rw [du1, DMb, GT1, Cert.MergeBwdRefIdeal.DU_at, Cert.MergeBwdRefIdeal.BR_1, mul_comm, mul_comm (DM _ _ _)]
  refine congrArg _ ?_
  blk_point [iblk, V, idx t]

theorem L2 (c : Dev nD) (t : Fin cfg0.N) (z : Fin 1) (i : Fin 256) (j : Fin 1024) :
    k0_pay19 (F := Ideal) (k0_pay6 (iblk m c 13 t) (iblk m c 14 t)) (iblk m c 2 t) (iblk m c 5 t) (iblk m c 10 t) (iblk m c 11 t) (ix3 z i j)
      = REFl (V m c main_arg0) (V m c main_arg1) (V m c main_arg2) (V m c main_arg3) (V m c main_arg4) (V m c main_arg5) (V m c main_arg6) (V m c main_arg7) (V m c main_arg8) (ix3 (⟨2, by omega⟩ : Fin 3) (row t i) j) := by
  rw [dl2, DMb, GT2, Cert.MergeBwdRefIdeal.REFl_at, mul_assoc]
  exact congrArg (fun u => _ * u * _) (UP2 m c t i j)

theorem D2 (c : Dev nD) (t : Fin cfg0.N) (i : Fin 256) (k : Fin 512) :
    k0_pay21 (F := Ideal) (k0_pay6 (iblk m c 13 t) (iblk m c 14 t)) (iblk m c 5 t) (iblk m c 10 t) (iblk m c 11 t) (ix2 i k)
      = REFd2 (V m c main_arg3) (V m c main_arg4) (V m c main_arg5) (V m c main_arg6) (V m c main_arg7) (V m c main_arg8) (ix2 (row t i) k) := by
  rw [db2, Cert.MergeBwdRefIdeal.REFd2_at, Cert.MergeBwdRefIdeal.DB_at]
  refine Finset.sum_congr rfl fun j _ => ?_
  rw [du2, DMb, GT2, Cert.MergeBwdRefIdeal.DU_at, Cert.MergeBwdRefIdeal.WB_2]
  refine congrArg₂ _ (mul_comm _ _) ?_
  blk_point [iblk, V, idx t]

theorem W2 (c : Dev nD) (t : Fin cfg0.N) (v : FVec Ideal S1x512x1024 .f32) (z : Fin 1) (k : Fin 512) (j : Fin 1024) :
    k0_pay1 (F := Ideal) (iblk m c 2 t) (k0_pay20 (k0_pay6 (iblk m c 13 t) (iblk m c 14 t)) (iblk m c 10 t) (iblk m c 11 t)) v (ix3 z k j)
      = v (ix3 z k j) + ∑ i : Fin 256, DU (V m c main_arg6) (V m c main_arg7) (V m c main_arg8) (ix3 (⟨2, by omega⟩ : Fin 3) (row t i) j) * BR (V m c main_arg0) (V m c main_arg1) (V m c main_arg2) (ix3 (⟨2, by omega⟩ : Fin 3) (row t i) k) := by
  rw [dw2]
  refine congrArg _ (Finset.sum_congr rfl fun i _ => ?_)
  rw [du2, DMb, GT2, Cert.MergeBwdRefIdeal.DU_at, Cert.MergeBwdRefIdeal.BR_2, mul_comm, mul_comm (DM _ _ _)]
  refine congrArg _ ?_
  blk_point [iblk, V, idx t]

/-- What a point adds to the output projection's derivative. -/
theorem Wo (c : Dev nD) (t : Fin cfg0.N) (v : FVec Ideal S1024x1024 .f32) (k j : Fin 1024) :
    k0_pay5 (F := Ideal) (iblk m c 13 t) v (iblk m c 12 t) (ix2 k j)
      = v (ix2 k j) + ∑ i : Fin 256, (show FVec Ideal S4096x1024 .f32 from V m c main_arg7) (ix2 (row t i) j) * MG (V m c main_arg0) (V m c main_arg1) (V m c main_arg2) (V m c main_arg3) (V m c main_arg4) (V m c main_arg5) (V m c main_arg6) (ix2 (row t i) k) := by
  rw [dwo]
  refine congrArg _ (Finset.sum_congr rfl fun i _ => ?_)
  rw [mul_comm]
  refine congrArg₂ _ ?_ (MGb m c t i k)
  blk_point [iblk, V, idx t]

attribute [local irreducible] DM DU DB MG GT UP BR WB k0_pay1 k0_pay5 k0_pay6 k0_pay7 k0_pay8 k0_pay9 k0_pay10 k0_pay11 k0_pay12 k0_pay13 k0_pay14 k0_pay15 k0_pay16 k0_pay17 k0_pay18 k0_pay19 k0_pay20 k0_pay21

set_option maxHeartbeats 1600000 in
/-- The first output's block. -/
theorem point_15 (c : Dev nD) (t : Fin cfg0.N) (y) : (outsAt0 m c t.val t.isLt).1 y
    = REFl (V m c main_arg0) (V m c main_arg1) (V m c main_arg2) (V m c main_arg3) (V m c main_arg4) (V m c main_arg5) (V m c main_arg6) (V m c main_arg7) (V m c main_arg8) (((cfg0.win 15).blk t).view.emb y) := by
  have ht := lt16 t
  by_cases hk : t.val % 16 = 0
  case' pos => rw [outsAt0_A m c t hk]
  case' neg => rw [outsAt0_B m c t hk]
  all_goals
    frame_out
    canon_tiles x h
    all_goals
      obtain ⟨z, i, j, rfl⟩ : ∃ (z : Fin 1) (i : Fin 256) (j : Fin 1024), x = ix3 z i j := ⟨x 0, x 1, x 2, by funext a; fin_cases a <;> rfl⟩
      first | refine (L0 m c t z i j).trans (congrArg _ ?_) | refine (L1 m c t z i j).trans (congrArg _ ?_) | refine (L2 m c t z i j).trans (congrArg _ ?_)
      funext a; fin_cases a <;> refine Fin.ext ?_ <;> blk_simp [idx t] <;> simp at * <;> omega

theorem final_15 (c : Dev nD) : (dats m 0 c).arrAt 15 (cfgs 0).N = REFl (V m c main_arg0) (V m c main_arg1) (V m c main_arg2) (V m c main_arg3) (V m c main_arg4) (V m c main_arg5) (V m c main_arg6) (V m c main_arg7) (V m c main_arg8) := by
  refine (dats m 0 c).arrAt_eq_of_covers 15 _ (by decide +kernel) fun t hf y => ?_
  blk_simp
  show (dats m 0 c).after 15 t y = _
  rw [after0_15]
  exact point_15 m c t y

/-- Branch 0's derivative. -/
theorem point_16 (c : Dev nD) (t : Fin cfg0.N) (y) : (outsAt0 m c t.val t.isLt).2.1 y
    = REFd0 (V m c main_arg3) (V m c main_arg4) (V m c main_arg5) (V m c main_arg6) (V m c main_arg7) (V m c main_arg8) (((cfg0.win 16).blk t).view.emb y) := by
  obtain ⟨i, k, rfl⟩ : ∃ (i : Fin 256) (k : Fin 512), y = ix2 i k := ⟨y 0, y 1, by funext a; fin_cases a <;> rfl⟩
  have e : ((cfg0.win 16).blk t).view.emb (ix2 i k) = ix2 (row t i) k := by
    funext a; fin_cases a <;> refine Fin.ext ?_ <;> blk_simp [idx t] <;> first | rfl | (show t.val * 256 + i.val = 256 * t.val + i.val; omega)
  rw [e]
  by_cases hk : t.val % 16 = 0
  case' pos => rw [outsAt0_A m c t hk]
  case' neg => rw [outsAt0_B m c t hk]
  all_goals
    frame_out
    exact D0 m c t i k

theorem final_16 (c : Dev nD) : (dats m 0 c).arrAt 16 (cfgs 0).N = REFd0 (V m c main_arg3) (V m c main_arg4) (V m c main_arg5) (V m c main_arg6) (V m c main_arg7) (V m c main_arg8) := by
  refine (dats m 0 c).arrAt_eq_of_covers 16 _ (by decide +kernel) fun t hf y => ?_
  blk_simp
  show (dats m 0 c).after 16 t y = _
  rw [after0_16]
  exact point_16 m c t y

/-- Branch 1's derivative. -/
theorem point_17 (c : Dev nD) (t : Fin cfg0.N) (y) : (outsAt0 m c t.val t.isLt).2.2.1 y
    = REFd1 (V m c main_arg3) (V m c main_arg4) (V m c main_arg5) (V m c main_arg6) (V m c main_arg7) (V m c main_arg8) (((cfg0.win 17).blk t).view.emb y) := by
  obtain ⟨i, k, rfl⟩ : ∃ (i : Fin 256) (k : Fin 512), y = ix2 i k := ⟨y 0, y 1, by funext a; fin_cases a <;> rfl⟩
  have e : ((cfg0.win 17).blk t).view.emb (ix2 i k) = ix2 (row t i) k := by
    funext a; fin_cases a <;> refine Fin.ext ?_ <;> blk_simp [idx t] <;> first | rfl | (show t.val * 256 + i.val = 256 * t.val + i.val; omega)
  rw [e]
  by_cases hk : t.val % 16 = 0
  case' pos => rw [outsAt0_A m c t hk]
  case' neg => rw [outsAt0_B m c t hk]
  all_goals
    frame_out
    exact D1 m c t i k

theorem final_17 (c : Dev nD) : (dats m 0 c).arrAt 17 (cfgs 0).N = REFd1 (V m c main_arg3) (V m c main_arg4) (V m c main_arg5) (V m c main_arg6) (V m c main_arg7) (V m c main_arg8) := by
  refine (dats m 0 c).arrAt_eq_of_covers 17 _ (by decide +kernel) fun t hf y => ?_
  blk_simp
  show (dats m 0 c).after 17 t y = _
  rw [after0_17]
  exact point_17 m c t y

/-- Branch 2's derivative. -/
theorem point_18 (c : Dev nD) (t : Fin cfg0.N) (y) : (outsAt0 m c t.val t.isLt).2.2.2.1 y
    = REFd2 (V m c main_arg3) (V m c main_arg4) (V m c main_arg5) (V m c main_arg6) (V m c main_arg7) (V m c main_arg8) (((cfg0.win 18).blk t).view.emb y) := by
  obtain ⟨i, k, rfl⟩ : ∃ (i : Fin 256) (k : Fin 512), y = ix2 i k := ⟨y 0, y 1, by funext a; fin_cases a <;> rfl⟩
  have e : ((cfg0.win 18).blk t).view.emb (ix2 i k) = ix2 (row t i) k := by
    funext a; fin_cases a <;> refine Fin.ext ?_ <;> blk_simp [idx t] <;> first | rfl | (show t.val * 256 + i.val = 256 * t.val + i.val; omega)
  rw [e]
  by_cases hk : t.val % 16 = 0
  case' pos => rw [outsAt0_A m c t hk]
  case' neg => rw [outsAt0_B m c t hk]
  all_goals
    frame_out
    exact D2 m c t i k

theorem final_18 (c : Dev nD) : (dats m 0 c).arrAt 18 (cfgs 0).N = REFd2 (V m c main_arg3) (V m c main_arg4) (V m c main_arg5) (V m c main_arg6) (V m c main_arg7) (V m c main_arg8) := by
  refine (dats m 0 c).arrAt_eq_of_covers 18 _ (by decide +kernel) fun t hf y => ?_
  blk_simp
  show (dats m 0 c).after 18 t y = _
  rw [after0_18]
  exact point_18 m c t y

/-- What a point adds to the three projections' derivatives. -/
def addw (c : Dev nD) (t : Fin cfg0.N) (y : S3x512x1024.Idx) : EReal :=
  ∑ i : Fin 256, DU (V m c main_arg6) (V m c main_arg7) (V m c main_arg8) (ix3 (y 0 : Fin 3) (row t i) (y 2 : Fin 1024)) * BR (V m c main_arg0) (V m c main_arg1) (V m c main_arg2) (ix3 (y 0 : Fin 3) (row t i) (y 1 : Fin 512))

theorem addw_at (c : Dev nD) (t : Fin cfg0.N) (y : S3x512x1024.Idx) (n : Fin 3) (k : Fin 512) (j : Fin 1024) (e : y = ix3 n k j) :
    addw m c t y = ∑ i : Fin 256, DU (V m c main_arg6) (V m c main_arg7) (V m c main_arg8) (ix3 n (row t i) j) * BR (V m c main_arg0) (V m c main_arg1) (V m c main_arg2) (ix3 n (row t i) k) := by rw [e]; rfl

attribute [local irreducible] addw

set_option maxHeartbeats 1600000 in
theorem point_19_A (c : Dev nD) (t : Fin cfg0.N) (hk : t.val % 16 = 0) (y) : (outsAt0 m c t.val t.isLt).2.2.2.2.1 y = 0 + addw m c t y := by
  rw [outsAt0_A m c t hk]
  frame_open
  simp (disch := decide) only [↓View.readCov_skip, ↓View.readCov_fill]
  frame_out
  refine (canon_append_cover [_] [_, _, _] y ?_).trans ?_
  · exact View.cover_of_tiled_head _ _ _ (by rfl) y
  canon_tiles x h
  all_goals
    obtain ⟨z, k, j, rfl⟩ : ∃ (z : Fin 1) (k : Fin 512) (j : Fin 1024), x = ix3 z k j := ⟨x 0, x 1, x 2, by funext a; fin_cases a <;> rfl⟩
    first
    | refine (W0 m c t _ z k j).trans (congrArg₂ _ (by pointwise [k0_pay2]) (addw_at m c t y (⟨0, by omega⟩ : Fin 3) k j ?_).symm)
    | refine (W1 m c t _ z k j).trans (congrArg₂ _ (by pointwise [k0_pay2]) (addw_at m c t y (⟨1, by omega⟩ : Fin 3) k j ?_).symm)
    | refine (W2 m c t _ z k j).trans (congrArg₂ _ (by pointwise [k0_pay2]) (addw_at m c t y (⟨2, by omega⟩ : Fin 3) k j ?_).symm)
    funext a; fin_cases a <;> refine Fin.ext ?_ <;> simp at * <;> omega

set_option maxHeartbeats 1600000 in
theorem point_19_B (c : Dev nD) (t : Fin cfg0.N) (hk : ¬t.val % 16 = 0) (y) : (outsAt0 m c t.val t.isLt).2.2.2.2.1 y
    = (outsAt0 m c (t.val - 1) (Nat.lt_of_le_of_lt (Nat.sub_le _ _) t.isLt)).2.2.2.2.1 y + addw m c t y := by
  rw [outsAt0_B m c t hk]
  frame_out
  generalize (outsAt0 m c (t.val - 1) _).2.2.2.2.1 = A
  canon_tiles x h
  all_goals
    obtain ⟨z, k, j, rfl⟩ : ∃ (z : Fin 1) (k : Fin 512) (j : Fin 1024), x = ix3 z k j := ⟨x 0, x 1, x 2, by funext a; fin_cases a <;> rfl⟩
    first
    | refine (W0 m c t _ z k j).trans (congrArg₂ _ ?_ (addw_at m c t y (⟨0, by omega⟩ : Fin 3) k j ?_).symm)
    | refine (W1 m c t _ z k j).trans (congrArg₂ _ ?_ (addw_at m c t y (⟨1, by omega⟩ : Fin 3) k j ?_).symm)
    | refine (W2 m c t _ z k j).trans (congrArg₂ _ ?_ (addw_at m c t y (⟨2, by omega⟩ : Fin 3) k j ?_).symm)
    · refine View.ld_unit_apply_of _ _ _ _ _ _ fun a => ?_
      fin_cases a <;> simp at * <;> omega
    · funext a; fin_cases a <;> refine Fin.ext ?_ <;> simp at * <;> omega

theorem final_19 (c : Dev nD) : (dats m 0 c).arrAt 19 (cfgs 0).N = REFw (V m c main_arg0) (V m c main_arg1) (V m c main_arg2) (V m c main_arg6) (V m c main_arg7) (V m c main_arg8) := by
  refine (dats m 0 c).arrAt_eq_of_covers 19 _ (by decide +kernel) fun t ht y => ?_
  blk_simp
  have h15 : t.val % 16 = 15 := (flush0_19 t).mp ht
  have ht' := lt16 t
  obtain ⟨n, k, j, rfl⟩ : ∃ (n : Fin 3) (k : Fin 512) (j : Fin 1024), y = ix3 n k j := ⟨y 0, y 1, y 2, by funext a; fin_cases a <;> rfl⟩
  have e : (win0_19.blk t).view.emb (ix3 n k j) = ix3 n k j := by
    funext a; fin_cases a <;> refine Fin.ext ?_ <;> blk_simp [idx t] <;> first | rfl | omega
  rw [e, after0_19, Pipeline.eq_sum_fin_of_reset_step_apply_of_flush (fun n h => (outsAt0 m c n h).2.2.2.2.1) 16 (fun _ => 0) (addw m c)
    (fun t h j => point_19_A m c t h j) (fun t h j => point_19_B m c t h j) t h15 _, zero_add, Cert.MergeBwdRefIdeal.REFw_at]
  unfold addw
  refine Fin.sum_mul_add_congr fun s i hl => ?_
  have hs : (⟨_, Pipeline.run_point_lt_of_flush t h15 s⟩ : Fin cfg0.N).val = s.val := by dsimp only; omega
  generalize (⟨_, Pipeline.run_point_lt_of_flush t h15 s⟩ : Fin cfg0.N) = u at hs
  have er : row u i = (⟨s.val * 256 + i.val, hl⟩ : Fin 4096) := Fin.ext (by dsimp only [row]; omega)
  rw [er]
  rfl

/-- What a point adds to the output projection's derivative. -/
def addo (c : Dev nD) (t : Fin cfg0.N) (y : S1024x1024.Idx) : EReal :=
  ∑ i : Fin 256, (show FVec Ideal S4096x1024 .f32 from V m c main_arg7) (ix2 (row t i) (y 1 : Fin 1024)) * MG (V m c main_arg0) (V m c main_arg1) (V m c main_arg2) (V m c main_arg3) (V m c main_arg4) (V m c main_arg5) (V m c main_arg6) (ix2 (row t i) (y 0 : Fin 1024))

attribute [local irreducible] addo
theorem point_20_A (c : Dev nD) (t : Fin cfg0.N) (hk : t.val % 16 = 0) (y) : (outsAt0 m c t.val t.isLt).2.2.2.2.2 y = 0 + addo m c t y := by
  obtain ⟨k, j, rfl⟩ : ∃ (k j : Fin 1024), y = ix2 k j := ⟨y 0, y 1, by funext a; fin_cases a <;> rfl⟩
  rw [outsAt0_A m c t hk]
  frame_open
  simp (disch := decide) only [↓View.readCov_skip, ↓View.readCov_fill]
  frame_out
  refine (Wo m c t _ k j).trans (congrArg₂ _ (by pointwise [k0_pay3]) ?_)
  unfold addo; rfl

theorem point_20_B (c : Dev nD) (t : Fin cfg0.N) (hk : ¬t.val % 16 = 0) (y) : (outsAt0 m c t.val t.isLt).2.2.2.2.2 y
    = (outsAt0 m c (t.val - 1) (Nat.lt_of_le_of_lt (Nat.sub_le _ _) t.isLt)).2.2.2.2.2 y + addo m c t y := by
  obtain ⟨k, j, rfl⟩ : ∃ (k j : Fin 1024), y = ix2 k j := ⟨y 0, y 1, by funext a; fin_cases a <;> rfl⟩
  rw [outsAt0_B m c t hk]
  frame_out
  generalize (outsAt0 m c (t.val - 1) _).2.2.2.2.2 = A
  refine (Wo m c t _ k j).trans (congrArg _ ?_)
  unfold addo; rfl

theorem final_20 (c : Dev nD) : (dats m 0 c).arrAt 20 (cfgs 0).N = REFo (V m c main_arg0) (V m c main_arg1) (V m c main_arg2) (V m c main_arg3) (V m c main_arg4) (V m c main_arg5) (V m c main_arg6) (V m c main_arg7) := by
  refine (dats m 0 c).arrAt_eq_of_covers 20 _ (by decide +kernel) fun t ht y => ?_
  blk_simp
  have h15 : t.val % 16 = 15 := (flush0_20 t).mp ht
  have ht' := lt16 t
  obtain ⟨k, j, rfl⟩ : ∃ (k j : Fin 1024), y = ix2 k j := ⟨y 0, y 1, by funext a; fin_cases a <;> rfl⟩
  have e : (win0_20.blk t).view.emb (ix2 k j) = ix2 k j := by
    funext a; fin_cases a <;> refine Fin.ext ?_ <;> blk_simp [idx t] <;> first | rfl | omega
  rw [e, after0_20, Pipeline.eq_sum_fin_of_reset_step_apply_of_flush (fun n h => (outsAt0 m c n h).2.2.2.2.2) 16 (fun _ => 0) (addo m c)
    (fun t h j => point_20_A m c t h j) (fun t h j => point_20_B m c t h j) t h15 _, zero_add, Cert.MergeBwdRefIdeal.REFo_at]
  unfold addo
  refine Fin.sum_mul_add_congr fun s i hl => ?_
  have hs : (⟨_, Pipeline.run_point_lt_of_flush t h15 s⟩ : Fin cfg0.N).val = s.val := by dsimp only; omega
  generalize (⟨_, Pipeline.run_point_lt_of_flush t h15 s⟩ : Fin cfg0.N) = u at hs
  have er : row u i = (⟨s.val * 256 + i.val, hl⟩ : Fin 4096) := Fin.ext (by dsimp only [row]; omega)
  rw [er]
  rfl

end Cert.MergeBwdIdeal

end
-- ==== Proof.Merge.lean ====
/- The merge's backward kernel: its results are its reference's. -/
module

public import proofs.«01_k».proof.Defs
public import proofs.«01_k».proof.Proof.MergeOut
public import proofs.«01_k».proof.Proof.Gen.MergeBwdIdeal.Value
public import proofs.«01_k».proof.Proof.Gen.MergeBwdRefIdeal.Run
public import Idealize.ShloMosaic.Lib.Claim

@[expose] public section

set_option maxHeartbeats 2000000

noncomputable section

namespace Cert.Proof

open Idealize.ShloMosaic Idealize.SL.Sem

theorem value_MergeBwd : algebraic_MergeBwdIdeal_MergeBwdRefIdeal := by
  intro m g m' g' _ hagree
  refine ⟨_, _, _, _, _, _, (θ_run _ _ _).mono (fun r h c => h c) (Cert.MergeBwdIdeal.Value.run_blocks m g),
    (θ_run _ _ _).mono (fun r h c => ?_) (Cert.MergeBwdRefIdeal.Value.run m' g')⟩
  obtain ⟨e0, e1, e2, e3, e4, e5, e6, e7, e8⟩ := hagree c
  refine ⟨(h c).1.trans (Eq.trans ?_ (Cert.MergeBwdIdeal.final_15 m c).symm), (h c).2.1.trans (Eq.trans ?_ (Cert.MergeBwdIdeal.final_16 m c).symm), (h c).2.2.1.trans (Eq.trans ?_ (Cert.MergeBwdIdeal.final_17 m c).symm), (h c).2.2.2.1.trans (Eq.trans ?_ (Cert.MergeBwdIdeal.final_18 m c).symm), (h c).2.2.2.2.1.trans (Eq.trans ?_ (Cert.MergeBwdIdeal.final_19 m c).symm), (h c).2.2.2.2.2.1.trans (Eq.trans ?_ (Cert.MergeBwdIdeal.final_20 m c).symm), (h c).2.2.2.2.2.2⟩
  · show Cert.MergeBwdRefIdeal.REFl (m' ((c.tc : Thread _ _).loc Cert.MergeBwdRefIdeal.main_arg0)) (m' ((c.tc : Thread _ _).loc Cert.MergeBwdRefIdeal.main_arg1)) (m' ((c.tc : Thread _ _).loc Cert.MergeBwdRefIdeal.main_arg2)) (m' ((c.tc : Thread _ _).loc Cert.MergeBwdRefIdeal.main_arg3)) (m' ((c.tc : Thread _ _).loc Cert.MergeBwdRefIdeal.main_arg4)) (m' ((c.tc : Thread _ _).loc Cert.MergeBwdRefIdeal.main_arg5)) (m' ((c.tc : Thread _ _).loc Cert.MergeBwdRefIdeal.main_arg6)) (m' ((c.tc : Thread _ _).loc Cert.MergeBwdRefIdeal.main_arg7)) (m' ((c.tc : Thread _ _).loc Cert.MergeBwdRefIdeal.main_arg8)) = _
    rw [e0, e1, e2, e3, e4, e5, e6, e7, e8] <;> rfl
  · show Cert.MergeBwdRefIdeal.REFd0 (m' ((c.tc : Thread _ _).loc Cert.MergeBwdRefIdeal.main_arg3)) (m' ((c.tc : Thread _ _).loc Cert.MergeBwdRefIdeal.main_arg4)) (m' ((c.tc : Thread _ _).loc Cert.MergeBwdRefIdeal.main_arg5)) (m' ((c.tc : Thread _ _).loc Cert.MergeBwdRefIdeal.main_arg6)) (m' ((c.tc : Thread _ _).loc Cert.MergeBwdRefIdeal.main_arg7)) (m' ((c.tc : Thread _ _).loc Cert.MergeBwdRefIdeal.main_arg8)) = _
    rw [e3, e4, e5, e6, e7, e8] <;> rfl
  · show Cert.MergeBwdRefIdeal.REFd1 (m' ((c.tc : Thread _ _).loc Cert.MergeBwdRefIdeal.main_arg3)) (m' ((c.tc : Thread _ _).loc Cert.MergeBwdRefIdeal.main_arg4)) (m' ((c.tc : Thread _ _).loc Cert.MergeBwdRefIdeal.main_arg5)) (m' ((c.tc : Thread _ _).loc Cert.MergeBwdRefIdeal.main_arg6)) (m' ((c.tc : Thread _ _).loc Cert.MergeBwdRefIdeal.main_arg7)) (m' ((c.tc : Thread _ _).loc Cert.MergeBwdRefIdeal.main_arg8)) = _
    rw [e3, e4, e5, e6, e7, e8] <;> rfl
  · show Cert.MergeBwdRefIdeal.REFd2 (m' ((c.tc : Thread _ _).loc Cert.MergeBwdRefIdeal.main_arg3)) (m' ((c.tc : Thread _ _).loc Cert.MergeBwdRefIdeal.main_arg4)) (m' ((c.tc : Thread _ _).loc Cert.MergeBwdRefIdeal.main_arg5)) (m' ((c.tc : Thread _ _).loc Cert.MergeBwdRefIdeal.main_arg6)) (m' ((c.tc : Thread _ _).loc Cert.MergeBwdRefIdeal.main_arg7)) (m' ((c.tc : Thread _ _).loc Cert.MergeBwdRefIdeal.main_arg8)) = _
    rw [e3, e4, e5, e6, e7, e8] <;> rfl
  · show Cert.MergeBwdRefIdeal.REFw (m' ((c.tc : Thread _ _).loc Cert.MergeBwdRefIdeal.main_arg0)) (m' ((c.tc : Thread _ _).loc Cert.MergeBwdRefIdeal.main_arg1)) (m' ((c.tc : Thread _ _).loc Cert.MergeBwdRefIdeal.main_arg2)) (m' ((c.tc : Thread _ _).loc Cert.MergeBwdRefIdeal.main_arg6)) (m' ((c.tc : Thread _ _).loc Cert.MergeBwdRefIdeal.main_arg7)) (m' ((c.tc : Thread _ _).loc Cert.MergeBwdRefIdeal.main_arg8)) = _
    rw [e0, e1, e2, e6, e7, e8] <;> rfl
  · show Cert.MergeBwdRefIdeal.REFo (m' ((c.tc : Thread _ _).loc Cert.MergeBwdRefIdeal.main_arg0)) (m' ((c.tc : Thread _ _).loc Cert.MergeBwdRefIdeal.main_arg1)) (m' ((c.tc : Thread _ _).loc Cert.MergeBwdRefIdeal.main_arg2)) (m' ((c.tc : Thread _ _).loc Cert.MergeBwdRefIdeal.main_arg3)) (m' ((c.tc : Thread _ _).loc Cert.MergeBwdRefIdeal.main_arg4)) (m' ((c.tc : Thread _ _).loc Cert.MergeBwdRefIdeal.main_arg5)) (m' ((c.tc : Thread _ _).loc Cert.MergeBwdRefIdeal.main_arg6)) (m' ((c.tc : Thread _ _).loc Cert.MergeBwdRefIdeal.main_arg7)) = _
    rw [e0, e1, e2, e3, e4, e5, e6, e7] <;> rfl

theorem frame_MergeBwd : quiescent_MergeBwdRefIdeal := fun m g _ =>
  (θ_run _ _ _).mono (fun r h => ⟨fun c => (h c).2.2.2.2.2.2, sem_eq_zero_of_no_sems (by decide) r.2⟩) (Cert.MergeBwdRefIdeal.Value.run m g)

end Cert.Proof

end
-- ==== Proof.UpRef.lean ====
/- The up-projection, the causal convolution over the sequence and the gate, element by element. -/
module

public import proofs.«01_k».proof.Proof.Gen.UpFwdRefIdeal
public import proofs.«01_k».proof.Proof.Gen.UpFwdRefIdeal.Run
public import Idealize.ShloMosaic.Lib.Claim
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpFwdRefIdeal
open Cert.UpFwdRefIdeal.Gen

theorem one_eq : Ideal.ofBits .f32 0x3F800000#32 = (1 : EReal) := by
  simp only [Ideal.ofBits, Ideal.ieee]; rw [if_neg (by decide), if_neg (by decide)]
  rw [← EReal.coe_one]; refine congrArg _ ?_; simp; norm_num

/-- The projection's first half. -/
def A2 (X0 : FVec Ideal S2x2048x1024 .bf16) (X1 : FVec Ideal S5632x1024 .bf16) : FVec Ideal S2x2048x2816 .f32 :=
  extractStridedSlice S2x2048x2816 ![0, 0, 0] (Host.dotGeneral dot_S2x2048x1024_S1024x5632_S2x2048x5632_2_0_01_1_n_n none (extf .f32 X0 bitsLt_bf16_f32) (transpose S1024x5632 [1, 0] (extf .f32 X1 bitsLt_bf16_f32) transposes_S5632x1024_S1024x5632_1_0)) slices_S2x2048x5632_S2x2048x2816_0_0_0

/-- Its second half. -/
def B2 (X0 : FVec Ideal S2x2048x1024 .bf16) (X1 : FVec Ideal S5632x1024 .bf16) : FVec Ideal S2x2048x2816 .f32 :=
  extractStridedSlice S2x2048x2816 ![0, 0, 2816] (Host.dotGeneral dot_S2x2048x1024_S1024x5632_S2x2048x5632_2_0_01_1_n_n none (extf .f32 X0 bitsLt_bf16_f32) (transpose S1024x5632 [1, 0] (extf .f32 X1 bitsLt_bf16_f32) transposes_S5632x1024_S1024x5632_1_0)) slices_S2x2048x5632_S2x2048x2816_0_0_2816

/-- Two rows of zeros ahead of the sequence. -/
def PD (A : FVec Ideal S2x2048x2816 .f32) : FVec Ideal S2x2050x2816 .f32 :=
  pad S2x2050x2816 ![0, 2, 0] ![0, 0, 0] ![0, 0, 0] A (sitofp .f32 (constantI S_ 32 0#32)) pads_S2x2048x2816_S2x2050x2816_000_200_000 h_S_

/-- The causal convolution. -/
def AC (A : FVec Ideal S2x2048x2816 .f32) (X2 : FVec Ideal S3x2816 .f32) (X3 : FVec Ideal S1x2816 .f32) : FVec Ideal S2x2048x2816 .f32 :=
  (addf (addf (addf (broadcastInDim S2x2048x2816 ![0, 1, 2] bcast_S1x1x2816_S2x2048x2816_0_1_2 (broadcastInDim S1x1x2816 ![1, 2] bcast_S1x2816_S1x1x2816_1_2 X3)) (mulf (broadcastInDim S2x2048x2816 ![0, 1, 2] bcast_S1x1x2816_S2x2048x2816_0_1_2 (broadcastInDim S1x1x2816 ![2] bcast_S2816_S1x1x2816_2 (shapeCast _ (extractStridedSlice S1x2816 ![0, 0] X2 slices_S3x2816_S1x2816_0_0) shapeCasts_S1x2816_S2816))) (extractStridedSlice S2x2048x2816 ![0, 0, 0] (PD A) slices_S2x2050x2816_S2x2048x2816_0_0_0))) (mulf (broadcastInDim S2x2048x2816 ![0, 1, 2] bcast_S1x1x2816_S2x2048x2816_0_1_2 (broadcastInDim S1x1x2816 ![2] bcast_S2816_S1x1x2816_2 (shapeCast _ (extractStridedSlice S1x2816 ![1, 0] X2 slices_S3x2816_S1x2816_1_0) shapeCasts_S1x2816_S2816))) (extractStridedSlice S2x2048x2816 ![0, 1, 0] (PD A) slices_S2x2050x2816_S2x2048x2816_0_1_0))) (mulf (broadcastInDim S2x2048x2816 ![0, 1, 2] bcast_S1x1x2816_S2x2048x2816_0_1_2 (broadcastInDim S1x1x2816 ![2] bcast_S2816_S1x1x2816_2 (shapeCast _ (extractStridedSlice S1x2816 ![2, 0] X2 slices_S3x2816_S1x2816_2_0) shapeCasts_S1x2816_S2816))) (extractStridedSlice S2x2048x2816 ![0, 2, 0] (PD A) slices_S2x2050x2816_S2x2048x2816_0_2_0)))

/-- The gate. -/
def GA (C B : FVec Ideal S2x2048x2816 .f32) : FVec Ideal S2x2048x2816 .bf16 :=
  truncf .bf16 (mulf (mulf C (Host.divf (broadcastInDim S2x2048x2816 ![] bcast_S_S2x2048x2816 (constant S_ .f32 0x3F800000#32)) (addf (broadcastInDim S2x2048x2816 ![] bcast_S_S2x2048x2816 (constant S_ .f32 0x3F800000#32)) (Host.exp (Host.negf C))))) B) bitsLt_bf16_f32

/-- The three results. -/
def REFa (X0 : FVec Ideal S2x2048x1024 .bf16) (X1 : FVec Ideal S5632x1024 .bf16) : FVec Ideal S2x2048x2816 .bf16 := truncf .bf16 (A2 X0 X1) bitsLt_bf16_f32
def REFb (X0 : FVec Ideal S2x2048x1024 .bf16) (X1 : FVec Ideal S5632x1024 .bf16) : FVec Ideal S2x2048x2816 .bf16 := truncf .bf16 (B2 X0 X1) bitsLt_bf16_f32
def REFc (X0 : FVec Ideal S2x2048x1024 .bf16) (X1 : FVec Ideal S5632x1024 .bf16) (X2 : FVec Ideal S3x2816 .f32) (X3 : FVec Ideal S1x2816 .f32) : FVec Ideal S2x2048x2816 .bf16 := GA (AC (A2 X0 X1) X2 X3) (B2 X0 X1)

/-- A channel along the sequence, two zeros ahead of it. -/
def sq (A : FVec Ideal S2x2048x2816 .f32) (e : Fin 2) (j : Fin 2816) (n : ℕ) : EReal :=
  if h : 2 ≤ n ∧ n - 2 < 2048 then A (ix3 e ⟨n - 2, h.2⟩ j) else 0

theorem sq_zero (A e j) : sq A e j 0 = 0 := dif_neg (by omega)
theorem sq_one (A e j) : sq A e j 1 = 0 := dif_neg (by omega)
theorem sq_of (A) (e : Fin 2) (j : Fin 2816) (n : ℕ) (s : Fin 2048) (h : n = s.val + 2) : A (ix3 e s j) = sq A e j n := by
  subst h
  unfold sq
  rw [dif_pos ⟨by omega, by omega⟩]
  refine congrArg A (congrArg (ix3 e · j) (Fin.ext ?_))
  dsimp only; omega

theorem zero_int : FloatOps.sitofp (F := Ideal) FTy.f32 0#32 = (0 : EReal) := by
  show (((0#32 : BitVec 32).toInt : ℝ) : EReal) = 0
  simp

theorem PD_at (A) (e : Fin 2) (s : Fin 2050) (j : Fin 2816) : PD A (ix3 e s j) = sq A e j s.val := by
  unfold sq
  rw [← zero_int]
  pointwise [PD, hlo_ix]

theorem AC_at (A X2 X3) (e : Fin 2) (s : Fin 2048) (j : Fin 2816) : AC A X2 X3 (ix3 e s j)
    = X3 (ix2 (0 : Fin 1) j) + X2 (ix2 (0 : Fin 3) j) * PD A (ix3 e ⟨s.val, by omega⟩ j) + X2 (ix2 (1 : Fin 3) j) * PD A (ix3 e ⟨1 + s.val, by omega⟩ j)
      + X2 (ix2 (2 : Fin 3) j) * PD A (ix3 e ⟨2 + s.val, by omega⟩ j) := by
  pointwise [AC]

theorem AC_sq (A X2 X3) (e : Fin 2) (s : Fin 2048) (j : Fin 2816) : AC A X2 X3 (ix3 e s j)
    = X3 (ix2 (0 : Fin 1) j) + X2 (ix2 (0 : Fin 3) j) * sq A e j s.val + X2 (ix2 (1 : Fin 3) j) * sq A e j (1 + s.val)
      + X2 (ix2 (2 : Fin 3) j) * sq A e j (2 + s.val) := by
  rw [AC_at, PD_at, PD_at, PD_at]

theorem GA_at (C B) (e : Fin 2) (s : Fin 2048) (j : Fin 2816) : GA C B (ix3 e s j)
    = C (ix3 e s j) * Ideal.logistic (C (ix3 e s j)) * B (ix3 e s j) := by
  rw [Ideal.logistic, ← one_eq]
  pointwise [GA]

theorem A2_at (X0 X1) (e : Fin 2) (s : Fin 2048) (j : Fin 2816) : A2 X0 X1 (ix3 e s j)
    = ∑ l : Fin 1024, X0 (ix3 e s l) * X1 (ix2 (⟨j.val, by omega⟩ : Fin 5632) l) := by
  pointwise [A2]
theorem B2_at (X0 X1) (e : Fin 2) (s : Fin 2048) (j : Fin 2816) : B2 X0 X1 (ix3 e s j)
    = ∑ l : Fin 1024, X0 (ix3 e s l) * X1 (ix2 (⟨2816 + j.val, by omega⟩ : Fin 5632) l) := by
  pointwise [B2]

end Cert.UpFwdRefIdeal

end
-- ==== Proof.UpVal.lean ====
/- The up-projection's kernel: each result is the reference's. -/
module

public import proofs.«01_k».proof.Proof.Gen.UpFwdIdeal.Frame
public import proofs.«01_k».proof.Proof.UpRef
public import Idealize.ShloMosaic.Lib.Claim
public import Idealize.ShloMosaic.Lib.WordCmp
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.UpFwdIdeal
open Cert.UpFwdIdeal.Gen
open Cert.UpFwdRefIdeal (A2 B2 REFa REFb REFc sq sq_of sq_zero sq_one)

variable (m : (ℓ : Loc nD τ sig) → Buf (Elt Ideal) ℓ)

theorem idx : ∀ t : Fin cfg0.N, win0_0.index t = ![t.val / 11, 0, 0] ∧ win0_1.index t = ![t.val % 11, 0] ∧ win0_2.index t = ![11 + t.val % 11, 0]
    ∧ win0_3.index t = ![0, t.val % 11] ∧ win0_4.index t = ![0, t.val % 11]
    ∧ win0_5.index t = ![t.val / 11, 0, t.val % 11] ∧ win0_6.index t = ![t.val / 11, 0, t.val % 11] ∧ win0_7.index t = ![t.val / 11, 0, t.val % 11] :=
  (by decide +kernel : ∀ t : Fin grid0.N, _)

theorem lt22 (t : Fin cfg0.N) : t.val < 22 := lt_of_lt_of_eq t.isLt N_0

/-- A point's example, and its channels in the whole array. -/
abbrev eb (t : Fin cfg0.N) : Fin 2 := ⟨t.val / 11, by have := lt22 t; omega⟩
abbrev cj (t : Fin cfg0.N) (j : Fin 256) : Fin 2816 := ⟨t.val % 11 * 256 + j.val, by omega⟩

/-! ## The body's values, element by element -/

theorem sh_hi (a b) (i : Fin 504) (j : Fin 256) : k0_pay6 (F := Ideal) a b (ix2 (⟨8 + i.val, by omega⟩ : Fin 512) j) = k0_pay5 a b (ix2 (⟨7 + i.val, by omega⟩ : Fin 512) j) := by
  have e : (8 + i.val + 512 - 1) % 512 = 7 + i.val := by omega
  pointwise [k0_pay6, hlo_ix]
  simp only [e]

theorem sh_lo (a b) (i : Fin 8) (j : Fin 256) (f : ℕ → EReal) (hf : ∀ r : Fin 512, k0_pay5 a b (ix2 r j) = f (r.val + 2)) (f1 : f 1 = 0) :
    k0_pay6 (F := Ideal) a b (ix2 (⟨i.val, by omega⟩ : Fin 512) j) = f (i.val + 1) := by
  pointwise [k0_pay6, hlo_ix]
  rw [hf]
  fin_cases i
  · rw [Scalar.select, if_neg (by decide)]; exact f1.symm
  all_goals (rw [Scalar.select, if_pos (by decide)]; try rfl)

theorem sh1 (a b) (i : Fin 512) (j : Fin 256) (f : ℕ → EReal) (hf : ∀ r : Fin 512, k0_pay5 a b (ix2 r j) = f (r.val + 2)) (f1 : f 1 = 0) :
    k0_pay6 (F := Ideal) a b (ix2 i j) = f (i.val + 1) := by
  by_cases h : i.val < 8
  · exact sh_lo a b ⟨i.val, h⟩ j f hf f1
  · have e : i = (⟨8 + (⟨i.val - 8, by omega⟩ : Fin 504).val, by omega⟩ : Fin 512) := Fin.ext (by dsimp only; omega)
    rw [e, sh_hi, hf]
    refine congrArg f ?_
    dsimp only; omega

theorem t0_hi (a b w v) (i : Fin 504) (j : Fin 256) : k0_pay7 (F := Ideal) a b w v (ix2 (⟨8 + i.val, by omega⟩ : Fin 512) j)
    = v (ix2 (0 : Fin 1) j) + w (ix2 (0 : Fin 3) j) * k0_pay5 a b (ix2 (⟨6 + i.val, by omega⟩ : Fin 512) j) := by
  have e : (8 + i.val + 512 - 2) % 512 = 6 + i.val := by omega
  pointwise [k0_pay7, hlo_ix]
  simp only [e]

theorem t0_lo (a b w v) (i : Fin 8) (j : Fin 256) (f : ℕ → EReal) (hf : ∀ r : Fin 512, k0_pay5 a b (ix2 r j) = f (r.val + 2)) (f0 : f 0 = 0) (f1 : f 1 = 0) :
    k0_pay7 (F := Ideal) a b w v (ix2 (⟨i.val, by omega⟩ : Fin 512) j) = v (ix2 (0 : Fin 1) j) + w (ix2 (0 : Fin 3) j) * f i.val := by
  pointwise [k0_pay7, hlo_ix]
  rw [hf]
  refine congrArg (v (ix2 (0 : Fin 1) j) + ·) ?_
  fin_cases i
  · rw [Scalar.select, if_neg (by decide)]; exact ((congrArg _ f0).trans (mul_zero _)).symm
  · rw [Scalar.select, if_neg (by decide)]; exact ((congrArg _ f1).trans (mul_zero _)).symm
  all_goals (rw [Scalar.select, if_pos (by decide)]; try rfl)

theorem t0 (a b w v) (i : Fin 512) (j : Fin 256) (f : ℕ → EReal) (hf : ∀ r : Fin 512, k0_pay5 a b (ix2 r j) = f (r.val + 2)) (f0 : f 0 = 0) (f1 : f 1 = 0) :
    k0_pay7 (F := Ideal) a b w v (ix2 i j) = v (ix2 (0 : Fin 1) j) + w (ix2 (0 : Fin 3) j) * f i.val := by
  by_cases h : i.val < 8
  · exact t0_lo a b w v ⟨i.val, h⟩ j f hf f0 f1
  · have e : i = (⟨8 + (⟨i.val - 8, by omega⟩ : Fin 504).val, by omega⟩ : Fin 512) := Fin.ext (by dsimp only; omega)
    rw [e, t0_hi, hf]
    refine congrArg (fun n => v (ix2 (0 : Fin 1) j) + w (ix2 (0 : Fin 3) j) * f n) ?_
    dsimp only; omega

/-- The gate of the convolved value. -/
abbrev gt (C B : EReal) : EReal := C * Ideal.logistic C * B

theorem g0 (b a s w u) (z : Fin 1) (i : Fin 512) (j : Fin 256) : k0_pay10 (F := Ideal) b a s w u (ix3 z i j)
    = gt (u (ix2 i j) + w (ix2 (1 : Fin 3) j) * s (ix2 i j) + w (ix2 (2 : Fin 3) j) * a (ix2 i j)) (b (ix2 i j)) := by
  pointwise [k0_pay10, gt]

theorem g1 (b p q w v) (z : Fin 1) (i : Fin 512) (j : Fin 256) (f : ℕ → EReal) (hf : ∀ r : Fin 528, k0_pay13 p q (ix2 r j) = f (r.val + 2)) :
    k0_pay18 (F := Ideal) (k0_pay17 b (k0_pay13 p q) (k0_pay14 p q) (iota .tc S8x256 32 [0] iota_S8x256_d0_w32) w v) (ix3 z i j)
    = gt (v (ix2 (0 : Fin 1) j) + w (ix2 (0 : Fin 3) j) * f (16 + i.val) + w (ix2 (1 : Fin 3) j) * f (17 + i.val) + w (ix2 (2 : Fin 3) j) * f (18 + i.val)) (b (ix2 i j)) := by
  have e0 : ¬ 16 + i.val < 8 := by omega
  have e3 : (8 + (16 + i.val - 8) + 528 - 1) % 528 = 15 + i.val := by omega
  have e4 : (8 + (16 + i.val - 8) + 528 - 2) % 528 = 14 + i.val := by omega
  have e1 : (16 + i.val + 528 - 1) % 528 = 15 + i.val := by omega
  have e2 : (16 + i.val + 528 - 2) % 528 = 14 + i.val := by omega
  pointwise [k0_pay18, k0_pay17, k0_pay14, gt, hlo_ix]
  simp only [e0, e1, e2, e3, e4, dite_false, hf]
  simp only [show 14 + i.val + 2 = 16 + i.val by omega, show 15 + i.val + 2 = 17 + i.val by omega, show 16 + i.val + 2 = 18 + i.val by omega]

theorem g2 (b p q w v) (z : Fin 1) (i : Fin 512) (j : Fin 256) (f : ℕ → EReal) (hf : ∀ r : Fin 528, k0_pay21 p q (ix2 r j) = f (r.val + 2)) :
    k0_pay26 (F := Ideal) b (k0_pay21 p q) (k0_pay22 p q) (k0_pay23 p q) w v (ix3 z i j)
    = gt (v (ix2 (0 : Fin 1) j) + w (ix2 (0 : Fin 3) j) * f (16 + i.val) + w (ix2 (1 : Fin 3) j) * f (17 + i.val) + w (ix2 (2 : Fin 3) j) * f (18 + i.val)) (b (ix2 i j)) := by
  have e0 : ¬ 16 + i.val < 8 := by omega
  have e3 : (8 + (16 + i.val - 8) + 528 - 1) % 528 = 15 + i.val := by omega
  have e4 : (8 + (16 + i.val - 8) + 528 - 2) % 528 = 14 + i.val := by omega
  have e1 : (16 + i.val + 528 - 1) % 528 = 15 + i.val := by omega
  have e2 : (16 + i.val + 528 - 2) % 528 = 14 + i.val := by omega
  pointwise [k0_pay26, k0_pay22, k0_pay23, gt, hlo_ix]
  simp only [e0, e1, e2, e3, e4, dite_false, hf]
  simp only [show 14 + i.val + 2 = 16 + i.val by omega, show 15 + i.val + 2 = 17 + i.val by omega, show 16 + i.val + 2 = 18 + i.val by omega]

theorem g3 (b u w v) (z : Fin 1) (i : Fin 512) (j : Fin 256) (f : ℕ → EReal) (hf : ∀ r : Fin 528, u (ix2 r j) = f (r.val + 2)) :
    k0_pay2 (F := Ideal) b (k0_pay30 u w v) (ix3 z i j)
    = gt (v (ix2 (0 : Fin 1) j) + w (ix2 (0 : Fin 3) j) * f (16 + i.val) + w (ix2 (1 : Fin 3) j) * f (17 + i.val) + w (ix2 (2 : Fin 3) j) * f (18 + i.val)) (b (ix2 i j)) := by
  have e0 : ¬ 16 + i.val < 8 := by omega
  have e3 : (8 + (16 + i.val - 8) + 528 - 1) % 528 = 15 + i.val := by omega
  have e4 : (8 + (16 + i.val - 8) + 528 - 2) % 528 = 14 + i.val := by omega
  have e1 : (16 + i.val + 528 - 1) % 528 = 15 + i.val := by omega
  have e2 : (16 + i.val + 528 - 2) % 528 = 14 + i.val := by omega
  pointwise [k0_pay2, k0_pay30, gt, hlo_ix]
  simp only [e0, e1, e2, e3, e4, dite_false, hf]
  simp only [show 14 + i.val + 2 = 16 + i.val by omega, show 15 + i.val + 2 = 17 + i.val by omega, show 16 + i.val + 2 = 18 + i.val by omega]

theorem ld0 (x : Vec Ideal S1x2048x1024 .bf16) (z : Fin 1) (i : Fin 512) (l : Fin 1024) : View.ld x r0_0 (ix3 z i l) = x (ix3 (0 : Fin 1) (⟨0 + i.val, by omega⟩ : Fin 2048) l) := by
  obtain rfl : z = 0 := Subsingleton.elim _ _
  refine View.ld_unit_apply_of _ _ _ _ _ _ fun a => ?_
  fin_cases a <;> simp
theorem ld5 (x : Vec Ideal S1x2048x1024 .bf16) (z : Fin 1) (i : Fin 528) (l : Fin 1024) : View.ld x r0_5 (ix3 z i l) = x (ix3 (0 : Fin 1) (⟨496 + i.val, by omega⟩ : Fin 2048) l) := by
  obtain rfl : z = 0 := Subsingleton.elim _ _
  refine View.ld_unit_apply_of _ _ _ _ _ _ fun a => ?_
  fin_cases a <;> simp
theorem ld6 (x : Vec Ideal S1x2048x1024 .bf16) (z : Fin 1) (i : Fin 512) (l : Fin 1024) : View.ld x r0_6 (ix3 z i l) = x (ix3 (0 : Fin 1) (⟨512 + i.val, by omega⟩ : Fin 2048) l) := by
  obtain rfl : z = 0 := Subsingleton.elim _ _
  refine View.ld_unit_apply_of _ _ _ _ _ _ fun a => ?_
  fin_cases a <;> simp
theorem ld8 (x : Vec Ideal S1x2048x1024 .bf16) (z : Fin 1) (i : Fin 528) (l : Fin 1024) : View.ld x r0_8 (ix3 z i l) = x (ix3 (0 : Fin 1) (⟨1008 + i.val, by omega⟩ : Fin 2048) l) := by
  obtain rfl : z = 0 := Subsingleton.elim _ _
  refine View.ld_unit_apply_of _ _ _ _ _ _ fun a => ?_
  fin_cases a <;> simp
theorem ld9 (x : Vec Ideal S1x2048x1024 .bf16) (z : Fin 1) (i : Fin 512) (l : Fin 1024) : View.ld x r0_9 (ix3 z i l) = x (ix3 (0 : Fin 1) (⟨1024 + i.val, by omega⟩ : Fin 2048) l) := by
  obtain rfl : z = 0 := Subsingleton.elim _ _
  refine View.ld_unit_apply_of _ _ _ _ _ _ fun a => ?_
  fin_cases a <;> simp
theorem ld11 (x : Vec Ideal S1x2048x1024 .bf16) (z : Fin 1) (i : Fin 528) (l : Fin 1024) : View.ld x r0_11 (ix3 z i l) = x (ix3 (0 : Fin 1) (⟨1520 + i.val, by omega⟩ : Fin 2048) l) := by
  obtain rfl : z = 0 := Subsingleton.elim _ _
  refine View.ld_unit_apply_of _ _ _ _ _ _ fun a => ?_
  fin_cases a <;> simp
theorem ld12 (x : Vec Ideal S1x2048x1024 .bf16) (z : Fin 1) (i : Fin 512) (l : Fin 1024) : View.ld x r0_12 (ix3 z i l) = x (ix3 (0 : Fin 1) (⟨1536 + i.val, by omega⟩ : Fin 2048) l) := by
  obtain rfl : z = 0 := Subsingleton.elim _ _
  refine View.ld_unit_apply_of _ _ _ _ _ _ fun a => ?_
  fin_cases a <;> simp
theorem ld1 (x : Vec Ideal S256x1024 .bf16) (i : Fin 256) (l : Fin 1024) : View.ld x r0_1 (ix2 i l) = x (ix2 i l) := by
  refine View.ld_unit_apply_of _ _ _ _ _ _ fun a => ?_
  fin_cases a <;> simp
theorem ld2 (x : Vec Ideal S3x256 .f32) (i : Fin 3) (l : Fin 256) : View.ld x r0_2 (ix2 i l) = x (ix2 i l) := by
  refine View.ld_unit_apply_of _ _ _ _ _ _ fun a => ?_
  fin_cases a <;> simp
theorem ld3 (x : Vec Ideal S1x256 .f32) (i : Fin 1) (l : Fin 256) : View.ld x r0_3 (ix2 i l) = x (ix2 i l) := by
  refine View.ld_unit_apply_of _ _ _ _ _ _ fun a => ?_
  fin_cases a <;> simp

theorem a0 (x y) (i : Fin 512) (j : Fin 256) : k0_pay3 (F := Ideal) (View.ld x r0_0) (View.ld y r0_1) (ix2 i j)
    = ∑ l : Fin 1024, x (ix3 (0 : Fin 1) (⟨0 + i.val, by omega⟩ : Fin 2048) l) * y (ix2 j l) := by
  refine Eq.trans (b := ∑ l : Fin 1024, View.ld x r0_0 (ix3 (0 : Fin 1) i l) * View.ld y r0_1 (ix2 j l)) ?_
    (Finset.sum_congr rfl fun l _ => by rw [ld0, ld1])
  generalize View.ld x r0_0 = u
  generalize View.ld y r0_1 = v
  pointwise [k0_pay3]

theorem b0 (x y) (i : Fin 512) (j : Fin 256) : k0_pay4 (F := Ideal) (View.ld x r0_0) (View.ld y r0_1) (ix2 i j)
    = ∑ l : Fin 1024, x (ix3 (0 : Fin 1) (⟨0 + i.val, by omega⟩ : Fin 2048) l) * y (ix2 j l) := by
  refine Eq.trans (b := ∑ l : Fin 1024, View.ld x r0_0 (ix3 (0 : Fin 1) i l) * View.ld y r0_1 (ix2 j l)) ?_
    (Finset.sum_congr rfl fun l _ => by rw [ld0, ld1])
  generalize View.ld x r0_0 = u
  generalize View.ld y r0_1 = v
  pointwise [k0_pay4]

theorem a1 (x y) (i : Fin 528) (j : Fin 256) : k0_pay11 (F := Ideal) (View.ld x r0_5) (View.ld y r0_1) (ix2 i j)
    = ∑ l : Fin 1024, x (ix3 (0 : Fin 1) (⟨496 + i.val, by omega⟩ : Fin 2048) l) * y (ix2 j l) := by
  refine Eq.trans (b := ∑ l : Fin 1024, View.ld x r0_5 (ix3 (0 : Fin 1) i l) * View.ld y r0_1 (ix2 j l)) ?_
    (Finset.sum_congr rfl fun l _ => by rw [ld5, ld1])
  generalize View.ld x r0_5 = u
  generalize View.ld y r0_1 = v
  pointwise [k0_pay11]

theorem b1 (x y) (i : Fin 512) (j : Fin 256) : k0_pay12 (F := Ideal) (View.ld x r0_6) (View.ld y r0_1) (ix2 i j)
    = ∑ l : Fin 1024, x (ix3 (0 : Fin 1) (⟨512 + i.val, by omega⟩ : Fin 2048) l) * y (ix2 j l) := by
  refine Eq.trans (b := ∑ l : Fin 1024, View.ld x r0_6 (ix3 (0 : Fin 1) i l) * View.ld y r0_1 (ix2 j l)) ?_
    (Finset.sum_congr rfl fun l _ => by rw [ld6, ld1])
  generalize View.ld x r0_6 = u
  generalize View.ld y r0_1 = v
  pointwise [k0_pay12]

theorem a2 (x y) (i : Fin 528) (j : Fin 256) : k0_pay19 (F := Ideal) (View.ld x r0_8) (View.ld y r0_1) (ix2 i j)
    = ∑ l : Fin 1024, x (ix3 (0 : Fin 1) (⟨1008 + i.val, by omega⟩ : Fin 2048) l) * y (ix2 j l) := by
  refine Eq.trans (b := ∑ l : Fin 1024, View.ld x r0_8 (ix3 (0 : Fin 1) i l) * View.ld y r0_1 (ix2 j l)) ?_
    (Finset.sum_congr rfl fun l _ => by rw [ld8, ld1])
  generalize View.ld x r0_8 = u
  generalize View.ld y r0_1 = v
  pointwise [k0_pay19]

theorem b2 (x y) (i : Fin 512) (j : Fin 256) : k0_pay20 (F := Ideal) (View.ld x r0_9) (View.ld y r0_1) (ix2 i j)
    = ∑ l : Fin 1024, x (ix3 (0 : Fin 1) (⟨1024 + i.val, by omega⟩ : Fin 2048) l) * y (ix2 j l) := by
  refine Eq.trans (b := ∑ l : Fin 1024, View.ld x r0_9 (ix3 (0 : Fin 1) i l) * View.ld y r0_1 (ix2 j l)) ?_
    (Finset.sum_congr rfl fun l _ => by rw [ld9, ld1])
  generalize View.ld x r0_9 = u
  generalize View.ld y r0_1 = v
  pointwise [k0_pay20]

theorem a3 (x y) (i : Fin 528) (j : Fin 256) : k0_pay27 (F := Ideal) (View.ld x r0_11) (View.ld y r0_1) (ix2 i j)
    = ∑ l : Fin 1024, x (ix3 (0 : Fin 1) (⟨1520 + i.val, by omega⟩ : Fin 2048) l) * y (ix2 j l) := by
  refine Eq.trans (b := ∑ l : Fin 1024, View.ld x r0_11 (ix3 (0 : Fin 1) i l) * View.ld y r0_1 (ix2 j l)) ?_
    (Finset.sum_congr rfl fun l _ => by rw [ld11, ld1])
  generalize View.ld x r0_11 = u
  generalize View.ld y r0_1 = v
  pointwise [k0_pay27]

theorem b3 (x y) (i : Fin 512) (j : Fin 256) : k0_pay29 (F := Ideal) (k0_pay28 (View.ld x r0_12)) (View.ld y r0_1) (ix2 i j)
    = ∑ l : Fin 1024, x (ix3 (0 : Fin 1) (⟨1536 + i.val, by omega⟩ : Fin 2048) l) * y (ix2 j l) := by
  refine Eq.trans (b := ∑ l : Fin 1024, View.ld x r0_12 (ix3 (0 : Fin 1) i l) * View.ld y r0_1 (ix2 j l)) ?_
    (Finset.sum_congr rfl fun l _ => by rw [ld12, ld1])
  generalize View.ld x r0_12 = u
  generalize View.ld y r0_1 = v
  pointwise [k0_pay29, k0_pay28]

/-- A point's products, in the whole projection. -/
theorem av (c : Dev nD) (t : Fin cfg0.N) (s : Fin 2048) (j : Fin 256) :
    ∑ l : Fin 1024, (show FVec Ideal S1x2048x1024 .bf16 from iblk m c 0 t) (ix3 (0 : Fin 1) s l) * (show FVec Ideal S256x1024 .bf16 from iblk m c 1 t) (ix2 j l)
      = A2 (V m c main_arg0) (V m c main_arg1) (ix3 (eb t) s (cj t j)) := by
  rw [Cert.UpFwdRefIdeal.A2_at]
  refine Finset.sum_congr rfl fun l _ => ?_
  blk_point [iblk, V, idx t]

/-- A point's products, in the whole projection. -/
theorem bv (c : Dev nD) (t : Fin cfg0.N) (s : Fin 2048) (j : Fin 256) :
    ∑ l : Fin 1024, (show FVec Ideal S1x2048x1024 .bf16 from iblk m c 0 t) (ix3 (0 : Fin 1) s l) * (show FVec Ideal S256x1024 .bf16 from iblk m c 2 t) (ix2 j l)
      = B2 (V m c main_arg0) (V m c main_arg1) (ix3 (eb t) s (cj t j)) := by
  rw [Cert.UpFwdRefIdeal.B2_at]
  refine Finset.sum_congr rfl fun l _ => ?_
  blk_point [iblk, V, idx t]

theorem cwv (c : Dev nD) (t : Fin cfg0.N) (k : Fin 3) (j : Fin 256) : View.ld (iblk m c 3 t) r0_2 (ix2 k j)
    = (show FVec Ideal S3x2816 .f32 from V m c main_arg2) (ix2 k (cj t j)) := by
  rw [ld2]; blk_point [iblk, V, idx t]
theorem cbv (c : Dev nD) (t : Fin cfg0.N) (k : Fin 1) (j : Fin 256) : View.ld (iblk m c 4 t) r0_3 (ix2 k j)
    = (show FVec Ideal S1x2816 .f32 from V m c main_arg3) (ix2 k (cj t j)) := by
  rw [ld3]; blk_point [iblk, V, idx t]

attribute [local irreducible] A2 B2

theorem oa0 (v) (z : Fin 1) (i : Fin 512) (j : Fin 256) : k0_pay8 (F := Ideal) v (ix3 z i j) = v (ix2 i j) := by pointwise [k0_pay8]
theorem ob0 (v) (z : Fin 1) (i : Fin 512) (j : Fin 256) : k0_pay9 (F := Ideal) v (ix3 z i j) = v (ix2 i j) := by pointwise [k0_pay9]

theorem Ra0 (c : Dev nD) (t : Fin cfg0.N) (z : Fin 1) (i : Fin 512) (j : Fin 256) : k0_pay8 (F := Ideal) (k0_pay3 (View.ld (iblk m c 0 t) r0_0) (View.ld (iblk m c 1 t) r0_1)) (ix3 z i j)
    = REFa (V m c main_arg0) (V m c main_arg1) (ix3 (eb t) (⟨0 + i.val, by omega⟩ : Fin 2048) (cj t j)) := by
  refine (oa0 _ z i j).trans ((a0 _ _ _ j).trans ((av m c t _ j).trans ?_))
  show A2 _ _ _ = A2 _ _ _
  refine congrArg (fun s => A2 _ _ (ix3 _ s _)) (Fin.ext ?_)
  dsimp only <;> omega
theorem Rb0 (c : Dev nD) (t : Fin cfg0.N) (z : Fin 1) (i : Fin 512) (j : Fin 256) : k0_pay9 (F := Ideal) (k0_pay32 (iblk m c 0 t) (iblk m c 1 t) (iblk m c 2 t) (iblk m c 3 t) (iblk m c 4 t)) (ix3 z i j)
    = REFb (V m c main_arg0) (V m c main_arg1) (ix3 (eb t) (⟨0 + i.val, by omega⟩ : Fin 2048) (cj t j)) :=
  (ob0 _ z i j).trans ((b0 _ _ _ j).trans (bv m c t _ j))

theorem q0 (c : Dev nD) (t : Fin cfg0.N) (j : Fin 256) (r : Fin 512) : k0_pay5 (F := Ideal) (View.ld (iblk m c 0 t) r0_0) (View.ld (iblk m c 1 t) r0_1) (ix2 r j) = sq (A2 (V m c main_arg0) (V m c main_arg1)) (eb t) (cj t j) (0 + (r.val + 2)) :=
  (a0 _ _ r j).trans ((av m c t _ j).trans (sq_of _ _ _ _ _ (by dsimp only; omega)))

theorem Rc0 (c : Dev nD) (t : Fin cfg0.N) (z : Fin 1) (i : Fin 512) (j : Fin 256) : k0_pay10 (F := Ideal) (k0_pay32 (iblk m c 0 t) (iblk m c 1 t) (iblk m c 2 t) (iblk m c 3 t) (iblk m c 4 t)) (k0_pay5 (View.ld (iblk m c 0 t) r0_0) (View.ld (iblk m c 1 t) r0_1)) (k0_pay6 (View.ld (iblk m c 0 t) r0_0) (View.ld (iblk m c 1 t) r0_1)) (View.ld (iblk m c 3 t) r0_2) (k0_pay7 (View.ld (iblk m c 0 t) r0_0) (View.ld (iblk m c 1 t) r0_1) (View.ld (iblk m c 3 t) r0_2) (View.ld (iblk m c 4 t) r0_3)) (ix3 z i j)
    = REFc (V m c main_arg0) (V m c main_arg1) (V m c main_arg2) (V m c main_arg3) (ix3 (eb t) (⟨0 + i.val, by omega⟩ : Fin 2048) (cj t j)) := by
  have hf : ∀ r : Fin 512, k0_pay5 (F := Ideal) (View.ld (iblk m c 0 t) r0_0) (View.ld (iblk m c 1 t) r0_1) (ix2 r j) = sq (A2 (V m c main_arg0) (V m c main_arg1)) (eb t) (cj t j) (r.val + 2) := fun r => (q0 m c t j r).trans (congrArg _ (by omega))
  refine (g0 _ _ _ _ _ z i j).trans ?_
  rw [REFc, Cert.UpFwdRefIdeal.GA_at, Cert.UpFwdRefIdeal.AC_sq]
  refine congrArg₂ gt (congrArg₂ _ (congrArg₂ _ ((t0 _ _ _ _ i j _ hf (sq_zero _ _ _) (sq_one _ _ _)).trans ?_) (congrArg₂ _ (cwv m c t 1 j) ((sh1 _ _ i j _ hf (sq_one _ _ _)).trans ?_))) (congrArg₂ _ (cwv m c t 2 j) ((hf i).trans ?_))) ((b0 _ _ i j).trans (bv m c t _ j))
  · refine congrArg₂ _ (cbv m c t 0 j) (congrArg₂ _ (cwv m c t 0 j) (congrArg _ ?_))
    dsimp only; omega
  · refine congrArg _ ?_
    dsimp only; omega
  · refine congrArg _ ?_
    dsimp only; omega

theorem oa1 (v) (z : Fin 1) (i : Fin 512) (j : Fin 256) : k0_pay15 (F := Ideal) v (ix3 z i j) = v (ix2 (⟨16 + i.val, by omega⟩ : Fin 528) j) := by pointwise [k0_pay15]
theorem ob1 (v) (z : Fin 1) (i : Fin 512) (j : Fin 256) : k0_pay16 (F := Ideal) v (ix3 z i j) = v (ix2 i j) := by pointwise [k0_pay16]

theorem Ra1 (c : Dev nD) (t : Fin cfg0.N) (z : Fin 1) (i : Fin 512) (j : Fin 256) : k0_pay15 (F := Ideal) (k0_pay11 (View.ld (iblk m c 0 t) r0_5) (View.ld (iblk m c 1 t) r0_1)) (ix3 z i j)
    = REFa (V m c main_arg0) (V m c main_arg1) (ix3 (eb t) (⟨512 + i.val, by omega⟩ : Fin 2048) (cj t j)) := by
  refine (oa1 _ z i j).trans ((a1 _ _ _ j).trans ((av m c t _ j).trans ?_))
  show A2 _ _ _ = A2 _ _ _
  refine congrArg (fun s => A2 _ _ (ix3 _ s _)) (Fin.ext ?_)
  dsimp only <;> omega
theorem Rb1 (c : Dev nD) (t : Fin cfg0.N) (z : Fin 1) (i : Fin 512) (j : Fin 256) : k0_pay16 (F := Ideal) (k0_pay33 (iblk m c 0 t) (iblk m c 1 t) (iblk m c 2 t) (iblk m c 3 t) (iblk m c 4 t)) (ix3 z i j)
    = REFb (V m c main_arg0) (V m c main_arg1) (ix3 (eb t) (⟨512 + i.val, by omega⟩ : Fin 2048) (cj t j)) :=
  (ob1 _ z i j).trans ((b1 _ _ _ j).trans (bv m c t _ j))

theorem q1 (c : Dev nD) (t : Fin cfg0.N) (j : Fin 256) (r : Fin 528) : k0_pay13 (F := Ideal) (View.ld (iblk m c 0 t) r0_5) (View.ld (iblk m c 1 t) r0_1) (ix2 r j) = sq (A2 (V m c main_arg0) (V m c main_arg1)) (eb t) (cj t j) (496 + (r.val + 2)) :=
  (a1 _ _ r j).trans ((av m c t _ j).trans (sq_of _ _ _ _ _ (by dsimp only; omega)))

theorem Rc1 (c : Dev nD) (t : Fin cfg0.N) (z : Fin 1) (i : Fin 512) (j : Fin 256) : k0_pay18 (F := Ideal) (k0_pay17 (k0_pay33 (iblk m c 0 t) (iblk m c 1 t) (iblk m c 2 t) (iblk m c 3 t) (iblk m c 4 t)) (k0_pay13 (View.ld (iblk m c 0 t) r0_5) (View.ld (iblk m c 1 t) r0_1)) (k0_pay14 (View.ld (iblk m c 0 t) r0_5) (View.ld (iblk m c 1 t) r0_1)) (iota .tc S8x256 32 [0] iota_S8x256_d0_w32) (View.ld (iblk m c 3 t) r0_2) (View.ld (iblk m c 4 t) r0_3)) (ix3 z i j)
    = REFc (V m c main_arg0) (V m c main_arg1) (V m c main_arg2) (V m c main_arg3) (ix3 (eb t) (⟨512 + i.val, by omega⟩ : Fin 2048) (cj t j)) := by
  refine (g1 _ _ _ _ _ z i j (fun n => sq (A2 (V m c main_arg0) (V m c main_arg1)) (eb t) (cj t j) (496 + n)) (q1 m c t j)).trans ?_
  rw [REFc, Cert.UpFwdRefIdeal.GA_at, Cert.UpFwdRefIdeal.AC_sq]
  refine congrArg₂ gt (congrArg₂ _ (congrArg₂ _ (congrArg₂ _ (cbv m c t 0 j) (congrArg₂ _ (cwv m c t 0 j) (congrArg _ ?_))) (congrArg₂ _ (cwv m c t 1 j) (congrArg _ ?_))) (congrArg₂ _ (cwv m c t 2 j) (congrArg _ ?_))) ((b1 _ _ i j).trans (bv m c t _ j))
  all_goals (dsimp only; omega)

theorem oa2 (v) (z : Fin 1) (i : Fin 512) (j : Fin 256) : k0_pay24 (F := Ideal) v (ix3 z i j) = v (ix2 (⟨16 + i.val, by omega⟩ : Fin 528) j) := by pointwise [k0_pay24]
theorem ob2 (v) (z : Fin 1) (i : Fin 512) (j : Fin 256) : k0_pay25 (F := Ideal) v (ix3 z i j) = v (ix2 i j) := by pointwise [k0_pay25]

theorem Ra2 (c : Dev nD) (t : Fin cfg0.N) (z : Fin 1) (i : Fin 512) (j : Fin 256) : k0_pay24 (F := Ideal) (k0_pay19 (View.ld (iblk m c 0 t) r0_8) (View.ld (iblk m c 1 t) r0_1)) (ix3 z i j)
    = REFa (V m c main_arg0) (V m c main_arg1) (ix3 (eb t) (⟨1024 + i.val, by omega⟩ : Fin 2048) (cj t j)) := by
  refine (oa2 _ z i j).trans ((a2 _ _ _ j).trans ((av m c t _ j).trans ?_))
  show A2 _ _ _ = A2 _ _ _
  refine congrArg (fun s => A2 _ _ (ix3 _ s _)) (Fin.ext ?_)
  dsimp only <;> omega
theorem Rb2 (c : Dev nD) (t : Fin cfg0.N) (z : Fin 1) (i : Fin 512) (j : Fin 256) : k0_pay25 (F := Ideal) (k0_pay34 (iblk m c 0 t) (iblk m c 1 t) (iblk m c 2 t) (iblk m c 3 t) (iblk m c 4 t)) (ix3 z i j)
    = REFb (V m c main_arg0) (V m c main_arg1) (ix3 (eb t) (⟨1024 + i.val, by omega⟩ : Fin 2048) (cj t j)) :=
  (ob2 _ z i j).trans ((b2 _ _ _ j).trans (bv m c t _ j))

theorem q2 (c : Dev nD) (t : Fin cfg0.N) (j : Fin 256) (r : Fin 528) : k0_pay21 (F := Ideal) (View.ld (iblk m c 0 t) r0_8) (View.ld (iblk m c 1 t) r0_1) (ix2 r j) = sq (A2 (V m c main_arg0) (V m c main_arg1)) (eb t) (cj t j) (1008 + (r.val + 2)) :=
  (a2 _ _ r j).trans ((av m c t _ j).trans (sq_of _ _ _ _ _ (by dsimp only; omega)))

theorem Rc2 (c : Dev nD) (t : Fin cfg0.N) (z : Fin 1) (i : Fin 512) (j : Fin 256) : k0_pay26 (F := Ideal) (k0_pay34 (iblk m c 0 t) (iblk m c 1 t) (iblk m c 2 t) (iblk m c 3 t) (iblk m c 4 t)) (k0_pay21 (View.ld (iblk m c 0 t) r0_8) (View.ld (iblk m c 1 t) r0_1)) (k0_pay22 (View.ld (iblk m c 0 t) r0_8) (View.ld (iblk m c 1 t) r0_1)) (k0_pay23 (View.ld (iblk m c 0 t) r0_8) (View.ld (iblk m c 1 t) r0_1)) (View.ld (iblk m c 3 t) r0_2) (View.ld (iblk m c 4 t) r0_3) (ix3 z i j)
    = REFc (V m c main_arg0) (V m c main_arg1) (V m c main_arg2) (V m c main_arg3) (ix3 (eb t) (⟨1024 + i.val, by omega⟩ : Fin 2048) (cj t j)) := by
  refine (g2 _ _ _ _ _ z i j (fun n => sq (A2 (V m c main_arg0) (V m c main_arg1)) (eb t) (cj t j) (1008 + n)) (q2 m c t j)).trans ?_
  rw [REFc, Cert.UpFwdRefIdeal.GA_at, Cert.UpFwdRefIdeal.AC_sq]
  refine congrArg₂ gt (congrArg₂ _ (congrArg₂ _ (congrArg₂ _ (cbv m c t 0 j) (congrArg₂ _ (cwv m c t 0 j) (congrArg _ ?_))) (congrArg₂ _ (cwv m c t 1 j) (congrArg _ ?_))) (congrArg₂ _ (cwv m c t 2 j) (congrArg _ ?_))) ((b2 _ _ i j).trans (bv m c t _ j))
  all_goals (dsimp only; omega)

theorem oa3 (v) (z : Fin 1) (i : Fin 512) (j : Fin 256) : k0_pay31 (F := Ideal) v (ix3 z i j) = v (ix2 (⟨16 + i.val, by omega⟩ : Fin 528) j) := by pointwise [k0_pay31]
theorem ob3 (v) (z : Fin 1) (i : Fin 512) (j : Fin 256) : k0_pay1 (F := Ideal) v (ix3 z i j) = v (ix2 i j) := by pointwise [k0_pay1]

theorem Ra3 (c : Dev nD) (t : Fin cfg0.N) (z : Fin 1) (i : Fin 512) (j : Fin 256) : k0_pay31 (F := Ideal) (k0_pay35 (iblk m c 0 t) (iblk m c 1 t) (iblk m c 2 t) (iblk m c 3 t) (iblk m c 4 t)) (ix3 z i j)
    = REFa (V m c main_arg0) (V m c main_arg1) (ix3 (eb t) (⟨1536 + i.val, by omega⟩ : Fin 2048) (cj t j)) := by
  refine (oa3 _ z i j).trans ((a3 _ _ _ j).trans ((av m c t _ j).trans ?_))
  show A2 _ _ _ = A2 _ _ _
  refine congrArg (fun s => A2 _ _ (ix3 _ s _)) (Fin.ext ?_)
  dsimp only <;> omega
theorem Rb3 (c : Dev nD) (t : Fin cfg0.N) (z : Fin 1) (i : Fin 512) (j : Fin 256) : k0_pay1 (F := Ideal) (k0_pay36 (iblk m c 0 t) (iblk m c 1 t) (iblk m c 2 t) (iblk m c 3 t) (iblk m c 4 t)) (ix3 z i j)
    = REFb (V m c main_arg0) (V m c main_arg1) (ix3 (eb t) (⟨1536 + i.val, by omega⟩ : Fin 2048) (cj t j)) :=
  (ob3 _ z i j).trans ((b3 _ _ _ j).trans (bv m c t _ j))

theorem q3 (c : Dev nD) (t : Fin cfg0.N) (j : Fin 256) (r : Fin 528) : k0_pay35 (F := Ideal) (iblk m c 0 t) (iblk m c 1 t) (iblk m c 2 t) (iblk m c 3 t) (iblk m c 4 t) (ix2 r j) = sq (A2 (V m c main_arg0) (V m c main_arg1)) (eb t) (cj t j) (1520 + (r.val + 2)) :=
  (a3 _ _ r j).trans ((av m c t _ j).trans (sq_of _ _ _ _ _ (by dsimp only; omega)))

theorem Rc3 (c : Dev nD) (t : Fin cfg0.N) (z : Fin 1) (i : Fin 512) (j : Fin 256) : k0_pay2 (F := Ideal) (k0_pay36 (iblk m c 0 t) (iblk m c 1 t) (iblk m c 2 t) (iblk m c 3 t) (iblk m c 4 t)) (k0_pay30 (k0_pay35 (iblk m c 0 t) (iblk m c 1 t) (iblk m c 2 t) (iblk m c 3 t) (iblk m c 4 t)) (View.ld (iblk m c 3 t) r0_2) (View.ld (iblk m c 4 t) r0_3)) (ix3 z i j)
    = REFc (V m c main_arg0) (V m c main_arg1) (V m c main_arg2) (V m c main_arg3) (ix3 (eb t) (⟨1536 + i.val, by omega⟩ : Fin 2048) (cj t j)) := by
  refine (g3 _ _ _ _ z i j (fun n => sq (A2 (V m c main_arg0) (V m c main_arg1)) (eb t) (cj t j) (1520 + n)) (q3 m c t j)).trans ?_
  rw [REFc, Cert.UpFwdRefIdeal.GA_at, Cert.UpFwdRefIdeal.AC_sq]
  refine congrArg₂ gt (congrArg₂ _ (congrArg₂ _ (congrArg₂ _ (cbv m c t 0 j) (congrArg₂ _ (cwv m c t 0 j) (congrArg _ ?_))) (congrArg₂ _ (cwv m c t 1 j) (congrArg _ ?_))) (congrArg₂ _ (cwv m c t 2 j) (congrArg _ ?_))) ((b3 _ _ i j).trans (bv m c t _ j))
  all_goals (dsimp only; omega)

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 REFa REFb REFc

theorem point_5 (c : Dev nD) (t : Fin cfg0.N) (y) : out0_5 (iblk m c 0 t) (iblk m c 1 t) (iblk m c 2 t) (iblk m c 3 t) (iblk m c 4 t) y
    = REFa (V m c main_arg0) (V m c main_arg1) (((cfg0.win 5).blk t).view.emb y) := by
  have ht := lt22 t
  unfold out0_5
  canon_tiles x h
  all_goals
    obtain ⟨z, i, j, rfl⟩ : ∃ (z : Fin 1) (i : Fin 512) (j : Fin 256), x = ix3 z i j := ⟨x 0, x 1, x 2, by funext a; fin_cases a <;> rfl⟩
    first | refine (Ra0 m c t z i j).trans (congrArg _ ?_) | refine (Ra1 m c t z i j).trans (congrArg _ ?_) | refine (Ra2 m c t z i j).trans (congrArg _ ?_) | refine (Ra3 m c t z i j).trans (congrArg _ ?_)
    funext a; fin_cases a <;> refine Fin.ext ?_ <;> blk_simp [idx t] <;> simp at * <;> omega

theorem final_5 (c : Dev nD) : (dats m 0 c).arrAt 5 (cfgs 0).N = REFa (V m c main_arg0) (V m c main_arg1) := by
  refine (dats m 0 c).arrAt_eq_of_covers 5 _ (by decide +kernel) fun t hf y => ?_
  blk_simp
  show (dats m 0 c).after 5 t y = _
  rw [after0_5]
  exact point_5 m c t y

theorem point_6 (c : Dev nD) (t : Fin cfg0.N) (y) : out0_6 (iblk m c 0 t) (iblk m c 1 t) (iblk m c 2 t) (iblk m c 3 t) (iblk m c 4 t) y
    = REFb (V m c main_arg0) (V m c main_arg1) (((cfg0.win 6).blk t).view.emb y) := by
  have ht := lt22 t
  unfold out0_6
  canon_tiles x h
  all_goals
    obtain ⟨z, i, j, rfl⟩ : ∃ (z : Fin 1) (i : Fin 512) (j : Fin 256), x = ix3 z i j := ⟨x 0, x 1, x 2, by funext a; fin_cases a <;> rfl⟩
    first | refine (Rb0 m c t z i j).trans (congrArg _ ?_) | refine (Rb1 m c t z i j).trans (congrArg _ ?_) | refine (Rb2 m c t z i j).trans (congrArg _ ?_) | refine (Rb3 m c t z i j).trans (congrArg _ ?_)
    funext a; fin_cases a <;> refine Fin.ext ?_ <;> blk_simp [idx t] <;> simp at * <;> omega

theorem final_6 (c : Dev nD) : (dats m 0 c).arrAt 6 (cfgs 0).N = REFb (V m c main_arg0) (V m c main_arg1) := by
  refine (dats m 0 c).arrAt_eq_of_covers 6 _ (by decide +kernel) fun t hf y => ?_
  blk_simp
  show (dats m 0 c).after 6 t y = _
  rw [after0_6]
  exact point_6 m c t y

theorem point_7 (c : Dev nD) (t : Fin cfg0.N) (y) : out0_7 (iblk m c 0 t) (iblk m c 1 t) (iblk m c 2 t) (iblk m c 3 t) (iblk m c 4 t) y
    = REFc (V m c main_arg0) (V m c main_arg1) (V m c main_arg2) (V m c main_arg3) (((cfg0.win 7).blk t).view.emb y) := by
  have ht := lt22 t
  unfold out0_7
  canon_tiles x h
  all_goals
    obtain ⟨z, i, j, rfl⟩ : ∃ (z : Fin 1) (i : Fin 512) (j : Fin 256), x = ix3 z i j := ⟨x 0, x 1, x 2, by funext a; fin_cases a <;> rfl⟩
    first | refine (Rc0 m c t z i j).trans (congrArg _ ?_) | refine (Rc1 m c t z i j).trans (congrArg _ ?_) | refine (Rc2 m c t z i j).trans (congrArg _ ?_) | refine (Rc3 m c t z i j).trans (congrArg _ ?_)
    funext a; fin_cases a <;> refine Fin.ext ?_ <;> blk_simp [idx t] <;> simp at * <;> omega

theorem final_7 (c : Dev nD) : (dats m 0 c).arrAt 7 (cfgs 0).N = REFc (V m c main_arg0) (V m c main_arg1) (V m c main_arg2) (V m c main_arg3) := by
  refine (dats m 0 c).arrAt_eq_of_covers 7 _ (by decide +kernel) fun t hf y => ?_
  blk_simp
  show (dats m 0 c).after 7 t y = _
  rw [after0_7]
  exact point_7 m c t y

end Cert.UpFwdIdeal

end
-- ==== Proof.Up.lean ====
/- The up-projection's kernel: its results are its reference's. -/
module

public import proofs.«01_k».proof.Defs
public import proofs.«01_k».proof.Proof.UpVal
public import proofs.«01_k».proof.Proof.Gen.UpFwdIdeal.Value
public import proofs.«01_k».proof.Proof.Gen.UpFwdRefIdeal.Run
public import Idealize.ShloMosaic.Lib.Claim

@[expose] public section

noncomputable section

namespace Cert.Proof

open Idealize.ShloMosaic Idealize.SL.Sem

theorem value_UpFwd : algebraic_UpFwdIdeal_UpFwdRefIdeal := by
  intro m g m' g' _ hagree
  refine ⟨_, _, _, (θ_run _ _ _).mono (fun r h c => h c) (Cert.UpFwdIdeal.Value.run_blocks m g),
    (θ_run _ _ _).mono (fun r h c => ?_) (Cert.UpFwdRefIdeal.Value.run m' g')⟩
  obtain ⟨e0, e1, e2, e3⟩ := hagree c
  refine ⟨(h c).1.trans (Eq.trans ?_ (Cert.UpFwdIdeal.final_5 m c).symm), (h c).2.1.trans (Eq.trans ?_ (Cert.UpFwdIdeal.final_6 m c).symm), (h c).2.2.1.trans (Eq.trans ?_ (Cert.UpFwdIdeal.final_7 m c).symm), (h c).2.2.2⟩
  · show Cert.UpFwdRefIdeal.REFa (m' ((c.tc : Thread _ _).loc Cert.UpFwdRefIdeal.main_arg0)) (m' ((c.tc : Thread _ _).loc Cert.UpFwdRefIdeal.main_arg1)) = _
    rw [e0, e1] <;> rfl
  · show Cert.UpFwdRefIdeal.REFb (m' ((c.tc : Thread _ _).loc Cert.UpFwdRefIdeal.main_arg0)) (m' ((c.tc : Thread _ _).loc Cert.UpFwdRefIdeal.main_arg1)) = _
    rw [e0, e1] <;> rfl
  · show Cert.UpFwdRefIdeal.REFc (m' ((c.tc : Thread _ _).loc Cert.UpFwdRefIdeal.main_arg0)) (m' ((c.tc : Thread _ _).loc Cert.UpFwdRefIdeal.main_arg1)) (m' ((c.tc : Thread _ _).loc Cert.UpFwdRefIdeal.main_arg2)) (m' ((c.tc : Thread _ _).loc Cert.UpFwdRefIdeal.main_arg3)) = _
    rw [e0, e1, e2, e3] <;> rfl

theorem frame_UpFwd : quiescent_UpFwdRefIdeal := fun m g _ =>
  (θ_run _ _ _).mono (fun r h => ⟨fun c => (h c).2.2.2, sem_eq_zero_of_no_sems (by decide) r.2⟩) (Cert.UpFwdRefIdeal.Value.run m g)

end Cert.Proof

end
-- ==== Proof.MergeOutFwd.lean ====
/- The merge's forward kernel: the merged branches, the residual sum and the second norm are the reference's. -/
module

public import proofs.«01_k».proof.Proof.Gen.MergeFwdIdeal.Frame
public import proofs.«01_k».proof.Proof.Gen.MergeFwdRefIdeal
public import proofs.«01_k».proof.Proof.Gen.MergeFwdRefIdeal.Run
public import Idealize.ShloMosaic.Lib.Claim
public import Idealize.ShloMosaic.Lib.WordCmp
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MergeFwdRefIdeal
open Cert.MergeFwdRefIdeal.Gen

theorem one_eq : Ideal.ofBits .f32 0x3F800000#32 = (1 : EReal) := by
  simp only [Ideal.ofBits, Ideal.ieee]; rw [if_neg (by decide), if_neg (by decide)]
  rw [← EReal.coe_one]; refine congrArg _ ?_; simp; norm_num

/-- The three branches, stacked. -/
def BR (X0 : FVec Ideal S4096x512 .bf16) (X1 : FVec Ideal S4096x512 .bf16) (X2 : FVec Ideal S4096x512 .bf16) : FVec Ideal S3x4096x512 .f32 :=
  concatenate S3x4096x512 0 [⟨S1x4096x512, ((broadcastInDim S1x4096x512 ![1, 2] bcast_S4096x512_S1x4096x512_1_2 (extf .f32 X0 bitsLt_bf16_f32)))⟩, ⟨S1x4096x512, ((broadcastInDim S1x4096x512 ![1, 2] bcast_S4096x512_S1x4096x512_1_2 (extf .f32 X1 bitsLt_bf16_f32)))⟩, ⟨S1x4096x512, ((broadcastInDim S1x4096x512 ![1, 2] bcast_S4096x512_S1x4096x512_1_2 (extf .f32 X2 bitsLt_bf16_f32)))⟩] concatenates_S1x4096x512_S1x4096x512_S1x4096x512_S3x4096x512_d0

/-- Their three projections, stacked. -/
def WB (X3 : FVec Ideal S512x1024 .bf16) (X4 : FVec Ideal S512x1024 .bf16) (X5 : FVec Ideal S512x1024 .bf16) : FVec Ideal S3x512x1024 .f32 :=
  concatenate S3x512x1024 0 [⟨S1x512x1024, ((broadcastInDim S1x512x1024 ![1, 2] bcast_S512x1024_S1x512x1024_1_2 (extf .f32 X3 bitsLt_bf16_f32)))⟩, ⟨S1x512x1024, ((broadcastInDim S1x512x1024 ![1, 2] bcast_S512x1024_S1x512x1024_1_2 (extf .f32 X4 bitsLt_bf16_f32)))⟩, ⟨S1x512x1024, ((broadcastInDim S1x512x1024 ![1, 2] bcast_S512x1024_S1x512x1024_1_2 (extf .f32 X5 bitsLt_bf16_f32)))⟩] concatenates_S1x512x1024_S1x512x1024_S1x512x1024_S3x512x1024_d0

/-- The branches projected. -/
def UP (X0 : FVec Ideal S4096x512 .bf16) (X1 : FVec Ideal S4096x512 .bf16) (X2 : FVec Ideal S4096x512 .bf16) (X3 : FVec Ideal S512x1024 .bf16) (X4 : FVec Ideal S512x1024 .bf16) (X5 : FVec Ideal S512x1024 .bf16) : FVec Ideal S3x4096x1024 .f32 :=
  Host.dotGeneral dot_S3x4096x512_S3x512x1024_S3x4096x1024_2_1_1_2_0_0 none (BR X0 X1 X2) (WB X3 X4 X5)

/-- The three gates. -/
def GT (X6 : FVec Ideal S4096x6656 .bf16) : FVec Ideal S4096x3x1024 .f32 :=
  Host.divf (broadcastInDim S4096x3x1024 ![] bcast_S_S4096x3x1024 (constant S_ .f32 0x3F800000#32)) (addf (broadcastInDim S4096x3x1024 ![] bcast_S_S4096x3x1024 (constant S_ .f32 0x3F800000#32)) (Host.exp (Host.negf (shapeCast _ (extf .f32 (extractStridedSlice S4096x3072 ![0, 3584] X6 slices_S4096x6656_S4096x3072_0_3584) bitsLt_bf16_f32) shapeCasts_S4096x3072_S4096x3x1024))))

/-- The merged sum. -/
def MG (X0 : FVec Ideal S4096x512 .bf16) (X1 : FVec Ideal S4096x512 .bf16) (X2 : FVec Ideal S4096x512 .bf16) (X3 : FVec Ideal S512x1024 .bf16) (X4 : FVec Ideal S512x1024 .bf16) (X5 : FVec Ideal S512x1024 .bf16) (X6 : FVec Ideal S4096x6656 .bf16) : FVec Ideal S4096x1024 .f32 :=
  Host.reduceAdd (mulf (GT X6) (transpose S4096x3x1024 [1, 0, 2] (UP X0 X1 X2 X3 X4 X5) transposes_S3x4096x1024_S4096x3x1024_1_0_2)) (constant S_ .f32 0x00000000#32) reducesTo_S4096x3x1024_S4096x1024_d1 h_S_

/-- The residual sum. -/
def XX (X0 : FVec Ideal S4096x512 .bf16) (X1 : FVec Ideal S4096x512 .bf16) (X2 : FVec Ideal S4096x512 .bf16) (X3 : FVec Ideal S512x1024 .bf16) (X4 : FVec Ideal S512x1024 .bf16) (X5 : FVec Ideal S512x1024 .bf16) (X6 : FVec Ideal S4096x6656 .bf16) (X7 : FVec Ideal S1024x1024 .bf16) (X8 : FVec Ideal S4096x1024 .f32) : FVec Ideal S4096x1024 .f32 :=
  addf X8 (Host.dotGeneral dot_S4096x1024_S1024x1024_S4096x1024_1_0_0_1_n_n none (MG X0 X1 X2 X3 X4 X5 X6) (extf .f32 X7 bitsLt_bf16_f32))

/-- A row over its root mean square, times the gain. -/
def NM (X : FVec Ideal S4096x1024 .f32) (X9 : FVec Ideal S1x1024 .f32) : FVec Ideal S4096x1024 .bf16 :=
  truncf .bf16 (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 X9)) bitsLt_bf16_f32

/-- The three results. -/
def REFm (X0 : FVec Ideal S4096x512 .bf16) (X1 : FVec Ideal S4096x512 .bf16) (X2 : FVec Ideal S4096x512 .bf16) (X3 : FVec Ideal S512x1024 .bf16) (X4 : FVec Ideal S512x1024 .bf16) (X5 : FVec Ideal S512x1024 .bf16) (X6 : FVec Ideal S4096x6656 .bf16) : FVec Ideal S4096x1024 .bf16 := truncf .bf16 (MG X0 X1 X2 X3 X4 X5 X6) bitsLt_bf16_f32
def REFx (X0 : FVec Ideal S4096x512 .bf16) (X1 : FVec Ideal S4096x512 .bf16) (X2 : FVec Ideal S4096x512 .bf16) (X3 : FVec Ideal S512x1024 .bf16) (X4 : FVec Ideal S512x1024 .bf16) (X5 : FVec Ideal S512x1024 .bf16) (X6 : FVec Ideal S4096x6656 .bf16) (X7 : FVec Ideal S1024x1024 .bf16) (X8 : FVec Ideal S4096x1024 .f32) : FVec Ideal S4096x1024 .f32 := XX X0 X1 X2 X3 X4 X5 X6 X7 X8
def REFh (X0 : FVec Ideal S4096x512 .bf16) (X1 : FVec Ideal S4096x512 .bf16) (X2 : FVec Ideal S4096x512 .bf16) (X3 : FVec Ideal S512x1024 .bf16) (X4 : FVec Ideal S512x1024 .bf16) (X5 : FVec Ideal S512x1024 .bf16) (X6 : FVec Ideal S4096x6656 .bf16) (X7 : FVec Ideal S1024x1024 .bf16) (X8 : FVec Ideal S4096x1024 .f32) (X9 : FVec Ideal S1x1024 .f32) : FVec Ideal S4096x1024 .bf16 := NM (XX X0 X1 X2 X3 X4 X5 X6 X7 X8) X9

theorem BR_0 (X0 X1 X2) (i : Fin 4096) (c : Fin 512) : BR X0 X1 X2 (ix3 (⟨0, by omega⟩ : Fin 3) i c) = X0 (ix2 i c) := by pointwise [BR]
theorem WB_0 (X3 X4 X5) (i : Fin 512) (c : Fin 1024) : WB X3 X4 X5 (ix3 (⟨0, by omega⟩ : Fin 3) i c) = X3 (ix2 i c) := by pointwise [WB]

theorem BR_1 (X0 X1 X2) (i : Fin 4096) (c : Fin 512) : BR X0 X1 X2 (ix3 (⟨1, by omega⟩ : Fin 3) i c) = X1 (ix2 i c) := by pointwise [BR]
theorem WB_1 (X3 X4 X5) (i : Fin 512) (c : Fin 1024) : WB X3 X4 X5 (ix3 (⟨1, by omega⟩ : Fin 3) i c) = X4 (ix2 i c) := by pointwise [WB]

theorem BR_2 (X0 X1 X2) (i : Fin 4096) (c : Fin 512) : BR X0 X1 X2 (ix3 (⟨2, by omega⟩ : Fin 3) i c) = X2 (ix2 i c) := by pointwise [BR]
theorem WB_2 (X3 X4 X5) (i : Fin 512) (c : Fin 1024) : WB X3 X4 X5 (ix3 (⟨2, by omega⟩ : Fin 3) i c) = X5 (ix2 i c) := by pointwise [WB]

theorem UP_at (X0 X1 X2 X3 X4 X5) (n : Fin 3) (i : Fin 4096) (j : Fin 1024) : UP X0 X1 X2 X3 X4 X5 (ix3 n i j)
    = ∑ c : Fin 512, BR X0 X1 X2 (ix3 n i c) * WB X3 X4 X5 (ix3 n c j) := by pointwise [UP]
theorem GT_at (X6) (i : Fin 4096) (n : Fin 3) (j : Fin 1024) : GT X6 (ix3 i n j)
    = Ideal.logistic (X6 (ix2 i (⟨3584 + (n.val * 1024 + j.val), by omega⟩ : Fin 6656))) := by
  rw [Ideal.logistic, ← one_eq]
  pointwise [GT]
theorem MG_at (X0 X1 X2 X3 X4 X5 X6) (i : Fin 4096) (k : Fin 1024) : MG X0 X1 X2 X3 X4 X5 X6 (ix2 i k)
    = ∑ n : Fin 3, GT X6 (ix3 i n k) * UP X0 X1 X2 X3 X4 X5 (ix3 n i k) := by pointwise [MG]

theorem XX_at (X0 X1 X2 X3 X4 X5 X6 X7 X8) (i : Fin 4096) (j : Fin 1024) : XX X0 X1 X2 X3 X4 X5 X6 X7 X8 (ix2 i j)
    = X8 (ix2 i j) + ∑ k : Fin 1024, MG X0 X1 X2 X3 X4 X5 X6 (ix2 i k) * X7 (ix2 k j) := by pointwise [XX]

/-- A normed row's element. -/
abbrev nrm (f : Fin 1024 → EReal) (g : EReal) (j : Fin 1024) : EReal :=
  f j * Ideal.rsqrt (Ideal.div (∑ l, f l * f l) (Ideal.ofBits .f32 0x44800000#32) + Ideal.ofBits .f32 0x358637BD#32) * g

theorem NM_at (X X9) (i : Fin 4096) (j : Fin 1024) : NM X X9 (ix2 i j) = nrm (fun l => X (ix2 i l)) (X9 (ix2 (0 : Fin 1) j)) j := by
  pointwise [NM, nrm]

end Cert.MergeFwdRefIdeal

namespace Cert.MergeFwdIdeal
open Cert.MergeFwdIdeal.Gen
open Cert.MergeFwdRefIdeal (MG GT UP XX NM nrm REFm REFx REFh)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0]
    ∧ win0_6.index t = ![t.val, 7] ∧ win0_7.index t = ![t.val, 8] ∧ win0_8.index t = ![t.val, 9]
    ∧ win0_9.index t = ![t.val, 10] ∧ win0_10.index t = ![t.val, 11] ∧ win0_11.index t = ![t.val, 12]
    ∧ win0_12.index t = ![0, 0] ∧ win0_13.index t = ![t.val, 0] ∧ win0_14.index t = ![0, 0]
    ∧ win0_15.index t = ![t.val, 0] ∧ win0_16.index t = ![t.val, 0] ∧ win0_17.index t = ![t.val, 0] :=
  (by decide +kernel : ∀ t : Fin grid0.N, _)
theorem lt8 (t : Fin cfg0.N) : t.val < 8 := lt_of_lt_of_eq t.isLt N_0

/-- Row `i` of point `t`'s block, in the whole array. -/
abbrev row (t : Fin cfg0.N) (i : Fin 512) : Fin 4096 := ⟨512 * t.val + i.val, by have := lt8 t; omega⟩

theorem ld0 (x : Vec Ideal S512x512 .bf16) (i : Fin 512) (j : Fin 512) : View.ld x r0_0 (ix2 i j) = x (ix2 i j) := by
  refine View.ld_unit_apply_of _ _ _ _ _ _ fun a => ?_
  fin_cases a <;> simp
theorem ld1 (x : Vec Ideal S512x1024 .bf16) (i : Fin 512) (j : Fin 1024) : View.ld x r0_1 (ix2 i j) = x (ix2 i j) := by
  refine View.ld_unit_apply_of _ _ _ _ _ _ fun a => ?_
  fin_cases a <;> simp
theorem ld1' (x : Vec Ideal S512x1024 .f32) (i : Fin 512) (j : Fin 1024) : View.ld x r0_1 (ix2 i j) = x (ix2 i j) := by
  refine View.ld_unit_apply_of _ _ _ _ _ _ fun a => ?_
  fin_cases a <;> simp
theorem ld2 (x : Vec Ideal S1024x1024 .bf16) (i : Fin 1024) (j : Fin 1024) : View.ld x r0_2 (ix2 i j) = x (ix2 i j) := by
  refine View.ld_unit_apply_of _ _ _ _ _ _ fun a => ?_
  fin_cases a <;> simp
theorem ld3 (x : Vec Ideal S1x1024 .f32) (i : Fin 1) (j : Fin 1024) : View.ld x r0_3 (ix2 i j) = x (ix2 i j) := by
  refine View.ld_unit_apply_of _ _ _ _ _ _ fun a => ?_
  fin_cases a <;> simp

/-! ## The body's values, element by element -/

theorem k4_lo (s0 t0 a0 b0 s1 t1 a1 b1 s2 t2 a2 b2) (i : Fin 512) (j : Fin 512) : k0_pay4 (F := Ideal) s0 t0 a0 b0 s1 t1 a1 b1 s2 t2 a2 b2 (ix2 i (⟨j.val, by omega⟩ : Fin 1024))
    = Ideal.logistic (s0 (ix2 i j)) * (∑ k : Fin 512, a0 (ix2 i k) * b0 (ix2 k (⟨j.val, by omega⟩ : Fin 1024))) + Ideal.logistic (s1 (ix2 i j)) * (∑ k : Fin 512, a1 (ix2 i k) * b1 (ix2 k (⟨j.val, by omega⟩ : Fin 1024))) + Ideal.logistic (s2 (ix2 i j)) * (∑ k : Fin 512, a2 (ix2 i k) * b2 (ix2 k (⟨j.val, by omega⟩ : Fin 1024))) := by
  pointwise [k0_pay4]
theorem k4_hi (s0 t0 a0 b0 s1 t1 a1 b1 s2 t2 a2 b2) (i : Fin 512) (j : Fin 512) : k0_pay4 (F := Ideal) s0 t0 a0 b0 s1 t1 a1 b1 s2 t2 a2 b2 (ix2 i (⟨512 + j.val, by omega⟩ : Fin 1024))
    = Ideal.logistic (t0 (ix2 i j)) * (∑ k : Fin 512, a0 (ix2 i k) * b0 (ix2 k (⟨512 + j.val, by omega⟩ : Fin 1024))) + Ideal.logistic (t1 (ix2 i j)) * (∑ k : Fin 512, a1 (ix2 i k) * b1 (ix2 k (⟨512 + j.val, by omega⟩ : Fin 1024))) + Ideal.logistic (t2 (ix2 i j)) * (∑ k : Fin 512, a2 (ix2 i k) * b2 (ix2 k (⟨512 + j.val, by omega⟩ : Fin 1024))) := by
  pointwise [k0_pay4]

theorem k4 (s0 t0 a0 b0 s1 t1 a1 b1 s2 t2 a2 b2) (i : Fin 512) (f0 f1 f2 : Fin 1024 → EReal) (h0 : ∀ k : Fin 512, s0 (ix2 i k) = f0 ⟨k.val, by omega⟩) (g0 : ∀ k : Fin 512, t0 (ix2 i k) = f0 ⟨512 + k.val, by omega⟩) (h1 : ∀ k : Fin 512, s1 (ix2 i k) = f1 ⟨k.val, by omega⟩) (g1 : ∀ k : Fin 512, t1 (ix2 i k) = f1 ⟨512 + k.val, by omega⟩) (h2 : ∀ k : Fin 512, s2 (ix2 i k) = f2 ⟨k.val, by omega⟩) (g2 : ∀ k : Fin 512, t2 (ix2 i k) = f2 ⟨512 + k.val, by omega⟩) (j : Fin 1024) : k0_pay4 (F := Ideal) s0 t0 a0 b0 s1 t1 a1 b1 s2 t2 a2 b2 (ix2 i j)
    = Ideal.logistic (f0 j) * (∑ k : Fin 512, a0 (ix2 i k) * b0 (ix2 k j)) + Ideal.logistic (f1 j) * (∑ k : Fin 512, a1 (ix2 i k) * b1 (ix2 k j)) + Ideal.logistic (f2 j) * (∑ k : Fin 512, a2 (ix2 i k) * b2 (ix2 k j)) := by
  by_cases h : j.val < 512
  · obtain ⟨k, e⟩ : ∃ k : Fin 512, j = ⟨k.val, by omega⟩ := ⟨⟨j.val, h⟩, rfl⟩
    rw [e, k4_lo, h0, h1, h2]
  · obtain ⟨k, e⟩ : ∃ k : Fin 512, j = ⟨512 + k.val, by omega⟩ := ⟨⟨j.val - 512, by omega⟩, Fin.ext (by dsimp only; omega)⟩
    rw [e, k4_hi, g0, g1, g2]

/-- A gate logit of point `t`'s row `i`. -/
def gate (c : Dev nD) (t : Fin cfg0.N) (i : Fin 512) (n : Fin 3) (j : Fin 1024) : EReal :=
  (show FVec Ideal S4096x6656 .bf16 from V m c main_arg6) (ix2 (row t i) (⟨3584 + (n.val * 1024 + j.val), by omega⟩ : Fin 6656))
theorem gl0 (c : Dev nD) (t : Fin cfg0.N) (i : Fin 512) (k : Fin 512) : View.ld (iblk m c 6 t) r0_0 (ix2 i k)
    = gate m c t i (⟨0, by omega⟩ : Fin 3) ⟨k.val, by omega⟩ := by
  rw [ld0, gate]; blk_point [iblk, V, idx t]
theorem gh0 (c : Dev nD) (t : Fin cfg0.N) (i : Fin 512) (k : Fin 512) : View.ld (iblk m c 7 t) r0_0 (ix2 i k)
    = gate m c t i (⟨0, by omega⟩ : Fin 3) ⟨512 + k.val, by omega⟩ := by
  rw [ld0, gate]; blk_point [iblk, V, idx t]
theorem up0 (c : Dev nD) (t : Fin cfg0.N) (i : Fin 512) (j : Fin 1024) : ∑ k : Fin 512, (show FVec Ideal S512x512 .bf16 from View.ld (iblk m c 0 t) r0_0) (ix2 i k) * (show FVec Ideal S512x1024 .bf16 from View.ld (iblk m c 3 t) r0_1) (ix2 k j)
    = UP (V m c main_arg0) (V m c main_arg1) (V m c main_arg2) (V m c main_arg3) (V m c main_arg4) (V m c main_arg5) (ix3 (⟨0, by omega⟩ : Fin 3) (row t i) j) := by
  rw [Cert.MergeFwdRefIdeal.UP_at]
  refine Finset.sum_congr rfl fun k _ => congrArg₂ _ ((ld0 _ i k).trans ?_) ((ld1 _ k j).trans ?_)
  · rw [Cert.MergeFwdRefIdeal.BR_0]; blk_point [iblk, V, idx t]
  · rw [Cert.MergeFwdRefIdeal.WB_0]; blk_point [iblk, V, idx t]
theorem gl1 (c : Dev nD) (t : Fin cfg0.N) (i : Fin 512) (k : Fin 512) : View.ld (iblk m c 8 t) r0_0 (ix2 i k)
    = gate m c t i (⟨1, by omega⟩ : Fin 3) ⟨k.val, by omega⟩ := by
  rw [ld0, gate]; blk_point [iblk, V, idx t]
theorem gh1 (c : Dev nD) (t : Fin cfg0.N) (i : Fin 512) (k : Fin 512) : View.ld (iblk m c 9 t) r0_0 (ix2 i k)
    = gate m c t i (⟨1, by omega⟩ : Fin 3) ⟨512 + k.val, by omega⟩ := by
  rw [ld0, gate]; blk_point [iblk, V, idx t]
theorem up1 (c : Dev nD) (t : Fin cfg0.N) (i : Fin 512) (j : Fin 1024) : ∑ k : Fin 512, (show FVec Ideal S512x512 .bf16 from View.ld (iblk m c 1 t) r0_0) (ix2 i k) * (show FVec Ideal S512x1024 .bf16 from View.ld (iblk m c 4 t) r0_1) (ix2 k j)
    = UP (V m c main_arg0) (V m c main_arg1) (V m c main_arg2) (V m c main_arg3) (V m c main_arg4) (V m c main_arg5) (ix3 (⟨1, by omega⟩ : Fin 3) (row t i) j) := by
  rw [Cert.MergeFwdRefIdeal.UP_at]
  refine Finset.sum_congr rfl fun k _ => congrArg₂ _ ((ld0 _ i k).trans ?_) ((ld1 _ k j).trans ?_)
  · rw [Cert.MergeFwdRefIdeal.BR_1]; blk_point [iblk, V, idx t]
  · rw [Cert.MergeFwdRefIdeal.WB_1]; blk_point [iblk, V, idx t]
theorem gl2 (c : Dev nD) (t : Fin cfg0.N) (i : Fin 512) (k : Fin 512) : View.ld (iblk m c 10 t) r0_0 (ix2 i k)
    = gate m c t i (⟨2, by omega⟩ : Fin 3) ⟨k.val, by omega⟩ := by
  rw [ld0, gate]; blk_point [iblk, V, idx t]
theorem gh2 (c : Dev nD) (t : Fin cfg0.N) (i : Fin 512) (k : Fin 512) : View.ld (iblk m c 11 t) r0_0 (ix2 i k)
    = gate m c t i (⟨2, by omega⟩ : Fin 3) ⟨512 + k.val, by omega⟩ := by
  rw [ld0, gate]; blk_point [iblk, V, idx t]
theorem up2 (c : Dev nD) (t : Fin cfg0.N) (i : Fin 512) (j : Fin 1024) : ∑ k : Fin 512, (show FVec Ideal S512x512 .bf16 from View.ld (iblk m c 2 t) r0_0) (ix2 i k) * (show FVec Ideal S512x1024 .bf16 from View.ld (iblk m c 5 t) r0_1) (ix2 k j)
    = UP (V m c main_arg0) (V m c main_arg1) (V m c main_arg2) (V m c main_arg3) (V m c main_arg4) (V m c main_arg5) (ix3 (⟨2, by omega⟩ : Fin 3) (row t i) j) := by
  rw [Cert.MergeFwdRefIdeal.UP_at]
  refine Finset.sum_congr rfl fun k _ => congrArg₂ _ ((ld0 _ i k).trans ?_) ((ld1 _ k j).trans ?_)
  · rw [Cert.MergeFwdRefIdeal.BR_2]; blk_point [iblk, V, idx t]
  · rw [Cert.MergeFwdRefIdeal.WB_2]; blk_point [iblk, V, idx t]

theorem MGb (c : Dev nD) (t : Fin cfg0.N) (i : Fin 512) (j : Fin 1024) : k0_pay5 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 i j) = MG (V m c main_arg0) (V m c main_arg1) (V m c main_arg2) (V m c main_arg3) (V m c main_arg4) (V m c main_arg5) (V m c main_arg6) (ix2 (row t i) j) := by
  refine (k4 _ _ _ _ _ _ _ _ _ _ _ _ i (gate m c t i 0) (gate m c t i 1) (gate m c t i 2) (gl0 m c t i) (gh0 m c t i) (gl1 m c t i) (gh1 m c t i) (gl2 m c t i) (gh2 m c t i) j).trans ?_
  rw [Cert.MergeFwdRefIdeal.MG_at, Fin.sum_univ_three, up0, up1, up2]
  refine congrArg₂ _ (congrArg₂ _ ?_ ?_) ?_
  · exact congrArg (· * _) (Cert.MergeFwdRefIdeal.GT_at _ (row t i) (⟨0, by omega⟩ : Fin 3) j).symm
  · exact congrArg (· * _) (Cert.MergeFwdRefIdeal.GT_at _ (row t i) (⟨1, by omega⟩ : Fin 3) j).symm
  · exact congrArg (· * _) (Cert.MergeFwdRefIdeal.GT_at _ (row t i) (⟨2, by omega⟩ : Fin 3) j).symm

theorem k1 (v) (i : Fin 512) (j : Fin 1024) : k0_pay1 (F := Ideal) v (ix2 i j) = v (ix2 i j) := by pointwise [k0_pay1]
theorem k2 (v x w) (i : Fin 512) (j : Fin 1024) : k0_pay2 (F := Ideal) v x w (ix2 i j) = x (ix2 i j) + ∑ k : Fin 1024, v (ix2 i k) * w (ix2 k j) := by pointwise [k0_pay2, k0_pay1]
theorem k3 (v x w g) (i : Fin 512) (j : Fin 1024) : k0_pay3 (F := Ideal) v x w g (ix2 i j) = nrm (fun l => k0_pay2 (F := Ideal) v x w (ix2 i l)) (g (ix2 (0 : Fin 1) j)) j := by
  pointwise [k0_pay3, nrm]

theorem Lm (c : Dev nD) (t : Fin cfg0.N) (i : Fin 512) (j : Fin 1024) : k0_pay1 (F := Ideal) (k0_pay5 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (ix2 i j) = REFm (V m c main_arg0) (V m c main_arg1) (V m c main_arg2) (V m c main_arg3) (V m c main_arg4) (V m c main_arg5) (V m c main_arg6) (ix2 (row t i) j) :=
  (k1 _ i j).trans (MGb m c t i j)
theorem Lx (c : Dev nD) (t : Fin cfg0.N) (i : Fin 512) (j : Fin 1024) : k0_pay2 (F := Ideal) (k0_pay5 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (View.ld (iblk m c 13 t) r0_1) (View.ld (iblk m c 12 t) r0_2) (ix2 i j) = REFx (V m c main_arg0) (V m c main_arg1) (V m c main_arg2) (V m c main_arg3) (V m c main_arg4) (V m c main_arg5) (V m c main_arg6) (V m c main_arg7) (V m c main_arg8) (ix2 (row t i) j) := by
  rw [k2, REFx, Cert.MergeFwdRefIdeal.XX_at]
  refine congrArg₂ _ ?_ (Finset.sum_congr rfl fun k _ => congrArg₂ _ (MGb m c t i k) ?_)
  · rw [ld1']; blk_point [iblk, V, idx t]
  · rw [ld2]; blk_point [iblk, V, idx t]
theorem Lh (c : Dev nD) (t : Fin cfg0.N) (i : Fin 512) (j : Fin 1024) : k0_pay3 (F := Ideal) (k0_pay5 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (View.ld (iblk m c 13 t) r0_1) (View.ld (iblk m c 12 t) r0_2) (View.ld (iblk m c 14 t) r0_3) (ix2 i j)
    = REFh (V m c main_arg0) (V m c main_arg1) (V m c main_arg2) (V m c main_arg3) (V m c main_arg4) (V m c main_arg5) (V m c main_arg6) (V m c main_arg7) (V m c main_arg8) (V m c main_arg9) (ix2 (row t i) j) := by
  rw [k3, REFh, Cert.MergeFwdRefIdeal.NM_at]
  refine congrArg₂ (nrm · · j) (funext fun l => Lx m c t i l) ?_
  rw [ld3]; blk_point [iblk, V, idx t]

attribute [local irreducible] k0_pay1 k0_pay2 k0_pay3 k0_pay4 k0_pay5 REFm REFx REFh

theorem point_15 (c : Dev nD) (t : Fin cfg0.N) (y) : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y = REFm (V m c main_arg0) (V m c main_arg1) (V m c main_arg2) (V m c main_arg3) (V m c main_arg4) (V m c main_arg5) (V m c main_arg6) (((cfg0.win 15).blk t).view.emb y) := by
  have ht := lt8 t
  unfold out0_15
  canon_tiles x h
  obtain ⟨i, j, rfl⟩ : ∃ (i : Fin 512) (j : Fin 1024), x = ix2 i j := ⟨x 0, x 1, by funext a; fin_cases a <;> rfl⟩
  refine (Lm m c t i j).trans (congrArg _ ?_)
  funext a; fin_cases a <;> refine Fin.ext ?_ <;> blk_simp [idx t] <;> simp at * <;> omega
theorem final_15 (c : Dev nD) : (dats m 0 c).arrAt 15 (cfgs 0).N = REFm (V m c main_arg0) (V m c main_arg1) (V m c main_arg2) (V m c main_arg3) (V m c main_arg4) (V m c main_arg5) (V m c main_arg6) := by
  refine (dats m 0 c).arrAt_eq_of_covers 15 _ (by decide +kernel) fun t hf y => ?_
  blk_simp
  show (dats m 0 c).after 15 t y = _
  rw [after0_15]
  exact point_15 m c t y

theorem point_16 (c : Dev nD) (t : Fin cfg0.N) (y) : out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y = REFx (V m c main_arg0) (V m c main_arg1) (V m c main_arg2) (V m c main_arg3) (V m c main_arg4) (V m c main_arg5) (V m c main_arg6) (V m c main_arg7) (V m c main_arg8) (((cfg0.win 16).blk t).view.emb y) := by
  have ht := lt8 t
  unfold out0_16
  canon_tiles x h
  obtain ⟨i, j, rfl⟩ : ∃ (i : Fin 512) (j : Fin 1024), x = ix2 i j := ⟨x 0, x 1, by funext a; fin_cases a <;> rfl⟩
  refine (Lx m c t i j).trans (congrArg _ ?_)
  funext a; fin_cases a <;> refine Fin.ext ?_ <;> blk_simp [idx t] <;> simp at * <;> omega
theorem final_16 (c : Dev nD) : (dats m 0 c).arrAt 16 (cfgs 0).N = REFx (V m c main_arg0) (V m c main_arg1) (V m c main_arg2) (V m c main_arg3) (V m c main_arg4) (V m c main_arg5) (V m c main_arg6) (V m c main_arg7) (V m c main_arg8) := by
  refine (dats m 0 c).arrAt_eq_of_covers 16 _ (by decide +kernel) fun t hf y => ?_
  blk_simp
  show (dats m 0 c).after 16 t y = _
  rw [after0_16]
  exact point_16 m c t y

theorem point_17 (c : Dev nD) (t : Fin cfg0.N) (y) : out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) y = REFh (V m c main_arg0) (V m c main_arg1) (V m c main_arg2) (V m c main_arg3) (V m c main_arg4) (V m c main_arg5) (V m c main_arg6) (V m c main_arg7) (V m c main_arg8) (V m c main_arg9) (((cfg0.win 17).blk t).view.emb y) := by
  have ht := lt8 t
  unfold out0_17
  canon_tiles x h
  obtain ⟨i, j, rfl⟩ : ∃ (i : Fin 512) (j : Fin 1024), x = ix2 i j := ⟨x 0, x 1, by funext a; fin_cases a <;> rfl⟩
  refine (Lh m c t i j).trans (congrArg _ ?_)
  funext a; fin_cases a <;> refine Fin.ext ?_ <;> blk_simp [idx t] <;> simp at * <;> omega
theorem final_17 (c : Dev nD) : (dats m 0 c).arrAt 17 (cfgs 0).N = REFh (V m c main_arg0) (V m c main_arg1) (V m c main_arg2) (V m c main_arg3) (V m c main_arg4) (V m c main_arg5) (V m c main_arg6) (V m c main_arg7) (V m c main_arg8) (V m c main_arg9) := by
  refine (dats m 0 c).arrAt_eq_of_covers 17 _ (by decide +kernel) fun t hf y => ?_
  blk_simp
  show (dats m 0 c).after 17 t y = _
  rw [after0_17]
  exact point_17 m c t y

end Cert.MergeFwdIdeal

end
-- ==== Proof.MergeF.lean ====
/- The merge's forward kernel: its results are its reference's. -/
module

public import proofs.«01_k».proof.Defs
public import proofs.«01_k».proof.Proof.MergeOutFwd
public import proofs.«01_k».proof.Proof.Gen.MergeFwdIdeal.Value
public import proofs.«01_k».proof.Proof.Gen.MergeFwdRefIdeal.Run
public import Idealize.ShloMosaic.Lib.Claim

@[expose] public section

set_option maxHeartbeats 2000000

noncomputable section

namespace Cert.Proof

open Idealize.ShloMosaic Idealize.SL.Sem

theorem value_MergeFwd : algebraic_MergeFwdIdeal_MergeFwdRefIdeal := by
  intro m g m' g' _ hagree
  refine ⟨_, _, _, (θ_run _ _ _).mono (fun r h c => h c) (Cert.MergeFwdIdeal.Value.run_blocks m g),
    (θ_run _ _ _).mono (fun r h c => ?_) (Cert.MergeFwdRefIdeal.Value.run m' g')⟩
  obtain ⟨e0, e1, e2, e3, e4, e5, e6, e7, e8, e9⟩ := hagree c
  refine ⟨(h c).1.trans (Eq.trans ?_ (Cert.MergeFwdIdeal.final_15 m c).symm), (h c).2.1.trans (Eq.trans ?_ (Cert.MergeFwdIdeal.final_16 m c).symm), (h c).2.2.1.trans (Eq.trans ?_ (Cert.MergeFwdIdeal.final_17 m c).symm), (h c).2.2.2⟩
  · show Cert.MergeFwdRefIdeal.REFm (m' ((c.tc : Thread _ _).loc Cert.MergeFwdRefIdeal.main_arg0)) (m' ((c.tc : Thread _ _).loc Cert.MergeFwdRefIdeal.main_arg1)) (m' ((c.tc : Thread _ _).loc Cert.MergeFwdRefIdeal.main_arg2)) (m' ((c.tc : Thread _ _).loc Cert.MergeFwdRefIdeal.main_arg3)) (m' ((c.tc : Thread _ _).loc Cert.MergeFwdRefIdeal.main_arg4)) (m' ((c.tc : Thread _ _).loc Cert.MergeFwdRefIdeal.main_arg5)) (m' ((c.tc : Thread _ _).loc Cert.MergeFwdRefIdeal.main_arg6)) = _
    rw [e0, e1, e2, e3, e4, e5, e6] <;> rfl
  · show Cert.MergeFwdRefIdeal.REFx (m' ((c.tc : Thread _ _).loc Cert.MergeFwdRefIdeal.main_arg0)) (m' ((c.tc : Thread _ _).loc Cert.MergeFwdRefIdeal.main_arg1)) (m' ((c.tc : Thread _ _).loc Cert.MergeFwdRefIdeal.main_arg2)) (m' ((c.tc : Thread _ _).loc Cert.MergeFwdRefIdeal.main_arg3)) (m' ((c.tc : Thread _ _).loc Cert.MergeFwdRefIdeal.main_arg4)) (m' ((c.tc : Thread _ _).loc Cert.MergeFwdRefIdeal.main_arg5)) (m' ((c.tc : Thread _ _).loc Cert.MergeFwdRefIdeal.main_arg6)) (m' ((c.tc : Thread _ _).loc Cert.MergeFwdRefIdeal.main_arg7)) (m' ((c.tc : Thread _ _).loc Cert.MergeFwdRefIdeal.main_arg8)) = _
    rw [e0, e1, e2, e3, e4, e5, e6, e7, e8] <;> rfl
  · show Cert.MergeFwdRefIdeal.REFh (m' ((c.tc : Thread _ _).loc Cert.MergeFwdRefIdeal.main_arg0)) (m' ((c.tc : Thread _ _).loc Cert.MergeFwdRefIdeal.main_arg1)) (m' ((c.tc : Thread _ _).loc Cert.MergeFwdRefIdeal.main_arg2)) (m' ((c.tc : Thread _ _).loc Cert.MergeFwdRefIdeal.main_arg3)) (m' ((c.tc : Thread _ _).loc Cert.MergeFwdRefIdeal.main_arg4)) (m' ((c.tc : Thread _ _).loc Cert.MergeFwdRefIdeal.main_arg5)) (m' ((c.tc : Thread _ _).loc Cert.MergeFwdRefIdeal.main_arg6)) (m' ((c.tc : Thread _ _).loc Cert.MergeFwdRefIdeal.main_arg7)) (m' ((c.tc : Thread _ _).loc Cert.MergeFwdRefIdeal.main_arg8)) (m' ((c.tc : Thread _ _).loc Cert.MergeFwdRefIdeal.main_arg9)) = _
    rw [e0, e1, e2, e3, e4, e5, e6, e7, e8, e9] <;> rfl

theorem frame_MergeFwd : quiescent_MergeFwdRefIdeal := fun m g _ =>
  (θ_run _ _ _).mono (fun r h => ⟨fun c => (h c).2.2.2, sem_eq_zero_of_no_sems (by decide) r.2⟩) (Cert.MergeFwdRefIdeal.Value.run m g)

end Cert.Proof

end
-- ==== Proof.UpdIn.lean ====
/- The optimiser step of w_in: the kernel's results are the reference's. -/
module

public import proofs.«01_k».proof.Proof.Gen.UpdInIdeal.Frame
public import proofs.«01_k».proof.Proof.Gen.UpdInRefIdeal
public import proofs.«01_k».proof.Proof.Gen.UpdInRefIdeal.Run
public import Idealize.ShloMosaic.Lib.Claim
public import Idealize.ShloMosaic.Lib.WordCmp
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.UpdInRefIdeal
open Cert.UpdInRefIdeal.Gen

/-- The devices' gradients summed. -/
def GS (X0 : FVec Ideal S8x832x512 .bf16) (X1 : FVec Ideal S8x832x512 .bf16) : FVec Ideal S832x1024 .f32 := Host.reduceAdd (extf .f32 (concatenate S8x832x1024 2 [⟨S8x832x512, X0⟩, ⟨S8x832x512, X1⟩] concatenates_S8x832x512_S8x832x512_S8x832x1024_d2) bitsLt_bf16_f32) (constant S_ .f32 0x00000000#32) reducesTo_S8x832x1024_S832x1024_d0 h_S_
/-- The new first moment. -/
def MN (G M : FVec Ideal S832x1024 .f32) : FVec Ideal S832x1024 .f32 := addf (mulf (broadcastInDim S832x1024 ![] bcast_S_S832x1024 (constant S_ .f32 0x3F666666#32)) M) (mulf (broadcastInDim S832x1024 ![] bcast_S_S832x1024 (constant S_ .f32 0x3DCCCCCD#32)) G)
/-- The new second moment. -/
def VN (G V : FVec Ideal S832x1024 .f32) : FVec Ideal S832x1024 .f32 := addf (mulf (broadcastInDim S832x1024 ![] bcast_S_S832x1024 (constant S_ .f32 0x3F7FBE77#32)) V) (mulf (broadcastInDim S832x1024 ![] bcast_S_S832x1024 (constant S_ .f32 0x3A83126F#32)) (mulf G G))
/-- The step. -/
def DL (M V W : FVec Ideal S832x1024 .f32) : FVec Ideal S832x1024 .f32 := mulf (broadcastInDim S832x1024 ![] bcast_S_S832x1024 (constant S_ .f32 0xBA83126F#32)) (addf (Host.divf (Host.divf M (broadcastInDim S832x1024 ![] bcast_S_S832x1024 (constant S_ .f32 0x3F26BD02#32))) (addf (Host.sqrt (Host.divf V (broadcastInDim S832x1024 ![] bcast_S_S832x1024 (constant S_ .f32 0x3C231ACC#32)))) (broadcastInDim S832x1024 ![] bcast_S_S832x1024 (constant S_ .f32 0x322BCC77#32)))) (mulf (broadcastInDim S832x1024 ![] bcast_S_S832x1024 (constant S_ .f32 0x3C23D70A#32)) W))

/-- The four results. -/
def REFg (X0 : FVec Ideal S8x832x512 .bf16) (X1 : FVec Ideal S8x832x512 .bf16) : FVec Ideal S832x1024 .f32 := GS X0 X1
def REFd (X0 : FVec Ideal S8x832x512 .bf16) (X1 : FVec Ideal S8x832x512 .bf16) (X2 X3 X4 : FVec Ideal S832x1024 .f32) : FVec Ideal S832x1024 .f32 := DL (MN (GS X0 X1) X3) (VN (GS X0 X1) X4) X2
def REFm (X0 : FVec Ideal S8x832x512 .bf16) (X1 : FVec Ideal S8x832x512 .bf16) (X3 : FVec Ideal S832x1024 .f32) : FVec Ideal S832x1024 .f32 := MN (GS X0 X1) X3
def REFv (X0 : FVec Ideal S8x832x512 .bf16) (X1 : FVec Ideal S8x832x512 .bf16) (X4 : FVec Ideal S832x1024 .f32) : FVec Ideal S832x1024 .f32 := VN (GS X0 X1) X4

theorem GS_lo (X0 X1) (i : Fin 832) (j : Fin 512) : GS X0 X1 (ix2 i (⟨j.val, by omega⟩ : Fin 1024)) = ∑ n : Fin 8, X0 (ix3 n i j) := by pointwise [GS]
theorem GS_hi (X0 X1) (i : Fin 832) (j : Fin 512) : GS X0 X1 (ix2 i (⟨512 + j.val, by omega⟩ : Fin 1024)) = ∑ n : Fin 8, X1 (ix3 n i j) := by pointwise [GS]

end Cert.UpdInRefIdeal

namespace Cert.UpdInIdeal
open Cert.UpdInIdeal.Gen
open Cert.UpdInRefIdeal (GS MN VN DL REFg REFd REFm REFv)

variable (m : (ℓ : Loc nD τ sig) → Buf (Elt Ideal) ℓ)

theorem idx : ∀ t : Fin cfg0.N, win0_0.index t = ![0, t.val, 0] ∧ win0_1.index t = ![0, t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)
theorem ltN (t : Fin cfg0.N) : t.val < 4 := lt_of_lt_of_eq t.isLt N_0

/-- A point's row in the whole array. -/
abbrev rw' (t : Fin cfg0.N) (i : Fin 208) : Fin 832 := ⟨t.val * 208 + i.val, by have := ltN t; omega⟩

theorem ld0 (x : Vec Ideal S8x208x512 .bf16) (z : Fin 1) (i : Fin 208) (j : Fin 512) : View.ld x r0_0 (ix3 z i j) = x (ix3 (0 : Fin 8) i j) := by
  refine View.ld_unit_apply_of _ _ _ _ _ _ fun a => ?_
  fin_cases a <;> simp
theorem ld1 (x : Vec Ideal S8x208x512 .bf16) (z : Fin 1) (i : Fin 208) (j : Fin 512) : View.ld x r0_1 (ix3 z i j) = x (ix3 (1 : Fin 8) i j) := by
  refine View.ld_unit_apply_of _ _ _ _ _ _ fun a => ?_
  fin_cases a <;> simp
theorem ld2 (x : Vec Ideal S8x208x512 .bf16) (z : Fin 1) (i : Fin 208) (j : Fin 512) : View.ld x r0_2 (ix3 z i j) = x (ix3 (2 : Fin 8) i j) := by
  refine View.ld_unit_apply_of _ _ _ _ _ _ fun a => ?_
  fin_cases a <;> simp
theorem ld3 (x : Vec Ideal S8x208x512 .bf16) (z : Fin 1) (i : Fin 208) (j : Fin 512) : View.ld x r0_3 (ix3 z i j) = x (ix3 (3 : Fin 8) i j) := by
  refine View.ld_unit_apply_of _ _ _ _ _ _ fun a => ?_
  fin_cases a <;> simp
theorem ld4 (x : Vec Ideal S8x208x512 .bf16) (z : Fin 1) (i : Fin 208) (j : Fin 512) : View.ld x r0_4 (ix3 z i j) = x (ix3 (4 : Fin 8) i j) := by
  refine View.ld_unit_apply_of _ _ _ _ _ _ fun a => ?_
  fin_cases a <;> simp
theorem ld5 (x : Vec Ideal S8x208x512 .bf16) (z : Fin 1) (i : Fin 208) (j : Fin 512) : View.ld x r0_5 (ix3 z i j) = x (ix3 (5 : Fin 8) i j) := by
  refine View.ld_unit_apply_of _ _ _ _ _ _ fun a => ?_
  fin_cases a <;> simp
theorem ld6 (x : Vec Ideal S8x208x512 .bf16) (z : Fin 1) (i : Fin 208) (j : Fin 512) : View.ld x r0_6 (ix3 z i j) = x (ix3 (6 : Fin 8) i j) := by
  refine View.ld_unit_apply_of _ _ _ _ _ _ fun a => ?_
  fin_cases a <;> simp
theorem ld7 (x : Vec Ideal S8x208x512 .bf16) (z : Fin 1) (i : Fin 208) (j : Fin 512) : View.ld x r0_7 (ix3 z i j) = x (ix3 (7 : Fin 8) i j) := by
  refine View.ld_unit_apply_of _ _ _ _ _ _ fun a => ?_
  fin_cases a <;> simp
theorem ld8 (x : Vec Ideal S208x1024 .f32) (i : Fin 208) (j : Fin 1024) : View.ld x r0_8 (ix2 i j) = x (ix2 i j) := by
  refine View.ld_unit_apply_of _ _ _ _ _ _ fun a => ?_
  fin_cases a <;> simp

theorem k4 (a0 a1 a2 a3 a4 a5 a6 a7) (i : Fin 208) (j : Fin 512) : k0_pay4 (F := Ideal) a0 a1 a2 a3 a4 a5 a6 a7 (ix2 i j) = a0 (ix3 (0 : Fin 1) i j) + a1 (ix3 (0 : Fin 1) i j) + a2 (ix3 (0 : Fin 1) i j) + a3 (ix3 (0 : Fin 1) i j) + a4 (ix3 (0 : Fin 1) i j) + a5 (ix3 (0 : Fin 1) i j) + a6 (ix3 (0 : Fin 1) i j) + a7 (ix3 (0 : Fin 1) i j) := by pointwise [k0_pay4]
theorem k5_lo (g a0 a1 a2 a3 a4 a5 a6 a7) (i : Fin 208) (j : Fin 512) : k0_pay5 (F := Ideal) g a0 a1 a2 a3 a4 a5 a6 a7 (ix2 i (⟨j.val, by omega⟩ : Fin 1024)) = g (ix2 i j) := by pointwise [k0_pay5]
theorem k5_hi (g a0 a1 a2 a3 a4 a5 a6 a7) (i : Fin 208) (j : Fin 512) : k0_pay5 (F := Ideal) g a0 a1 a2 a3 a4 a5 a6 a7 (ix2 i (⟨512 + j.val, by omega⟩ : Fin 1024)) = a0 (ix3 (0 : Fin 1) i j) + a1 (ix3 (0 : Fin 1) i j) + a2 (ix3 (0 : Fin 1) i j) + a3 (ix3 (0 : Fin 1) i j) + a4 (ix3 (0 : Fin 1) i j) + a5 (ix3 (0 : Fin 1) i j) + a6 (ix3 (0 : Fin 1) i j) + a7 (ix3 (0 : Fin 1) i j) := by pointwise [k0_pay5]
theorem hl0 (c : Dev nD) (t : Fin cfg0.N) (n : Fin 8) (i : Fin 208) (j : Fin 512) : (show FVec Ideal S8x208x512 .bf16 from iblk m c 0 t) (ix3 n i j) = (show FVec Ideal S8x832x512 .bf16 from V m c main_arg0) (ix3 n (rw' t i) j) := by
  blk_point [iblk, V, idx t]
theorem hl1 (c : Dev nD) (t : Fin cfg0.N) (n : Fin 8) (i : Fin 208) (j : Fin 512) : (show FVec Ideal S8x208x512 .bf16 from iblk m c 1 t) (ix3 n i j) = (show FVec Ideal S8x832x512 .bf16 from V m c main_arg1) (ix3 n (rw' t i) j) := by
  blk_point [iblk, V, idx t]

theorem gv (c : Dev nD) (t : Fin cfg0.N) (i : Fin 208) (j : Fin 1024) : k0_pay7 (F := Ideal) (iblk m c 0 t) (iblk m c 1 t) (iblk m c 2 t) (iblk m c 3 t) (iblk m c 4 t) (ix2 i j) = GS (V m c main_arg0) (V m c main_arg1) (ix2 (rw' t i) j) := by
  by_cases h : j.val < 512
  · obtain ⟨l, e⟩ : ∃ l : Fin 512, j = (⟨l.val, by omega⟩ : Fin 1024) := ⟨⟨j.val, h⟩, rfl⟩
    rw [e]
    refine (k5_lo _ _ _ _ _ _ _ _ _ i l).trans ((k4 _ _ _ _ _ _ _ _ i l).trans (Eq.trans ?_ (Cert.UpdInRefIdeal.GS_lo _ _ _ l).symm))
    rw [Fin.sum_univ_eight]
    rw [ld0, ld1, ld2, ld3, ld4, ld5, ld6, ld7]
    refine congrArg₂ _ (congrArg₂ _ (congrArg₂ _ (congrArg₂ _ (congrArg₂ _ (congrArg₂ _ (congrArg₂ _ ?_ ?_) ?_) ?_) ?_) ?_) ?_) ?_ <;> exact hl0 m c t _ i l
  · obtain ⟨l, e⟩ : ∃ l : Fin 512, j = (⟨512 + l.val, by omega⟩ : Fin 1024) := ⟨⟨j.val - 512, by omega⟩, Fin.ext (by dsimp only; omega)⟩
    rw [e]
    refine (k5_hi _ _ _ _ _ _ _ _ _ i l).trans (Eq.trans ?_ (Cert.UpdInRefIdeal.GS_hi _ _ _ l).symm)
    rw [Fin.sum_univ_eight]
    rw [ld0, ld1, ld2, ld3, ld4, ld5, ld6, ld7]
    refine congrArg₂ _ (congrArg₂ _ (congrArg₂ _ (congrArg₂ _ (congrArg₂ _ (congrArg₂ _ (congrArg₂ _ ?_ ?_) ?_) ?_) ?_) ?_) ?_) ?_ <;> exact hl1 m c t _ i l
theorem st1 (c : Dev nD) (t : Fin cfg0.N) (i : Fin 208) (j : Fin 1024) : View.ld (iblk m c 2 t) r0_8 (ix2 i j) = (show FVec Ideal S832x1024 .f32 from V m c main_arg2) (ix2 (rw' t i) j) := by
  rw [ld8]; blk_point [iblk, V, idx t]
theorem st2 (c : Dev nD) (t : Fin cfg0.N) (i : Fin 208) (j : Fin 1024) : View.ld (iblk m c 3 t) r0_8 (ix2 i j) = (show FVec Ideal S832x1024 .f32 from V m c main_arg3) (ix2 (rw' t i) j) := by
  rw [ld8]; blk_point [iblk, V, idx t]
theorem st3 (c : Dev nD) (t : Fin cfg0.N) (i : Fin 208) (j : Fin 1024) : View.ld (iblk m c 4 t) r0_8 (ix2 i j) = (show FVec Ideal S832x1024 .f32 from V m c main_arg4) (ix2 (rw' t i) j) := by
  rw [ld8]; blk_point [iblk, V, idx t]

theorem kd (g w u v : FVec Ideal S208x1024 .f32) (G W U X : FVec Ideal S832x1024 .f32) (i : Fin 208) (j : Fin 1024) (r : Fin 832) (hg : g (ix2 i j) = G (ix2 r j)) (hw : w (ix2 i j) = W (ix2 r j)) (hu : u (ix2 i j) = U (ix2 r j)) (hv : v (ix2 i j) = X (ix2 r j)) :
    k0_pay3 (F := Ideal) g w u v (ix2 i j) = DL (MN G U) (VN G X) W (ix2 r j) := by
  pointwise [k0_pay3, k0_pay1, k0_pay2, DL, MN, VN]
  rw [hg, hw, hu, hv]
theorem km (g u : FVec Ideal S208x1024 .f32) (G U : FVec Ideal S832x1024 .f32) (i : Fin 208) (j : Fin 1024) (r : Fin 832) (hg : g (ix2 i j) = G (ix2 r j)) (hu : u (ix2 i j) = U (ix2 r j)) :
    k0_pay1 (F := Ideal) g u (ix2 i j) = MN G U (ix2 r j) := by
  pointwise [k0_pay1, MN]
  rw [hg, hu]
theorem kv (g u : FVec Ideal S208x1024 .f32) (G U : FVec Ideal S832x1024 .f32) (i : Fin 208) (j : Fin 1024) (r : Fin 832) (hg : g (ix2 i j) = G (ix2 r j)) (hu : u (ix2 i j) = U (ix2 r j)) :
    k0_pay2 (F := Ideal) g u (ix2 i j) = VN G U (ix2 r j) := by
  pointwise [k0_pay2, VN]
  rw [hg, hu]

theorem Lg (c : Dev nD) (t : Fin cfg0.N) (i : Fin 208) (j : Fin 1024) : k0_pay5 (F := Ideal) (k0_pay6 (iblk m c 0 t) (iblk m c 1 t) (iblk m c 2 t) (iblk m c 3 t) (iblk m c 4 t)) (View.ld (iblk m c 1 t) r0_0) (View.ld (iblk m c 1 t) r0_1) (View.ld (iblk m c 1 t) r0_2) (View.ld (iblk m c 1 t) r0_3) (View.ld (iblk m c 1 t) r0_4) (View.ld (iblk m c 1 t) r0_5) (View.ld (iblk m c 1 t) r0_6) (View.ld (iblk m c 1 t) r0_7) (ix2 i j) = REFg (V m c main_arg0) (V m c main_arg1) (ix2 (rw' t i) j) := gv m c t i j
theorem Ld (c : Dev nD) (t : Fin cfg0.N) (i : Fin 208) (j : Fin 1024) : k0_pay3 (F := Ideal) (k0_pay7 (F := Ideal) (iblk m c 0 t) (iblk m c 1 t) (iblk m c 2 t) (iblk m c 3 t) (iblk m c 4 t)) (View.ld (iblk m c 2 t) r0_8) (View.ld (iblk m c 3 t) r0_8) (View.ld (iblk m c 4 t) r0_8) (ix2 i j)
    = REFd (V m c main_arg0) (V m c main_arg1) (V m c main_arg2) (V m c main_arg3) (V m c main_arg4) (ix2 (rw' t i) j) := kd _ _ _ _ _ _ _ _ i j _ (gv m c t i j) (st1 m c t i j) (st2 m c t i j) (st3 m c t i j)
theorem Lm (c : Dev nD) (t : Fin cfg0.N) (i : Fin 208) (j : Fin 1024) : k0_pay1 (F := Ideal) (k0_pay7 (F := Ideal) (iblk m c 0 t) (iblk m c 1 t) (iblk m c 2 t) (iblk m c 3 t) (iblk m c 4 t)) (View.ld (iblk m c 3 t) r0_8) (ix2 i j)
    = REFm (V m c main_arg0) (V m c main_arg1) (V m c main_arg3) (ix2 (rw' t i) j) := km _ _ _ _ i j _ (gv m c t i j) (st2 m c t i j)
theorem Lv (c : Dev nD) (t : Fin cfg0.N) (i : Fin 208) (j : Fin 1024) : k0_pay2 (F := Ideal) (k0_pay7 (F := Ideal) (iblk m c 0 t) (iblk m c 1 t) (iblk m c 2 t) (iblk m c 3 t) (iblk m c 4 t)) (View.ld (iblk m c 4 t) r0_8) (ix2 i j)
    = REFv (V m c main_arg0) (V m c main_arg1) (V m c main_arg4) (ix2 (rw' t i) j) := kv _ _ _ _ i j _ (gv m c t i j) (st3 m c t i j)

attribute [local irreducible] k0_pay1 k0_pay2 k0_pay3 k0_pay4 k0_pay5 k0_pay6 k0_pay7 REFg REFd REFm REFv

theorem point_5 (c : Dev nD) (t : Fin cfg0.N) (y) : out0_5 (iblk m c 0 t) (iblk m c 1 t) (iblk m c 2 t) (iblk m c 3 t) (iblk m c 4 t) y = REFg (V m c main_arg0) (V m c main_arg1) (((cfg0.win 5).blk t).view.emb y) := by
  have ht := ltN t
  unfold out0_5
  canon_tiles x h
  obtain ⟨i, j, rfl⟩ : ∃ (i : Fin 208) (j : Fin 1024), x = ix2 i j := ⟨x 0, x 1, by funext a; fin_cases a <;> rfl⟩
  refine (Lg m c t i j).trans (congrArg _ ?_)
  funext a; fin_cases a <;> refine Fin.ext ?_ <;> blk_simp [idx t] <;> simp at * <;> omega
theorem final_5 (c : Dev nD) : (dats m 0 c).arrAt 5 (cfgs 0).N = REFg (V m c main_arg0) (V m c main_arg1) := by
  refine (dats m 0 c).arrAt_eq_of_covers 5 _ (by decide +kernel) fun t hf y => ?_
  blk_simp
  show (dats m 0 c).after 5 t y = _
  rw [after0_5]
  exact point_5 m c t y

theorem point_6 (c : Dev nD) (t : Fin cfg0.N) (y) : out0_6 (iblk m c 0 t) (iblk m c 1 t) (iblk m c 2 t) (iblk m c 3 t) (iblk m c 4 t) y = REFd (V m c main_arg0) (V m c main_arg1) (V m c main_arg2) (V m c main_arg3) (V m c main_arg4) (((cfg0.win 6).blk t).view.emb y) := by
  have ht := ltN t
  unfold out0_6
  canon_tiles x h
  obtain ⟨i, j, rfl⟩ : ∃ (i : Fin 208) (j : Fin 1024), x = ix2 i j := ⟨x 0, x 1, by funext a; fin_cases a <;> rfl⟩
  refine (Ld m c t i j).trans (congrArg _ ?_)
  funext a; fin_cases a <;> refine Fin.ext ?_ <;> blk_simp [idx t] <;> simp at * <;> omega
theorem final_6 (c : Dev nD) : (dats m 0 c).arrAt 6 (cfgs 0).N = REFd (V m c main_arg0) (V m c main_arg1) (V m c main_arg2) (V m c main_arg3) (V m c main_arg4) := by
  refine (dats m 0 c).arrAt_eq_of_covers 6 _ (by decide +kernel) fun t hf y => ?_
  blk_simp
  show (dats m 0 c).after 6 t y = _
  rw [after0_6]
  exact point_6 m c t y

theorem point_7 (c : Dev nD) (t : Fin cfg0.N) (y) : out0_7 (iblk m c 0 t) (iblk m c 1 t) (iblk m c 2 t) (iblk m c 3 t) (iblk m c 4 t) y = REFm (V m c main_arg0) (V m c main_arg1) (V m c main_arg3) (((cfg0.win 7).blk t).view.emb y) := by
  have ht := ltN t
  unfold out0_7
  canon_tiles x h
  obtain ⟨i, j, rfl⟩ : ∃ (i : Fin 208) (j : Fin 1024), x = ix2 i j := ⟨x 0, x 1, by funext a; fin_cases a <;> rfl⟩
  refine (Lm m c t i j).trans (congrArg _ ?_)
  funext a; fin_cases a <;> refine Fin.ext ?_ <;> blk_simp [idx t] <;> simp at * <;> omega
theorem final_7 (c : Dev nD) : (dats m 0 c).arrAt 7 (cfgs 0).N = REFm (V m c main_arg0) (V m c main_arg1) (V m c main_arg3) := by
  refine (dats m 0 c).arrAt_eq_of_covers 7 _ (by decide +kernel) fun t hf y => ?_
  blk_simp
  show (dats m 0 c).after 7 t y = _
  rw [after0_7]
  exact point_7 m c t y

theorem point_8 (c : Dev nD) (t : Fin cfg0.N) (y) : out0_8 (iblk m c 0 t) (iblk m c 1 t) (iblk m c 2 t) (iblk m c 3 t) (iblk m c 4 t) y = REFv (V m c main_arg0) (V m c main_arg1) (V m c main_arg4) (((cfg0.win 8).blk t).view.emb y) := by
  have ht := ltN t
  unfold out0_8
  canon_tiles x h
  obtain ⟨i, j, rfl⟩ : ∃ (i : Fin 208) (j : Fin 1024), x = ix2 i j := ⟨x 0, x 1, by funext a; fin_cases a <;> rfl⟩
  refine (Lv m c t i j).trans (congrArg _ ?_)
  funext a; fin_cases a <;> refine Fin.ext ?_ <;> blk_simp [idx t] <;> simp at * <;> omega
theorem final_8 (c : Dev nD) : (dats m 0 c).arrAt 8 (cfgs 0).N = REFv (V m c main_arg0) (V m c main_arg1) (V m c main_arg4) := by
  refine (dats m 0 c).arrAt_eq_of_covers 8 _ (by decide +kernel) fun t hf y => ?_
  blk_simp
  show (dats m 0 c).after 8 t y = _
  rw [after0_8]
  exact point_8 m c t y

end Cert.UpdInIdeal

end
-- ==== Proof.UpdKv.lean ====
/- The optimiser step of w_mem_kv: the kernel's results are the reference's. -/
module

public import proofs.«01_k».proof.Proof.Gen.UpdKvIdeal.Frame
public import proofs.«01_k».proof.Proof.Gen.UpdKvRefIdeal
public import proofs.«01_k».proof.Proof.Gen.UpdKvRefIdeal.Run
public import Idealize.ShloMosaic.Lib.Claim
public import Idealize.ShloMosaic.Lib.WordCmp
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.UpdKvRefIdeal
open Cert.UpdKvRefIdeal.Gen

/-- The devices' gradients summed. -/
def GS (X0 : FVec Ideal S8x128x1024 .bf16) : FVec Ideal S128x1024 .f32 := Host.reduceAdd (extf .f32 X0 bitsLt_bf16_f32) (constant S_ .f32 0x00000000#32) reducesTo_S8x128x1024_S128x1024_d0 h_S_
/-- The new first moment. -/
def MN (G M : FVec Ideal S128x1024 .f32) : FVec Ideal S128x1024 .f32 := addf (mulf (broadcastInDim S128x1024 ![] bcast_S_S128x1024 (constant S_ .f32 0x3F666666#32)) M) (mulf (broadcastInDim S128x1024 ![] bcast_S_S128x1024 (constant S_ .f32 0x3DCCCCCD#32)) G)
/-- The new second moment. -/
def VN (G V : FVec Ideal S128x1024 .f32) : FVec Ideal S128x1024 .f32 := addf (mulf (broadcastInDim S128x1024 ![] bcast_S_S128x1024 (constant S_ .f32 0x3F7FBE77#32)) V) (mulf (broadcastInDim S128x1024 ![] bcast_S_S128x1024 (constant S_ .f32 0x3A83126F#32)) (mulf G G))
/-- The step. -/
def DL (M V W : FVec Ideal S128x1024 .f32) : FVec Ideal S128x1024 .f32 := mulf (broadcastInDim S128x1024 ![] bcast_S_S128x1024 (constant S_ .f32 0xBA83126F#32)) (addf (Host.divf (Host.divf M (broadcastInDim S128x1024 ![] bcast_S_S128x1024 (constant S_ .f32 0x3F26BD02#32))) (addf (Host.sqrt (Host.divf V (broadcastInDim S128x1024 ![] bcast_S_S128x1024 (constant S_ .f32 0x3C231ACC#32)))) (broadcastInDim S128x1024 ![] bcast_S_S128x1024 (constant S_ .f32 0x322BCC77#32)))) (mulf (broadcastInDim S128x1024 ![] bcast_S_S128x1024 (constant S_ .f32 0x3C23D70A#32)) W))

/-- The four results. -/
def REFg (X0 : FVec Ideal S8x128x1024 .bf16) : FVec Ideal S128x1024 .f32 := GS X0
def REFd (X0 : FVec Ideal S8x128x1024 .bf16) (X1 X2 X3 : FVec Ideal S128x1024 .f32) : FVec Ideal S128x1024 .f32 := DL (MN (GS X0) X2) (VN (GS X0) X3) X1
def REFm (X0 : FVec Ideal S8x128x1024 .bf16) (X2 : FVec Ideal S128x1024 .f32) : FVec Ideal S128x1024 .f32 := MN (GS X0) X2
def REFv (X0 : FVec Ideal S8x128x1024 .bf16) (X3 : FVec Ideal S128x1024 .f32) : FVec Ideal S128x1024 .f32 := VN (GS X0) X3

theorem GS_at (X0) (i : Fin 128) (j : Fin 1024) : GS X0 (ix2 i j) = ∑ n : Fin 8, X0 (ix3 n i j) := by pointwise [GS]

end Cert.UpdKvRefIdeal

namespace Cert.UpdKvIdeal
open Cert.UpdKvIdeal.Gen
open Cert.UpdKvRefIdeal (GS MN VN DL REFg REFd REFm REFv)

variable (m : (ℓ : Loc nD τ sig) → Buf (Elt Ideal) ℓ)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)
theorem ltN (t : Fin cfg0.N) : t.val < 1 := lt_of_lt_of_eq t.isLt N_0

/-- A point's row in the whole array. -/
abbrev rw' (t : Fin cfg0.N) (i : Fin 128) : Fin 128 := ⟨t.val * 128 + i.val, by have := ltN t; omega⟩

theorem ld0 (x : Vec Ideal S8x128x1024 .bf16) (z : Fin 1) (i : Fin 128) (j : Fin 1024) : View.ld x r0_0 (ix3 z i j) = x (ix3 (0 : Fin 8) i j) := by
  refine View.ld_unit_apply_of _ _ _ _ _ _ fun a => ?_
  fin_cases a <;> simp
theorem ld1 (x : Vec Ideal S8x128x1024 .bf16) (z : Fin 1) (i : Fin 128) (j : Fin 1024) : View.ld x r0_1 (ix3 z i j) = x (ix3 (1 : Fin 8) i j) := by
  refine View.ld_unit_apply_of _ _ _ _ _ _ fun a => ?_
  fin_cases a <;> simp
theorem ld2 (x : Vec Ideal S8x128x1024 .bf16) (z : Fin 1) (i : Fin 128) (j : Fin 1024) : View.ld x r0_2 (ix3 z i j) = x (ix3 (2 : Fin 8) i j) := by
  refine View.ld_unit_apply_of _ _ _ _ _ _ fun a => ?_
  fin_cases a <;> simp
theorem ld3 (x : Vec Ideal S8x128x1024 .bf16) (z : Fin 1) (i : Fin 128) (j : Fin 1024) : View.ld x r0_3 (ix3 z i j) = x (ix3 (3 : Fin 8) i j) := by
  refine View.ld_unit_apply_of _ _ _ _ _ _ fun a => ?_
  fin_cases a <;> simp
theorem ld4 (x : Vec Ideal S8x128x1024 .bf16) (z : Fin 1) (i : Fin 128) (j : Fin 1024) : View.ld x r0_4 (ix3 z i j) = x (ix3 (4 : Fin 8) i j) := by
  refine View.ld_unit_apply_of _ _ _ _ _ _ fun a => ?_
  fin_cases a <;> simp
theorem ld5 (x : Vec Ideal S8x128x1024 .bf16) (z : Fin 1) (i : Fin 128) (j : Fin 1024) : View.ld x r0_5 (ix3 z i j) = x (ix3 (5 : Fin 8) i j) := by
  refine View.ld_unit_apply_of _ _ _ _ _ _ fun a => ?_
  fin_cases a <;> simp
theorem ld6 (x : Vec Ideal S8x128x1024 .bf16) (z : Fin 1) (i : Fin 128) (j : Fin 1024) : View.ld x r0_6 (ix3 z i j) = x (ix3 (6 : Fin 8) i j) := by
  refine View.ld_unit_apply_of _ _ _ _ _ _ fun a => ?_
  fin_cases a <;> simp
theorem ld7 (x : Vec Ideal S8x128x1024 .bf16) (z : Fin 1) (i : Fin 128) (j : Fin 1024) : View.ld x r0_7 (ix3 z i j) = x (ix3 (7 : Fin 8) i j) := by
  refine View.ld_unit_apply_of _ _ _ _ _ _ fun a => ?_
  fin_cases a <;> simp
theorem ld8 (x : Vec Ideal S128x1024 .f32) (i : Fin 128) (j : Fin 1024) : View.ld x r0_8 (ix2 i j) = x (ix2 i j) := by
  refine View.ld_unit_apply_of _ _ _ _ _ _ fun a => ?_
  fin_cases a <;> simp

theorem k4 (a0 a1 a2 a3 a4 a5 a6 a7) (i : Fin 128) (j : Fin 1024) : k0_pay4 (F := Ideal) a0 a1 a2 a3 a4 a5 a6 a7 (ix2 i j) = a0 (ix3 (0 : Fin 1) i j) + a1 (ix3 (0 : Fin 1) i j) + a2 (ix3 (0 : Fin 1) i j) + a3 (ix3 (0 : Fin 1) i j) + a4 (ix3 (0 : Fin 1) i j) + a5 (ix3 (0 : Fin 1) i j) + a6 (ix3 (0 : Fin 1) i j) + a7 (ix3 (0 : Fin 1) i j) := by pointwise [k0_pay4]
theorem hl0 (c : Dev nD) (t : Fin cfg0.N) (n : Fin 8) (i : Fin 128) (j : Fin 1024) : (show FVec Ideal S8x128x1024 .bf16 from iblk m c 0 t) (ix3 n i j) = (show FVec Ideal S8x128x1024 .bf16 from V m c main_arg0) (ix3 n (rw' t i) j) := by
  blk_point [iblk, V, idx t]

theorem gv (c : Dev nD) (t : Fin cfg0.N) (i : Fin 128) (j : Fin 1024) : k0_pay5 (F := Ideal) (iblk m c 0 t) (iblk m c 1 t) (iblk m c 2 t) (iblk m c 3 t) (ix2 i j) = GS (V m c main_arg0) (ix2 (rw' t i) j) := by
  refine (k4 _ _ _ _ _ _ _ _ i j).trans (Eq.trans ?_ (Cert.UpdKvRefIdeal.GS_at _ _ j).symm)
  rw [Fin.sum_univ_eight]
  rw [ld0, ld1, ld2, ld3, ld4, ld5, ld6, ld7]
  refine congrArg₂ _ (congrArg₂ _ (congrArg₂ _ (congrArg₂ _ (congrArg₂ _ (congrArg₂ _ (congrArg₂ _ ?_ ?_) ?_) ?_) ?_) ?_) ?_) ?_ <;> exact hl0 m c t _ i j
theorem st1 (c : Dev nD) (t : Fin cfg0.N) (i : Fin 128) (j : Fin 1024) : View.ld (iblk m c 1 t) r0_8 (ix2 i j) = (show FVec Ideal S128x1024 .f32 from V m c main_arg1) (ix2 (rw' t i) j) := by
  rw [ld8]; blk_point [iblk, V, idx t]
theorem st2 (c : Dev nD) (t : Fin cfg0.N) (i : Fin 128) (j : Fin 1024) : View.ld (iblk m c 2 t) r0_8 (ix2 i j) = (show FVec Ideal S128x1024 .f32 from V m c main_arg2) (ix2 (rw' t i) j) := by
  rw [ld8]; blk_point [iblk, V, idx t]
theorem st3 (c : Dev nD) (t : Fin cfg0.N) (i : Fin 128) (j : Fin 1024) : View.ld (iblk m c 3 t) r0_8 (ix2 i j) = (show FVec Ideal S128x1024 .f32 from V m c main_arg3) (ix2 (rw' t i) j) := by
  rw [ld8]; blk_point [iblk, V, idx t]

theorem kd (g w u v : FVec Ideal S128x1024 .f32) (G W U X : FVec Ideal S128x1024 .f32) (i : Fin 128) (j : Fin 1024) (r : Fin 128) (hg : g (ix2 i j) = G (ix2 r j)) (hw : w (ix2 i j) = W (ix2 r j)) (hu : u (ix2 i j) = U (ix2 r j)) (hv : v (ix2 i j) = X (ix2 r j)) :
    k0_pay3 (F := Ideal) g w u v (ix2 i j) = DL (MN G U) (VN G X) W (ix2 r j) := by
  pointwise [k0_pay3, k0_pay1, k0_pay2, DL, MN, VN]
  rw [hg, hw, hu, hv]
theorem km (g u : FVec Ideal S128x1024 .f32) (G U : FVec Ideal S128x1024 .f32) (i : Fin 128) (j : Fin 1024) (r : Fin 128) (hg : g (ix2 i j) = G (ix2 r j)) (hu : u (ix2 i j) = U (ix2 r j)) :
    k0_pay1 (F := Ideal) g u (ix2 i j) = MN G U (ix2 r j) := by
  pointwise [k0_pay1, MN]
  rw [hg, hu]
theorem kv (g u : FVec Ideal S128x1024 .f32) (G U : FVec Ideal S128x1024 .f32) (i : Fin 128) (j : Fin 1024) (r : Fin 128) (hg : g (ix2 i j) = G (ix2 r j)) (hu : u (ix2 i j) = U (ix2 r j)) :
    k0_pay2 (F := Ideal) g u (ix2 i j) = VN G U (ix2 r j) := by
  pointwise [k0_pay2, VN]
  rw [hg, hu]

theorem Lg (c : Dev nD) (t : Fin cfg0.N) (i : Fin 128) (j : Fin 1024) : k0_pay4 (F := Ideal) (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) (ix2 i j) = REFg (V m c main_arg0) (ix2 (rw' t i) j) := gv m c t i j
theorem Ld (c : Dev nD) (t : Fin cfg0.N) (i : Fin 128) (j : Fin 1024) : k0_pay3 (F := Ideal) (k0_pay5 (F := Ideal) (iblk m c 0 t) (iblk m c 1 t) (iblk m c 2 t) (iblk m c 3 t)) (View.ld (iblk m c 1 t) r0_8) (View.ld (iblk m c 2 t) r0_8) (View.ld (iblk m c 3 t) r0_8) (ix2 i j)
    = REFd (V m c main_arg0) (V m c main_arg1) (V m c main_arg2) (V m c main_arg3) (ix2 (rw' t i) j) := kd _ _ _ _ _ _ _ _ i j _ (gv m c t i j) (st1 m c t i j) (st2 m c t i j) (st3 m c t i j)
theorem Lm (c : Dev nD) (t : Fin cfg0.N) (i : Fin 128) (j : Fin 1024) : k0_pay1 (F := Ideal) (k0_pay5 (F := Ideal) (iblk m c 0 t) (iblk m c 1 t) (iblk m c 2 t) (iblk m c 3 t)) (View.ld (iblk m c 2 t) r0_8) (ix2 i j)
    = REFm (V m c main_arg0) (V m c main_arg2) (ix2 (rw' t i) j) := km _ _ _ _ i j _ (gv m c t i j) (st2 m c t i j)
theorem Lv (c : Dev nD) (t : Fin cfg0.N) (i : Fin 128) (j : Fin 1024) : k0_pay2 (F := Ideal) (k0_pay5 (F := Ideal) (iblk m c 0 t) (iblk m c 1 t) (iblk m c 2 t) (iblk m c 3 t)) (View.ld (iblk m c 3 t) r0_8) (ix2 i j)
    = REFv (V m c main_arg0) (V m c main_arg3) (ix2 (rw' t i) j) := kv _ _ _ _ i j _ (gv m c t i j) (st3 m c t i j)

attribute [local irreducible] k0_pay1 k0_pay2 k0_pay3 k0_pay4 k0_pay5 REFg REFd REFm REFv

theorem point_4 (c : Dev nD) (t : Fin cfg0.N) (y) : out0_4 (iblk m c 0 t) (iblk m c 1 t) (iblk m c 2 t) (iblk m c 3 t) y = REFg (V m c main_arg0) (((cfg0.win 4).blk t).view.emb y) := by
  have ht := ltN t
  unfold out0_4
  canon_tiles x h
  obtain ⟨i, j, rfl⟩ : ∃ (i : Fin 128) (j : Fin 1024), x = ix2 i j := ⟨x 0, x 1, by funext a; fin_cases a <;> rfl⟩
  refine (Lg m c t i j).trans (congrArg _ ?_)
  funext a; fin_cases a <;> refine Fin.ext ?_ <;> blk_simp [idx t] <;> simp at * <;> omega
theorem final_4 (c : Dev nD) : (dats m 0 c).arrAt 4 (cfgs 0).N = REFg (V m c main_arg0) := by
  refine (dats m 0 c).arrAt_eq_of_covers 4 _ (by decide +kernel) fun t hf y => ?_
  blk_simp
  show (dats m 0 c).after 4 t y = _
  rw [after0_4]
  exact point_4 m c t y

theorem point_5 (c : Dev nD) (t : Fin cfg0.N) (y) : out0_5 (iblk m c 0 t) (iblk m c 1 t) (iblk m c 2 t) (iblk m c 3 t) y = REFd (V m c main_arg0) (V m c main_arg1) (V m c main_arg2) (V m c main_arg3) (((cfg0.win 5).blk t).view.emb y) := by
  have ht := ltN t
  unfold out0_5
  canon_tiles x h
  obtain ⟨i, j, rfl⟩ : ∃ (i : Fin 128) (j : Fin 1024), x = ix2 i j := ⟨x 0, x 1, by funext a; fin_cases a <;> rfl⟩
  refine (Ld m c t i j).trans (congrArg _ ?_)
  funext a; fin_cases a <;> refine Fin.ext ?_ <;> blk_simp [idx t] <;> simp at * <;> omega
theorem final_5 (c : Dev nD) : (dats m 0 c).arrAt 5 (cfgs 0).N = REFd (V m c main_arg0) (V m c main_arg1) (V m c main_arg2) (V m c main_arg3) := by
  refine (dats m 0 c).arrAt_eq_of_covers 5 _ (by decide +kernel) fun t hf y => ?_
  blk_simp
  show (dats m 0 c).after 5 t y = _
  rw [after0_5]
  exact point_5 m c t y

theorem point_6 (c : Dev nD) (t : Fin cfg0.N) (y) : out0_6 (iblk m c 0 t) (iblk m c 1 t) (iblk m c 2 t) (iblk m c 3 t) y = REFm (V m c main_arg0) (V m c main_arg2) (((cfg0.win 6).blk t).view.emb y) := by
  have ht := ltN t
  unfold out0_6
  canon_tiles x h
  obtain ⟨i, j, rfl⟩ : ∃ (i : Fin 128) (j : Fin 1024), x = ix2 i j := ⟨x 0, x 1, by funext a; fin_cases a <;> rfl⟩
  refine (Lm m c t i j).trans (congrArg _ ?_)
  funext a; fin_cases a <;> refine Fin.ext ?_ <;> blk_simp [idx t] <;> simp at * <;> omega
theorem final_6 (c : Dev nD) : (dats m 0 c).arrAt 6 (cfgs 0).N = REFm (V m c main_arg0) (V m c main_arg2) := by
  refine (dats m 0 c).arrAt_eq_of_covers 6 _ (by decide +kernel) fun t hf y => ?_
  blk_simp
  show (dats m 0 c).after 6 t y = _
  rw [after0_6]
  exact point_6 m c t y

theorem point_7 (c : Dev nD) (t : Fin cfg0.N) (y) : out0_7 (iblk m c 0 t) (iblk m c 1 t) (iblk m c 2 t) (iblk m c 3 t) y = REFv (V m c main_arg0) (V m c main_arg3) (((cfg0.win 7).blk t).view.emb y) := by
  have ht := ltN t
  unfold out0_7
  canon_tiles x h
  obtain ⟨i, j, rfl⟩ : ∃ (i : Fin 128) (j : Fin 1024), x = ix2 i j := ⟨x 0, x 1, by funext a; fin_cases a <;> rfl⟩
  refine (Lv m c t i j).trans (congrArg _ ?_)
  funext a; fin_cases a <;> refine Fin.ext ?_ <;> blk_simp [idx t] <;> simp at * <;> omega
theorem final_7 (c : Dev nD) : (dats m 0 c).arrAt 7 (cfgs 0).N = REFv (V m c main_arg0) (V m c main_arg3) := by
  refine (dats m 0 c).arrAt_eq_of_covers 7 _ (by decide +kernel) fun t hf y => ?_
  blk_simp
  show (dats m 0 c).after 7 t y = _
  rw [after0_7]
  exact point_7 m c t y

end Cert.UpdKvIdeal

end
-- ==== Proof.UpdBranch.lean ====
/- The optimiser step of w_branch: the kernel's results are the reference's. -/
module

public import proofs.«01_k».proof.Proof.Gen.UpdBranchIdeal.Frame
public import proofs.«01_k».proof.Proof.Gen.UpdBranchRefIdeal
public import proofs.«01_k».proof.Proof.Gen.UpdBranchRefIdeal.Run
public import Idealize.ShloMosaic.Lib.Claim
public import Idealize.ShloMosaic.Lib.WordCmp
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.UpdBranchRefIdeal
open Cert.UpdBranchRefIdeal.Gen

/-- The devices' gradients summed. -/
def GS (X0 : FVec Ideal S8x1536x128 .bf16) : FVec Ideal S1536x128 .f32 := Host.reduceAdd (extf .f32 X0 bitsLt_bf16_f32) (constant S_ .f32 0x00000000#32) reducesTo_S8x1536x128_S1536x128_d0 h_S_
/-- The new first moment. -/
def MN (G M : FVec Ideal S1536x128 .f32) : FVec Ideal S1536x128 .f32 := addf (mulf (broadcastInDim S1536x128 ![] bcast_S_S1536x128 (constant S_ .f32 0x3F666666#32)) M) (mulf (broadcastInDim S1536x128 ![] bcast_S_S1536x128 (constant S_ .f32 0x3DCCCCCD#32)) G)
/-- The new second moment. -/
def VN (G V : FVec Ideal S1536x128 .f32) : FVec Ideal S1536x128 .f32 := addf (mulf (broadcastInDim S1536x128 ![] bcast_S_S1536x128 (constant S_ .f32 0x3F7FBE77#32)) V) (mulf (broadcastInDim S1536x128 ![] bcast_S_S1536x128 (constant S_ .f32 0x3A83126F#32)) (mulf G G))
/-- The step. -/
def DL (M V W : FVec Ideal S1536x128 .f32) : FVec Ideal S1536x128 .f32 := mulf (broadcastInDim S1536x128 ![] bcast_S_S1536x128 (constant S_ .f32 0xBA83126F#32)) (addf (Host.divf (Host.divf M (broadcastInDim S1536x128 ![] bcast_S_S1536x128 (constant S_ .f32 0x3F26BD02#32))) (addf (Host.sqrt (Host.divf V (broadcastInDim S1536x128 ![] bcast_S_S1536x128 (constant S_ .f32 0x3C231ACC#32)))) (broadcastInDim S1536x128 ![] bcast_S_S1536x128 (constant S_ .f32 0x322BCC77#32)))) (mulf (broadcastInDim S1536x128 ![] bcast_S_S1536x128 (constant S_ .f32 0x3C23D70A#32)) W))

/-- The four results. -/
def REFg (X0 : FVec Ideal S8x1536x128 .bf16) : FVec Ideal S1536x128 .f32 := GS X0
def REFd (X0 : FVec Ideal S8x1536x128 .bf16) (X1 X2 X3 : FVec Ideal S1536x128 .f32) : FVec Ideal S1536x128 .f32 := DL (MN (GS X0) X2) (VN (GS X0) X3) X1
def REFm (X0 : FVec Ideal S8x1536x128 .bf16) (X2 : FVec Ideal S1536x128 .f32) : FVec Ideal S1536x128 .f32 := MN (GS X0) X2
def REFv (X0 : FVec Ideal S8x1536x128 .bf16) (X3 : FVec Ideal S1536x128 .f32) : FVec Ideal S1536x128 .f32 := VN (GS X0) X3

theorem GS_at (X0) (i : Fin 1536) (j : Fin 128) : GS X0 (ix2 i j) = ∑ n : Fin 8, X0 (ix3 n i j) := by pointwise [GS]

end Cert.UpdBranchRefIdeal

namespace Cert.UpdBranchIdeal
open Cert.UpdBranchIdeal.Gen
open Cert.UpdBranchRefIdeal (GS MN VN DL REFg REFd REFm REFv)

variable (m : (ℓ : Loc nD τ sig) → Buf (Elt Ideal) ℓ)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)
theorem ltN (t : Fin cfg0.N) : t.val < 6 := lt_of_lt_of_eq t.isLt N_0

/-- A point's row in the whole array. -/
abbrev rw' (t : Fin cfg0.N) (i : Fin 256) : Fin 1536 := ⟨t.val * 256 + i.val, by have := ltN t; omega⟩

theorem ld0 (x : Vec Ideal S8x256x128 .bf16) (z : Fin 1) (i : Fin 256) (j : Fin 128) : View.ld x r0_0 (ix3 z i j) = x (ix3 (0 : Fin 8) i j) := by
  refine View.ld_unit_apply_of _ _ _ _ _ _ fun a => ?_
  fin_cases a <;> simp
theorem ld1 (x : Vec Ideal S8x256x128 .bf16) (z : Fin 1) (i : Fin 256) (j : Fin 128) : View.ld x r0_1 (ix3 z i j) = x (ix3 (1 : Fin 8) i j) := by
  refine View.ld_unit_apply_of _ _ _ _ _ _ fun a => ?_
  fin_cases a <;> simp
theorem ld2 (x : Vec Ideal S8x256x128 .bf16) (z : Fin 1) (i : Fin 256) (j : Fin 128) : View.ld x r0_2 (ix3 z i j) = x (ix3 (2 : Fin 8) i j) := by
  refine View.ld_unit_apply_of _ _ _ _ _ _ fun a => ?_
  fin_cases a <;> simp
theorem ld3 (x : Vec Ideal S8x256x128 .bf16) (z : Fin 1) (i : Fin 256) (j : Fin 128) : View.ld x r0_3 (ix3 z i j) = x (ix3 (3 : Fin 8) i j) := by
  refine View.ld_unit_apply_of _ _ _ _ _ _ fun a => ?_
  fin_cases a <;> simp
theorem ld4 (x : Vec Ideal S8x256x128 .bf16) (z : Fin 1) (i : Fin 256) (j : Fin 128) : View.ld x r0_4 (ix3 z i j) = x (ix3 (4 : Fin 8) i j) := by
  refine View.ld_unit_apply_of _ _ _ _ _ _ fun a => ?_
  fin_cases a <;> simp
theorem ld5 (x : Vec Ideal S8x256x128 .bf16) (z : Fin 1) (i : Fin 256) (j : Fin 128) : View.ld x r0_5 (ix3 z i j) = x (ix3 (5 : Fin 8) i j) := by
  refine View.ld_unit_apply_of _ _ _ _ _ _ fun a => ?_
  fin_cases a <;> simp
theorem ld6 (x : Vec Ideal S8x256x128 .bf16) (z : Fin 1) (i : Fin 256) (j : Fin 128) : View.ld x r0_6 (ix3 z i j) = x (ix3 (6 : Fin 8) i j) := by
  refine View.ld_unit_apply_of _ _ _ _ _ _ fun a => ?_
  fin_cases a <;> simp
theorem ld7 (x : Vec Ideal S8x256x128 .bf16) (z : Fin 1) (i : Fin 256) (j : Fin 128) : View.ld x r0_7 (ix3 z i j) = x (ix3 (7 : Fin 8) i j) := by
  refine View.ld_unit_apply_of _ _ _ _ _ _ fun a => ?_
  fin_cases a <;> simp
theorem ld8 (x : Vec Ideal S256x128 .f32) (i : Fin 256) (j : Fin 128) : View.ld x r0_8 (ix2 i j) = x (ix2 i j) := by
  refine View.ld_unit_apply_of _ _ _ _ _ _ fun a => ?_
  fin_cases a <;> simp

theorem k4 (a0 a1 a2 a3 a4 a5 a6 a7) (i : Fin 256) (j : Fin 128) : k0_pay4 (F := Ideal) a0 a1 a2 a3 a4 a5 a6 a7 (ix2 i j) = a0 (ix3 (0 : Fin 1) i j) + a1 (ix3 (0 : Fin 1) i j) + a2 (ix3 (0 : Fin 1) i j) + a3 (ix3 (0 : Fin 1) i j) + a4 (ix3 (0 : Fin 1) i j) + a5 (ix3 (0 : Fin 1) i j) + a6 (ix3 (0 : Fin 1) i j) + a7 (ix3 (0 : Fin 1) i j) := by pointwise [k0_pay4]
theorem hl0 (c : Dev nD) (t : Fin cfg0.N) (n : Fin 8) (i : Fin 256) (j : Fin 128) : (show FVec Ideal S8x256x128 .bf16 from iblk m c 0 t) (ix3 n i j) = (show FVec Ideal S8x1536x128 .bf16 from V m c main_arg0) (ix3 n (rw' t i) j) := by
  blk_point [iblk, V, idx t]

theorem gv (c : Dev nD) (t : Fin cfg0.N) (i : Fin 256) (j : Fin 128) : k0_pay5 (F := Ideal) (iblk m c 0 t) (iblk m c 1 t) (iblk m c 2 t) (iblk m c 3 t) (ix2 i j) = GS (V m c main_arg0) (ix2 (rw' t i) j) := by
  refine (k4 _ _ _ _ _ _ _ _ i j).trans (Eq.trans ?_ (Cert.UpdBranchRefIdeal.GS_at _ _ j).symm)
  rw [Fin.sum_univ_eight]
  rw [ld0, ld1, ld2, ld3, ld4, ld5, ld6, ld7]
  refine congrArg₂ _ (congrArg₂ _ (congrArg₂ _ (congrArg₂ _ (congrArg₂ _ (congrArg₂ _ (congrArg₂ _ ?_ ?_) ?_) ?_) ?_) ?_) ?_) ?_ <;> exact hl0 m c t _ i j
theorem st1 (c : Dev nD) (t : Fin cfg0.N) (i : Fin 256) (j : Fin 128) : View.ld (iblk m c 1 t) r0_8 (ix2 i j) = (show FVec Ideal S1536x128 .f32 from V m c main_arg1) (ix2 (rw' t i) j) := by
  rw [ld8]; blk_point [iblk, V, idx t]
theorem st2 (c : Dev nD) (t : Fin cfg0.N) (i : Fin 256) (j : Fin 128) : View.ld (iblk m c 2 t) r0_8 (ix2 i j) = (show FVec Ideal S1536x128 .f32 from V m c main_arg2) (ix2 (rw' t i) j) := by
  rw [ld8]; blk_point [iblk, V, idx t]
theorem st3 (c : Dev nD) (t : Fin cfg0.N) (i : Fin 256) (j : Fin 128) : View.ld (iblk m c 3 t) r0_8 (ix2 i j) = (show FVec Ideal S1536x128 .f32 from V m c main_arg3) (ix2 (rw' t i) j) := by
  rw [ld8]; blk_point [iblk, V, idx t]

theorem kd (g w u v : FVec Ideal S256x128 .f32) (G W U X : FVec Ideal S1536x128 .f32) (i : Fin 256) (j : Fin 128) (r : Fin 1536) (hg : g (ix2 i j) = G (ix2 r j)) (hw : w (ix2 i j) = W (ix2 r j)) (hu : u (ix2 i j) = U (ix2 r j)) (hv : v (ix2 i j) = X (ix2 r j)) :
    k0_pay3 (F := Ideal) g w u v (ix2 i j) = DL (MN G U) (VN G X) W (ix2 r j) := by
  pointwise [k0_pay3, k0_pay1, k0_pay2, DL, MN, VN]
  rw [hg, hw, hu, hv]
theorem km (g u : FVec Ideal S256x128 .f32) (G U : FVec Ideal S1536x128 .f32) (i : Fin 256) (j : Fin 128) (r : Fin 1536) (hg : g (ix2 i j) = G (ix2 r j)) (hu : u (ix2 i j) = U (ix2 r j)) :
    k0_pay1 (F := Ideal) g u (ix2 i j) = MN G U (ix2 r j) := by
  pointwise [k0_pay1, MN]
  rw [hg, hu]
theorem kv (g u : FVec Ideal S256x128 .f32) (G U : FVec Ideal S1536x128 .f32) (i : Fin 256) (j : Fin 128) (r : Fin 1536) (hg : g (ix2 i j) = G (ix2 r j)) (hu : u (ix2 i j) = U (ix2 r j)) :
    k0_pay2 (F := Ideal) g u (ix2 i j) = VN G U (ix2 r j) := by
  pointwise [k0_pay2, VN]
  rw [hg, hu]

theorem Lg (c : Dev nD) (t : Fin cfg0.N) (i : Fin 256) (j : Fin 128) : k0_pay4 (F := Ideal) (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) (ix2 i j) = REFg (V m c main_arg0) (ix2 (rw' t i) j) := gv m c t i j
theorem Ld (c : Dev nD) (t : Fin cfg0.N) (i : Fin 256) (j : Fin 128) : k0_pay3 (F := Ideal) (k0_pay5 (F := Ideal) (iblk m c 0 t) (iblk m c 1 t) (iblk m c 2 t) (iblk m c 3 t)) (View.ld (iblk m c 1 t) r0_8) (View.ld (iblk m c 2 t) r0_8) (View.ld (iblk m c 3 t) r0_8) (ix2 i j)
    = REFd (V m c main_arg0) (V m c main_arg1) (V m c main_arg2) (V m c main_arg3) (ix2 (rw' t i) j) := kd _ _ _ _ _ _ _ _ i j _ (gv m c t i j) (st1 m c t i j) (st2 m c t i j) (st3 m c t i j)
theorem Lm (c : Dev nD) (t : Fin cfg0.N) (i : Fin 256) (j : Fin 128) : k0_pay1 (F := Ideal) (k0_pay5 (F := Ideal) (iblk m c 0 t) (iblk m c 1 t) (iblk m c 2 t) (iblk m c 3 t)) (View.ld (iblk m c 2 t) r0_8) (ix2 i j)
    = REFm (V m c main_arg0) (V m c main_arg2) (ix2 (rw' t i) j) := km _ _ _ _ i j _ (gv m c t i j) (st2 m c t i j)
theorem Lv (c : Dev nD) (t : Fin cfg0.N) (i : Fin 256) (j : Fin 128) : k0_pay2 (F := Ideal) (k0_pay5 (F := Ideal) (iblk m c 0 t) (iblk m c 1 t) (iblk m c 2 t) (iblk m c 3 t)) (View.ld (iblk m c 3 t) r0_8) (ix2 i j)
    = REFv (V m c main_arg0) (V m c main_arg3) (ix2 (rw' t i) j) := kv _ _ _ _ i j _ (gv m c t i j) (st3 m c t i j)

attribute [local irreducible] k0_pay1 k0_pay2 k0_pay3 k0_pay4 k0_pay5 REFg REFd REFm REFv

theorem point_4 (c : Dev nD) (t : Fin cfg0.N) (y) : out0_4 (iblk m c 0 t) (iblk m c 1 t) (iblk m c 2 t) (iblk m c 3 t) y = REFg (V m c main_arg0) (((cfg0.win 4).blk t).view.emb y) := by
  have ht := ltN t
  unfold out0_4
  canon_tiles x h
  obtain ⟨i, j, rfl⟩ : ∃ (i : Fin 256) (j : Fin 128), x = ix2 i j := ⟨x 0, x 1, by funext a; fin_cases a <;> rfl⟩
  refine (Lg m c t i j).trans (congrArg _ ?_)
  funext a; fin_cases a <;> refine Fin.ext ?_ <;> blk_simp [idx t] <;> simp at * <;> omega
theorem final_4 (c : Dev nD) : (dats m 0 c).arrAt 4 (cfgs 0).N = REFg (V m c main_arg0) := by
  refine (dats m 0 c).arrAt_eq_of_covers 4 _ (by decide +kernel) fun t hf y => ?_
  blk_simp
  show (dats m 0 c).after 4 t y = _
  rw [after0_4]
  exact point_4 m c t y

theorem point_5 (c : Dev nD) (t : Fin cfg0.N) (y) : out0_5 (iblk m c 0 t) (iblk m c 1 t) (iblk m c 2 t) (iblk m c 3 t) y = REFd (V m c main_arg0) (V m c main_arg1) (V m c main_arg2) (V m c main_arg3) (((cfg0.win 5).blk t).view.emb y) := by
  have ht := ltN t
  unfold out0_5
  canon_tiles x h
  obtain ⟨i, j, rfl⟩ : ∃ (i : Fin 256) (j : Fin 128), x = ix2 i j := ⟨x 0, x 1, by funext a; fin_cases a <;> rfl⟩
  refine (Ld m c t i j).trans (congrArg _ ?_)
  funext a; fin_cases a <;> refine Fin.ext ?_ <;> blk_simp [idx t] <;> simp at * <;> omega
theorem final_5 (c : Dev nD) : (dats m 0 c).arrAt 5 (cfgs 0).N = REFd (V m c main_arg0) (V m c main_arg1) (V m c main_arg2) (V m c main_arg3) := by
  refine (dats m 0 c).arrAt_eq_of_covers 5 _ (by decide +kernel) fun t hf y => ?_
  blk_simp
  show (dats m 0 c).after 5 t y = _
  rw [after0_5]
  exact point_5 m c t y

theorem point_6 (c : Dev nD) (t : Fin cfg0.N) (y) : out0_6 (iblk m c 0 t) (iblk m c 1 t) (iblk m c 2 t) (iblk m c 3 t) y = REFm (V m c main_arg0) (V m c main_arg2) (((cfg0.win 6).blk t).view.emb y) := by
  have ht := ltN t
  unfold out0_6
  canon_tiles x h
  obtain ⟨i, j, rfl⟩ : ∃ (i : Fin 256) (j : Fin 128), x = ix2 i j := ⟨x 0, x 1, by funext a; fin_cases a <;> rfl⟩
  refine (Lm m c t i j).trans (congrArg _ ?_)
  funext a; fin_cases a <;> refine Fin.ext ?_ <;> blk_simp [idx t] <;> simp at * <;> omega
theorem final_6 (c : Dev nD) : (dats m 0 c).arrAt 6 (cfgs 0).N = REFm (V m c main_arg0) (V m c main_arg2) := by
  refine (dats m 0 c).arrAt_eq_of_covers 6 _ (by decide +kernel) fun t hf y => ?_
  blk_simp
  show (dats m 0 c).after 6 t y = _
  rw [after0_6]
  exact point_6 m c t y

theorem point_7 (c : Dev nD) (t : Fin cfg0.N) (y) : out0_7 (iblk m c 0 t) (iblk m c 1 t) (iblk m c 2 t) (iblk m c 3 t) y = REFv (V m c main_arg0) (V m c main_arg3) (((cfg0.win 7).blk t).view.emb y) := by
  have ht := ltN t
  unfold out0_7
  canon_tiles x h
  obtain ⟨i, j, rfl⟩ : ∃ (i : Fin 256) (j : Fin 128), x = ix2 i j := ⟨x 0, x 1, by funext a; fin_cases a <;> rfl⟩
  refine (Lv m c t i j).trans (congrArg _ ?_)
  funext a; fin_cases a <;> refine Fin.ext ?_ <;> blk_simp [idx t] <;> simp at * <;> omega
theorem final_7 (c : Dev nD) : (dats m 0 c).arrAt 7 (cfgs 0).N = REFv (V m c main_arg0) (V m c main_arg3) := by
  refine (dats m 0 c).arrAt_eq_of_covers 7 _ (by decide +kernel) fun t hf y => ?_
  blk_simp
  show (dats m 0 c).after 7 t y = _
  rw [after0_7]
  exact point_7 m c t y

end Cert.UpdBranchIdeal

end
-- ==== Proof.UpdOut.lean ====
/- The optimiser step of w_out: the kernel's results are the reference's. -/
module

public import proofs.«01_k».proof.Proof.Gen.UpdOutIdeal.Frame
public import proofs.«01_k».proof.Proof.Gen.UpdOutRefIdeal
public import proofs.«01_k».proof.Proof.Gen.UpdOutRefIdeal.Run
public import Idealize.ShloMosaic.Lib.Claim
public import Idealize.ShloMosaic.Lib.WordCmp
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.UpdOutRefIdeal
open Cert.UpdOutRefIdeal.Gen

/-- The devices' gradients summed. -/
def GS (X0 : FVec Ideal S8x128x1024 .bf16) : FVec Ideal S128x1024 .f32 := Host.reduceAdd (extf .f32 X0 bitsLt_bf16_f32) (constant S_ .f32 0x00000000#32) reducesTo_S8x128x1024_S128x1024_d0 h_S_
/-- The new first moment. -/
def MN (G M : FVec Ideal S128x1024 .f32) : FVec Ideal S128x1024 .f32 := addf (mulf (broadcastInDim S128x1024 ![] bcast_S_S128x1024 (constant S_ .f32 0x3F666666#32)) M) (mulf (broadcastInDim S128x1024 ![] bcast_S_S128x1024 (constant S_ .f32 0x3DCCCCCD#32)) G)
/-- The new second moment. -/
def VN (G V : FVec Ideal S128x1024 .f32) : FVec Ideal S128x1024 .f32 := addf (mulf (broadcastInDim S128x1024 ![] bcast_S_S128x1024 (constant S_ .f32 0x3F7FBE77#32)) V) (mulf (broadcastInDim S128x1024 ![] bcast_S_S128x1024 (constant S_ .f32 0x3A83126F#32)) (mulf G G))
/-- The step. -/
def DL (M V W : FVec Ideal S128x1024 .f32) : FVec Ideal S128x1024 .f32 := mulf (broadcastInDim S128x1024 ![] bcast_S_S128x1024 (constant S_ .f32 0xBA83126F#32)) (addf (Host.divf (Host.divf M (broadcastInDim S128x1024 ![] bcast_S_S128x1024 (constant S_ .f32 0x3F26BD02#32))) (addf (Host.sqrt (Host.divf V (broadcastInDim S128x1024 ![] bcast_S_S128x1024 (constant S_ .f32 0x3C231ACC#32)))) (broadcastInDim S128x1024 ![] bcast_S_S128x1024 (constant S_ .f32 0x322BCC77#32)))) (mulf (broadcastInDim S128x1024 ![] bcast_S_S128x1024 (constant S_ .f32 0x3C23D70A#32)) W))

/-- The four results. -/
def REFg (X0 : FVec Ideal S8x128x1024 .bf16) : FVec Ideal S128x1024 .f32 := GS X0
def REFd (X0 : FVec Ideal S8x128x1024 .bf16) (X1 X2 X3 : FVec Ideal S128x1024 .f32) : FVec Ideal S128x1024 .f32 := DL (MN (GS X0) X2) (VN (GS X0) X3) X1
def REFm (X0 : FVec Ideal S8x128x1024 .bf16) (X2 : FVec Ideal S128x1024 .f32) : FVec Ideal S128x1024 .f32 := MN (GS X0) X2
def REFv (X0 : FVec Ideal S8x128x1024 .bf16) (X3 : FVec Ideal S128x1024 .f32) : FVec Ideal S128x1024 .f32 := VN (GS X0) X3

theorem GS_at (X0) (i : Fin 128) (j : Fin 1024) : GS X0 (ix2 i j) = ∑ n : Fin 8, X0 (ix3 n i j) := by pointwise [GS]

end Cert.UpdOutRefIdeal

namespace Cert.UpdOutIdeal
open Cert.UpdOutIdeal.Gen
open Cert.UpdOutRefIdeal (GS MN VN DL REFg REFd REFm REFv)

variable (m : (ℓ : Loc nD τ sig) → Buf (Elt Ideal) ℓ)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)
theorem ltN (t : Fin cfg0.N) : t.val < 1 := lt_of_lt_of_eq t.isLt N_0

/-- A point's row in the whole array. -/
abbrev rw' (t : Fin cfg0.N) (i : Fin 128) : Fin 128 := ⟨t.val * 128 + i.val, by have := ltN t; omega⟩

theorem ld0 (x : Vec Ideal S8x128x1024 .bf16) (z : Fin 1) (i : Fin 128) (j : Fin 1024) : View.ld x r0_0 (ix3 z i j) = x (ix3 (0 : Fin 8) i j) := by
  refine View.ld_unit_apply_of _ _ _ _ _ _ fun a => ?_
  fin_cases a <;> simp
theorem ld1 (x : Vec Ideal S8x128x1024 .bf16) (z : Fin 1) (i : Fin 128) (j : Fin 1024) : View.ld x r0_1 (ix3 z i j) = x (ix3 (1 : Fin 8) i j) := by
  refine View.ld_unit_apply_of _ _ _ _ _ _ fun a => ?_
  fin_cases a <;> simp
theorem ld2 (x : Vec Ideal S8x128x1024 .bf16) (z : Fin 1) (i : Fin 128) (j : Fin 1024) : View.ld x r0_2 (ix3 z i j) = x (ix3 (2 : Fin 8) i j) := by
  refine View.ld_unit_apply_of _ _ _ _ _ _ fun a => ?_
  fin_cases a <;> simp
theorem ld3 (x : Vec Ideal S8x128x1024 .bf16) (z : Fin 1) (i : Fin 128) (j : Fin 1024) : View.ld x r0_3 (ix3 z i j) = x (ix3 (3 : Fin 8) i j) := by
  refine View.ld_unit_apply_of _ _ _ _ _ _ fun a => ?_
  fin_cases a <;> simp
theorem ld4 (x : Vec Ideal S8x128x1024 .bf16) (z : Fin 1) (i : Fin 128) (j : Fin 1024) : View.ld x r0_4 (ix3 z i j) = x (ix3 (4 : Fin 8) i j) := by
  refine View.ld_unit_apply_of _ _ _ _ _ _ fun a => ?_
  fin_cases a <;> simp
theorem ld5 (x : Vec Ideal S8x128x1024 .bf16) (z : Fin 1) (i : Fin 128) (j : Fin 1024) : View.ld x r0_5 (ix3 z i j) = x (ix3 (5 : Fin 8) i j) := by
  refine View.ld_unit_apply_of _ _ _ _ _ _ fun a => ?_
  fin_cases a <;> simp
theorem ld6 (x : Vec Ideal S8x128x1024 .bf16) (z : Fin 1) (i : Fin 128) (j : Fin 1024) : View.ld x r0_6 (ix3 z i j) = x (ix3 (6 : Fin 8) i j) := by
  refine View.ld_unit_apply_of _ _ _ _ _ _ fun a => ?_
  fin_cases a <;> simp
theorem ld7 (x : Vec Ideal S8x128x1024 .bf16) (z : Fin 1) (i : Fin 128) (j : Fin 1024) : View.ld x r0_7 (ix3 z i j) = x (ix3 (7 : Fin 8) i j) := by
  refine View.ld_unit_apply_of _ _ _ _ _ _ fun a => ?_
  fin_cases a <;> simp
theorem ld8 (x : Vec Ideal S128x1024 .f32) (i : Fin 128) (j : Fin 1024) : View.ld x r0_8 (ix2 i j) = x (ix2 i j) := by
  refine View.ld_unit_apply_of _ _ _ _ _ _ fun a => ?_
  fin_cases a <;> simp

theorem k4 (a0 a1 a2 a3 a4 a5 a6 a7) (i : Fin 128) (j : Fin 1024) : k0_pay4 (F := Ideal) a0 a1 a2 a3 a4 a5 a6 a7 (ix2 i j) = a0 (ix3 (0 : Fin 1) i j) + a1 (ix3 (0 : Fin 1) i j) + a2 (ix3 (0 : Fin 1) i j) + a3 (ix3 (0 : Fin 1) i j) + a4 (ix3 (0 : Fin 1) i j) + a5 (ix3 (0 : Fin 1) i j) + a6 (ix3 (0 : Fin 1) i j) + a7 (ix3 (0 : Fin 1) i j) := by pointwise [k0_pay4]
theorem hl0 (c : Dev nD) (t : Fin cfg0.N) (n : Fin 8) (i : Fin 128) (j : Fin 1024) : (show FVec Ideal S8x128x1024 .bf16 from iblk m c 0 t) (ix3 n i j) = (show FVec Ideal S8x128x1024 .bf16 from V m c main_arg0) (ix3 n (rw' t i) j) := by
  blk_point [iblk, V, idx t]

theorem gv (c : Dev nD) (t : Fin cfg0.N) (i : Fin 128) (j : Fin 1024) : k0_pay5 (F := Ideal) (iblk m c 0 t) (iblk m c 1 t) (iblk m c 2 t) (iblk m c 3 t) (ix2 i j) = GS (V m c main_arg0) (ix2 (rw' t i) j) := by
  refine (k4 _ _ _ _ _ _ _ _ i j).trans (Eq.trans ?_ (Cert.UpdOutRefIdeal.GS_at _ _ j).symm)
  rw [Fin.sum_univ_eight]
  rw [ld0, ld1, ld2, ld3, ld4, ld5, ld6, ld7]
  refine congrArg₂ _ (congrArg₂ _ (congrArg₂ _ (congrArg₂ _ (congrArg₂ _ (congrArg₂ _ (congrArg₂ _ ?_ ?_) ?_) ?_) ?_) ?_) ?_) ?_ <;> exact hl0 m c t _ i j
theorem st1 (c : Dev nD) (t : Fin cfg0.N) (i : Fin 128) (j : Fin 1024) : View.ld (iblk m c 1 t) r0_8 (ix2 i j) = (show FVec Ideal S128x1024 .f32 from V m c main_arg1) (ix2 (rw' t i) j) := by
  rw [ld8]; blk_point [iblk, V, idx t]
theorem st2 (c : Dev nD) (t : Fin cfg0.N) (i : Fin 128) (j : Fin 1024) : View.ld (iblk m c 2 t) r0_8 (ix2 i j) = (show FVec Ideal S128x1024 .f32 from V m c main_arg2) (ix2 (rw' t i) j) := by
  rw [ld8]; blk_point [iblk, V, idx t]
theorem st3 (c : Dev nD) (t : Fin cfg0.N) (i : Fin 128) (j : Fin 1024) : View.ld (iblk m c 3 t) r0_8 (ix2 i j) = (show FVec Ideal S128x1024 .f32 from V m c main_arg3) (ix2 (rw' t i) j) := by
  rw [ld8]; blk_point [iblk, V, idx t]

theorem kd (g w u v : FVec Ideal S128x1024 .f32) (G W U X : FVec Ideal S128x1024 .f32) (i : Fin 128) (j : Fin 1024) (r : Fin 128) (hg : g (ix2 i j) = G (ix2 r j)) (hw : w (ix2 i j) = W (ix2 r j)) (hu : u (ix2 i j) = U (ix2 r j)) (hv : v (ix2 i j) = X (ix2 r j)) :
    k0_pay3 (F := Ideal) g w u v (ix2 i j) = DL (MN G U) (VN G X) W (ix2 r j) := by
  pointwise [k0_pay3, k0_pay1, k0_pay2, DL, MN, VN]
  rw [hg, hw, hu, hv]
theorem km (g u : FVec Ideal S128x1024 .f32) (G U : FVec Ideal S128x1024 .f32) (i : Fin 128) (j : Fin 1024) (r : Fin 128) (hg : g (ix2 i j) = G (ix2 r j)) (hu : u (ix2 i j) = U (ix2 r j)) :
    k0_pay1 (F := Ideal) g u (ix2 i j) = MN G U (ix2 r j) := by
  pointwise [k0_pay1, MN]
  rw [hg, hu]
theorem kv (g u : FVec Ideal S128x1024 .f32) (G U : FVec Ideal S128x1024 .f32) (i : Fin 128) (j : Fin 1024) (r : Fin 128) (hg : g (ix2 i j) = G (ix2 r j)) (hu : u (ix2 i j) = U (ix2 r j)) :
    k0_pay2 (F := Ideal) g u (ix2 i j) = VN G U (ix2 r j) := by
  pointwise [k0_pay2, VN]
  rw [hg, hu]

theorem Lg (c : Dev nD) (t : Fin cfg0.N) (i : Fin 128) (j : Fin 1024) : k0_pay4 (F := Ideal) (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) (ix2 i j) = REFg (V m c main_arg0) (ix2 (rw' t i) j) := gv m c t i j
theorem Ld (c : Dev nD) (t : Fin cfg0.N) (i : Fin 128) (j : Fin 1024) : k0_pay3 (F := Ideal) (k0_pay5 (F := Ideal) (iblk m c 0 t) (iblk m c 1 t) (iblk m c 2 t) (iblk m c 3 t)) (View.ld (iblk m c 1 t) r0_8) (View.ld (iblk m c 2 t) r0_8) (View.ld (iblk m c 3 t) r0_8) (ix2 i j)
    = REFd (V m c main_arg0) (V m c main_arg1) (V m c main_arg2) (V m c main_arg3) (ix2 (rw' t i) j) := kd _ _ _ _ _ _ _ _ i j _ (gv m c t i j) (st1 m c t i j) (st2 m c t i j) (st3 m c t i j)
theorem Lm (c : Dev nD) (t : Fin cfg0.N) (i : Fin 128) (j : Fin 1024) : k0_pay1 (F := Ideal) (k0_pay5 (F := Ideal) (iblk m c 0 t) (iblk m c 1 t) (iblk m c 2 t) (iblk m c 3 t)) (View.ld (iblk m c 2 t) r0_8) (ix2 i j)
    = REFm (V m c main_arg0) (V m c main_arg2) (ix2 (rw' t i) j) := km _ _ _ _ i j _ (gv m c t i j) (st2 m c t i j)
theorem Lv (c : Dev nD) (t : Fin cfg0.N) (i : Fin 128) (j : Fin 1024) : k0_pay2 (F := Ideal) (k0_pay5 (F := Ideal) (iblk m c 0 t) (iblk m c 1 t) (iblk m c 2 t) (iblk m c 3 t)) (View.ld (iblk m c 3 t) r0_8) (ix2 i j)
    = REFv (V m c main_arg0) (V m c main_arg3) (ix2 (rw' t i) j) := kv _ _ _ _ i j _ (gv m c t i j) (st3 m c t i j)

attribute [local irreducible] k0_pay1 k0_pay2 k0_pay3 k0_pay4 k0_pay5 REFg REFd REFm REFv

theorem point_4 (c : Dev nD) (t : Fin cfg0.N) (y) : out0_4 (iblk m c 0 t) (iblk m c 1 t) (iblk m c 2 t) (iblk m c 3 t) y = REFg (V m c main_arg0) (((cfg0.win 4).blk t).view.emb y) := by
  have ht := ltN t
  unfold out0_4
  canon_tiles x h
  obtain ⟨i, j, rfl⟩ : ∃ (i : Fin 128) (j : Fin 1024), x = ix2 i j := ⟨x 0, x 1, by funext a; fin_cases a <;> rfl⟩
  refine (Lg m c t i j).trans (congrArg _ ?_)
  funext a; fin_cases a <;> refine Fin.ext ?_ <;> blk_simp [idx t] <;> simp at * <;> omega
theorem final_4 (c : Dev nD) : (dats m 0 c).arrAt 4 (cfgs 0).N = REFg (V m c main_arg0) := by
  refine (dats m 0 c).arrAt_eq_of_covers 4 _ (by decide +kernel) fun t hf y => ?_
  blk_simp
  show (dats m 0 c).after 4 t y = _
  rw [after0_4]
  exact point_4 m c t y

theorem point_5 (c : Dev nD) (t : Fin cfg0.N) (y) : out0_5 (iblk m c 0 t) (iblk m c 1 t) (iblk m c 2 t) (iblk m c 3 t) y = REFd (V m c main_arg0) (V m c main_arg1) (V m c main_arg2) (V m c main_arg3) (((cfg0.win 5).blk t).view.emb y) := by
  have ht := ltN t
  unfold out0_5
  canon_tiles x h
  obtain ⟨i, j, rfl⟩ : ∃ (i : Fin 128) (j : Fin 1024), x = ix2 i j := ⟨x 0, x 1, by funext a; fin_cases a <;> rfl⟩
  refine (Ld m c t i j).trans (congrArg _ ?_)
  funext a; fin_cases a <;> refine Fin.ext ?_ <;> blk_simp [idx t] <;> simp at * <;> omega
theorem final_5 (c : Dev nD) : (dats m 0 c).arrAt 5 (cfgs 0).N = REFd (V m c main_arg0) (V m c main_arg1) (V m c main_arg2) (V m c main_arg3) := by
  refine (dats m 0 c).arrAt_eq_of_covers 5 _ (by decide +kernel) fun t hf y => ?_
  blk_simp
  show (dats m 0 c).after 5 t y = _
  rw [after0_5]
  exact point_5 m c t y

theorem point_6 (c : Dev nD) (t : Fin cfg0.N) (y) : out0_6 (iblk m c 0 t) (iblk m c 1 t) (iblk m c 2 t) (iblk m c 3 t) y = REFm (V m c main_arg0) (V m c main_arg2) (((cfg0.win 6).blk t).view.emb y) := by
  have ht := ltN t
  unfold out0_6
  canon_tiles x h
  obtain ⟨i, j, rfl⟩ : ∃ (i : Fin 128) (j : Fin 1024), x = ix2 i j := ⟨x 0, x 1, by funext a; fin_cases a <;> rfl⟩
  refine (Lm m c t i j).trans (congrArg _ ?_)
  funext a; fin_cases a <;> refine Fin.ext ?_ <;> blk_simp [idx t] <;> simp at * <;> omega
theorem final_6 (c : Dev nD) : (dats m 0 c).arrAt 6 (cfgs 0).N = REFm (V m c main_arg0) (V m c main_arg2) := by
  refine (dats m 0 c).arrAt_eq_of_covers 6 _ (by decide +kernel) fun t hf y => ?_
  blk_simp
  show (dats m 0 c).after 6 t y = _
  rw [after0_6]
  exact point_6 m c t y

theorem point_7 (c : Dev nD) (t : Fin cfg0.N) (y) : out0_7 (iblk m c 0 t) (iblk m c 1 t) (iblk m c 2 t) (iblk m c 3 t) y = REFv (V m c main_arg0) (V m c main_arg3) (((cfg0.win 7).blk t).view.emb y) := by
  have ht := ltN t
  unfold out0_7
  canon_tiles x h
  obtain ⟨i, j, rfl⟩ : ∃ (i : Fin 128) (j : Fin 1024), x = ix2 i j := ⟨x 0, x 1, by funext a; fin_cases a <;> rfl⟩
  refine (Lv m c t i j).trans (congrArg _ ?_)
  funext a; fin_cases a <;> refine Fin.ext ?_ <;> blk_simp [idx t] <;> simp at * <;> omega
theorem final_7 (c : Dev nD) : (dats m 0 c).arrAt 7 (cfgs 0).N = REFv (V m c main_arg0) (V m c main_arg3) := by
  refine (dats m 0 c).arrAt_eq_of_covers 7 _ (by decide +kernel) fun t hf y => ?_
  blk_simp
  show (dats m 0 c).after 7 t y = _
  rw [after0_7]
  exact point_7 m c t y

end Cert.UpdOutIdeal

end
-- ==== Proof.UpdUp.lean ====
/- The optimiser step of w_up: the kernel's results are the reference's. -/
module

public import proofs.«01_k».proof.Proof.Gen.UpdUpIdeal.Frame
public import proofs.«01_k».proof.Proof.Gen.UpdUpRefIdeal
public import proofs.«01_k».proof.Proof.Gen.UpdUpRefIdeal.Run
public import Idealize.ShloMosaic.Lib.Claim
public import Idealize.ShloMosaic.Lib.WordCmp
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.UpdUpRefIdeal
open Cert.UpdUpRefIdeal.Gen

/-- The devices' gradients summed. -/
def GS (X0 : FVec Ideal S8x704x1024 .bf16) : FVec Ideal S704x1024 .f32 := Host.reduceAdd (extf .f32 X0 bitsLt_bf16_f32) (constant S_ .f32 0x00000000#32) reducesTo_S8x704x1024_S704x1024_d0 h_S_
/-- The new first moment. -/
def MN (G M : FVec Ideal S704x1024 .f32) : FVec Ideal S704x1024 .f32 := addf (mulf (broadcastInDim S704x1024 ![] bcast_S_S704x1024 (constant S_ .f32 0x3F666666#32)) M) (mulf (broadcastInDim S704x1024 ![] bcast_S_S704x1024 (constant S_ .f32 0x3DCCCCCD#32)) G)
/-- The new second moment. -/
def VN (G V : FVec Ideal S704x1024 .f32) : FVec Ideal S704x1024 .f32 := addf (mulf (broadcastInDim S704x1024 ![] bcast_S_S704x1024 (constant S_ .f32 0x3F7FBE77#32)) V) (mulf (broadcastInDim S704x1024 ![] bcast_S_S704x1024 (constant S_ .f32 0x3A83126F#32)) (mulf G G))
/-- The step. -/
def DL (M V W : FVec Ideal S704x1024 .f32) : FVec Ideal S704x1024 .f32 := mulf (broadcastInDim S704x1024 ![] bcast_S_S704x1024 (constant S_ .f32 0xBA83126F#32)) (addf (Host.divf (Host.divf M (broadcastInDim S704x1024 ![] bcast_S_S704x1024 (constant S_ .f32 0x3F26BD02#32))) (addf (Host.sqrt (Host.divf V (broadcastInDim S704x1024 ![] bcast_S_S704x1024 (constant S_ .f32 0x3C231ACC#32)))) (broadcastInDim S704x1024 ![] bcast_S_S704x1024 (constant S_ .f32 0x322BCC77#32)))) (mulf (broadcastInDim S704x1024 ![] bcast_S_S704x1024 (constant S_ .f32 0x3C23D70A#32)) W))

/-- The four results. -/
def REFg (X0 : FVec Ideal S8x704x1024 .bf16) : FVec Ideal S704x1024 .f32 := GS X0
def REFd (X0 : FVec Ideal S8x704x1024 .bf16) (X1 X2 X3 : FVec Ideal S704x1024 .f32) : FVec Ideal S704x1024 .f32 := DL (MN (GS X0) X2) (VN (GS X0) X3) X1
def REFm (X0 : FVec Ideal S8x704x1024 .bf16) (X2 : FVec Ideal S704x1024 .f32) : FVec Ideal S704x1024 .f32 := MN (GS X0) X2
def REFv (X0 : FVec Ideal S8x704x1024 .bf16) (X3 : FVec Ideal S704x1024 .f32) : FVec Ideal S704x1024 .f32 := VN (GS X0) X3

theorem GS_at (X0) (i : Fin 704) (j : Fin 1024) : GS X0 (ix2 i j) = ∑ n : Fin 8, X0 (ix3 n i j) := by pointwise [GS]

end Cert.UpdUpRefIdeal

namespace Cert.UpdUpIdeal
open Cert.UpdUpIdeal.Gen
open Cert.UpdUpRefIdeal (GS MN VN DL REFg REFd REFm REFv)

variable (m : (ℓ : Loc nD τ sig) → Buf (Elt Ideal) ℓ)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)
theorem ltN (t : Fin cfg0.N) : t.val < 4 := lt_of_lt_of_eq t.isLt N_0

/-- A point's row in the whole array. -/
abbrev rw' (t : Fin cfg0.N) (i : Fin 176) : Fin 704 := ⟨t.val * 176 + i.val, by have := ltN t; omega⟩

theorem ld0 (x : Vec Ideal S8x176x1024 .bf16) (z : Fin 1) (i : Fin 176) (j : Fin 1024) : View.ld x r0_0 (ix3 z i j) = x (ix3 (0 : Fin 8) i j) := by
  refine View.ld_unit_apply_of _ _ _ _ _ _ fun a => ?_
  fin_cases a <;> simp
theorem ld1 (x : Vec Ideal S8x176x1024 .bf16) (z : Fin 1) (i : Fin 176) (j : Fin 1024) : View.ld x r0_1 (ix3 z i j) = x (ix3 (1 : Fin 8) i j) := by
  refine View.ld_unit_apply_of _ _ _ _ _ _ fun a => ?_
  fin_cases a <;> simp
theorem ld2 (x : Vec Ideal S8x176x1024 .bf16) (z : Fin 1) (i : Fin 176) (j : Fin 1024) : View.ld x r0_2 (ix3 z i j) = x (ix3 (2 : Fin 8) i j) := by
  refine View.ld_unit_apply_of _ _ _ _ _ _ fun a => ?_
  fin_cases a <;> simp
theorem ld3 (x : Vec Ideal S8x176x1024 .bf16) (z : Fin 1) (i : Fin 176) (j : Fin 1024) : View.ld x r0_3 (ix3 z i j) = x (ix3 (3 : Fin 8) i j) := by
  refine View.ld_unit_apply_of _ _ _ _ _ _ fun a => ?_
  fin_cases a <;> simp
theorem ld4 (x : Vec Ideal S8x176x1024 .bf16) (z : Fin 1) (i : Fin 176) (j : Fin 1024) : View.ld x r0_4 (ix3 z i j) = x (ix3 (4 : Fin 8) i j) := by
  refine View.ld_unit_apply_of _ _ _ _ _ _ fun a => ?_
  fin_cases a <;> simp
theorem ld5 (x : Vec Ideal S8x176x1024 .bf16) (z : Fin 1) (i : Fin 176) (j : Fin 1024) : View.ld x r0_5 (ix3 z i j) = x (ix3 (5 : Fin 8) i j) := by
  refine View.ld_unit_apply_of _ _ _ _ _ _ fun a => ?_
  fin_cases a <;> simp
theorem ld6 (x : Vec Ideal S8x176x1024 .bf16) (z : Fin 1) (i : Fin 176) (j : Fin 1024) : View.ld x r0_6 (ix3 z i j) = x (ix3 (6 : Fin 8) i j) := by
  refine View.ld_unit_apply_of _ _ _ _ _ _ fun a => ?_
  fin_cases a <;> simp
theorem ld7 (x : Vec Ideal S8x176x1024 .bf16) (z : Fin 1) (i : Fin 176) (j : Fin 1024) : View.ld x r0_7 (ix3 z i j) = x (ix3 (7 : Fin 8) i j) := by
  refine View.ld_unit_apply_of _ _ _ _ _ _ fun a => ?_
  fin_cases a <;> simp
theorem ld8 (x : Vec Ideal S176x1024 .f32) (i : Fin 176) (j : Fin 1024) : View.ld x r0_8 (ix2 i j) = x (ix2 i j) := by
  refine View.ld_unit_apply_of _ _ _ _ _ _ fun a => ?_
  fin_cases a <;> simp

theorem k4 (a0 a1 a2 a3 a4 a5 a6 a7) (i : Fin 176) (j : Fin 1024) : k0_pay4 (F := Ideal) a0 a1 a2 a3 a4 a5 a6 a7 (ix2 i j) = a0 (ix3 (0 : Fin 1) i j) + a1 (ix3 (0 : Fin 1) i j) + a2 (ix3 (0 : Fin 1) i j) + a3 (ix3 (0 : Fin 1) i j) + a4 (ix3 (0 : Fin 1) i j) + a5 (ix3 (0 : Fin 1) i j) + a6 (ix3 (0 : Fin 1) i j) + a7 (ix3 (0 : Fin 1) i j) := by pointwise [k0_pay4]
theorem hl0 (c : Dev nD) (t : Fin cfg0.N) (n : Fin 8) (i : Fin 176) (j : Fin 1024) : (show FVec Ideal S8x176x1024 .bf16 from iblk m c 0 t) (ix3 n i j) = (show FVec Ideal S8x704x1024 .bf16 from V m c main_arg0) (ix3 n (rw' t i) j) := by
  blk_point [iblk, V, idx t]

theorem gv (c : Dev nD) (t : Fin cfg0.N) (i : Fin 176) (j : Fin 1024) : k0_pay5 (F := Ideal) (iblk m c 0 t) (iblk m c 1 t) (iblk m c 2 t) (iblk m c 3 t) (ix2 i j) = GS (V m c main_arg0) (ix2 (rw' t i) j) := by
  refine (k4 _ _ _ _ _ _ _ _ i j).trans (Eq.trans ?_ (Cert.UpdUpRefIdeal.GS_at _ _ j).symm)
  rw [Fin.sum_univ_eight]
  rw [ld0, ld1, ld2, ld3, ld4, ld5, ld6, ld7]
  refine congrArg₂ _ (congrArg₂ _ (congrArg₂ _ (congrArg₂ _ (congrArg₂ _ (congrArg₂ _ (congrArg₂ _ ?_ ?_) ?_) ?_) ?_) ?_) ?_) ?_ <;> exact hl0 m c t _ i j
theorem st1 (c : Dev nD) (t : Fin cfg0.N) (i : Fin 176) (j : Fin 1024) : View.ld (iblk m c 1 t) r0_8 (ix2 i j) = (show FVec Ideal S704x1024 .f32 from V m c main_arg1) (ix2 (rw' t i) j) := by
  rw [ld8]; blk_point [iblk, V, idx t]
theorem st2 (c : Dev nD) (t : Fin cfg0.N) (i : Fin 176) (j : Fin 1024) : View.ld (iblk m c 2 t) r0_8 (ix2 i j) = (show FVec Ideal S704x1024 .f32 from V m c main_arg2) (ix2 (rw' t i) j) := by
  rw [ld8]; blk_point [iblk, V, idx t]
theorem st3 (c : Dev nD) (t : Fin cfg0.N) (i : Fin 176) (j : Fin 1024) : View.ld (iblk m c 3 t) r0_8 (ix2 i j) = (show FVec Ideal S704x1024 .f32 from V m c main_arg3) (ix2 (rw' t i) j) := by
  rw [ld8]; blk_point [iblk, V, idx t]

theorem kd (g w u v : FVec Ideal S176x1024 .f32) (G W U X : FVec Ideal S704x1024 .f32) (i : Fin 176) (j : Fin 1024) (r : Fin 704) (hg : g (ix2 i j) = G (ix2 r j)) (hw : w (ix2 i j) = W (ix2 r j)) (hu : u (ix2 i j) = U (ix2 r j)) (hv : v (ix2 i j) = X (ix2 r j)) :
    k0_pay3 (F := Ideal) g w u v (ix2 i j) = DL (MN G U) (VN G X) W (ix2 r j) := by
  pointwise [k0_pay3, k0_pay1, k0_pay2, DL, MN, VN]
  rw [hg, hw, hu, hv]
theorem km (g u : FVec Ideal S176x1024 .f32) (G U : FVec Ideal S704x1024 .f32) (i : Fin 176) (j : Fin 1024) (r : Fin 704) (hg : g (ix2 i j) = G (ix2 r j)) (hu : u (ix2 i j) = U (ix2 r j)) :
    k0_pay1 (F := Ideal) g u (ix2 i j) = MN G U (ix2 r j) := by
  pointwise [k0_pay1, MN]
  rw [hg, hu]
theorem kv (g u : FVec Ideal S176x1024 .f32) (G U : FVec Ideal S704x1024 .f32) (i : Fin 176) (j : Fin 1024) (r : Fin 704) (hg : g (ix2 i j) = G (ix2 r j)) (hu : u (ix2 i j) = U (ix2 r j)) :
    k0_pay2 (F := Ideal) g u (ix2 i j) = VN G U (ix2 r j) := by
  pointwise [k0_pay2, VN]
  rw [hg, hu]

theorem Lg (c : Dev nD) (t : Fin cfg0.N) (i : Fin 176) (j : Fin 1024) : k0_pay4 (F := Ideal) (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) (ix2 i j) = REFg (V m c main_arg0) (ix2 (rw' t i) j) := gv m c t i j
theorem Ld (c : Dev nD) (t : Fin cfg0.N) (i : Fin 176) (j : Fin 1024) : k0_pay3 (F := Ideal) (k0_pay5 (F := Ideal) (iblk m c 0 t) (iblk m c 1 t) (iblk m c 2 t) (iblk m c 3 t)) (View.ld (iblk m c 1 t) r0_8) (View.ld (iblk m c 2 t) r0_8) (View.ld (iblk m c 3 t) r0_8) (ix2 i j)
    = REFd (V m c main_arg0) (V m c main_arg1) (V m c main_arg2) (V m c main_arg3) (ix2 (rw' t i) j) := kd _ _ _ _ _ _ _ _ i j _ (gv m c t i j) (st1 m c t i j) (st2 m c t i j) (st3 m c t i j)
theorem Lm (c : Dev nD) (t : Fin cfg0.N) (i : Fin 176) (j : Fin 1024) : k0_pay1 (F := Ideal) (k0_pay5 (F := Ideal) (iblk m c 0 t) (iblk m c 1 t) (iblk m c 2 t) (iblk m c 3 t)) (View.ld (iblk m c 2 t) r0_8) (ix2 i j)
    = REFm (V m c main_arg0) (V m c main_arg2) (ix2 (rw' t i) j) := km _ _ _ _ i j _ (gv m c t i j) (st2 m c t i j)
theorem Lv (c : Dev nD) (t : Fin cfg0.N) (i : Fin 176) (j : Fin 1024) : k0_pay2 (F := Ideal) (k0_pay5 (F := Ideal) (iblk m c 0 t) (iblk m c 1 t) (iblk m c 2 t) (iblk m c 3 t)) (View.ld (iblk m c 3 t) r0_8) (ix2 i j)
    = REFv (V m c main_arg0) (V m c main_arg3) (ix2 (rw' t i) j) := kv _ _ _ _ i j _ (gv m c t i j) (st3 m c t i j)

attribute [local irreducible] k0_pay1 k0_pay2 k0_pay3 k0_pay4 k0_pay5 REFg REFd REFm REFv

theorem point_4 (c : Dev nD) (t : Fin cfg0.N) (y) : out0_4 (iblk m c 0 t) (iblk m c 1 t) (iblk m c 2 t) (iblk m c 3 t) y = REFg (V m c main_arg0) (((cfg0.win 4).blk t).view.emb y) := by
  have ht := ltN t
  unfold out0_4
  canon_tiles x h
  obtain ⟨i, j, rfl⟩ : ∃ (i : Fin 176) (j : Fin 1024), x = ix2 i j := ⟨x 0, x 1, by funext a; fin_cases a <;> rfl⟩
  refine (Lg m c t i j).trans (congrArg _ ?_)
  funext a; fin_cases a <;> refine Fin.ext ?_ <;> blk_simp [idx t] <;> simp at * <;> omega
theorem final_4 (c : Dev nD) : (dats m 0 c).arrAt 4 (cfgs 0).N = REFg (V m c main_arg0) := by
  refine (dats m 0 c).arrAt_eq_of_covers 4 _ (by decide +kernel) fun t hf y => ?_
  blk_simp
  show (dats m 0 c).after 4 t y = _
  rw [after0_4]
  exact point_4 m c t y

theorem point_5 (c : Dev nD) (t : Fin cfg0.N) (y) : out0_5 (iblk m c 0 t) (iblk m c 1 t) (iblk m c 2 t) (iblk m c 3 t) y = REFd (V m c main_arg0) (V m c main_arg1) (V m c main_arg2) (V m c main_arg3) (((cfg0.win 5).blk t).view.emb y) := by
  have ht := ltN t
  unfold out0_5
  canon_tiles x h
  obtain ⟨i, j, rfl⟩ : ∃ (i : Fin 176) (j : Fin 1024), x = ix2 i j := ⟨x 0, x 1, by funext a; fin_cases a <;> rfl⟩
  refine (Ld m c t i j).trans (congrArg _ ?_)
  funext a; fin_cases a <;> refine Fin.ext ?_ <;> blk_simp [idx t] <;> simp at * <;> omega
theorem final_5 (c : Dev nD) : (dats m 0 c).arrAt 5 (cfgs 0).N = REFd (V m c main_arg0) (V m c main_arg1) (V m c main_arg2) (V m c main_arg3) := by
  refine (dats m 0 c).arrAt_eq_of_covers 5 _ (by decide +kernel) fun t hf y => ?_
  blk_simp
  show (dats m 0 c).after 5 t y = _
  rw [after0_5]
  exact point_5 m c t y

theorem point_6 (c : Dev nD) (t : Fin cfg0.N) (y) : out0_6 (iblk m c 0 t) (iblk m c 1 t) (iblk m c 2 t) (iblk m c 3 t) y = REFm (V m c main_arg0) (V m c main_arg2) (((cfg0.win 6).blk t).view.emb y) := by
  have ht := ltN t
  unfold out0_6
  canon_tiles x h
  obtain ⟨i, j, rfl⟩ : ∃ (i : Fin 176) (j : Fin 1024), x = ix2 i j := ⟨x 0, x 1, by funext a; fin_cases a <;> rfl⟩
  refine (Lm m c t i j).trans (congrArg _ ?_)
  funext a; fin_cases a <;> refine Fin.ext ?_ <;> blk_simp [idx t] <;> simp at * <;> omega
theorem final_6 (c : Dev nD) : (dats m 0 c).arrAt 6 (cfgs 0).N = REFm (V m c main_arg0) (V m c main_arg2) := by
  refine (dats m 0 c).arrAt_eq_of_covers 6 _ (by decide +kernel) fun t hf y => ?_
  blk_simp
  show (dats m 0 c).after 6 t y = _
  rw [after0_6]
  exact point_6 m c t y

theorem point_7 (c : Dev nD) (t : Fin cfg0.N) (y) : out0_7 (iblk m c 0 t) (iblk m c 1 t) (iblk m c 2 t) (iblk m c 3 t) y = REFv (V m c main_arg0) (V m c main_arg3) (((cfg0.win 7).blk t).view.emb y) := by
  have ht := ltN t
  unfold out0_7
  canon_tiles x h
  obtain ⟨i, j, rfl⟩ : ∃ (i : Fin 176) (j : Fin 1024), x = ix2 i j := ⟨x 0, x 1, by funext a; fin_cases a <;> rfl⟩
  refine (Lv m c t i j).trans (congrArg _ ?_)
  funext a; fin_cases a <;> refine Fin.ext ?_ <;> blk_simp [idx t] <;> simp at * <;> omega
theorem final_7 (c : Dev nD) : (dats m 0 c).arrAt 7 (cfgs 0).N = REFv (V m c main_arg0) (V m c main_arg3) := by
  refine (dats m 0 c).arrAt_eq_of_covers 7 _ (by decide +kernel) fun t hf y => ?_
  blk_simp
  show (dats m 0 c).after 7 t y = _
  rw [after0_7]
  exact point_7 m c t y

end Cert.UpdUpIdeal

end
-- ==== Proof.UpdConv.lean ====
/- The optimiser step of conv_w: the kernel's results are the reference's. -/
module

public import proofs.«01_k».proof.Proof.Gen.UpdConvIdeal.Frame
public import proofs.«01_k».proof.Proof.Gen.UpdConvRefIdeal
public import proofs.«01_k».proof.Proof.Gen.UpdConvRefIdeal.Run
public import Idealize.ShloMosaic.Lib.Claim
public import Idealize.ShloMosaic.Lib.WordCmp
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.UpdConvRefIdeal
open Cert.UpdConvRefIdeal.Gen

/-- The devices' gradients summed. -/
def GS (X0 : FVec Ideal S8x3x352 .f32) : FVec Ideal S3x352 .f32 := Host.reduceAdd X0 (constant S_ .f32 0x00000000#32) reducesTo_S8x3x352_S3x352_d0 h_S_
/-- The new first moment. -/
def MN (G M : FVec Ideal S3x352 .f32) : FVec Ideal S3x352 .f32 := addf (mulf (broadcastInDim S3x352 ![] bcast_S_S3x352 (constant S_ .f32 0x3F666666#32)) M) (mulf (broadcastInDim S3x352 ![] bcast_S_S3x352 (constant S_ .f32 0x3DCCCCCD#32)) G)
/-- The new second moment. -/
def VN (G V : FVec Ideal S3x352 .f32) : FVec Ideal S3x352 .f32 := addf (mulf (broadcastInDim S3x352 ![] bcast_S_S3x352 (constant S_ .f32 0x3F7FBE77#32)) V) (mulf (broadcastInDim S3x352 ![] bcast_S_S3x352 (constant S_ .f32 0x3A83126F#32)) (mulf G G))
/-- The step. -/
def DL (M V W : FVec Ideal S3x352 .f32) : FVec Ideal S3x352 .f32 := mulf (broadcastInDim S3x352 ![] bcast_S_S3x352 (constant S_ .f32 0xBA83126F#32)) (addf (Host.divf (Host.divf M (broadcastInDim S3x352 ![] bcast_S_S3x352 (constant S_ .f32 0x3F26BD02#32))) (addf (Host.sqrt (Host.divf V (broadcastInDim S3x352 ![] bcast_S_S3x352 (constant S_ .f32 0x3C231ACC#32)))) (broadcastInDim S3x352 ![] bcast_S_S3x352 (constant S_ .f32 0x322BCC77#32)))) (mulf (broadcastInDim S3x352 ![] bcast_S_S3x352 (constant S_ .f32 0x3C23D70A#32)) W))

/-- The four results. -/
def REFg (X0 : FVec Ideal S8x3x352 .f32) : FVec Ideal S3x352 .f32 := GS X0
def REFd (X0 : FVec Ideal S8x3x352 .f32) (X1 X2 X3 : FVec Ideal S3x352 .f32) : FVec Ideal S3x352 .f32 := DL (MN (GS X0) X2) (VN (GS X0) X3) X1
def REFm (X0 : FVec Ideal S8x3x352 .f32) (X2 : FVec Ideal S3x352 .f32) : FVec Ideal S3x352 .f32 := MN (GS X0) X2
def REFv (X0 : FVec Ideal S8x3x352 .f32) (X3 : FVec Ideal S3x352 .f32) : FVec Ideal S3x352 .f32 := VN (GS X0) X3

theorem GS_at (X0) (i : Fin 3) (j : Fin 352) : GS X0 (ix2 i j) = ∑ n : Fin 8, X0 (ix3 n i j) := by pointwise [GS]

end Cert.UpdConvRefIdeal

namespace Cert.UpdConvIdeal
open Cert.UpdConvIdeal.Gen
open Cert.UpdConvRefIdeal (GS MN VN DL REFg REFd REFm REFv)

variable (m : (ℓ : Loc nD τ sig) → Buf (Elt Ideal) ℓ)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)
theorem ltN (t : Fin cfg0.N) : t.val < 1 := lt_of_lt_of_eq t.isLt N_0

/-- A point's row in the whole array. -/
abbrev rw' (t : Fin cfg0.N) (i : Fin 3) : Fin 3 := ⟨t.val * 3 + i.val, by have := ltN t; omega⟩

theorem ld0 (x : Vec Ideal S8x3x352 .f32) (z : Fin 1) (i : Fin 3) (j : Fin 352) : View.ld x r0_0 (ix3 z i j) = x (ix3 (0 : Fin 8) i j) := by
  refine View.ld_unit_apply_of _ _ _ _ _ _ fun a => ?_
  fin_cases a <;> simp
theorem ld1 (x : Vec Ideal S8x3x352 .f32) (z : Fin 1) (i : Fin 3) (j : Fin 352) : View.ld x r0_1 (ix3 z i j) = x (ix3 (1 : Fin 8) i j) := by
  refine View.ld_unit_apply_of _ _ _ _ _ _ fun a => ?_
  fin_cases a <;> simp
theorem ld2 (x : Vec Ideal S8x3x352 .f32) (z : Fin 1) (i : Fin 3) (j : Fin 352) : View.ld x r0_2 (ix3 z i j) = x (ix3 (2 : Fin 8) i j) := by
  refine View.ld_unit_apply_of _ _ _ _ _ _ fun a => ?_
  fin_cases a <;> simp
theorem ld3 (x : Vec Ideal S8x3x352 .f32) (z : Fin 1) (i : Fin 3) (j : Fin 352) : View.ld x r0_3 (ix3 z i j) = x (ix3 (3 : Fin 8) i j) := by
  refine View.ld_unit_apply_of _ _ _ _ _ _ fun a => ?_
  fin_cases a <;> simp
theorem ld4 (x : Vec Ideal S8x3x352 .f32) (z : Fin 1) (i : Fin 3) (j : Fin 352) : View.ld x r0_4 (ix3 z i j) = x (ix3 (4 : Fin 8) i j) := by
  refine View.ld_unit_apply_of _ _ _ _ _ _ fun a => ?_
  fin_cases a <;> simp
theorem ld5 (x : Vec Ideal S8x3x352 .f32) (z : Fin 1) (i : Fin 3) (j : Fin 352) : View.ld x r0_5 (ix3 z i j) = x (ix3 (5 : Fin 8) i j) := by
  refine View.ld_unit_apply_of _ _ _ _ _ _ fun a => ?_
  fin_cases a <;> simp
theorem ld6 (x : Vec Ideal S8x3x352 .f32) (z : Fin 1) (i : Fin 3) (j : Fin 352) : View.ld x r0_6 (ix3 z i j) = x (ix3 (6 : Fin 8) i j) := by
  refine View.ld_unit_apply_of _ _ _ _ _ _ fun a => ?_
  fin_cases a <;> simp
theorem ld7 (x : Vec Ideal S8x3x352 .f32) (z : Fin 1) (i : Fin 3) (j : Fin 352) : View.ld x r0_7 (ix3 z i j) = x (ix3 (7 : Fin 8) i j) := by
  refine View.ld_unit_apply_of _ _ _ _ _ _ fun a => ?_
  fin_cases a <;> simp
theorem ld8 (x : Vec Ideal S3x352 .f32) (i : Fin 3) (j : Fin 352) : View.ld x r0_8 (ix2 i j) = x (ix2 i j) := by
  refine View.ld_unit_apply_of _ _ _ _ _ _ fun a => ?_
  fin_cases a <;> simp

theorem k4 (a0 a1 a2 a3 a4 a5 a6 a7) (i : Fin 3) (j : Fin 352) : k0_pay4 (F := Ideal) a0 a1 a2 a3 a4 a5 a6 a7 (ix2 i j) = a0 (ix3 (0 : Fin 1) i j) + a1 (ix3 (0 : Fin 1) i j) + a2 (ix3 (0 : Fin 1) i j) + a3 (ix3 (0 : Fin 1) i j) + a4 (ix3 (0 : Fin 1) i j) + a5 (ix3 (0 : Fin 1) i j) + a6 (ix3 (0 : Fin 1) i j) + a7 (ix3 (0 : Fin 1) i j) := by pointwise [k0_pay4]
theorem hl0 (c : Dev nD) (t : Fin cfg0.N) (n : Fin 8) (i : Fin 3) (j : Fin 352) : (show FVec Ideal S8x3x352 .f32 from iblk m c 0 t) (ix3 n i j) = (show FVec Ideal S8x3x352 .f32 from V m c main_arg0) (ix3 n (rw' t i) j) := by
  blk_point [iblk, V, idx t]

theorem gv (c : Dev nD) (t : Fin cfg0.N) (i : Fin 3) (j : Fin 352) : k0_pay5 (F := Ideal) (iblk m c 0 t) (iblk m c 1 t) (iblk m c 2 t) (iblk m c 3 t) (ix2 i j) = GS (V m c main_arg0) (ix2 (rw' t i) j) := by
  refine (k4 _ _ _ _ _ _ _ _ i j).trans (Eq.trans ?_ (Cert.UpdConvRefIdeal.GS_at _ _ j).symm)
  rw [Fin.sum_univ_eight]
  rw [ld0, ld1, ld2, ld3, ld4, ld5, ld6, ld7]
  refine congrArg₂ _ (congrArg₂ _ (congrArg₂ _ (congrArg₂ _ (congrArg₂ _ (congrArg₂ _ (congrArg₂ _ ?_ ?_) ?_) ?_) ?_) ?_) ?_) ?_ <;> exact hl0 m c t _ i j
theorem st1 (c : Dev nD) (t : Fin cfg0.N) (i : Fin 3) (j : Fin 352) : View.ld (iblk m c 1 t) r0_8 (ix2 i j) = (show FVec Ideal S3x352 .f32 from V m c main_arg1) (ix2 (rw' t i) j) := by
  rw [ld8]; blk_point [iblk, V, idx t]
theorem st2 (c : Dev nD) (t : Fin cfg0.N) (i : Fin 3) (j : Fin 352) : View.ld (iblk m c 2 t) r0_8 (ix2 i j) = (show FVec Ideal S3x352 .f32 from V m c main_arg2) (ix2 (rw' t i) j) := by
  rw [ld8]; blk_point [iblk, V, idx t]
theorem st3 (c : Dev nD) (t : Fin cfg0.N) (i : Fin 3) (j : Fin 352) : View.ld (iblk m c 3 t) r0_8 (ix2 i j) = (show FVec Ideal S3x352 .f32 from V m c main_arg3) (ix2 (rw' t i) j) := by
  rw [ld8]; blk_point [iblk, V, idx t]

theorem kd (g w u v : FVec Ideal S3x352 .f32) (G W U X : FVec Ideal S3x352 .f32) (i : Fin 3) (j : Fin 352) (r : Fin 3) (hg : g (ix2 i j) = G (ix2 r j)) (hw : w (ix2 i j) = W (ix2 r j)) (hu : u (ix2 i j) = U (ix2 r j)) (hv : v (ix2 i j) = X (ix2 r j)) :
    k0_pay3 (F := Ideal) g w u v (ix2 i j) = DL (MN G U) (VN G X) W (ix2 r j) := by
  pointwise [k0_pay3, k0_pay1, k0_pay2, DL, MN, VN]
  rw [hg, hw, hu, hv]
theorem km (g u : FVec Ideal S3x352 .f32) (G U : FVec Ideal S3x352 .f32) (i : Fin 3) (j : Fin 352) (r : Fin 3) (hg : g (ix2 i j) = G (ix2 r j)) (hu : u (ix2 i j) = U (ix2 r j)) :
    k0_pay1 (F := Ideal) g u (ix2 i j) = MN G U (ix2 r j) := by
  pointwise [k0_pay1, MN]
  rw [hg, hu]
theorem kv (g u : FVec Ideal S3x352 .f32) (G U : FVec Ideal S3x352 .f32) (i : Fin 3) (j : Fin 352) (r : Fin 3) (hg : g (ix2 i j) = G (ix2 r j)) (hu : u (ix2 i j) = U (ix2 r j)) :
    k0_pay2 (F := Ideal) g u (ix2 i j) = VN G U (ix2 r j) := by
  pointwise [k0_pay2, VN]
  rw [hg, hu]

theorem Lg (c : Dev nD) (t : Fin cfg0.N) (i : Fin 3) (j : Fin 352) : k0_pay4 (F := Ideal) (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) (ix2 i j) = REFg (V m c main_arg0) (ix2 (rw' t i) j) := gv m c t i j
theorem Ld (c : Dev nD) (t : Fin cfg0.N) (i : Fin 3) (j : Fin 352) : k0_pay3 (F := Ideal) (k0_pay5 (F := Ideal) (iblk m c 0 t) (iblk m c 1 t) (iblk m c 2 t) (iblk m c 3 t)) (View.ld (iblk m c 1 t) r0_8) (View.ld (iblk m c 2 t) r0_8) (View.ld (iblk m c 3 t) r0_8) (ix2 i j)
    = REFd (V m c main_arg0) (V m c main_arg1) (V m c main_arg2) (V m c main_arg3) (ix2 (rw' t i) j) := kd _ _ _ _ _ _ _ _ i j _ (gv m c t i j) (st1 m c t i j) (st2 m c t i j) (st3 m c t i j)
theorem Lm (c : Dev nD) (t : Fin cfg0.N) (i : Fin 3) (j : Fin 352) : k0_pay1 (F := Ideal) (k0_pay5 (F := Ideal) (iblk m c 0 t) (iblk m c 1 t) (iblk m c 2 t) (iblk m c 3 t)) (View.ld (iblk m c 2 t) r0_8) (ix2 i j)
    = REFm (V m c main_arg0) (V m c main_arg2) (ix2 (rw' t i) j) := km _ _ _ _ i j _ (gv m c t i j) (st2 m c t i j)
theorem Lv (c : Dev nD) (t : Fin cfg0.N) (i : Fin 3) (j : Fin 352) : k0_pay2 (F := Ideal) (k0_pay5 (F := Ideal) (iblk m c 0 t) (iblk m c 1 t) (iblk m c 2 t) (iblk m c 3 t)) (View.ld (iblk m c 3 t) r0_8) (ix2 i j)
    = REFv (V m c main_arg0) (V m c main_arg3) (ix2 (rw' t i) j) := kv _ _ _ _ i j _ (gv m c t i j) (st3 m c t i j)

attribute [local irreducible] k0_pay1 k0_pay2 k0_pay3 k0_pay4 k0_pay5 REFg REFd REFm REFv

theorem point_4 (c : Dev nD) (t : Fin cfg0.N) (y) : out0_4 (iblk m c 0 t) (iblk m c 1 t) (iblk m c 2 t) (iblk m c 3 t) y = REFg (V m c main_arg0) (((cfg0.win 4).blk t).view.emb y) := by
  have ht := ltN t
  unfold out0_4
  canon_tiles x h
  obtain ⟨i, j, rfl⟩ : ∃ (i : Fin 3) (j : Fin 352), x = ix2 i j := ⟨x 0, x 1, by funext a; fin_cases a <;> rfl⟩
  refine (Lg m c t i j).trans (congrArg _ ?_)
  funext a; fin_cases a <;> refine Fin.ext ?_ <;> blk_simp [idx t] <;> simp at * <;> omega
theorem final_4 (c : Dev nD) : (dats m 0 c).arrAt 4 (cfgs 0).N = REFg (V m c main_arg0) := by
  refine (dats m 0 c).arrAt_eq_of_covers 4 _ (by decide +kernel) fun t hf y => ?_
  blk_simp
  show (dats m 0 c).after 4 t y = _
  rw [after0_4]
  exact point_4 m c t y

theorem point_5 (c : Dev nD) (t : Fin cfg0.N) (y) : out0_5 (iblk m c 0 t) (iblk m c 1 t) (iblk m c 2 t) (iblk m c 3 t) y = REFd (V m c main_arg0) (V m c main_arg1) (V m c main_arg2) (V m c main_arg3) (((cfg0.win 5).blk t).view.emb y) := by
  have ht := ltN t
  unfold out0_5
  canon_tiles x h
  obtain ⟨i, j, rfl⟩ : ∃ (i : Fin 3) (j : Fin 352), x = ix2 i j := ⟨x 0, x 1, by funext a; fin_cases a <;> rfl⟩
  refine (Ld m c t i j).trans (congrArg _ ?_)
  funext a; fin_cases a <;> refine Fin.ext ?_ <;> blk_simp [idx t] <;> simp at * <;> omega
theorem final_5 (c : Dev nD) : (dats m 0 c).arrAt 5 (cfgs 0).N = REFd (V m c main_arg0) (V m c main_arg1) (V m c main_arg2) (V m c main_arg3) := by
  refine (dats m 0 c).arrAt_eq_of_covers 5 _ (by decide +kernel) fun t hf y => ?_
  blk_simp
  show (dats m 0 c).after 5 t y = _
  rw [after0_5]
  exact point_5 m c t y

theorem point_6 (c : Dev nD) (t : Fin cfg0.N) (y) : out0_6 (iblk m c 0 t) (iblk m c 1 t) (iblk m c 2 t) (iblk m c 3 t) y = REFm (V m c main_arg0) (V m c main_arg2) (((cfg0.win 6).blk t).view.emb y) := by
  have ht := ltN t
  unfold out0_6
  canon_tiles x h
  obtain ⟨i, j, rfl⟩ : ∃ (i : Fin 3) (j : Fin 352), x = ix2 i j := ⟨x 0, x 1, by funext a; fin_cases a <;> rfl⟩
  refine (Lm m c t i j).trans (congrArg _ ?_)
  funext a; fin_cases a <;> refine Fin.ext ?_ <;> blk_simp [idx t] <;> simp at * <;> omega
theorem final_6 (c : Dev nD) : (dats m 0 c).arrAt 6 (cfgs 0).N = REFm (V m c main_arg0) (V m c main_arg2) := by
  refine (dats m 0 c).arrAt_eq_of_covers 6 _ (by decide +kernel) fun t hf y => ?_
  blk_simp
  show (dats m 0 c).after 6 t y = _
  rw [after0_6]
  exact point_6 m c t y

theorem point_7 (c : Dev nD) (t : Fin cfg0.N) (y) : out0_7 (iblk m c 0 t) (iblk m c 1 t) (iblk m c 2 t) (iblk m c 3 t) y = REFv (V m c main_arg0) (V m c main_arg3) (((cfg0.win 7).blk t).view.emb y) := by
  have ht := ltN t
  unfold out0_7
  canon_tiles x h
  obtain ⟨i, j, rfl⟩ : ∃ (i : Fin 3) (j : Fin 352), x = ix2 i j := ⟨x 0, x 1, by funext a; fin_cases a <;> rfl⟩
  refine (Lv m c t i j).trans (congrArg _ ?_)
  funext a; fin_cases a <;> refine Fin.ext ?_ <;> blk_simp [idx t] <;> simp at * <;> omega
theorem final_7 (c : Dev nD) : (dats m 0 c).arrAt 7 (cfgs 0).N = REFv (V m c main_arg0) (V m c main_arg3) := by
  refine (dats m 0 c).arrAt_eq_of_covers 7 _ (by decide +kernel) fun t hf y => ?_
  blk_simp
  show (dats m 0 c).after 7 t y = _
  rw [after0_7]
  exact point_7 m c t y

end Cert.UpdConvIdeal

end
-- ==== Proof.UpdDown.lean ====
/- The optimiser step of w_down: the kernel's results are the reference's. -/
module

public import proofs.«01_k».proof.Proof.Gen.UpdDownIdeal.Frame
public import proofs.«01_k».proof.Proof.Gen.UpdDownRefIdeal
public import proofs.«01_k».proof.Proof.Gen.UpdDownRefIdeal.Run
public import Idealize.ShloMosaic.Lib.Claim
public import Idealize.ShloMosaic.Lib.WordCmp
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.UpdDownRefIdeal
open Cert.UpdDownRefIdeal.Gen

/-- The devices' gradients summed. -/
def GS (X0 : FVec Ideal S8x352x1024 .bf16) : FVec Ideal S352x1024 .f32 := Host.reduceAdd (extf .f32 X0 bitsLt_bf16_f32) (constant S_ .f32 0x00000000#32) reducesTo_S8x352x1024_S352x1024_d0 h_S_
/-- The new first moment. -/
def MN (G M : FVec Ideal S352x1024 .f32) : FVec Ideal S352x1024 .f32 := addf (mulf (broadcastInDim S352x1024 ![] bcast_S_S352x1024 (constant S_ .f32 0x3F666666#32)) M) (mulf (broadcastInDim S352x1024 ![] bcast_S_S352x1024 (constant S_ .f32 0x3DCCCCCD#32)) G)
/-- The new second moment. -/
def VN (G V : FVec Ideal S352x1024 .f32) : FVec Ideal S352x1024 .f32 := addf (mulf (broadcastInDim S352x1024 ![] bcast_S_S352x1024 (constant S_ .f32 0x3F7FBE77#32)) V) (mulf (broadcastInDim S352x1024 ![] bcast_S_S352x1024 (constant S_ .f32 0x3A83126F#32)) (mulf G G))
/-- The step. -/
def DL (M V W : FVec Ideal S352x1024 .f32) : FVec Ideal S352x1024 .f32 := mulf (broadcastInDim S352x1024 ![] bcast_S_S352x1024 (constant S_ .f32 0xBA83126F#32)) (addf (Host.divf (Host.divf M (broadcastInDim S352x1024 ![] bcast_S_S352x1024 (constant S_ .f32 0x3F26BD02#32))) (addf (Host.sqrt (Host.divf V (broadcastInDim S352x1024 ![] bcast_S_S352x1024 (constant S_ .f32 0x3C231ACC#32)))) (broadcastInDim S352x1024 ![] bcast_S_S352x1024 (constant S_ .f32 0x322BCC77#32)))) (mulf (broadcastInDim S352x1024 ![] bcast_S_S352x1024 (constant S_ .f32 0x3C23D70A#32)) W))

/-- The four results. -/
def REFg (X0 : FVec Ideal S8x352x1024 .bf16) : FVec Ideal S352x1024 .f32 := GS X0
def REFd (X0 : FVec Ideal S8x352x1024 .bf16) (X1 X2 X3 : FVec Ideal S352x1024 .f32) : FVec Ideal S352x1024 .f32 := DL (MN (GS X0) X2) (VN (GS X0) X3) X1
def REFm (X0 : FVec Ideal S8x352x1024 .bf16) (X2 : FVec Ideal S352x1024 .f32) : FVec Ideal S352x1024 .f32 := MN (GS X0) X2
def REFv (X0 : FVec Ideal S8x352x1024 .bf16) (X3 : FVec Ideal S352x1024 .f32) : FVec Ideal S352x1024 .f32 := VN (GS X0) X3

theorem GS_at (X0) (i : Fin 352) (j : Fin 1024) : GS X0 (ix2 i j) = ∑ n : Fin 8, X0 (ix3 n i j) := by pointwise [GS]

end Cert.UpdDownRefIdeal

namespace Cert.UpdDownIdeal
open Cert.UpdDownIdeal.Gen
open Cert.UpdDownRefIdeal (GS MN VN DL REFg REFd REFm REFv)

variable (m : (ℓ : Loc nD τ sig) → Buf (Elt Ideal) ℓ)

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)
theorem ltN (t : Fin cfg0.N) : t.val < 2 := lt_of_lt_of_eq t.isLt N_0

/-- A point's row in the whole array. -/
abbrev rw' (t : Fin cfg0.N) (i : Fin 176) : Fin 352 := ⟨t.val * 176 + i.val, by have := ltN t; omega⟩

theorem ld0 (x : Vec Ideal S8x176x1024 .bf16) (z : Fin 1) (i : Fin 176) (j : Fin 1024) : View.ld x r0_0 (ix3 z i j) = x (ix3 (0 : Fin 8) i j) := by
  refine View.ld_unit_apply_of _ _ _ _ _ _ fun a => ?_
  fin_cases a <;> simp
theorem ld1 (x : Vec Ideal S8x176x1024 .bf16) (z : Fin 1) (i : Fin 176) (j : Fin 1024) : View.ld x r0_1 (ix3 z i j) = x (ix3 (1 : Fin 8) i j) := by
  refine View.ld_unit_apply_of _ _ _ _ _ _ fun a => ?_
  fin_cases a <;> simp
theorem ld2 (x : Vec Ideal S8x176x1024 .bf16) (z : Fin 1) (i : Fin 176) (j : Fin 1024) : View.ld x r0_2 (ix3 z i j) = x (ix3 (2 : Fin 8) i j) := by
  refine View.ld_unit_apply_of _ _ _ _ _ _ fun a => ?_
  fin_cases a <;> simp
theorem ld3 (x : Vec Ideal S8x176x1024 .bf16) (z : Fin 1) (i : Fin 176) (j : Fin 1024) : View.ld x r0_3 (ix3 z i j) = x (ix3 (3 : Fin 8) i j) := by
  refine View.ld_unit_apply_of _ _ _ _ _ _ fun a => ?_
  fin_cases a <;> simp
theorem ld4 (x : Vec Ideal S8x176x1024 .bf16) (z : Fin 1) (i : Fin 176) (j : Fin 1024) : View.ld x r0_4 (ix3 z i j) = x (ix3 (4 : Fin 8) i j) := by
  refine View.ld_unit_apply_of _ _ _ _ _ _ fun a => ?_
  fin_cases a <;> simp
theorem ld5 (x : Vec Ideal S8x176x1024 .bf16) (z : Fin 1) (i : Fin 176) (j : Fin 1024) : View.ld x r0_5 (ix3 z i j) = x (ix3 (5 : Fin 8) i j) := by
  refine View.ld_unit_apply_of _ _ _ _ _ _ fun a => ?_
  fin_cases a <;> simp
theorem ld6 (x : Vec Ideal S8x176x1024 .bf16) (z : Fin 1) (i : Fin 176) (j : Fin 1024) : View.ld x r0_6 (ix3 z i j) = x (ix3 (6 : Fin 8) i j) := by
  refine View.ld_unit_apply_of _ _ _ _ _ _ fun a => ?_
  fin_cases a <;> simp
theorem ld7 (x : Vec Ideal S8x176x1024 .bf16) (z : Fin 1) (i : Fin 176) (j : Fin 1024) : View.ld x r0_7 (ix3 z i j) = x (ix3 (7 : Fin 8) i j) := by
  refine View.ld_unit_apply_of _ _ _ _ _ _ fun a => ?_
  fin_cases a <;> simp
theorem ld8 (x : Vec Ideal S176x1024 .f32) (i : Fin 176) (j : Fin 1024) : View.ld x r0_8 (ix2 i j) = x (ix2 i j) := by
  refine View.ld_unit_apply_of _ _ _ _ _ _ fun a => ?_
  fin_cases a <;> simp

theorem k4 (a0 a1 a2 a3 a4 a5 a6 a7) (i : Fin 176) (j : Fin 1024) : k0_pay4 (F := Ideal) a0 a1 a2 a3 a4 a5 a6 a7 (ix2 i j) = a0 (ix3 (0 : Fin 1) i j) + a1 (ix3 (0 : Fin 1) i j) + a2 (ix3 (0 : Fin 1) i j) + a3 (ix3 (0 : Fin 1) i j) + a4 (ix3 (0 : Fin 1) i j) + a5 (ix3 (0 : Fin 1) i j) + a6 (ix3 (0 : Fin 1) i j) + a7 (ix3 (0 : Fin 1) i j) := by pointwise [k0_pay4]
theorem hl0 (c : Dev nD) (t : Fin cfg0.N) (n : Fin 8) (i : Fin 176) (j : Fin 1024) : (show FVec Ideal S8x176x1024 .bf16 from iblk m c 0 t) (ix3 n i j) = (show FVec Ideal S8x352x1024 .bf16 from V m c main_arg0) (ix3 n (rw' t i) j) := by
  blk_point [iblk, V, idx t]

theorem gv (c : Dev nD) (t : Fin cfg0.N) (i : Fin 176) (j : Fin 1024) : k0_pay5 (F := Ideal) (iblk m c 0 t) (iblk m c 1 t) (iblk m c 2 t) (iblk m c 3 t) (ix2 i j) = GS (V m c main_arg0) (ix2 (rw' t i) j) := by
  refine (k4 _ _ _ _ _ _ _ _ i j).trans (Eq.trans ?_ (Cert.UpdDownRefIdeal.GS_at _ _ j).symm)
  rw [Fin.sum_univ_eight]
  rw [ld0, ld1, ld2, ld3, ld4, ld5, ld6, ld7]
  refine congrArg₂ _ (congrArg₂ _ (congrArg₂ _ (congrArg₂ _ (congrArg₂ _ (congrArg₂ _ (congrArg₂ _ ?_ ?_) ?_) ?_) ?_) ?_) ?_) ?_ <;> exact hl0 m c t _ i j
theorem st1 (c : Dev nD) (t : Fin cfg0.N) (i : Fin 176) (j : Fin 1024) : View.ld (iblk m c 1 t) r0_8 (ix2 i j) = (show FVec Ideal S352x1024 .f32 from V m c main_arg1) (ix2 (rw' t i) j) := by
  rw [ld8]; blk_point [iblk, V, idx t]
theorem st2 (c : Dev nD) (t : Fin cfg0.N) (i : Fin 176) (j : Fin 1024) : View.ld (iblk m c 2 t) r0_8 (ix2 i j) = (show FVec Ideal S352x1024 .f32 from V m c main_arg2) (ix2 (rw' t i) j) := by
  rw [ld8]; blk_point [iblk, V, idx t]
theorem st3 (c : Dev nD) (t : Fin cfg0.N) (i : Fin 176) (j : Fin 1024) : View.ld (iblk m c 3 t) r0_8 (ix2 i j) = (show FVec Ideal S352x1024 .f32 from V m c main_arg3) (ix2 (rw' t i) j) := by
  rw [ld8]; blk_point [iblk, V, idx t]

theorem kd (g w u v : FVec Ideal S176x1024 .f32) (G W U X : FVec Ideal S352x1024 .f32) (i : Fin 176) (j : Fin 1024) (r : Fin 352) (hg : g (ix2 i j) = G (ix2 r j)) (hw : w (ix2 i j) = W (ix2 r j)) (hu : u (ix2 i j) = U (ix2 r j)) (hv : v (ix2 i j) = X (ix2 r j)) :
    k0_pay3 (F := Ideal) g w u v (ix2 i j) = DL (MN G U) (VN G X) W (ix2 r j) := by
  pointwise [k0_pay3, k0_pay1, k0_pay2, DL, MN, VN]
  rw [hg, hw, hu, hv]
theorem km (g u : FVec Ideal S176x1024 .f32) (G U : FVec Ideal S352x1024 .f32) (i : Fin 176) (j : Fin 1024) (r : Fin 352) (hg : g (ix2 i j) = G (ix2 r j)) (hu : u (ix2 i j) = U (ix2 r j)) :
    k0_pay1 (F := Ideal) g u (ix2 i j) = MN G U (ix2 r j) := by
  pointwise [k0_pay1, MN]
  rw [hg, hu]
theorem kv (g u : FVec Ideal S176x1024 .f32) (G U : FVec Ideal S352x1024 .f32) (i : Fin 176) (j : Fin 1024) (r : Fin 352) (hg : g (ix2 i j) = G (ix2 r j)) (hu : u (ix2 i j) = U (ix2 r j)) :
    k0_pay2 (F := Ideal) g u (ix2 i j) = VN G U (ix2 r j) := by
  pointwise [k0_pay2, VN]
  rw [hg, hu]

theorem Lg (c : Dev nD) (t : Fin cfg0.N) (i : Fin 176) (j : Fin 1024) : k0_pay4 (F := Ideal) (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) (ix2 i j) = REFg (V m c main_arg0) (ix2 (rw' t i) j) := gv m c t i j
theorem Ld (c : Dev nD) (t : Fin cfg0.N) (i : Fin 176) (j : Fin 1024) : k0_pay3 (F := Ideal) (k0_pay5 (F := Ideal) (iblk m c 0 t) (iblk m c 1 t) (iblk m c 2 t) (iblk m c 3 t)) (View.ld (iblk m c 1 t) r0_8) (View.ld (iblk m c 2 t) r0_8) (View.ld (iblk m c 3 t) r0_8) (ix2 i j)
    = REFd (V m c main_arg0) (V m c main_arg1) (V m c main_arg2) (V m c main_arg3) (ix2 (rw' t i) j) := kd _ _ _ _ _ _ _ _ i j _ (gv m c t i j) (st1 m c t i j) (st2 m c t i j) (st3 m c t i j)
theorem Lm (c : Dev nD) (t : Fin cfg0.N) (i : Fin 176) (j : Fin 1024) : k0_pay1 (F := Ideal) (k0_pay5 (F := Ideal) (iblk m c 0 t) (iblk m c 1 t) (iblk m c 2 t) (iblk m c 3 t)) (View.ld (iblk m c 2 t) r0_8) (ix2 i j)
    = REFm (V m c main_arg0) (V m c main_arg2) (ix2 (rw' t i) j) := km _ _ _ _ i j _ (gv m c t i j) (st2 m c t i j)
theorem Lv (c : Dev nD) (t : Fin cfg0.N) (i : Fin 176) (j : Fin 1024) : k0_pay2 (F := Ideal) (k0_pay5 (F := Ideal) (iblk m c 0 t) (iblk m c 1 t) (iblk m c 2 t) (iblk m c 3 t)) (View.ld (iblk m c 3 t) r0_8) (ix2 i j)
    = REFv (V m c main_arg0) (V m c main_arg3) (ix2 (rw' t i) j) := kv _ _ _ _ i j _ (gv m c t i j) (st3 m c t i j)

attribute [local irreducible] k0_pay1 k0_pay2 k0_pay3 k0_pay4 k0_pay5 REFg REFd REFm REFv

theorem point_4 (c : Dev nD) (t : Fin cfg0.N) (y) : out0_4 (iblk m c 0 t) (iblk m c 1 t) (iblk m c 2 t) (iblk m c 3 t) y = REFg (V m c main_arg0) (((cfg0.win 4).blk t).view.emb y) := by
  have ht := ltN t
  unfold out0_4
  canon_tiles x h
  obtain ⟨i, j, rfl⟩ : ∃ (i : Fin 176) (j : Fin 1024), x = ix2 i j := ⟨x 0, x 1, by funext a; fin_cases a <;> rfl⟩
  refine (Lg m c t i j).trans (congrArg _ ?_)
  funext a; fin_cases a <;> refine Fin.ext ?_ <;> blk_simp [idx t] <;> simp at * <;> omega
theorem final_4 (c : Dev nD) : (dats m 0 c).arrAt 4 (cfgs 0).N = REFg (V m c main_arg0) := by
  refine (dats m 0 c).arrAt_eq_of_covers 4 _ (by decide +kernel) fun t hf y => ?_
  blk_simp
  show (dats m 0 c).after 4 t y = _
  rw [after0_4]
  exact point_4 m c t y

theorem point_5 (c : Dev nD) (t : Fin cfg0.N) (y) : out0_5 (iblk m c 0 t) (iblk m c 1 t) (iblk m c 2 t) (iblk m c 3 t) y = REFd (V m c main_arg0) (V m c main_arg1) (V m c main_arg2) (V m c main_arg3) (((cfg0.win 5).blk t).view.emb y) := by
  have ht := ltN t
  unfold out0_5
  canon_tiles x h
  obtain ⟨i, j, rfl⟩ : ∃ (i : Fin 176) (j : Fin 1024), x = ix2 i j := ⟨x 0, x 1, by funext a; fin_cases a <;> rfl⟩
  refine (Ld m c t i j).trans (congrArg _ ?_)
  funext a; fin_cases a <;> refine Fin.ext ?_ <;> blk_simp [idx t] <;> simp at * <;> omega
theorem final_5 (c : Dev nD) : (dats m 0 c).arrAt 5 (cfgs 0).N = REFd (V m c main_arg0) (V m c main_arg1) (V m c main_arg2) (V m c main_arg3) := by
  refine (dats m 0 c).arrAt_eq_of_covers 5 _ (by decide +kernel) fun t hf y => ?_
  blk_simp
  show (dats m 0 c).after 5 t y = _
  rw [after0_5]
  exact point_5 m c t y

theorem point_6 (c : Dev nD) (t : Fin cfg0.N) (y) : out0_6 (iblk m c 0 t) (iblk m c 1 t) (iblk m c 2 t) (iblk m c 3 t) y = REFm (V m c main_arg0) (V m c main_arg2) (((cfg0.win 6).blk t).view.emb y) := by
  have ht := ltN t
  unfold out0_6
  canon_tiles x h
  obtain ⟨i, j, rfl⟩ : ∃ (i : Fin 176) (j : Fin 1024), x = ix2 i j := ⟨x 0, x 1, by funext a; fin_cases a <;> rfl⟩
  refine (Lm m c t i j).trans (congrArg _ ?_)
  funext a; fin_cases a <;> refine Fin.ext ?_ <;> blk_simp [idx t] <;> simp at * <;> omega
theorem final_6 (c : Dev nD) : (dats m 0 c).arrAt 6 (cfgs 0).N = REFm (V m c main_arg0) (V m c main_arg2) := by
  refine (dats m 0 c).arrAt_eq_of_covers 6 _ (by decide +kernel) fun t hf y => ?_
  blk_simp
  show (dats m 0 c).after 6 t y = _
  rw [after0_6]
  exact point_6 m c t y

theorem point_7 (c : Dev nD) (t : Fin cfg0.N) (y) : out0_7 (iblk m c 0 t) (iblk m c 1 t) (iblk m c 2 t) (iblk m c 3 t) y = REFv (V m c main_arg0) (V m c main_arg3) (((cfg0.win 7).blk t).view.emb y) := by
  have ht := ltN t
  unfold out0_7
  canon_tiles x h
  obtain ⟨i, j, rfl⟩ : ∃ (i : Fin 176) (j : Fin 1024), x = ix2 i j := ⟨x 0, x 1, by funext a; fin_cases a <;> rfl⟩
  refine (Lv m c t i j).trans (congrArg _ ?_)
  funext a; fin_cases a <;> refine Fin.ext ?_ <;> blk_simp [idx t] <;> simp at * <;> omega
theorem final_7 (c : Dev nD) : (dats m 0 c).arrAt 7 (cfgs 0).N = REFv (V m c main_arg0) (V m c main_arg3) := by
  refine (dats m 0 c).arrAt_eq_of_covers 7 _ (by decide +kernel) fun t hf y => ?_
  blk_simp
  show (dats m 0 c).after 7 t y = _
  rw [after0_7]
  exact point_7 m c t y

end Cert.UpdDownIdeal

end
-- ==== Proof.Upd.lean ====
/- The optimiser steps of the large weights: the kernels' results are the references'. -/
module

public import proofs.«01_k».proof.Defs
public import proofs.«01_k».proof.Proof.UpdIn
public import proofs.«01_k».proof.Proof.UpdKv
public import proofs.«01_k».proof.Proof.UpdBranch
public import proofs.«01_k».proof.Proof.UpdOut
public import proofs.«01_k».proof.Proof.UpdUp
public import proofs.«01_k».proof.Proof.UpdConv
public import proofs.«01_k».proof.Proof.UpdDown
public import proofs.«01_k».proof.Proof.Gen.UpdInIdeal.Value
public import proofs.«01_k».proof.Proof.Gen.UpdInRefIdeal.Run
public import proofs.«01_k».proof.Proof.Gen.UpdKvIdeal.Value
public import proofs.«01_k».proof.Proof.Gen.UpdKvRefIdeal.Run
public import proofs.«01_k».proof.Proof.Gen.UpdBranchIdeal.Value
public import proofs.«01_k».proof.Proof.Gen.UpdBranchRefIdeal.Run
public import proofs.«01_k».proof.Proof.Gen.UpdOutIdeal.Value
public import proofs.«01_k».proof.Proof.Gen.UpdOutRefIdeal.Run
public import proofs.«01_k».proof.Proof.Gen.UpdUpIdeal.Value
public import proofs.«01_k».proof.Proof.Gen.UpdUpRefIdeal.Run
public import proofs.«01_k».proof.Proof.Gen.UpdConvIdeal.Value
public import proofs.«01_k».proof.Proof.Gen.UpdConvRefIdeal.Run
public import proofs.«01_k».proof.Proof.Gen.UpdDownIdeal.Value
public import proofs.«01_k».proof.Proof.Gen.UpdDownRefIdeal.Run
public import Idealize.ShloMosaic.Lib.Claim

@[expose] public section

noncomputable section

namespace Cert.Proof

open Idealize.ShloMosaic Idealize.SL.Sem

theorem value_UpdIn : algebraic_UpdInIdeal_UpdInRefIdeal := by
  intro m g m' g' _ hagree
  refine ⟨_, _, _, _, (θ_run _ _ _).mono (fun r h c => h c) (Cert.UpdInIdeal.Value.run_blocks m g),
    (θ_run _ _ _).mono (fun r h c => ?_) (Cert.UpdInRefIdeal.Value.run m' g')⟩
  obtain ⟨e0, e1, e2, e3, e4⟩ := hagree c
  refine ⟨(h c).1.trans (Eq.trans ?_ (Cert.UpdInIdeal.final_5 m c).symm), (h c).2.1.trans (Eq.trans ?_ (Cert.UpdInIdeal.final_6 m c).symm), (h c).2.2.1.trans (Eq.trans ?_ (Cert.UpdInIdeal.final_7 m c).symm), (h c).2.2.2.1.trans (Eq.trans ?_ (Cert.UpdInIdeal.final_8 m c).symm), (h c).2.2.2.2⟩
  · show Cert.UpdInRefIdeal.REFg (m' ((c.tc : Thread _ _).loc Cert.UpdInRefIdeal.main_arg0)) (m' ((c.tc : Thread _ _).loc Cert.UpdInRefIdeal.main_arg1)) = _
    rw [e0, e1] <;> rfl
  · show Cert.UpdInRefIdeal.REFd (m' ((c.tc : Thread _ _).loc Cert.UpdInRefIdeal.main_arg0)) (m' ((c.tc : Thread _ _).loc Cert.UpdInRefIdeal.main_arg1)) (m' ((c.tc : Thread _ _).loc Cert.UpdInRefIdeal.main_arg2)) (m' ((c.tc : Thread _ _).loc Cert.UpdInRefIdeal.main_arg3)) (m' ((c.tc : Thread _ _).loc Cert.UpdInRefIdeal.main_arg4)) = _
    rw [e0, e1, e2, e3, e4] <;> rfl
  · show Cert.UpdInRefIdeal.REFm (m' ((c.tc : Thread _ _).loc Cert.UpdInRefIdeal.main_arg0)) (m' ((c.tc : Thread _ _).loc Cert.UpdInRefIdeal.main_arg1)) (m' ((c.tc : Thread _ _).loc Cert.UpdInRefIdeal.main_arg3)) = _
    rw [e0, e1, e3] <;> rfl
  · show Cert.UpdInRefIdeal.REFv (m' ((c.tc : Thread _ _).loc Cert.UpdInRefIdeal.main_arg0)) (m' ((c.tc : Thread _ _).loc Cert.UpdInRefIdeal.main_arg1)) (m' ((c.tc : Thread _ _).loc Cert.UpdInRefIdeal.main_arg4)) = _
    rw [e0, e1, e4] <;> rfl

theorem frame_UpdIn : quiescent_UpdInRefIdeal := fun m g _ =>
  (θ_run _ _ _).mono (fun r h => ⟨fun c => (h c).2.2.2.2, sem_eq_zero_of_no_sems (by decide) r.2⟩) (Cert.UpdInRefIdeal.Value.run m g)

theorem value_UpdKv : algebraic_UpdKvIdeal_UpdKvRefIdeal := by
  intro m g m' g' _ hagree
  refine ⟨_, _, _, _, (θ_run _ _ _).mono (fun r h c => h c) (Cert.UpdKvIdeal.Value.run_blocks m g),
    (θ_run _ _ _).mono (fun r h c => ?_) (Cert.UpdKvRefIdeal.Value.run m' g')⟩
  obtain ⟨e0, e1, e2, e3⟩ := hagree c
  refine ⟨(h c).1.trans (Eq.trans ?_ (Cert.UpdKvIdeal.final_4 m c).symm), (h c).2.1.trans (Eq.trans ?_ (Cert.UpdKvIdeal.final_5 m c).symm), (h c).2.2.1.trans (Eq.trans ?_ (Cert.UpdKvIdeal.final_6 m c).symm), (h c).2.2.2.1.trans (Eq.trans ?_ (Cert.UpdKvIdeal.final_7 m c).symm), (h c).2.2.2.2⟩
  · show Cert.UpdKvRefIdeal.REFg (m' ((c.tc : Thread _ _).loc Cert.UpdKvRefIdeal.main_arg0)) = _
    rw [e0] <;> rfl
  · show Cert.UpdKvRefIdeal.REFd (m' ((c.tc : Thread _ _).loc Cert.UpdKvRefIdeal.main_arg0)) (m' ((c.tc : Thread _ _).loc Cert.UpdKvRefIdeal.main_arg1)) (m' ((c.tc : Thread _ _).loc Cert.UpdKvRefIdeal.main_arg2)) (m' ((c.tc : Thread _ _).loc Cert.UpdKvRefIdeal.main_arg3)) = _
    rw [e0, e1, e2, e3] <;> rfl
  · show Cert.UpdKvRefIdeal.REFm (m' ((c.tc : Thread _ _).loc Cert.UpdKvRefIdeal.main_arg0)) (m' ((c.tc : Thread _ _).loc Cert.UpdKvRefIdeal.main_arg2)) = _
    rw [e0, e2] <;> rfl
  · show Cert.UpdKvRefIdeal.REFv (m' ((c.tc : Thread _ _).loc Cert.UpdKvRefIdeal.main_arg0)) (m' ((c.tc : Thread _ _).loc Cert.UpdKvRefIdeal.main_arg3)) = _
    rw [e0, e3] <;> rfl

theorem frame_UpdKv : quiescent_UpdKvRefIdeal := fun m g _ =>
  (θ_run _ _ _).mono (fun r h => ⟨fun c => (h c).2.2.2.2, sem_eq_zero_of_no_sems (by decide) r.2⟩) (Cert.UpdKvRefIdeal.Value.run m g)

theorem value_UpdBranch : algebraic_UpdBranchIdeal_UpdBranchRefIdeal := by
  intro m g m' g' _ hagree
  refine ⟨_, _, _, _, (θ_run _ _ _).mono (fun r h c => h c) (Cert.UpdBranchIdeal.Value.run_blocks m g),
    (θ_run _ _ _).mono (fun r h c => ?_) (Cert.UpdBranchRefIdeal.Value.run m' g')⟩
  obtain ⟨e0, e1, e2, e3⟩ := hagree c
  refine ⟨(h c).1.trans (Eq.trans ?_ (Cert.UpdBranchIdeal.final_4 m c).symm), (h c).2.1.trans (Eq.trans ?_ (Cert.UpdBranchIdeal.final_5 m c).symm), (h c).2.2.1.trans (Eq.trans ?_ (Cert.UpdBranchIdeal.final_6 m c).symm), (h c).2.2.2.1.trans (Eq.trans ?_ (Cert.UpdBranchIdeal.final_7 m c).symm), (h c).2.2.2.2⟩
  · show Cert.UpdBranchRefIdeal.REFg (m' ((c.tc : Thread _ _).loc Cert.UpdBranchRefIdeal.main_arg0)) = _
    rw [e0] <;> rfl
  · show Cert.UpdBranchRefIdeal.REFd (m' ((c.tc : Thread _ _).loc Cert.UpdBranchRefIdeal.main_arg0)) (m' ((c.tc : Thread _ _).loc Cert.UpdBranchRefIdeal.main_arg1)) (m' ((c.tc : Thread _ _).loc Cert.UpdBranchRefIdeal.main_arg2)) (m' ((c.tc : Thread _ _).loc Cert.UpdBranchRefIdeal.main_arg3)) = _
    rw [e0, e1, e2, e3] <;> rfl
  · show Cert.UpdBranchRefIdeal.REFm (m' ((c.tc : Thread _ _).loc Cert.UpdBranchRefIdeal.main_arg0)) (m' ((c.tc : Thread _ _).loc Cert.UpdBranchRefIdeal.main_arg2)) = _
    rw [e0, e2] <;> rfl
  · show Cert.UpdBranchRefIdeal.REFv (m' ((c.tc : Thread _ _).loc Cert.UpdBranchRefIdeal.main_arg0)) (m' ((c.tc : Thread _ _).loc Cert.UpdBranchRefIdeal.main_arg3)) = _
    rw [e0, e3] <;> rfl

theorem frame_UpdBranch : quiescent_UpdBranchRefIdeal := fun m g _ =>
  (θ_run _ _ _).mono (fun r h => ⟨fun c => (h c).2.2.2.2, sem_eq_zero_of_no_sems (by decide) r.2⟩) (Cert.UpdBranchRefIdeal.Value.run m g)

theorem value_UpdOut : algebraic_UpdOutIdeal_UpdOutRefIdeal := by
  intro m g m' g' _ hagree
  refine ⟨_, _, _, _, (θ_run _ _ _).mono (fun r h c => h c) (Cert.UpdOutIdeal.Value.run_blocks m g),
    (θ_run _ _ _).mono (fun r h c => ?_) (Cert.UpdOutRefIdeal.Value.run m' g')⟩
  obtain ⟨e0, e1, e2, e3⟩ := hagree c
  refine ⟨(h c).1.trans (Eq.trans ?_ (Cert.UpdOutIdeal.final_4 m c).symm), (h c).2.1.trans (Eq.trans ?_ (Cert.UpdOutIdeal.final_5 m c).symm), (h c).2.2.1.trans (Eq.trans ?_ (Cert.UpdOutIdeal.final_6 m c).symm), (h c).2.2.2.1.trans (Eq.trans ?_ (Cert.UpdOutIdeal.final_7 m c).symm), (h c).2.2.2.2⟩
  · show Cert.UpdOutRefIdeal.REFg (m' ((c.tc : Thread _ _).loc Cert.UpdOutRefIdeal.main_arg0)) = _
    rw [e0] <;> rfl
  · show Cert.UpdOutRefIdeal.REFd (m' ((c.tc : Thread _ _).loc Cert.UpdOutRefIdeal.main_arg0)) (m' ((c.tc : Thread _ _).loc Cert.UpdOutRefIdeal.main_arg1)) (m' ((c.tc : Thread _ _).loc Cert.UpdOutRefIdeal.main_arg2)) (m' ((c.tc : Thread _ _).loc Cert.UpdOutRefIdeal.main_arg3)) = _
    rw [e0, e1, e2, e3] <;> rfl
  · show Cert.UpdOutRefIdeal.REFm (m' ((c.tc : Thread _ _).loc Cert.UpdOutRefIdeal.main_arg0)) (m' ((c.tc : Thread _ _).loc Cert.UpdOutRefIdeal.main_arg2)) = _
    rw [e0, e2] <;> rfl
  · show Cert.UpdOutRefIdeal.REFv (m' ((c.tc : Thread _ _).loc Cert.UpdOutRefIdeal.main_arg0)) (m' ((c.tc : Thread _ _).loc Cert.UpdOutRefIdeal.main_arg3)) = _
    rw [e0, e3] <;> rfl

theorem frame_UpdOut : quiescent_UpdOutRefIdeal := fun m g _ =>
  (θ_run _ _ _).mono (fun r h => ⟨fun c => (h c).2.2.2.2, sem_eq_zero_of_no_sems (by decide) r.2⟩) (Cert.UpdOutRefIdeal.Value.run m g)

theorem value_UpdUp : algebraic_UpdUpIdeal_UpdUpRefIdeal := by
  intro m g m' g' _ hagree
  refine ⟨_, _, _, _, (θ_run _ _ _).mono (fun r h c => h c) (Cert.UpdUpIdeal.Value.run_blocks m g),
    (θ_run _ _ _).mono (fun r h c => ?_) (Cert.UpdUpRefIdeal.Value.run m' g')⟩
  obtain ⟨e0, e1, e2, e3⟩ := hagree c
  refine ⟨(h c).1.trans (Eq.trans ?_ (Cert.UpdUpIdeal.final_4 m c).symm), (h c).2.1.trans (Eq.trans ?_ (Cert.UpdUpIdeal.final_5 m c).symm), (h c).2.2.1.trans (Eq.trans ?_ (Cert.UpdUpIdeal.final_6 m c).symm), (h c).2.2.2.1.trans (Eq.trans ?_ (Cert.UpdUpIdeal.final_7 m c).symm), (h c).2.2.2.2⟩
  · show Cert.UpdUpRefIdeal.REFg (m' ((c.tc : Thread _ _).loc Cert.UpdUpRefIdeal.main_arg0)) = _
    rw [e0] <;> rfl
  · show Cert.UpdUpRefIdeal.REFd (m' ((c.tc : Thread _ _).loc Cert.UpdUpRefIdeal.main_arg0)) (m' ((c.tc : Thread _ _).loc Cert.UpdUpRefIdeal.main_arg1)) (m' ((c.tc : Thread _ _).loc Cert.UpdUpRefIdeal.main_arg2)) (m' ((c.tc : Thread _ _).loc Cert.UpdUpRefIdeal.main_arg3)) = _
    rw [e0, e1, e2, e3] <;> rfl
  · show Cert.UpdUpRefIdeal.REFm (m' ((c.tc : Thread _ _).loc Cert.UpdUpRefIdeal.main_arg0)) (m' ((c.tc : Thread _ _).loc Cert.UpdUpRefIdeal.main_arg2)) = _
    rw [e0, e2] <;> rfl
  · show Cert.UpdUpRefIdeal.REFv (m' ((c.tc : Thread _ _).loc Cert.UpdUpRefIdeal.main_arg0)) (m' ((c.tc : Thread _ _).loc Cert.UpdUpRefIdeal.main_arg3)) = _
    rw [e0, e3] <;> rfl

theorem frame_UpdUp : quiescent_UpdUpRefIdeal := fun m g _ =>
  (θ_run _ _ _).mono (fun r h => ⟨fun c => (h c).2.2.2.2, sem_eq_zero_of_no_sems (by decide) r.2⟩) (Cert.UpdUpRefIdeal.Value.run m g)

theorem value_UpdConv : algebraic_UpdConvIdeal_UpdConvRefIdeal := by
  intro m g m' g' _ hagree
  refine ⟨_, _, _, _, (θ_run _ _ _).mono (fun r h c => h c) (Cert.UpdConvIdeal.Value.run_blocks m g),
    (θ_run _ _ _).mono (fun r h c => ?_) (Cert.UpdConvRefIdeal.Value.run m' g')⟩
  obtain ⟨e0, e1, e2, e3⟩ := hagree c
  refine ⟨(h c).1.trans (Eq.trans ?_ (Cert.UpdConvIdeal.final_4 m c).symm), (h c).2.1.trans (Eq.trans ?_ (Cert.UpdConvIdeal.final_5 m c).symm), (h c).2.2.1.trans (Eq.trans ?_ (Cert.UpdConvIdeal.final_6 m c).symm), (h c).2.2.2.1.trans (Eq.trans ?_ (Cert.UpdConvIdeal.final_7 m c).symm), (h c).2.2.2.2⟩
  · show Cert.UpdConvRefIdeal.REFg (m' ((c.tc : Thread _ _).loc Cert.UpdConvRefIdeal.main_arg0)) = _
    rw [e0] <;> rfl
  · show Cert.UpdConvRefIdeal.REFd (m' ((c.tc : Thread _ _).loc Cert.UpdConvRefIdeal.main_arg0)) (m' ((c.tc : Thread _ _).loc Cert.UpdConvRefIdeal.main_arg1)) (m' ((c.tc : Thread _ _).loc Cert.UpdConvRefIdeal.main_arg2)) (m' ((c.tc : Thread _ _).loc Cert.UpdConvRefIdeal.main_arg3)) = _
    rw [e0, e1, e2, e3] <;> rfl
  · show Cert.UpdConvRefIdeal.REFm (m' ((c.tc : Thread _ _).loc Cert.UpdConvRefIdeal.main_arg0)) (m' ((c.tc : Thread _ _).loc Cert.UpdConvRefIdeal.main_arg2)) = _
    rw [e0, e2] <;> rfl
  · show Cert.UpdConvRefIdeal.REFv (m' ((c.tc : Thread _ _).loc Cert.UpdConvRefIdeal.main_arg0)) (m' ((c.tc : Thread _ _).loc Cert.UpdConvRefIdeal.main_arg3)) = _
    rw [e0, e3] <;> rfl

theorem frame_UpdConv : quiescent_UpdConvRefIdeal := fun m g _ =>
  (θ_run _ _ _).mono (fun r h => ⟨fun c => (h c).2.2.2.2, sem_eq_zero_of_no_sems (by decide) r.2⟩) (Cert.UpdConvRefIdeal.Value.run m g)

theorem value_UpdDown : algebraic_UpdDownIdeal_UpdDownRefIdeal := by
  intro m g m' g' _ hagree
  refine ⟨_, _, _, _, (θ_run _ _ _).mono (fun r h c => h c) (Cert.UpdDownIdeal.Value.run_blocks m g),
    (θ_run _ _ _).mono (fun r h c => ?_) (Cert.UpdDownRefIdeal.Value.run m' g')⟩
  obtain ⟨e0, e1, e2, e3⟩ := hagree c
  refine ⟨(h c).1.trans (Eq.trans ?_ (Cert.UpdDownIdeal.final_4 m c).symm), (h c).2.1.trans (Eq.trans ?_ (Cert.UpdDownIdeal.final_5 m c).symm), (h c).2.2.1.trans (Eq.trans ?_ (Cert.UpdDownIdeal.final_6 m c).symm), (h c).2.2.2.1.trans (Eq.trans ?_ (Cert.UpdDownIdeal.final_7 m c).symm), (h c).2.2.2.2⟩
  · show Cert.UpdDownRefIdeal.REFg (m' ((c.tc : Thread _ _).loc Cert.UpdDownRefIdeal.main_arg0)) = _
    rw [e0] <;> rfl
  · show Cert.UpdDownRefIdeal.REFd (m' ((c.tc : Thread _ _).loc Cert.UpdDownRefIdeal.main_arg0)) (m' ((c.tc : Thread _ _).loc Cert.UpdDownRefIdeal.main_arg1)) (m' ((c.tc : Thread _ _).loc Cert.UpdDownRefIdeal.main_arg2)) (m' ((c.tc : Thread _ _).loc Cert.UpdDownRefIdeal.main_arg3)) = _
    rw [e0, e1, e2, e3] <;> rfl
  · show Cert.UpdDownRefIdeal.REFm (m' ((c.tc : Thread _ _).loc Cert.UpdDownRefIdeal.main_arg0)) (m' ((c.tc : Thread _ _).loc Cert.UpdDownRefIdeal.main_arg2)) = _
    rw [e0, e2] <;> rfl
  · show Cert.UpdDownRefIdeal.REFv (m' ((c.tc : Thread _ _).loc Cert.UpdDownRefIdeal.main_arg0)) (m' ((c.tc : Thread _ _).loc Cert.UpdDownRefIdeal.main_arg3)) = _
    rw [e0, e3] <;> rfl

theorem frame_UpdDown : quiescent_UpdDownRefIdeal := fun m g _ =>
  (θ_run _ _ _).mono (fun r h => ⟨fun c => (h c).2.2.2.2, sem_eq_zero_of_no_sems (by decide) r.2⟩) (Cert.UpdDownRefIdeal.Value.run m g)

end Cert.Proof

end
-- ==== Proof.LossOut.lean ====
/- The down-projection, the final norm and the loss: the loss and its gradients at the last residual sum and at the gain
   are the reference's. -/
module

public import proofs.«01_k».proof.Proof.Gen.FinalLossIdeal.Frame
public import proofs.«01_k».proof.Proof.Gen.FinalLossIdeal.Value
public import proofs.«01_k».proof.Proof.Gen.FinalLossRefIdeal
public import proofs.«01_k».proof.Proof.Gen.FinalLossRefIdeal.Run
public import proofs.«01_k».proof.Proof.RmsMath
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

open Cert.Rms (kN kE kH kdx rdx ru rs ms)

namespace Cert.FinalLossRefIdeal
open Cert.FinalLossRefIdeal.Gen

/-- One half, two, and the factor of the loss's derivative. -/
abbrev kF : EReal := Ideal.ofBits .f32 0x3F000000#32
abbrev k1 : EReal := Ideal.ofBits .f32 0x3F800000#32
abbrev k2 : EReal := Ideal.ofBits .f32 0x40000000#32
abbrev kI : EReal := Ideal.ofBits .f32 0x3A800000#32

theorem kF_eq : kF = ((1 / 2 : ℝ) : EReal) := by
  simp only [kF, Ideal.ofBits, Ideal.ieee]
  rw [if_neg (by decide), if_neg (by decide)]
  refine congrArg _ ?_
  simp; norm_num
theorem k1_eq : k1 = ((1 : ℝ) : EReal) := by
  simp only [k1, Ideal.ofBits, Ideal.ieee]
  rw [if_neg (by decide), if_neg (by decide)]
  refine congrArg _ ?_
  simp; norm_num
theorem k2_eq : k2 = ((2 : ℝ) : EReal) := by
  simp only [k2, Ideal.ofBits, Ideal.ieee]
  rw [if_neg (by decide), if_neg (by decide)]
  refine congrArg _ ?_
  simp; norm_num
theorem kI_eq : kI = ((1 / 1024 : ℝ) : EReal) := by
  simp only [kI, Ideal.ofBits, Ideal.ieee]
  rw [if_neg (by decide), if_neg (by decide)]
  refine congrArg _ ?_
  simp; norm_num
/-- The reference's factor, spelled as half, mean and square, is the kernel's. -/
theorem scale (z : EReal) : Ideal.div (kF * k1) kN * (k2 * z) = z * kI := by
  rw [kF_eq, k1_eq, k2_eq, kI_eq, Cert.Rms.kN_eq, ← EReal.coe_mul, Ideal.div_coe (by norm_num), ← mul_assoc, ← EReal.coe_mul, ← EReal.coe_mul, mul_comm]
  congr 2
  norm_num

/-- The rows, their mean squares, the difference from the target, its derivative, and the cotangent of half the mean square. -/
def XX (X0 : FVec Ideal S4096x2816 .bf16) (X1 : FVec Ideal S2816x1024 .bf16) (X2 : FVec Ideal S4096x1024 .f32) : FVec Ideal S4096x1024 .f32 := addf X2 (Host.dotGeneral dot_S4096x2816_S2816x1024_S4096x1024_1_0_0_1_n_n none (extf .f32 X0 bitsLt_bf16_f32) (extf .f32 X1 bitsLt_bf16_f32))
def MSQ (X : FVec Ideal S4096x1024 .f32) : FVec Ideal S4096x1 .f32 := addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
def EE (X : FVec Ideal S4096x1024 .f32) (X3 : FVec Ideal S1x1024 .f32) (X4 : FVec Ideal S4096x1024 .f32) : FVec Ideal S4096x1024 .f32 := subf (mulf (mulf X (broadcastInDim S4096x1024 ![0, 1] bcast_S4096x1_S4096x1024_0_1 (Host.rsqrt (MSQ X)))) (broadcastInDim S4096x1024 ![0, 1] bcast_S1x1024_S4096x1024_0_1 X3)) X4
def DY (E : FVec Ideal S4096x1024 .f32) : FVec Ideal S4096x1024 .f32 := mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) E)
def DU (X DYT : FVec Ideal S4096x1024 .f32) (X3 : FVec Ideal S1x1024 .f32) : FVec Ideal S4096x1024 .f32 := broadcastInDim S4096x1024 ![0] bcast_S4096_S4096x1024_0 (Host.reduceAdd (Host.divf (mulf (shapeCast _ (Host.reduceAdd (mulf X (mulf DYT (broadcastInDim S4096x1024 ![0, 1] bcast_S1x1024_S4096x1024_0_1 X3))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (MSQ X)) (MSQ X)))) (broadcastInDim S4096x1 ![] bcast_S_S4096x1 (constant S_ .f32 0x44800000#32))) (constant S_ .f32 0x00000000#32) reducesTo_S4096x1_S4096_d1 h_S_)
/-- The rows' gradient from the rows and the normed rows' cotangent. -/
def DX (X DYT : FVec Ideal S4096x1024 .f32) (X3 : FVec Ideal S1x1024 .f32) : FVec Ideal S4096x1024 .f32 := addf (addf (mulf (mulf DYT (broadcastInDim S4096x1024 ![0, 1] bcast_S1x1024_S4096x1024_0_1 X3)) (broadcastInDim S4096x1024 ![0, 1] bcast_S4096x1_S4096x1024_0_1 (Host.rsqrt (MSQ X)))) (mulf X (DU X DYT X3))) (mulf (DU X DYT X3) X)
def DG (X DYT : FVec Ideal S4096x1024 .f32) : FVec Ideal S1x1024 .f32 := shapeCast _ (Host.reduceAdd (mulf (mulf X (broadcastInDim S4096x1024 ![0, 1] bcast_S4096x1_S4096x1024_0_1 (Host.rsqrt (MSQ X)))) DYT) (constant S_ .f32 0x00000000#32) reducesTo_S4096x1024_S1024_d0 h_S_) shapeCasts_S1024_S1x1024
def LS (E : FVec Ideal S4096x1024 .f32) : FVec Ideal S1x128 .f32 := broadcastInDim S1x128 ![] bcast_S_S1x128 (mulf (constant S_ .f32 0x3F000000#32) (Host.reduceAdd (Host.divf (Host.reduceAdd (mulf E E) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))

/-- The four results. -/
def REFl (X0 : FVec Ideal S4096x2816 .bf16) (X1 : FVec Ideal S2816x1024 .bf16) (X2 : FVec Ideal S4096x1024 .f32) (X3 : FVec Ideal S1x1024 .f32) (X4 : FVec Ideal S4096x1024 .f32) : FVec Ideal S1x128 .f32 := LS (EE (XX X0 X1 X2) X3 X4)
def REFd (X0 : FVec Ideal S4096x2816 .bf16) (X1 : FVec Ideal S2816x1024 .bf16) (X2 : FVec Ideal S4096x1024 .f32) (X3 : FVec Ideal S1x1024 .f32) (X4 : FVec Ideal S4096x1024 .f32) : FVec Ideal S4096x1024 .f32 := DX (XX X0 X1 X2) (DY (EE (XX X0 X1 X2) X3 X4)) X3
def REFe (X0 : FVec Ideal S4096x2816 .bf16) (X1 : FVec Ideal S2816x1024 .bf16) (X2 : FVec Ideal S4096x1024 .f32) (X3 : FVec Ideal S1x1024 .f32) (X4 : FVec Ideal S4096x1024 .f32) : FVec Ideal S4096x1024 .bf16 := truncf .bf16 (REFd X0 X1 X2 X3 X4) bitsLt_bf16_f32
def REFg (X0 : FVec Ideal S4096x2816 .bf16) (X1 : FVec Ideal S2816x1024 .bf16) (X2 : FVec Ideal S4096x1024 .f32) (X3 : FVec Ideal S1x1024 .f32) (X4 : FVec Ideal S4096x1024 .f32) : FVec Ideal S1x1024 .f32 := DG (XX X0 X1 X2) (DY (EE (XX X0 X1 X2) X3 X4))

theorem XX_at (X0 X1 X2) (i : Fin 4096) (j : Fin 1024) : XX X0 X1 X2 (ix2 i j) = X2 (ix2 i j) + ∑ k : Fin 2816, X0 (ix2 i k) * X1 (ix2 k j) := by pointwise [XX]
theorem MSQ_at (X) (i : Fin 4096) : MSQ X (ix2 i (0 : Fin 1)) = ms fun l => X (ix2 i l) := by pointwise [MSQ, ms]
theorem EE_at (X X3 X4) (i : Fin 4096) (j : Fin 1024) : EE X X3 X4 (ix2 i j) = X (ix2 i j) * rs (fun l => X (ix2 i l)) * X3 (ix2 (0 : Fin 1) j) - X4 (ix2 i j) := by
  have e : EE X X3 X4 (ix2 i j) = X (ix2 i j) * Ideal.rsqrt (MSQ X (ix2 i (0 : Fin 1))) * X3 (ix2 (0 : Fin 1) j) - X4 (ix2 i j) := by pointwise [EE]
  rw [e, MSQ_at]; rfl
theorem DY_at (E) (i : Fin 4096) (j : Fin 1024) : DY E (ix2 i j) = E (ix2 i j) * kI := by
  have e : DY E (ix2 i j) = Ideal.div (kF * k1) kN * (k2 * E (ix2 i j)) := by pointwise [DY]
  rw [e, scale]
theorem DU_at (X DYT X3) (i : Fin 4096) (j : Fin 1024) : DU X DYT X3 (ix2 i j) = ru (fun l => X (ix2 i l)) fun l => DYT (ix2 i l) * X3 (ix2 (0 : Fin 1) l) := by
  have e : DU X DYT X3 (ix2 i j) = ∑ k : Fin 1, Ideal.div ((∑ l : Fin 1024, X (ix2 i l) * (DYT (ix2 i l) * X3 (ix2 (0 : Fin 1) l))) * (kH * Ideal.div (Ideal.rsqrt (MSQ X (ix2 i k))) (MSQ X (ix2 i k)))) kN := by
    pointwise [DU]
  rw [e, Fin.sum_univ_one, MSQ_at, ru, Fin.sum_univ_one]
  rfl
theorem DX_at (X DYT X3) (i : Fin 4096) (j : Fin 1024) : DX X DYT X3 (ix2 i j) = kdx (fun l => X (ix2 i l)) (fun l => DYT (ix2 i l) * X3 (ix2 (0 : Fin 1) l)) 0 j := by
  have e : DX X DYT X3 (ix2 i j) = DYT (ix2 i j) * X3 (ix2 (0 : Fin 1) j) * Ideal.rsqrt (MSQ X (ix2 i (0 : Fin 1))) + X (ix2 i j) * DU X DYT X3 (ix2 i j) + DU X DYT X3 (ix2 i j) * X (ix2 i j) := by
    pointwise [DX]
  rw [e, DU_at, MSQ_at, Cert.Rms.core, rdx, zero_add]
  rfl
theorem DG_at (X DYT) (j : Fin 1024) : DG X DYT (ix2 (0 : Fin 1) j) = ∑ i : Fin 4096, X (ix2 i j) * rs (fun l => X (ix2 i l)) * DYT (ix2 i j) := by
  have e : DG X DYT (ix2 (0 : Fin 1) j) = ∑ i : Fin 4096, X (ix2 i j) * Ideal.rsqrt (MSQ X (ix2 i (0 : Fin 1))) * DYT (ix2 i j) := by
    pointwise [DG]
  rw [e]
  simp only [MSQ_at]
  rfl
theorem LS_at (E) (j : Fin 128) : LS E (ix2 (0 : Fin 1) j) = kF * ∑ i : Fin 4096, Ideal.div (∑ l : Fin 1024, E (ix2 i l) * E (ix2 i l)) kN := by
  pointwise [LS]
theorem REFe_at (X0 X1 X2 X3 X4) (i : Fin 4096) (j : Fin 1024) : REFe X0 X1 X2 X3 X4 (ix2 i j) = REFd X0 X1 X2 X3 X4 (ix2 i j) := by pointwise [REFe]

end Cert.FinalLossRefIdeal

namespace Cert.FinalLossIdeal
open Cert.FinalLossIdeal.Gen
open Cert.FinalLossRefIdeal (REFe_at XX EE DY DX DG LS REFl REFd REFe REFg kF kI)

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![0, 0] ∧ win0_6.index t = ![t.val, 0] ∧ win0_7.index t = ![t.val, 0] ∧ win0_8.index t = ![0, 0] :=
  (by decide +kernel : ∀ t : Fin grid0.N, _)

variable (v0 : FVec Ideal S512x2816 .bf16) (v1 : FVec Ideal S2816x1024 .bf16) (v3 : FVec Ideal S512x1024 .f32) (v15 : FVec Ideal S1x1024 .f32) (v18 : FVec Ideal S512x1024 .f32)

theorem hp5 (i : Fin 512) (j : Fin 1024) : k0_pay5 (F := Ideal) v0 v1 v3 (ix2 i j) = (∑ k : Fin 2816, v0 (ix2 i k) * v1 (ix2 k j)) + v3 (ix2 i j) := by
  pointwise [k0_pay5]
theorem hp6 (i : Fin 512) : k0_pay6 (F := Ideal) v0 v1 v3 (ix2 i (0 : Fin 1)) = rs fun l => k0_pay5 (F := Ideal) v0 v1 v3 (ix2 i l) := by
  pointwise [k0_pay6, rs, ms]
theorem hp7 (i : Fin 512) (j : Fin 1024) : k0_pay7 (F := Ideal) v0 v1 v3 (ix2 i j) = k0_pay5 (F := Ideal) v0 v1 v3 (ix2 i j) * rs fun l => k0_pay5 (F := Ideal) v0 v1 v3 (ix2 i l) := by
  have e : k0_pay7 (F := Ideal) v0 v1 v3 (ix2 i j) = k0_pay5 (F := Ideal) v0 v1 v3 (ix2 i j) * k0_pay6 (F := Ideal) v0 v1 v3 (ix2 i (0 : Fin 1)) := by pointwise [k0_pay7]
  rw [e, hp6]
theorem hp8 (i : Fin 512) (j : Fin 1024) : k0_pay8 (F := Ideal) v0 v1 v3 v15 v18 (ix2 i j) = k0_pay7 (F := Ideal) v0 v1 v3 (ix2 i j) * v15 (ix2 (0 : Fin 1) j) - v18 (ix2 i j) := by
  pointwise [k0_pay8]
theorem hp9 (i : Fin 512) (j : Fin 1024) : k0_pay9 (F := Ideal) v0 v1 v3 v15 v18 (ix2 i j) = k0_pay8 (F := Ideal) v0 v1 v3 v15 v18 (ix2 i j) * kI := by
  pointwise [k0_pay9]
theorem hp10 (i : Fin 512) (j : Fin 1024) : k0_pay10 (F := Ideal) v0 v1 v3 v15 v18 v15 (ix2 i j)
    = kdx (fun l => k0_pay5 (F := Ideal) v0 v1 v3 (ix2 i l)) (fun l => k0_pay9 (F := Ideal) v0 v1 v3 v15 v18 (ix2 i l) * v15 (ix2 (0 : Fin 1) l)) 0 j := by
  have e : k0_pay10 (F := Ideal) v0 v1 v3 v15 v18 v15 (ix2 i j) = k0_pay6 (F := Ideal) v0 v1 v3 (ix2 i (0 : Fin 1)) * (k0_pay9 (F := Ideal) v0 v1 v3 v15 v18 (ix2 i j) * v15 (ix2 (0 : Fin 1) j)
      - k0_pay7 (F := Ideal) v0 v1 v3 (ix2 i j) * Ideal.div (∑ l : Fin 1024, k0_pay9 (F := Ideal) v0 v1 v3 v15 v18 (ix2 i l) * v15 (ix2 (0 : Fin 1) l) * k0_pay7 (F := Ideal) v0 v1 v3 (ix2 i l)) kN) := by
    pointwise [k0_pay10]
  rw [e]
  simp only [hp6, hp7]
  rw [kdx, add_zero]
theorem hp11 (i : Fin 512) (j : Fin 1024) : k0_pay11 (F := Ideal) v0 v1 v3 v15 v18 v15 (ix2 i j) = k0_pay10 (F := Ideal) v0 v1 v3 v15 v18 v15 (ix2 i j) := by
  pointwise [k0_pay11]
theorem hp1 (y) : k0_pay1 (F := Ideal) y = 0 := by pointwise [k0_pay1]
theorem hp2 (y) : k0_pay2 (F := Ideal) y = 0 := by pointwise [k0_pay2]
theorem hp3 (a b : FVec Ideal S512x1024 .f32) (v) (y : S1x1024.Idx) : k0_pay3 (F := Ideal) a b v y = v y + ∑ i : Fin 512, b (ix2 i (y 1)) * a (ix2 i (y 1)) := by
  pointwise [k0_pay3]
theorem hp4 (a : FVec Ideal S512x1024 .f32) (v) (y : S1x128.Idx) : k0_pay4 (F := Ideal) a v y = v y + kF * ∑ i : Fin 512, Ideal.div (∑ l : Fin 1024, a (ix2 i l) * a (ix2 i l)) kN := by
  pointwise [k0_pay4]

/-- A point's rows, their difference from the target and its derivative. -/
abbrev bx (c : Dev nD) (t : Fin cfg0.N) : FVec Ideal S512x1024 .f32 :=
  k0_pay5 (F := Ideal) (show FVec Ideal S512x2816 .bf16 from iblk m c 0 t) (show FVec Ideal S2816x1024 .bf16 from iblk m c 1 t) (show FVec Ideal S512x1024 .f32 from iblk m c 2 t)
abbrev bn (c : Dev nD) (t : Fin cfg0.N) : FVec Ideal S512x1024 .f32 :=
  k0_pay7 (F := Ideal) (show FVec Ideal S512x2816 .bf16 from iblk m c 0 t) (show FVec Ideal S2816x1024 .bf16 from iblk m c 1 t) (show FVec Ideal S512x1024 .f32 from iblk m c 2 t)
abbrev be (c : Dev nD) (t : Fin cfg0.N) : FVec Ideal S512x1024 .f32 :=
  k0_pay8 (F := Ideal) (show FVec Ideal S512x2816 .bf16 from iblk m c 0 t) (show FVec Ideal S2816x1024 .bf16 from iblk m c 1 t) (show FVec Ideal S512x1024 .f32 from iblk m c 2 t) (show FVec Ideal S1x1024 .f32 from iblk m c 3 t) (show FVec Ideal S512x1024 .f32 from iblk m c 4 t)
abbrev by' (c : Dev nD) (t : Fin cfg0.N) : FVec Ideal S512x1024 .f32 :=
  k0_pay9 (F := Ideal) (show FVec Ideal S512x2816 .bf16 from iblk m c 0 t) (show FVec Ideal S2816x1024 .bf16 from iblk m c 1 t) (show FVec Ideal S512x1024 .f32 from iblk m c 2 t) (show FVec Ideal S1x1024 .f32 from iblk m c 3 t) (show FVec Ideal S512x1024 .f32 from iblk m c 4 t)
/-- The same of the whole arrays. -/
abbrev xx (c : Dev nD) : FVec Ideal S4096x1024 .f32 := XX (V m c main_arg0) (V m c main_arg1) (V m c main_arg2)
abbrev ee (c : Dev nD) : FVec Ideal S4096x1024 .f32 := EE (xx m c) (V m c main_arg3) (V m c main_arg4)

theorem row_lt {t i : ℕ} (ht : t < 8) (hi : i < 512) : t * 512 + i < 4096 := by omega
theorem lt8 (t : Fin cfg0.N) : t.val < 8 := lt_of_lt_of_eq t.isLt N_0
/-- Row `i` of point `t`, in the whole array. -/
abbrev row (t : Fin cfg0.N) (i : Fin 512) : Fin 4096 := ⟨t.val * 512 + i.val, row_lt (lt8 t) i.isLt⟩

theorem bx_at (c : Dev nD) (t : Fin cfg0.N) (i : Fin 512) (j : Fin 1024) : bx m c t (ix2 i j) = xx m c (ix2 (row t i) j) := by
  unfold bx xx
  rw [hp5, Cert.FinalLossRefIdeal.XX_at, add_comm]
  refine congrArg₂ (· + ·) ?_ (Fin.sum_fin_congr fun k => ?_) <;> blk_point [iblk, V, idx t]
theorem bn_at (c : Dev nD) (t : Fin cfg0.N) (i : Fin 512) (j : Fin 1024) : bn m c t (ix2 i j) = xx m c (ix2 (row t i) j) * rs fun l => xx m c (ix2 (row t i) l) := by
  unfold bn
  rw [hp7]
  exact congrArg₂ (· * rs ·) (bx_at m c t i j) (funext fun l => bx_at m c t i l)
theorem g_at (c : Dev nD) (t : Fin cfg0.N) (j : Fin 1024) : (show FVec Ideal S1x1024 .f32 from iblk m c 3 t) (ix2 (0 : Fin 1) j) = V m c main_arg3 (ix2 (0 : Fin 1) j) := by
  blk_point [iblk, V, idx t]
theorem t_at (c : Dev nD) (t : Fin cfg0.N) (i : Fin 512) (j : Fin 1024) : (show FVec Ideal S512x1024 .f32 from iblk m c 4 t) (ix2 i j) = V m c main_arg4 (ix2 (row t i) j) := by
  blk_point [iblk, V, idx t]
theorem be_at (c : Dev nD) (t : Fin cfg0.N) (i : Fin 512) (j : Fin 1024) : be m c t (ix2 i j) = ee m c (ix2 (row t i) j) := by
  unfold be ee
  rw [hp8, Cert.FinalLossRefIdeal.EE_at]
  exact congrArg₂ (· - ·) (congrArg₂ (· * ·) (bn_at m c t i j) (g_at m c t j)) (t_at m c t i j)
theorem by_at (c : Dev nD) (t : Fin cfg0.N) (i : Fin 512) (j : Fin 1024) : by' m c t (ix2 i j) = DY (ee m c) (ix2 (row t i) j) := by
  unfold by'
  rw [hp9, Cert.FinalLossRefIdeal.DY_at]
  exact congrArg (· * kI) (be_at m c t i j)
theorem dx_at (c : Dev nD) (t : Fin cfg0.N) (i : Fin 512) (j : Fin 1024) : k0_pay10 (F := Ideal) (iblk m c 0 t) (iblk m c 1 t) (iblk m c 2 t) (iblk m c 3 t) (iblk m c 4 t) (iblk m c 3 t) (ix2 i j)
    = REFd (V m c main_arg0) (V m c main_arg1) (V m c main_arg2) (V m c main_arg3) (V m c main_arg4) (ix2 (row t i) j) := by
  rw [hp10, REFd, Cert.FinalLossRefIdeal.DX_at]
  exact congrArg₂ (kdx · · 0 j) (funext fun l => bx_at m c t i l) (funext fun l => congrArg₂ (· * ·) (by_at m c t i l) (g_at m c t l))

theorem out6 (c : Dev nD) (t : Fin cfg0.N) : (outsAt0 m c t.val t.isLt).2.1 = k0_pay10 (F := Ideal) (iblk m c 0 t) (iblk m c 1 t) (iblk m c 2 t) (iblk m c 3 t) (iblk m c 4 t) (iblk m c 3 t) := by
  funext y
  by_cases h : t.val % 8 = 0
  · rw [outsAt0_A m c t h]; frame_out
  · rw [outsAt0_B m c t h]; frame_out
theorem final_6 (c : Dev nD) : (dats m 0 c).arrAt 6 (cfgs 0).N = REFd (V m c main_arg0) (V m c main_arg1) (V m c main_arg2) (V m c main_arg3) (V m c main_arg4) := by
  refine (dats m 0 c).arrAt_eq_of_covers 6 _ (by decide +kernel) fun t ht y => ?_
  blk_simp
  have hn := lt8 t
  rw [after0_6, out6]
  obtain ⟨i, j, rfl⟩ : ∃ (i : Fin 512) (j : Fin 1024), y = ix2 i j := ⟨y 0, y 1, by funext a; fin_cases a <;> rfl⟩
  refine ((dx_at m c t i j)).trans ?_

  refine congrArg _ ?_
  funext a; fin_cases a <;> refine Fin.ext ?_ <;> blk_simp [idx t] <;> simp at * <;> omega

theorem out7 (c : Dev nD) (t : Fin cfg0.N) : (outsAt0 m c t.val t.isLt).2.2.1 = k0_pay11 (F := Ideal) (iblk m c 0 t) (iblk m c 1 t) (iblk m c 2 t) (iblk m c 3 t) (iblk m c 4 t) (iblk m c 3 t) := by
  funext y
  by_cases h : t.val % 8 = 0
  · rw [outsAt0_A m c t h]; frame_out
  · rw [outsAt0_B m c t h]; frame_out
theorem final_7 (c : Dev nD) : (dats m 0 c).arrAt 7 (cfgs 0).N = REFe (V m c main_arg0) (V m c main_arg1) (V m c main_arg2) (V m c main_arg3) (V m c main_arg4) := by
  refine (dats m 0 c).arrAt_eq_of_covers 7 _ (by decide +kernel) fun t ht y => ?_
  blk_simp
  have hn := lt8 t
  rw [after0_7, out7]
  obtain ⟨i, j, rfl⟩ : ∃ (i : Fin 512) (j : Fin 1024), y = ix2 i j := ⟨y 0, y 1, by funext a; fin_cases a <;> rfl⟩
  refine ((hp11 _ _ _ _ _ i j).trans (dx_at m c t i j)).trans ?_
  refine (REFe_at _ _ _ _ _ (row t i) j).symm.trans ?_
  refine congrArg _ ?_
  funext a; fin_cases a <;> refine Fin.ext ?_ <;> blk_simp [idx t] <;> simp at * <;> omega

/-- What a point adds. -/
abbrev addl (c : Dev nD) (t : Fin cfg0.N) (y : S1x128.Idx) : EReal := kF * ∑ i : Fin 512, Ideal.div (∑ l : Fin 1024, be m c t (ix2 i l) * be m c t (ix2 i l)) kN
theorem firstl (c : Dev nD) (t : Fin cfg0.N) (h : t.val % 8 = 0) (y) : (outsAt0 m c t.val t.isLt).1 y = 0 + addl m c t y := by
  rw [outsAt0_A m c t h]
  frame_open
  simp (disch := decide) only [↓View.readCov_skip, ↓View.readCov_fill]
  frame_out
  rw [hp4, hp2]
theorem nextl (c : Dev nD) (t : Fin cfg0.N) (h : ¬t.val % 8 = 0) (y) : (outsAt0 m c t.val t.isLt).1 y
    = (outsAt0 m c (t.val - 1) (Nat.lt_of_le_of_lt (Nat.sub_le _ _) t.isLt)).1 y + addl m c t y := by
  rw [outsAt0_B m c t h]
  frame_out
  generalize (outsAt0 m c (t.val - 1) _).1 = A
  rw [hp4]

theorem final_5 (c : Dev nD) : (dats m 0 c).arrAt 5 (cfgs 0).N = REFl (V m c main_arg0) (V m c main_arg1) (V m c main_arg2) (V m c main_arg3) (V m c main_arg4) := by
  refine (dats m 0 c).arrAt_eq_of_covers 5 _ (by decide +kernel) fun t ht y => ?_
  blk_simp
  have h7 : t.val % 8 = 7 := (flush0_5 t).mp ht
  have hn := lt8 t
  rw [after0_5, Pipeline.eq_sum_fin_of_reset_step_apply_of_flush (fun n h y => (outsAt0 m c n h).1 y) 8 (fun _ => 0) (addl m c)
      (fun t h j => firstl m c t h j) (fun t h j => nextl m c t h j) t h7 _, zero_add]
  obtain ⟨j, rfl⟩ : ∃ j : Fin 128, y = ix2 (0 : Fin 1) j := ⟨y 1, by funext a; fin_cases a <;> first | rfl | exact Fin.ext (Nat.lt_one_iff.1 (y 0).isLt)⟩
  have e : ((cfg0.win 5).blk t).view.emb (ix2 (0 : Fin 1) j) = ix2 (0 : Fin 1) j := by
    funext a; fin_cases a <;> refine Fin.ext ?_ <;> blk_simp [idx t] <;> simp
  refine Eq.trans ?_ (congrArg (REFl (V m c main_arg0) (V m c main_arg1) (V m c main_arg2) (V m c main_arg3) (V m c main_arg4)) e).symm
  have hm : ∀ z : EReal, kF * z = z * ((1 / 2 : ℝ) : EReal) := fun z => by rw [Cert.FinalLossRefIdeal.kF_eq, mul_comm]
  rw [REFl, Cert.FinalLossRefIdeal.LS_at, hm]
  refine (Finset.sum_congr rfl fun s _ => hm _).trans ((Cert.Rms.mul_sum_real _ _ (by norm_num)).trans (congrArg (· * _) ?_))
  refine Fin.sum_mul_add_congr fun s k hl => ?_
  have hs : (⟨_, Pipeline.run_point_lt_of_flush t h7 s⟩ : Fin cfg0.N).val = s.val := by dsimp only; omega
  generalize (⟨_, Pipeline.run_point_lt_of_flush t h7 s⟩ : Fin cfg0.N) = u at hs
  have er : (⟨s.val * 512 + k.val, hl⟩ : Fin 4096) = row u k := Fin.ext (by simp only [row]; omega)
  rw [er]
  exact congrArg (Ideal.div · kN) (Finset.sum_congr rfl fun l _ => congrArg₂ (· * ·) (be_at m c u k l) (be_at m c u k l))

/-- What a point adds. -/
abbrev addg (c : Dev nD) (t : Fin cfg0.N) (y : S1x1024.Idx) : EReal := ∑ i : Fin 512, by' m c t (ix2 i (y 1)) * bn m c t (ix2 i (y 1))
theorem firstg (c : Dev nD) (t : Fin cfg0.N) (h : t.val % 8 = 0) (y) : (outsAt0 m c t.val t.isLt).2.2.2 y = 0 + addg m c t y := by
  rw [outsAt0_A m c t h]
  frame_open
  simp (disch := decide) only [↓View.readCov_skip, ↓View.readCov_fill]
  frame_out
  rw [hp3, hp1]
theorem nextg (c : Dev nD) (t : Fin cfg0.N) (h : ¬t.val % 8 = 0) (y) : (outsAt0 m c t.val t.isLt).2.2.2 y
    = (outsAt0 m c (t.val - 1) (Nat.lt_of_le_of_lt (Nat.sub_le _ _) t.isLt)).2.2.2 y + addg m c t y := by
  rw [outsAt0_B m c t h]
  frame_out
  generalize (outsAt0 m c (t.val - 1) _).2.2.2 = A
  rw [hp3]

theorem final_8 (c : Dev nD) : (dats m 0 c).arrAt 8 (cfgs 0).N = REFg (V m c main_arg0) (V m c main_arg1) (V m c main_arg2) (V m c main_arg3) (V m c main_arg4) := by
  refine (dats m 0 c).arrAt_eq_of_covers 8 _ (by decide +kernel) fun t ht y => ?_
  blk_simp
  have h7 : t.val % 8 = 7 := (flush0_8 t).mp ht
  have hn := lt8 t
  rw [after0_8, Pipeline.eq_sum_fin_of_reset_step_apply_of_flush (fun n h y => (outsAt0 m c n h).2.2.2 y) 8 (fun _ => 0) (addg m c)
      (fun t h j => firstg m c t h j) (fun t h j => nextg m c t h j) t h7 _, zero_add]
  obtain ⟨j, rfl⟩ : ∃ j : Fin 1024, y = ix2 (0 : Fin 1) j := ⟨y 1, by funext a; fin_cases a <;> first | rfl | exact Fin.ext (Nat.lt_one_iff.1 (y 0).isLt)⟩
  have e : ((cfg0.win 8).blk t).view.emb (ix2 (0 : Fin 1) j) = ix2 (0 : Fin 1) j := by
    funext a; fin_cases a <;> refine Fin.ext ?_ <;> blk_simp [idx t] <;> simp
  refine Eq.trans ?_ (congrArg (REFg (V m c main_arg0) (V m c main_arg1) (V m c main_arg2) (V m c main_arg3) (V m c main_arg4)) e).symm
  rw [REFg, Cert.FinalLossRefIdeal.DG_at]
  refine Fin.sum_mul_add_congr fun s k hl => ?_
  have hs : (⟨_, Pipeline.run_point_lt_of_flush t h7 s⟩ : Fin cfg0.N).val = s.val := by dsimp only; omega
  generalize (⟨_, Pipeline.run_point_lt_of_flush t h7 s⟩ : Fin cfg0.N) = u at hs
  have er : (⟨s.val * 512 + k.val, hl⟩ : Fin 4096) = row u k := Fin.ext (by simp only [row]; omega)
  rw [er]
  exact (mul_comm _ _).trans (congrArg₂ (· * ·) (bn_at m c u k j) (by_at m c u k j))

end Cert.FinalLossIdeal

end
-- ==== Proof.Loss.lean ====
/- The loss and its gradients: the kernel's results are its reference's. -/
module

public import proofs.«01_k».proof.Defs
public import proofs.«01_k».proof.Proof.LossOut
public import proofs.«01_k».proof.Proof.Gen.FinalLossIdeal.Value
public import proofs.«01_k».proof.Proof.Gen.FinalLossRefIdeal.Run
public import Idealize.ShloMosaic.Lib.Claim

@[expose] public section

set_option maxHeartbeats 2000000

noncomputable section

namespace Cert.Proof

open Idealize.ShloMosaic Idealize.SL.Sem

theorem value_FinalLoss : algebraic_FinalLossIdeal_FinalLossRefIdeal := by
  intro m g m' g' _ hagree
  refine ⟨_, _, _, _, (θ_run _ _ _).mono (fun r h c => h c) (Cert.FinalLossIdeal.Value.run_blocks m g),
    (θ_run _ _ _).mono (fun r h c => ?_) (Cert.FinalLossRefIdeal.Value.run m' g')⟩
  obtain ⟨e0, e1, e2, e3, e4⟩ := hagree c
  refine ⟨(h c).1.trans (Eq.trans ?_ (Cert.FinalLossIdeal.final_5 m c).symm), (h c).2.1.trans (Eq.trans ?_ (Cert.FinalLossIdeal.final_6 m c).symm), (h c).2.2.1.trans (Eq.trans ?_ (Cert.FinalLossIdeal.final_7 m c).symm), (h c).2.2.2.1.trans (Eq.trans ?_ (Cert.FinalLossIdeal.final_8 m c).symm), (h c).2.2.2.2⟩
  · show Cert.FinalLossRefIdeal.REFl (m' ((c.tc : Thread _ _).loc Cert.FinalLossRefIdeal.main_arg0)) (m' ((c.tc : Thread _ _).loc Cert.FinalLossRefIdeal.main_arg1)) (m' ((c.tc : Thread _ _).loc Cert.FinalLossRefIdeal.main_arg2)) (m' ((c.tc : Thread _ _).loc Cert.FinalLossRefIdeal.main_arg3)) (m' ((c.tc : Thread _ _).loc Cert.FinalLossRefIdeal.main_arg4)) = _
    rw [e0, e1, e2, e3, e4] <;> rfl
  · show Cert.FinalLossRefIdeal.REFd (m' ((c.tc : Thread _ _).loc Cert.FinalLossRefIdeal.main_arg0)) (m' ((c.tc : Thread _ _).loc Cert.FinalLossRefIdeal.main_arg1)) (m' ((c.tc : Thread _ _).loc Cert.FinalLossRefIdeal.main_arg2)) (m' ((c.tc : Thread _ _).loc Cert.FinalLossRefIdeal.main_arg3)) (m' ((c.tc : Thread _ _).loc Cert.FinalLossRefIdeal.main_arg4)) = _
    rw [e0, e1, e2, e3, e4] <;> rfl
  · show Cert.FinalLossRefIdeal.REFe (m' ((c.tc : Thread _ _).loc Cert.FinalLossRefIdeal.main_arg0)) (m' ((c.tc : Thread _ _).loc Cert.FinalLossRefIdeal.main_arg1)) (m' ((c.tc : Thread _ _).loc Cert.FinalLossRefIdeal.main_arg2)) (m' ((c.tc : Thread _ _).loc Cert.FinalLossRefIdeal.main_arg3)) (m' ((c.tc : Thread _ _).loc Cert.FinalLossRefIdeal.main_arg4)) = _
    rw [e0, e1, e2, e3, e4] <;> rfl
  · show Cert.FinalLossRefIdeal.REFg (m' ((c.tc : Thread _ _).loc Cert.FinalLossRefIdeal.main_arg0)) (m' ((c.tc : Thread _ _).loc Cert.FinalLossRefIdeal.main_arg1)) (m' ((c.tc : Thread _ _).loc Cert.FinalLossRefIdeal.main_arg2)) (m' ((c.tc : Thread _ _).loc Cert.FinalLossRefIdeal.main_arg3)) (m' ((c.tc : Thread _ _).loc Cert.FinalLossRefIdeal.main_arg4)) = _
    rw [e0, e1, e2, e3, e4] <;> rfl

theorem frame_FinalLoss : quiescent_FinalLossRefIdeal := fun m g _ =>
  (θ_run _ _ _).mono (fun r h => ⟨fun c => (h c).2.2.2.2, sem_eq_zero_of_no_sems (by decide) r.2⟩) (Cert.FinalLossRefIdeal.Value.run m g)

end Cert.Proof

end
-- ==== Proof.ConvRef.lean ====
/- The gradients of the gated causal convolution as the reference writes them, element by element. -/
module

public import proofs.«01_k».proof.Proof.Gen.ConvBwdRefIdeal
public import proofs.«01_k».proof.Proof.Gen.ConvBwdRefIdeal.Run
public import Idealize.ShloMosaic.Lib.Claim
public import Idealize.ShloMosaic.Lib.WordCmp
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvBwdRefIdeal
open Cert.ConvBwdRefIdeal.Gen

theorem one_eq : Ideal.ofBits .f32 0x3F800000#32 = (1 : EReal) := by
  simp only [Ideal.ofBits, Ideal.ieee]; rw [if_neg (by decide), if_neg (by decide)]
  rw [← EReal.coe_one]; refine congrArg _ ?_; simp; norm_num

/-- One over the sequence, and a zero. -/
def ONE : FVec Ideal S2x2048x2816 .f32 := broadcastInDim S2x2048x2816 ![] bcast_S_S2x2048x2816 (constant S_ .f32 0x3F800000#32)

/-- The filter for each example, and the bias. -/
def WB (X4 : FVec Ideal S3x2816 .f32) : FVec Ideal S2x3x2816 .f32 := broadcastInDim S2x3x2816 ![1, 2] bcast_S3x2816_S2x3x2816_1_2 X4
def W0 (X4 : FVec Ideal S3x2816 .f32) : FVec Ideal S2x2048x2816 .f32 :=
  broadcastInDim S2x2048x2816 ![0, 1, 2] bcast_S2x1x2816_S2x2048x2816_0_1_2 (extractStridedSlice S2x1x2816 ![0, 0, 0] (WB X4) slices_S2x3x2816_S2x1x2816_0_0_0)
def W1 (X4 : FVec Ideal S3x2816 .f32) : FVec Ideal S2x2048x2816 .f32 :=
  broadcastInDim S2x2048x2816 ![0, 1, 2] bcast_S2x1x2816_S2x2048x2816_0_1_2 (extractStridedSlice S2x1x2816 ![0, 1, 0] (WB X4) slices_S2x3x2816_S2x1x2816_0_1_0)
def W2 (X4 : FVec Ideal S3x2816 .f32) : FVec Ideal S2x2048x2816 .f32 :=
  broadcastInDim S2x2048x2816 ![0, 1, 2] bcast_S2x1x2816_S2x2048x2816_0_1_2 (extractStridedSlice S2x1x2816 ![0, 2, 0] (WB X4) slices_S2x3x2816_S2x1x2816_0_2_0)
def BB (X5 : FVec Ideal S1x2816 .f32) : FVec Ideal S2x2048x2816 .f32 :=
  broadcastInDim S2x2048x2816 ![0, 1, 2] bcast_S2x1x2816_S2x2048x2816_0_1_2 (broadcastInDim S2x1x2816 ![1, 2] bcast_S1x2816_S2x1x2816_1_2 X5)

/-- Two rows of zeros ahead of the sequence. -/
def PC (X2 : FVec Ideal S2x2048x2816 .bf16) : FVec Ideal S2x2050x2816 .f32 :=
  concatenate S2x2050x2816 1 [⟨S2x2x2816, broadcastInDim S2x2x2816 ![] bcast_S_S2x2x2816 (constant S_ .f32 0x00000000#32)⟩, ⟨S2x2048x2816, extf .f32 X2 bitsLt_bf16_f32⟩] concatenates_S2x2x2816_S2x2048x2816_S2x2050x2816_d1
def P0 (X2 : FVec Ideal S2x2048x2816 .bf16) : FVec Ideal S2x2048x2816 .f32 := extractStridedSlice S2x2048x2816 ![0, 0, 0] (PC X2) slices_S2x2050x2816_S2x2048x2816_0_0_0
def P1 (X2 : FVec Ideal S2x2048x2816 .bf16) : FVec Ideal S2x2048x2816 .f32 := extractStridedSlice S2x2048x2816 ![0, 1, 0] (PC X2) slices_S2x2050x2816_S2x2048x2816_0_1_0
def P2 (X2 : FVec Ideal S2x2048x2816 .bf16) : FVec Ideal S2x2048x2816 .f32 := extractStridedSlice S2x2048x2816 ![0, 2, 0] (PC X2) slices_S2x2050x2816_S2x2048x2816_0_2_0

/-- The causal convolution. -/
def CO (X2 : FVec Ideal S2x2048x2816 .bf16) (X4 : FVec Ideal S3x2816 .f32) (X5 : FVec Ideal S1x2816 .f32) : FVec Ideal S2x2048x2816 .f32 :=
  addf (addf (addf (BB X5) (mulf (W0 X4) (P0 X2))) (mulf (W1 X4) (P1 X2))) (mulf (W2 X4) (P2 X2))

/-- Its logistic function. -/
def SG (C : FVec Ideal S2x2048x2816 .f32) : FVec Ideal S2x2048x2816 .f32 := Host.divf ONE (addf ONE (Host.exp (Host.negf C)))

/-- The gradient of the gated value. -/
def DG (X0 : FVec Ideal S2x2048x1024 .bf16) (X1 : FVec Ideal S2816x1024 .bf16) : FVec Ideal S2x2048x2816 .f32 :=
  Host.dotGeneral dot_S2x2048x1024_S2816x1024_S2x2048x2816_2_1_01_0_n_n none (extf .f32 X0 bitsLt_bf16_f32) (extf .f32 X1 bitsLt_bf16_f32)

/-- The gradient of the convolved value, from the convolved value `C` and the gradient `Q` of its gate. -/
def DC (C Q : FVec Ideal S2x2048x2816 .f32) : FVec Ideal S2x2048x2816 .f32 :=
  addf (mulf Q (SG C)) (mulf (mulf C Q) (mulf (SG C) (subf ONE (SG C))))

/-- The four results, the first three from the gradient `G` of the convolved value. -/
def Rda (G : FVec Ideal S2x2048x2816 .f32) (X4 : FVec Ideal S3x2816 .f32) : FVec Ideal S2x2048x2816 .bf16 :=
  truncf .bf16 (extractStridedSlice S2x2048x2816 ![0, 2, 0] (addf (addf
    (pad S2x2050x2816 ![0, 2, 0] ![0, 0, 0] ![0, 0, 0] (mulf (W2 X4) G) (constant S_ .f32 0x00000000#32) pads_S2x2048x2816_S2x2050x2816_000_200_000 h_S_)
    (pad S2x2050x2816 ![0, 1, 0] ![0, 1, 0] ![0, 0, 0] (mulf (W1 X4) G) (constant S_ .f32 0x00000000#32) pads_S2x2048x2816_S2x2050x2816_000_110_000 h_S_))
    (pad S2x2050x2816 ![0, 0, 0] ![0, 2, 0] ![0, 0, 0] (mulf (W0 X4) G) (constant S_ .f32 0x00000000#32) pads_S2x2048x2816_S2x2050x2816_000_020_000 h_S_))
    slices_S2x2050x2816_S2x2048x2816_0_2_0) bitsLt_bf16_f32
def RS (G : FVec Ideal S2x2048x2816 .f32) : FVec Ideal S2x1x2816 .f32 :=
  shapeCast _ (Host.reduceAdd G (constant S_ .f32 0x00000000#32) reducesTo_S2x2048x2816_S2x2816_d1 h_S_) shapeCasts_S2x2816_S2x1x2816
def Rdw (G : FVec Ideal S2x2048x2816 .f32) (X2 : FVec Ideal S2x2048x2816 .bf16) : FVec Ideal S2x3x2816 .f32 :=
  addf (addf
    (pad S2x3x2816 ![0, 2, 0] ![0, 0, 0] ![0, 0, 0] (RS (mulf G (P2 X2))) (constant S_ .f32 0x00000000#32) pads_S2x1x2816_S2x3x2816_000_200_000 h_S_)
    (pad S2x3x2816 ![0, 1, 0] ![0, 1, 0] ![0, 0, 0] (RS (mulf G (P1 X2))) (constant S_ .f32 0x00000000#32) pads_S2x1x2816_S2x3x2816_000_110_000 h_S_))
    (pad S2x3x2816 ![0, 0, 0] ![0, 2, 0] ![0, 0, 0] (RS (mulf G (P0 X2))) (constant S_ .f32 0x00000000#32) pads_S2x1x2816_S2x3x2816_000_020_000 h_S_)
def Rdb (C D : FVec Ideal S2x2048x2816 .f32) : FVec Ideal S2x2048x2816 .bf16 := truncf .bf16 (mulf (mulf C (SG C)) D) bitsLt_bf16_f32

/-- The gradient of the convolved value in the call's arguments. -/
def GG (X0 : FVec Ideal S2x2048x1024 .bf16) (X1 : FVec Ideal S2816x1024 .bf16) (X2 X3 : FVec Ideal S2x2048x2816 .bf16) (X4 : FVec Ideal S3x2816 .f32) (X5 : FVec Ideal S1x2816 .f32) : FVec Ideal S2x2048x2816 .f32 :=
  DC (CO X2 X4 X5) (mulf (DG X0 X1) (extf .f32 X3 bitsLt_bf16_f32))

/-- A channel along the sequence, two zeros ahead of it; and one with zeros after its end. -/
def sq (A : FVec Ideal S2x2048x2816 .bf16) (e : Fin 2) (j : Fin 2816) (n : ℕ) : EReal :=
  if h : 2 ≤ n ∧ n - 2 < 2048 then A (ix3 e ⟨n - 2, h.2⟩ j) else 0
def tq (A : FVec Ideal S2x2048x2816 .f32) (e : Fin 2) (j : Fin 2816) (n : ℕ) : EReal :=
  if h : n < 2048 then A (ix3 e ⟨n, h⟩ j) else 0

theorem sq_zero (A e j) : sq A e j 0 = 0 := dif_neg (by omega)
theorem sq_one (A e j) : sq A e j 1 = 0 := dif_neg (by omega)
theorem sq_of (A) (e : Fin 2) (j : Fin 2816) (n : ℕ) (s : Fin 2048) (h : n = s.val + 2) : A (ix3 e s j) = sq A e j n := by
  subst h
  unfold sq
  rw [dif_pos ⟨by omega, by omega⟩]
  refine congrArg A (congrArg (ix3 e · j) (Fin.ext ?_))
  dsimp only; omega
theorem tq_of (A) (e : Fin 2) (j : Fin 2816) (s : Fin 2048) : A (ix3 e s j) = tq A e j s.val := by
  unfold tq
  rw [dif_pos s.isLt]
theorem tq_big (A e j) (n : ℕ) (h : 2048 ≤ n) : tq A e j n = 0 := dif_neg (by omega)

theorem PC_at (X2) (e : Fin 2) (s : Fin 2050) (j : Fin 2816) : PC X2 (ix3 e s j) = sq X2 e j s.val := by
  unfold sq
  by_cases h : s.val < 2
  · rw [dif_neg (by omega)]
    pointwise [PC, hlo_ix]
    simp [h]
  · have h' : 2 ≤ s.val ∧ s.val - 2 < 2048 := by omega
    rw [dif_pos h']
    pointwise [PC, hlo_ix]
    simp [h]

theorem P0_at (X2) (e : Fin 2) (s : Fin 2048) (j : Fin 2816) : P0 X2 (ix3 e s j) = sq X2 e j s.val := by
  refine Eq.trans (b := PC X2 (ix3 e ⟨s.val, by omega⟩ j)) ?_ (PC_at _ _ _ _)
  pointwise [P0]
theorem P1_at (X2) (e : Fin 2) (s : Fin 2048) (j : Fin 2816) : P1 X2 (ix3 e s j) = sq X2 e j (1 + s.val) := by
  refine Eq.trans (b := PC X2 (ix3 e ⟨1 + s.val, by omega⟩ j)) ?_ (PC_at _ _ _ _)
  pointwise [P1]
theorem P2_at (X2) (e : Fin 2) (s : Fin 2048) (j : Fin 2816) : P2 X2 (ix3 e s j) = sq X2 e j (2 + s.val) := by
  refine Eq.trans (b := PC X2 (ix3 e ⟨2 + s.val, by omega⟩ j)) ?_ (PC_at _ _ _ _)
  pointwise [P2]

theorem W0_at (X4) (e : Fin 2) (s : Fin 2048) (j : Fin 2816) : W0 X4 (ix3 e s j) = X4 (ix2 (0 : Fin 3) j) := by pointwise [W0, WB]
theorem W1_at (X4) (e : Fin 2) (s : Fin 2048) (j : Fin 2816) : W1 X4 (ix3 e s j) = X4 (ix2 (1 : Fin 3) j) := by pointwise [W1, WB]
theorem W2_at (X4) (e : Fin 2) (s : Fin 2048) (j : Fin 2816) : W2 X4 (ix3 e s j) = X4 (ix2 (2 : Fin 3) j) := by pointwise [W2, WB]
theorem BB_at (X5) (e : Fin 2) (s : Fin 2048) (j : Fin 2816) : BB X5 (ix3 e s j) = X5 (ix2 (0 : Fin 1) j) := by pointwise [BB]

theorem CO_at (X2 X4 X5) (e : Fin 2) (s : Fin 2048) (j : Fin 2816) : CO X2 X4 X5 (ix3 e s j)
    = X5 (ix2 (0 : Fin 1) j) + X4 (ix2 (0 : Fin 3) j) * sq X2 e j s.val + X4 (ix2 (1 : Fin 3) j) * sq X2 e j (1 + s.val)
      + X4 (ix2 (2 : Fin 3) j) * sq X2 e j (2 + s.val) := by
  rw [← BB_at X5 e s j, ← W0_at X4 e s j, ← W1_at X4 e s j, ← W2_at X4 e s j, ← P0_at, ← P1_at, ← P2_at]
  rfl

theorem SG_at (C) (e : Fin 2) (s : Fin 2048) (j : Fin 2816) : SG C (ix3 e s j) = Ideal.logistic (C (ix3 e s j)) := by
  rw [Ideal.logistic, ← one_eq]
  pointwise [SG, ONE]

theorem DG_at (X0 X1) (e : Fin 2) (s : Fin 2048) (j : Fin 2816) : DG X0 X1 (ix3 e s j)
    = ∑ l : Fin 1024, X0 (ix3 e s l) * X1 (ix2 j l) := by
  pointwise [DG]

/-- One element of the gradient of the convolved value, as the reference groups it and as the kernel does. -/
abbrev gr (D B C : EReal) : EReal := D * B * Ideal.logistic C + C * (D * B) * (Ideal.logistic C * (1 - Ideal.logistic C))
abbrev gk (D B C : EReal) : EReal := D * Ideal.logistic C * B * (1 + C * (1 - Ideal.logistic C))

theorem gk_eq (d b : ℝ) (C : EReal) : gk d b C = gr d b C := by
  unfold gk gr
  induction C with
  | bot => simp
  | top =>
    have e : (1 : EReal) - 1 = 0 := by rw [← EReal.coe_one, ← EReal.coe_sub, sub_self, EReal.coe_zero]
    simp only [Ideal.logistic_top, e, mul_zero, mul_one, add_zero]
  | coe r =>
    rw [Ideal.logistic_coe]
    generalize (1 + Real.exp (-r))⁻¹ = s
    norm_cast
    ring

theorem GG_at (X0 X1 X2 X3 X4 X5) (e : Fin 2) (s : Fin 2048) (j : Fin 2816) : GG X0 X1 X2 X3 X4 X5 (ix3 e s j)
    = gr (DG X0 X1 (ix3 e s j)) (X3 (ix3 e s j)) (CO X2 X4 X5 (ix3 e s j)) := by
  unfold gr
  rw [← SG_at, ← one_eq]
  unfold GG
  pointwise [DC, ONE]

theorem Rdb_at (C D) (e : Fin 2) (s : Fin 2048) (j : Fin 2816) : Rdb C D (ix3 e s j)
    = C (ix3 e s j) * Ideal.logistic (C (ix3 e s j)) * D (ix3 e s j) := by
  rw [← SG_at]
  pointwise [Rdb]

theorem z_eq : Ideal.ofBits .f32 0x00000000#32 = (0 : EReal) := by simp [Ideal.ofBits, Ideal.ieee]

theorem pl_at (A : FVec Ideal S2x2048x2816 .f32) (e : Fin 2) (s : Fin 2048) (j : Fin 2816) :
    pad S2x2050x2816 ![0, 2, 0] ![0, 0, 0] ![0, 0, 0] A (constant S_ .f32 0x00000000#32) pads_S2x2048x2816_S2x2050x2816_000_200_000 h_S_ (ix3 e (⟨2 + s.val, by omega⟩ : Fin 2050) j)
      = A (ix3 e s j) := by
  pointwise [hlo_ix]
theorem pm_at (A : FVec Ideal S2x2048x2816 .f32) (e : Fin 2) (s : Fin 2048) (j : Fin 2816) :
    pad S2x2050x2816 ![0, 1, 0] ![0, 1, 0] ![0, 0, 0] A (constant S_ .f32 0x00000000#32) pads_S2x2048x2816_S2x2050x2816_000_110_000 h_S_ (ix3 e (⟨2 + s.val, by omega⟩ : Fin 2050) j)
      = tq A e j (s.val + 1) := by
  unfold tq
  pointwise [hlo_ix]
  simp
  by_cases h : s.val + 1 < 2048
  · rw [dif_pos ⟨by omega, by omega⟩, dif_pos h]
    refine congrArg A (congrArg (ix3 e · j) (Fin.ext ?_))
    dsimp only; omega
  · rw [dif_neg (by omega), dif_neg h]
theorem ph_at (A : FVec Ideal S2x2048x2816 .f32) (e : Fin 2) (s : Fin 2048) (j : Fin 2816) :
    pad S2x2050x2816 ![0, 0, 0] ![0, 2, 0] ![0, 0, 0] A (constant S_ .f32 0x00000000#32) pads_S2x2048x2816_S2x2050x2816_000_020_000 h_S_ (ix3 e (⟨2 + s.val, by omega⟩ : Fin 2050) j)
      = tq A e j (s.val + 2) := by
  unfold tq
  by_cases h : s.val + 2 < 2048
  · rw [dif_pos h]
    pointwise [hlo_ix]
    rw [dif_pos (by omega)]
    refine congrArg A (congrArg (ix3 e · j) (Fin.ext ?_))
    dsimp only; omega
  · rw [dif_neg h]
    pointwise [hlo_ix]
    rw [dif_neg (by omega)]

theorem tq_W0 (X4 G) (e : Fin 2) (j : Fin 2816) (n : ℕ) : tq (mulf (W0 X4) G) e j n = X4 (ix2 (0 : Fin 3) j) * tq G e j n := by
  unfold tq
  split
  · exact congrArg₂ _ (W0_at _ _ _ _) rfl
  · exact (mul_zero _).symm
theorem tq_W1 (X4 G) (e : Fin 2) (j : Fin 2816) (n : ℕ) : tq (mulf (W1 X4) G) e j n = X4 (ix2 (1 : Fin 3) j) * tq G e j n := by
  unfold tq
  split
  · exact congrArg₂ _ (W1_at _ _ _ _) rfl
  · exact (mul_zero _).symm

theorem Rda_at (G X4) (e : Fin 2) (s : Fin 2048) (j : Fin 2816) : Rda G X4 (ix3 e s j)
    = X4 (ix2 (2 : Fin 3) j) * G (ix3 e s j) + X4 (ix2 (1 : Fin 3) j) * tq G e j (s.val + 1) + X4 (ix2 (0 : Fin 3) j) * tq G e j (s.val + 2) := by
  rw [← tq_W0, ← tq_W1, ← W2_at X4 e s j, ← pm_at, ← ph_at]
  refine Eq.trans ?_ (congrArg (fun z => z + _ + _) (pl_at (mulf (W2 X4) G) e s j))
  unfold Rda
  generalize pad S2x2050x2816 ![0, 2, 0] ![0, 0, 0] ![0, 0, 0] (mulf (W2 X4) G) _ _ _ = p
  generalize pad S2x2050x2816 ![0, 1, 0] ![0, 1, 0] ![0, 0, 0] (mulf (W1 X4) G) _ _ _ = q
  generalize pad S2x2050x2816 ![0, 0, 0] ![0, 2, 0] ![0, 0, 0] (mulf (W0 X4) G) _ _ _ = r
  pointwise

theorem RS_at (G) (e : Fin 2) (z : Fin 1) (j : Fin 2816) : RS G (ix3 e z j) = ∑ s : Fin 2048, G (ix3 e s j) := by
  pointwise [RS]

theorem Rdw_at (G X2) (e : Fin 2) (k : Fin 3) (j : Fin 2816) : Rdw G X2 (ix3 e k j)
    = ∑ s : Fin 2048, G (ix3 e s j) * sq X2 e j (k.val + s.val) := by
  have h0 : RS (mulf G (P0 X2)) (ix3 e (0 : Fin 1) j) = ∑ s : Fin 2048, G (ix3 e s j) * sq X2 e j (0 + s.val) :=
    (RS_at _ e 0 j).trans (Finset.sum_congr rfl fun s _ => congrArg (G (ix3 e s j) * ·) ((P0_at X2 e s j).trans (congrArg _ (Nat.zero_add _).symm)))
  have h1 : RS (mulf G (P1 X2)) (ix3 e (0 : Fin 1) j) = ∑ s : Fin 2048, G (ix3 e s j) * sq X2 e j (1 + s.val) :=
    (RS_at _ e 0 j).trans (Finset.sum_congr rfl fun s _ => congrArg (G (ix3 e s j) * ·) (P1_at X2 e s j))
  have h2 : RS (mulf G (P2 X2)) (ix3 e (0 : Fin 1) j) = ∑ s : Fin 2048, G (ix3 e s j) * sq X2 e j (2 + s.val) :=
    (RS_at _ e 0 j).trans (Finset.sum_congr rfl fun s _ => congrArg (G (ix3 e s j) * ·) (P2_at X2 e s j))
  unfold Rdw
  generalize RS (mulf G (P0 X2)) = a at h0
  generalize RS (mulf G (P1 X2)) = b at h1
  generalize RS (mulf G (P2 X2)) = c at h2
  fin_cases k
  · refine Eq.trans ?_ h0
    pointwise [hlo_ix]
  · refine Eq.trans ?_ h1
    pointwise [hlo_ix]
  · refine Eq.trans ?_ h2
    pointwise [hlo_ix]

end Cert.ConvBwdRefIdeal

end
-- ==== Proof.ConvVal.lean ====
/- The convolution's backward kernel: each result is the reference's. -/
module

public import proofs.«01_k».proof.Proof.Gen.ConvBwdIdeal.Frame
public import proofs.«01_k».proof.Proof.ConvRef
public import Idealize.ShloMosaic.Lib.Claim
public import Idealize.ShloMosaic.Lib.WordCmp
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ConvBwdIdeal
open Cert.ConvBwdIdeal.Gen
open Cert.ConvBwdRefIdeal (DG CO GG Rda Rdb Rdw RS sq sq_of sq_zero sq_one tq tq_of tq_big gr gk gk_eq one_eq)

variable (m : (ℓ : Loc nD τ sig) → Buf (Elt Ideal) ℓ)

theorem idx : ∀ t : Fin cfg0.N, win0_0.index t = ![t.val / 11, 0, 0] ∧ win0_1.index t = ![t.val % 11, 0] ∧ win0_2.index t = ![t.val / 11, 0, t.val % 11]
    ∧ win0_3.index t = ![t.val / 11, 0, t.val % 11] ∧ win0_4.index t = ![0, t.val % 11] ∧ win0_5.index t = ![0, t.val % 11]
    ∧ win0_6.index t = ![t.val / 11, 0, t.val % 11] ∧ win0_7.index t = ![t.val / 11, 0, t.val % 11]
    ∧ win0_8.index t = ![t.val / 11, 0, t.val % 11] ∧ win0_9.index t = ![t.val / 11, 0, t.val % 11] :=
  (by decide +kernel : ∀ t : Fin grid0.N, _)

theorem lt22 (t : Fin cfg0.N) : t.val < 22 := lt_of_lt_of_eq t.isLt N_0

/-- A point's example, and its channels in the whole array. -/
abbrev eb (t : Fin cfg0.N) : Fin 2 := ⟨t.val / 11, by have := lt22 t; omega⟩
abbrev cj (t : Fin cfg0.N) (j : Fin 256) : Fin 2816 := ⟨t.val % 11 * 256 + j.val, by omega⟩

/-! ## The body's values, element by element -/

theorem p7 (v) (i : Fin 2048) (j : Fin 256) : k0_pay7 (F := Ideal) v (ix2 i j) = v (ix3 (0 : Fin 1) i j) := by pointwise [k0_pay7]

theorem u1_hi (v) (i : Fin 2040) (j : Fin 256) : k0_pay8 (F := Ideal) v (ix2 (⟨8 + i.val, by omega⟩ : Fin 2048) j) = k0_pay7 v (ix2 (⟨7 + i.val, by omega⟩ : Fin 2048) j) := by
  have e : (8 + i.val + 2048 - 1) % 2048 = 7 + i.val := by omega
  pointwise [k0_pay8, hlo_ix]
  simp only [e]

theorem u1_lo (v) (i : Fin 8) (j : Fin 256) (f : ℕ → EReal) (hf : ∀ r : Fin 2048, k0_pay7 v (ix2 r j) = f (r.val + 2)) (f1 : f 1 = 0) :
    k0_pay8 (F := Ideal) v (ix2 (⟨i.val, by omega⟩ : Fin 2048) j) = f (i.val + 1) := by
  pointwise [k0_pay8, hlo_ix]
  rw [hf]
  fin_cases i
  · rw [Scalar.select, if_neg (by decide)]; exact f1.symm
  all_goals (rw [Scalar.select, if_pos (by decide)]; try rfl)

theorem u1 (v) (i : Fin 2048) (j : Fin 256) (f : ℕ → EReal) (hf : ∀ r : Fin 2048, k0_pay7 v (ix2 r j) = f (r.val + 2)) (f1 : f 1 = 0) :
    k0_pay8 (F := Ideal) v (ix2 i j) = f (i.val + 1) := by
  by_cases h : i.val < 8
  · exact u1_lo v ⟨i.val, h⟩ j f hf f1
  · have e : i = (⟨8 + (⟨i.val - 8, by omega⟩ : Fin 2040).val, by omega⟩ : Fin 2048) := Fin.ext (by dsimp only; omega)
    rw [e, u1_hi, hf]
    refine congrArg f ?_
    dsimp only; omega

theorem u2_hi (v) (i : Fin 2040) (j : Fin 256) : k0_pay9 (F := Ideal) v (ix2 (⟨8 + i.val, by omega⟩ : Fin 2048) j) = k0_pay7 v (ix2 (⟨6 + i.val, by omega⟩ : Fin 2048) j) := by
  have e : (8 + i.val + 2048 - 2) % 2048 = 6 + i.val := by omega
  pointwise [k0_pay9, hlo_ix]
  simp only [e]

theorem u2_lo (v) (i : Fin 8) (j : Fin 256) (f : ℕ → EReal) (hf : ∀ r : Fin 2048, k0_pay7 v (ix2 r j) = f (r.val + 2)) (f0 : f 0 = 0) (f1 : f 1 = 0) :
    k0_pay9 (F := Ideal) v (ix2 (⟨i.val, by omega⟩ : Fin 2048) j) = f i.val := by
  pointwise [k0_pay9, hlo_ix]
  rw [hf]
  fin_cases i
  · rw [Scalar.select, if_neg (by decide)]; exact f0.symm
  · rw [Scalar.select, if_neg (by decide)]; exact f1.symm
  all_goals (rw [Scalar.select, if_pos (by decide)]; try rfl)

theorem u2 (v) (i : Fin 2048) (j : Fin 256) (f : ℕ → EReal) (hf : ∀ r : Fin 2048, k0_pay7 v (ix2 r j) = f (r.val + 2)) (f0 : f 0 = 0) (f1 : f 1 = 0) :
    k0_pay9 (F := Ideal) v (ix2 i j) = f i.val := by
  by_cases h : i.val < 8
  · exact u2_lo v ⟨i.val, h⟩ j f hf f0 f1
  · have e : i = (⟨8 + (⟨i.val - 8, by omega⟩ : Fin 2040).val, by omega⟩ : Fin 2048) := Fin.ext (by dsimp only; omega)
    rw [e, u2_hi, hf]
    refine congrArg f ?_
    dsimp only; omega

theorem p12 (v w u) (i : Fin 2048) (j : Fin 256) : k0_pay12 (F := Ideal) (k0_pay10 v w u) (k0_pay11 v w) (ix2 i j)
    = u (ix2 (0 : Fin 1) j) + w (ix2 (0 : Fin 3) j) * k0_pay9 v (ix2 i j) + w (ix2 (1 : Fin 3) j) * k0_pay8 v (ix2 i j) + w (ix2 (2 : Fin 3) j) * k0_pay7 v (ix2 i j) := by
  pointwise [k0_pay12, k0_pay10, k0_pay11]

theorem p15 (d p q) (z : Fin 1) (i : Fin 2048) (j : Fin 256) : k0_pay15 (F := Ideal) d p q (ix3 z i j)
    = d (ix2 i j) * Ideal.logistic (k0_pay12 p q (ix2 i j)) * k0_pay12 p q (ix2 i j) := by
  pointwise [k0_pay15, k0_pay14, k0_pay13]

theorem p16 (d p q b) (i : Fin 2048) (j : Fin 256) : k0_pay16 (F := Ideal) d p q b (ix2 i j)
    = gk (d (ix2 i j)) (b (ix3 (0 : Fin 1) i j)) (k0_pay12 p q (ix2 i j)) := by
  unfold gk
  rw [← one_eq]
  pointwise [k0_pay16, k0_pay14, k0_pay13]

theorem p1 (v u w) (z : Fin 1) (i : Fin 2048) (j : Fin 256) : k0_pay1 (F := Ideal) v u w (ix3 z i j) = v (ix2 i j) + w (ix2 i j) * u (ix2 i j) := by pointwise [k0_pay1]
theorem p19 (w) (i : Fin 2048) (j : Fin 256) : k0_pay19 (F := Ideal) w (ix2 i j) = w (ix2 (0 : Fin 3) j) := by pointwise [k0_pay19]
theorem p2 (a g) (z y : Fin 1) (j : Fin 256) : k0_pay2 (F := Ideal) a g (ix3 z y j) = ∑ r : Fin 2048, g (ix2 r j) * a (ix2 r j) := by pointwise [k0_pay2]
theorem p3 (a g) (z y : Fin 1) (j : Fin 256) : k0_pay3 (F := Ideal) a g (ix3 z y j) = ∑ r : Fin 2048, g (ix2 r j) * a (ix2 r j) := by pointwise [k0_pay3]
theorem p4 (a g) (z y : Fin 1) (j : Fin 256) : k0_pay4 (F := Ideal) a g (ix3 z y j) = ∑ r : Fin 2048, g (ix2 r j) * a (ix2 r j) := by pointwise [k0_pay4]
theorem p5 (g) (z y : Fin 1) (j : Fin 256) : k0_pay5 (F := Ideal) g (ix3 z y j) = ∑ r : Fin 2048, g (ix2 r j) := by pointwise [k0_pay5]

theorem d1_lo (d w p q b) (i : Fin 2040) (j : Fin 256) : k0_pay17 (F := Ideal) d w p q b (ix2 (⟨i.val, by omega⟩ : Fin 2048) j)
    = w (ix2 (2 : Fin 3) j) * k0_pay16 d p q b (ix2 (⟨i.val, by omega⟩ : Fin 2048) j) + w (ix2 (1 : Fin 3) j) * k0_pay16 d p q b (ix2 (⟨i.val + 1, by omega⟩ : Fin 2048) j) := by
  have e : (i.val + 2048 - 2047) % 2048 = i.val + 1 := by omega
  have h : i.val < 2040 := i.isLt
  pointwise [k0_pay17, hlo_ix]
  simp only [e]

theorem d1_hi (d w p q b) (i : Fin 8) (j : Fin 256) (g : ℕ → EReal) (hg : ∀ r : Fin 2048, k0_pay16 (F := Ideal) d p q b (ix2 r j) = g r.val) (hz : ∀ n, 2048 ≤ n → g n = 0) :
    k0_pay17 (F := Ideal) d w p q b (ix2 (⟨2040 + i.val, by omega⟩ : Fin 2048) j) = w (ix2 (2 : Fin 3) j) * k0_pay16 d p q b (ix2 (⟨2040 + i.val, by omega⟩ : Fin 2048) j) + w (ix2 (1 : Fin 3) j) * g (2040 + i.val + 1) := by
  pointwise [k0_pay17, hlo_ix]
  simp only [hg]
  refine congrArg (w (ix2 (2 : Fin 3) j) * g (2040 + i.val) + ·) ?_
  fin_cases i
  all_goals first
    | (rw [Scalar.select, if_neg (by decide)]; exact ((congrArg _ (hz _ (by decide))).trans (mul_zero _)).symm)
    | (rw [Scalar.select, if_pos (by decide)]; rfl)

theorem d1 (d w p q b) (i : Fin 2048) (j : Fin 256) (g : ℕ → EReal) (hg : ∀ r : Fin 2048, k0_pay16 (F := Ideal) d p q b (ix2 r j) = g r.val) (hz : ∀ n, 2048 ≤ n → g n = 0) :
    k0_pay17 (F := Ideal) d w p q b (ix2 i j) = w (ix2 (2 : Fin 3) j) * k0_pay16 d p q b (ix2 i j) + w (ix2 (1 : Fin 3) j) * g (i.val + 1) := by
  by_cases h : i.val < 2040
  · exact (d1_lo d w p q b ⟨i.val, h⟩ j).trans (congrArg (w (ix2 (2 : Fin 3) j) * k0_pay16 d p q b (ix2 i j) + w (ix2 (1 : Fin 3) j) * ·) (hg _))
  · have key : ∀ (r : Fin 8) (i : Fin 2048), i.val = 2040 + r.val → k0_pay17 (F := Ideal) d w p q b (ix2 i j) = w (ix2 (2 : Fin 3) j) * k0_pay16 d p q b (ix2 i j) + w (ix2 (1 : Fin 3) j) * g (i.val + 1) := by
      rintro r ⟨_, _⟩ rfl
      exact d1_hi d w p q b r j g hg hz
    exact key ⟨i.val - 2040, by omega⟩ i (by dsimp only; omega)

theorem d2_lo (d p q b) (i : Fin 2040) (j : Fin 256) : k0_pay18 (F := Ideal) d p q b (ix2 (⟨i.val, by omega⟩ : Fin 2048) j)
    = k0_pay16 d p q b (ix2 (⟨i.val + 2, by omega⟩ : Fin 2048) j) := by
  have e : (i.val + 2048 - 2046) % 2048 = i.val + 2 := by omega
  have h : i.val < 2040 := i.isLt
  pointwise [k0_pay18, hlo_ix]
  simp only [e]

theorem d2_hi (d p q b) (i : Fin 8) (j : Fin 256) (g : ℕ → EReal) (hg : ∀ r : Fin 2048, k0_pay16 (F := Ideal) d p q b (ix2 r j) = g r.val) (hz : ∀ n, 2048 ≤ n → g n = 0) :
    k0_pay18 (F := Ideal) d p q b (ix2 (⟨2040 + i.val, by omega⟩ : Fin 2048) j) = g (2040 + i.val + 2) := by
  pointwise [k0_pay18, hlo_ix]
  simp only [hg]
  fin_cases i
  all_goals first
    | (rw [Scalar.select, if_neg (by decide)]; exact (hz _ (by decide)).symm)
    | (rw [Scalar.select, if_pos (by decide)]; rfl)

theorem d2 (d p q b) (i : Fin 2048) (j : Fin 256) (g : ℕ → EReal) (hg : ∀ r : Fin 2048, k0_pay16 (F := Ideal) d p q b (ix2 r j) = g r.val) (hz : ∀ n, 2048 ≤ n → g n = 0) :
    k0_pay18 (F := Ideal) d p q b (ix2 i j) = g (i.val + 2) := by
  by_cases h : i.val < 2040
  · exact (d2_lo d p q b ⟨i.val, h⟩ j).trans (hg _)
  · have key : ∀ (r : Fin 8) (i : Fin 2048), i.val = 2040 + r.val → k0_pay18 (F := Ideal) d p q b (ix2 i j) = g (i.val + 2) := by
      rintro r ⟨_, _⟩ rfl
      exact d2_hi d p q b r j g hg hz
    exact key ⟨i.val - 2040, by omega⟩ i (by dsimp only; omega)

theorem ld0 (x : Vec Ideal S1x2048x1024 .bf16) (z : Fin 1) (i : Fin 2048) (l : Fin 1024) : View.ld x r0_0 (ix3 z i l) = x (ix3 z i l) := by
  refine View.ld_unit_apply_of _ _ _ _ _ _ fun a => ?_
  fin_cases a <;> simp
theorem ld1 (x : Vec Ideal S256x1024 .bf16) (i : Fin 256) (l : Fin 1024) : View.ld x r0_1 (ix2 i l) = x (ix2 i l) := by
  refine View.ld_unit_apply_of _ _ _ _ _ _ fun a => ?_
  fin_cases a <;> simp
theorem ld2 (x : Vec Ideal S1x2048x256 .bf16) (z : Fin 1) (i : Fin 2048) (l : Fin 256) : View.ld x r0_2 (ix3 z i l) = x (ix3 z i l) := by
  refine View.ld_unit_apply_of _ _ _ _ _ _ fun a => ?_
  fin_cases a <;> simp
theorem ld3 (x : Vec Ideal S3x256 .f32) (i : Fin 3) (l : Fin 256) : View.ld x r0_3 (ix2 i l) = x (ix2 i l) := by
  refine View.ld_unit_apply_of _ _ _ _ _ _ fun a => ?_
  fin_cases a <;> simp
theorem ld4 (x : Vec Ideal S1x256 .f32) (i : Fin 1) (l : Fin 256) : View.ld x r0_4 (ix2 i l) = x (ix2 i l) := by
  refine View.ld_unit_apply_of _ _ _ _ _ _ fun a => ?_
  fin_cases a <;> simp

theorem p6 (x y) (i : Fin 2048) (j : Fin 256) : k0_pay6 (F := Ideal) (View.ld x r0_0) (View.ld y r0_1) (ix2 i j)
    = ∑ l : Fin 1024, x (ix3 (0 : Fin 1) i l) * y (ix2 j l) := by
  refine Eq.trans (b := ∑ l : Fin 1024, View.ld x r0_0 (ix3 (0 : Fin 1) i l) * View.ld y r0_1 (ix2 j l)) ?_
    (Finset.sum_congr rfl fun l _ => by rw [ld0, ld1])
  generalize View.ld x r0_0 = u
  generalize View.ld y r0_1 = v
  pointwise [k0_pay6]

/-! ## A point's blocks in the whole arrays -/

theorem av (c : Dev nD) (t : Fin cfg0.N) (s : Fin 2048) (j : Fin 256) :
    ∑ l : Fin 1024, (show FVec Ideal S1x2048x1024 .bf16 from iblk m c 0 t) (ix3 (0 : Fin 1) s l) * (show FVec Ideal S256x1024 .bf16 from iblk m c 1 t) (ix2 j l)
      = DG (V m c main_arg0) (V m c main_arg1) (ix3 (eb t) s (cj t j)) := by
  rw [Cert.ConvBwdRefIdeal.DG_at]
  refine Finset.sum_congr rfl fun l _ => ?_
  blk_point [iblk, V, idx t]

theorem xa (c : Dev nD) (t : Fin cfg0.N) (z : Fin 1) (s : Fin 2048) (j : Fin 256) : View.ld (iblk m c 2 t) r0_2 (ix3 z s j)
    = (show FVec Ideal S2x2048x2816 .bf16 from V m c main_arg2) (ix3 (eb t) s (cj t j)) := by
  obtain rfl : z = 0 := Subsingleton.elim _ _
  rw [ld2]; blk_point [iblk, V, idx t]
theorem xb (c : Dev nD) (t : Fin cfg0.N) (z : Fin 1) (s : Fin 2048) (j : Fin 256) : View.ld (iblk m c 3 t) r0_2 (ix3 z s j)
    = (show FVec Ideal S2x2048x2816 .bf16 from V m c main_arg3) (ix3 (eb t) s (cj t j)) := by
  obtain rfl : z = 0 := Subsingleton.elim _ _
  rw [ld2]; blk_point [iblk, V, idx t]
theorem cwv (c : Dev nD) (t : Fin cfg0.N) (k : Fin 3) (j : Fin 256) : View.ld (iblk m c 4 t) r0_3 (ix2 k j)
    = (show FVec Ideal S3x2816 .f32 from V m c main_arg4) (ix2 k (cj t j)) := by
  rw [ld3]; blk_point [iblk, V, idx t]
theorem cbv (c : Dev nD) (t : Fin cfg0.N) (k : Fin 1) (j : Fin 256) : View.ld (iblk m c 5 t) r0_4 (ix2 k j)
    = (show FVec Ideal S1x2816 .f32 from V m c main_arg5) (ix2 k (cj t j)) := by
  rw [ld4]; blk_point [iblk, V, idx t]

attribute [local irreducible] DG CO GG Rda Rdb Rdw RS

theorem a0 (c : Dev nD) (t : Fin cfg0.N) (j : Fin 256) (r : Fin 2048) : k0_pay7 (F := Ideal) (View.ld (iblk m c 2 t) r0_2) (ix2 r j)
    = sq (V m c main_arg2) (eb t) (cj t j) (r.val + 2) :=
  (p7 _ r j).trans ((xa m c t 0 r j).trans (sq_of _ _ _ _ _ rfl))
theorem a1 (c : Dev nD) (t : Fin cfg0.N) (j : Fin 256) (r : Fin 2048) : k0_pay8 (F := Ideal) (View.ld (iblk m c 2 t) r0_2) (ix2 r j)
    = sq (V m c main_arg2) (eb t) (cj t j) (r.val + 1) :=
  u1 _ r j _ (a0 m c t j) (sq_one _ _ _)
theorem a2 (c : Dev nD) (t : Fin cfg0.N) (j : Fin 256) (r : Fin 2048) : k0_pay9 (F := Ideal) (View.ld (iblk m c 2 t) r0_2) (ix2 r j)
    = sq (V m c main_arg2) (eb t) (cj t j) r.val :=
  u2 _ r j _ (a0 m c t j) (sq_zero _ _ _) (sq_one _ _ _)

/-- The product, the convolved value and its gradient at a point. -/
theorem Dv (c : Dev nD) (t : Fin cfg0.N) (i : Fin 2048) (j : Fin 256) : k0_pay20 (F := Ideal) (iblk m c 0 t) (iblk m c 1 t) (iblk m c 2 t) (iblk m c 3 t) (iblk m c 4 t) (iblk m c 5 t) (ix2 i j) = (DG (V m c main_arg0) (V m c main_arg1)) (ix3 (eb t) i (cj t j)) :=
  (p6 _ _ i j).trans (av m c t i j)

theorem Cv (c : Dev nD) (t : Fin cfg0.N) (i : Fin 2048) (j : Fin 256) : k0_pay12 (F := Ideal) (k0_pay21 (iblk m c 0 t) (iblk m c 1 t) (iblk m c 2 t) (iblk m c 3 t) (iblk m c 4 t) (iblk m c 5 t)) (k0_pay22 (iblk m c 0 t) (iblk m c 1 t) (iblk m c 2 t) (iblk m c 3 t) (iblk m c 4 t) (iblk m c 5 t)) (ix2 i j)
    = (CO (V m c main_arg2) (V m c main_arg4) (V m c main_arg5)) (ix3 (eb t) i (cj t j)) := by
  refine (p12 _ _ _ i j).trans ?_
  rw [Cert.ConvBwdRefIdeal.CO_at]
  refine congrArg₂ _ (congrArg₂ _ (congrArg₂ _ (cbv m c t 0 j) (congrArg₂ _ (cwv m c t 0 j) (a2 m c t j i))) (congrArg₂ _ (cwv m c t 1 j) ((a1 m c t j i).trans (congrArg _ ?_)))) (congrArg₂ _ (cwv m c t 2 j) ((a0 m c t j i).trans (congrArg _ ?_)))
  all_goals omega

/-- What is finite: the product's elements and the gated half's. -/
def Fin6 (c : Dev nD) : Prop :=
  (∀ e s j, ∃ r : ℝ, (DG (V m c main_arg0) (V m c main_arg1)) (ix3 e s j) = r) ∧ (∀ e s j, ∃ r : ℝ, (show FVec Ideal S2x2048x2816 .bf16 from V m c main_arg3) (ix3 e s j) = r)

theorem Gv (c : Dev nD) (hf : Fin6 m c) (t : Fin cfg0.N) (i : Fin 2048) (j : Fin 256) : k0_pay23 (F := Ideal) (iblk m c 0 t) (iblk m c 1 t) (iblk m c 2 t) (iblk m c 3 t) (iblk m c 4 t) (iblk m c 5 t) (ix2 i j)
    = (GG (V m c main_arg0) (V m c main_arg1) (V m c main_arg2) (V m c main_arg3) (V m c main_arg4) (V m c main_arg5)) (ix3 (eb t) i (cj t j)) := by
  obtain ⟨d, hd⟩ := hf.1 (eb t) i (cj t j)
  obtain ⟨b, hb⟩ := hf.2 (eb t) i (cj t j)
  refine (p16 _ _ _ _ i j).trans ?_
  rw [Cert.ConvBwdRefIdeal.GG_at]
  refine Eq.trans (b := gk d b ((CO (V m c main_arg2) (V m c main_arg4) (V m c main_arg5)) (ix3 (eb t) i (cj t j)))) ?_ ((gk_eq d b _).trans ?_)
  · rw [Cv m c t i j]
    exact congrArg₂ (fun D B => gk D B _) ((Dv m c t i j).trans hd) ((xb m c t 0 i j).trans hb)
  · exact congrArg₂ (fun D B => gr D B _) hd.symm hb.symm

theorem Gt (c : Dev nD) (hf : Fin6 m c) (t : Fin cfg0.N) (j : Fin 256) (r : Fin 2048) : k0_pay16 (F := Ideal) (k0_pay20 (iblk m c 0 t) (iblk m c 1 t) (iblk m c 2 t) (iblk m c 3 t) (iblk m c 4 t) (iblk m c 5 t)) (k0_pay21 (iblk m c 0 t) (iblk m c 1 t) (iblk m c 2 t) (iblk m c 3 t) (iblk m c 4 t) (iblk m c 5 t)) (k0_pay22 (iblk m c 0 t) (iblk m c 1 t) (iblk m c 2 t) (iblk m c 3 t) (iblk m c 4 t) (iblk m c 5 t)) (View.ld (iblk m c 3 t) r0_2) (ix2 r j)
    = tq (GG (V m c main_arg0) (V m c main_arg1) (V m c main_arg2) (V m c main_arg3) (V m c main_arg4) (V m c main_arg5)) (eb t) (cj t j) r.val :=
  (Gv m c hf t r j).trans (tq_of _ _ _ _)

/-! ## The four results at a point -/

theorem R6 (c : Dev nD) (hf : Fin6 m c) (t : Fin cfg0.N) (z : Fin 1) (i : Fin 2048) (j : Fin 256) :
    k0_pay1 (F := Ideal) (k0_pay17 (k0_pay20 (iblk m c 0 t) (iblk m c 1 t) (iblk m c 2 t) (iblk m c 3 t) (iblk m c 4 t) (iblk m c 5 t)) (View.ld (iblk m c 4 t) r0_3) (k0_pay21 (iblk m c 0 t) (iblk m c 1 t) (iblk m c 2 t) (iblk m c 3 t) (iblk m c 4 t) (iblk m c 5 t)) (k0_pay22 (iblk m c 0 t) (iblk m c 1 t) (iblk m c 2 t) (iblk m c 3 t) (iblk m c 4 t) (iblk m c 5 t)) (View.ld (iblk m c 3 t) r0_2)) (k0_pay18 (k0_pay20 (iblk m c 0 t) (iblk m c 1 t) (iblk m c 2 t) (iblk m c 3 t) (iblk m c 4 t) (iblk m c 5 t)) (k0_pay21 (iblk m c 0 t) (iblk m c 1 t) (iblk m c 2 t) (iblk m c 3 t) (iblk m c 4 t) (iblk m c 5 t)) (k0_pay22 (iblk m c 0 t) (iblk m c 1 t) (iblk m c 2 t) (iblk m c 3 t) (iblk m c 4 t) (iblk m c 5 t)) (View.ld (iblk m c 3 t) r0_2)) (k0_pay19 (View.ld (iblk m c 4 t) r0_3)) (ix3 z i j)
    = Rda (GG (V m c main_arg0) (V m c main_arg1) (V m c main_arg2) (V m c main_arg3) (V m c main_arg4) (V m c main_arg5)) (V m c main_arg4) (ix3 (eb t) i (cj t j)) := by
  have hz : ∀ n, 2048 ≤ n → tq (GG (V m c main_arg0) (V m c main_arg1) (V m c main_arg2) (V m c main_arg3) (V m c main_arg4) (V m c main_arg5)) (eb t) (cj t j) n = 0 := fun n h => tq_big _ _ _ n h
  refine (p1 _ _ _ z i j).trans ?_
  rw [Cert.ConvBwdRefIdeal.Rda_at]
  refine congrArg₂ _ ((d1 _ _ _ _ _ i j _ (Gt m c hf t j) hz).trans (congrArg₂ _ (congrArg₂ _ (cwv m c t 2 j) (Gv m c hf t i j)) (congrArg₂ _ (cwv m c t 1 j) rfl)))
    (congrArg₂ _ ((p19 _ i j).trans (cwv m c t 0 j)) (d2 _ _ _ _ i j _ (Gt m c hf t j) hz))

theorem R7 (c : Dev nD) (t : Fin cfg0.N) (z : Fin 1) (i : Fin 2048) (j : Fin 256) :
    k0_pay15 (F := Ideal) (k0_pay20 (iblk m c 0 t) (iblk m c 1 t) (iblk m c 2 t) (iblk m c 3 t) (iblk m c 4 t) (iblk m c 5 t)) (k0_pay21 (iblk m c 0 t) (iblk m c 1 t) (iblk m c 2 t) (iblk m c 3 t) (iblk m c 4 t) (iblk m c 5 t)) (k0_pay22 (iblk m c 0 t) (iblk m c 1 t) (iblk m c 2 t) (iblk m c 3 t) (iblk m c 4 t) (iblk m c 5 t)) (ix3 z i j)
    = Rdb (CO (V m c main_arg2) (V m c main_arg4) (V m c main_arg5)) (DG (V m c main_arg0) (V m c main_arg1)) (ix3 (eb t) i (cj t j)) := by
  refine (p15 _ _ _ z i j).trans ?_
  rw [Cert.ConvBwdRefIdeal.Rdb_at, Cv m c t i j, Dv m c t i j, mul_assoc, mul_comm, mul_comm (Ideal.logistic _)]

theorem R9 (c : Dev nD) (hf : Fin6 m c) (t : Fin cfg0.N) (z i : Fin 1) (j : Fin 256) :
    k0_pay5 (F := Ideal) (k0_pay23 (iblk m c 0 t) (iblk m c 1 t) (iblk m c 2 t) (iblk m c 3 t) (iblk m c 4 t) (iblk m c 5 t)) (ix3 z i j) = RS (GG (V m c main_arg0) (V m c main_arg1) (V m c main_arg2) (V m c main_arg3) (V m c main_arg4) (V m c main_arg5)) (ix3 (eb t) i (cj t j)) :=
  (p5 _ z i j).trans ((Finset.sum_congr rfl fun r _ => Gv m c hf t r j).trans (Cert.ConvBwdRefIdeal.RS_at _ _ _ _).symm)

theorem R8_2 (c : Dev nD) (hf : Fin6 m c) (t : Fin cfg0.N) (z i : Fin 1) (j : Fin 256) :
    k0_pay4 (F := Ideal) (k0_pay7 (View.ld (iblk m c 2 t) r0_2)) (k0_pay23 (iblk m c 0 t) (iblk m c 1 t) (iblk m c 2 t) (iblk m c 3 t) (iblk m c 4 t) (iblk m c 5 t)) (ix3 z i j) = Rdw (GG (V m c main_arg0) (V m c main_arg1) (V m c main_arg2) (V m c main_arg3) (V m c main_arg4) (V m c main_arg5)) (V m c main_arg2) (ix3 (eb t) (2 : Fin 3) (cj t j)) :=
  (p4 _ _ z i j).trans ((Finset.sum_congr rfl fun r _ => congrArg₂ _ (Gv m c hf t r j) ((a0 m c t j r).trans (congrArg _ (by show _ = 2 + r.val; omega)))).trans (Cert.ConvBwdRefIdeal.Rdw_at _ _ _ _ _).symm)

theorem R8_1 (c : Dev nD) (hf : Fin6 m c) (t : Fin cfg0.N) (z i : Fin 1) (j : Fin 256) :
    k0_pay3 (F := Ideal) (k0_pay8 (View.ld (iblk m c 2 t) r0_2)) (k0_pay23 (iblk m c 0 t) (iblk m c 1 t) (iblk m c 2 t) (iblk m c 3 t) (iblk m c 4 t) (iblk m c 5 t)) (ix3 z i j) = Rdw (GG (V m c main_arg0) (V m c main_arg1) (V m c main_arg2) (V m c main_arg3) (V m c main_arg4) (V m c main_arg5)) (V m c main_arg2) (ix3 (eb t) (1 : Fin 3) (cj t j)) :=
  (p3 _ _ z i j).trans ((Finset.sum_congr rfl fun r _ => congrArg₂ _ (Gv m c hf t r j) ((a1 m c t j r).trans (congrArg _ (by show _ = 1 + r.val; omega)))).trans (Cert.ConvBwdRefIdeal.Rdw_at _ _ _ _ _).symm)

theorem R8_0 (c : Dev nD) (hf : Fin6 m c) (t : Fin cfg0.N) (z i : Fin 1) (j : Fin 256) :
    k0_pay2 (F := Ideal) (k0_pay9 (View.ld (iblk m c 2 t) r0_2)) (k0_pay23 (iblk m c 0 t) (iblk m c 1 t) (iblk m c 2 t) (iblk m c 3 t) (iblk m c 4 t) (iblk m c 5 t)) (ix3 z i j) = Rdw (GG (V m c main_arg0) (V m c main_arg1) (V m c main_arg2) (V m c main_arg3) (V m c main_arg4) (V m c main_arg5)) (V m c main_arg2) (ix3 (eb t) (0 : Fin 3) (cj t j)) :=
  (p2 _ _ z i j).trans ((Finset.sum_congr rfl fun r _ => congrArg₂ _ (Gv m c hf t r j) ((a2 m c t j r).trans (congrArg _ (by show _ = 0 + r.val; omega)))).trans (Cert.ConvBwdRefIdeal.Rdw_at _ _ _ _ _).symm)

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23

theorem point_6 (c : Dev nD) (hf : Fin6 m c) (t : Fin cfg0.N) (y) : out0_6 (iblk m c 0 t) (iblk m c 1 t) (iblk m c 2 t) (iblk m c 3 t) (iblk m c 4 t) (iblk m c 5 t) y = Rda (GG (V m c main_arg0) (V m c main_arg1) (V m c main_arg2) (V m c main_arg3) (V m c main_arg4) (V m c main_arg5)) (V m c main_arg4) (((cfg0.win 6).blk t).view.emb y) := by
  have ht := lt22 t
  unfold out0_6
  canon_tiles x h
  all_goals
    obtain ⟨z, i, j, rfl⟩ : ∃ (z : Fin 1) (i : Fin 2048) (j : Fin 256), x = ix3 z i j := ⟨x 0, x 1, x 2, by funext a; fin_cases a <;> rfl⟩
    refine (R6 m c hf t z i j).trans (congrArg _ ?_)
    funext a; fin_cases a <;> refine Fin.ext ?_ <;> blk_simp [idx t] <;> simp at * <;> omega

theorem final_6 (c : Dev nD) (hf : Fin6 m c) : (dats m 0 c).arrAt 6 (cfgs 0).N = Rda (GG (V m c main_arg0) (V m c main_arg1) (V m c main_arg2) (V m c main_arg3) (V m c main_arg4) (V m c main_arg5)) (V m c main_arg4) := by
  refine (dats m 0 c).arrAt_eq_of_covers 6 _ (by decide +kernel) fun t hb y => ?_
  blk_simp
  show (dats m 0 c).after 6 t y = _
  rw [after0_6]
  exact point_6 m c hf t y

theorem point_7 (c : Dev nD) (t : Fin cfg0.N) (y) : out0_7 (iblk m c 0 t) (iblk m c 1 t) (iblk m c 2 t) (iblk m c 3 t) (iblk m c 4 t) (iblk m c 5 t) y = Rdb (CO (V m c main_arg2) (V m c main_arg4) (V m c main_arg5)) (DG (V m c main_arg0) (V m c main_arg1)) (((cfg0.win 7).blk t).view.emb y) := by
  have ht := lt22 t
  unfold out0_7
  canon_tiles x h
  all_goals
    obtain ⟨z, i, j, rfl⟩ : ∃ (z : Fin 1) (i : Fin 2048) (j : Fin 256), x = ix3 z i j := ⟨x 0, x 1, x 2, by funext a; fin_cases a <;> rfl⟩
    refine (R7 m c t z i j).trans (congrArg _ ?_)
    funext a; fin_cases a <;> refine Fin.ext ?_ <;> blk_simp [idx t] <;> simp at * <;> omega

theorem final_7 (c : Dev nD) : (dats m 0 c).arrAt 7 (cfgs 0).N = Rdb (CO (V m c main_arg2) (V m c main_arg4) (V m c main_arg5)) (DG (V m c main_arg0) (V m c main_arg1)) := by
  refine (dats m 0 c).arrAt_eq_of_covers 7 _ (by decide +kernel) fun t hb y => ?_
  blk_simp
  show (dats m 0 c).after 7 t y = _
  rw [after0_7]
  exact point_7 m c t y

theorem point_8 (c : Dev nD) (hf : Fin6 m c) (t : Fin cfg0.N) (y) : out0_8 (iblk m c 0 t) (iblk m c 1 t) (iblk m c 2 t) (iblk m c 3 t) (iblk m c 4 t) (iblk m c 5 t) y = Rdw (GG (V m c main_arg0) (V m c main_arg1) (V m c main_arg2) (V m c main_arg3) (V m c main_arg4) (V m c main_arg5)) (V m c main_arg2) (((cfg0.win 8).blk t).view.emb y) := by
  have ht := lt22 t
  unfold out0_8
  canon_tiles x h
  all_goals
    obtain ⟨z, i, j, rfl⟩ : ∃ (z : Fin 1) (i : Fin 1) (j : Fin 256), x = ix3 z i j := ⟨x 0, x 1, x 2, by funext a; fin_cases a <;> rfl⟩
    first | refine (R8_2 m c hf t z i j).trans (congrArg _ ?_) | refine (R8_1 m c hf t z i j).trans (congrArg _ ?_) | refine (R8_0 m c hf t z i j).trans (congrArg _ ?_)
    funext a; fin_cases a <;> refine Fin.ext ?_ <;> blk_simp [idx t] <;> simp at * <;> omega

theorem final_8 (c : Dev nD) (hf : Fin6 m c) : (dats m 0 c).arrAt 8 (cfgs 0).N = Rdw (GG (V m c main_arg0) (V m c main_arg1) (V m c main_arg2) (V m c main_arg3) (V m c main_arg4) (V m c main_arg5)) (V m c main_arg2) := by
  refine (dats m 0 c).arrAt_eq_of_covers 8 _ (by decide +kernel) fun t hb y => ?_
  blk_simp
  show (dats m 0 c).after 8 t y = _
  rw [after0_8]
  exact point_8 m c hf t y

theorem point_9 (c : Dev nD) (hf : Fin6 m c) (t : Fin cfg0.N) (y) : out0_9 (iblk m c 0 t) (iblk m c 1 t) (iblk m c 2 t) (iblk m c 3 t) (iblk m c 4 t) (iblk m c 5 t) y = RS (GG (V m c main_arg0) (V m c main_arg1) (V m c main_arg2) (V m c main_arg3) (V m c main_arg4) (V m c main_arg5)) (((cfg0.win 9).blk t).view.emb y) := by
  have ht := lt22 t
  unfold out0_9
  canon_tiles x h
  all_goals
    obtain ⟨z, i, j, rfl⟩ : ∃ (z : Fin 1) (i : Fin 1) (j : Fin 256), x = ix3 z i j := ⟨x 0, x 1, x 2, by funext a; fin_cases a <;> rfl⟩
    refine (R9 m c hf t z i j).trans (congrArg _ ?_)
    funext a; fin_cases a <;> refine Fin.ext ?_ <;> blk_simp [idx t] <;> simp at * <;> omega

theorem final_9 (c : Dev nD) (hf : Fin6 m c) : (dats m 0 c).arrAt 9 (cfgs 0).N = RS (GG (V m c main_arg0) (V m c main_arg1) (V m c main_arg2) (V m c main_arg3) (V m c main_arg4) (V m c main_arg5)) := by
  refine (dats m 0 c).arrAt_eq_of_covers 9 _ (by decide +kernel) fun t hb y => ?_
  blk_simp
  show (dats m 0 c).after 9 t y = _
  rw [after0_9]
  exact point_9 m c hf t y

end Cert.ConvBwdIdeal

end
-- ==== Proof.Conv.lean ====
/- The claims about the convolution's gradient: what the precondition gives, and the two programs' results equal. -/
module

public import proofs.«01_k».proof.Defs
public import proofs.«01_k».proof.Proof.ConvVal
public import proofs.«01_k».proof.Proof.Gen.ConvBwdIdeal.Value
public import proofs.«01_k».proof.Proof.Gen.ConvBwdRefIdeal.Run
public import proofs.«01_k».proof.Proof.Gen.Pre_conv_finite
public import Idealize.ShloMosaic.Lib.Claim
public import Idealize.ShloMosaic.Adequacy

@[expose] public section

noncomputable section

namespace Cert.Proof.Conv

open Idealize.ShloMosaic Idealize.SL.Sem

/-- A value whose magnitude compares below infinity is finite. -/
theorem real_of_lt {z : EReal} (h : max z (-z) < ⊤) : ∃ r : ℝ, z = r := by
  induction z with
  | bot => simp at h
  | top => simp at h
  | coe r => exact ⟨r, rfl⟩

theorem inf16 : Ideal.ofBits .bf16 0x7F80#16 = ⊤ := by simp [Ideal.ofBits, Ideal.ieee]

/-- What the precondition says of one element. -/
theorem real_of_bit {z w : EReal} (hw : w = ⊤) (e : BitVec.ofBool (decide (max z (-z) < w)) = 1#1) : ∃ r : ℝ, z = r := by
  subst hw
  refine real_of_lt ?_
  by_contra hn
  rw [decide_eq_false hn] at e
  exact absurd e (by decide)

/-- A sum of products of finite values is finite. -/
theorem real_sum {n : ℕ} (x y : Fin n → EReal) (hx : ∀ l, ∃ r : ℝ, x l = r) (hy : ∀ l, ∃ r : ℝ, y l = r) : ∃ r : ℝ, ∑ l, x l * y l = r := by
  choose f hf using hx
  choose g hg using hy
  refine Finset.sum_induction (fun l => x l * y l) (fun z => ∃ r : ℝ, z = r) ?_ ⟨0, EReal.coe_zero.symm⟩ fun l _ => ⟨f l * g l, by rw [hf, hg, EReal.coe_mul]⟩
  rintro _ _ ⟨a, rfl⟩ ⟨b, rfl⟩
  exact ⟨a + b, (EReal.coe_add a b).symm⟩

theorem fin6 (m) (c : Dev Cert.ConvBwdIdeal.nD) (h : Pre_ConvBwdIdeal_conv_finite (hPre_conv_finite := Cert.Pre_conv_finite.Gen.facts) m) :
    Cert.ConvBwdIdeal.Fin6 m c := by
  have h0 : ∀ (e : Fin 2) (s : Fin 2048) (l : Fin 1024), ∃ r : ℝ, (show FVec Ideal Cert.ConvBwdIdeal.S2x2048x1024 .bf16 from Cert.ConvBwdIdeal.Gen.V m c Cert.ConvBwdIdeal.main_arg0) (ix3 e s l) = r := fun e s l => by
    have e := congrFun (h c).1 (ix3 e s l)
    unfold Cert.Pre_conv_finite.fn at e
    pointwise at e
    exact real_of_bit inf16 e
  have h1 : ∀ (j : Fin 2816) (l : Fin 1024), ∃ r : ℝ, (show FVec Ideal Cert.ConvBwdIdeal.S2816x1024 .bf16 from Cert.ConvBwdIdeal.Gen.V m c Cert.ConvBwdIdeal.main_arg1) (ix2 j l) = r := fun j l => by
    have e := congrFun (h c).2.1 (ix2 j l)
    unfold Cert.Pre_conv_finite.fn at e
    pointwise at e
    exact real_of_bit inf16 e
  refine ⟨fun e s j => ?_, fun e s j => ?_⟩
  · rw [Cert.ConvBwdRefIdeal.DG_at]
    exact real_sum _ _ (h0 e s) (h1 j)
  · have e := congrFun (h c).2.2 (ix3 e s j)
    unfold Cert.Pre_conv_finite.fn at e
    pointwise at e
    exact real_of_bit inf16 e

end Cert.Proof.Conv

namespace Cert.Proof

open Idealize.ShloMosaic Idealize.SL.Sem

theorem value_conv : algebraic_ConvBwdIdeal_ConvBwdRefIdeal_pre_conv_finite (hPre_conv_finite := Cert.Pre_conv_finite.Gen.facts) := by
  intro m g m' g' hpre hagree
  refine ⟨_, _, _, _, (θ_run _ _ _).mono (fun r h c => h c) (Cert.ConvBwdIdeal.Value.run_blocks m g),
    (θ_run _ _ _).mono (fun r h c => ?_) (Cert.ConvBwdRefIdeal.Value.run m' g')⟩
  obtain ⟨e0, e1, e2, e3, e4, e5⟩ := hagree c
  have hf := Conv.fin6 m c hpre
  refine ⟨(h c).1.trans (Eq.trans ?_ (Cert.ConvBwdIdeal.final_6 m c hf).symm), (h c).2.1.trans (Eq.trans ?_ (Cert.ConvBwdIdeal.final_7 m c).symm),
    (h c).2.2.1.trans (Eq.trans ?_ (Cert.ConvBwdIdeal.final_8 m c hf).symm), (h c).2.2.2.1.trans (Eq.trans ?_ (Cert.ConvBwdIdeal.final_9 m c hf).symm), (h c).2.2.2.2⟩
  · show Cert.ConvBwdRefIdeal.Rda (Cert.ConvBwdRefIdeal.GG (m' ((c.tc : Thread _ _).loc Cert.ConvBwdRefIdeal.main_arg0)) (m' ((c.tc : Thread _ _).loc Cert.ConvBwdRefIdeal.main_arg1)) (m' ((c.tc : Thread _ _).loc Cert.ConvBwdRefIdeal.main_arg2)) (m' ((c.tc : Thread _ _).loc Cert.ConvBwdRefIdeal.main_arg3)) (m' ((c.tc : Thread _ _).loc Cert.ConvBwdRefIdeal.main_arg4)) (m' ((c.tc : Thread _ _).loc Cert.ConvBwdRefIdeal.main_arg5))) (m' ((c.tc : Thread _ _).loc Cert.ConvBwdRefIdeal.main_arg4)) = _
    rw [e0, e1, e2, e3, e4, e5] <;> rfl
  · show Cert.ConvBwdRefIdeal.Rdb (Cert.ConvBwdRefIdeal.CO (m' ((c.tc : Thread _ _).loc Cert.ConvBwdRefIdeal.main_arg2)) (m' ((c.tc : Thread _ _).loc Cert.ConvBwdRefIdeal.main_arg4)) (m' ((c.tc : Thread _ _).loc Cert.ConvBwdRefIdeal.main_arg5))) (Cert.ConvBwdRefIdeal.DG (m' ((c.tc : Thread _ _).loc Cert.ConvBwdRefIdeal.main_arg0)) (m' ((c.tc : Thread _ _).loc Cert.ConvBwdRefIdeal.main_arg1))) = _
    rw [e0, e1, e2, e4, e5] <;> rfl
  · show Cert.ConvBwdRefIdeal.Rdw (Cert.ConvBwdRefIdeal.GG (m' ((c.tc : Thread _ _).loc Cert.ConvBwdRefIdeal.main_arg0)) (m' ((c.tc : Thread _ _).loc Cert.ConvBwdRefIdeal.main_arg1)) (m' ((c.tc : Thread _ _).loc Cert.ConvBwdRefIdeal.main_arg2)) (m' ((c.tc : Thread _ _).loc Cert.ConvBwdRefIdeal.main_arg3)) (m' ((c.tc : Thread _ _).loc Cert.ConvBwdRefIdeal.main_arg4)) (m' ((c.tc : Thread _ _).loc Cert.ConvBwdRefIdeal.main_arg5))) (m' ((c.tc : Thread _ _).loc Cert.ConvBwdRefIdeal.main_arg2)) = _
    rw [e0, e1, e2, e3, e4, e5] <;> rfl
  · show Cert.ConvBwdRefIdeal.RS (Cert.ConvBwdRefIdeal.GG (m' ((c.tc : Thread _ _).loc Cert.ConvBwdRefIdeal.main_arg0)) (m' ((c.tc : Thread _ _).loc Cert.ConvBwdRefIdeal.main_arg1)) (m' ((c.tc : Thread _ _).loc Cert.ConvBwdRefIdeal.main_arg2)) (m' ((c.tc : Thread _ _).loc Cert.ConvBwdRefIdeal.main_arg3)) (m' ((c.tc : Thread _ _).loc Cert.ConvBwdRefIdeal.main_arg4)) (m' ((c.tc : Thread _ _).loc Cert.ConvBwdRefIdeal.main_arg5))) = _
    rw [e0, e1, e2, e3, e4, e5] <;> rfl

/-- The reference of the convolution's gradient runs and leaves its arguments and counters. -/
theorem frame_conv_ref : quiescent_ConvBwdRefIdeal := fun m g _ =>
  (θ_run _ _ _).mono (fun r h => ⟨fun c => (h c).2.2.2.2, sem_eq_zero_of_no_sems (by decide) r.2⟩) (Cert.ConvBwdRefIdeal.Value.run m g)

end Cert.Proof

end
-- ==== Proof.MemCalls.lean ====
/- The memory's calls forward, and the gradient through its product: each is one block. -/
module

public import proofs.«01_k».proof.Proof.Gen.MemNormIdeal.Frame
public import proofs.«01_k».proof.Proof.Gen.MemNormIdeal.Value
public import proofs.«01_k».proof.Proof.Gen.MemNormRefIdeal
public import proofs.«01_k».proof.Proof.Gen.MemNormRefIdeal.Run
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.MemKvBwdIdeal.Frame
public import proofs.«01_k».proof.Proof.Gen.MemKvBwdIdeal.Value
public import proofs.«01_k».proof.Proof.Gen.MemKvBwdRefIdeal
public import proofs.«01_k».proof.Proof.Gen.MemKvBwdRefIdeal.Run
public import proofs.«01_k».proof.Proof.RmsMath
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

open Cert.Rms (rs ms)

namespace Cert.MemNormRefIdeal
open Cert.MemNormRefIdeal.Gen

/-- The rows' mean squares. -/
def MS (X0 : FVec Ideal S512x1024 .f32) : FVec Ideal S512x1 .f32 :=
  addf (Host.divf (broadcastInDim S512x1 ![0] bcast_S512_S512x1_0 (Host.reduceAdd (mulf X0 X0) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32))
/-- The reference's result, of its two arguments. -/
def REF (X0 : FVec Ideal S512x1024 .f32) (X1 : FVec Ideal S1x1024 .f32) : FVec Ideal S512x1024 .bf16 :=
  truncf .bf16 (mulf (mulf X0 (broadcastInDim S512x1024 ![0, 1] bcast_S512x1_S512x1024_0_1 (Host.rsqrt (MS X0)))) (broadcastInDim S512x1024 ![0, 1] bcast_S1x1024_S512x1024_0_1 X1)) bitsLt_bf16_f32

theorem MS_at (X0) (i : Fin 512) : MS X0 (ix2 i (0 : Fin 1)) = ms fun l => X0 (ix2 i l) := by
  pointwise [MS, ms]
theorem REF_at (X0 X1) (y : S512x1024.Idx) (i : Fin 512) (j : Fin 1024) (h0 : (y 0 : ℕ) = i) (h1 : (y 1 : ℕ) = j) :
    REF X0 X1 y = X0 (ix2 i j) * rs (fun l => X0 (ix2 i l)) * X1 (ix2 (0 : Fin 1) j) := by
  obtain rfl : y = ix2 i j := by
    funext a; fin_cases a <;> refine Fin.ext ?_
    exacts [h0, h1]
  have e : REF X0 X1 (ix2 i j) = X0 (ix2 i j) * Ideal.rsqrt (MS X0 (ix2 i (0 : Fin 1))) * X1 (ix2 (0 : Fin 1) j) := by pointwise [REF]
  rw [e, MS_at]
  rfl

end Cert.MemNormRefIdeal

namespace Cert.MemNormIdeal
open Cert.MemNormIdeal.Gen
open Cert.MemNormRefIdeal (REF REF_at)

variable (m : (ℓ : Loc nD τ sig) → Buf (Elt Ideal) ℓ)

theorem idx : ∀ t : Fin cfg0.N, win0_0.index t = ![0, 0] ∧ win0_1.index t = ![0, 0] ∧ win0_2.index t = ![0, 0] :=
  (by decide +kernel : ∀ t : Fin grid0.N, _)

theorem hp1 (a : FVec Ideal S512x1024 .f32) (b : FVec Ideal S1x1024 .f32) (i : Fin 512) (j : Fin 1024) :
    k0_pay1 (F := Ideal) a b (ix2 i j) = a (ix2 i j) * rs (fun l => a (ix2 i l)) * b (ix2 (0 : Fin 1) j) := by
  pointwise [k0_pay1, rs, ms]

/-- The output array is the reference's. -/
theorem final (c : Dev nD) : (dats m 0 c).arrAt 2 (cfgs 0).N = REF (V m c main_arg0) (V m c main_arg1) := by
  refine (dats m 0 c).arrAt_eq_of_covers 2 _ (by decide +kernel) fun t ht y => ?_
  blk_simp
  rw [after0_2]
  frame_out
  obtain ⟨i, j, rfl⟩ : ∃ (i : Fin 512) (j : Fin 1024), y = ix2 i j := ⟨y 0, y 1, by funext a; fin_cases a <;> rfl⟩
  refine Eq.trans ?_ (REF_at _ _ _ i j (by blk_simp [idx t]) (by blk_simp [idx t])).symm
  rw [hp1]
  have e0 : ∀ l : Fin 1024, (show FVec Ideal S512x1024 .f32 from iblk m c 0 t) (ix2 i l) = V m c main_arg0 (ix2 i l) := fun l => by blk_point [iblk, V, idx t]
  have e1 : (show FVec Ideal S1x1024 .f32 from iblk m c 1 t) (ix2 (0 : Fin 1) j) = V m c main_arg1 (ix2 (0 : Fin 1) j) := by blk_point [iblk, V, idx t]
  dsimp only at e0 e1
  simp only [e0, e1]

end Cert.MemNormIdeal

namespace Cert.MemKvRefIdeal
open Cert.MemKvRefIdeal.Gen

/-- The reference's result, of its two arguments. -/
def REF (X0 : FVec Ideal S512x1024 .bf16) (X1 : FVec Ideal S1024x1024 .bf16) : FVec Ideal S512x1024 .f32 :=
  Host.dotGeneral dot_S512x1024_S1024x1024_S512x1024_1_0_0_1_n_n none (extf .f32 X0 bitsLt_bf16_f32) (extf .f32 X1 bitsLt_bf16_f32)

theorem REF_at (X0 X1) (y : S512x1024.Idx) : REF X0 X1 y = ∑ l : Fin 1024, X0 (ix2 (y 0) l) * X1 (ix2 l (y 1)) := by pointwise [REF]

end Cert.MemKvRefIdeal

namespace Cert.MemKvIdeal
open Cert.MemKvIdeal.Gen
open Cert.MemKvRefIdeal (REF REF_at)

variable (m : (ℓ : Loc nD τ sig) → Buf (Elt Ideal) ℓ)

theorem idx : ∀ t : Fin cfg0.N, win0_0.index t = ![0, 0]
    ∧ win0_1.index t = ![0, 0] ∧ win0_2.index t = ![0, 0] :=
  (by decide +kernel : ∀ t : Fin grid0.N, _)

theorem hp1 (a b) (y) : k0_pay1 (F := Ideal) a b y = ∑ l : Fin 1024, a (ix2 (y 0) l) * b (ix2 l (y 1)) := by
  pointwise [k0_pay1]

/-- The output array is the reference's. -/
theorem final (c : Dev nD) : (dats m 0 c).arrAt 2 (cfgs 0).N = REF (V m c main_arg0) (V m c main_arg1) := by
  refine (dats m 0 c).arrAt_eq_of_covers 2 _ (by decide +kernel) fun t ht y => ?_
  blk_simp
  rw [after0_2, REF_at]
  frame_out
  rw [hp1]
  refine Fin.sum_fin_congr fun l => ?_
  blk_point [iblk, V, idx t]

end Cert.MemKvIdeal

namespace Cert.MemKvBwdRefIdeal
open Cert.MemKvBwdRefIdeal.Gen

/-- The reference's result, of its two arguments. -/
def REF (X0 : FVec Ideal S512x1024 .f32) (X1 : FVec Ideal S1024x1024 .bf16) : FVec Ideal S512x1024 .f32 :=
  Host.dotGeneral dot_S512x1024_S1024x1024_S512x1024_1_1_0_0_n_n none X0 (extf .f32 X1 bitsLt_bf16_f32)

theorem REF_at (X0 X1) (y : S512x1024.Idx) : REF X0 X1 y = ∑ l : Fin 1024, X0 (ix2 (y 0) l) * X1 (ix2 (y 1) l) := by pointwise [REF]

end Cert.MemKvBwdRefIdeal

namespace Cert.MemKvBwdIdeal
open Cert.MemKvBwdIdeal.Gen
open Cert.MemKvBwdRefIdeal (REF REF_at)

variable (m : (ℓ : Loc nD τ sig) → Buf (Elt Ideal) ℓ)

theorem idx : ∀ t : Fin cfg0.N, win0_0.index t = ![0, 0]
    ∧ win0_1.index t = ![0, 0] ∧ win0_2.index t = ![0, 0] :=
  (by decide +kernel : ∀ t : Fin grid0.N, _)

theorem hp1 (a b) (y) : k0_pay1 (F := Ideal) a b y = ∑ l : Fin 1024, a (ix2 (y 0) l) * b (ix2 (y 1) l) := by
  pointwise [k0_pay1]

/-- The output array is the reference's. -/
theorem final (c : Dev nD) : (dats m 0 c).arrAt 2 (cfgs 0).N = REF (V m c main_arg0) (V m c main_arg1) := by
  refine (dats m 0 c).arrAt_eq_of_covers 2 _ (by decide +kernel) fun t ht y => ?_
  blk_simp
  rw [after0_2, REF_at]
  frame_out
  rw [hp1]
  refine Fin.sum_fin_congr fun l => ?_
  blk_point [iblk, V, idx t]

end Cert.MemKvBwdIdeal

end
-- ==== Proof.MemNormBwd.lean ====
/- The gradient of the memory's norm: one block of rows, scaled by the inverse root of the mean square. -/
module

public import proofs.«01_k».proof.Proof.Gen.MemNormBwdIdeal.Frame
public import proofs.«01_k».proof.Proof.Gen.MemNormBwdIdeal.Value
public import proofs.«01_k».proof.Proof.Gen.MemNormBwdRefIdeal
public import proofs.«01_k».proof.Proof.Gen.MemNormBwdRefIdeal.Run
public import proofs.«01_k».proof.Proof.RmsMath
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

open Cert.Rms (kN kE kH kdx rdx ru rs ms)

namespace Cert.MemNormBwdRefIdeal
open Cert.MemNormBwdRefIdeal.Gen

variable (XA : FVec Ideal S512x1024 .f32) (XG : FVec Ideal S1x1024 .f32) (XC : FVec Ideal S512x1024 .f32)

/-- The rows' mean squares. -/
def MS : FVec Ideal S512x1 .f32 :=
  addf (Host.divf (broadcastInDim S512x1 ![0] bcast_S512_S512x1_0 (Host.reduceAdd (mulf XA XA) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32))
/-- The cotangent times the gain. -/
def DW : FVec Ideal S512x1024 .f32 := mulf XC (broadcastInDim S512x1024 ![0, 1] bcast_S1x1024_S512x1024_0_1 XG)
/-- The cotangent of half the mean square. -/
def DU : FVec Ideal S512x1024 .f32 :=
  broadcastInDim S512x1024 ![0] bcast_S512_S512x1024_0 (Host.reduceAdd (Host.divf (mulf (shapeCast _ (Host.reduceAdd (mulf XA (DW XG XC)) (constant S_ .f32 0x00000000#32) reducesTo_S512x1024_S512_d1 h_S_) shapeCasts_S512_S512x1) (mulf (broadcastInDim S512x1 ![] bcast_S_S512x1 (constant S_ .f32 0xBF000000#32)) (Host.divf (Host.rsqrt (MS XA)) (MS XA)))) (broadcastInDim S512x1 ![] bcast_S_S512x1 (constant S_ .f32 0x44800000#32))) (constant S_ .f32 0x00000000#32) reducesTo_S512x1_S512_d1 h_S_)
/-- The rows' gradient. -/
def REF_dx : FVec Ideal S512x1024 .f32 :=
  addf (addf (mulf (DW XG XC) (broadcastInDim S512x1024 ![0, 1] bcast_S512x1_S512x1024_0_1 (Host.rsqrt (MS XA)))) (mulf XA (DU XA XG XC))) (mulf (DU XA XG XC) XA)
/-- The gain's gradient. -/
def REF_dg : FVec Ideal S1x1024 .f32 :=
  shapeCast _ (Host.reduceAdd (mulf (mulf XA (broadcastInDim S512x1024 ![0, 1] bcast_S512x1_S512x1024_0_1 (Host.rsqrt (MS XA)))) XC) (constant S_ .f32 0x00000000#32) reducesTo_S512x1024_S1024_d0 h_S_) shapeCasts_S1024_S1x1024

theorem MS_at (i : Fin 512) : MS XA (ix2 i (0 : Fin 1)) = ms fun l => XA (ix2 i l) := by
  pointwise [MS, ms]
theorem DW_at (i : Fin 512) (j : Fin 1024) : DW XG XC (ix2 i j) = XC (ix2 i j) * XG (ix2 (0 : Fin 1) j) := by
  pointwise [DW]
theorem DU_at (i : Fin 512) (j : Fin 1024) : DU XA XG XC (ix2 i j) = ru (fun l => XA (ix2 i l)) fun l => DW XG XC (ix2 i l) := by
  have e : DU XA XG XC (ix2 i j) = ∑ k : Fin 1, Ideal.div ((∑ l : Fin 1024, XA (ix2 i l) * DW XG XC (ix2 i l)) * (kH * Ideal.div (Ideal.rsqrt (MS XA (ix2 i k))) (MS XA (ix2 i k)))) kN := by
    pointwise [DU]
  rw [e, Fin.sum_univ_one, MS_at, ru, Fin.sum_univ_one]
  rfl
theorem REF_dx_at (y : S512x1024.Idx) (i : Fin 512) (j : Fin 1024) (h0 : (y 0 : ℕ) = i) (h1 : (y 1 : ℕ) = j) :
    REF_dx XA XG XC y = rdx (fun l => XA (ix2 i l)) (fun l => XC (ix2 i l) * XG (ix2 (0 : Fin 1) l)) 0 j := by
  have e : y = ix2 i j := by
    funext a; fin_cases a <;> refine Fin.ext ?_
    exacts [h0, h1]
  rw [e]
  have e2 : REF_dx XA XG XC (ix2 i j) = DW XG XC (ix2 i j) * Ideal.rsqrt (MS XA (ix2 i (0 : Fin 1))) + XA (ix2 i j) * DU XA XG XC (ix2 i j) + DU XA XG XC (ix2 i j) * XA (ix2 i j) := by
    pointwise [REF_dx]
  rw [e2, DU_at, MS_at]
  simp only [DW_at]
  rw [rdx, zero_add]
  rfl
theorem REF_dg_at (y : S1x1024.Idx) (j : Fin 1024) (h1 : (y 1 : ℕ) = j) :
    REF_dg XA XC y = ∑ i : Fin 512, XA (ix2 i j) * rs (fun l => XA (ix2 i l)) * XC (ix2 i j) := by
  have e : y = ix2 (0 : Fin 1) j := by
    funext a; fin_cases a <;> refine Fin.ext ?_
    exacts [Nat.lt_one_iff.1 (y 0).isLt, h1]
  rw [e]
  have e2 : REF_dg XA XC (ix2 (0 : Fin 1) j) = ∑ i : Fin 512, XA (ix2 i j) * Ideal.rsqrt (MS XA (ix2 i (0 : Fin 1))) * XC (ix2 i j) := by
    pointwise [REF_dg]
  rw [e2]
  simp only [MS_at]
  rfl

end Cert.MemNormBwdRefIdeal

namespace Cert.MemNormBwdIdeal
open Cert.MemNormBwdIdeal.Gen
open Cert.MemNormBwdRefIdeal (REF_dx REF_dg REF_dx_at REF_dg_at)

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] :=
  (by decide +kernel : ∀ t : Fin grid0.N, _)

variable (x w : FVec Ideal S512x1024 .f32) (g : FVec Ideal S1x1024 .f32)

theorem hp1 (i : Fin 512) : k0_pay1 (F := Ideal) x (ix2 i (0 : Fin 1)) = rs fun l => x (ix2 i l) := by
  pointwise [k0_pay1, rs, ms]
theorem hp2 (i : Fin 512) (j : Fin 1024) : k0_pay2 (F := Ideal) x (ix2 i j) = x (ix2 i j) * rs fun l => x (ix2 i l) := by
  have e : k0_pay2 (F := Ideal) x (ix2 i j) = x (ix2 i j) * k0_pay1 (F := Ideal) x (ix2 i (0 : Fin 1)) := by pointwise [k0_pay2]
  rw [e, hp1]
theorem hp3 (i : Fin 512) (j : Fin 1024) : k0_pay3 (F := Ideal) x w g (ix2 i j)
    = kdx (fun l => x (ix2 i l)) (fun l => w (ix2 i l) * g (ix2 (0 : Fin 1) l)) 0 j := by
  have e : k0_pay3 (F := Ideal) x w g (ix2 i j) = k0_pay1 (F := Ideal) x (ix2 i (0 : Fin 1)) * (w (ix2 i j) * g (ix2 (0 : Fin 1) j)
      - k0_pay2 (F := Ideal) x (ix2 i j) * Ideal.div (∑ l : Fin 1024, w (ix2 i l) * g (ix2 (0 : Fin 1) l) * k0_pay2 (F := Ideal) x (ix2 i l)) kN) := by
    pointwise [k0_pay3]
  rw [e]
  simp only [hp1, hp2]
  rw [kdx, add_zero]
theorem hp4 (y) : k0_pay4 (F := Ideal) y = 0 := by pointwise [k0_pay4]
theorem hp5 (v : FVec Ideal S1x1024 .f32) (j : Fin 1024) : k0_pay5 (F := Ideal) x w v (ix2 (0 : Fin 1) j)
    = v (ix2 (0 : Fin 1) j) + ∑ i : Fin 512, w (ix2 i j) * (x (ix2 i j) * rs fun l => x (ix2 i l)) := by
  have e : k0_pay5 (F := Ideal) x w v (ix2 (0 : Fin 1) j) = v (ix2 (0 : Fin 1) j) + ∑ i : Fin 512, w (ix2 i j) * k0_pay2 (F := Ideal) x (ix2 i j) := by
    pointwise [k0_pay5]
  rw [e]
  simp only [hp2]

theorem x_at (c : Dev nD) (t : Fin cfg0.N) (i : Fin 512) (j : Fin 1024) : (show FVec Ideal S512x1024 .f32 from iblk m c 0 t) (ix2 i j) = V m c main_arg0 (ix2 i j) := by
  blk_point [iblk, V, idx t]
theorem g_at (c : Dev nD) (t : Fin cfg0.N) (j : Fin 1024) : (show FVec Ideal S1x1024 .f32 from iblk m c 1 t) (ix2 (0 : Fin 1) j) = V m c main_arg1 (ix2 (0 : Fin 1) j) := by
  blk_point [iblk, V, idx t]
theorem w_at (c : Dev nD) (t : Fin cfg0.N) (i : Fin 512) (j : Fin 1024) : (show FVec Ideal S512x1024 .f32 from iblk m c 2 t) (ix2 i j) = V m c main_arg2 (ix2 i j) := by
  blk_point [iblk, V, idx t]

/-- What the body stores into the rows' gradient. -/
theorem out3 (c : Dev nD) (t : Fin cfg0.N) : (outsAt0 m c t).1 = k0_pay3 (F := Ideal) (iblk m c 0 t) (iblk m c 2 t) (iblk m c 1 t) := by
  funext y
  unfold outsAt0
  frame_out

/-- What the body leaves in the gain's gradient: the block's sum, from zero. -/
theorem out4 (c : Dev nD) (t : Fin cfg0.N) : (outsAt0 m c t).2 = k0_pay5 (F := Ideal) (iblk m c 0 t) (iblk m c 2 t) (k0_pay4 (F := Ideal)) := by
  funext y
  unfold outsAt0
  frame_open
  simp (disch := decide) only [↓View.readCov_skip, ↓View.readCov_fill]
  frame_out

/-- The rows' gradient is the reference's. -/
theorem final_3 (c : Dev nD) : (dats m 0 c).arrAt 3 (cfgs 0).N = REF_dx (V m c main_arg0) (V m c main_arg1) (V m c main_arg2) := by
  refine (dats m 0 c).arrAt_eq_of_covers 3 _ (by decide +kernel) fun t ht y => ?_
  blk_simp
  rw [after0_3, out3]
  obtain ⟨i, j, rfl⟩ : ∃ (i : Fin 512) (j : Fin 1024), y = ix2 i j := ⟨y 0, y 1, by funext a; fin_cases a <;> rfl⟩
  refine Eq.trans ?_ (REF_dx_at _ _ _ _ i j (by blk_simp [idx t]) (by blk_simp [idx t])).symm
  rw [hp3, ← Cert.Rms.core]
  have e1 := fun l => x_at m c t i l
  have e2 := fun l => w_at m c t i l
  have e3 := g_at m c t
  dsimp only at e1 e2 e3
  simp only [e1, e2, e3]

/-- The gain's gradient is the reference's. -/
theorem final_4 (c : Dev nD) : (dats m 0 c).arrAt 4 (cfgs 0).N = REF_dg (V m c main_arg0) (V m c main_arg2) := by
  refine (dats m 0 c).arrAt_eq_of_covers 4 _ (by decide +kernel) fun t ht y => ?_
  blk_simp
  rw [after0_4, out4]
  obtain ⟨j, rfl⟩ : ∃ j : Fin 1024, y = ix2 (0 : Fin 1) j := ⟨y 1, by
    funext a; fin_cases a
    · exact Fin.ext (Nat.lt_one_iff.1 (y 0).isLt)
    · rfl⟩
  refine Eq.trans ?_ (REF_dg_at _ _ _ j (by blk_simp [idx t])).symm
  rw [hp5, hp4, zero_add]
  have e1 := fun k l => x_at m c t k l
  have e2 := fun k => w_at m c t k j
  dsimp only at e1 e2
  refine Fin.sum_fin_congr fun k => ?_
  rw [e2, mul_comm]
  simp only [e1]

end Cert.MemNormBwdIdeal
end
-- ==== Proof.Mem.lean ====
/- The memory's calls: each kernel's results are its reference's. -/
module

public import proofs.«01_k».proof.Defs
public import proofs.«01_k».proof.Proof.MemCalls
public import proofs.«01_k».proof.Proof.MemNormBwd
public import Idealize.ShloMosaic.Lib.Claim

@[expose] public section

noncomputable section

namespace Cert.Proof

open Idealize.ShloMosaic Idealize.SL.Sem

theorem value_MemNorm : algebraic_MemNormIdeal_MemNormRefIdeal := by
  intro m g m' g' _ hagree
  refine ⟨_, (θ_run _ _ _).mono (fun r h c => h c) (Cert.MemNormIdeal.Value.run_blocks m g),
    (θ_run _ _ _).mono (fun r h c => ?_) (Cert.MemNormRefIdeal.Value.run m' g')⟩
  obtain ⟨e0, e1⟩ := hagree c
  refine ⟨(h c).1.trans (Eq.trans ?_ (Cert.MemNormIdeal.final m c).symm), (h c).2⟩
  · show Cert.MemNormRefIdeal.REF (m' ((c.tc : Thread _ _).loc Cert.MemNormRefIdeal.main_arg0)) (m' ((c.tc : Thread _ _).loc Cert.MemNormRefIdeal.main_arg1)) = _
    rw [e0, e1] <;> rfl

theorem frame_MemNorm : quiescent_MemNormRefIdeal := fun m g _ =>
  (θ_run _ _ _).mono (fun r h => ⟨fun c => (h c).2, sem_eq_zero_of_no_sems (by decide) r.2⟩) (Cert.MemNormRefIdeal.Value.run m g)

theorem value_MemKv : algebraic_MemKvIdeal_MemKvRefIdeal := by
  intro m g m' g' _ hagree
  refine ⟨_, (θ_run _ _ _).mono (fun r h c => h c) (Cert.MemKvIdeal.Value.run_blocks m g),
    (θ_run _ _ _).mono (fun r h c => ?_) (Cert.MemKvRefIdeal.Value.run m' g')⟩
  obtain ⟨e0, e1⟩ := hagree c
  refine ⟨(h c).1.trans (Eq.trans ?_ (Cert.MemKvIdeal.final m c).symm), (h c).2⟩
  · show Cert.MemKvRefIdeal.REF (m' ((c.tc : Thread _ _).loc Cert.MemKvRefIdeal.main_arg0)) (m' ((c.tc : Thread _ _).loc Cert.MemKvRefIdeal.main_arg1)) = _
    rw [e0, e1] <;> rfl

theorem frame_MemKv : quiescent_MemKvRefIdeal := fun m g _ =>
  (θ_run _ _ _).mono (fun r h => ⟨fun c => (h c).2, sem_eq_zero_of_no_sems (by decide) r.2⟩) (Cert.MemKvRefIdeal.Value.run m g)

theorem value_MemKvBwd : algebraic_MemKvBwdIdeal_MemKvBwdRefIdeal := by
  intro m g m' g' _ hagree
  refine ⟨_, (θ_run _ _ _).mono (fun r h c => h c) (Cert.MemKvBwdIdeal.Value.run_blocks m g),
    (θ_run _ _ _).mono (fun r h c => ?_) (Cert.MemKvBwdRefIdeal.Value.run m' g')⟩
  obtain ⟨e0, e1⟩ := hagree c
  refine ⟨(h c).1.trans (Eq.trans ?_ (Cert.MemKvBwdIdeal.final m c).symm), (h c).2⟩
  · show Cert.MemKvBwdRefIdeal.REF (m' ((c.tc : Thread _ _).loc Cert.MemKvBwdRefIdeal.main_arg0)) (m' ((c.tc : Thread _ _).loc Cert.MemKvBwdRefIdeal.main_arg1)) = _
    rw [e0, e1] <;> rfl

theorem frame_MemKvBwd : quiescent_MemKvBwdRefIdeal := fun m g _ =>
  (θ_run _ _ _).mono (fun r h => ⟨fun c => (h c).2, sem_eq_zero_of_no_sems (by decide) r.2⟩) (Cert.MemKvBwdRefIdeal.Value.run m g)

theorem value_MemNormBwd : algebraic_MemNormBwdIdeal_MemNormBwdRefIdeal := by
  intro m g m' g' _ hagree
  refine ⟨_, _, (θ_run _ _ _).mono (fun r h c => h c) (Cert.MemNormBwdIdeal.Value.run_blocks m g),
    (θ_run _ _ _).mono (fun r h c => ?_) (Cert.MemNormBwdRefIdeal.Value.run m' g')⟩
  obtain ⟨e0, e1, e2⟩ := hagree c
  refine ⟨(h c).1.trans (Eq.trans ?_ (Cert.MemNormBwdIdeal.final_3 m c).symm), (h c).2.1.trans (Eq.trans ?_ (Cert.MemNormBwdIdeal.final_4 m c).symm), (h c).2.2⟩
  · show Cert.MemNormBwdRefIdeal.REF_dx (m' ((c.tc : Thread _ _).loc Cert.MemNormBwdRefIdeal.main_arg0)) (m' ((c.tc : Thread _ _).loc Cert.MemNormBwdRefIdeal.main_arg1)) (m' ((c.tc : Thread _ _).loc Cert.MemNormBwdRefIdeal.main_arg2)) = _
    rw [e0, e1, e2] <;> rfl
  · show Cert.MemNormBwdRefIdeal.REF_dg (m' ((c.tc : Thread _ _).loc Cert.MemNormBwdRefIdeal.main_arg0)) (m' ((c.tc : Thread _ _).loc Cert.MemNormBwdRefIdeal.main_arg2)) = _
    rw [e0, e2] <;> rfl

theorem frame_MemNormBwd : quiescent_MemNormBwdRefIdeal := fun m g _ =>
  (θ_run _ _ _).mono (fun r h => ⟨fun c => (h c).2.2, sem_eq_zero_of_no_sems (by decide) r.2⟩) (Cert.MemNormBwdRefIdeal.Value.run m g)

end Cert.Proof

end
-- ==== Proof.AttnFwdVal.lean ====
/- The memory branch's attention: each head of each block of query rows is the reference's softmax-weighted sum of the values. -/
module

public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.AttnMath
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnFwdRefIdeal

open Cert.AttnFwdRefIdeal.Gen Cert.Attn

section
variable (X0 : FVec Ideal S4096x6656 .bf16) (X1 : FVec Ideal S2x256x1024 .f32)

/-- Queries by head. -/
def rq : FVec Ideal S2x2048x4x128 .f32 :=
  shapeCast _ (extf .f32 (extractStridedSlice S4096x512 ![0, 3072] X0 slices_S4096x6656_S4096x512_0_3072) bitsLt_bf16_f32) shapeCasts_S4096x512_S2x2048x4x128
/-- Keys by head. -/
def rk : FVec Ideal S2x256x4x128 .f32 :=
  shapeCast _ (extractStridedSlice S2x256x512 ![0, 0, 0] X1 slices_S2x256x1024_S2x256x512_0_0_0) shapeCasts_S2x256x512_S2x256x4x128
/-- Values by head. -/
def rv : FVec Ideal S2x256x4x128 .f32 :=
  shapeCast _ (extractStridedSlice S2x256x512 ![0, 0, 512] X1 slices_S2x256x1024_S2x256x512_0_0_512) shapeCasts_S2x256x512_S2x256x4x128
/-- Scaled scores. -/
def rs (q : FVec Ideal S2x2048x4x128 .f32) (k : FVec Ideal S2x256x4x128 .f32) : FVec Ideal S2x4x2048x256 .f32 :=
  mulf (Host.dotGeneral dot_S2x2048x4x128_S2x256x4x128_S2x4x2048x256_3_3_1_1_02_02 none q k)
    (broadcastInDim S2x4x2048x256 ![] bcast_S_S2x4x2048x256 (constant S_ .f32 0x3DB504F3#32))
/-- The greatest score of each row. -/
def rm (s : FVec Ideal S2x4x2048x256 .f32) : FVec Ideal S2x4x2048 .f32 :=
  Host.reduce FloatOps.maximumf s (constant S_ .f32 0xFF800000#32) reducesTo_S2x4x2048x256_S2x4x2048_d3 h_S_
/-- Shifted exponentials, at a given lower bound of the shift. -/
def rez (z : FVec Ideal S_ .f32) (s : FVec Ideal S2x4x2048x256 .f32) : FVec Ideal S2x4x2048x256 .f32 :=
  Host.exp (subf s (broadcastInDim S2x4x2048x256 ![0, 1, 2, 3] bcast_S2x4x2048x1_S2x4x2048x256_0_1_2_3 (broadcastInDim S2x4x2048x1 ![0, 1, 2] bcast_S2x4x2048_S2x4x2048x1_0_1_2
    (maximumf (broadcastInDim S2x4x2048 ![] bcast_S_S2x4x2048 z) (rm s)))))
/-- Shifted exponentials. -/
def re (s : FVec Ideal S2x4x2048x256 .f32) : FVec Ideal S2x4x2048x256 .f32 := rez (constant S_ .f32 0xFF800000#32) s
/-- Their row sums. -/
def rl (e : FVec Ideal S2x4x2048x256 .f32) : FVec Ideal S2x4x2048x1 .f32 :=
  broadcastInDim S2x4x2048x1 ![0, 1, 2] bcast_S2x4x2048_S2x4x2048x1_0_1_2 (Host.reduceAdd e (constant S_ .f32 0x00000000#32) reducesTo_S2x4x2048x256_S2x4x2048_d3 h_S_)
/-- Weights. -/
def rp (e : FVec Ideal S2x4x2048x256 .f32) : FVec Ideal S2x4x2048x256 .f32 :=
  Host.divf e (broadcastInDim S2x4x2048x256 ![0, 1, 2, 3] bcast_S2x4x2048x1_S2x4x2048x256_0_1_2_3 (rl e))
/-- The result. -/
def REF : FVec Ideal S4096x512 .bf16 :=
  shapeCast _ (truncf .bf16 (shapeCast S2x2048x512 (transpose S2x2048x4x128 [0, 3, 1, 2] (Host.dotGeneral dot_S2x256x4x128_S2x4x2048x256_S2x4x128x2048_1_3_3_2_02_01 none (rv X1) (rp (re (rs (rq X0) (rk X1))))) transposes_S2x4x128x2048_S2x2048x4x128_0_3_1_2) shapeCasts_S2x2048x4x128_S2x2048x512) bitsLt_bf16_f32) shapeCasts_S2x2048x512_S4096x512

/-- One query row. -/
def qf (b : Fin 2) (s : Fin 2048) (h : Fin 4) (d : Fin 128) : EReal := X0 (ix2 ⟨b * 2048 + s, by omega⟩ ⟨3072 + (h * 128 + d), by omega⟩)
/-- One head's keys. -/
def kf (b : Fin 2) (h : Fin 4) (j : Fin 256) (d : Fin 128) : EReal := X1 (ix3 b j ⟨h * 128 + d, by omega⟩)
/-- One head's values. -/
def vf (b : Fin 2) (h : Fin 4) (j : Fin 256) (d : Fin 128) : EReal := X1 (ix3 b j ⟨512 + (h * 128 + d), by omega⟩)
theorem rs_at (b : Fin 2) (h : Fin 4) (s : Fin 2048) (j : Fin 256) :
    rs (rq X0) (rk X1) (ix4 b h s j) = sc (qf X0 b s h) (kf X1 b h) j := by
  pointwise [rs, rq, rk, sc, qf, kf]

theorem rm_at (S : FVec Ideal S2x4x2048x256 .f32) (b : Fin 2) (h : Fin 4) (s : Fin 2048) :
    rm S (ix3 b h s) = (Finset.univ : Finset (Fin 256)).fold max negInf fun l => S (ix4 b h s l) := by
  pointwise [rm]

theorem rez_at (z : FVec Ideal S_ .f32) (S : FVec Ideal S2x4x2048x256 .f32) (b : Fin 2) (h : Fin 4) (s : Fin 2048) (j : Fin 256) :
    rez z S (ix4 b h s j) = Ideal.exp (S (ix4 b h s j) - max (z ix0) (rm S (ix3 b h s))) := by
  pointwise [rez]

theorem re_at (b : Fin 2) (h : Fin 4) (s : Fin 2048) (j : Fin 256) :
    re (rs (rq X0) (rk X1)) (ix4 b h s j) = ex (sc (qf X0 b s h) (kf X1 b h)) j := by
  have hs : (fun l => rs (rq X0) (rk X1) (ix4 b h s l)) = sc (qf X0 b s h) (kf X1 b h) := funext fun l => rs_at X0 X1 b h s l
  have hz : constant (F := Ideal) S_ .f32 0xFF800000#32 ix0 = negInf := rfl
  rw [re, rez_at, rm_at, hs, hz, max_seed, rs_at, ex]

theorem rp_at (b : Fin 2) (h : Fin 4) (s : Fin 2048) (j : Fin 256) :
    rp (re (rs (rq X0) (rk X1))) (ix4 b h s j) = pr (sc (qf X0 b s h) (kf X1 b h)) j := by
  pointwise [rp, rl]
  simp only [re_at]
  rfl

/-- The result, at an index. -/
theorem REF_at (b : Fin 2) (s : Fin 2048) (h : Fin 4) (d : Fin 128) :
    REF X0 X1 (ix2 ⟨b * 2048 + s, by omega⟩ ⟨h * 128 + d, by omega⟩)
      = ∑ j, pr (sc (qf X0 b s h) (kf X1 b h)) j * vf X1 b h j d := by
  have e : REF X0 X1 (ix2 ⟨b * 2048 + s, by omega⟩ ⟨h * 128 + d, by omega⟩) = ∑ j, vf X1 b h j d * rp (re (rs (rq X0) (rk X1))) (ix4 b h s j) := by
    pointwise [REF, rv, vf]
  rw [e]; exact Finset.sum_congr rfl fun j _ => by rw [rp_at, mul_comm]
end
end Cert.AttnFwdRefIdeal

namespace Cert.AttnFwdIdeal

open Cert.AttnFwdIdeal.Gen Cert.Attn

section
variable (q : FVec Ideal S512x128 .bf16) (k v : FVec Ideal S1x256x128 .f32)

/-- One row of a block of queries. -/
def row (q : FVec Ideal S512x128 .bf16) (r : Fin 512) (d : Fin 128) : EReal := q (ix2 r d)
/-- A block of keys. -/
def mat (k : FVec Ideal S1x256x128 .f32) (j : Fin 256) (d : Fin 128) : EReal := k (ix3 0 j d)

/-- One head's weighted sum of the values. -/
def hd : FVec Ideal S512x128 .bf16 := k0_pay2 (F := Ideal) q k v

theorem hd_at (r : Fin 512) (d : Fin 128) : hd q k v (ix2 r d) = ∑ j, pr (sc (row q r) (mat k)) j * mat v j d := by
  pointwise [hd, k0_pay2]
  rfl

/- The four heads' texts are one text. -/
theorem h0 : k0_pay2 (F := Ideal) q k v = hd q k v := rfl
theorem h1 : k0_pay4 (F := Ideal) (k0_pay3 q k) v = hd q k v := rfl
theorem h2 : k0_pay5 (F := Ideal) q k v = hd q k v := rfl
theorem h3 : k0_pay1 (F := Ideal) q k v = hd q k v := rfl
end

open Cert.AttnFwdRefIdeal (REF qf kf vf REF_at)

/-- One head of one block, against the whole arrays. -/
theorem core (X0 : FVec Ideal S4096x6656 .bf16) (X1 : FVec Ideal S2x256x1024 .f32) (q : FVec Ideal S512x128 .bf16) (k v : FVec Ideal S1x256x128 .f32)
    (x : S512x128.Idx) (r : Fin 512) (d : Fin 128) (i : S4096x512.Idx) (b : Fin 2) (s : Fin 2048) (h : Fin 4)
    (x0 : (x 0 : ℕ) = r) (x1 : (x 1 : ℕ) = d) (i0 : (i 0 : ℕ) = b * 2048 + s) (i1 : (i 1 : ℕ) = h * 128 + d)
    (eq : ∀ d, q (ix2 r d) = qf X0 b s h d)
    (ek : ∀ j d, k (ix3 0 j d) = kf X1 b h j d) (ev : ∀ j d, v (ix3 0 j d) = vf X1 b h j d) :
    hd q k v x = REF X0 X1 i := by
  obtain rfl : x = ix2 r d := by funext a; fin_cases a <;> exact Fin.ext (by assumption)
  have hi : i = ix2 ⟨b * 2048 + s, by omega⟩ ⟨h * 128 + d, by omega⟩ := by funext a; fin_cases a <;> exact Fin.ext (by assumption)
  rw [hi, REF_at X0 X1 b s h d, hd_at, show row q r = qf X0 b s h from funext eq,
    show mat k = kf X1 b h from funext fun j => funext (ek j), show mat v = vf X1 b h from funext fun j => funext (ev j)]

variable (m : (ℓ : Loc nD τ sig) → Buf (Elt Ideal) ℓ)

theorem idx : ∀ t : Fin cfg0.N, win0_0.index t = ![(t.val / 4) * 4 + (t.val % 4), 6]
    ∧ win0_1.index t = ![t.val / 4, 0, 0]
    ∧ win0_2.index t = ![(t.val / 4) * 4 + (t.val % 4), 0] :=
  (by decide +kernel : ∀ t : Fin grid0.N, _)

attribute [local irreducible] hd

set_option maxHeartbeats 1600000 in
/-- The output array is the reference's. -/
theorem final (c : Dev nD) : (dats m 0 c).arrAt 2 (cfgs 0).N = REF (V m c main_arg0) (V m c main_arg1) := by
  refine (dats m 0 c).arrAt_eq_of_covers 2 _ (by decide +kernel) fun t ht y => ?_
  blk_simp
  have hn : t.val < 8 := lt_of_lt_of_eq t.isLt N_0
  show (dats m 0 c).after 2 t y = _
  rw [after0_2]
  unfold out0_2
  simp only [h0, h1, h2, h3]
  canon_tiles x h
  all_goals
    refine core _ _ _ _ _ x ⟨y 0, by omega⟩ ⟨(y 1 : ℕ) % 128, by omega⟩ _ ⟨t.val / 4, by omega⟩ ⟨t.val % 4 * 512 + y 0, by omega⟩
      ⟨(y 1 : ℕ) / 128, by omega⟩ ?_ ?_ ?_ ?_ ?_ ?_ ?_
    · dsimp only; omega
    · dsimp only; omega
    · blk_simp [idx t]; dsimp only; omega
    · blk_simp [idx t]; dsimp only; omega
    · intro d; blk_point [iblk, V, idx t, qf]
    · intro j d; blk_point [iblk, V, idx t, kf]
    · intro j d; blk_point [iblk, V, idx t, vf]

end Cert.AttnFwdIdeal
end
-- ==== Proof.AttnFwd.lean ====
/- The memory branch's attention: the kernel's result is its reference's. -/
module

public import proofs.«01_k».proof.Defs
public import proofs.«01_k».proof.Proof.AttnFwdVal
public import Idealize.ShloMosaic.Lib.Claim

@[expose] public section

noncomputable section

namespace Cert.Proof

open Idealize.ShloMosaic Idealize.SL.Sem

theorem value_AttnFwd : algebraic_AttnFwdIdeal_AttnFwdRefIdeal := by
  intro m g m' g' _ hagree
  refine ⟨_, (θ_run _ _ _).mono (fun r h c => h c) (Cert.AttnFwdIdeal.Value.run_blocks m g),
    (θ_run _ _ _).mono (fun r h c => ?_) (Cert.AttnFwdRefIdeal.Value.run m' g')⟩
  obtain ⟨e0, e1⟩ := hagree c
  refine ⟨(h c).1.trans (Eq.trans ?_ (Cert.AttnFwdIdeal.final m c).symm), (h c).2⟩
  · show Cert.AttnFwdRefIdeal.REF (m' ((c.tc : Thread _ _).loc Cert.AttnFwdRefIdeal.main_arg0)) (m' ((c.tc : Thread _ _).loc Cert.AttnFwdRefIdeal.main_arg1)) = _
    rw [e0, e1] <;> rfl

theorem frame_AttnFwd : quiescent_AttnFwdRefIdeal := fun m g _ =>
  (θ_run _ _ _).mono (fun r h => ⟨fun c => (h c).2, sem_eq_zero_of_no_sems (by decide) r.2⟩) (Cert.AttnFwdRefIdeal.Value.run m g)

end Cert.Proof

end
-- ==== Proof.GmlpRef.lean ====
/- The gating branch's reference, at an index. -/
module

public import proofs.«01_k».proof.Proof.Gen.GmlpFwdIdeal.Frame
public import proofs.«01_k».proof.Proof.Gen.GmlpFwdIdeal.Value
public import proofs.«01_k».proof.Proof.Gen.GmlpFwdRefIdeal
public import proofs.«01_k».proof.Proof.Gen.GmlpFwdRefIdeal.Run
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Gmlp

abbrev kN : EReal := Ideal.ofBits .f32 0x44000000#32
abbrev kE : EReal := Ideal.ofBits .f32 0x358637BD#32
/-- The gelu function. -/
def gel (z : EReal) : EReal :=
  z * (Ideal.ofBits .f32 0x3F000000#32 * (Ideal.ofBits .f32 0x3F800000#32 + Ideal.tanh (Ideal.ofBits .f32 0x3F4C422A#32 * (z + Ideal.ofBits .f32 0x3D372713#32 * (z * (z * z))))))
/-- A row's mean. -/
def mu (v : Fin 512 → EReal) : EReal := Ideal.div (∑ l, v l) kN
/-- A row's variance. -/
def vr (v : Fin 512 → EReal) : EReal := Ideal.div (∑ l, (v l - mu v) * (v l - mu v)) kN
/-- A row's layer norm. -/
def ln (v g b : Fin 512 → EReal) (j : Fin 512) : EReal := (v j - mu v) * Ideal.rsqrt (vr v + kE) * g j + b j
/-- The causal weight. -/
def wt (w : Fin 128 → Fin 128 → EReal) (t s : Fin 128) : EReal := if s ≤ t then w t s else 0

end Cert.Gmlp

namespace Cert.GmlpFwdRefIdeal

open Cert.GmlpFwdRefIdeal.Gen Cert.Gmlp

section
variable (X0 : FVec Ideal S4096x6656 .bf16) (X1 X2 : FVec Ideal S1x512 .f32) (X3 : FVec Ideal S4x128x128 .f32) (X4 : FVec Ideal S128x128 .f32)

/-- Both halves of the branch's columns. -/
def rz : FVec Ideal S2x2048x1024 .f32 :=
  shapeCast _ (extf .f32 (extractStridedSlice S4096x1024 ![0, 0] X0 slices_S4096x6656_S4096x1024_0_0) bitsLt_bf16_f32) shapeCasts_S4096x1024_S2x2048x1024
/-- The first half. -/
def ra : FVec Ideal S2x2048x512 .f32 := extractStridedSlice S2x2048x512 ![0, 0, 0] (rz X0) slices_S2x2048x1024_S2x2048x512_0_0_0
/-- The second half. -/
def rb : FVec Ideal S2x2048x512 .f32 := extractStridedSlice S2x2048x512 ![0, 0, 512] (rz X0) slices_S2x2048x1024_S2x2048x512_0_0_512
/-- Gelu. -/
def rg (z : FVec Ideal S2x2048x512 .f32) : FVec Ideal S2x2048x512 .f32 :=
  mulf z (mulf (broadcastInDim S2x2048x512 ![] bcast_S_S2x2048x512 (constant S_ .f32 0x3F000000#32))
    (addf (broadcastInDim S2x2048x512 ![] bcast_S_S2x2048x512 (constant S_ .f32 0x3F800000#32))
      (Host.tanh (mulf (broadcastInDim S2x2048x512 ![] bcast_S_S2x2048x512 (constant S_ .f32 0x3F4C422A#32))
        (addf z (mulf (broadcastInDim S2x2048x512 ![] bcast_S_S2x2048x512 (constant S_ .f32 0x3D372713#32)) (mulf (mulf z z) z)))))))
/-- The rows' means. -/
def rm (v : FVec Ideal S2x2048x512 .f32) : FVec Ideal S2x2048x1 .f32 :=
  Host.divf (broadcastInDim S2x2048x1 ![0, 1] bcast_S2x2048_S2x2048x1_0_1 (Host.reduceAdd v (constant S_ .f32 0x00000000#32) reducesTo_S2x2048x512_S2x2048_d2 h_S_))
    (broadcastInDim S2x2048x1 ![] bcast_S_S2x2048x1 (constant S_ .f32 0x44000000#32))
/-- The rows less their means. -/
def rc (v : FVec Ideal S2x2048x512 .f32) : FVec Ideal S2x2048x512 .f32 :=
  subf v (broadcastInDim S2x2048x512 ![0, 1, 2] bcast_S2x2048x1_S2x2048x512_0_1_2 (rm v))
/-- The layer norm. -/
def rn (v : FVec Ideal S2x2048x512 .f32) : FVec Ideal S2x2048x512 .f32 :=
  addf (mulf (mulf (rc v) (broadcastInDim S2x2048x512 ![0, 1, 2] bcast_S2x2048x1_S2x2048x512_0_1_2
      (Host.rsqrt (addf (rm (mulf (rc v) (rc v))) (broadcastInDim S2x2048x1 ![] bcast_S_S2x2048x1 (constant S_ .f32 0x358637BD#32))))))
    (broadcastInDim S2x2048x512 ![0, 1, 2] bcast_S1x1x512_S2x2048x512_0_1_2 (broadcastInDim S1x1x512 ![1, 2] bcast_S1x512_S1x1x512_1_2 X1)))
    (broadcastInDim S2x2048x512 ![0, 1, 2] bcast_S1x1x512_S2x2048x512_0_1_2 (broadcastInDim S1x1x512 ![1, 2] bcast_S1x512_S1x1x512_1_2 X2))
/-- The causal mask. -/
def rk : IVec S128x128 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))
/-- The causal weights, under a given mask. -/
def rwk (k : IVec S128x128 1) : FVec Ideal S4x128x128 .f32 :=
  select (broadcastInDim S4x128x128 ![0, 1, 2] bcast_S1x128x128_S4x128x128_0_1_2 (broadcastInDim S1x128x128 ![1, 2] bcast_S128x128_S1x128x128_1_2 k)) X3
    (broadcastInDim S4x128x128 ![] bcast_S_S4x128x128 (sitofp .f32 (constantI S_ 32 0#32)))
/-- The result, of the gelus, the norm and the weights. -/
def RES (u v : FVec Ideal S2x2048x512 .f32) (w : FVec Ideal S4x128x128 .f32) : FVec Ideal S4096x512 .bf16 :=
  shapeCast _ (truncf .bf16 (mulf u (shapeCast S2x2048x512 (addf
    (transpose S2x16x128x4x128 [1, 2, 4, 0, 3] (Host.dotGeneral dot_S2x16x128x4x128_S4x128x128_S4x2x16x128x128_2_2_014_1_3_0 none (shapeCast S2x16x128x4x128 v shapeCasts_S2x2048x512_S2x16x128x4x128) w) transposes_S4x2x16x128x128_S2x16x128x4x128_1_2_4_0_3)
    (broadcastInDim S2x16x128x4x128 ![0, 1, 2, 3, 4] bcast_S1x1x128x4x1_S2x16x128x4x128_0_1_2_3_4 (broadcastInDim S1x1x128x4x1 ![2, 3] bcast_S128x4_S1x1x128x4x1_2_3
      (transpose S128x4 [1, 0] (transpose S4x128 [1, 0] (extractStridedSlice S128x4 ![0, 0] X4 slices_S128x128_S128x4_0_0) transposes_S128x4_S4x128_1_0) transposes_S4x128_S128x4_1_0))))
    shapeCasts_S2x16x128x4x128_S2x2048x512)) bitsLt_bf16_f32) shapeCasts_S2x2048x512_S4096x512
/-- The result, of its arguments. -/
def REF : FVec Ideal S4096x512 .bf16 := RES X4 (rg (ra X0)) (rn X1 X2 (rg (rb X0))) (rwk X3 rk)

theorem ref_eq (m : (ℓ : Loc nD τ sig) → Buf (Elt Ideal) ℓ) (c : Dev nD) :
    Cert.GmlpFwdRefIdeal.Value.res_out0 m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

theorem rg_at (z : FVec Ideal S2x2048x512 .f32) (b : Fin 2) (s : Fin 2048) (j : Fin 512) : rg z (ix3 b s j) = gel (z (ix3 b s j)) := by
  pointwise [rg, gel]
  rw [mul_comm (z (ix3 b s j) * z (ix3 b s j))]

theorem ra_at (b : Fin 2) (s : Fin 2048) (j : Fin 512) : ra X0 (ix3 b s j) = X0 (ix2 ⟨b * 2048 + s, by omega⟩ ⟨j, by omega⟩) := by
  pointwise [ra, rz]

theorem rb_at (b : Fin 2) (s : Fin 2048) (j : Fin 512) : rb X0 (ix3 b s j) = X0 (ix2 ⟨b * 2048 + s, by omega⟩ ⟨512 + j, by omega⟩) := by
  pointwise [rb, rz]

theorem rm_at (v : FVec Ideal S2x2048x512 .f32) (b : Fin 2) (s : Fin 2048) : rm v (ix3 b s 0) = mu fun l => v (ix3 b s l) := by
  pointwise [rm, mu]

theorem rc_at (v : FVec Ideal S2x2048x512 .f32) (b : Fin 2) (s : Fin 2048) (j : Fin 512) : rc v (ix3 b s j) = v (ix3 b s j) - mu fun l => v (ix3 b s l) := by
  pointwise [rc]
  rw [rm_at]

theorem rn_at (v : FVec Ideal S2x2048x512 .f32) (b : Fin 2) (s : Fin 2048) (j : Fin 512) :
    rn X1 X2 v (ix3 b s j) = ln (fun l => v (ix3 b s l)) (fun l => X1 (ix2 0 l)) (fun l => X2 (ix2 0 l)) j := by
  pointwise [rn]
  rw [rc_at, rm_at]
  simp only [mulf_apply, rc_at]
  rfl

theorem rk_at : ∀ t s : Fin 128, rk (ix2 t s) = if s ≤ t then 1#1 else 0#1 := by decide +kernel

theorem rw_at (k : IVec S128x128 1) (hk : ∀ t s : Fin 128, k (ix2 t s) = if s ≤ t then 1#1 else 0#1) (h : Fin 4) (t s : Fin 128) :
    rwk X3 k (ix3 h t s) = wt (fun t s => X3 (ix3 h t s)) t s := by
  pointwise [rwk, wt]
  rw [hk]
  by_cases e : s ≤ t
  · simp [e, Scalar.select]
  · simp only [e, Scalar.select, if_false]
    rw [if_neg (by decide)]
    show (((0#32 : BitVec 32).toInt : ℝ) : EReal) = 0
    simp

theorem RES_at (u v : FVec Ideal S2x2048x512 .f32) (w : FVec Ideal S4x128x128 .f32) (b : Fin 2) (n : Fin 16) (t : Fin 128) (h : Fin 4) (c : Fin 128) :
    RES X4 u v w (ix2 ⟨b * 2048 + (n * 128 + t), by omega⟩ ⟨h * 128 + c, by omega⟩)
      = u (ix3 b ⟨n * 128 + t, by omega⟩ ⟨h * 128 + c, by omega⟩)
        * ((∑ s : Fin 128, v (ix3 b ⟨n * 128 + s, by omega⟩ ⟨h * 128 + c, by omega⟩) * w (ix3 h t s)) + X4 (ix2 t ⟨h, by omega⟩)) := by
  pointwise [RES]
  rw [show (⟨((b : ℕ) * 2048 + ((n : ℕ) * 128 + (t : ℕ))) % 2048, by omega⟩ : Fin 2048) = ⟨(n : ℕ) * 128 + (t : ℕ), by omega⟩ from Fin.ext (by dsimp only; omega)]

/-- A row of the second half, through gelu. -/
def gv (r : Fin 4096) (l : Fin 512) : EReal := gel (X0 (ix2 r ⟨512 + l, by omega⟩))

theorem REF_at (b : Fin 2) (n : Fin 16) (t : Fin 128) (h : Fin 4) (c : Fin 128) :
    REF X0 X1 X2 X3 X4 (ix2 ⟨b * 2048 + (n * 128 + t), by omega⟩ ⟨h * 128 + c, by omega⟩)
      = gel (X0 (ix2 ⟨b * 2048 + (n * 128 + t), by omega⟩ ⟨h * 128 + c, by omega⟩))
        * ((∑ s : Fin 128, wt (fun t s => X3 (ix3 h t s)) t s
            * ln (gv X0 ⟨b * 2048 + (n * 128 + s), by omega⟩) (fun l => X1 (ix2 0 l)) (fun l => X2 (ix2 0 l)) ⟨h * 128 + c, by omega⟩) + X4 (ix2 t ⟨h, by omega⟩)) := by
  rw [REF, RES_at, rg_at, ra_at]
  congr 2
  refine Finset.sum_congr rfl fun s _ => ?_
  rw [rn_at, rw_at X3 rk rk_at, mul_comm]
  simp only [rg_at, rb_at]
  rfl
end
end Cert.GmlpFwdRefIdeal
end
-- ==== Proof.GmlpVal.lean ====
/- The gating branch: each tile of the output is the reference's gated, mixed product. -/
module

public import proofs.«01_k».proof.Proof.Gen.GmlpFwdIdeal.Frame
public import proofs.«01_k».proof.Proof.Gen.GmlpFwdIdeal.Value
public import proofs.«01_k».proof.Proof.Gen.GmlpFwdRefIdeal
public import proofs.«01_k».proof.Proof.Gen.GmlpFwdRefIdeal.Run
public import proofs.«01_k».proof.Proof.GmlpRef
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GmlpFwdIdeal

open Cert.GmlpFwdIdeal.Gen Cert.Gmlp

section
variable (x0 : FVec Ideal S512x1024 .bf16) (x1 x2 : FVec Ideal S1x512 .f32)

/-- A block's first half, through gelu. -/
def bu : FVec Ideal S512x512 .f32 := k0_pay4 (F := Ideal) x0
/-- A block's second half, through gelu. -/
def bg : FVec Ideal S512x512 .f32 := k0_pay5 (F := Ideal) x0
/-- A block's second half, normed. -/
def bn : FVec Ideal S512x512 .f32 :=
  k0_pay8 (F := Ideal) x1 x2 (k0_pay5 x0) (k0_pay6 x0) (k0_pay7 x0) (Scalar.ofBits .f32 0x44000000#32)
/-- The causal weights of one head. -/
def bw (w : FVec Ideal S1x128x128 .f32) : FVec Ideal S128x128 .f32 := k0_pay10 (F := Ideal) w

theorem bu_at (r : Fin 512) (j : Fin 512) : bu x0 (ix2 r j) = gel (x0 (ix2 r ⟨j, by omega⟩)) := by
  pointwise [bu, k0_pay4, k0_pay3, gel]

theorem bg_at (r : Fin 512) (j : Fin 512) : k0_pay5 (F := Ideal) x0 (ix2 r j) = gel (x0 (ix2 r ⟨512 + j, by omega⟩)) := by
  pointwise [k0_pay5, k0_pay3, gel]

/-- A block's row of the second half, through gelu. -/
def bv (r : Fin 512) (l : Fin 512) : EReal := gel (x0 (ix2 r ⟨512 + l, by omega⟩))

theorem m_at (r : Fin 512) : k0_pay6 (F := Ideal) x0 (ix2 r 0) = mu (bv x0 r) := by
  pointwise [k0_pay6, mu]
  simp only [bg_at]
  rfl

theorem v_at (r : Fin 512) : k0_pay7 (F := Ideal) x0 (ix2 r 0) = ∑ l, (bv x0 r l - mu (bv x0 r)) * (bv x0 r l - mu (bv x0 r)) := by
  pointwise [k0_pay7]
  simp only [bg_at, m_at]
  rfl

theorem bn_at (r : Fin 512) (j : Fin 512) : bn x0 x1 x2 (ix2 r j) = ln (bv x0 r) (fun l => x1 (ix2 0 l)) (fun l => x2 (ix2 0 l)) j := by
  pointwise [bn, k0_pay8]
  simp only [bg_at, m_at, v_at]
  rfl

theorem mask : ∀ s t : Fin 128, BitVec.setWidth 32 (IntOp.cmpi CmpIPredicate.sle (BitVec.ofNat 32 s) (BitVec.ofNat 32 t)) = if s ≤ t then 1#32 else 0#32 := by
  decide +kernel

theorem bw_at (w : FVec Ideal S1x128x128 .f32) (t s : Fin 128) : bw w (ix2 t s) = wt (fun t s => w (ix3 0 t s)) t s := by
  pointwise [bw, k0_pay10, k0_pay9, wt]
  rw [mask]
  by_cases e : s ≤ t
  · rw [if_pos e, if_pos e, if_pos]
    show (0 : EReal) < (((1#32 : BitVec 32).toInt : ℝ) : EReal)
    rw [show (1#32 : BitVec 32).toInt = 1 by decide]
    simp
  · rw [if_neg e, if_neg e, if_neg]
    show ¬ (0 : EReal) < (((0#32 : BitVec 32).toInt : ℝ) : EReal)
    simp
end

/-- One tile of the output. -/
def tl (u v : FVec Ideal S512x512 .f32) (o : Fin 2 → ℕ) (ho : S512x512.Slices o S128x128) (w : FVec Ideal S128x128 .f32) (b : FVec Ideal S128x1 .f32) : FVec Ideal S128x128 .bf16 :=
  truncf .bf16 (mulf (extractStridedSlice S128x128 o u ho)
    (addf (matmul dot_S128x128_S128x128_S128x128_1_0_0_1_n_n none (truncf .bf16 w bitsLt_bf16_f32) (truncf .bf16 (extractStridedSlice S128x128 o v ho) bitsLt_bf16_f32) (constant S128x128 .f32 0x00000000#32))
      (broadcastTo S128x128 b broadcasts_S128x1_S128x128))) bitsLt_bf16_f32

theorem tl_at (u v : FVec Ideal S512x512 .f32) (p q : ℕ) (hp : p ≤ 384) (hq : q ≤ 384) (ho : S512x512.Slices ![p, q] S128x128) (w : FVec Ideal S128x128 .f32) (b : FVec Ideal S128x1 .f32) (t c : Fin 128) :
    tl u v ![p, q] ho w b (ix2 t c) = u (ix2 ⟨p + t, by omega⟩ ⟨q + c, by omega⟩)
      * ((∑ s : Fin 128, w (ix2 t s) * v (ix2 ⟨p + s, by omega⟩ ⟨q + c, by omega⟩)) + b (ix2 t 0)) := by
  pointwise [tl]

section
variable (x0 : FVec Ideal S512x1024 .bf16) (x1 x2 : FVec Ideal S1x512 .f32) (u v : FVec Ideal S512x512 .f32) (w : FVec Ideal S1x128x128 .f32) (b : FVec Ideal S128x1 .f32)

/- The sixteen tiles' texts are one text. -/
theorem h0 : k0_pay11 (F := Ideal) x1 x2 u (k0_pay5 x0) (k0_pay6 x0) (k0_pay7 x0) (FloatOps.ofBits .f32 0x44000000#32) w b = tl u (bn x0 x1 x2) ![0, 0] slices_S512x512_o0_0_S128x128 (bw w) b := rfl
theorem h1 : k0_pay12 (F := Ideal) x1 x2 u (k0_pay5 x0) (k0_pay6 x0) (k0_pay7 x0) (FloatOps.ofBits .f32 0x44000000#32) w b = tl u (bn x0 x1 x2) ![128, 0] slices_S512x512_o128_0_S128x128 (bw w) b := rfl
theorem h2 : k0_pay13 (F := Ideal) u v (k0_pay10 w) b = tl u v ![256, 0] slices_S512x512_o256_0_S128x128 (bw w) b := rfl
theorem h3 : k0_pay14 (F := Ideal) u v (k0_pay10 w) b = tl u v ![384, 0] slices_S512x512_o384_0_S128x128 (bw w) b := rfl
theorem h4 : k0_pay16 (F := Ideal) u v (k0_pay9 (F := Ideal)) w b = tl u v ![0, 128] slices_S512x512_o0_128_S128x128 (bw w) b := rfl
theorem h5 : k0_pay17 (F := Ideal) u v (k0_pay15 (k0_pay9 (F := Ideal)) w) b = tl u v ![128, 128] slices_S512x512_o128_128_S128x128 (bw w) b := rfl
theorem h6 : k0_pay18 (F := Ideal) u v (k0_pay15 (k0_pay9 (F := Ideal)) w) b = tl u v ![256, 128] slices_S512x512_o256_128_S128x128 (bw w) b := rfl
theorem h7 : k0_pay19 (F := Ideal) u v (k0_pay15 (k0_pay9 (F := Ideal)) w) b = tl u v ![384, 128] slices_S512x512_o384_128_S128x128 (bw w) b := rfl
theorem h8 : k0_pay22 (F := Ideal) u v (k0_pay9 (F := Ideal)) (k0_pay20 w) (FloatOps.ofBits .f32 0#32) b = tl u v ![0, 256] slices_S512x512_o0_256_S128x128 (bw w) b := rfl
theorem h9 : k0_pay23 (F := Ideal) u v (k0_pay9 (F := Ideal)) (k0_pay20 w) (FloatOps.ofBits .f32 0#32) b = tl u v ![128, 256] slices_S512x512_o128_256_S128x128 (bw w) b := rfl
theorem h10 : k0_pay24 (F := Ideal) u v (k0_pay9 (F := Ideal)) (k0_pay20 w) (FloatOps.ofBits .f32 0#32) b = tl u v ![256, 256] slices_S512x512_o256_256_S128x128 (bw w) b := rfl
theorem h11 : k0_pay26 (F := Ideal) u (k0_pay25 v (k0_pay9 (F := Ideal)) (k0_pay20 w) (FloatOps.ofBits .f32 0#32)) b = tl u v ![384, 256] slices_S512x512_o384_256_S128x128 (bw w) b := rfl
theorem h12 : k0_pay28 (F := Ideal) u v (k0_pay9 (F := Ideal)) w b = tl u v ![0, 384] slices_S512x512_o0_384_S128x128 (bw w) b := rfl
theorem h13 : k0_pay29 (F := Ideal) u v (k0_pay9 (F := Ideal)) w b = tl u v ![128, 384] slices_S512x512_o128_384_S128x128 (bw w) b := rfl
theorem h14 : k0_pay1 (F := Ideal) u (k0_pay30 v (k0_pay9 (F := Ideal)) w) b = tl u v ![256, 384] slices_S512x512_o256_384_S128x128 (bw w) b := rfl
theorem h15 : k0_pay2 (F := Ideal) u v (k0_pay27 (k0_pay9 (F := Ideal)) w) b = tl u v ![384, 384] slices_S512x512_o384_384_S128x128 (bw w) b := rfl

theorem hn : k0_pay8 (F := Ideal) x1 x2 (k0_pay5 x0) (k0_pay6 x0) (k0_pay7 x0) (FloatOps.ofBits .f32 0x44000000#32) = bn x0 x1 x2 := rfl
theorem hu : k0_pay4 (F := Ideal) x0 = bu x0 := rfl
end

open Cert.GmlpFwdRefIdeal (REF REF_at gv)

/-- One tile of one block, against the whole arrays. -/
theorem core (X0 : FVec Ideal S4096x6656 .bf16) (X1 X2 : FVec Ideal S1x512 .f32) (X3 : FVec Ideal S4x128x128 .f32) (X4 : FVec Ideal S128x128 .f32)
    (x0 : FVec Ideal S512x1024 .bf16) (x1 x2 : FVec Ideal S1x512 .f32) (w : FVec Ideal S1x128x128 .f32) (bb : FVec Ideal S128x1 .f32)
    (p q : ℕ) (ho : S512x512.Slices ![p, q] S128x128) (n : ℕ) (hn : n < 8) (e h : Fin 4) (hp : p = e * 128) (hq : q = h * 128)
    (x : S128x128.Idx) (t c : Fin 128) (i : S4096x512.Idx)
    (ht : (x 0 : ℕ) = t) (hc : (x 1 : ℕ) = c) (i0 : (i 0 : ℕ) = n * 512 + (p + t)) (i1 : (i 1 : ℕ) = q + c)
    (e0 : ∀ (r : Fin 512) (k : Fin 1024), x0 (ix2 r k) = X0 (ix2 ⟨n * 512 + r, by omega⟩ ⟨k, by omega⟩))
    (e1 : ∀ l, x1 (ix2 0 l) = X1 (ix2 0 l)) (e2 : ∀ l, x2 (ix2 0 l) = X2 (ix2 0 l))
    (e3 : ∀ t s, w (ix3 0 t s) = X3 (ix3 h t s)) (e4 : ∀ t : Fin 128, bb (ix2 t 0) = X4 (ix2 t ⟨h, by omega⟩)) :
    tl (bu x0) (bn x0 x1 x2) ![p, q] ho (bw w) bb x = REF X0 X1 X2 X3 X4 i := by
  obtain rfl : x = ix2 t c := by funext a; fin_cases a <;> exact Fin.ext (by assumption)
  have hi : i = ix2 ⟨(⟨n / 4, by omega⟩ : Fin 2) * 2048 + ((⟨n % 4 * 4 + e, by omega⟩ : Fin 16) * 128 + t), by dsimp only; omega⟩ ⟨h * 128 + c, by omega⟩ := by
    funext a; fin_cases a <;> exact Fin.ext (by dsimp only [ix2]; first | (refine i0.trans ?_; subst hp; show _ = n / 4 * 2048 + ((n % 4 * 4 + (e : ℕ)) * 128 + (t : ℕ)); omega) | (refine i1.trans ?_; subst hq; rfl))
  have hr : ∀ s : Fin 128, (⟨n * 512 + (p + s), by omega⟩ : Fin 4096) = ⟨n / 4 * 2048 + ((n % 4 * 4 + e) * 128 + s), by omega⟩ := fun s => Fin.ext (by dsimp only; omega)
  have hk : (⟨q + c, by omega⟩ : Fin 512) = ⟨h * 128 + c, by omega⟩ := Fin.ext (by dsimp only; omega)
  rw [hi, REF_at, tl_at _ _ p q (by omega) (by omega), bu_at, e0, e4, hk]
  simp only [hr, bn_at, bw_at, e1, e2, e3]
  congr 3
  funext s
  congr 2
  funext l
  rw [bv, e0, gv]
  simp only [hr]

variable (m : (ℓ : Loc nD τ sig) → Buf (Elt Ideal) ℓ)

theorem idx : ∀ t : Fin cfg0.N, win0_0.index t = ![t.val, 0] ∧ win0_5.index t = ![t.val, 0]
    ∧ win0_1.index t = ![0, 0] ∧ win0_2.index t = ![0, 0] ∧ win0_3.index t = ![0, 0, 0] ∧ win0_4.index t = ![0, 0] :=
  (by decide +kernel : ∀ t : Fin grid0.N, _)

theorem I1 (c : Dev nD) (t : Fin cfg0.N) : (iblk m c 1 t : FVec Ideal S1x512 .f32) = V m c main_arg1 := by
  funext y; blk_point [iblk, V, idx t]
theorem I2 (c : Dev nD) (t : Fin cfg0.N) : (iblk m c 2 t : FVec Ideal S1x512 .f32) = V m c main_arg2 := by
  funext y; blk_point [iblk, V, idx t]
theorem I3 (c : Dev nD) (t : Fin cfg0.N) : (iblk m c 3 t : FVec Ideal S4x128x128 .f32) = V m c main_arg3 := by
  funext y; blk_point [iblk, V, idx t]
theorem I4 (c : Dev nD) (t : Fin cfg0.N) : (iblk m c 4 t : FVec Ideal S128x128 .f32) = V m c main_arg4 := by
  funext y; blk_point [iblk, V, idx t]

theorem X_at (c : Dev nD) (t : Fin cfg0.N) (r : Fin 512) (k : Fin 1024) (n : t.val < 8) :
    (X0_0 m c t : FVec Ideal S512x1024 .bf16) (ix2 r k) = V m c main_arg0 (ix2 ⟨t.val * 512 + r, by omega⟩ ⟨k, by omega⟩) := by
  unfold X0_0 Pipeline.Window.fill
  rw [dif_pos (moved0_0 t _)]
  blk_point [iblk, V, idx t]

/-- One tile of the output array. -/
theorem tile (c : Dev nD) (t : Fin cfg0.N) (hN : t.val < 8) (y : ((cfg0.win 5).xblock (cfg0.grid.coords t)).Idx) (x : S128x128.Idx) (p q : ℕ) (e h : Fin 4) (ho : S512x512.Slices ![p, q] S128x128)
    (w : FVec Ideal S1x128x128 .f32) (b : FVec Ideal S128x1 .f32) (hp : p = e * 128) (hq : q = h * 128)
    (h0 : (y 0 : ℕ) = p + (x 0 : ℕ)) (h1 : (y 1 : ℕ) = q + (x 1 : ℕ))
    (e3 : ∀ t s, w (ix3 0 t s) = V m c main_arg3 (ix3 h t s)) (e4 : ∀ t : Fin 128, b (ix2 t 0) = V m c main_arg4 (ix2 t ⟨h, by omega⟩)) :
    tl (bu (X0_0 m c t)) (bn (X0_0 m c t) (V m c main_arg1) (V m c main_arg2)) ![p, q] ho (bw w) b x
      = REF (V m c main_arg0) (V m c main_arg1) (V m c main_arg2) (V m c main_arg3) (V m c main_arg4) (((cfg0.win 5).blk t).view.emb y) := by
  refine core (V m c main_arg0) (V m c main_arg1) (V m c main_arg2) (V m c main_arg3) (V m c main_arg4) _ _ _ _ _ p q ho t.val hN
    e h hp hq x (x 0) (x 1) _ rfl rfl ?_ ?_ (fun r k => X_at m c t r k hN) (fun l => rfl) (fun l => rfl) e3 e4
  · blk_simp [idx t]; dsimp only; omega
  · blk_simp [idx t]; dsimp only; omega

attribute [local irreducible] tl bu bn bw

set_option maxHeartbeats 1600000 in
theorem final (c : Dev nD) : (dats m 0 c).arrAt 5 (cfgs 0).N = Cert.GmlpFwdRefIdeal.REF (V m c main_arg0) (V m c main_arg1) (V m c main_arg2) (V m c main_arg3) (V m c main_arg4) := by
  refine (dats m 0 c).arrAt_eq_of_covers 5 _ (by decide +kernel) fun t ht y => ?_
  have hN : t.val < 8 := lt_of_lt_of_eq t.isLt N_0
  show (dats m 0 c).after 5 t y = _
  rw [after0_5]
  unfold outsAt0
  frame_out
  rw [I1, I2, I3, I4]
  simp only [hu, hn, h0, h1, h2, h3, h4, h5, h6, h7, h8, h9, h10, h11, h12, h13, h14, h15]
  canon_tiles x h
  · refine tile m c t hN y x 384 384 3 3 _ _ _ rfl rfl (by omega) (by omega) (by intro t' s'; generalize V m c main_arg3 = X; pointwise) (by intro t'; generalize V m c main_arg4 = X; pointwise)
  · refine tile m c t hN y x 256 384 2 3 _ _ _ rfl rfl (by omega) (by omega) (by intro t' s'; generalize V m c main_arg3 = X; pointwise) (by intro t'; generalize V m c main_arg4 = X; pointwise)
  · refine tile m c t hN y x 128 384 1 3 _ _ _ rfl rfl (by omega) (by omega) (by intro t' s'; generalize V m c main_arg3 = X; pointwise) (by intro t'; generalize V m c main_arg4 = X; pointwise)
  · refine tile m c t hN y x 0 384 0 3 _ _ _ rfl rfl (by omega) (by omega) (by intro t' s'; generalize V m c main_arg3 = X; pointwise) (by intro t'; generalize V m c main_arg4 = X; pointwise)
  · refine tile m c t hN y x 384 256 3 2 _ _ _ rfl rfl (by omega) (by omega) (by intro t' s'; generalize V m c main_arg3 = X; pointwise) (by intro t'; generalize V m c main_arg4 = X; pointwise)
  · refine tile m c t hN y x 256 256 2 2 _ _ _ rfl rfl (by omega) (by omega) (by intro t' s'; generalize V m c main_arg3 = X; pointwise) (by intro t'; generalize V m c main_arg4 = X; pointwise)
  · refine tile m c t hN y x 128 256 1 2 _ _ _ rfl rfl (by omega) (by omega) (by intro t' s'; generalize V m c main_arg3 = X; pointwise) (by intro t'; generalize V m c main_arg4 = X; pointwise)
  · refine tile m c t hN y x 0 256 0 2 _ _ _ rfl rfl (by omega) (by omega) (by intro t' s'; generalize V m c main_arg3 = X; pointwise) (by intro t'; generalize V m c main_arg4 = X; pointwise)
  · refine tile m c t hN y x 384 128 3 1 _ _ _ rfl rfl (by omega) (by omega) (by intro t' s'; generalize V m c main_arg3 = X; pointwise) (by intro t'; generalize V m c main_arg4 = X; pointwise)
  · refine tile m c t hN y x 256 128 2 1 _ _ _ rfl rfl (by omega) (by omega) (by intro t' s'; generalize V m c main_arg3 = X; pointwise) (by intro t'; generalize V m c main_arg4 = X; pointwise)
  · refine tile m c t hN y x 128 128 1 1 _ _ _ rfl rfl (by omega) (by omega) (by intro t' s'; generalize V m c main_arg3 = X; pointwise) (by intro t'; generalize V m c main_arg4 = X; pointwise)
  · refine tile m c t hN y x 0 128 0 1 _ _ _ rfl rfl (by omega) (by omega) (by intro t' s'; generalize V m c main_arg3 = X; pointwise) (by intro t'; generalize V m c main_arg4 = X; pointwise)
  · refine tile m c t hN y x 384 0 3 0 _ _ _ rfl rfl (by omega) (by omega) (by intro t' s'; generalize V m c main_arg3 = X; pointwise) (by intro t'; generalize V m c main_arg4 = X; pointwise)
  · refine tile m c t hN y x 256 0 2 0 _ _ _ rfl rfl (by omega) (by omega) (by intro t' s'; generalize V m c main_arg3 = X; pointwise) (by intro t'; generalize V m c main_arg4 = X; pointwise)
  · refine tile m c t hN y x 128 0 1 0 _ _ _ rfl rfl (by omega) (by omega) (by intro t' s'; generalize V m c main_arg3 = X; pointwise) (by intro t'; generalize V m c main_arg4 = X; pointwise)
  · refine tile m c t hN y x 0 0 0 0 _ _ _ rfl rfl (by omega) (by omega) (by intro t' s'; generalize V m c main_arg3 = X; pointwise) (by intro t'; generalize V m c main_arg4 = X; pointwise)

end Cert.GmlpFwdIdeal
end
-- ==== Proof.GmlpFwd.lean ====
/- The gating branch: the kernel's result is its reference's. -/
module

public import proofs.«01_k».proof.Defs
public import proofs.«01_k».proof.Proof.GmlpVal
public import Idealize.ShloMosaic.Lib.Claim

@[expose] public section

noncomputable section

namespace Cert.Proof

open Idealize.ShloMosaic Idealize.SL.Sem

theorem value_GmlpFwd : algebraic_GmlpFwdIdeal_GmlpFwdRefIdeal := by
  intro m g m' g' _ hagree
  refine ⟨_, (θ_run _ _ _).mono (fun r h c => h c) (Cert.GmlpFwdIdeal.Value.run_blocks m g),
    (θ_run _ _ _).mono (fun r h c => ?_) (Cert.GmlpFwdRefIdeal.Value.run m' g')⟩
  obtain ⟨e0, e1, e2, e3, e4⟩ := hagree c
  refine ⟨(h c).1.trans (Eq.trans ?_ (Cert.GmlpFwdIdeal.final m c).symm), (h c).2⟩
  · show Cert.GmlpFwdRefIdeal.REF (m' ((c.tc : Thread _ _).loc Cert.GmlpFwdRefIdeal.main_arg0)) (m' ((c.tc : Thread _ _).loc Cert.GmlpFwdRefIdeal.main_arg1)) (m' ((c.tc : Thread _ _).loc Cert.GmlpFwdRefIdeal.main_arg2)) (m' ((c.tc : Thread _ _).loc Cert.GmlpFwdRefIdeal.main_arg3)) (m' ((c.tc : Thread _ _).loc Cert.GmlpFwdRefIdeal.main_arg4)) = _
    rw [e0, e1, e2, e3, e4] <;> rfl

theorem frame_GmlpFwd : quiescent_GmlpFwdRefIdeal := fun m g _ =>
  (θ_run _ _ _).mono (fun r h => ⟨fun c => (h c).2, sem_eq_zero_of_no_sems (by decide) r.2⟩) (Cert.GmlpFwdRefIdeal.Value.run m g)

end Cert.Proof

end
-- ==== Proof.lean ====
/- The certificate: the programs' stated facts, the frames of the kernels and of the references, and
   the value claims, each proved in the module of its call. -/
module

public import proofs.«01_k».proof.Defs
public import proofs.«01_k».proof.Proof.Gen.AttnBwd
public import proofs.«01_k».proof.Proof.Gen.AttnBwd.Frame
public import proofs.«01_k».proof.Proof.Gen.AttnBwdIdeal
public import proofs.«01_k».proof.Proof.Gen.AttnBwdIdeal.Frame
public import proofs.«01_k».proof.Proof.Gen.AttnBwdIdeal.Value
public import proofs.«01_k».proof.Proof.Gen.AttnBwdRefIdeal
public import proofs.«01_k».proof.Proof.Gen.AttnBwdRefIdeal.Run
public import proofs.«01_k».proof.Proof.Gen.DwDown
public import proofs.«01_k».proof.Proof.Gen.DwDown.Frame
public import proofs.«01_k».proof.Proof.Gen.DwDownIdeal
public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwUpA
public import proofs.«01_k».proof.Proof.Gen.DwUpA.Frame
public import proofs.«01_k».proof.Proof.Gen.DwUpAIdeal
public import proofs.«01_k».proof.Proof.Gen.DwUpAIdeal.Frame
public import proofs.«01_k».proof.Proof.Gen.DwUpAIdeal.Value
public import proofs.«01_k».proof.Proof.Gen.DwUpARefIdeal
public import proofs.«01_k».proof.Proof.Gen.DwUpARefIdeal.Run
public import proofs.«01_k».proof.Proof.Gen.DwUpB
public import proofs.«01_k».proof.Proof.Gen.DwUpB.Frame
public import proofs.«01_k».proof.Proof.Gen.DwUpBIdeal
public import proofs.«01_k».proof.Proof.Gen.DwUpBIdeal.Frame
public import proofs.«01_k».proof.Proof.Gen.DwUpBIdeal.Value
public import proofs.«01_k».proof.Proof.Gen.DwUpBRefIdeal
public import proofs.«01_k».proof.Proof.Gen.DwUpBRefIdeal.Run
public import proofs.«01_k».proof.Proof.Gen.DwProjA
public import proofs.«01_k».proof.Proof.Gen.DwProjA.Frame
public import proofs.«01_k».proof.Proof.Gen.DwProjAIdeal
public import proofs.«01_k».proof.Proof.Gen.DwProjAIdeal.Frame
public import proofs.«01_k».proof.Proof.Gen.DwProjAIdeal.Value
public import proofs.«01_k».proof.Proof.Gen.DwProjARefIdeal
public import proofs.«01_k».proof.Proof.Gen.DwProjARefIdeal.Run
public import proofs.«01_k».proof.Proof.Gen.DwProjB
public import proofs.«01_k».proof.Proof.Gen.DwProjB.Frame
public import proofs.«01_k».proof.Proof.Gen.DwProjBIdeal
public import proofs.«01_k».proof.Proof.Gen.DwProjBIdeal.Frame
public import proofs.«01_k».proof.Proof.Gen.DwProjBIdeal.Value
public import proofs.«01_k».proof.Proof.Gen.DwProjBRefIdeal
public import proofs.«01_k».proof.Proof.Gen.DwProjBRefIdeal.Run
public import proofs.«01_k».proof.Proof.Gen.DwKv
public import proofs.«01_k».proof.Proof.Gen.DwKv.Frame
public import proofs.«01_k».proof.Proof.Gen.DwKvIdeal
public import proofs.«01_k».proof.Proof.Gen.DwKvIdeal.Frame
public import proofs.«01_k».proof.Proof.Gen.DwKvIdeal.Value
public import proofs.«01_k».proof.Proof.Gen.DwKvRefIdeal
public import proofs.«01_k».proof.Proof.Gen.DwKvRefIdeal.Run
public import proofs.«01_k».proof.Proof.Gen.NormTwoBwd
public import proofs.«01_k».proof.Proof.Gen.NormTwoBwd.Frame
public import proofs.«01_k».proof.Proof.Gen.NormTwoBwdIdeal
public import proofs.«01_k».proof.Proof.Gen.NormTwoBwdIdeal.Frame
public import proofs.«01_k».proof.Proof.Gen.NormTwoBwdIdeal.Value
public import proofs.«01_k».proof.Proof.Gen.NormTwoBwdRefIdeal
public import proofs.«01_k».proof.Proof.Gen.NormTwoBwdRefIdeal.Run
public import proofs.«01_k».proof.Proof.Gen.NormOneBwd
public import proofs.«01_k».proof.Proof.Gen.NormOneBwd.Frame
public import proofs.«01_k».proof.Proof.Gen.NormOneBwdIdeal
public import proofs.«01_k».proof.Proof.Gen.NormOneBwdIdeal.Frame
public import proofs.«01_k».proof.Proof.Gen.NormOneBwdIdeal.Value
public import proofs.«01_k».proof.Proof.Gen.NormOneBwdRefIdeal
public import proofs.«01_k».proof.Proof.Gen.NormOneBwdRefIdeal.Run
public import proofs.«01_k».proof.Proof.Gen.MergeBwd
public import proofs.«01_k».proof.Proof.Gen.MergeBwd.Frame
public import proofs.«01_k».proof.Proof.Gen.MergeBwdIdeal
public import proofs.«01_k».proof.Proof.Gen.MergeBwdIdeal.Frame
public import proofs.«01_k».proof.Proof.Gen.MergeBwdIdeal.Value
public import proofs.«01_k».proof.Proof.Gen.MergeBwdRefIdeal
public import proofs.«01_k».proof.Proof.Gen.MergeBwdRefIdeal.Run
public import proofs.«01_k».proof.Proof.Gen.UpFwd
public import proofs.«01_k».proof.Proof.Gen.UpFwd.Frame
public import proofs.«01_k».proof.Proof.Gen.UpFwdIdeal
public import proofs.«01_k».proof.Proof.Gen.UpFwdIdeal.Frame
public import proofs.«01_k».proof.Proof.Gen.UpFwdIdeal.Value
public import proofs.«01_k».proof.Proof.Gen.UpFwdRefIdeal
public import proofs.«01_k».proof.Proof.Gen.UpFwdRefIdeal.Run
public import proofs.«01_k».proof.Proof.Gen.MergeFwd
public import proofs.«01_k».proof.Proof.Gen.MergeFwd.Frame
public import proofs.«01_k».proof.Proof.Gen.MergeFwdIdeal
public import proofs.«01_k».proof.Proof.Gen.MergeFwdIdeal.Frame
public import proofs.«01_k».proof.Proof.Gen.MergeFwdIdeal.Value
public import proofs.«01_k».proof.Proof.Gen.MergeFwdRefIdeal
public import proofs.«01_k».proof.Proof.Gen.MergeFwdRefIdeal.Run
public import proofs.«01_k».proof.Proof.Gen.UpdIn
public import proofs.«01_k».proof.Proof.Gen.UpdIn.Frame
public import proofs.«01_k».proof.Proof.Gen.UpdInIdeal
public import proofs.«01_k».proof.Proof.Gen.UpdInIdeal.Frame
public import proofs.«01_k».proof.Proof.Gen.UpdInIdeal.Value
public import proofs.«01_k».proof.Proof.Gen.UpdInRefIdeal
public import proofs.«01_k».proof.Proof.Gen.UpdInRefIdeal.Run
public import proofs.«01_k».proof.Proof.Gen.UpdKv
public import proofs.«01_k».proof.Proof.Gen.UpdKv.Frame
public import proofs.«01_k».proof.Proof.Gen.UpdKvIdeal
public import proofs.«01_k».proof.Proof.Gen.UpdKvIdeal.Frame
public import proofs.«01_k».proof.Proof.Gen.UpdKvIdeal.Value
public import proofs.«01_k».proof.Proof.Gen.UpdKvRefIdeal
public import proofs.«01_k».proof.Proof.Gen.UpdKvRefIdeal.Run
public import proofs.«01_k».proof.Proof.Gen.UpdBranch
public import proofs.«01_k».proof.Proof.Gen.UpdBranch.Frame
public import proofs.«01_k».proof.Proof.Gen.UpdBranchIdeal
public import proofs.«01_k».proof.Proof.Gen.UpdBranchIdeal.Frame
public import proofs.«01_k».proof.Proof.Gen.UpdBranchIdeal.Value
public import proofs.«01_k».proof.Proof.Gen.UpdBranchRefIdeal
public import proofs.«01_k».proof.Proof.Gen.UpdBranchRefIdeal.Run
public import proofs.«01_k».proof.Proof.Gen.UpdOut
public import proofs.«01_k».proof.Proof.Gen.UpdOut.Frame
public import proofs.«01_k».proof.Proof.Gen.UpdOutIdeal
public import proofs.«01_k».proof.Proof.Gen.UpdOutIdeal.Frame
public import proofs.«01_k».proof.Proof.Gen.UpdOutIdeal.Value
public import proofs.«01_k».proof.Proof.Gen.UpdOutRefIdeal
public import proofs.«01_k».proof.Proof.Gen.UpdOutRefIdeal.Run
public import proofs.«01_k».proof.Proof.Gen.UpdUp
public import proofs.«01_k».proof.Proof.Gen.UpdUp.Frame
public import proofs.«01_k».proof.Proof.Gen.UpdUpIdeal
public import proofs.«01_k».proof.Proof.Gen.UpdUpIdeal.Frame
public import proofs.«01_k».proof.Proof.Gen.UpdUpIdeal.Value
public import proofs.«01_k».proof.Proof.Gen.UpdUpRefIdeal
public import proofs.«01_k».proof.Proof.Gen.UpdUpRefIdeal.Run
public import proofs.«01_k».proof.Proof.Gen.UpdConv
public import proofs.«01_k».proof.Proof.Gen.UpdConv.Frame
public import proofs.«01_k».proof.Proof.Gen.UpdConvIdeal
public import proofs.«01_k».proof.Proof.Gen.UpdConvIdeal.Frame
public import proofs.«01_k».proof.Proof.Gen.UpdConvIdeal.Value
public import proofs.«01_k».proof.Proof.Gen.UpdConvRefIdeal
public import proofs.«01_k».proof.Proof.Gen.UpdConvRefIdeal.Run
public import proofs.«01_k».proof.Proof.Gen.UpdDown
public import proofs.«01_k».proof.Proof.Gen.UpdDown.Frame
public import proofs.«01_k».proof.Proof.Gen.UpdDownIdeal
public import proofs.«01_k».proof.Proof.Gen.UpdDownIdeal.Frame
public import proofs.«01_k».proof.Proof.Gen.UpdDownIdeal.Value
public import proofs.«01_k».proof.Proof.Gen.UpdDownRefIdeal
public import proofs.«01_k».proof.Proof.Gen.UpdDownRefIdeal.Run
public import proofs.«01_k».proof.Proof.Gen.FinalLoss
public import proofs.«01_k».proof.Proof.Gen.FinalLoss.Frame
public import proofs.«01_k».proof.Proof.Gen.FinalLossIdeal
public import proofs.«01_k».proof.Proof.Gen.FinalLossIdeal.Frame
public import proofs.«01_k».proof.Proof.Gen.FinalLossIdeal.Value
public import proofs.«01_k».proof.Proof.Gen.FinalLossRefIdeal
public import proofs.«01_k».proof.Proof.Gen.FinalLossRefIdeal.Run
public import proofs.«01_k».proof.Proof.Gen.ConvBwd
public import proofs.«01_k».proof.Proof.Gen.ConvBwd.Frame
public import proofs.«01_k».proof.Proof.Gen.ConvBwdIdeal
public import proofs.«01_k».proof.Proof.Gen.ConvBwdIdeal.Frame
public import proofs.«01_k».proof.Proof.Gen.ConvBwdIdeal.Value
public import proofs.«01_k».proof.Proof.Gen.ConvBwdRefIdeal
public import proofs.«01_k».proof.Proof.Gen.ConvBwdRefIdeal.Run
public import proofs.«01_k».proof.Proof.Gen.MemNorm
public import proofs.«01_k».proof.Proof.Gen.MemNorm.Frame
public import proofs.«01_k».proof.Proof.Gen.MemNormIdeal
public import proofs.«01_k».proof.Proof.Gen.MemNormIdeal.Frame
public import proofs.«01_k».proof.Proof.Gen.MemNormIdeal.Value
public import proofs.«01_k».proof.Proof.Gen.MemNormRefIdeal
public import proofs.«01_k».proof.Proof.Gen.MemNormRefIdeal.Run
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.MemKvBwd
public import proofs.«01_k».proof.Proof.Gen.MemKvBwd.Frame
public import proofs.«01_k».proof.Proof.Gen.MemKvBwdIdeal
public import proofs.«01_k».proof.Proof.Gen.MemKvBwdIdeal.Frame
public import proofs.«01_k».proof.Proof.Gen.MemKvBwdIdeal.Value
public import proofs.«01_k».proof.Proof.Gen.MemKvBwdRefIdeal
public import proofs.«01_k».proof.Proof.Gen.MemKvBwdRefIdeal.Run
public import proofs.«01_k».proof.Proof.Gen.MemNormBwd
public import proofs.«01_k».proof.Proof.Gen.MemNormBwd.Frame
public import proofs.«01_k».proof.Proof.Gen.MemNormBwdIdeal
public import proofs.«01_k».proof.Proof.Gen.MemNormBwdIdeal.Frame
public import proofs.«01_k».proof.Proof.Gen.MemNormBwdIdeal.Value
public import proofs.«01_k».proof.Proof.Gen.MemNormBwdRefIdeal
public import proofs.«01_k».proof.Proof.Gen.MemNormBwdRefIdeal.Run
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.GmlpFwd
public import proofs.«01_k».proof.Proof.Gen.GmlpFwd.Frame
public import proofs.«01_k».proof.Proof.Gen.GmlpFwdIdeal
public import proofs.«01_k».proof.Proof.Gen.GmlpFwdIdeal.Frame
public import proofs.«01_k».proof.Proof.Gen.GmlpFwdIdeal.Value
public import proofs.«01_k».proof.Proof.Gen.GmlpFwdRefIdeal
public import proofs.«01_k».proof.Proof.Gen.GmlpFwdRefIdeal.Run
public import proofs.«01_k».proof.Proof.Gen.Pre_attn_finite
public import proofs.«01_k».proof.Proof.Gen.Pre_conv_finite
public import proofs.«01_k».proof.Proof.Attn
public import proofs.«01_k».proof.Proof.Dw
public import proofs.«01_k».proof.Proof.Rms
public import proofs.«01_k».proof.Proof.Merge
public import proofs.«01_k».proof.Proof.Up
public import proofs.«01_k».proof.Proof.MergeF
public import proofs.«01_k».proof.Proof.Upd
public import proofs.«01_k».proof.Proof.Loss
public import proofs.«01_k».proof.Proof.Conv
public import proofs.«01_k».proof.Proof.Mem
public import proofs.«01_k».proof.Proof.AttnFwd
public import proofs.«01_k».proof.Proof.GmlpFwd
public import Idealize.ShloMosaic.Adequacy
public import Idealize.ShloMosaic.Init

@[expose] public section

noncomputable section

namespace Cert.Proof

open Idealize.ShloMosaic Idealize.SL.Sem

theorem claim : Cert.Claim := ⟨Cert.AttnBwd.Gen.facts,
  Cert.AttnBwdIdeal.Gen.facts,
  Cert.AttnBwdRefIdeal.Gen.facts,
  Cert.DwDown.Gen.facts,
  Cert.DwDownIdeal.Gen.facts,
  Cert.DwDownRefIdeal.Gen.facts,
  Cert.DwUpA.Gen.facts,
  Cert.DwUpAIdeal.Gen.facts,
  Cert.DwUpARefIdeal.Gen.facts,
  Cert.DwUpB.Gen.facts,
  Cert.DwUpBIdeal.Gen.facts,
  Cert.DwUpBRefIdeal.Gen.facts,
  Cert.DwProjA.Gen.facts,
  Cert.DwProjAIdeal.Gen.facts,
  Cert.DwProjARefIdeal.Gen.facts,
  Cert.DwProjB.Gen.facts,
  Cert.DwProjBIdeal.Gen.facts,
  Cert.DwProjBRefIdeal.Gen.facts,
  Cert.DwKv.Gen.facts,
  Cert.DwKvIdeal.Gen.facts,
  Cert.DwKvRefIdeal.Gen.facts,
  Cert.NormTwoBwd.Gen.facts,
  Cert.NormTwoBwdIdeal.Gen.facts,
  Cert.NormTwoBwdRefIdeal.Gen.facts,
  Cert.NormOneBwd.Gen.facts,
  Cert.NormOneBwdIdeal.Gen.facts,
  Cert.NormOneBwdRefIdeal.Gen.facts,
  Cert.MergeBwd.Gen.facts,
  Cert.MergeBwdIdeal.Gen.facts,
  Cert.MergeBwdRefIdeal.Gen.facts,
  Cert.UpFwd.Gen.facts,
  Cert.UpFwdIdeal.Gen.facts,
  Cert.UpFwdRefIdeal.Gen.facts,
  Cert.MergeFwd.Gen.facts,
  Cert.MergeFwdIdeal.Gen.facts,
  Cert.MergeFwdRefIdeal.Gen.facts,
  Cert.UpdIn.Gen.facts,
  Cert.UpdInIdeal.Gen.facts,
  Cert.UpdInRefIdeal.Gen.facts,
  Cert.UpdKv.Gen.facts,
  Cert.UpdKvIdeal.Gen.facts,
  Cert.UpdKvRefIdeal.Gen.facts,
  Cert.UpdBranch.Gen.facts,
  Cert.UpdBranchIdeal.Gen.facts,
  Cert.UpdBranchRefIdeal.Gen.facts,
  Cert.UpdOut.Gen.facts,
  Cert.UpdOutIdeal.Gen.facts,
  Cert.UpdOutRefIdeal.Gen.facts,
  Cert.UpdUp.Gen.facts,
  Cert.UpdUpIdeal.Gen.facts,
  Cert.UpdUpRefIdeal.Gen.facts,
  Cert.UpdConv.Gen.facts,
  Cert.UpdConvIdeal.Gen.facts,
  Cert.UpdConvRefIdeal.Gen.facts,
  Cert.UpdDown.Gen.facts,
  Cert.UpdDownIdeal.Gen.facts,
  Cert.UpdDownRefIdeal.Gen.facts,
  Cert.FinalLoss.Gen.facts,
  Cert.FinalLossIdeal.Gen.facts,
  Cert.FinalLossRefIdeal.Gen.facts,
  Cert.ConvBwd.Gen.facts,
  Cert.ConvBwdIdeal.Gen.facts,
  Cert.ConvBwdRefIdeal.Gen.facts,
  Cert.MemNorm.Gen.facts,
  Cert.MemNormIdeal.Gen.facts,
  Cert.MemNormRefIdeal.Gen.facts,
  Cert.MemKv.Gen.facts,
  Cert.MemKvIdeal.Gen.facts,
  Cert.MemKvRefIdeal.Gen.facts,
  Cert.MemKvBwd.Gen.facts,
  Cert.MemKvBwdIdeal.Gen.facts,
  Cert.MemKvBwdRefIdeal.Gen.facts,
  Cert.MemNormBwd.Gen.facts,
  Cert.MemNormBwdIdeal.Gen.facts,
  Cert.MemNormBwdRefIdeal.Gen.facts,
  Cert.AttnFwd.Gen.facts,
  Cert.AttnFwdIdeal.Gen.facts,
  Cert.AttnFwdRefIdeal.Gen.facts,
  Cert.GmlpFwd.Gen.facts,
  Cert.GmlpFwdIdeal.Gen.facts,
  Cert.GmlpFwdRefIdeal.Gen.facts,
  Cert.Pre_attn_finite.Gen.facts,
  Cert.Pre_conv_finite.Gen.facts,
  fun m g _ => Cert.AttnBwd.Gen.frame m g,
  fun m g _ => Cert.AttnBwdIdeal.Gen.frame m g,
  fun m g _ => Cert.AttnBwdIdeal.Gen.frame m g,
  frame_attn_ref,
  fun m g _ => frame_attn_ref m g trivial,
  fun m g _ => Cert.DwDown.Gen.frame m g,
  fun m g _ => Cert.DwDownIdeal.Gen.frame m g,
  frame_DwDown,
  fun m g _ => Cert.DwUpA.Gen.frame m g,
  fun m g _ => Cert.DwUpAIdeal.Gen.frame m g,
  frame_DwUpA,
  fun m g _ => Cert.DwUpB.Gen.frame m g,
  fun m g _ => Cert.DwUpBIdeal.Gen.frame m g,
  frame_DwUpB,
  fun m g _ => Cert.DwProjA.Gen.frame m g,
  fun m g _ => Cert.DwProjAIdeal.Gen.frame m g,
  frame_DwProjA,
  fun m g _ => Cert.DwProjB.Gen.frame m g,
  fun m g _ => Cert.DwProjBIdeal.Gen.frame m g,
  frame_DwProjB,
  fun m g _ => Cert.DwKv.Gen.frame m g,
  fun m g _ => Cert.DwKvIdeal.Gen.frame m g,
  frame_DwKv,
  fun m g _ => Cert.NormTwoBwd.Gen.frame m g,
  fun m g _ => Cert.NormTwoBwdIdeal.Gen.frame m g,
  frame_NormTwoBwd,
  fun m g _ => Cert.NormOneBwd.Gen.frame m g,
  fun m g _ => Cert.NormOneBwdIdeal.Gen.frame m g,
  frame_NormOneBwd,
  fun m g _ => Cert.MergeBwd.Gen.frame m g,
  fun m g _ => Cert.MergeBwdIdeal.Gen.frame m g,
  frame_MergeBwd,
  fun m g _ => Cert.UpFwd.Gen.frame m g,
  fun m g _ => Cert.UpFwdIdeal.Gen.frame m g,
  frame_UpFwd,
  fun m g _ => Cert.MergeFwd.Gen.frame m g,
  fun m g _ => Cert.MergeFwdIdeal.Gen.frame m g,
  frame_MergeFwd,
  fun m g _ => Cert.UpdIn.Gen.frame m g,
  fun m g _ => Cert.UpdInIdeal.Gen.frame m g,
  frame_UpdIn,
  fun m g _ => Cert.UpdKv.Gen.frame m g,
  fun m g _ => Cert.UpdKvIdeal.Gen.frame m g,
  frame_UpdKv,
  fun m g _ => Cert.UpdBranch.Gen.frame m g,
  fun m g _ => Cert.UpdBranchIdeal.Gen.frame m g,
  frame_UpdBranch,
  fun m g _ => Cert.UpdOut.Gen.frame m g,
  fun m g _ => Cert.UpdOutIdeal.Gen.frame m g,
  frame_UpdOut,
  fun m g _ => Cert.UpdUp.Gen.frame m g,
  fun m g _ => Cert.UpdUpIdeal.Gen.frame m g,
  frame_UpdUp,
  fun m g _ => Cert.UpdConv.Gen.frame m g,
  fun m g _ => Cert.UpdConvIdeal.Gen.frame m g,
  frame_UpdConv,
  fun m g _ => Cert.UpdDown.Gen.frame m g,
  fun m g _ => Cert.UpdDownIdeal.Gen.frame m g,
  frame_UpdDown,
  fun m g _ => Cert.FinalLoss.Gen.frame m g,
  fun m g _ => Cert.FinalLossIdeal.Gen.frame m g,
  frame_FinalLoss,
  fun m g _ => Cert.ConvBwd.Gen.frame m g,
  fun m g _ => Cert.ConvBwdIdeal.Gen.frame m g,
  fun m g _ => Cert.ConvBwdIdeal.Gen.frame m g,
  frame_conv_ref,
  fun m g _ => frame_conv_ref m g trivial,
  fun m g _ => Cert.MemNorm.Gen.frame m g,
  fun m g _ => Cert.MemNormIdeal.Gen.frame m g,
  frame_MemNorm,
  fun m g _ => Cert.MemKv.Gen.frame m g,
  fun m g _ => Cert.MemKvIdeal.Gen.frame m g,
  frame_MemKv,
  fun m g _ => Cert.MemKvBwd.Gen.frame m g,
  fun m g _ => Cert.MemKvBwdIdeal.Gen.frame m g,
  frame_MemKvBwd,
  fun m g _ => Cert.MemNormBwd.Gen.frame m g,
  fun m g _ => Cert.MemNormBwdIdeal.Gen.frame m g,
  frame_MemNormBwd,
  fun m g _ => Cert.AttnFwd.Gen.frame m g,
  fun m g _ => Cert.AttnFwdIdeal.Gen.frame m g,
  frame_AttnFwd,
  fun m g _ => Cert.GmlpFwd.Gen.frame m g,
  fun m g _ => Cert.GmlpFwdIdeal.Gen.frame m g,
  frame_GmlpFwd,
  trivial,
  value_attn,
  trivial,
  value_DwDown,
  trivial,
  value_DwUpA,
  trivial,
  value_DwUpB,
  trivial,
  value_DwProjA,
  trivial,
  value_DwProjB,
  trivial,
  value_DwKv,
  trivial,
  value_NormTwoBwd,
  trivial,
  value_NormOneBwd,
  trivial,
  value_MergeBwd,
  trivial,
  value_UpFwd,
  trivial,
  value_MergeFwd,
  trivial,
  value_UpdIn,
  trivial,
  value_UpdKv,
  trivial,
  value_UpdBranch,
  trivial,
  value_UpdOut,
  trivial,
  value_UpdUp,
  trivial,
  value_UpdConv,
  trivial,
  value_UpdDown,
  trivial,
  value_FinalLoss,
  trivial,
  value_conv,
  trivial,
  value_MemNorm,
  trivial,
  value_MemKv,
  trivial,
  value_MemKvBwd,
  trivial,
  value_MemNormBwd,
  trivial,
  value_AttnFwd,
  trivial,
  value_GmlpFwd⟩

end Cert.Proof

end
